-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_finite [hPre_finite : Cert.Pre_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))) = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_finite [hPre_finite : Cert.Pre_finite.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_finite.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5))) = (fun _ => 1#1)

def Pre_InWgrad (m : (ℓ : Loc Cert.InWgrad.nD Cert.InWgrad.τ Cert.InWgrad.sig) → Buf (Elt Bits) ℓ) : Prop :=
  True

def Pre_InWgradIdeal (m : (ℓ : Loc Cert.InWgradIdeal.nD Cert.InWgradIdeal.τ Cert.InWgradIdeal.sig) → Buf (Elt Ideal) ℓ) : Prop :=
  True

def Pre_InWgradRefIdeal (m : (ℓ : Loc Cert.InWgradRefIdeal.nD Cert.InWgradRefIdeal.τ Cert.InWgradRefIdeal.sig) → Buf (Elt Ideal) ℓ) : Prop :=
  True

def Pre_OutWgrad (m : (ℓ : Loc Cert.OutWgrad.nD Cert.OutWgrad.τ Cert.OutWgrad.sig) → Buf (Elt Bits) ℓ) : Prop :=
  True

def Pre_OutWgradIdeal (m : (ℓ : Loc Cert.OutWgradIdeal.nD Cert.OutWgradIdeal.τ Cert.OutWgradIdeal.sig) → Buf (Elt Ideal) ℓ) : Prop :=
  True

def Pre_OutWgradRefIdeal (m : (ℓ : Loc Cert.OutWgradRefIdeal.nD Cert.OutWgradRefIdeal.τ Cert.OutWgradRefIdeal.sig) → Buf (Elt Ideal) ℓ) : Prop :=
  True

def Pre_ProjWgrad (m : (ℓ : Loc Cert.ProjWgrad.nD Cert.ProjWgrad.τ Cert.ProjWgrad.sig) → Buf (Elt Bits) ℓ) : Prop :=
  True

def Pre_ProjWgradIdeal (m : (ℓ : Loc Cert.ProjWgradIdeal.nD Cert.ProjWgradIdeal.τ Cert.ProjWgradIdeal.sig) → Buf (Elt Ideal) ℓ) : Prop :=
  True

def Pre_ProjWgradRefIdeal (m : (ℓ : Loc Cert.ProjWgradRefIdeal.nD Cert.ProjWgradRefIdeal.τ Cert.ProjWgradRefIdeal.sig) → Buf (Elt Ideal) ℓ) : Prop :=
  True

def Pre_MixOutWgrad (m : (ℓ : Loc Cert.MixOutWgrad.nD Cert.MixOutWgrad.τ Cert.MixOutWgrad.sig) → Buf (Elt Bits) ℓ) : Prop :=
  True

def Pre_MixOutWgradIdeal (m : (ℓ : Loc Cert.MixOutWgradIdeal.nD Cert.MixOutWgradIdeal.τ Cert.MixOutWgradIdeal.sig) → Buf (Elt Ideal) ℓ) : Prop :=
  True

def Pre_MixOutWgradRefIdeal (m : (ℓ : Loc Cert.MixOutWgradRefIdeal.nD Cert.MixOutWgradRefIdeal.τ Cert.MixOutWgradRefIdeal.sig) → Buf (Elt Ideal) ℓ) : Prop :=
  True

def Pre_FfnB (m : (ℓ : Loc Cert.FfnB.nD Cert.FfnB.τ Cert.FfnB.sig) → Buf (Elt Bits) ℓ) : Prop :=
  True

def Pre_FfnBIdeal (m : (ℓ : Loc Cert.FfnBIdeal.nD Cert.FfnBIdeal.τ Cert.FfnBIdeal.sig) → Buf (Elt Ideal) ℓ) : Prop :=
  True

def Pre_FfnBRefIdeal (m : (ℓ : Loc Cert.FfnBRefIdeal.nD Cert.FfnBRefIdeal.τ Cert.FfnBRefIdeal.sig) → Buf (Elt Ideal) ℓ) : Prop :=
  True

def Pre_FfnC (m : (ℓ : Loc Cert.FfnC.nD Cert.FfnC.τ Cert.FfnC.sig) → Buf (Elt Bits) ℓ) : Prop :=
  True

def Pre_FfnCIdeal (m : (ℓ : Loc Cert.FfnCIdeal.nD Cert.FfnCIdeal.τ Cert.FfnCIdeal.sig) → Buf (Elt Ideal) ℓ) : Prop :=
  True

def Pre_FfnCRefIdeal (m : (ℓ : Loc Cert.FfnCRefIdeal.nD Cert.FfnCRefIdeal.τ Cert.FfnCRefIdeal.sig) → Buf (Elt Ideal) ℓ) : Prop :=
  True

def Pre_FfnD (m : (ℓ : Loc Cert.FfnD.nD Cert.FfnD.τ Cert.FfnD.sig) → Buf (Elt Bits) ℓ) : Prop :=
  True

def Pre_FfnDIdeal (m : (ℓ : Loc Cert.FfnDIdeal.nD Cert.FfnDIdeal.τ Cert.FfnDIdeal.sig) → Buf (Elt Ideal) ℓ) : Prop :=
  True

def Pre_FfnDRefIdeal (m : (ℓ : Loc Cert.FfnDRefIdeal.nD Cert.FfnDRefIdeal.τ Cert.FfnDRefIdeal.sig) → Buf (Elt Ideal) ℓ) : Prop :=
  True

def Pre_FfnBwdB (m : (ℓ : Loc Cert.FfnBwdB.nD Cert.FfnBwdB.τ Cert.FfnBwdB.sig) → Buf (Elt Bits) ℓ) : Prop :=
  True

def Pre_FfnBwdBIdeal (m : (ℓ : Loc Cert.FfnBwdBIdeal.nD Cert.FfnBwdBIdeal.τ Cert.FfnBwdBIdeal.sig) → Buf (Elt Ideal) ℓ) : Prop :=
  True

def Pre_FfnBwdBIdeal_finite [hPre_finite : Cert.Pre_finite.Facts] (m : (ℓ : Loc Cert.FfnBwdBIdeal.nD Cert.FfnBwdBIdeal.τ Cert.FfnBwdBIdeal.sig) → Buf (Elt Ideal) ℓ) : Prop :=
  ∀ c : Dev Cert.FfnBwdBIdeal.nD,
    (Cert.Pre_finite.fn (F := Ideal) (m ((c.tc : Thread Cert.FfnBwdBIdeal.nD Cert.FfnBwdBIdeal.τ).loc Cert.FfnBwdBIdeal.main_arg0)) (m ((c.tc : Thread Cert.FfnBwdBIdeal.nD Cert.FfnBwdBIdeal.τ).loc Cert.FfnBwdBIdeal.main_arg1)) (m ((c.tc : Thread Cert.FfnBwdBIdeal.nD Cert.FfnBwdBIdeal.τ).loc Cert.FfnBwdBIdeal.main_arg2)) (m ((c.tc : Thread Cert.FfnBwdBIdeal.nD Cert.FfnBwdBIdeal.τ).loc Cert.FfnBwdBIdeal.main_arg3)) (m ((c.tc : Thread Cert.FfnBwdBIdeal.nD Cert.FfnBwdBIdeal.τ).loc Cert.FfnBwdBIdeal.main_arg4)) (m ((c.tc : Thread Cert.FfnBwdBIdeal.nD Cert.FfnBwdBIdeal.τ).loc Cert.FfnBwdBIdeal.main_arg5))) = (fun _ => 1#1)

def Pre_FfnBwdBRefIdeal (m : (ℓ : Loc Cert.FfnBwdBRefIdeal.nD Cert.FfnBwdBRefIdeal.τ Cert.FfnBwdBRefIdeal.sig) → Buf (Elt Ideal) ℓ) : Prop :=
  True

def Pre_FfnBwdBRefIdeal_finite [hPre_finite : Cert.Pre_finite.Facts] (m : (ℓ : Loc Cert.FfnBwdBRefIdeal.nD Cert.FfnBwdBRefIdeal.τ Cert.FfnBwdBRefIdeal.sig) → Buf (Elt Ideal) ℓ) : Prop :=
  ∀ c : Dev Cert.FfnBwdBRefIdeal.nD,
    (Cert.Pre_finite.fn (F := Ideal) (m ((c.tc : Thread Cert.FfnBwdBRefIdeal.nD Cert.FfnBwdBRefIdeal.τ).loc Cert.FfnBwdBRefIdeal.main_arg0)) (m ((c.tc : Thread Cert.FfnBwdBRefIdeal.nD Cert.FfnBwdBRefIdeal.τ).loc Cert.FfnBwdBRefIdeal.main_arg1)) (m ((c.tc : Thread Cert.FfnBwdBRefIdeal.nD Cert.FfnBwdBRefIdeal.τ).loc Cert.FfnBwdBRefIdeal.main_arg2)) (m ((c.tc : Thread Cert.FfnBwdBRefIdeal.nD Cert.FfnBwdBRefIdeal.τ).loc Cert.FfnBwdBRefIdeal.main_arg3)) (m ((c.tc : Thread Cert.FfnBwdBRefIdeal.nD Cert.FfnBwdBRefIdeal.τ).loc Cert.FfnBwdBRefIdeal.main_arg4)) (m ((c.tc : Thread Cert.FfnBwdBRefIdeal.nD Cert.FfnBwdBRefIdeal.τ).loc Cert.FfnBwdBRefIdeal.main_arg5))) = (fun _ => 1#1)

def Pre_FfnBwdC (m : (ℓ : Loc Cert.FfnBwdC.nD Cert.FfnBwdC.τ Cert.FfnBwdC.sig) → Buf (Elt Bits) ℓ) : Prop :=
  True

def Pre_FfnBwdCIdeal (m : (ℓ : Loc Cert.FfnBwdCIdeal.nD Cert.FfnBwdCIdeal.τ Cert.FfnBwdCIdeal.sig) → Buf (Elt Ideal) ℓ) : Prop :=
  True

def Pre_FfnBwdCIdeal_finite [hPre_finite : Cert.Pre_finite.Facts] (m : (ℓ : Loc Cert.FfnBwdCIdeal.nD Cert.FfnBwdCIdeal.τ Cert.FfnBwdCIdeal.sig) → Buf (Elt Ideal) ℓ) : Prop :=
  ∀ c : Dev Cert.FfnBwdCIdeal.nD,
    (Cert.Pre_finite.fn (F := Ideal) (m ((c.tc : Thread Cert.FfnBwdCIdeal.nD Cert.FfnBwdCIdeal.τ).loc Cert.FfnBwdCIdeal.main_arg0)) (m ((c.tc : Thread Cert.FfnBwdCIdeal.nD Cert.FfnBwdCIdeal.τ).loc Cert.FfnBwdCIdeal.main_arg1)) (m ((c.tc : Thread Cert.FfnBwdCIdeal.nD Cert.FfnBwdCIdeal.τ).loc Cert.FfnBwdCIdeal.main_arg2)) (m ((c.tc : Thread Cert.FfnBwdCIdeal.nD Cert.FfnBwdCIdeal.τ).loc Cert.FfnBwdCIdeal.main_arg3)) (m ((c.tc : Thread Cert.FfnBwdCIdeal.nD Cert.FfnBwdCIdeal.τ).loc Cert.FfnBwdCIdeal.main_arg4)) (m ((c.tc : Thread Cert.FfnBwdCIdeal.nD Cert.FfnBwdCIdeal.τ).loc Cert.FfnBwdCIdeal.main_arg5))) = (fun _ => 1#1)

def Pre_FfnBwdCRefIdeal (m : (ℓ : Loc Cert.FfnBwdCRefIdeal.nD Cert.FfnBwdCRefIdeal.τ Cert.FfnBwdCRefIdeal.sig) → Buf (Elt Ideal) ℓ) : Prop :=
  True

def Pre_FfnBwdCRefIdeal_finite [hPre_finite : Cert.Pre_finite.Facts] (m : (ℓ : Loc Cert.FfnBwdCRefIdeal.nD Cert.FfnBwdCRefIdeal.τ Cert.FfnBwdCRefIdeal.sig) → Buf (Elt Ideal) ℓ) : Prop :=
  ∀ c : Dev Cert.FfnBwdCRefIdeal.nD,
    (Cert.Pre_finite.fn (F := Ideal) (m ((c.tc : Thread Cert.FfnBwdCRefIdeal.nD Cert.FfnBwdCRefIdeal.τ).loc Cert.FfnBwdCRefIdeal.main_arg0)) (m ((c.tc : Thread Cert.FfnBwdCRefIdeal.nD Cert.FfnBwdCRefIdeal.τ).loc Cert.FfnBwdCRefIdeal.main_arg1)) (m ((c.tc : Thread Cert.FfnBwdCRefIdeal.nD Cert.FfnBwdCRefIdeal.τ).loc Cert.FfnBwdCRefIdeal.main_arg2)) (m ((c.tc : Thread Cert.FfnBwdCRefIdeal.nD Cert.FfnBwdCRefIdeal.τ).loc Cert.FfnBwdCRefIdeal.main_arg3)) (m ((c.tc : Thread Cert.FfnBwdCRefIdeal.nD Cert.FfnBwdCRefIdeal.τ).loc Cert.FfnBwdCRefIdeal.main_arg4)) (m ((c.tc : Thread Cert.FfnBwdCRefIdeal.nD Cert.FfnBwdCRefIdeal.τ).loc Cert.FfnBwdCRefIdeal.main_arg5))) = (fun _ => 1#1)

def Pre_FfnBwdD (m : (ℓ : Loc Cert.FfnBwdD.nD Cert.FfnBwdD.τ Cert.FfnBwdD.sig) → Buf (Elt Bits) ℓ) : Prop :=
  True

def Pre_FfnBwdDIdeal (m : (ℓ : Loc Cert.FfnBwdDIdeal.nD Cert.FfnBwdDIdeal.τ Cert.FfnBwdDIdeal.sig) → Buf (Elt Ideal) ℓ) : Prop :=
  True

def Pre_FfnBwdDIdeal_finite [hPre_finite : Cert.Pre_finite.Facts] (m : (ℓ : Loc Cert.FfnBwdDIdeal.nD Cert.FfnBwdDIdeal.τ Cert.FfnBwdDIdeal.sig) → Buf (Elt Ideal) ℓ) : Prop :=
  ∀ c : Dev Cert.FfnBwdDIdeal.nD,
    (Cert.Pre_finite.fn (F := Ideal) (m ((c.tc : Thread Cert.FfnBwdDIdeal.nD Cert.FfnBwdDIdeal.τ).loc Cert.FfnBwdDIdeal.main_arg0)) (m ((c.tc : Thread Cert.FfnBwdDIdeal.nD Cert.FfnBwdDIdeal.τ).loc Cert.FfnBwdDIdeal.main_arg1)) (m ((c.tc : Thread Cert.FfnBwdDIdeal.nD Cert.FfnBwdDIdeal.τ).loc Cert.FfnBwdDIdeal.main_arg2)) (m ((c.tc : Thread Cert.FfnBwdDIdeal.nD Cert.FfnBwdDIdeal.τ).loc Cert.FfnBwdDIdeal.main_arg3)) (m ((c.tc : Thread Cert.FfnBwdDIdeal.nD Cert.FfnBwdDIdeal.τ).loc Cert.FfnBwdDIdeal.main_arg4)) (m ((c.tc : Thread Cert.FfnBwdDIdeal.nD Cert.FfnBwdDIdeal.τ).loc Cert.FfnBwdDIdeal.main_arg5))) = (fun _ => 1#1)

def Pre_FfnBwdDRefIdeal (m : (ℓ : Loc Cert.FfnBwdDRefIdeal.nD Cert.FfnBwdDRefIdeal.τ Cert.FfnBwdDRefIdeal.sig) → Buf (Elt Ideal) ℓ) : Prop :=
  True

def Pre_FfnBwdDRefIdeal_finite [hPre_finite : Cert.Pre_finite.Facts] (m : (ℓ : Loc Cert.FfnBwdDRefIdeal.nD Cert.FfnBwdDRefIdeal.τ Cert.FfnBwdDRefIdeal.sig) → Buf (Elt Ideal) ℓ) : Prop :=
  ∀ c : Dev Cert.FfnBwdDRefIdeal.nD,
    (Cert.Pre_finite.fn (F := Ideal) (m ((c.tc : Thread Cert.FfnBwdDRefIdeal.nD Cert.FfnBwdDRefIdeal.τ).loc Cert.FfnBwdDRefIdeal.main_arg0)) (m ((c.tc : Thread Cert.FfnBwdDRefIdeal.nD Cert.FfnBwdDRefIdeal.τ).loc Cert.FfnBwdDRefIdeal.main_arg1)) (m ((c.tc : Thread Cert.FfnBwdDRefIdeal.nD Cert.FfnBwdDRefIdeal.τ).loc Cert.FfnBwdDRefIdeal.main_arg2)) (m ((c.tc : Thread Cert.FfnBwdDRefIdeal.nD Cert.FfnBwdDRefIdeal.τ).loc Cert.FfnBwdDRefIdeal.main_arg3)) (m ((c.tc : Thread Cert.FfnBwdDRefIdeal.nD Cert.FfnBwdDRefIdeal.τ).loc Cert.FfnBwdDRefIdeal.main_arg4)) (m ((c.tc : Thread Cert.FfnBwdDRefIdeal.nD Cert.FfnBwdDRefIdeal.τ).loc Cert.FfnBwdDRefIdeal.main_arg5))) = (fun _ => 1#1)

def Pre_AdamRow (m : (ℓ : Loc Cert.AdamRow.nD Cert.AdamRow.τ Cert.AdamRow.sig) → Buf (Elt Bits) ℓ) : Prop :=
  True

def Pre_AdamRowIdeal (m : (ℓ : Loc Cert.AdamRowIdeal.nD Cert.AdamRowIdeal.τ Cert.AdamRowIdeal.sig) → Buf (Elt Ideal) ℓ) : Prop :=
  True

def Pre_AdamRowRefIdeal (m : (ℓ : Loc Cert.AdamRowRefIdeal.nD Cert.AdamRowRefIdeal.τ Cert.AdamRowRefIdeal.sig) → Buf (Elt Ideal) ℓ) : Prop :=
  True

def Pre_AdamMod (m : (ℓ : Loc Cert.AdamMod.nD Cert.AdamMod.τ Cert.AdamMod.sig) → Buf (Elt Bits) ℓ) : Prop :=
  True

def Pre_AdamModIdeal (m : (ℓ : Loc Cert.AdamModIdeal.nD Cert.AdamModIdeal.τ Cert.AdamModIdeal.sig) → Buf (Elt Ideal) ℓ) : Prop :=
  True

def Pre_AdamModRefIdeal (m : (ℓ : Loc Cert.AdamModRefIdeal.nD Cert.AdamModRefIdeal.τ Cert.AdamModRefIdeal.sig) → Buf (Elt Ideal) ℓ) : Prop :=
  True

def Pre_AdamBias (m : (ℓ : Loc Cert.AdamBias.nD Cert.AdamBias.τ Cert.AdamBias.sig) → Buf (Elt Bits) ℓ) : Prop :=
  True

def Pre_AdamBiasIdeal (m : (ℓ : Loc Cert.AdamBiasIdeal.nD Cert.AdamBiasIdeal.τ Cert.AdamBiasIdeal.sig) → Buf (Elt Ideal) ℓ) : Prop :=
  True

def Pre_AdamBiasRefIdeal (m : (ℓ : Loc Cert.AdamBiasRefIdeal.nD Cert.AdamBiasRefIdeal.τ Cert.AdamBiasRefIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormRefIdeal (m : (ℓ : Loc Cert.AdamNormRefIdeal.nD Cert.AdamNormRefIdeal.τ Cert.AdamNormRefIdeal.sig) → Buf (Elt Ideal) ℓ) : Prop :=
  True

def Pre_AdamPool (m : (ℓ : Loc Cert.AdamPool.nD Cert.AdamPool.τ Cert.AdamPool.sig) → Buf (Elt Bits) ℓ) : Prop :=
  True

def Pre_AdamPoolIdeal (m : (ℓ : Loc Cert.AdamPoolIdeal.nD Cert.AdamPoolIdeal.τ Cert.AdamPoolIdeal.sig) → Buf (Elt Ideal) ℓ) : Prop :=
  True

def Pre_AdamPoolRefIdeal (m : (ℓ : Loc Cert.AdamPoolRefIdeal.nD Cert.AdamPoolRefIdeal.τ Cert.AdamPoolRefIdeal.sig) → Buf (Elt Ideal) ℓ) : Prop :=
  True

def Pre_AdamScale (m : (ℓ : Loc Cert.AdamScale.nD Cert.AdamScale.τ Cert.AdamScale.sig) → Buf (Elt Bits) ℓ) : Prop :=
  True

def Pre_AdamScaleIdeal (m : (ℓ : Loc Cert.AdamScaleIdeal.nD Cert.AdamScaleIdeal.τ Cert.AdamScaleIdeal.sig) → Buf (Elt Ideal) ℓ) : Prop :=
  True

def Pre_AdamScaleRefIdeal (m : (ℓ : Loc Cert.AdamScaleRefIdeal.nD Cert.AdamScaleRefIdeal.τ Cert.AdamScaleRefIdeal.sig) → Buf (Elt Ideal) ℓ) : Prop :=
  True

def Pre_AdamSink (m : (ℓ : Loc Cert.AdamSink.nD Cert.AdamSink.τ Cert.AdamSink.sig) → Buf (Elt Bits) ℓ) : Prop :=
  True

def Pre_AdamSinkIdeal (m : (ℓ : Loc Cert.AdamSinkIdeal.nD Cert.AdamSinkIdeal.τ Cert.AdamSinkIdeal.sig) → Buf (Elt Ideal) ℓ) : Prop :=
  True

def Pre_AdamSinkRefIdeal (m : (ℓ : Loc Cert.AdamSinkRefIdeal.nD Cert.AdamSinkRefIdeal.τ Cert.AdamSinkRefIdeal.sig) → Buf (Elt Ideal) ℓ) : Prop :=
  True

def Pre_AdamWide (m : (ℓ : Loc Cert.AdamWide.nD Cert.AdamWide.τ Cert.AdamWide.sig) → Buf (Elt Bits) ℓ) : Prop :=
  True

def Pre_AdamWideIdeal (m : (ℓ : Loc Cert.AdamWideIdeal.nD Cert.AdamWideIdeal.τ Cert.AdamWideIdeal.sig) → Buf (Elt Ideal) ℓ) : Prop :=
  True

def Pre_AdamWideRefIdeal (m : (ℓ : Loc Cert.AdamWideRefIdeal.nD Cert.AdamWideRefIdeal.τ Cert.AdamWideRefIdeal.sig) → Buf (Elt Ideal) ℓ) : Prop :=
  True

def Pre_AdamNarrow (m : (ℓ : Loc Cert.AdamNarrow.nD Cert.AdamNarrow.τ Cert.AdamNarrow.sig) → Buf (Elt Bits) ℓ) : Prop :=
  True

def Pre_AdamNarrowIdeal (m : (ℓ : Loc Cert.AdamNarrowIdeal.nD Cert.AdamNarrowIdeal.τ Cert.AdamNarrowIdeal.sig) → Buf (Elt Ideal) ℓ) : Prop :=
  True

def Pre_AdamNarrowRefIdeal (m : (ℓ : Loc Cert.AdamNarrowRefIdeal.nD Cert.AdamNarrowRefIdeal.τ Cert.AdamNarrowRefIdeal.sig) → Buf (Elt Ideal) ℓ) : Prop :=
  True

def Pre_AdamProj (m : (ℓ : Loc Cert.AdamProj.nD Cert.AdamProj.τ Cert.AdamProj.sig) → Buf (Elt Bits) ℓ) : Prop :=
  True

def Pre_AdamProjIdeal (m : (ℓ : Loc Cert.AdamProjIdeal.nD Cert.AdamProjIdeal.τ Cert.AdamProjIdeal.sig) → Buf (Elt Ideal) ℓ) : Prop :=
  True

def Pre_AdamProjRefIdeal (m : (ℓ : Loc Cert.AdamProjRefIdeal.nD Cert.AdamProjRefIdeal.τ Cert.AdamProjRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdIdeal_pre_finite [hFfnBwdIdeal : Cert.FfnBwdIdeal.Facts] [hPre_finite : Cert.Pre_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_finite m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5))
      ∧ r.2.sem = fun _ => 0)

def quiescent_FfnBwdRefIdeal_pre_finite [hFfnBwdRefIdeal : Cert.FfnBwdRefIdeal.Facts] [hPre_finite : Cert.Pre_finite.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_finite m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5))
      ∧ r.2.sem = fun _ => 0)

def quiescent_InWgrad [hInWgrad : Cert.InWgrad.Facts] : Prop :=
  ∀ (m : (ℓ : Loc Cert.InWgrad.nD Cert.InWgrad.τ Cert.InWgrad.sig) → Buf (Elt Bits) ℓ) (g : Dev Cert.InWgrad.nD → PrngReg), Pre_InWgrad m →
    θ_run (Cert.InWgrad.defs (F := Bits)) (onTc (τ := Cert.InWgrad.τ) (Cert.InWgrad.main (F := Bits))) ⟨m, fun _ => 0, g⟩ (fun r => (∀ c : Dev Cert.InWgrad.nD,
      r.2.mem ((c.tc : Thread Cert.InWgrad.nD Cert.InWgrad.τ).loc Cert.InWgrad.main_arg0) = m ((c.tc : Thread Cert.InWgrad.nD Cert.InWgrad.τ).loc Cert.InWgrad.main_arg0)
      ∧ r.2.mem ((c.tc : Thread Cert.InWgrad.nD Cert.InWgrad.τ).loc Cert.InWgrad.main_arg1) = m ((c.tc : Thread Cert.InWgrad.nD Cert.InWgrad.τ).loc Cert.InWgrad.main_arg1))
      ∧ r.2.sem = fun _ => 0)

def quiescent_InWgradIdeal [hInWgradIdeal : Cert.InWgradIdeal.Facts] : Prop :=
  ∀ (m : (ℓ : Loc Cert.InWgradIdeal.nD Cert.InWgradIdeal.τ Cert.InWgradIdeal.sig) → Buf (Elt Ideal) ℓ) (g : Dev Cert.InWgradIdeal.nD → PrngReg), Pre_InWgradIdeal m →
    θ_run (Cert.InWgradIdeal.defs (F := Ideal)) (onTc (τ := Cert.InWgradIdeal.τ) (Cert.InWgradIdeal.main (F := Ideal))) ⟨m, fun _ => 0, g⟩ (fun r => (∀ c : Dev Cert.InWgradIdeal.nD,
      r.2.mem ((c.tc : Thread Cert.InWgradIdeal.nD Cert.InWgradIdeal.τ).loc Cert.InWgradIdeal.main_arg0) = m ((c.tc : Thread Cert.InWgradIdeal.nD Cert.InWgradIdeal.τ).loc Cert.InWgradIdeal.main_arg0)
      ∧ r.2.mem ((c.tc : Thread Cert.InWgradIdeal.nD Cert.InWgradIdeal.τ).loc Cert.InWgradIdeal.main_arg1) = m ((c.tc : Thread Cert.InWgradIdeal.nD Cert.InWgradIdeal.τ).loc Cert.InWgradIdeal.main_arg1))
      ∧ r.2.sem = fun _ => 0)

def quiescent_InWgradRefIdeal [hInWgradRefIdeal : Cert.InWgradRefIdeal.Facts] : Prop :=
  ∀ (m : (ℓ : Loc Cert.InWgradRefIdeal.nD Cert.InWgradRefIdeal.τ Cert.InWgradRefIdeal.sig) → Buf (Elt Ideal) ℓ) (g : Dev Cert.InWgradRefIdeal.nD → PrngReg), Pre_InWgradRefIdeal m →
    θ_run (Cert.InWgradRefIdeal.defs (F := Ideal)) (onTc (τ := Cert.InWgradRefIdeal.τ) (Cert.InWgradRefIdeal.main (F := Ideal))) ⟨m, fun _ => 0, g⟩ (fun r => (∀ c : Dev Cert.InWgradRefIdeal.nD,
      r.2.mem ((c.tc : Thread Cert.InWgradRefIdeal.nD Cert.InWgradRefIdeal.τ).loc Cert.InWgradRefIdeal.main_arg0) = m ((c.tc : Thread Cert.InWgradRefIdeal.nD Cert.InWgradRefIdeal.τ).loc Cert.InWgradRefIdeal.main_arg0)
      ∧ r.2.mem ((c.tc : Thread Cert.InWgradRefIdeal.nD Cert.InWgradRefIdeal.τ).loc Cert.InWgradRefIdeal.main_arg1) = m ((c.tc : Thread Cert.InWgradRefIdeal.nD Cert.InWgradRefIdeal.τ).loc Cert.InWgradRefIdeal.main_arg1))
      ∧ r.2.sem = fun _ => 0)

def quiescent_OutWgrad [hOutWgrad : Cert.OutWgrad.Facts] : Prop :=
  ∀ (m : (ℓ : Loc Cert.OutWgrad.nD Cert.OutWgrad.τ Cert.OutWgrad.sig) → Buf (Elt Bits) ℓ) (g : Dev Cert.OutWgrad.nD → PrngReg), Pre_OutWgrad m →
    θ_run (Cert.OutWgrad.defs (F := Bits)) (onTc (τ := Cert.OutWgrad.τ) (Cert.OutWgrad.main (F := Bits))) ⟨m, fun _ => 0, g⟩ (fun r => (∀ c : Dev Cert.OutWgrad.nD,
      r.2.mem ((c.tc : Thread Cert.OutWgrad.nD Cert.OutWgrad.τ).loc Cert.OutWgrad.main_arg0) = m ((c.tc : Thread Cert.OutWgrad.nD Cert.OutWgrad.τ).loc Cert.OutWgrad.main_arg0)
      ∧ r.2.mem ((c.tc : Thread Cert.OutWgrad.nD Cert.OutWgrad.τ).loc Cert.OutWgrad.main_arg1) = m ((c.tc : Thread Cert.OutWgrad.nD Cert.OutWgrad.τ).loc Cert.OutWgrad.main_arg1))
      ∧ r.2.sem = fun _ => 0)

def quiescent_OutWgradIdeal [hOutWgradIdeal : Cert.OutWgradIdeal.Facts] : Prop :=
  ∀ (m : (ℓ : Loc Cert.OutWgradIdeal.nD Cert.OutWgradIdeal.τ Cert.OutWgradIdeal.sig) → Buf (Elt Ideal) ℓ) (g : Dev Cert.OutWgradIdeal.nD → PrngReg), Pre_OutWgradIdeal m →
    θ_run (Cert.OutWgradIdeal.defs (F := Ideal)) (onTc (τ := Cert.OutWgradIdeal.τ) (Cert.OutWgradIdeal.main (F := Ideal))) ⟨m, fun _ => 0, g⟩ (fun r => (∀ c : Dev Cert.OutWgradIdeal.nD,
      r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
      ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1))
      ∧ r.2.sem = fun _ => 0)

def quiescent_OutWgradRefIdeal [hOutWgradRefIdeal : Cert.OutWgradRefIdeal.Facts] : Prop :=
  ∀ (m : (ℓ : Loc Cert.OutWgradRefIdeal.nD Cert.OutWgradRefIdeal.τ Cert.OutWgradRefIdeal.sig) → Buf (Elt Ideal) ℓ) (g : Dev Cert.OutWgradRefIdeal.nD → PrngReg), Pre_OutWgradRefIdeal m →
    θ_run (Cert.OutWgradRefIdeal.defs (F := Ideal)) (onTc (τ := Cert.OutWgradRefIdeal.τ) (Cert.OutWgradRefIdeal.main (F := Ideal))) ⟨m, fun _ => 0, g⟩ (fun r => (∀ c : Dev Cert.OutWgradRefIdeal.nD,
      r.2.mem ((c.tc : Thread Cert.OutWgradRefIdeal.nD Cert.OutWgradRefIdeal.τ).loc Cert.OutWgradRefIdeal.main_arg0) = m ((c.tc : Thread Cert.OutWgradRefIdeal.nD Cert.OutWgradRefIdeal.τ).loc Cert.OutWgradRefIdeal.main_arg0)
      ∧ r.2.mem ((c.tc : Thread Cert.OutWgradRefIdeal.nD Cert.OutWgradRefIdeal.τ).loc Cert.OutWgradRefIdeal.main_arg1) = m ((c.tc : Thread Cert.OutWgradRefIdeal.nD Cert.OutWgradRefIdeal.τ).loc Cert.OutWgradRefIdeal.main_arg1))
      ∧ r.2.sem = fun _ => 0)

def quiescent_ProjWgrad [hProjWgrad : Cert.ProjWgrad.Facts] : Prop :=
  ∀ (m : (ℓ : Loc Cert.ProjWgrad.nD Cert.ProjWgrad.τ Cert.ProjWgrad.sig) → Buf (Elt Bits) ℓ) (g : Dev Cert.ProjWgrad.nD → PrngReg), Pre_ProjWgrad m →
    θ_run (Cert.ProjWgrad.defs (F := Bits)) (onTc (τ := Cert.ProjWgrad.τ) (Cert.ProjWgrad.main (F := Bits))) ⟨m, fun _ => 0, g⟩ (fun r => (∀ c : Dev Cert.ProjWgrad.nD,
      r.2.mem ((c.tc : Thread Cert.ProjWgrad.nD Cert.ProjWgrad.τ).loc Cert.ProjWgrad.main_arg0) = m ((c.tc : Thread Cert.ProjWgrad.nD Cert.ProjWgrad.τ).loc Cert.ProjWgrad.main_arg0)
      ∧ r.2.mem ((c.tc : Thread Cert.ProjWgrad.nD Cert.ProjWgrad.τ).loc Cert.ProjWgrad.main_arg1) = m ((c.tc : Thread Cert.ProjWgrad.nD Cert.ProjWgrad.τ).loc Cert.ProjWgrad.main_arg1))
      ∧ r.2.sem = fun _ => 0)

def quiescent_ProjWgradIdeal [hProjWgradIdeal : Cert.ProjWgradIdeal.Facts] : Prop :=
  ∀ (m : (ℓ : Loc Cert.ProjWgradIdeal.nD Cert.ProjWgradIdeal.τ Cert.ProjWgradIdeal.sig) → Buf (Elt Ideal) ℓ) (g : Dev Cert.ProjWgradIdeal.nD → PrngReg), Pre_ProjWgradIdeal m →
    θ_run (Cert.ProjWgradIdeal.defs (F := Ideal)) (onTc (τ := Cert.ProjWgradIdeal.τ) (Cert.ProjWgradIdeal.main (F := Ideal))) ⟨m, fun _ => 0, g⟩ (fun r => (∀ c : Dev Cert.ProjWgradIdeal.nD,
      r.2.mem ((c.tc : Thread Cert.ProjWgradIdeal.nD Cert.ProjWgradIdeal.τ).loc Cert.ProjWgradIdeal.main_arg0) = m ((c.tc : Thread Cert.ProjWgradIdeal.nD Cert.ProjWgradIdeal.τ).loc Cert.ProjWgradIdeal.main_arg0)
      ∧ r.2.mem ((c.tc : Thread Cert.ProjWgradIdeal.nD Cert.ProjWgradIdeal.τ).loc Cert.ProjWgradIdeal.main_arg1) = m ((c.tc : Thread Cert.ProjWgradIdeal.nD Cert.ProjWgradIdeal.τ).loc Cert.ProjWgradIdeal.main_arg1))
      ∧ r.2.sem = fun _ => 0)

def quiescent_ProjWgradRefIdeal [hProjWgradRefIdeal : Cert.ProjWgradRefIdeal.Facts] : Prop :=
  ∀ (m : (ℓ : Loc Cert.ProjWgradRefIdeal.nD Cert.ProjWgradRefIdeal.τ Cert.ProjWgradRefIdeal.sig) → Buf (Elt Ideal) ℓ) (g : Dev Cert.ProjWgradRefIdeal.nD → PrngReg), Pre_ProjWgradRefIdeal m →
    θ_run (Cert.ProjWgradRefIdeal.defs (F := Ideal)) (onTc (τ := Cert.ProjWgradRefIdeal.τ) (Cert.ProjWgradRefIdeal.main (F := Ideal))) ⟨m, fun _ => 0, g⟩ (fun r => (∀ c : Dev Cert.ProjWgradRefIdeal.nD,
      r.2.mem ((c.tc : Thread Cert.ProjWgradRefIdeal.nD Cert.ProjWgradRefIdeal.τ).loc Cert.ProjWgradRefIdeal.main_arg0) = m ((c.tc : Thread Cert.ProjWgradRefIdeal.nD Cert.ProjWgradRefIdeal.τ).loc Cert.ProjWgradRefIdeal.main_arg0)
      ∧ r.2.mem ((c.tc : Thread Cert.ProjWgradRefIdeal.nD Cert.ProjWgradRefIdeal.τ).loc Cert.ProjWgradRefIdeal.main_arg1) = m ((c.tc : Thread Cert.ProjWgradRefIdeal.nD Cert.ProjWgradRefIdeal.τ).loc Cert.ProjWgradRefIdeal.main_arg1))
      ∧ r.2.sem = fun _ => 0)

def quiescent_MixOutWgrad [hMixOutWgrad : Cert.MixOutWgrad.Facts] : Prop :=
  ∀ (m : (ℓ : Loc Cert.MixOutWgrad.nD Cert.MixOutWgrad.τ Cert.MixOutWgrad.sig) → Buf (Elt Bits) ℓ) (g : Dev Cert.MixOutWgrad.nD → PrngReg), Pre_MixOutWgrad m →
    θ_run (Cert.MixOutWgrad.defs (F := Bits)) (onTc (τ := Cert.MixOutWgrad.τ) (Cert.MixOutWgrad.main (F := Bits))) ⟨m, fun _ => 0, g⟩ (fun r => (∀ c : Dev Cert.MixOutWgrad.nD,
      r.2.mem ((c.tc : Thread Cert.MixOutWgrad.nD Cert.MixOutWgrad.τ).loc Cert.MixOutWgrad.main_arg0) = m ((c.tc : Thread Cert.MixOutWgrad.nD Cert.MixOutWgrad.τ).loc Cert.MixOutWgrad.main_arg0)
      ∧ r.2.mem ((c.tc : Thread Cert.MixOutWgrad.nD Cert.MixOutWgrad.τ).loc Cert.MixOutWgrad.main_arg1) = m ((c.tc : Thread Cert.MixOutWgrad.nD Cert.MixOutWgrad.τ).loc Cert.MixOutWgrad.main_arg1))
      ∧ r.2.sem = fun _ => 0)

def quiescent_MixOutWgradIdeal [hMixOutWgradIdeal : Cert.MixOutWgradIdeal.Facts] : Prop :=
  ∀ (m : (ℓ : Loc Cert.MixOutWgradIdeal.nD Cert.MixOutWgradIdeal.τ Cert.MixOutWgradIdeal.sig) → Buf (Elt Ideal) ℓ) (g : Dev Cert.MixOutWgradIdeal.nD → PrngReg), Pre_MixOutWgradIdeal m →
    θ_run (Cert.MixOutWgradIdeal.defs (F := Ideal)) (onTc (τ := Cert.MixOutWgradIdeal.τ) (Cert.MixOutWgradIdeal.main (F := Ideal))) ⟨m, fun _ => 0, g⟩ (fun r => (∀ c : Dev Cert.MixOutWgradIdeal.nD,
      r.2.mem ((c.tc : Thread Cert.MixOutWgradIdeal.nD Cert.MixOutWgradIdeal.τ).loc Cert.MixOutWgradIdeal.main_arg0) = m ((c.tc : Thread Cert.MixOutWgradIdeal.nD Cert.MixOutWgradIdeal.τ).loc Cert.MixOutWgradIdeal.main_arg0)
      ∧ r.2.mem ((c.tc : Thread Cert.MixOutWgradIdeal.nD Cert.MixOutWgradIdeal.τ).loc Cert.MixOutWgradIdeal.main_arg1) = m ((c.tc : Thread Cert.MixOutWgradIdeal.nD Cert.MixOutWgradIdeal.τ).loc Cert.MixOutWgradIdeal.main_arg1))
      ∧ r.2.sem = fun _ => 0)

def quiescent_MixOutWgradRefIdeal [hMixOutWgradRefIdeal : Cert.MixOutWgradRefIdeal.Facts] : Prop :=
  ∀ (m : (ℓ : Loc Cert.MixOutWgradRefIdeal.nD Cert.MixOutWgradRefIdeal.τ Cert.MixOutWgradRefIdeal.sig) → Buf (Elt Ideal) ℓ) (g : Dev Cert.MixOutWgradRefIdeal.nD → PrngReg), Pre_MixOutWgradRefIdeal m →
    θ_run (Cert.MixOutWgradRefIdeal.defs (F := Ideal)) (onTc (τ := Cert.MixOutWgradRefIdeal.τ) (Cert.MixOutWgradRefIdeal.main (F := Ideal))) ⟨m, fun _ => 0, g⟩ (fun r => (∀ c : Dev Cert.MixOutWgradRefIdeal.nD,
      r.2.mem ((c.tc : Thread Cert.MixOutWgradRefIdeal.nD Cert.MixOutWgradRefIdeal.τ).loc Cert.MixOutWgradRefIdeal.main_arg0) = m ((c.tc : Thread Cert.MixOutWgradRefIdeal.nD Cert.MixOutWgradRefIdeal.τ).loc Cert.MixOutWgradRefIdeal.main_arg0)
      ∧ r.2.mem ((c.tc : Thread Cert.MixOutWgradRefIdeal.nD Cert.MixOutWgradRefIdeal.τ).loc Cert.MixOutWgradRefIdeal.main_arg1) = m ((c.tc : Thread Cert.MixOutWgradRefIdeal.nD Cert.MixOutWgradRefIdeal.τ).loc Cert.MixOutWgradRefIdeal.main_arg1))
      ∧ r.2.sem = fun _ => 0)

def quiescent_FfnB [hFfnB : Cert.FfnB.Facts] : Prop :=
  ∀ (m : (ℓ : Loc Cert.FfnB.nD Cert.FfnB.τ Cert.FfnB.sig) → Buf (Elt Bits) ℓ) (g : Dev Cert.FfnB.nD → PrngReg), Pre_FfnB m →
    θ_run (Cert.FfnB.defs (F := Bits)) (onTc (τ := Cert.FfnB.τ) (Cert.FfnB.main (F := Bits))) ⟨m, fun _ => 0, g⟩ (fun r => (∀ c : Dev Cert.FfnB.nD,
      r.2.mem ((c.tc : Thread Cert.FfnB.nD Cert.FfnB.τ).loc Cert.FfnB.main_arg0) = m ((c.tc : Thread Cert.FfnB.nD Cert.FfnB.τ).loc Cert.FfnB.main_arg0)
      ∧ r.2.mem ((c.tc : Thread Cert.FfnB.nD Cert.FfnB.τ).loc Cert.FfnB.main_arg1) = m ((c.tc : Thread Cert.FfnB.nD Cert.FfnB.τ).loc Cert.FfnB.main_arg1)
      ∧ r.2.mem ((c.tc : Thread Cert.FfnB.nD Cert.FfnB.τ).loc Cert.FfnB.main_arg2) = m ((c.tc : Thread Cert.FfnB.nD Cert.FfnB.τ).loc Cert.FfnB.main_arg2)
      ∧ r.2.mem ((c.tc : Thread Cert.FfnB.nD Cert.FfnB.τ).loc Cert.FfnB.main_arg3) = m ((c.tc : Thread Cert.FfnB.nD Cert.FfnB.τ).loc Cert.FfnB.main_arg3)
      ∧ r.2.mem ((c.tc : Thread Cert.FfnB.nD Cert.FfnB.τ).loc Cert.FfnB.main_arg4) = m ((c.tc : Thread Cert.FfnB.nD Cert.FfnB.τ).loc Cert.FfnB.main_arg4))
      ∧ r.2.sem = fun _ => 0)

def quiescent_FfnBIdeal [hFfnBIdeal : Cert.FfnBIdeal.Facts] : Prop :=
  ∀ (m : (ℓ : Loc Cert.FfnBIdeal.nD Cert.FfnBIdeal.τ Cert.FfnBIdeal.sig) → Buf (Elt Ideal) ℓ) (g : Dev Cert.FfnBIdeal.nD → PrngReg), Pre_FfnBIdeal m →
    θ_run (Cert.FfnBIdeal.defs (F := Ideal)) (onTc (τ := Cert.FfnBIdeal.τ) (Cert.FfnBIdeal.main (F := Ideal))) ⟨m, fun _ => 0, g⟩ (fun r => (∀ c : Dev Cert.FfnBIdeal.nD,
      r.2.mem ((c.tc : Thread Cert.FfnBIdeal.nD Cert.FfnBIdeal.τ).loc Cert.FfnBIdeal.main_arg0) = m ((c.tc : Thread Cert.FfnBIdeal.nD Cert.FfnBIdeal.τ).loc Cert.FfnBIdeal.main_arg0)
      ∧ r.2.mem ((c.tc : Thread Cert.FfnBIdeal.nD Cert.FfnBIdeal.τ).loc Cert.FfnBIdeal.main_arg1) = m ((c.tc : Thread Cert.FfnBIdeal.nD Cert.FfnBIdeal.τ).loc Cert.FfnBIdeal.main_arg1)
      ∧ r.2.mem ((c.tc : Thread Cert.FfnBIdeal.nD Cert.FfnBIdeal.τ).loc Cert.FfnBIdeal.main_arg2) = m ((c.tc : Thread Cert.FfnBIdeal.nD Cert.FfnBIdeal.τ).loc Cert.FfnBIdeal.main_arg2)
      ∧ r.2.mem ((c.tc : Thread Cert.FfnBIdeal.nD Cert.FfnBIdeal.τ).loc Cert.FfnBIdeal.main_arg3) = m ((c.tc : Thread Cert.FfnBIdeal.nD Cert.FfnBIdeal.τ).loc Cert.FfnBIdeal.main_arg3)
      ∧ r.2.mem ((c.tc : Thread Cert.FfnBIdeal.nD Cert.FfnBIdeal.τ).loc Cert.FfnBIdeal.main_arg4) = m ((c.tc : Thread Cert.FfnBIdeal.nD Cert.FfnBIdeal.τ).loc Cert.FfnBIdeal.main_arg4))
      ∧ r.2.sem = fun _ => 0)

def quiescent_FfnBRefIdeal [hFfnBRefIdeal : Cert.FfnBRefIdeal.Facts] : Prop :=
  ∀ (m : (ℓ : Loc Cert.FfnBRefIdeal.nD Cert.FfnBRefIdeal.τ Cert.FfnBRefIdeal.sig) → Buf (Elt Ideal) ℓ) (g : Dev Cert.FfnBRefIdeal.nD → PrngReg), Pre_FfnBRefIdeal m →
    θ_run (Cert.FfnBRefIdeal.defs (F := Ideal)) (onTc (τ := Cert.FfnBRefIdeal.τ) (Cert.FfnBRefIdeal.main (F := Ideal))) ⟨m, fun _ => 0, g⟩ (fun r => (∀ c : Dev Cert.FfnBRefIdeal.nD,
      r.2.mem ((c.tc : Thread Cert.FfnBRefIdeal.nD Cert.FfnBRefIdeal.τ).loc Cert.FfnBRefIdeal.main_arg0) = m ((c.tc : Thread Cert.FfnBRefIdeal.nD Cert.FfnBRefIdeal.τ).loc Cert.FfnBRefIdeal.main_arg0)
      ∧ r.2.mem ((c.tc : Thread Cert.FfnBRefIdeal.nD Cert.FfnBRefIdeal.τ).loc Cert.FfnBRefIdeal.main_arg1) = m ((c.tc : Thread Cert.FfnBRefIdeal.nD Cert.FfnBRefIdeal.τ).loc Cert.FfnBRefIdeal.main_arg1)
      ∧ r.2.mem ((c.tc : Thread Cert.FfnBRefIdeal.nD Cert.FfnBRefIdeal.τ).loc Cert.FfnBRefIdeal.main_arg2) = m ((c.tc : Thread Cert.FfnBRefIdeal.nD Cert.FfnBRefIdeal.τ).loc Cert.FfnBRefIdeal.main_arg2)
      ∧ r.2.mem ((c.tc : Thread Cert.FfnBRefIdeal.nD Cert.FfnBRefIdeal.τ).loc Cert.FfnBRefIdeal.main_arg3) = m ((c.tc : Thread Cert.FfnBRefIdeal.nD Cert.FfnBRefIdeal.τ).loc Cert.FfnBRefIdeal.main_arg3)
      ∧ r.2.mem ((c.tc : Thread Cert.FfnBRefIdeal.nD Cert.FfnBRefIdeal.τ).loc Cert.FfnBRefIdeal.main_arg4) = m ((c.tc : Thread Cert.FfnBRefIdeal.nD Cert.FfnBRefIdeal.τ).loc Cert.FfnBRefIdeal.main_arg4))
      ∧ r.2.sem = fun _ => 0)

def quiescent_FfnC [hFfnC : Cert.FfnC.Facts] : Prop :=
  ∀ (m : (ℓ : Loc Cert.FfnC.nD Cert.FfnC.τ Cert.FfnC.sig) → Buf (Elt Bits) ℓ) (g : Dev Cert.FfnC.nD → PrngReg), Pre_FfnC m →
    θ_run (Cert.FfnC.defs (F := Bits)) (onTc (τ := Cert.FfnC.τ) (Cert.FfnC.main (F := Bits))) ⟨m, fun _ => 0, g⟩ (fun r => (∀ c : Dev Cert.FfnC.nD,
      r.2.mem ((c.tc : Thread Cert.FfnC.nD Cert.FfnC.τ).loc Cert.FfnC.main_arg0) = m ((c.tc : Thread Cert.FfnC.nD Cert.FfnC.τ).loc Cert.FfnC.main_arg0)
      ∧ r.2.mem ((c.tc : Thread Cert.FfnC.nD Cert.FfnC.τ).loc Cert.FfnC.main_arg1) = m ((c.tc : Thread Cert.FfnC.nD Cert.FfnC.τ).loc Cert.FfnC.main_arg1)
      ∧ r.2.mem ((c.tc : Thread Cert.FfnC.nD Cert.FfnC.τ).loc Cert.FfnC.main_arg2) = m ((c.tc : Thread Cert.FfnC.nD Cert.FfnC.τ).loc Cert.FfnC.main_arg2)
      ∧ r.2.mem ((c.tc : Thread Cert.FfnC.nD Cert.FfnC.τ).loc Cert.FfnC.main_arg3) = m ((c.tc : Thread Cert.FfnC.nD Cert.FfnC.τ).loc Cert.FfnC.main_arg3)
      ∧ r.2.mem ((c.tc : Thread Cert.FfnC.nD Cert.FfnC.τ).loc Cert.FfnC.main_arg4) = m ((c.tc : Thread Cert.FfnC.nD Cert.FfnC.τ).loc Cert.FfnC.main_arg4))
      ∧ r.2.sem = fun _ => 0)

def quiescent_FfnCIdeal [hFfnCIdeal : Cert.FfnCIdeal.Facts] : Prop :=
  ∀ (m : (ℓ : Loc Cert.FfnCIdeal.nD Cert.FfnCIdeal.τ Cert.FfnCIdeal.sig) → Buf (Elt Ideal) ℓ) (g : Dev Cert.FfnCIdeal.nD → PrngReg), Pre_FfnCIdeal m →
    θ_run (Cert.FfnCIdeal.defs (F := Ideal)) (onTc (τ := Cert.FfnCIdeal.τ) (Cert.FfnCIdeal.main (F := Ideal))) ⟨m, fun _ => 0, g⟩ (fun r => (∀ c : Dev Cert.FfnCIdeal.nD,
      r.2.mem ((c.tc : Thread Cert.FfnCIdeal.nD Cert.FfnCIdeal.τ).loc Cert.FfnCIdeal.main_arg0) = m ((c.tc : Thread Cert.FfnCIdeal.nD Cert.FfnCIdeal.τ).loc Cert.FfnCIdeal.main_arg0)
      ∧ r.2.mem ((c.tc : Thread Cert.FfnCIdeal.nD Cert.FfnCIdeal.τ).loc Cert.FfnCIdeal.main_arg1) = m ((c.tc : Thread Cert.FfnCIdeal.nD Cert.FfnCIdeal.τ).loc Cert.FfnCIdeal.main_arg1)
      ∧ r.2.mem ((c.tc : Thread Cert.FfnCIdeal.nD Cert.FfnCIdeal.τ).loc Cert.FfnCIdeal.main_arg2) = m ((c.tc : Thread Cert.FfnCIdeal.nD Cert.FfnCIdeal.τ).loc Cert.FfnCIdeal.main_arg2)
      ∧ r.2.mem ((c.tc : Thread Cert.FfnCIdeal.nD Cert.FfnCIdeal.τ).loc Cert.FfnCIdeal.main_arg3) = m ((c.tc : Thread Cert.FfnCIdeal.nD Cert.FfnCIdeal.τ).loc Cert.FfnCIdeal.main_arg3)
      ∧ r.2.mem ((c.tc : Thread Cert.FfnCIdeal.nD Cert.FfnCIdeal.τ).loc Cert.FfnCIdeal.main_arg4) = m ((c.tc : Thread Cert.FfnCIdeal.nD Cert.FfnCIdeal.τ).loc Cert.FfnCIdeal.main_arg4))
      ∧ r.2.sem = fun _ => 0)

def quiescent_FfnCRefIdeal [hFfnCRefIdeal : Cert.FfnCRefIdeal.Facts] : Prop :=
  ∀ (m : (ℓ : Loc Cert.FfnCRefIdeal.nD Cert.FfnCRefIdeal.τ Cert.FfnCRefIdeal.sig) → Buf (Elt Ideal) ℓ) (g : Dev Cert.FfnCRefIdeal.nD → PrngReg), Pre_FfnCRefIdeal m →
    θ_run (Cert.FfnCRefIdeal.defs (F := Ideal)) (onTc (τ := Cert.FfnCRefIdeal.τ) (Cert.FfnCRefIdeal.main (F := Ideal))) ⟨m, fun _ => 0, g⟩ (fun r => (∀ c : Dev Cert.FfnCRefIdeal.nD,
      r.2.mem ((c.tc : Thread Cert.FfnCRefIdeal.nD Cert.FfnCRefIdeal.τ).loc Cert.FfnCRefIdeal.main_arg0) = m ((c.tc : Thread Cert.FfnCRefIdeal.nD Cert.FfnCRefIdeal.τ).loc Cert.FfnCRefIdeal.main_arg0)
      ∧ r.2.mem ((c.tc : Thread Cert.FfnCRefIdeal.nD Cert.FfnCRefIdeal.τ).loc Cert.FfnCRefIdeal.main_arg1) = m ((c.tc : Thread Cert.FfnCRefIdeal.nD Cert.FfnCRefIdeal.τ).loc Cert.FfnCRefIdeal.main_arg1)
      ∧ r.2.mem ((c.tc : Thread Cert.FfnCRefIdeal.nD Cert.FfnCRefIdeal.τ).loc Cert.FfnCRefIdeal.main_arg2) = m ((c.tc : Thread Cert.FfnCRefIdeal.nD Cert.FfnCRefIdeal.τ).loc Cert.FfnCRefIdeal.main_arg2)
      ∧ r.2.mem ((c.tc : Thread Cert.FfnCRefIdeal.nD Cert.FfnCRefIdeal.τ).loc Cert.FfnCRefIdeal.main_arg3) = m ((c.tc : Thread Cert.FfnCRefIdeal.nD Cert.FfnCRefIdeal.τ).loc Cert.FfnCRefIdeal.main_arg3)
      ∧ r.2.mem ((c.tc : Thread Cert.FfnCRefIdeal.nD Cert.FfnCRefIdeal.τ).loc Cert.FfnCRefIdeal.main_arg4) = m ((c.tc : Thread Cert.FfnCRefIdeal.nD Cert.FfnCRefIdeal.τ).loc Cert.FfnCRefIdeal.main_arg4))
      ∧ r.2.sem = fun _ => 0)

def quiescent_FfnD [hFfnD : Cert.FfnD.Facts] : Prop :=
  ∀ (m : (ℓ : Loc Cert.FfnD.nD Cert.FfnD.τ Cert.FfnD.sig) → Buf (Elt Bits) ℓ) (g : Dev Cert.FfnD.nD → PrngReg), Pre_FfnD m →
    θ_run (Cert.FfnD.defs (F := Bits)) (onTc (τ := Cert.FfnD.τ) (Cert.FfnD.main (F := Bits))) ⟨m, fun _ => 0, g⟩ (fun r => (∀ c : Dev Cert.FfnD.nD,
      r.2.mem ((c.tc : Thread Cert.FfnD.nD Cert.FfnD.τ).loc Cert.FfnD.main_arg0) = m ((c.tc : Thread Cert.FfnD.nD Cert.FfnD.τ).loc Cert.FfnD.main_arg0)
      ∧ r.2.mem ((c.tc : Thread Cert.FfnD.nD Cert.FfnD.τ).loc Cert.FfnD.main_arg1) = m ((c.tc : Thread Cert.FfnD.nD Cert.FfnD.τ).loc Cert.FfnD.main_arg1)
      ∧ r.2.mem ((c.tc : Thread Cert.FfnD.nD Cert.FfnD.τ).loc Cert.FfnD.main_arg2) = m ((c.tc : Thread Cert.FfnD.nD Cert.FfnD.τ).loc Cert.FfnD.main_arg2)
      ∧ r.2.mem ((c.tc : Thread Cert.FfnD.nD Cert.FfnD.τ).loc Cert.FfnD.main_arg3) = m ((c.tc : Thread Cert.FfnD.nD Cert.FfnD.τ).loc Cert.FfnD.main_arg3)
      ∧ r.2.mem ((c.tc : Thread Cert.FfnD.nD Cert.FfnD.τ).loc Cert.FfnD.main_arg4) = m ((c.tc : Thread Cert.FfnD.nD Cert.FfnD.τ).loc Cert.FfnD.main_arg4))
      ∧ r.2.sem = fun _ => 0)

def quiescent_FfnDIdeal [hFfnDIdeal : Cert.FfnDIdeal.Facts] : Prop :=
  ∀ (m : (ℓ : Loc Cert.FfnDIdeal.nD Cert.FfnDIdeal.τ Cert.FfnDIdeal.sig) → Buf (Elt Ideal) ℓ) (g : Dev Cert.FfnDIdeal.nD → PrngReg), Pre_FfnDIdeal m →
    θ_run (Cert.FfnDIdeal.defs (F := Ideal)) (onTc (τ := Cert.FfnDIdeal.τ) (Cert.FfnDIdeal.main (F := Ideal))) ⟨m, fun _ => 0, g⟩ (fun r => (∀ c : Dev Cert.FfnDIdeal.nD,
      r.2.mem ((c.tc : Thread Cert.FfnDIdeal.nD Cert.FfnDIdeal.τ).loc Cert.FfnDIdeal.main_arg0) = m ((c.tc : Thread Cert.FfnDIdeal.nD Cert.FfnDIdeal.τ).loc Cert.FfnDIdeal.main_arg0)
      ∧ r.2.mem ((c.tc : Thread Cert.FfnDIdeal.nD Cert.FfnDIdeal.τ).loc Cert.FfnDIdeal.main_arg1) = m ((c.tc : Thread Cert.FfnDIdeal.nD Cert.FfnDIdeal.τ).loc Cert.FfnDIdeal.main_arg1)
      ∧ r.2.mem ((c.tc : Thread Cert.FfnDIdeal.nD Cert.FfnDIdeal.τ).loc Cert.FfnDIdeal.main_arg2) = m ((c.tc : Thread Cert.FfnDIdeal.nD Cert.FfnDIdeal.τ).loc Cert.FfnDIdeal.main_arg2)
      ∧ r.2.mem ((c.tc : Thread Cert.FfnDIdeal.nD Cert.FfnDIdeal.τ).loc Cert.FfnDIdeal.main_arg3) = m ((c.tc : Thread Cert.FfnDIdeal.nD Cert.FfnDIdeal.τ).loc Cert.FfnDIdeal.main_arg3)
      ∧ r.2.mem ((c.tc : Thread Cert.FfnDIdeal.nD Cert.FfnDIdeal.τ).loc Cert.FfnDIdeal.main_arg4) = m ((c.tc : Thread Cert.FfnDIdeal.nD Cert.FfnDIdeal.τ).loc Cert.FfnDIdeal.main_arg4))
      ∧ r.2.sem = fun _ => 0)

def quiescent_FfnDRefIdeal [hFfnDRefIdeal : Cert.FfnDRefIdeal.Facts] : Prop :=
  ∀ (m : (ℓ : Loc Cert.FfnDRefIdeal.nD Cert.FfnDRefIdeal.τ Cert.FfnDRefIdeal.sig) → Buf (Elt Ideal) ℓ) (g : Dev Cert.FfnDRefIdeal.nD → PrngReg), Pre_FfnDRefIdeal m →
    θ_run (Cert.FfnDRefIdeal.defs (F := Ideal)) (onTc (τ := Cert.FfnDRefIdeal.τ) (Cert.FfnDRefIdeal.main (F := Ideal))) ⟨m, fun _ => 0, g⟩ (fun r => (∀ c : Dev Cert.FfnDRefIdeal.nD,
      r.2.mem ((c.tc : Thread Cert.FfnDRefIdeal.nD Cert.FfnDRefIdeal.τ).loc Cert.FfnDRefIdeal.main_arg0) = m ((c.tc : Thread Cert.FfnDRefIdeal.nD Cert.FfnDRefIdeal.τ).loc Cert.FfnDRefIdeal.main_arg0)
      ∧ r.2.mem ((c.tc : Thread Cert.FfnDRefIdeal.nD Cert.FfnDRefIdeal.τ).loc Cert.FfnDRefIdeal.main_arg1) = m ((c.tc : Thread Cert.FfnDRefIdeal.nD Cert.FfnDRefIdeal.τ).loc Cert.FfnDRefIdeal.main_arg1)
      ∧ r.2.mem ((c.tc : Thread Cert.FfnDRefIdeal.nD Cert.FfnDRefIdeal.τ).loc Cert.FfnDRefIdeal.main_arg2) = m ((c.tc : Thread Cert.FfnDRefIdeal.nD Cert.FfnDRefIdeal.τ).loc Cert.FfnDRefIdeal.main_arg2)
      ∧ r.2.mem ((c.tc : Thread Cert.FfnDRefIdeal.nD Cert.FfnDRefIdeal.τ).loc Cert.FfnDRefIdeal.main_arg3) = m ((c.tc : Thread Cert.FfnDRefIdeal.nD Cert.FfnDRefIdeal.τ).loc Cert.FfnDRefIdeal.main_arg3)
      ∧ r.2.mem ((c.tc : Thread Cert.FfnDRefIdeal.nD Cert.FfnDRefIdeal.τ).loc Cert.FfnDRefIdeal.main_arg4) = m ((c.tc : Thread Cert.FfnDRefIdeal.nD Cert.FfnDRefIdeal.τ).loc Cert.FfnDRefIdeal.main_arg4))
      ∧ r.2.sem = fun _ => 0)

def quiescent_FfnBwdB [hFfnBwdB : Cert.FfnBwdB.Facts] : Prop :=
  ∀ (m : (ℓ : Loc Cert.FfnBwdB.nD Cert.FfnBwdB.τ Cert.FfnBwdB.sig) → Buf (Elt Bits) ℓ) (g : Dev Cert.FfnBwdB.nD → PrngReg), Pre_FfnBwdB m →
    θ_run (Cert.FfnBwdB.defs (F := Bits)) (onTc (τ := Cert.FfnBwdB.τ) (Cert.FfnBwdB.main (F := Bits))) ⟨m, fun _ => 0, g⟩ (fun r => (∀ c : Dev Cert.FfnBwdB.nD,
      r.2.mem ((c.tc : Thread Cert.FfnBwdB.nD Cert.FfnBwdB.τ).loc Cert.FfnBwdB.main_arg0) = m ((c.tc : Thread Cert.FfnBwdB.nD Cert.FfnBwdB.τ).loc Cert.FfnBwdB.main_arg0)
      ∧ r.2.mem ((c.tc : Thread Cert.FfnBwdB.nD Cert.FfnBwdB.τ).loc Cert.FfnBwdB.main_arg1) = m ((c.tc : Thread Cert.FfnBwdB.nD Cert.FfnBwdB.τ).loc Cert.FfnBwdB.main_arg1)
      ∧ r.2.mem ((c.tc : Thread Cert.FfnBwdB.nD Cert.FfnBwdB.τ).loc Cert.FfnBwdB.main_arg2) = m ((c.tc : Thread Cert.FfnBwdB.nD Cert.FfnBwdB.τ).loc Cert.FfnBwdB.main_arg2)
      ∧ r.2.mem ((c.tc : Thread Cert.FfnBwdB.nD Cert.FfnBwdB.τ).loc Cert.FfnBwdB.main_arg3) = m ((c.tc : Thread Cert.FfnBwdB.nD Cert.FfnBwdB.τ).loc Cert.FfnBwdB.main_arg3)
      ∧ r.2.mem ((c.tc : Thread Cert.FfnBwdB.nD Cert.FfnBwdB.τ).loc Cert.FfnBwdB.main_arg4) = m ((c.tc : Thread Cert.FfnBwdB.nD Cert.FfnBwdB.τ).loc Cert.FfnBwdB.main_arg4)
      ∧ r.2.mem ((c.tc : Thread Cert.FfnBwdB.nD Cert.FfnBwdB.τ).loc Cert.FfnBwdB.main_arg5) = m ((c.tc : Thread Cert.FfnBwdB.nD Cert.FfnBwdB.τ).loc Cert.FfnBwdB.main_arg5))
      ∧ r.2.sem = fun _ => 0)

def quiescent_FfnBwdBIdeal [hFfnBwdBIdeal : Cert.FfnBwdBIdeal.Facts] : Prop :=
  ∀ (m : (ℓ : Loc Cert.FfnBwdBIdeal.nD Cert.FfnBwdBIdeal.τ Cert.FfnBwdBIdeal.sig) → Buf (Elt Ideal) ℓ) (g : Dev Cert.FfnBwdBIdeal.nD → PrngReg), Pre_FfnBwdBIdeal m →
    θ_run (Cert.FfnBwdBIdeal.defs (F := Ideal)) (onTc (τ := Cert.FfnBwdBIdeal.τ) (Cert.FfnBwdBIdeal.main (F := Ideal))) ⟨m, fun _ => 0, g⟩ (fun r => (∀ c : Dev Cert.FfnBwdBIdeal.nD,
      r.2.mem ((c.tc : Thread Cert.FfnBwdBIdeal.nD Cert.FfnBwdBIdeal.τ).loc Cert.FfnBwdBIdeal.main_arg0) = m ((c.tc : Thread Cert.FfnBwdBIdeal.nD Cert.FfnBwdBIdeal.τ).loc Cert.FfnBwdBIdeal.main_arg0)
      ∧ r.2.mem ((c.tc : Thread Cert.FfnBwdBIdeal.nD Cert.FfnBwdBIdeal.τ).loc Cert.FfnBwdBIdeal.main_arg1) = m ((c.tc : Thread Cert.FfnBwdBIdeal.nD Cert.FfnBwdBIdeal.τ).loc Cert.FfnBwdBIdeal.main_arg1)
      ∧ r.2.mem ((c.tc : Thread Cert.FfnBwdBIdeal.nD Cert.FfnBwdBIdeal.τ).loc Cert.FfnBwdBIdeal.main_arg2) = m ((c.tc : Thread Cert.FfnBwdBIdeal.nD Cert.FfnBwdBIdeal.τ).loc Cert.FfnBwdBIdeal.main_arg2)
      ∧ r.2.mem ((c.tc : Thread Cert.FfnBwdBIdeal.nD Cert.FfnBwdBIdeal.τ).loc Cert.FfnBwdBIdeal.main_arg3) = m ((c.tc : Thread Cert.FfnBwdBIdeal.nD Cert.FfnBwdBIdeal.τ).loc Cert.FfnBwdBIdeal.main_arg3)
      ∧ r.2.mem ((c.tc : Thread Cert.FfnBwdBIdeal.nD Cert.FfnBwdBIdeal.τ).loc Cert.FfnBwdBIdeal.main_arg4) = m ((c.tc : Thread Cert.FfnBwdBIdeal.nD Cert.FfnBwdBIdeal.τ).loc Cert.FfnBwdBIdeal.main_arg4)
      ∧ r.2.mem ((c.tc : Thread Cert.FfnBwdBIdeal.nD Cert.FfnBwdBIdeal.τ).loc Cert.FfnBwdBIdeal.main_arg5) = m ((c.tc : Thread Cert.FfnBwdBIdeal.nD Cert.FfnBwdBIdeal.τ).loc Cert.FfnBwdBIdeal.main_arg5))
      ∧ r.2.sem = fun _ => 0)

def quiescent_FfnBwdBIdeal_pre_finite [hFfnBwdBIdeal : Cert.FfnBwdBIdeal.Facts] [hPre_finite : Cert.Pre_finite.Facts] : Prop :=
  ∀ (m : (ℓ : Loc Cert.FfnBwdBIdeal.nD Cert.FfnBwdBIdeal.τ Cert.FfnBwdBIdeal.sig) → Buf (Elt Ideal) ℓ) (g : Dev Cert.FfnBwdBIdeal.nD → PrngReg), Pre_FfnBwdBIdeal_finite m →
    θ_run (Cert.FfnBwdBIdeal.defs (F := Ideal)) (onTc (τ := Cert.FfnBwdBIdeal.τ) (Cert.FfnBwdBIdeal.main (F := Ideal))) ⟨m, fun _ => 0, g⟩ (fun r => (∀ c : Dev Cert.FfnBwdBIdeal.nD,
      r.2.mem ((c.tc : Thread Cert.FfnBwdBIdeal.nD Cert.FfnBwdBIdeal.τ).loc Cert.FfnBwdBIdeal.main_arg0) = m ((c.tc : Thread Cert.FfnBwdBIdeal.nD Cert.FfnBwdBIdeal.τ).loc Cert.FfnBwdBIdeal.main_arg0)
      ∧ r.2.mem ((c.tc : Thread Cert.FfnBwdBIdeal.nD Cert.FfnBwdBIdeal.τ).loc Cert.FfnBwdBIdeal.main_arg1) = m ((c.tc : Thread Cert.FfnBwdBIdeal.nD Cert.FfnBwdBIdeal.τ).loc Cert.FfnBwdBIdeal.main_arg1)
      ∧ r.2.mem ((c.tc : Thread Cert.FfnBwdBIdeal.nD Cert.FfnBwdBIdeal.τ).loc Cert.FfnBwdBIdeal.main_arg2) = m ((c.tc : Thread Cert.FfnBwdBIdeal.nD Cert.FfnBwdBIdeal.τ).loc Cert.FfnBwdBIdeal.main_arg2)
      ∧ r.2.mem ((c.tc : Thread Cert.FfnBwdBIdeal.nD Cert.FfnBwdBIdeal.τ).loc Cert.FfnBwdBIdeal.main_arg3) = m ((c.tc : Thread Cert.FfnBwdBIdeal.nD Cert.FfnBwdBIdeal.τ).loc Cert.FfnBwdBIdeal.main_arg3)
      ∧ r.2.mem ((c.tc : Thread Cert.FfnBwdBIdeal.nD Cert.FfnBwdBIdeal.τ).loc Cert.FfnBwdBIdeal.main_arg4) = m ((c.tc : Thread Cert.FfnBwdBIdeal.nD Cert.FfnBwdBIdeal.τ).loc Cert.FfnBwdBIdeal.main_arg4)
      ∧ r.2.mem ((c.tc : Thread Cert.FfnBwdBIdeal.nD Cert.FfnBwdBIdeal.τ).loc Cert.FfnBwdBIdeal.main_arg5) = m ((c.tc : Thread Cert.FfnBwdBIdeal.nD Cert.FfnBwdBIdeal.τ).loc Cert.FfnBwdBIdeal.main_arg5))
      ∧ r.2.sem = fun _ => 0)

def quiescent_FfnBwdBRefIdeal [hFfnBwdBRefIdeal : Cert.FfnBwdBRefIdeal.Facts] : Prop :=
  ∀ (m : (ℓ : Loc Cert.FfnBwdBRefIdeal.nD Cert.FfnBwdBRefIdeal.τ Cert.FfnBwdBRefIdeal.sig) → Buf (Elt Ideal) ℓ) (g : Dev Cert.FfnBwdBRefIdeal.nD → PrngReg), Pre_FfnBwdBRefIdeal m →
    θ_run (Cert.FfnBwdBRefIdeal.defs (F := Ideal)) (onTc (τ := Cert.FfnBwdBRefIdeal.τ) (Cert.FfnBwdBRefIdeal.main (F := Ideal))) ⟨m, fun _ => 0, g⟩ (fun r => (∀ c : Dev Cert.FfnBwdBRefIdeal.nD,
      r.2.mem ((c.tc : Thread Cert.FfnBwdBRefIdeal.nD Cert.FfnBwdBRefIdeal.τ).loc Cert.FfnBwdBRefIdeal.main_arg0) = m ((c.tc : Thread Cert.FfnBwdBRefIdeal.nD Cert.FfnBwdBRefIdeal.τ).loc Cert.FfnBwdBRefIdeal.main_arg0)
      ∧ r.2.mem ((c.tc : Thread Cert.FfnBwdBRefIdeal.nD Cert.FfnBwdBRefIdeal.τ).loc Cert.FfnBwdBRefIdeal.main_arg1) = m ((c.tc : Thread Cert.FfnBwdBRefIdeal.nD Cert.FfnBwdBRefIdeal.τ).loc Cert.FfnBwdBRefIdeal.main_arg1)
      ∧ r.2.mem ((c.tc : Thread Cert.FfnBwdBRefIdeal.nD Cert.FfnBwdBRefIdeal.τ).loc Cert.FfnBwdBRefIdeal.main_arg2) = m ((c.tc : Thread Cert.FfnBwdBRefIdeal.nD Cert.FfnBwdBRefIdeal.τ).loc Cert.FfnBwdBRefIdeal.main_arg2)
      ∧ r.2.mem ((c.tc : Thread Cert.FfnBwdBRefIdeal.nD Cert.FfnBwdBRefIdeal.τ).loc Cert.FfnBwdBRefIdeal.main_arg3) = m ((c.tc : Thread Cert.FfnBwdBRefIdeal.nD Cert.FfnBwdBRefIdeal.τ).loc Cert.FfnBwdBRefIdeal.main_arg3)
      ∧ r.2.mem ((c.tc : Thread Cert.FfnBwdBRefIdeal.nD Cert.FfnBwdBRefIdeal.τ).loc Cert.FfnBwdBRefIdeal.main_arg4) = m ((c.tc : Thread Cert.FfnBwdBRefIdeal.nD Cert.FfnBwdBRefIdeal.τ).loc Cert.FfnBwdBRefIdeal.main_arg4)
      ∧ r.2.mem ((c.tc : Thread Cert.FfnBwdBRefIdeal.nD Cert.FfnBwdBRefIdeal.τ).loc Cert.FfnBwdBRefIdeal.main_arg5) = m ((c.tc : Thread Cert.FfnBwdBRefIdeal.nD Cert.FfnBwdBRefIdeal.τ).loc Cert.FfnBwdBRefIdeal.main_arg5))
      ∧ r.2.sem = fun _ => 0)

def quiescent_FfnBwdBRefIdeal_pre_finite [hFfnBwdBRefIdeal : Cert.FfnBwdBRefIdeal.Facts] [hPre_finite : Cert.Pre_finite.Facts] : Prop :=
  ∀ (m : (ℓ : Loc Cert.FfnBwdBRefIdeal.nD Cert.FfnBwdBRefIdeal.τ Cert.FfnBwdBRefIdeal.sig) → Buf (Elt Ideal) ℓ) (g : Dev Cert.FfnBwdBRefIdeal.nD → PrngReg), Pre_FfnBwdBRefIdeal_finite m →
    θ_run (Cert.FfnBwdBRefIdeal.defs (F := Ideal)) (onTc (τ := Cert.FfnBwdBRefIdeal.τ) (Cert.FfnBwdBRefIdeal.main (F := Ideal))) ⟨m, fun _ => 0, g⟩ (fun r => (∀ c : Dev Cert.FfnBwdBRefIdeal.nD,
      r.2.mem ((c.tc : Thread Cert.FfnBwdBRefIdeal.nD Cert.FfnBwdBRefIdeal.τ).loc Cert.FfnBwdBRefIdeal.main_arg0) = m ((c.tc : Thread Cert.FfnBwdBRefIdeal.nD Cert.FfnBwdBRefIdeal.τ).loc Cert.FfnBwdBRefIdeal.main_arg0)
      ∧ r.2.mem ((c.tc : Thread Cert.FfnBwdBRefIdeal.nD Cert.FfnBwdBRefIdeal.τ).loc Cert.FfnBwdBRefIdeal.main_arg1) = m ((c.tc : Thread Cert.FfnBwdBRefIdeal.nD Cert.FfnBwdBRefIdeal.τ).loc Cert.FfnBwdBRefIdeal.main_arg1)
      ∧ r.2.mem ((c.tc : Thread Cert.FfnBwdBRefIdeal.nD Cert.FfnBwdBRefIdeal.τ).loc Cert.FfnBwdBRefIdeal.main_arg2) = m ((c.tc : Thread Cert.FfnBwdBRefIdeal.nD Cert.FfnBwdBRefIdeal.τ).loc Cert.FfnBwdBRefIdeal.main_arg2)
      ∧ r.2.mem ((c.tc : Thread Cert.FfnBwdBRefIdeal.nD Cert.FfnBwdBRefIdeal.τ).loc Cert.FfnBwdBRefIdeal.main_arg3) = m ((c.tc : Thread Cert.FfnBwdBRefIdeal.nD Cert.FfnBwdBRefIdeal.τ).loc Cert.FfnBwdBRefIdeal.main_arg3)
      ∧ r.2.mem ((c.tc : Thread Cert.FfnBwdBRefIdeal.nD Cert.FfnBwdBRefIdeal.τ).loc Cert.FfnBwdBRefIdeal.main_arg4) = m ((c.tc : Thread Cert.FfnBwdBRefIdeal.nD Cert.FfnBwdBRefIdeal.τ).loc Cert.FfnBwdBRefIdeal.main_arg4)
      ∧ r.2.mem ((c.tc : Thread Cert.FfnBwdBRefIdeal.nD Cert.FfnBwdBRefIdeal.τ).loc Cert.FfnBwdBRefIdeal.main_arg5) = m ((c.tc : Thread Cert.FfnBwdBRefIdeal.nD Cert.FfnBwdBRefIdeal.τ).loc Cert.FfnBwdBRefIdeal.main_arg5))
      ∧ r.2.sem = fun _ => 0)

def quiescent_FfnBwdC [hFfnBwdC : Cert.FfnBwdC.Facts] : Prop :=
  ∀ (m : (ℓ : Loc Cert.FfnBwdC.nD Cert.FfnBwdC.τ Cert.FfnBwdC.sig) → Buf (Elt Bits) ℓ) (g : Dev Cert.FfnBwdC.nD → PrngReg), Pre_FfnBwdC m →
    θ_run (Cert.FfnBwdC.defs (F := Bits)) (onTc (τ := Cert.FfnBwdC.τ) (Cert.FfnBwdC.main (F := Bits))) ⟨m, fun _ => 0, g⟩ (fun r => (∀ c : Dev Cert.FfnBwdC.nD,
      r.2.mem ((c.tc : Thread Cert.FfnBwdC.nD Cert.FfnBwdC.τ).loc Cert.FfnBwdC.main_arg0) = m ((c.tc : Thread Cert.FfnBwdC.nD Cert.FfnBwdC.τ).loc Cert.FfnBwdC.main_arg0)
      ∧ r.2.mem ((c.tc : Thread Cert.FfnBwdC.nD Cert.FfnBwdC.τ).loc Cert.FfnBwdC.main_arg1) = m ((c.tc : Thread Cert.FfnBwdC.nD Cert.FfnBwdC.τ).loc Cert.FfnBwdC.main_arg1)
      ∧ r.2.mem ((c.tc : Thread Cert.FfnBwdC.nD Cert.FfnBwdC.τ).loc Cert.FfnBwdC.main_arg2) = m ((c.tc : Thread Cert.FfnBwdC.nD Cert.FfnBwdC.τ).loc Cert.FfnBwdC.main_arg2)
      ∧ r.2.mem ((c.tc : Thread Cert.FfnBwdC.nD Cert.FfnBwdC.τ).loc Cert.FfnBwdC.main_arg3) = m ((c.tc : Thread Cert.FfnBwdC.nD Cert.FfnBwdC.τ).loc Cert.FfnBwdC.main_arg3)
      ∧ r.2.mem ((c.tc : Thread Cert.FfnBwdC.nD Cert.FfnBwdC.τ).loc Cert.FfnBwdC.main_arg4) = m ((c.tc : Thread Cert.FfnBwdC.nD Cert.FfnBwdC.τ).loc Cert.FfnBwdC.main_arg4)
      ∧ r.2.mem ((c.tc : Thread Cert.FfnBwdC.nD Cert.FfnBwdC.τ).loc Cert.FfnBwdC.main_arg5) = m ((c.tc : Thread Cert.FfnBwdC.nD Cert.FfnBwdC.τ).loc Cert.FfnBwdC.main_arg5))
      ∧ r.2.sem = fun _ => 0)

def quiescent_FfnBwdCIdeal [hFfnBwdCIdeal : Cert.FfnBwdCIdeal.Facts] : Prop :=
  ∀ (m : (ℓ : Loc Cert.FfnBwdCIdeal.nD Cert.FfnBwdCIdeal.τ Cert.FfnBwdCIdeal.sig) → Buf (Elt Ideal) ℓ) (g : Dev Cert.FfnBwdCIdeal.nD → PrngReg), Pre_FfnBwdCIdeal m →
    θ_run (Cert.FfnBwdCIdeal.defs (F := Ideal)) (onTc (τ := Cert.FfnBwdCIdeal.τ) (Cert.FfnBwdCIdeal.main (F := Ideal))) ⟨m, fun _ => 0, g⟩ (fun r => (∀ c : Dev Cert.FfnBwdCIdeal.nD,
      r.2.mem ((c.tc : Thread Cert.FfnBwdCIdeal.nD Cert.FfnBwdCIdeal.τ).loc Cert.FfnBwdCIdeal.main_arg0) = m ((c.tc : Thread Cert.FfnBwdCIdeal.nD Cert.FfnBwdCIdeal.τ).loc Cert.FfnBwdCIdeal.main_arg0)
      ∧ r.2.mem ((c.tc : Thread Cert.FfnBwdCIdeal.nD Cert.FfnBwdCIdeal.τ).loc Cert.FfnBwdCIdeal.main_arg1) = m ((c.tc : Thread Cert.FfnBwdCIdeal.nD Cert.FfnBwdCIdeal.τ).loc Cert.FfnBwdCIdeal.main_arg1)
      ∧ r.2.mem ((c.tc : Thread Cert.FfnBwdCIdeal.nD Cert.FfnBwdCIdeal.τ).loc Cert.FfnBwdCIdeal.main_arg2) = m ((c.tc : Thread Cert.FfnBwdCIdeal.nD Cert.FfnBwdCIdeal.τ).loc Cert.FfnBwdCIdeal.main_arg2)
      ∧ r.2.mem ((c.tc : Thread Cert.FfnBwdCIdeal.nD Cert.FfnBwdCIdeal.τ).loc Cert.FfnBwdCIdeal.main_arg3) = m ((c.tc : Thread Cert.FfnBwdCIdeal.nD Cert.FfnBwdCIdeal.τ).loc Cert.FfnBwdCIdeal.main_arg3)
      ∧ r.2.mem ((c.tc : Thread Cert.FfnBwdCIdeal.nD Cert.FfnBwdCIdeal.τ).loc Cert.FfnBwdCIdeal.main_arg4) = m ((c.tc : Thread Cert.FfnBwdCIdeal.nD Cert.FfnBwdCIdeal.τ).loc Cert.FfnBwdCIdeal.main_arg4)
      ∧ r.2.mem ((c.tc : Thread Cert.FfnBwdCIdeal.nD Cert.FfnBwdCIdeal.τ).loc Cert.FfnBwdCIdeal.main_arg5) = m ((c.tc : Thread Cert.FfnBwdCIdeal.nD Cert.FfnBwdCIdeal.τ).loc Cert.FfnBwdCIdeal.main_arg5))
      ∧ r.2.sem = fun _ => 0)

def quiescent_FfnBwdCIdeal_pre_finite [hFfnBwdCIdeal : Cert.FfnBwdCIdeal.Facts] [hPre_finite : Cert.Pre_finite.Facts] : Prop :=
  ∀ (m : (ℓ : Loc Cert.FfnBwdCIdeal.nD Cert.FfnBwdCIdeal.τ Cert.FfnBwdCIdeal.sig) → Buf (Elt Ideal) ℓ) (g : Dev Cert.FfnBwdCIdeal.nD → PrngReg), Pre_FfnBwdCIdeal_finite m →
    θ_run (Cert.FfnBwdCIdeal.defs (F := Ideal)) (onTc (τ := Cert.FfnBwdCIdeal.τ) (Cert.FfnBwdCIdeal.main (F := Ideal))) ⟨m, fun _ => 0, g⟩ (fun r => (∀ c : Dev Cert.FfnBwdCIdeal.nD,
      r.2.mem ((c.tc : Thread Cert.FfnBwdCIdeal.nD Cert.FfnBwdCIdeal.τ).loc Cert.FfnBwdCIdeal.main_arg0) = m ((c.tc : Thread Cert.FfnBwdCIdeal.nD Cert.FfnBwdCIdeal.τ).loc Cert.FfnBwdCIdeal.main_arg0)
      ∧ r.2.mem ((c.tc : Thread Cert.FfnBwdCIdeal.nD Cert.FfnBwdCIdeal.τ).loc Cert.FfnBwdCIdeal.main_arg1) = m ((c.tc : Thread Cert.FfnBwdCIdeal.nD Cert.FfnBwdCIdeal.τ).loc Cert.FfnBwdCIdeal.main_arg1)
      ∧ r.2.mem ((c.tc : Thread Cert.FfnBwdCIdeal.nD Cert.FfnBwdCIdeal.τ).loc Cert.FfnBwdCIdeal.main_arg2) = m ((c.tc : Thread Cert.FfnBwdCIdeal.nD Cert.FfnBwdCIdeal.τ).loc Cert.FfnBwdCIdeal.main_arg2)
      ∧ r.2.mem ((c.tc : Thread Cert.FfnBwdCIdeal.nD Cert.FfnBwdCIdeal.τ).loc Cert.FfnBwdCIdeal.main_arg3) = m ((c.tc : Thread Cert.FfnBwdCIdeal.nD Cert.FfnBwdCIdeal.τ).loc Cert.FfnBwdCIdeal.main_arg3)
      ∧ r.2.mem ((c.tc : Thread Cert.FfnBwdCIdeal.nD Cert.FfnBwdCIdeal.τ).loc Cert.FfnBwdCIdeal.main_arg4) = m ((c.tc : Thread Cert.FfnBwdCIdeal.nD Cert.FfnBwdCIdeal.τ).loc Cert.FfnBwdCIdeal.main_arg4)
      ∧ r.2.mem ((c.tc : Thread Cert.FfnBwdCIdeal.nD Cert.FfnBwdCIdeal.τ).loc Cert.FfnBwdCIdeal.main_arg5) = m ((c.tc : Thread Cert.FfnBwdCIdeal.nD Cert.FfnBwdCIdeal.τ).loc Cert.FfnBwdCIdeal.main_arg5))
      ∧ r.2.sem = fun _ => 0)

def quiescent_FfnBwdCRefIdeal [hFfnBwdCRefIdeal : Cert.FfnBwdCRefIdeal.Facts] : Prop :=
  ∀ (m : (ℓ : Loc Cert.FfnBwdCRefIdeal.nD Cert.FfnBwdCRefIdeal.τ Cert.FfnBwdCRefIdeal.sig) → Buf (Elt Ideal) ℓ) (g : Dev Cert.FfnBwdCRefIdeal.nD → PrngReg), Pre_FfnBwdCRefIdeal m →
    θ_run (Cert.FfnBwdCRefIdeal.defs (F := Ideal)) (onTc (τ := Cert.FfnBwdCRefIdeal.τ) (Cert.FfnBwdCRefIdeal.main (F := Ideal))) ⟨m, fun _ => 0, g⟩ (fun r => (∀ c : Dev Cert.FfnBwdCRefIdeal.nD,
      r.2.mem ((c.tc : Thread Cert.FfnBwdCRefIdeal.nD Cert.FfnBwdCRefIdeal.τ).loc Cert.FfnBwdCRefIdeal.main_arg0) = m ((c.tc : Thread Cert.FfnBwdCRefIdeal.nD Cert.FfnBwdCRefIdeal.τ).loc Cert.FfnBwdCRefIdeal.main_arg0)
      ∧ r.2.mem ((c.tc : Thread Cert.FfnBwdCRefIdeal.nD Cert.FfnBwdCRefIdeal.τ).loc Cert.FfnBwdCRefIdeal.main_arg1) = m ((c.tc : Thread Cert.FfnBwdCRefIdeal.nD Cert.FfnBwdCRefIdeal.τ).loc Cert.FfnBwdCRefIdeal.main_arg1)
      ∧ r.2.mem ((c.tc : Thread Cert.FfnBwdCRefIdeal.nD Cert.FfnBwdCRefIdeal.τ).loc Cert.FfnBwdCRefIdeal.main_arg2) = m ((c.tc : Thread Cert.FfnBwdCRefIdeal.nD Cert.FfnBwdCRefIdeal.τ).loc Cert.FfnBwdCRefIdeal.main_arg2)
      ∧ r.2.mem ((c.tc : Thread Cert.FfnBwdCRefIdeal.nD Cert.FfnBwdCRefIdeal.τ).loc Cert.FfnBwdCRefIdeal.main_arg3) = m ((c.tc : Thread Cert.FfnBwdCRefIdeal.nD Cert.FfnBwdCRefIdeal.τ).loc Cert.FfnBwdCRefIdeal.main_arg3)
      ∧ r.2.mem ((c.tc : Thread Cert.FfnBwdCRefIdeal.nD Cert.FfnBwdCRefIdeal.τ).loc Cert.FfnBwdCRefIdeal.main_arg4) = m ((c.tc : Thread Cert.FfnBwdCRefIdeal.nD Cert.FfnBwdCRefIdeal.τ).loc Cert.FfnBwdCRefIdeal.main_arg4)
      ∧ r.2.mem ((c.tc : Thread Cert.FfnBwdCRefIdeal.nD Cert.FfnBwdCRefIdeal.τ).loc Cert.FfnBwdCRefIdeal.main_arg5) = m ((c.tc : Thread Cert.FfnBwdCRefIdeal.nD Cert.FfnBwdCRefIdeal.τ).loc Cert.FfnBwdCRefIdeal.main_arg5))
      ∧ r.2.sem = fun _ => 0)

def quiescent_FfnBwdCRefIdeal_pre_finite [hFfnBwdCRefIdeal : Cert.FfnBwdCRefIdeal.Facts] [hPre_finite : Cert.Pre_finite.Facts] : Prop :=
  ∀ (m : (ℓ : Loc Cert.FfnBwdCRefIdeal.nD Cert.FfnBwdCRefIdeal.τ Cert.FfnBwdCRefIdeal.sig) → Buf (Elt Ideal) ℓ) (g : Dev Cert.FfnBwdCRefIdeal.nD → PrngReg), Pre_FfnBwdCRefIdeal_finite m →
    θ_run (Cert.FfnBwdCRefIdeal.defs (F := Ideal)) (onTc (τ := Cert.FfnBwdCRefIdeal.τ) (Cert.FfnBwdCRefIdeal.main (F := Ideal))) ⟨m, fun _ => 0, g⟩ (fun r => (∀ c : Dev Cert.FfnBwdCRefIdeal.nD,
      r.2.mem ((c.tc : Thread Cert.FfnBwdCRefIdeal.nD Cert.FfnBwdCRefIdeal.τ).loc Cert.FfnBwdCRefIdeal.main_arg0) = m ((c.tc : Thread Cert.FfnBwdCRefIdeal.nD Cert.FfnBwdCRefIdeal.τ).loc Cert.FfnBwdCRefIdeal.main_arg0)
      ∧ r.2.mem ((c.tc : Thread Cert.FfnBwdCRefIdeal.nD Cert.FfnBwdCRefIdeal.τ).loc Cert.FfnBwdCRefIdeal.main_arg1) = m ((c.tc : Thread Cert.FfnBwdCRefIdeal.nD Cert.FfnBwdCRefIdeal.τ).loc Cert.FfnBwdCRefIdeal.main_arg1)
      ∧ r.2.mem ((c.tc : Thread Cert.FfnBwdCRefIdeal.nD Cert.FfnBwdCRefIdeal.τ).loc Cert.FfnBwdCRefIdeal.main_arg2) = m ((c.tc : Thread Cert.FfnBwdCRefIdeal.nD Cert.FfnBwdCRefIdeal.τ).loc Cert.FfnBwdCRefIdeal.main_arg2)
      ∧ r.2.mem ((c.tc : Thread Cert.FfnBwdCRefIdeal.nD Cert.FfnBwdCRefIdeal.τ).loc Cert.FfnBwdCRefIdeal.main_arg3) = m ((c.tc : Thread Cert.FfnBwdCRefIdeal.nD Cert.FfnBwdCRefIdeal.τ).loc Cert.FfnBwdCRefIdeal.main_arg3)
      ∧ r.2.mem ((c.tc : Thread Cert.FfnBwdCRefIdeal.nD Cert.FfnBwdCRefIdeal.τ).loc Cert.FfnBwdCRefIdeal.main_arg4) = m ((c.tc : Thread Cert.FfnBwdCRefIdeal.nD Cert.FfnBwdCRefIdeal.τ).loc Cert.FfnBwdCRefIdeal.main_arg4)
      ∧ r.2.mem ((c.tc : Thread Cert.FfnBwdCRefIdeal.nD Cert.FfnBwdCRefIdeal.τ).loc Cert.FfnBwdCRefIdeal.main_arg5) = m ((c.tc : Thread Cert.FfnBwdCRefIdeal.nD Cert.FfnBwdCRefIdeal.τ).loc Cert.FfnBwdCRefIdeal.main_arg5))
      ∧ r.2.sem = fun _ => 0)

def quiescent_FfnBwdD [hFfnBwdD : Cert.FfnBwdD.Facts] : Prop :=
  ∀ (m : (ℓ : Loc Cert.FfnBwdD.nD Cert.FfnBwdD.τ Cert.FfnBwdD.sig) → Buf (Elt Bits) ℓ) (g : Dev Cert.FfnBwdD.nD → PrngReg), Pre_FfnBwdD m →
    θ_run (Cert.FfnBwdD.defs (F := Bits)) (onTc (τ := Cert.FfnBwdD.τ) (Cert.FfnBwdD.main (F := Bits))) ⟨m, fun _ => 0, g⟩ (fun r => (∀ c : Dev Cert.FfnBwdD.nD,
      r.2.mem ((c.tc : Thread Cert.FfnBwdD.nD Cert.FfnBwdD.τ).loc Cert.FfnBwdD.main_arg0) = m ((c.tc : Thread Cert.FfnBwdD.nD Cert.FfnBwdD.τ).loc Cert.FfnBwdD.main_arg0)
      ∧ r.2.mem ((c.tc : Thread Cert.FfnBwdD.nD Cert.FfnBwdD.τ).loc Cert.FfnBwdD.main_arg1) = m ((c.tc : Thread Cert.FfnBwdD.nD Cert.FfnBwdD.τ).loc Cert.FfnBwdD.main_arg1)
      ∧ r.2.mem ((c.tc : Thread Cert.FfnBwdD.nD Cert.FfnBwdD.τ).loc Cert.FfnBwdD.main_arg2) = m ((c.tc : Thread Cert.FfnBwdD.nD Cert.FfnBwdD.τ).loc Cert.FfnBwdD.main_arg2)
      ∧ r.2.mem ((c.tc : Thread Cert.FfnBwdD.nD Cert.FfnBwdD.τ).loc Cert.FfnBwdD.main_arg3) = m ((c.tc : Thread Cert.FfnBwdD.nD Cert.FfnBwdD.τ).loc Cert.FfnBwdD.main_arg3)
      ∧ r.2.mem ((c.tc : Thread Cert.FfnBwdD.nD Cert.FfnBwdD.τ).loc Cert.FfnBwdD.main_arg4) = m ((c.tc : Thread Cert.FfnBwdD.nD Cert.FfnBwdD.τ).loc Cert.FfnBwdD.main_arg4)
      ∧ r.2.mem ((c.tc : Thread Cert.FfnBwdD.nD Cert.FfnBwdD.τ).loc Cert.FfnBwdD.main_arg5) = m ((c.tc : Thread Cert.FfnBwdD.nD Cert.FfnBwdD.τ).loc Cert.FfnBwdD.main_arg5))
      ∧ r.2.sem = fun _ => 0)

def quiescent_FfnBwdDIdeal [hFfnBwdDIdeal : Cert.FfnBwdDIdeal.Facts] : Prop :=
  ∀ (m : (ℓ : Loc Cert.FfnBwdDIdeal.nD Cert.FfnBwdDIdeal.τ Cert.FfnBwdDIdeal.sig) → Buf (Elt Ideal) ℓ) (g : Dev Cert.FfnBwdDIdeal.nD → PrngReg), Pre_FfnBwdDIdeal m →
    θ_run (Cert.FfnBwdDIdeal.defs (F := Ideal)) (onTc (τ := Cert.FfnBwdDIdeal.τ) (Cert.FfnBwdDIdeal.main (F := Ideal))) ⟨m, fun _ => 0, g⟩ (fun r => (∀ c : Dev Cert.FfnBwdDIdeal.nD,
      r.2.mem ((c.tc : Thread Cert.FfnBwdDIdeal.nD Cert.FfnBwdDIdeal.τ).loc Cert.FfnBwdDIdeal.main_arg0) = m ((c.tc : Thread Cert.FfnBwdDIdeal.nD Cert.FfnBwdDIdeal.τ).loc Cert.FfnBwdDIdeal.main_arg0)
      ∧ r.2.mem ((c.tc : Thread Cert.FfnBwdDIdeal.nD Cert.FfnBwdDIdeal.τ).loc Cert.FfnBwdDIdeal.main_arg1) = m ((c.tc : Thread Cert.FfnBwdDIdeal.nD Cert.FfnBwdDIdeal.τ).loc Cert.FfnBwdDIdeal.main_arg1)
      ∧ r.2.mem ((c.tc : Thread Cert.FfnBwdDIdeal.nD Cert.FfnBwdDIdeal.τ).loc Cert.FfnBwdDIdeal.main_arg2) = m ((c.tc : Thread Cert.FfnBwdDIdeal.nD Cert.FfnBwdDIdeal.τ).loc Cert.FfnBwdDIdeal.main_arg2)
      ∧ r.2.mem ((c.tc : Thread Cert.FfnBwdDIdeal.nD Cert.FfnBwdDIdeal.τ).loc Cert.FfnBwdDIdeal.main_arg3) = m ((c.tc : Thread Cert.FfnBwdDIdeal.nD Cert.FfnBwdDIdeal.τ).loc Cert.FfnBwdDIdeal.main_arg3)
      ∧ r.2.mem ((c.tc : Thread Cert.FfnBwdDIdeal.nD Cert.FfnBwdDIdeal.τ).loc Cert.FfnBwdDIdeal.main_arg4) = m ((c.tc : Thread Cert.FfnBwdDIdeal.nD Cert.FfnBwdDIdeal.τ).loc Cert.FfnBwdDIdeal.main_arg4)
      ∧ r.2.mem ((c.tc : Thread Cert.FfnBwdDIdeal.nD Cert.FfnBwdDIdeal.τ).loc Cert.FfnBwdDIdeal.main_arg5) = m ((c.tc : Thread Cert.FfnBwdDIdeal.nD Cert.FfnBwdDIdeal.τ).loc Cert.FfnBwdDIdeal.main_arg5))
      ∧ r.2.sem = fun _ => 0)

def quiescent_FfnBwdDIdeal_pre_finite [hFfnBwdDIdeal : Cert.FfnBwdDIdeal.Facts] [hPre_finite : Cert.Pre_finite.Facts] : Prop :=
  ∀ (m : (ℓ : Loc Cert.FfnBwdDIdeal.nD Cert.FfnBwdDIdeal.τ Cert.FfnBwdDIdeal.sig) → Buf (Elt Ideal) ℓ) (g : Dev Cert.FfnBwdDIdeal.nD → PrngReg), Pre_FfnBwdDIdeal_finite m →
    θ_run (Cert.FfnBwdDIdeal.defs (F := Ideal)) (onTc (τ := Cert.FfnBwdDIdeal.τ) (Cert.FfnBwdDIdeal.main (F := Ideal))) ⟨m, fun _ => 0, g⟩ (fun r => (∀ c : Dev Cert.FfnBwdDIdeal.nD,
      r.2.mem ((c.tc : Thread Cert.FfnBwdDIdeal.nD Cert.FfnBwdDIdeal.τ).loc Cert.FfnBwdDIdeal.main_arg0) = m ((c.tc : Thread Cert.FfnBwdDIdeal.nD Cert.FfnBwdDIdeal.τ).loc Cert.FfnBwdDIdeal.main_arg0)
      ∧ r.2.mem ((c.tc : Thread Cert.FfnBwdDIdeal.nD Cert.FfnBwdDIdeal.τ).loc Cert.FfnBwdDIdeal.main_arg1) = m ((c.tc : Thread Cert.FfnBwdDIdeal.nD Cert.FfnBwdDIdeal.τ).loc Cert.FfnBwdDIdeal.main_arg1)
      ∧ r.2.mem ((c.tc : Thread Cert.FfnBwdDIdeal.nD Cert.FfnBwdDIdeal.τ).loc Cert.FfnBwdDIdeal.main_arg2) = m ((c.tc : Thread Cert.FfnBwdDIdeal.nD Cert.FfnBwdDIdeal.τ).loc Cert.FfnBwdDIdeal.main_arg2)
      ∧ r.2.mem ((c.tc : Thread Cert.FfnBwdDIdeal.nD Cert.FfnBwdDIdeal.τ).loc Cert.FfnBwdDIdeal.main_arg3) = m ((c.tc : Thread Cert.FfnBwdDIdeal.nD Cert.FfnBwdDIdeal.τ).loc Cert.FfnBwdDIdeal.main_arg3)
      ∧ r.2.mem ((c.tc : Thread Cert.FfnBwdDIdeal.nD Cert.FfnBwdDIdeal.τ).loc Cert.FfnBwdDIdeal.main_arg4) = m ((c.tc : Thread Cert.FfnBwdDIdeal.nD Cert.FfnBwdDIdeal.τ).loc Cert.FfnBwdDIdeal.main_arg4)
      ∧ r.2.mem ((c.tc : Thread Cert.FfnBwdDIdeal.nD Cert.FfnBwdDIdeal.τ).loc Cert.FfnBwdDIdeal.main_arg5) = m ((c.tc : Thread Cert.FfnBwdDIdeal.nD Cert.FfnBwdDIdeal.τ).loc Cert.FfnBwdDIdeal.main_arg5))
      ∧ r.2.sem = fun _ => 0)

def quiescent_FfnBwdDRefIdeal [hFfnBwdDRefIdeal : Cert.FfnBwdDRefIdeal.Facts] : Prop :=
  ∀ (m : (ℓ : Loc Cert.FfnBwdDRefIdeal.nD Cert.FfnBwdDRefIdeal.τ Cert.FfnBwdDRefIdeal.sig) → Buf (Elt Ideal) ℓ) (g : Dev Cert.FfnBwdDRefIdeal.nD → PrngReg), Pre_FfnBwdDRefIdeal m →
    θ_run (Cert.FfnBwdDRefIdeal.defs (F := Ideal)) (onTc (τ := Cert.FfnBwdDRefIdeal.τ) (Cert.FfnBwdDRefIdeal.main (F := Ideal))) ⟨m, fun _ => 0, g⟩ (fun r => (∀ c : Dev Cert.FfnBwdDRefIdeal.nD,
      r.2.mem ((c.tc : Thread Cert.FfnBwdDRefIdeal.nD Cert.FfnBwdDRefIdeal.τ).loc Cert.FfnBwdDRefIdeal.main_arg0) = m ((c.tc : Thread Cert.FfnBwdDRefIdeal.nD Cert.FfnBwdDRefIdeal.τ).loc Cert.FfnBwdDRefIdeal.main_arg0)
      ∧ r.2.mem ((c.tc : Thread Cert.FfnBwdDRefIdeal.nD Cert.FfnBwdDRefIdeal.τ).loc Cert.FfnBwdDRefIdeal.main_arg1) = m ((c.tc : Thread Cert.FfnBwdDRefIdeal.nD Cert.FfnBwdDRefIdeal.τ).loc Cert.FfnBwdDRefIdeal.main_arg1)
      ∧ r.2.mem ((c.tc : Thread Cert.FfnBwdDRefIdeal.nD Cert.FfnBwdDRefIdeal.τ).loc Cert.FfnBwdDRefIdeal.main_arg2) = m ((c.tc : Thread Cert.FfnBwdDRefIdeal.nD Cert.FfnBwdDRefIdeal.τ).loc Cert.FfnBwdDRefIdeal.main_arg2)
      ∧ r.2.mem ((c.tc : Thread Cert.FfnBwdDRefIdeal.nD Cert.FfnBwdDRefIdeal.τ).loc Cert.FfnBwdDRefIdeal.main_arg3) = m ((c.tc : Thread Cert.FfnBwdDRefIdeal.nD Cert.FfnBwdDRefIdeal.τ).loc Cert.FfnBwdDRefIdeal.main_arg3)
      ∧ r.2.mem ((c.tc : Thread Cert.FfnBwdDRefIdeal.nD Cert.FfnBwdDRefIdeal.τ).loc Cert.FfnBwdDRefIdeal.main_arg4) = m ((c.tc : Thread Cert.FfnBwdDRefIdeal.nD Cert.FfnBwdDRefIdeal.τ).loc Cert.FfnBwdDRefIdeal.main_arg4)
      ∧ r.2.mem ((c.tc : Thread Cert.FfnBwdDRefIdeal.nD Cert.FfnBwdDRefIdeal.τ).loc Cert.FfnBwdDRefIdeal.main_arg5) = m ((c.tc : Thread Cert.FfnBwdDRefIdeal.nD Cert.FfnBwdDRefIdeal.τ).loc Cert.FfnBwdDRefIdeal.main_arg5))
      ∧ r.2.sem = fun _ => 0)

def quiescent_FfnBwdDRefIdeal_pre_finite [hFfnBwdDRefIdeal : Cert.FfnBwdDRefIdeal.Facts] [hPre_finite : Cert.Pre_finite.Facts] : Prop :=
  ∀ (m : (ℓ : Loc Cert.FfnBwdDRefIdeal.nD Cert.FfnBwdDRefIdeal.τ Cert.FfnBwdDRefIdeal.sig) → Buf (Elt Ideal) ℓ) (g : Dev Cert.FfnBwdDRefIdeal.nD → PrngReg), Pre_FfnBwdDRefIdeal_finite m →
    θ_run (Cert.FfnBwdDRefIdeal.defs (F := Ideal)) (onTc (τ := Cert.FfnBwdDRefIdeal.τ) (Cert.FfnBwdDRefIdeal.main (F := Ideal))) ⟨m, fun _ => 0, g⟩ (fun r => (∀ c : Dev Cert.FfnBwdDRefIdeal.nD,
      r.2.mem ((c.tc : Thread Cert.FfnBwdDRefIdeal.nD Cert.FfnBwdDRefIdeal.τ).loc Cert.FfnBwdDRefIdeal.main_arg0) = m ((c.tc : Thread Cert.FfnBwdDRefIdeal.nD Cert.FfnBwdDRefIdeal.τ).loc Cert.FfnBwdDRefIdeal.main_arg0)
      ∧ r.2.mem ((c.tc : Thread Cert.FfnBwdDRefIdeal.nD Cert.FfnBwdDRefIdeal.τ).loc Cert.FfnBwdDRefIdeal.main_arg1) = m ((c.tc : Thread Cert.FfnBwdDRefIdeal.nD Cert.FfnBwdDRefIdeal.τ).loc Cert.FfnBwdDRefIdeal.main_arg1)
      ∧ r.2.mem ((c.tc : Thread Cert.FfnBwdDRefIdeal.nD Cert.FfnBwdDRefIdeal.τ).loc Cert.FfnBwdDRefIdeal.main_arg2) = m ((c.tc : Thread Cert.FfnBwdDRefIdeal.nD Cert.FfnBwdDRefIdeal.τ).loc Cert.FfnBwdDRefIdeal.main_arg2)
      ∧ r.2.mem ((c.tc : Thread Cert.FfnBwdDRefIdeal.nD Cert.FfnBwdDRefIdeal.τ).loc Cert.FfnBwdDRefIdeal.main_arg3) = m ((c.tc : Thread Cert.FfnBwdDRefIdeal.nD Cert.FfnBwdDRefIdeal.τ).loc Cert.FfnBwdDRefIdeal.main_arg3)
      ∧ r.2.mem ((c.tc : Thread Cert.FfnBwdDRefIdeal.nD Cert.FfnBwdDRefIdeal.τ).loc Cert.FfnBwdDRefIdeal.main_arg4) = m ((c.tc : Thread Cert.FfnBwdDRefIdeal.nD Cert.FfnBwdDRefIdeal.τ).loc Cert.FfnBwdDRefIdeal.main_arg4)
      ∧ r.2.mem ((c.tc : Thread Cert.FfnBwdDRefIdeal.nD Cert.FfnBwdDRefIdeal.τ).loc Cert.FfnBwdDRefIdeal.main_arg5) = m ((c.tc : Thread Cert.FfnBwdDRefIdeal.nD Cert.FfnBwdDRefIdeal.τ).loc Cert.FfnBwdDRefIdeal.main_arg5))
      ∧ r.2.sem = fun _ => 0)

def quiescent_AdamRow [hAdamRow : Cert.AdamRow.Facts] : Prop :=
  ∀ (m : (ℓ : Loc Cert.AdamRow.nD Cert.AdamRow.τ Cert.AdamRow.sig) → Buf (Elt Bits) ℓ) (g : Dev Cert.AdamRow.nD → PrngReg), Pre_AdamRow m →
    θ_run (Cert.AdamRow.defs (F := Bits)) (onTc (τ := Cert.AdamRow.τ) (Cert.AdamRow.main (F := Bits))) ⟨m, fun _ => 0, g⟩ (fun r => (∀ c : Dev Cert.AdamRow.nD,
      r.2.mem ((c.tc : Thread Cert.AdamRow.nD Cert.AdamRow.τ).loc Cert.AdamRow.main_arg0) = m ((c.tc : Thread Cert.AdamRow.nD Cert.AdamRow.τ).loc Cert.AdamRow.main_arg0)
      ∧ r.2.mem ((c.tc : Thread Cert.AdamRow.nD Cert.AdamRow.τ).loc Cert.AdamRow.main_arg1) = m ((c.tc : Thread Cert.AdamRow.nD Cert.AdamRow.τ).loc Cert.AdamRow.main_arg1)
      ∧ r.2.mem ((c.tc : Thread Cert.AdamRow.nD Cert.AdamRow.τ).loc Cert.AdamRow.main_arg2) = m ((c.tc : Thread Cert.AdamRow.nD Cert.AdamRow.τ).loc Cert.AdamRow.main_arg2)
      ∧ r.2.mem ((c.tc : Thread Cert.AdamRow.nD Cert.AdamRow.τ).loc Cert.AdamRow.main_arg3) = m ((c.tc : Thread Cert.AdamRow.nD Cert.AdamRow.τ).loc Cert.AdamRow.main_arg3))
      ∧ r.2.sem = fun _ => 0)

def quiescent_AdamRowIdeal [hAdamRowIdeal : Cert.AdamRowIdeal.Facts] : Prop :=
  ∀ (m : (ℓ : Loc Cert.AdamRowIdeal.nD Cert.AdamRowIdeal.τ Cert.AdamRowIdeal.sig) → Buf (Elt Ideal) ℓ) (g : Dev Cert.AdamRowIdeal.nD → PrngReg), Pre_AdamRowIdeal m →
    θ_run (Cert.AdamRowIdeal.defs (F := Ideal)) (onTc (τ := Cert.AdamRowIdeal.τ) (Cert.AdamRowIdeal.main (F := Ideal))) ⟨m, fun _ => 0, g⟩ (fun r => (∀ c : Dev Cert.AdamRowIdeal.nD,
      r.2.mem ((c.tc : Thread Cert.AdamRowIdeal.nD Cert.AdamRowIdeal.τ).loc Cert.AdamRowIdeal.main_arg0) = m ((c.tc : Thread Cert.AdamRowIdeal.nD Cert.AdamRowIdeal.τ).loc Cert.AdamRowIdeal.main_arg0)
      ∧ r.2.mem ((c.tc : Thread Cert.AdamRowIdeal.nD Cert.AdamRowIdeal.τ).loc Cert.AdamRowIdeal.main_arg1) = m ((c.tc : Thread Cert.AdamRowIdeal.nD Cert.AdamRowIdeal.τ).loc Cert.AdamRowIdeal.main_arg1)
      ∧ r.2.mem ((c.tc : Thread Cert.AdamRowIdeal.nD Cert.AdamRowIdeal.τ).loc Cert.AdamRowIdeal.main_arg2) = m ((c.tc : Thread Cert.AdamRowIdeal.nD Cert.AdamRowIdeal.τ).loc Cert.AdamRowIdeal.main_arg2)
      ∧ r.2.mem ((c.tc : Thread Cert.AdamRowIdeal.nD Cert.AdamRowIdeal.τ).loc Cert.AdamRowIdeal.main_arg3) = m ((c.tc : Thread Cert.AdamRowIdeal.nD Cert.AdamRowIdeal.τ).loc Cert.AdamRowIdeal.main_arg3))
      ∧ r.2.sem = fun _ => 0)

def quiescent_AdamRowRefIdeal [hAdamRowRefIdeal : Cert.AdamRowRefIdeal.Facts] : Prop :=
  ∀ (m : (ℓ : Loc Cert.AdamRowRefIdeal.nD Cert.AdamRowRefIdeal.τ Cert.AdamRowRefIdeal.sig) → Buf (Elt Ideal) ℓ) (g : Dev Cert.AdamRowRefIdeal.nD → PrngReg), Pre_AdamRowRefIdeal m →
    θ_run (Cert.AdamRowRefIdeal.defs (F := Ideal)) (onTc (τ := Cert.AdamRowRefIdeal.τ) (Cert.AdamRowRefIdeal.main (F := Ideal))) ⟨m, fun _ => 0, g⟩ (fun r => (∀ c : Dev Cert.AdamRowRefIdeal.nD,
      r.2.mem ((c.tc : Thread Cert.AdamRowRefIdeal.nD Cert.AdamRowRefIdeal.τ).loc Cert.AdamRowRefIdeal.main_arg0) = m ((c.tc : Thread Cert.AdamRowRefIdeal.nD Cert.AdamRowRefIdeal.τ).loc Cert.AdamRowRefIdeal.main_arg0)
      ∧ r.2.mem ((c.tc : Thread Cert.AdamRowRefIdeal.nD Cert.AdamRowRefIdeal.τ).loc Cert.AdamRowRefIdeal.main_arg1) = m ((c.tc : Thread Cert.AdamRowRefIdeal.nD Cert.AdamRowRefIdeal.τ).loc Cert.AdamRowRefIdeal.main_arg1)
      ∧ r.2.mem ((c.tc : Thread Cert.AdamRowRefIdeal.nD Cert.AdamRowRefIdeal.τ).loc Cert.AdamRowRefIdeal.main_arg2) = m ((c.tc : Thread Cert.AdamRowRefIdeal.nD Cert.AdamRowRefIdeal.τ).loc Cert.AdamRowRefIdeal.main_arg2)
      ∧ r.2.mem ((c.tc : Thread Cert.AdamRowRefIdeal.nD Cert.AdamRowRefIdeal.τ).loc Cert.AdamRowRefIdeal.main_arg3) = m ((c.tc : Thread Cert.AdamRowRefIdeal.nD Cert.AdamRowRefIdeal.τ).loc Cert.AdamRowRefIdeal.main_arg3))
      ∧ r.2.sem = fun _ => 0)

def quiescent_AdamMod [hAdamMod : Cert.AdamMod.Facts] : Prop :=
  ∀ (m : (ℓ : Loc Cert.AdamMod.nD Cert.AdamMod.τ Cert.AdamMod.sig) → Buf (Elt Bits) ℓ) (g : Dev Cert.AdamMod.nD → PrngReg), Pre_AdamMod m →
    θ_run (Cert.AdamMod.defs (F := Bits)) (onTc (τ := Cert.AdamMod.τ) (Cert.AdamMod.main (F := Bits))) ⟨m, fun _ => 0, g⟩ (fun r => (∀ c : Dev Cert.AdamMod.nD,
      r.2.mem ((c.tc : Thread Cert.AdamMod.nD Cert.AdamMod.τ).loc Cert.AdamMod.main_arg0) = m ((c.tc : Thread Cert.AdamMod.nD Cert.AdamMod.τ).loc Cert.AdamMod.main_arg0)
      ∧ r.2.mem ((c.tc : Thread Cert.AdamMod.nD Cert.AdamMod.τ).loc Cert.AdamMod.main_arg1) = m ((c.tc : Thread Cert.AdamMod.nD Cert.AdamMod.τ).loc Cert.AdamMod.main_arg1)
      ∧ r.2.mem ((c.tc : Thread Cert.AdamMod.nD Cert.AdamMod.τ).loc Cert.AdamMod.main_arg2) = m ((c.tc : Thread Cert.AdamMod.nD Cert.AdamMod.τ).loc Cert.AdamMod.main_arg2)
      ∧ r.2.mem ((c.tc : Thread Cert.AdamMod.nD Cert.AdamMod.τ).loc Cert.AdamMod.main_arg3) = m ((c.tc : Thread Cert.AdamMod.nD Cert.AdamMod.τ).loc Cert.AdamMod.main_arg3))
      ∧ r.2.sem = fun _ => 0)

def quiescent_AdamModIdeal [hAdamModIdeal : Cert.AdamModIdeal.Facts] : Prop :=
  ∀ (m : (ℓ : Loc Cert.AdamModIdeal.nD Cert.AdamModIdeal.τ Cert.AdamModIdeal.sig) → Buf (Elt Ideal) ℓ) (g : Dev Cert.AdamModIdeal.nD → PrngReg), Pre_AdamModIdeal m →
    θ_run (Cert.AdamModIdeal.defs (F := Ideal)) (onTc (τ := Cert.AdamModIdeal.τ) (Cert.AdamModIdeal.main (F := Ideal))) ⟨m, fun _ => 0, g⟩ (fun r => (∀ c : Dev Cert.AdamModIdeal.nD,
      r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
      ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
      ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
      ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ r.2.sem = fun _ => 0)

def quiescent_AdamModRefIdeal [hAdamModRefIdeal : Cert.AdamModRefIdeal.Facts] : Prop :=
  ∀ (m : (ℓ : Loc Cert.AdamModRefIdeal.nD Cert.AdamModRefIdeal.τ Cert.AdamModRefIdeal.sig) → Buf (Elt Ideal) ℓ) (g : Dev Cert.AdamModRefIdeal.nD → PrngReg), Pre_AdamModRefIdeal m →
    θ_run (Cert.AdamModRefIdeal.defs (F := Ideal)) (onTc (τ := Cert.AdamModRefIdeal.τ) (Cert.AdamModRefIdeal.main (F := Ideal))) ⟨m, fun _ => 0, g⟩ (fun r => (∀ c : Dev Cert.AdamModRefIdeal.nD,
      r.2.mem ((c.tc : Thread Cert.AdamModRefIdeal.nD Cert.AdamModRefIdeal.τ).loc Cert.AdamModRefIdeal.main_arg0) = m ((c.tc : Thread Cert.AdamModRefIdeal.nD Cert.AdamModRefIdeal.τ).loc Cert.AdamModRefIdeal.main_arg0)
      ∧ r.2.mem ((c.tc : Thread Cert.AdamModRefIdeal.nD Cert.AdamModRefIdeal.τ).loc Cert.AdamModRefIdeal.main_arg1) = m ((c.tc : Thread Cert.AdamModRefIdeal.nD Cert.AdamModRefIdeal.τ).loc Cert.AdamModRefIdeal.main_arg1)
      ∧ r.2.mem ((c.tc : Thread Cert.AdamModRefIdeal.nD Cert.AdamModRefIdeal.τ).loc Cert.AdamModRefIdeal.main_arg2) = m ((c.tc : Thread Cert.AdamModRefIdeal.nD Cert.AdamModRefIdeal.τ).loc Cert.AdamModRefIdeal.main_arg2)
      ∧ r.2.mem ((c.tc : Thread Cert.AdamModRefIdeal.nD Cert.AdamModRefIdeal.τ).loc Cert.AdamModRefIdeal.main_arg3) = m ((c.tc : Thread Cert.AdamModRefIdeal.nD Cert.AdamModRefIdeal.τ).loc Cert.AdamModRefIdeal.main_arg3))
      ∧ r.2.sem = fun _ => 0)

def quiescent_AdamBias [hAdamBias : Cert.AdamBias.Facts] : Prop :=
  ∀ (m : (ℓ : Loc Cert.AdamBias.nD Cert.AdamBias.τ Cert.AdamBias.sig) → Buf (Elt Bits) ℓ) (g : Dev Cert.AdamBias.nD → PrngReg), Pre_AdamBias m →
    θ_run (Cert.AdamBias.defs (F := Bits)) (onTc (τ := Cert.AdamBias.τ) (Cert.AdamBias.main (F := Bits))) ⟨m, fun _ => 0, g⟩ (fun r => (∀ c : Dev Cert.AdamBias.nD,
      r.2.mem ((c.tc : Thread Cert.AdamBias.nD Cert.AdamBias.τ).loc Cert.AdamBias.main_arg0) = m ((c.tc : Thread Cert.AdamBias.nD Cert.AdamBias.τ).loc Cert.AdamBias.main_arg0)
      ∧ r.2.mem ((c.tc : Thread Cert.AdamBias.nD Cert.AdamBias.τ).loc Cert.AdamBias.main_arg1) = m ((c.tc : Thread Cert.AdamBias.nD Cert.AdamBias.τ).loc Cert.AdamBias.main_arg1)
      ∧ r.2.mem ((c.tc : Thread Cert.AdamBias.nD Cert.AdamBias.τ).loc Cert.AdamBias.main_arg2) = m ((c.tc : Thread Cert.AdamBias.nD Cert.AdamBias.τ).loc Cert.AdamBias.main_arg2)
      ∧ r.2.mem ((c.tc : Thread Cert.AdamBias.nD Cert.AdamBias.τ).loc Cert.AdamBias.main_arg3) = m ((c.tc : Thread Cert.AdamBias.nD Cert.AdamBias.τ).loc Cert.AdamBias.main_arg3))
      ∧ r.2.sem = fun _ => 0)

def quiescent_AdamBiasIdeal [hAdamBiasIdeal : Cert.AdamBiasIdeal.Facts] : Prop :=
  ∀ (m : (ℓ : Loc Cert.AdamBiasIdeal.nD Cert.AdamBiasIdeal.τ Cert.AdamBiasIdeal.sig) → Buf (Elt Ideal) ℓ) (g : Dev Cert.AdamBiasIdeal.nD → PrngReg), Pre_AdamBiasIdeal m →
    θ_run (Cert.AdamBiasIdeal.defs (F := Ideal)) (onTc (τ := Cert.AdamBiasIdeal.τ) (Cert.AdamBiasIdeal.main (F := Ideal))) ⟨m, fun _ => 0, g⟩ (fun r => (∀ c : Dev Cert.AdamBiasIdeal.nD,
      r.2.mem ((c.tc : Thread Cert.AdamBiasIdeal.nD Cert.AdamBiasIdeal.τ).loc Cert.AdamBiasIdeal.main_arg0) = m ((c.tc : Thread Cert.AdamBiasIdeal.nD Cert.AdamBiasIdeal.τ).loc Cert.AdamBiasIdeal.main_arg0)
      ∧ r.2.mem ((c.tc : Thread Cert.AdamBiasIdeal.nD Cert.AdamBiasIdeal.τ).loc Cert.AdamBiasIdeal.main_arg1) = m ((c.tc : Thread Cert.AdamBiasIdeal.nD Cert.AdamBiasIdeal.τ).loc Cert.AdamBiasIdeal.main_arg1)
      ∧ r.2.mem ((c.tc : Thread Cert.AdamBiasIdeal.nD Cert.AdamBiasIdeal.τ).loc Cert.AdamBiasIdeal.main_arg2) = m ((c.tc : Thread Cert.AdamBiasIdeal.nD Cert.AdamBiasIdeal.τ).loc Cert.AdamBiasIdeal.main_arg2)
      ∧ r.2.mem ((c.tc : Thread Cert.AdamBiasIdeal.nD Cert.AdamBiasIdeal.τ).loc Cert.AdamBiasIdeal.main_arg3) = m ((c.tc : Thread Cert.AdamBiasIdeal.nD Cert.AdamBiasIdeal.τ).loc Cert.AdamBiasIdeal.main_arg3))
      ∧ r.2.sem = fun _ => 0)

def quiescent_AdamBiasRefIdeal [hAdamBiasRefIdeal : Cert.AdamBiasRefIdeal.Facts] : Prop :=
  ∀ (m : (ℓ : Loc Cert.AdamBiasRefIdeal.nD Cert.AdamBiasRefIdeal.τ Cert.AdamBiasRefIdeal.sig) → Buf (Elt Ideal) ℓ) (g : Dev Cert.AdamBiasRefIdeal.nD → PrngReg), Pre_AdamBiasRefIdeal m →
    θ_run (Cert.AdamBiasRefIdeal.defs (F := Ideal)) (onTc (τ := Cert.AdamBiasRefIdeal.τ) (Cert.AdamBiasRefIdeal.main (F := Ideal))) ⟨m, fun _ => 0, g⟩ (fun r => (∀ c : Dev Cert.AdamBiasRefIdeal.nD,
      r.2.mem ((c.tc : Thread Cert.AdamBiasRefIdeal.nD Cert.AdamBiasRefIdeal.τ).loc Cert.AdamBiasRefIdeal.main_arg0) = m ((c.tc : Thread Cert.AdamBiasRefIdeal.nD Cert.AdamBiasRefIdeal.τ).loc Cert.AdamBiasRefIdeal.main_arg0)
      ∧ r.2.mem ((c.tc : Thread Cert.AdamBiasRefIdeal.nD Cert.AdamBiasRefIdeal.τ).loc Cert.AdamBiasRefIdeal.main_arg1) = m ((c.tc : Thread Cert.AdamBiasRefIdeal.nD Cert.AdamBiasRefIdeal.τ).loc Cert.AdamBiasRefIdeal.main_arg1)
      ∧ r.2.mem ((c.tc : Thread Cert.AdamBiasRefIdeal.nD Cert.AdamBiasRefIdeal.τ).loc Cert.AdamBiasRefIdeal.main_arg2) = m ((c.tc : Thread Cert.AdamBiasRefIdeal.nD Cert.AdamBiasRefIdeal.τ).loc Cert.AdamBiasRefIdeal.main_arg2)
      ∧ r.2.mem ((c.tc : Thread Cert.AdamBiasRefIdeal.nD Cert.AdamBiasRefIdeal.τ).loc Cert.AdamBiasRefIdeal.main_arg3) = m ((c.tc : Thread Cert.AdamBiasRefIdeal.nD Cert.AdamBiasRefIdeal.τ).loc Cert.AdamBiasRefIdeal.main_arg3))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_AdamNormRefIdeal [hAdamNormRefIdeal : Cert.AdamNormRefIdeal.Facts] : Prop :=
  ∀ (m : (ℓ : Loc Cert.AdamNormRefIdeal.nD Cert.AdamNormRefIdeal.τ Cert.AdamNormRefIdeal.sig) → Buf (Elt Ideal) ℓ) (g : Dev Cert.AdamNormRefIdeal.nD → PrngReg), Pre_AdamNormRefIdeal m →
    θ_run (Cert.AdamNormRefIdeal.defs (F := Ideal)) (onTc (τ := Cert.AdamNormRefIdeal.τ) (Cert.AdamNormRefIdeal.main (F := Ideal))) ⟨m, fun _ => 0, g⟩ (fun r => (∀ c : Dev Cert.AdamNormRefIdeal.nD,
      r.2.mem ((c.tc : Thread Cert.AdamNormRefIdeal.nD Cert.AdamNormRefIdeal.τ).loc Cert.AdamNormRefIdeal.main_arg0) = m ((c.tc : Thread Cert.AdamNormRefIdeal.nD Cert.AdamNormRefIdeal.τ).loc Cert.AdamNormRefIdeal.main_arg0)
      ∧ r.2.mem ((c.tc : Thread Cert.AdamNormRefIdeal.nD Cert.AdamNormRefIdeal.τ).loc Cert.AdamNormRefIdeal.main_arg1) = m ((c.tc : Thread Cert.AdamNormRefIdeal.nD Cert.AdamNormRefIdeal.τ).loc Cert.AdamNormRefIdeal.main_arg1)
      ∧ r.2.mem ((c.tc : Thread Cert.AdamNormRefIdeal.nD Cert.AdamNormRefIdeal.τ).loc Cert.AdamNormRefIdeal.main_arg2) = m ((c.tc : Thread Cert.AdamNormRefIdeal.nD Cert.AdamNormRefIdeal.τ).loc Cert.AdamNormRefIdeal.main_arg2)
      ∧ r.2.mem ((c.tc : Thread Cert.AdamNormRefIdeal.nD Cert.AdamNormRefIdeal.τ).loc Cert.AdamNormRefIdeal.main_arg3) = m ((c.tc : Thread Cert.AdamNormRefIdeal.nD Cert.AdamNormRefIdeal.τ).loc Cert.AdamNormRefIdeal.main_arg3))
      ∧ r.2.sem = fun _ => 0)

def quiescent_AdamPool [hAdamPool : Cert.AdamPool.Facts] : Prop :=
  ∀ (m : (ℓ : Loc Cert.AdamPool.nD Cert.AdamPool.τ Cert.AdamPool.sig) → Buf (Elt Bits) ℓ) (g : Dev Cert.AdamPool.nD → PrngReg), Pre_AdamPool m →
    θ_run (Cert.AdamPool.defs (F := Bits)) (onTc (τ := Cert.AdamPool.τ) (Cert.AdamPool.main (F := Bits))) ⟨m, fun _ => 0, g⟩ (fun r => (∀ c : Dev Cert.AdamPool.nD,
      r.2.mem ((c.tc : Thread Cert.AdamPool.nD Cert.AdamPool.τ).loc Cert.AdamPool.main_arg0) = m ((c.tc : Thread Cert.AdamPool.nD Cert.AdamPool.τ).loc Cert.AdamPool.main_arg0)
      ∧ r.2.mem ((c.tc : Thread Cert.AdamPool.nD Cert.AdamPool.τ).loc Cert.AdamPool.main_arg1) = m ((c.tc : Thread Cert.AdamPool.nD Cert.AdamPool.τ).loc Cert.AdamPool.main_arg1)
      ∧ r.2.mem ((c.tc : Thread Cert.AdamPool.nD Cert.AdamPool.τ).loc Cert.AdamPool.main_arg2) = m ((c.tc : Thread Cert.AdamPool.nD Cert.AdamPool.τ).loc Cert.AdamPool.main_arg2)
      ∧ r.2.mem ((c.tc : Thread Cert.AdamPool.nD Cert.AdamPool.τ).loc Cert.AdamPool.main_arg3) = m ((c.tc : Thread Cert.AdamPool.nD Cert.AdamPool.τ).loc Cert.AdamPool.main_arg3))
      ∧ r.2.sem = fun _ => 0)

def quiescent_AdamPoolIdeal [hAdamPoolIdeal : Cert.AdamPoolIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg), Pre_AdamPoolIdeal m →
    θ_run (Cert.AdamPoolIdeal.defs (F := Ideal)) (onTc (τ := Cert.AdamPoolIdeal.τ) (Cert.AdamPoolIdeal.main (F := Ideal))) ⟨m, fun _ => 0, g⟩ (fun r => (∀ c : Dev Cert.AdamPoolIdeal.nD,
      r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
      ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
      ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
      ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ r.2.sem = fun _ => 0)

def quiescent_AdamPoolRefIdeal [hAdamPoolRefIdeal : Cert.AdamPoolRefIdeal.Facts] : Prop :=
  ∀ (m : (ℓ : Loc Cert.AdamPoolRefIdeal.nD Cert.AdamPoolRefIdeal.τ Cert.AdamPoolRefIdeal.sig) → Buf (Elt Ideal) ℓ) (g : Dev Cert.AdamPoolRefIdeal.nD → PrngReg), Pre_AdamPoolRefIdeal m →
    θ_run (Cert.AdamPoolRefIdeal.defs (F := Ideal)) (onTc (τ := Cert.AdamPoolRefIdeal.τ) (Cert.AdamPoolRefIdeal.main (F := Ideal))) ⟨m, fun _ => 0, g⟩ (fun r => (∀ c : Dev Cert.AdamPoolRefIdeal.nD,
      r.2.mem ((c.tc : Thread Cert.AdamPoolRefIdeal.nD Cert.AdamPoolRefIdeal.τ).loc Cert.AdamPoolRefIdeal.main_arg0) = m ((c.tc : Thread Cert.AdamPoolRefIdeal.nD Cert.AdamPoolRefIdeal.τ).loc Cert.AdamPoolRefIdeal.main_arg0)
      ∧ r.2.mem ((c.tc : Thread Cert.AdamPoolRefIdeal.nD Cert.AdamPoolRefIdeal.τ).loc Cert.AdamPoolRefIdeal.main_arg1) = m ((c.tc : Thread Cert.AdamPoolRefIdeal.nD Cert.AdamPoolRefIdeal.τ).loc Cert.AdamPoolRefIdeal.main_arg1)
      ∧ r.2.mem ((c.tc : Thread Cert.AdamPoolRefIdeal.nD Cert.AdamPoolRefIdeal.τ).loc Cert.AdamPoolRefIdeal.main_arg2) = m ((c.tc : Thread Cert.AdamPoolRefIdeal.nD Cert.AdamPoolRefIdeal.τ).loc Cert.AdamPoolRefIdeal.main_arg2)
      ∧ r.2.mem ((c.tc : Thread Cert.AdamPoolRefIdeal.nD Cert.AdamPoolRefIdeal.τ).loc Cert.AdamPoolRefIdeal.main_arg3) = m ((c.tc : Thread Cert.AdamPoolRefIdeal.nD Cert.AdamPoolRefIdeal.τ).loc Cert.AdamPoolRefIdeal.main_arg3))
      ∧ r.2.sem = fun _ => 0)

def quiescent_AdamScale [hAdamScale : Cert.AdamScale.Facts] : Prop :=
  ∀ (m : (ℓ : Loc Cert.AdamScale.nD Cert.AdamScale.τ Cert.AdamScale.sig) → Buf (Elt Bits) ℓ) (g : Dev Cert.AdamScale.nD → PrngReg), Pre_AdamScale m →
    θ_run (Cert.AdamScale.defs (F := Bits)) (onTc (τ := Cert.AdamScale.τ) (Cert.AdamScale.main (F := Bits))) ⟨m, fun _ => 0, g⟩ (fun r => (∀ c : Dev Cert.AdamScale.nD,
      r.2.mem ((c.tc : Thread Cert.AdamScale.nD Cert.AdamScale.τ).loc Cert.AdamScale.main_arg0) = m ((c.tc : Thread Cert.AdamScale.nD Cert.AdamScale.τ).loc Cert.AdamScale.main_arg0)
      ∧ r.2.mem ((c.tc : Thread Cert.AdamScale.nD Cert.AdamScale.τ).loc Cert.AdamScale.main_arg1) = m ((c.tc : Thread Cert.AdamScale.nD Cert.AdamScale.τ).loc Cert.AdamScale.main_arg1)
      ∧ r.2.mem ((c.tc : Thread Cert.AdamScale.nD Cert.AdamScale.τ).loc Cert.AdamScale.main_arg2) = m ((c.tc : Thread Cert.AdamScale.nD Cert.AdamScale.τ).loc Cert.AdamScale.main_arg2)
      ∧ r.2.mem ((c.tc : Thread Cert.AdamScale.nD Cert.AdamScale.τ).loc Cert.AdamScale.main_arg3) = m ((c.tc : Thread Cert.AdamScale.nD Cert.AdamScale.τ).loc Cert.AdamScale.main_arg3))
      ∧ r.2.sem = fun _ => 0)

def quiescent_AdamScaleIdeal [hAdamScaleIdeal : Cert.AdamScaleIdeal.Facts] : Prop :=
  ∀ (m : (ℓ : Loc Cert.AdamScaleIdeal.nD Cert.AdamScaleIdeal.τ Cert.AdamScaleIdeal.sig) → Buf (Elt Ideal) ℓ) (g : Dev Cert.AdamScaleIdeal.nD → PrngReg), Pre_AdamScaleIdeal m →
    θ_run (Cert.AdamScaleIdeal.defs (F := Ideal)) (onTc (τ := Cert.AdamScaleIdeal.τ) (Cert.AdamScaleIdeal.main (F := Ideal))) ⟨m, fun _ => 0, g⟩ (fun r => (∀ c : Dev Cert.AdamScaleIdeal.nD,
      r.2.mem ((c.tc : Thread Cert.AdamScaleIdeal.nD Cert.AdamScaleIdeal.τ).loc Cert.AdamScaleIdeal.main_arg0) = m ((c.tc : Thread Cert.AdamScaleIdeal.nD Cert.AdamScaleIdeal.τ).loc Cert.AdamScaleIdeal.main_arg0)
      ∧ r.2.mem ((c.tc : Thread Cert.AdamScaleIdeal.nD Cert.AdamScaleIdeal.τ).loc Cert.AdamScaleIdeal.main_arg1) = m ((c.tc : Thread Cert.AdamScaleIdeal.nD Cert.AdamScaleIdeal.τ).loc Cert.AdamScaleIdeal.main_arg1)
      ∧ r.2.mem ((c.tc : Thread Cert.AdamScaleIdeal.nD Cert.AdamScaleIdeal.τ).loc Cert.AdamScaleIdeal.main_arg2) = m ((c.tc : Thread Cert.AdamScaleIdeal.nD Cert.AdamScaleIdeal.τ).loc Cert.AdamScaleIdeal.main_arg2)
      ∧ r.2.mem ((c.tc : Thread Cert.AdamScaleIdeal.nD Cert.AdamScaleIdeal.τ).loc Cert.AdamScaleIdeal.main_arg3) = m ((c.tc : Thread Cert.AdamScaleIdeal.nD Cert.AdamScaleIdeal.τ).loc Cert.AdamScaleIdeal.main_arg3))
      ∧ r.2.sem = fun _ => 0)

def quiescent_AdamScaleRefIdeal [hAdamScaleRefIdeal : Cert.AdamScaleRefIdeal.Facts] : Prop :=
  ∀ (m : (ℓ : Loc Cert.AdamScaleRefIdeal.nD Cert.AdamScaleRefIdeal.τ Cert.AdamScaleRefIdeal.sig) → Buf (Elt Ideal) ℓ) (g : Dev Cert.AdamScaleRefIdeal.nD → PrngReg), Pre_AdamScaleRefIdeal m →
    θ_run (Cert.AdamScaleRefIdeal.defs (F := Ideal)) (onTc (τ := Cert.AdamScaleRefIdeal.τ) (Cert.AdamScaleRefIdeal.main (F := Ideal))) ⟨m, fun _ => 0, g⟩ (fun r => (∀ c : Dev Cert.AdamScaleRefIdeal.nD,
      r.2.mem ((c.tc : Thread Cert.AdamScaleRefIdeal.nD Cert.AdamScaleRefIdeal.τ).loc Cert.AdamScaleRefIdeal.main_arg0) = m ((c.tc : Thread Cert.AdamScaleRefIdeal.nD Cert.AdamScaleRefIdeal.τ).loc Cert.AdamScaleRefIdeal.main_arg0)
      ∧ r.2.mem ((c.tc : Thread Cert.AdamScaleRefIdeal.nD Cert.AdamScaleRefIdeal.τ).loc Cert.AdamScaleRefIdeal.main_arg1) = m ((c.tc : Thread Cert.AdamScaleRefIdeal.nD Cert.AdamScaleRefIdeal.τ).loc Cert.AdamScaleRefIdeal.main_arg1)
      ∧ r.2.mem ((c.tc : Thread Cert.AdamScaleRefIdeal.nD Cert.AdamScaleRefIdeal.τ).loc Cert.AdamScaleRefIdeal.main_arg2) = m ((c.tc : Thread Cert.AdamScaleRefIdeal.nD Cert.AdamScaleRefIdeal.τ).loc Cert.AdamScaleRefIdeal.main_arg2)
      ∧ r.2.mem ((c.tc : Thread Cert.AdamScaleRefIdeal.nD Cert.AdamScaleRefIdeal.τ).loc Cert.AdamScaleRefIdeal.main_arg3) = m ((c.tc : Thread Cert.AdamScaleRefIdeal.nD Cert.AdamScaleRefIdeal.τ).loc Cert.AdamScaleRefIdeal.main_arg3))
      ∧ r.2.sem = fun _ => 0)

def quiescent_AdamSink [hAdamSink : Cert.AdamSink.Facts] : Prop :=
  ∀ (m : (ℓ : Loc Cert.AdamSink.nD Cert.AdamSink.τ Cert.AdamSink.sig) → Buf (Elt Bits) ℓ) (g : Dev Cert.AdamSink.nD → PrngReg), Pre_AdamSink m →
    θ_run (Cert.AdamSink.defs (F := Bits)) (onTc (τ := Cert.AdamSink.τ) (Cert.AdamSink.main (F := Bits))) ⟨m, fun _ => 0, g⟩ (fun r => (∀ c : Dev Cert.AdamSink.nD,
      r.2.mem ((c.tc : Thread Cert.AdamSink.nD Cert.AdamSink.τ).loc Cert.AdamSink.main_arg0) = m ((c.tc : Thread Cert.AdamSink.nD Cert.AdamSink.τ).loc Cert.AdamSink.main_arg0)
      ∧ r.2.mem ((c.tc : Thread Cert.AdamSink.nD Cert.AdamSink.τ).loc Cert.AdamSink.main_arg1) = m ((c.tc : Thread Cert.AdamSink.nD Cert.AdamSink.τ).loc Cert.AdamSink.main_arg1)
      ∧ r.2.mem ((c.tc : Thread Cert.AdamSink.nD Cert.AdamSink.τ).loc Cert.AdamSink.main_arg2) = m ((c.tc : Thread Cert.AdamSink.nD Cert.AdamSink.τ).loc Cert.AdamSink.main_arg2)
      ∧ r.2.mem ((c.tc : Thread Cert.AdamSink.nD Cert.AdamSink.τ).loc Cert.AdamSink.main_arg3) = m ((c.tc : Thread Cert.AdamSink.nD Cert.AdamSink.τ).loc Cert.AdamSink.main_arg3))
      ∧ r.2.sem = fun _ => 0)

def quiescent_AdamSinkIdeal [hAdamSinkIdeal : Cert.AdamSinkIdeal.Facts] : Prop :=
  ∀ (m : (ℓ : Loc Cert.AdamSinkIdeal.nD Cert.AdamSinkIdeal.τ Cert.AdamSinkIdeal.sig) → Buf (Elt Ideal) ℓ) (g : Dev Cert.AdamSinkIdeal.nD → PrngReg), Pre_AdamSinkIdeal m →
    θ_run (Cert.AdamSinkIdeal.defs (F := Ideal)) (onTc (τ := Cert.AdamSinkIdeal.τ) (Cert.AdamSinkIdeal.main (F := Ideal))) ⟨m, fun _ => 0, g⟩ (fun r => (∀ c : Dev Cert.AdamSinkIdeal.nD,
      r.2.mem ((c.tc : Thread Cert.AdamSinkIdeal.nD Cert.AdamSinkIdeal.τ).loc Cert.AdamSinkIdeal.main_arg0) = m ((c.tc : Thread Cert.AdamSinkIdeal.nD Cert.AdamSinkIdeal.τ).loc Cert.AdamSinkIdeal.main_arg0)
      ∧ r.2.mem ((c.tc : Thread Cert.AdamSinkIdeal.nD Cert.AdamSinkIdeal.τ).loc Cert.AdamSinkIdeal.main_arg1) = m ((c.tc : Thread Cert.AdamSinkIdeal.nD Cert.AdamSinkIdeal.τ).loc Cert.AdamSinkIdeal.main_arg1)
      ∧ r.2.mem ((c.tc : Thread Cert.AdamSinkIdeal.nD Cert.AdamSinkIdeal.τ).loc Cert.AdamSinkIdeal.main_arg2) = m ((c.tc : Thread Cert.AdamSinkIdeal.nD Cert.AdamSinkIdeal.τ).loc Cert.AdamSinkIdeal.main_arg2)
      ∧ r.2.mem ((c.tc : Thread Cert.AdamSinkIdeal.nD Cert.AdamSinkIdeal.τ).loc Cert.AdamSinkIdeal.main_arg3) = m ((c.tc : Thread Cert.AdamSinkIdeal.nD Cert.AdamSinkIdeal.τ).loc Cert.AdamSinkIdeal.main_arg3))
      ∧ r.2.sem = fun _ => 0)

def quiescent_AdamSinkRefIdeal [hAdamSinkRefIdeal : Cert.AdamSinkRefIdeal.Facts] : Prop :=
  ∀ (m : (ℓ : Loc Cert.AdamSinkRefIdeal.nD Cert.AdamSinkRefIdeal.τ Cert.AdamSinkRefIdeal.sig) → Buf (Elt Ideal) ℓ) (g : Dev Cert.AdamSinkRefIdeal.nD → PrngReg), Pre_AdamSinkRefIdeal m →
    θ_run (Cert.AdamSinkRefIdeal.defs (F := Ideal)) (onTc (τ := Cert.AdamSinkRefIdeal.τ) (Cert.AdamSinkRefIdeal.main (F := Ideal))) ⟨m, fun _ => 0, g⟩ (fun r => (∀ c : Dev Cert.AdamSinkRefIdeal.nD,
      r.2.mem ((c.tc : Thread Cert.AdamSinkRefIdeal.nD Cert.AdamSinkRefIdeal.τ).loc Cert.AdamSinkRefIdeal.main_arg0) = m ((c.tc : Thread Cert.AdamSinkRefIdeal.nD Cert.AdamSinkRefIdeal.τ).loc Cert.AdamSinkRefIdeal.main_arg0)
      ∧ r.2.mem ((c.tc : Thread Cert.AdamSinkRefIdeal.nD Cert.AdamSinkRefIdeal.τ).loc Cert.AdamSinkRefIdeal.main_arg1) = m ((c.tc : Thread Cert.AdamSinkRefIdeal.nD Cert.AdamSinkRefIdeal.τ).loc Cert.AdamSinkRefIdeal.main_arg1)
      ∧ r.2.mem ((c.tc : Thread Cert.AdamSinkRefIdeal.nD Cert.AdamSinkRefIdeal.τ).loc Cert.AdamSinkRefIdeal.main_arg2) = m ((c.tc : Thread Cert.AdamSinkRefIdeal.nD Cert.AdamSinkRefIdeal.τ).loc Cert.AdamSinkRefIdeal.main_arg2)
      ∧ r.2.mem ((c.tc : Thread Cert.AdamSinkRefIdeal.nD Cert.AdamSinkRefIdeal.τ).loc Cert.AdamSinkRefIdeal.main_arg3) = m ((c.tc : Thread Cert.AdamSinkRefIdeal.nD Cert.AdamSinkRefIdeal.τ).loc Cert.AdamSinkRefIdeal.main_arg3))
      ∧ r.2.sem = fun _ => 0)

def quiescent_AdamWide [hAdamWide : Cert.AdamWide.Facts] : Prop :=
  ∀ (m : (ℓ : Loc Cert.AdamWide.nD Cert.AdamWide.τ Cert.AdamWide.sig) → Buf (Elt Bits) ℓ) (g : Dev Cert.AdamWide.nD → PrngReg), Pre_AdamWide m →
    θ_run (Cert.AdamWide.defs (F := Bits)) (onTc (τ := Cert.AdamWide.τ) (Cert.AdamWide.main (F := Bits))) ⟨m, fun _ => 0, g⟩ (fun r => (∀ c : Dev Cert.AdamWide.nD,
      r.2.mem ((c.tc : Thread Cert.AdamWide.nD Cert.AdamWide.τ).loc Cert.AdamWide.main_arg0) = m ((c.tc : Thread Cert.AdamWide.nD Cert.AdamWide.τ).loc Cert.AdamWide.main_arg0)
      ∧ r.2.mem ((c.tc : Thread Cert.AdamWide.nD Cert.AdamWide.τ).loc Cert.AdamWide.main_arg1) = m ((c.tc : Thread Cert.AdamWide.nD Cert.AdamWide.τ).loc Cert.AdamWide.main_arg1)
      ∧ r.2.mem ((c.tc : Thread Cert.AdamWide.nD Cert.AdamWide.τ).loc Cert.AdamWide.main_arg2) = m ((c.tc : Thread Cert.AdamWide.nD Cert.AdamWide.τ).loc Cert.AdamWide.main_arg2)
      ∧ r.2.mem ((c.tc : Thread Cert.AdamWide.nD Cert.AdamWide.τ).loc Cert.AdamWide.main_arg3) = m ((c.tc : Thread Cert.AdamWide.nD Cert.AdamWide.τ).loc Cert.AdamWide.main_arg3)
      ∧ r.2.mem ((c.tc : Thread Cert.AdamWide.nD Cert.AdamWide.τ).loc Cert.AdamWide.main_arg4) = m ((c.tc : Thread Cert.AdamWide.nD Cert.AdamWide.τ).loc Cert.AdamWide.main_arg4))
      ∧ r.2.sem = fun _ => 0)

def quiescent_AdamWideIdeal [hAdamWideIdeal : Cert.AdamWideIdeal.Facts] : Prop :=
  ∀ (m : (ℓ : Loc Cert.AdamWideIdeal.nD Cert.AdamWideIdeal.τ Cert.AdamWideIdeal.sig) → Buf (Elt Ideal) ℓ) (g : Dev Cert.AdamWideIdeal.nD → PrngReg), Pre_AdamWideIdeal m →
    θ_run (Cert.AdamWideIdeal.defs (F := Ideal)) (onTc (τ := Cert.AdamWideIdeal.τ) (Cert.AdamWideIdeal.main (F := Ideal))) ⟨m, fun _ => 0, g⟩ (fun r => (∀ c : Dev Cert.AdamWideIdeal.nD,
      r.2.mem ((c.tc : Thread Cert.AdamWideIdeal.nD Cert.AdamWideIdeal.τ).loc Cert.AdamWideIdeal.main_arg0) = m ((c.tc : Thread Cert.AdamWideIdeal.nD Cert.AdamWideIdeal.τ).loc Cert.AdamWideIdeal.main_arg0)
      ∧ r.2.mem ((c.tc : Thread Cert.AdamWideIdeal.nD Cert.AdamWideIdeal.τ).loc Cert.AdamWideIdeal.main_arg1) = m ((c.tc : Thread Cert.AdamWideIdeal.nD Cert.AdamWideIdeal.τ).loc Cert.AdamWideIdeal.main_arg1)
      ∧ r.2.mem ((c.tc : Thread Cert.AdamWideIdeal.nD Cert.AdamWideIdeal.τ).loc Cert.AdamWideIdeal.main_arg2) = m ((c.tc : Thread Cert.AdamWideIdeal.nD Cert.AdamWideIdeal.τ).loc Cert.AdamWideIdeal.main_arg2)
      ∧ r.2.mem ((c.tc : Thread Cert.AdamWideIdeal.nD Cert.AdamWideIdeal.τ).loc Cert.AdamWideIdeal.main_arg3) = m ((c.tc : Thread Cert.AdamWideIdeal.nD Cert.AdamWideIdeal.τ).loc Cert.AdamWideIdeal.main_arg3)
      ∧ r.2.mem ((c.tc : Thread Cert.AdamWideIdeal.nD Cert.AdamWideIdeal.τ).loc Cert.AdamWideIdeal.main_arg4) = m ((c.tc : Thread Cert.AdamWideIdeal.nD Cert.AdamWideIdeal.τ).loc Cert.AdamWideIdeal.main_arg4))
      ∧ r.2.sem = fun _ => 0)

def quiescent_AdamWideRefIdeal [hAdamWideRefIdeal : Cert.AdamWideRefIdeal.Facts] : Prop :=
  ∀ (m : (ℓ : Loc Cert.AdamWideRefIdeal.nD Cert.AdamWideRefIdeal.τ Cert.AdamWideRefIdeal.sig) → Buf (Elt Ideal) ℓ) (g : Dev Cert.AdamWideRefIdeal.nD → PrngReg), Pre_AdamWideRefIdeal m →
    θ_run (Cert.AdamWideRefIdeal.defs (F := Ideal)) (onTc (τ := Cert.AdamWideRefIdeal.τ) (Cert.AdamWideRefIdeal.main (F := Ideal))) ⟨m, fun _ => 0, g⟩ (fun r => (∀ c : Dev Cert.AdamWideRefIdeal.nD,
      r.2.mem ((c.tc : Thread Cert.AdamWideRefIdeal.nD Cert.AdamWideRefIdeal.τ).loc Cert.AdamWideRefIdeal.main_arg0) = m ((c.tc : Thread Cert.AdamWideRefIdeal.nD Cert.AdamWideRefIdeal.τ).loc Cert.AdamWideRefIdeal.main_arg0)
      ∧ r.2.mem ((c.tc : Thread Cert.AdamWideRefIdeal.nD Cert.AdamWideRefIdeal.τ).loc Cert.AdamWideRefIdeal.main_arg1) = m ((c.tc : Thread Cert.AdamWideRefIdeal.nD Cert.AdamWideRefIdeal.τ).loc Cert.AdamWideRefIdeal.main_arg1)
      ∧ r.2.mem ((c.tc : Thread Cert.AdamWideRefIdeal.nD Cert.AdamWideRefIdeal.τ).loc Cert.AdamWideRefIdeal.main_arg2) = m ((c.tc : Thread Cert.AdamWideRefIdeal.nD Cert.AdamWideRefIdeal.τ).loc Cert.AdamWideRefIdeal.main_arg2)
      ∧ r.2.mem ((c.tc : Thread Cert.AdamWideRefIdeal.nD Cert.AdamWideRefIdeal.τ).loc Cert.AdamWideRefIdeal.main_arg3) = m ((c.tc : Thread Cert.AdamWideRefIdeal.nD Cert.AdamWideRefIdeal.τ).loc Cert.AdamWideRefIdeal.main_arg3)
      ∧ r.2.mem ((c.tc : Thread Cert.AdamWideRefIdeal.nD Cert.AdamWideRefIdeal.τ).loc Cert.AdamWideRefIdeal.main_arg4) = m ((c.tc : Thread Cert.AdamWideRefIdeal.nD Cert.AdamWideRefIdeal.τ).loc Cert.AdamWideRefIdeal.main_arg4))
      ∧ r.2.sem = fun _ => 0)

def quiescent_AdamNarrow [hAdamNarrow : Cert.AdamNarrow.Facts] : Prop :=
  ∀ (m : (ℓ : Loc Cert.AdamNarrow.nD Cert.AdamNarrow.τ Cert.AdamNarrow.sig) → Buf (Elt Bits) ℓ) (g : Dev Cert.AdamNarrow.nD → PrngReg), Pre_AdamNarrow m →
    θ_run (Cert.AdamNarrow.defs (F := Bits)) (onTc (τ := Cert.AdamNarrow.τ) (Cert.AdamNarrow.main (F := Bits))) ⟨m, fun _ => 0, g⟩ (fun r => (∀ c : Dev Cert.AdamNarrow.nD,
      r.2.mem ((c.tc : Thread Cert.AdamNarrow.nD Cert.AdamNarrow.τ).loc Cert.AdamNarrow.main_arg0) = m ((c.tc : Thread Cert.AdamNarrow.nD Cert.AdamNarrow.τ).loc Cert.AdamNarrow.main_arg0)
      ∧ r.2.mem ((c.tc : Thread Cert.AdamNarrow.nD Cert.AdamNarrow.τ).loc Cert.AdamNarrow.main_arg1) = m ((c.tc : Thread Cert.AdamNarrow.nD Cert.AdamNarrow.τ).loc Cert.AdamNarrow.main_arg1)
      ∧ r.2.mem ((c.tc : Thread Cert.AdamNarrow.nD Cert.AdamNarrow.τ).loc Cert.AdamNarrow.main_arg2) = m ((c.tc : Thread Cert.AdamNarrow.nD Cert.AdamNarrow.τ).loc Cert.AdamNarrow.main_arg2)
      ∧ r.2.mem ((c.tc : Thread Cert.AdamNarrow.nD Cert.AdamNarrow.τ).loc Cert.AdamNarrow.main_arg3) = m ((c.tc : Thread Cert.AdamNarrow.nD Cert.AdamNarrow.τ).loc Cert.AdamNarrow.main_arg3)
      ∧ r.2.mem ((c.tc : Thread Cert.AdamNarrow.nD Cert.AdamNarrow.τ).loc Cert.AdamNarrow.main_arg4) = m ((c.tc : Thread Cert.AdamNarrow.nD Cert.AdamNarrow.τ).loc Cert.AdamNarrow.main_arg4))
      ∧ r.2.sem = fun _ => 0)

def quiescent_AdamNarrowIdeal [hAdamNarrowIdeal : Cert.AdamNarrowIdeal.Facts] : Prop :=
  ∀ (m : (ℓ : Loc Cert.AdamNarrowIdeal.nD Cert.AdamNarrowIdeal.τ Cert.AdamNarrowIdeal.sig) → Buf (Elt Ideal) ℓ) (g : Dev Cert.AdamNarrowIdeal.nD → PrngReg), Pre_AdamNarrowIdeal m →
    θ_run (Cert.AdamNarrowIdeal.defs (F := Ideal)) (onTc (τ := Cert.AdamNarrowIdeal.τ) (Cert.AdamNarrowIdeal.main (F := Ideal))) ⟨m, fun _ => 0, g⟩ (fun r => (∀ c : Dev Cert.AdamNarrowIdeal.nD,
      r.2.mem ((c.tc : Thread Cert.AdamNarrowIdeal.nD Cert.AdamNarrowIdeal.τ).loc Cert.AdamNarrowIdeal.main_arg0) = m ((c.tc : Thread Cert.AdamNarrowIdeal.nD Cert.AdamNarrowIdeal.τ).loc Cert.AdamNarrowIdeal.main_arg0)
      ∧ r.2.mem ((c.tc : Thread Cert.AdamNarrowIdeal.nD Cert.AdamNarrowIdeal.τ).loc Cert.AdamNarrowIdeal.main_arg1) = m ((c.tc : Thread Cert.AdamNarrowIdeal.nD Cert.AdamNarrowIdeal.τ).loc Cert.AdamNarrowIdeal.main_arg1)
      ∧ r.2.mem ((c.tc : Thread Cert.AdamNarrowIdeal.nD Cert.AdamNarrowIdeal.τ).loc Cert.AdamNarrowIdeal.main_arg2) = m ((c.tc : Thread Cert.AdamNarrowIdeal.nD Cert.AdamNarrowIdeal.τ).loc Cert.AdamNarrowIdeal.main_arg2)
      ∧ r.2.mem ((c.tc : Thread Cert.AdamNarrowIdeal.nD Cert.AdamNarrowIdeal.τ).loc Cert.AdamNarrowIdeal.main_arg3) = m ((c.tc : Thread Cert.AdamNarrowIdeal.nD Cert.AdamNarrowIdeal.τ).loc Cert.AdamNarrowIdeal.main_arg3)
      ∧ r.2.mem ((c.tc : Thread Cert.AdamNarrowIdeal.nD Cert.AdamNarrowIdeal.τ).loc Cert.AdamNarrowIdeal.main_arg4) = m ((c.tc : Thread Cert.AdamNarrowIdeal.nD Cert.AdamNarrowIdeal.τ).loc Cert.AdamNarrowIdeal.main_arg4))
      ∧ r.2.sem = fun _ => 0)

def quiescent_AdamNarrowRefIdeal [hAdamNarrowRefIdeal : Cert.AdamNarrowRefIdeal.Facts] : Prop :=
  ∀ (m : (ℓ : Loc Cert.AdamNarrowRefIdeal.nD Cert.AdamNarrowRefIdeal.τ Cert.AdamNarrowRefIdeal.sig) → Buf (Elt Ideal) ℓ) (g : Dev Cert.AdamNarrowRefIdeal.nD → PrngReg), Pre_AdamNarrowRefIdeal m →
    θ_run (Cert.AdamNarrowRefIdeal.defs (F := Ideal)) (onTc (τ := Cert.AdamNarrowRefIdeal.τ) (Cert.AdamNarrowRefIdeal.main (F := Ideal))) ⟨m, fun _ => 0, g⟩ (fun r => (∀ c : Dev Cert.AdamNarrowRefIdeal.nD,
      r.2.mem ((c.tc : Thread Cert.AdamNarrowRefIdeal.nD Cert.AdamNarrowRefIdeal.τ).loc Cert.AdamNarrowRefIdeal.main_arg0) = m ((c.tc : Thread Cert.AdamNarrowRefIdeal.nD Cert.AdamNarrowRefIdeal.τ).loc Cert.AdamNarrowRefIdeal.main_arg0)
      ∧ r.2.mem ((c.tc : Thread Cert.AdamNarrowRefIdeal.nD Cert.AdamNarrowRefIdeal.τ).loc Cert.AdamNarrowRefIdeal.main_arg1) = m ((c.tc : Thread Cert.AdamNarrowRefIdeal.nD Cert.AdamNarrowRefIdeal.τ).loc Cert.AdamNarrowRefIdeal.main_arg1)
      ∧ r.2.mem ((c.tc : Thread Cert.AdamNarrowRefIdeal.nD Cert.AdamNarrowRefIdeal.τ).loc Cert.AdamNarrowRefIdeal.main_arg2) = m ((c.tc : Thread Cert.AdamNarrowRefIdeal.nD Cert.AdamNarrowRefIdeal.τ).loc Cert.AdamNarrowRefIdeal.main_arg2)
      ∧ r.2.mem ((c.tc : Thread Cert.AdamNarrowRefIdeal.nD Cert.AdamNarrowRefIdeal.τ).loc Cert.AdamNarrowRefIdeal.main_arg3) = m ((c.tc : Thread Cert.AdamNarrowRefIdeal.nD Cert.AdamNarrowRefIdeal.τ).loc Cert.AdamNarrowRefIdeal.main_arg3)
      ∧ r.2.mem ((c.tc : Thread Cert.AdamNarrowRefIdeal.nD Cert.AdamNarrowRefIdeal.τ).loc Cert.AdamNarrowRefIdeal.main_arg4) = m ((c.tc : Thread Cert.AdamNarrowRefIdeal.nD Cert.AdamNarrowRefIdeal.τ).loc Cert.AdamNarrowRefIdeal.main_arg4))
      ∧ r.2.sem = fun _ => 0)

def quiescent_AdamProj [hAdamProj : Cert.AdamProj.Facts] : Prop :=
  ∀ (m : (ℓ : Loc Cert.AdamProj.nD Cert.AdamProj.τ Cert.AdamProj.sig) → Buf (Elt Bits) ℓ) (g : Dev Cert.AdamProj.nD → PrngReg), Pre_AdamProj m →
    θ_run (Cert.AdamProj.defs (F := Bits)) (onTc (τ := Cert.AdamProj.τ) (Cert.AdamProj.main (F := Bits))) ⟨m, fun _ => 0, g⟩ (fun r => (∀ c : Dev Cert.AdamProj.nD,
      r.2.mem ((c.tc : Thread Cert.AdamProj.nD Cert.AdamProj.τ).loc Cert.AdamProj.main_arg0) = m ((c.tc : Thread Cert.AdamProj.nD Cert.AdamProj.τ).loc Cert.AdamProj.main_arg0)
      ∧ r.2.mem ((c.tc : Thread Cert.AdamProj.nD Cert.AdamProj.τ).loc Cert.AdamProj.main_arg1) = m ((c.tc : Thread Cert.AdamProj.nD Cert.AdamProj.τ).loc Cert.AdamProj.main_arg1)
      ∧ r.2.mem ((c.tc : Thread Cert.AdamProj.nD Cert.AdamProj.τ).loc Cert.AdamProj.main_arg2) = m ((c.tc : Thread Cert.AdamProj.nD Cert.AdamProj.τ).loc Cert.AdamProj.main_arg2)
      ∧ r.2.mem ((c.tc : Thread Cert.AdamProj.nD Cert.AdamProj.τ).loc Cert.AdamProj.main_arg3) = m ((c.tc : Thread Cert.AdamProj.nD Cert.AdamProj.τ).loc Cert.AdamProj.main_arg3)
      ∧ r.2.mem ((c.tc : Thread Cert.AdamProj.nD Cert.AdamProj.τ).loc Cert.AdamProj.main_arg4) = m ((c.tc : Thread Cert.AdamProj.nD Cert.AdamProj.τ).loc Cert.AdamProj.main_arg4))
      ∧ r.2.sem = fun _ => 0)

def quiescent_AdamProjIdeal [hAdamProjIdeal : Cert.AdamProjIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg), Pre_AdamProjIdeal m →
    θ_run (Cert.AdamProjIdeal.defs (F := Ideal)) (onTc (τ := Cert.AdamProjIdeal.τ) (Cert.AdamProjIdeal.main (F := Ideal))) ⟨m, fun _ => 0, g⟩ (fun r => (∀ c : Dev Cert.AdamProjIdeal.nD,
      r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
      ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
      ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
      ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3)
      ∧ r.2.mem ((c.tc : Thread Cert.AdamProjIdeal.nD Cert.AdamProjIdeal.τ).loc Cert.AdamProjIdeal.main_arg4) = m ((c.tc : Thread Cert.AdamProjIdeal.nD Cert.AdamProjIdeal.τ).loc Cert.AdamProjIdeal.main_arg4))
      ∧ r.2.sem = fun _ => 0)

def quiescent_AdamProjRefIdeal [hAdamProjRefIdeal : Cert.AdamProjRefIdeal.Facts] : Prop :=
  ∀ (m : (ℓ : Loc Cert.AdamProjRefIdeal.nD Cert.AdamProjRefIdeal.τ Cert.AdamProjRefIdeal.sig) → Buf (Elt Ideal) ℓ) (g : Dev Cert.AdamProjRefIdeal.nD → PrngReg), Pre_AdamProjRefIdeal m →
    θ_run (Cert.AdamProjRefIdeal.defs (F := Ideal)) (onTc (τ := Cert.AdamProjRefIdeal.τ) (Cert.AdamProjRefIdeal.main (F := Ideal))) ⟨m, fun _ => 0, g⟩ (fun r => (∀ c : Dev Cert.AdamProjRefIdeal.nD,
      r.2.mem ((c.tc : Thread Cert.AdamProjRefIdeal.nD Cert.AdamProjRefIdeal.τ).loc Cert.AdamProjRefIdeal.main_arg0) = m ((c.tc : Thread Cert.AdamProjRefIdeal.nD Cert.AdamProjRefIdeal.τ).loc Cert.AdamProjRefIdeal.main_arg0)
      ∧ r.2.mem ((c.tc : Thread Cert.AdamProjRefIdeal.nD Cert.AdamProjRefIdeal.τ).loc Cert.AdamProjRefIdeal.main_arg1) = m ((c.tc : Thread Cert.AdamProjRefIdeal.nD Cert.AdamProjRefIdeal.τ).loc Cert.AdamProjRefIdeal.main_arg1)
      ∧ r.2.mem ((c.tc : Thread Cert.AdamProjRefIdeal.nD Cert.AdamProjRefIdeal.τ).loc Cert.AdamProjRefIdeal.main_arg2) = m ((c.tc : Thread Cert.AdamProjRefIdeal.nD Cert.AdamProjRefIdeal.τ).loc Cert.AdamProjRefIdeal.main_arg2)
      ∧ r.2.mem ((c.tc : Thread Cert.AdamProjRefIdeal.nD Cert.AdamProjRefIdeal.τ).loc Cert.AdamProjRefIdeal.main_arg3) = m ((c.tc : Thread Cert.AdamProjRefIdeal.nD Cert.AdamProjRefIdeal.τ).loc Cert.AdamProjRefIdeal.main_arg3)
      ∧ r.2.mem ((c.tc : Thread Cert.AdamProjRefIdeal.nD Cert.AdamProjRefIdeal.τ).loc Cert.AdamProjRefIdeal.main_arg4) = m ((c.tc : Thread Cert.AdamProjRefIdeal.nD Cert.AdamProjRefIdeal.τ).loc Cert.AdamProjRefIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4))
      ∧ r.2.sem = fun _ => 0)

def preserves_Kernel_KernelIdeal : Prop :=
  True

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4_0)) (v1 : (c : Dev Cert.FfnIdeal.nD) → Buf (Elt Ideal) ((c.tc : Thread Cert.FfnIdeal.nD Cert.FfnIdeal.τ).loc Cert.FfnIdeal.main_v4_1)) (v2 : (c : Dev Cert.FfnIdeal.nD) → Buf (Elt Ideal) ((c.tc : Thread Cert.FfnIdeal.nD Cert.FfnIdeal.τ).loc Cert.FfnIdeal.main_v4_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4_0) = v0 c
          ∧ r.2.mem ((c.tc : Thread Cert.FfnIdeal.nD Cert.FfnIdeal.τ).loc Cert.FfnIdeal.main_v4_1) = v1 c
          ∧ r.2.mem ((c.tc : Thread Cert.FfnIdeal.nD Cert.FfnIdeal.τ).loc Cert.FfnIdeal.main_v4_2) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v49) = v0 c
          ∧ r.2.mem ((c.tc : Thread Cert.FfnRefIdeal.nD Cert.FfnRefIdeal.τ).loc Cert.FfnRefIdeal.main_v50) = v1 c
          ∧ r.2.mem ((c.tc : Thread Cert.FfnRefIdeal.nD Cert.FfnRefIdeal.τ).loc Cert.FfnRefIdeal.main_v45) = v2 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_FfnBwd_FfnBwdIdeal : Prop :=
  True

def algebraic_FfnBwdIdeal_FfnBwdRefIdeal_pre_finite [hFfnBwdIdeal : Cert.FfnBwdIdeal.Facts] [hFfnBwdRefIdeal : Cert.FfnBwdRefIdeal.Facts] [hPre_finite : Cert.Pre_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_finite m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)
      ∧ m' ((c.tc : Thread Cert.FfnBwdRefIdeal.nD Cert.FfnBwdRefIdeal.τ).loc Cert.FfnBwdRefIdeal.main_arg4) = m ((c.tc : Thread Cert.FfnBwdIdeal.nD Cert.FfnBwdIdeal.τ).loc Cert.FfnBwdIdeal.main_arg4)
      ∧ m' ((c.tc : Thread Cert.FfnBwdRefIdeal.nD Cert.FfnBwdRefIdeal.τ).loc Cert.FfnBwdRefIdeal.main_arg5) = m ((c.tc : Thread Cert.FfnBwdIdeal.nD Cert.FfnBwdIdeal.τ).loc Cert.FfnBwdIdeal.main_arg5)) →
    ∃ (v0 : (c : Dev Cert.FfnBwdIdeal.nD) → Buf (Elt Ideal) ((c.tc : Thread Cert.FfnBwdIdeal.nD Cert.FfnBwdIdeal.τ).loc Cert.FfnBwdIdeal.main_v53_0)) (v1 : (c : Dev Cert.FfnBwdIdeal.nD) → Buf (Elt Ideal) ((c.tc : Thread Cert.FfnBwdIdeal.nD Cert.FfnBwdIdeal.τ).loc Cert.FfnBwdIdeal.main_v53_1)) (v2 : (c : Dev Cert.FfnBwdIdeal.nD) → Buf (Elt Ideal) ((c.tc : Thread Cert.FfnBwdIdeal.nD Cert.FfnBwdIdeal.τ).loc Cert.FfnBwdIdeal.main_v53_2)) (v3 : (c : Dev Cert.FfnBwdIdeal.nD) → Buf (Elt Ideal) ((c.tc : Thread Cert.FfnBwdIdeal.nD Cert.FfnBwdIdeal.τ).loc Cert.FfnBwdIdeal.main_v53_3)) (v4 : (c : Dev Cert.FfnBwdIdeal.nD) → Buf (Elt Ideal) ((c.tc : Thread Cert.FfnBwdIdeal.nD Cert.FfnBwdIdeal.τ).loc Cert.FfnBwdIdeal.main_v53_4)) (v5 : (c : Dev Cert.FfnBwdIdeal.nD) → Buf (Elt Ideal) ((c.tc : Thread Cert.FfnBwdIdeal.nD Cert.FfnBwdIdeal.τ).loc Cert.FfnBwdIdeal.main_v53_5)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v53_0) = v0 c
          ∧ r.2.mem ((c.tc : Thread Cert.FfnBwdIdeal.nD Cert.FfnBwdIdeal.τ).loc Cert.FfnBwdIdeal.main_v53_1) = v1 c
          ∧ r.2.mem ((c.tc : Thread Cert.FfnBwdIdeal.nD Cert.FfnBwdIdeal.τ).loc Cert.FfnBwdIdeal.main_v53_2) = v2 c
          ∧ r.2.mem ((c.tc : Thread Cert.FfnBwdIdeal.nD Cert.FfnBwdIdeal.τ).loc Cert.FfnBwdIdeal.main_v53_3) = v3 c
          ∧ r.2.mem ((c.tc : Thread Cert.FfnBwdIdeal.nD Cert.FfnBwdIdeal.τ).loc Cert.FfnBwdIdeal.main_v53_4) = v4 c
          ∧ r.2.mem ((c.tc : Thread Cert.FfnBwdIdeal.nD Cert.FfnBwdIdeal.τ).loc Cert.FfnBwdIdeal.main_v53_5) = v5 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v132) = v0 c
          ∧ r.2.mem ((c.tc : Thread Cert.FfnBwdRefIdeal.nD Cert.FfnBwdRefIdeal.τ).loc Cert.FfnBwdRefIdeal.main_v133) = v1 c
          ∧ r.2.mem ((c.tc : Thread Cert.FfnBwdRefIdeal.nD Cert.FfnBwdRefIdeal.τ).loc Cert.FfnBwdRefIdeal.main_v134) = v2 c
          ∧ r.2.mem ((c.tc : Thread Cert.FfnBwdRefIdeal.nD Cert.FfnBwdRefIdeal.τ).loc Cert.FfnBwdRefIdeal.main_v135) = v3 c
          ∧ r.2.mem ((c.tc : Thread Cert.FfnBwdRefIdeal.nD Cert.FfnBwdRefIdeal.τ).loc Cert.FfnBwdRefIdeal.main_v136) = v4 c
          ∧ r.2.mem ((c.tc : Thread Cert.FfnBwdRefIdeal.nD Cert.FfnBwdRefIdeal.τ).loc Cert.FfnBwdRefIdeal.main_v131) = v5 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3)
          ∧ r.2.mem ((c.tc : Thread Cert.FfnBwdRefIdeal.nD Cert.FfnBwdRefIdeal.τ).loc Cert.FfnBwdRefIdeal.main_arg4) = m' ((c.tc : Thread Cert.FfnBwdRefIdeal.nD Cert.FfnBwdRefIdeal.τ).loc Cert.FfnBwdRefIdeal.main_arg4)
          ∧ r.2.mem ((c.tc : Thread Cert.FfnBwdRefIdeal.nD Cert.FfnBwdRefIdeal.τ).loc Cert.FfnBwdRefIdeal.main_arg5) = m' ((c.tc : Thread Cert.FfnBwdRefIdeal.nD Cert.FfnBwdRefIdeal.τ).loc Cert.FfnBwdRefIdeal.main_arg5))

def preserves_InWgrad_InWgradIdeal : Prop :=
  True

def algebraic_InWgradIdeal_InWgradRefIdeal [hInWgradIdeal : Cert.InWgradIdeal.Facts] [hInWgradRefIdeal : Cert.InWgradRefIdeal.Facts] : Prop :=
  ∀ (m : (ℓ : Loc Cert.InWgradIdeal.nD Cert.InWgradIdeal.τ Cert.InWgradIdeal.sig) → Buf (Elt Ideal) ℓ) (g : Dev Cert.InWgradIdeal.nD → PrngReg)
    (m' : (ℓ : Loc Cert.InWgradRefIdeal.nD Cert.InWgradRefIdeal.τ Cert.InWgradRefIdeal.sig) → Buf (Elt Ideal) ℓ) (g' : Dev Cert.InWgradRefIdeal.nD → PrngReg), Pre_InWgradIdeal m →
    (∀ c : Dev Cert.InWgradIdeal.nD,
      m' ((c.tc : Thread Cert.InWgradRefIdeal.nD Cert.InWgradRefIdeal.τ).loc Cert.InWgradRefIdeal.main_arg0) = m ((c.tc : Thread Cert.InWgradIdeal.nD Cert.InWgradIdeal.τ).loc Cert.InWgradIdeal.main_arg0)
      ∧ m' ((c.tc : Thread Cert.InWgradRefIdeal.nD Cert.InWgradRefIdeal.τ).loc Cert.InWgradRefIdeal.main_arg1) = m ((c.tc : Thread Cert.InWgradIdeal.nD Cert.InWgradIdeal.τ).loc Cert.InWgradIdeal.main_arg1)) →
    ∃ (v0 : (c : Dev Cert.InWgradIdeal.nD) → Buf (Elt Ideal) ((c.tc : Thread Cert.InWgradIdeal.nD Cert.InWgradIdeal.τ).loc Cert.InWgradIdeal.main_v0_0)) (v1 : (c : Dev Cert.InWgradIdeal.nD) → Buf (Elt Ideal) ((c.tc : Thread Cert.InWgradIdeal.nD Cert.InWgradIdeal.τ).loc Cert.InWgradIdeal.main_v0_1)),
      θ_run (Cert.InWgradIdeal.defs (F := Ideal)) (onTc (τ := Cert.InWgradIdeal.τ) (Cert.InWgradIdeal.main (F := Ideal))) ⟨m, fun _ => 0, g⟩ (fun r => ∀ c : Dev Cert.InWgradIdeal.nD,
          r.2.mem ((c.tc : Thread Cert.InWgradIdeal.nD Cert.InWgradIdeal.τ).loc Cert.InWgradIdeal.main_v0_0) = v0 c
          ∧ r.2.mem ((c.tc : Thread Cert.InWgradIdeal.nD Cert.InWgradIdeal.τ).loc Cert.InWgradIdeal.main_v0_1) = v1 c
          ∧ r.2.mem ((c.tc : Thread Cert.InWgradIdeal.nD Cert.InWgradIdeal.τ).loc Cert.InWgradIdeal.main_arg0) = m ((c.tc : Thread Cert.InWgradIdeal.nD Cert.InWgradIdeal.τ).loc Cert.InWgradIdeal.main_arg0)
          ∧ r.2.mem ((c.tc : Thread Cert.InWgradIdeal.nD Cert.InWgradIdeal.τ).loc Cert.InWgradIdeal.main_arg1) = m ((c.tc : Thread Cert.InWgradIdeal.nD Cert.InWgradIdeal.τ).loc Cert.InWgradIdeal.main_arg1))
      ∧ θ_run (Cert.InWgradRefIdeal.defs (F := Ideal)) (onTc (τ := Cert.InWgradRefIdeal.τ) (Cert.InWgradRefIdeal.main (F := Ideal))) ⟨m', fun _ => 0, g'⟩ (fun r => ∀ c : Dev Cert.InWgradRefIdeal.nD,
          r.2.mem ((c.tc : Thread Cert.InWgradRefIdeal.nD Cert.InWgradRefIdeal.τ).loc Cert.InWgradRefIdeal.main_v5) = v0 c
          ∧ r.2.mem ((c.tc : Thread Cert.InWgradRefIdeal.nD Cert.InWgradRefIdeal.τ).loc Cert.InWgradRefIdeal.main_v6) = v1 c
          ∧ r.2.mem ((c.tc : Thread Cert.InWgradRefIdeal.nD Cert.InWgradRefIdeal.τ).loc Cert.InWgradRefIdeal.main_arg0) = m' ((c.tc : Thread Cert.InWgradRefIdeal.nD Cert.InWgradRefIdeal.τ).loc Cert.InWgradRefIdeal.main_arg0)
          ∧ r.2.mem ((c.tc : Thread Cert.InWgradRefIdeal.nD Cert.InWgradRefIdeal.τ).loc Cert.InWgradRefIdeal.main_arg1) = m' ((c.tc : Thread Cert.InWgradRefIdeal.nD Cert.InWgradRefIdeal.τ).loc Cert.InWgradRefIdeal.main_arg1))

def preserves_OutWgrad_OutWgradIdeal : Prop :=
  True

def algebraic_OutWgradIdeal_OutWgradRefIdeal [hOutWgradIdeal : Cert.OutWgradIdeal.Facts] [hOutWgradRefIdeal : Cert.OutWgradRefIdeal.Facts] : Prop :=
  ∀ (m : (ℓ : Loc Cert.OutWgradIdeal.nD Cert.OutWgradIdeal.τ Cert.OutWgradIdeal.sig) → Buf (Elt Ideal) ℓ) (g : Dev Cert.OutWgradIdeal.nD → PrngReg)
    (m' : (ℓ : Loc Cert.OutWgradRefIdeal.nD Cert.OutWgradRefIdeal.τ Cert.OutWgradRefIdeal.sig) → Buf (Elt Ideal) ℓ) (g' : Dev Cert.OutWgradRefIdeal.nD → PrngReg), Pre_OutWgradIdeal m →
    (∀ c : Dev Cert.OutWgradIdeal.nD,
      m' ((c.tc : Thread Cert.OutWgradRefIdeal.nD Cert.OutWgradRefIdeal.τ).loc Cert.OutWgradRefIdeal.main_arg0) = m ((c.tc : Thread Cert.OutWgradIdeal.nD Cert.OutWgradIdeal.τ).loc Cert.OutWgradIdeal.main_arg0)
      ∧ m' ((c.tc : Thread Cert.OutWgradRefIdeal.nD Cert.OutWgradRefIdeal.τ).loc Cert.OutWgradRefIdeal.main_arg1) = m ((c.tc : Thread Cert.OutWgradIdeal.nD Cert.OutWgradIdeal.τ).loc Cert.OutWgradIdeal.main_arg1)) →
    ∃ (v0 : (c : Dev Cert.OutWgradIdeal.nD) → Buf (Elt Ideal) ((c.tc : Thread Cert.OutWgradIdeal.nD Cert.OutWgradIdeal.τ).loc Cert.OutWgradIdeal.main_v0_0)) (v1 : (c : Dev Cert.OutWgradIdeal.nD) → Buf (Elt Ideal) ((c.tc : Thread Cert.OutWgradIdeal.nD Cert.OutWgradIdeal.τ).loc Cert.OutWgradIdeal.main_v0_1)),
      θ_run (Cert.OutWgradIdeal.defs (F := Ideal)) (onTc (τ := Cert.OutWgradIdeal.τ) (Cert.OutWgradIdeal.main (F := Ideal))) ⟨m, fun _ => 0, g⟩ (fun r => ∀ c : Dev Cert.OutWgradIdeal.nD,
          r.2.mem ((c.tc : Thread Cert.OutWgradIdeal.nD Cert.OutWgradIdeal.τ).loc Cert.OutWgradIdeal.main_v0_0) = v0 c
          ∧ r.2.mem ((c.tc : Thread Cert.OutWgradIdeal.nD Cert.OutWgradIdeal.τ).loc Cert.OutWgradIdeal.main_v0_1) = v1 c
          ∧ r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
          ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1))
      ∧ θ_run (Cert.OutWgradRefIdeal.defs (F := Ideal)) (onTc (τ := Cert.OutWgradRefIdeal.τ) (Cert.OutWgradRefIdeal.main (F := Ideal))) ⟨m', fun _ => 0, g'⟩ (fun r => ∀ c : Dev Cert.OutWgradRefIdeal.nD,
          r.2.mem ((c.tc : Thread Cert.OutWgradRefIdeal.nD Cert.OutWgradRefIdeal.τ).loc Cert.OutWgradRefIdeal.main_v3) = v0 c
          ∧ r.2.mem ((c.tc : Thread Cert.OutWgradRefIdeal.nD Cert.OutWgradRefIdeal.τ).loc Cert.OutWgradRefIdeal.main_v4) = v1 c
          ∧ r.2.mem ((c.tc : Thread Cert.OutWgradRefIdeal.nD Cert.OutWgradRefIdeal.τ).loc Cert.OutWgradRefIdeal.main_arg0) = m' ((c.tc : Thread Cert.OutWgradRefIdeal.nD Cert.OutWgradRefIdeal.τ).loc Cert.OutWgradRefIdeal.main_arg0)
          ∧ r.2.mem ((c.tc : Thread Cert.OutWgradRefIdeal.nD Cert.OutWgradRefIdeal.τ).loc Cert.OutWgradRefIdeal.main_arg1) = m' ((c.tc : Thread Cert.OutWgradRefIdeal.nD Cert.OutWgradRefIdeal.τ).loc Cert.OutWgradRefIdeal.main_arg1))

def preserves_ProjWgrad_ProjWgradIdeal : Prop :=
  True

def algebraic_ProjWgradIdeal_ProjWgradRefIdeal [hProjWgradIdeal : Cert.ProjWgradIdeal.Facts] [hProjWgradRefIdeal : Cert.ProjWgradRefIdeal.Facts] : Prop :=
  ∀ (m : (ℓ : Loc Cert.ProjWgradIdeal.nD Cert.ProjWgradIdeal.τ Cert.ProjWgradIdeal.sig) → Buf (Elt Ideal) ℓ) (g : Dev Cert.ProjWgradIdeal.nD → PrngReg)
    (m' : (ℓ : Loc Cert.ProjWgradRefIdeal.nD Cert.ProjWgradRefIdeal.τ Cert.ProjWgradRefIdeal.sig) → Buf (Elt Ideal) ℓ) (g' : Dev Cert.ProjWgradRefIdeal.nD → PrngReg), Pre_ProjWgradIdeal m →
    (∀ c : Dev Cert.ProjWgradIdeal.nD,
      m' ((c.tc : Thread Cert.ProjWgradRefIdeal.nD Cert.ProjWgradRefIdeal.τ).loc Cert.ProjWgradRefIdeal.main_arg0) = m ((c.tc : Thread Cert.ProjWgradIdeal.nD Cert.ProjWgradIdeal.τ).loc Cert.ProjWgradIdeal.main_arg0)
      ∧ m' ((c.tc : Thread Cert.ProjWgradRefIdeal.nD Cert.ProjWgradRefIdeal.τ).loc Cert.ProjWgradRefIdeal.main_arg1) = m ((c.tc : Thread Cert.ProjWgradIdeal.nD Cert.ProjWgradIdeal.τ).loc Cert.ProjWgradIdeal.main_arg1)) →
    ∃ (v0 : (c : Dev Cert.ProjWgradIdeal.nD) → Buf (Elt Ideal) ((c.tc : Thread Cert.ProjWgradIdeal.nD Cert.ProjWgradIdeal.τ).loc Cert.ProjWgradIdeal.main_v0_0)) (v1 : (c : Dev Cert.ProjWgradIdeal.nD) → Buf (Elt Ideal) ((c.tc : Thread Cert.ProjWgradIdeal.nD Cert.ProjWgradIdeal.τ).loc Cert.ProjWgradIdeal.main_v0_1)),
      θ_run (Cert.ProjWgradIdeal.defs (F := Ideal)) (onTc (τ := Cert.ProjWgradIdeal.τ) (Cert.ProjWgradIdeal.main (F := Ideal))) ⟨m, fun _ => 0, g⟩ (fun r => ∀ c : Dev Cert.ProjWgradIdeal.nD,
          r.2.mem ((c.tc : Thread Cert.ProjWgradIdeal.nD Cert.ProjWgradIdeal.τ).loc Cert.ProjWgradIdeal.main_v0_0) = v0 c
          ∧ r.2.mem ((c.tc : Thread Cert.ProjWgradIdeal.nD Cert.ProjWgradIdeal.τ).loc Cert.ProjWgradIdeal.main_v0_1) = v1 c
          ∧ r.2.mem ((c.tc : Thread Cert.ProjWgradIdeal.nD Cert.ProjWgradIdeal.τ).loc Cert.ProjWgradIdeal.main_arg0) = m ((c.tc : Thread Cert.ProjWgradIdeal.nD Cert.ProjWgradIdeal.τ).loc Cert.ProjWgradIdeal.main_arg0)
          ∧ r.2.mem ((c.tc : Thread Cert.ProjWgradIdeal.nD Cert.ProjWgradIdeal.τ).loc Cert.ProjWgradIdeal.main_arg1) = m ((c.tc : Thread Cert.ProjWgradIdeal.nD Cert.ProjWgradIdeal.τ).loc Cert.ProjWgradIdeal.main_arg1))
      ∧ θ_run (Cert.ProjWgradRefIdeal.defs (F := Ideal)) (onTc (τ := Cert.ProjWgradRefIdeal.τ) (Cert.ProjWgradRefIdeal.main (F := Ideal))) ⟨m', fun _ => 0, g'⟩ (fun r => ∀ c : Dev Cert.ProjWgradRefIdeal.nD,
          r.2.mem ((c.tc : Thread Cert.ProjWgradRefIdeal.nD Cert.ProjWgradRefIdeal.τ).loc Cert.ProjWgradRefIdeal.main_v3) = v0 c
          ∧ r.2.mem ((c.tc : Thread Cert.ProjWgradRefIdeal.nD Cert.ProjWgradRefIdeal.τ).loc Cert.ProjWgradRefIdeal.main_v4) = v1 c
          ∧ r.2.mem ((c.tc : Thread Cert.ProjWgradRefIdeal.nD Cert.ProjWgradRefIdeal.τ).loc Cert.ProjWgradRefIdeal.main_arg0) = m' ((c.tc : Thread Cert.ProjWgradRefIdeal.nD Cert.ProjWgradRefIdeal.τ).loc Cert.ProjWgradRefIdeal.main_arg0)
          ∧ r.2.mem ((c.tc : Thread Cert.ProjWgradRefIdeal.nD Cert.ProjWgradRefIdeal.τ).loc Cert.ProjWgradRefIdeal.main_arg1) = m' ((c.tc : Thread Cert.ProjWgradRefIdeal.nD Cert.ProjWgradRefIdeal.τ).loc Cert.ProjWgradRefIdeal.main_arg1))

def preserves_MixOutWgrad_MixOutWgradIdeal : Prop :=
  True

def algebraic_MixOutWgradIdeal_MixOutWgradRefIdeal [hMixOutWgradIdeal : Cert.MixOutWgradIdeal.Facts] [hMixOutWgradRefIdeal : Cert.MixOutWgradRefIdeal.Facts] : Prop :=
  ∀ (m : (ℓ : Loc Cert.MixOutWgradIdeal.nD Cert.MixOutWgradIdeal.τ Cert.MixOutWgradIdeal.sig) → Buf (Elt Ideal) ℓ) (g : Dev Cert.MixOutWgradIdeal.nD → PrngReg)
    (m' : (ℓ : Loc Cert.MixOutWgradRefIdeal.nD Cert.MixOutWgradRefIdeal.τ Cert.MixOutWgradRefIdeal.sig) → Buf (Elt Ideal) ℓ) (g' : Dev Cert.MixOutWgradRefIdeal.nD → PrngReg), Pre_MixOutWgradIdeal m →
    (∀ c : Dev Cert.MixOutWgradIdeal.nD,
      m' ((c.tc : Thread Cert.MixOutWgradRefIdeal.nD Cert.MixOutWgradRefIdeal.τ).loc Cert.MixOutWgradRefIdeal.main_arg0) = m ((c.tc : Thread Cert.MixOutWgradIdeal.nD Cert.MixOutWgradIdeal.τ).loc Cert.MixOutWgradIdeal.main_arg0)
      ∧ m' ((c.tc : Thread Cert.MixOutWgradRefIdeal.nD Cert.MixOutWgradRefIdeal.τ).loc Cert.MixOutWgradRefIdeal.main_arg1) = m ((c.tc : Thread Cert.MixOutWgradIdeal.nD Cert.MixOutWgradIdeal.τ).loc Cert.MixOutWgradIdeal.main_arg1)) →
    ∃ (v0 : (c : Dev Cert.MixOutWgradIdeal.nD) → Buf (Elt Ideal) ((c.tc : Thread Cert.MixOutWgradIdeal.nD Cert.MixOutWgradIdeal.τ).loc Cert.MixOutWgradIdeal.main_v0_0)) (v1 : (c : Dev Cert.MixOutWgradIdeal.nD) → Buf (Elt Ideal) ((c.tc : Thread Cert.MixOutWgradIdeal.nD Cert.MixOutWgradIdeal.τ).loc Cert.MixOutWgradIdeal.main_v0_1)),
      θ_run (Cert.MixOutWgradIdeal.defs (F := Ideal)) (onTc (τ := Cert.MixOutWgradIdeal.τ) (Cert.MixOutWgradIdeal.main (F := Ideal))) ⟨m, fun _ => 0, g⟩ (fun r => ∀ c : Dev Cert.MixOutWgradIdeal.nD,
          r.2.mem ((c.tc : Thread Cert.MixOutWgradIdeal.nD Cert.MixOutWgradIdeal.τ).loc Cert.MixOutWgradIdeal.main_v0_0) = v0 c
          ∧ r.2.mem ((c.tc : Thread Cert.MixOutWgradIdeal.nD Cert.MixOutWgradIdeal.τ).loc Cert.MixOutWgradIdeal.main_v0_1) = v1 c
          ∧ r.2.mem ((c.tc : Thread Cert.MixOutWgradIdeal.nD Cert.MixOutWgradIdeal.τ).loc Cert.MixOutWgradIdeal.main_arg0) = m ((c.tc : Thread Cert.MixOutWgradIdeal.nD Cert.MixOutWgradIdeal.τ).loc Cert.MixOutWgradIdeal.main_arg0)
          ∧ r.2.mem ((c.tc : Thread Cert.MixOutWgradIdeal.nD Cert.MixOutWgradIdeal.τ).loc Cert.MixOutWgradIdeal.main_arg1) = m ((c.tc : Thread Cert.MixOutWgradIdeal.nD Cert.MixOutWgradIdeal.τ).loc Cert.MixOutWgradIdeal.main_arg1))
      ∧ θ_run (Cert.MixOutWgradRefIdeal.defs (F := Ideal)) (onTc (τ := Cert.MixOutWgradRefIdeal.τ) (Cert.MixOutWgradRefIdeal.main (F := Ideal))) ⟨m', fun _ => 0, g'⟩ (fun r => ∀ c : Dev Cert.MixOutWgradRefIdeal.nD,
          r.2.mem ((c.tc : Thread Cert.MixOutWgradRefIdeal.nD Cert.MixOutWgradRefIdeal.τ).loc Cert.MixOutWgradRefIdeal.main_v3) = v0 c
          ∧ r.2.mem ((c.tc : Thread Cert.MixOutWgradRefIdeal.nD Cert.MixOutWgradRefIdeal.τ).loc Cert.MixOutWgradRefIdeal.main_v4) = v1 c
          ∧ r.2.mem ((c.tc : Thread Cert.MixOutWgradRefIdeal.nD Cert.MixOutWgradRefIdeal.τ).loc Cert.MixOutWgradRefIdeal.main_arg0) = m' ((c.tc : Thread Cert.MixOutWgradRefIdeal.nD Cert.MixOutWgradRefIdeal.τ).loc Cert.MixOutWgradRefIdeal.main_arg0)
          ∧ r.2.mem ((c.tc : Thread Cert.MixOutWgradRefIdeal.nD Cert.MixOutWgradRefIdeal.τ).loc Cert.MixOutWgradRefIdeal.main_arg1) = m' ((c.tc : Thread Cert.MixOutWgradRefIdeal.nD Cert.MixOutWgradRefIdeal.τ).loc Cert.MixOutWgradRefIdeal.main_arg1))

def preserves_FfnB_FfnBIdeal : Prop :=
  True

def algebraic_FfnBIdeal_FfnBRefIdeal [hFfnBIdeal : Cert.FfnBIdeal.Facts] [hFfnBRefIdeal : Cert.FfnBRefIdeal.Facts] : Prop :=
  ∀ (m : (ℓ : Loc Cert.FfnBIdeal.nD Cert.FfnBIdeal.τ Cert.FfnBIdeal.sig) → Buf (Elt Ideal) ℓ) (g : Dev Cert.FfnBIdeal.nD → PrngReg)
    (m' : (ℓ : Loc Cert.FfnBRefIdeal.nD Cert.FfnBRefIdeal.τ Cert.FfnBRefIdeal.sig) → Buf (Elt Ideal) ℓ) (g' : Dev Cert.FfnBRefIdeal.nD → PrngReg), Pre_FfnBIdeal m →
    (∀ c : Dev Cert.FfnBIdeal.nD,
      m' ((c.tc : Thread Cert.FfnBRefIdeal.nD Cert.FfnBRefIdeal.τ).loc Cert.FfnBRefIdeal.main_arg0) = m ((c.tc : Thread Cert.FfnBIdeal.nD Cert.FfnBIdeal.τ).loc Cert.FfnBIdeal.main_arg0)
      ∧ m' ((c.tc : Thread Cert.FfnBRefIdeal.nD Cert.FfnBRefIdeal.τ).loc Cert.FfnBRefIdeal.main_arg1) = m ((c.tc : Thread Cert.FfnBIdeal.nD Cert.FfnBIdeal.τ).loc Cert.FfnBIdeal.main_arg1)
      ∧ m' ((c.tc : Thread Cert.FfnBRefIdeal.nD Cert.FfnBRefIdeal.τ).loc Cert.FfnBRefIdeal.main_arg2) = m ((c.tc : Thread Cert.FfnBIdeal.nD Cert.FfnBIdeal.τ).loc Cert.FfnBIdeal.main_arg2)
      ∧ m' ((c.tc : Thread Cert.FfnBRefIdeal.nD Cert.FfnBRefIdeal.τ).loc Cert.FfnBRefIdeal.main_arg3) = m ((c.tc : Thread Cert.FfnBIdeal.nD Cert.FfnBIdeal.τ).loc Cert.FfnBIdeal.main_arg3)
      ∧ m' ((c.tc : Thread Cert.FfnBRefIdeal.nD Cert.FfnBRefIdeal.τ).loc Cert.FfnBRefIdeal.main_arg4) = m ((c.tc : Thread Cert.FfnBIdeal.nD Cert.FfnBIdeal.τ).loc Cert.FfnBIdeal.main_arg4)) →
    ∃ (v0 : (c : Dev Cert.FfnBIdeal.nD) → Buf (Elt Ideal) ((c.tc : Thread Cert.FfnBIdeal.nD Cert.FfnBIdeal.τ).loc Cert.FfnBIdeal.main_v4_0)) (v1 : (c : Dev Cert.FfnBIdeal.nD) → Buf (Elt Ideal) ((c.tc : Thread Cert.FfnBIdeal.nD Cert.FfnBIdeal.τ).loc Cert.FfnBIdeal.main_v4_1)) (v2 : (c : Dev Cert.FfnBIdeal.nD) → Buf (Elt Ideal) ((c.tc : Thread Cert.FfnBIdeal.nD Cert.FfnBIdeal.τ).loc Cert.FfnBIdeal.main_v4_2)),
      θ_run (Cert.FfnBIdeal.defs (F := Ideal)) (onTc (τ := Cert.FfnBIdeal.τ) (Cert.FfnBIdeal.main (F := Ideal))) ⟨m, fun _ => 0, g⟩ (fun r => ∀ c : Dev Cert.FfnBIdeal.nD,
          r.2.mem ((c.tc : Thread Cert.FfnBIdeal.nD Cert.FfnBIdeal.τ).loc Cert.FfnBIdeal.main_v4_0) = v0 c
          ∧ r.2.mem ((c.tc : Thread Cert.FfnBIdeal.nD Cert.FfnBIdeal.τ).loc Cert.FfnBIdeal.main_v4_1) = v1 c
          ∧ r.2.mem ((c.tc : Thread Cert.FfnBIdeal.nD Cert.FfnBIdeal.τ).loc Cert.FfnBIdeal.main_v4_2) = v2 c
          ∧ r.2.mem ((c.tc : Thread Cert.FfnBIdeal.nD Cert.FfnBIdeal.τ).loc Cert.FfnBIdeal.main_arg0) = m ((c.tc : Thread Cert.FfnBIdeal.nD Cert.FfnBIdeal.τ).loc Cert.FfnBIdeal.main_arg0)
          ∧ r.2.mem ((c.tc : Thread Cert.FfnBIdeal.nD Cert.FfnBIdeal.τ).loc Cert.FfnBIdeal.main_arg1) = m ((c.tc : Thread Cert.FfnBIdeal.nD Cert.FfnBIdeal.τ).loc Cert.FfnBIdeal.main_arg1)
          ∧ r.2.mem ((c.tc : Thread Cert.FfnBIdeal.nD Cert.FfnBIdeal.τ).loc Cert.FfnBIdeal.main_arg2) = m ((c.tc : Thread Cert.FfnBIdeal.nD Cert.FfnBIdeal.τ).loc Cert.FfnBIdeal.main_arg2)
          ∧ r.2.mem ((c.tc : Thread Cert.FfnBIdeal.nD Cert.FfnBIdeal.τ).loc Cert.FfnBIdeal.main_arg3) = m ((c.tc : Thread Cert.FfnBIdeal.nD Cert.FfnBIdeal.τ).loc Cert.FfnBIdeal.main_arg3)
          ∧ r.2.mem ((c.tc : Thread Cert.FfnBIdeal.nD Cert.FfnBIdeal.τ).loc Cert.FfnBIdeal.main_arg4) = m ((c.tc : Thread Cert.FfnBIdeal.nD Cert.FfnBIdeal.τ).loc Cert.FfnBIdeal.main_arg4))
      ∧ θ_run (Cert.FfnBRefIdeal.defs (F := Ideal)) (onTc (τ := Cert.FfnBRefIdeal.τ) (Cert.FfnBRefIdeal.main (F := Ideal))) ⟨m', fun _ => 0, g'⟩ (fun r => ∀ c : Dev Cert.FfnBRefIdeal.nD,
          r.2.mem ((c.tc : Thread Cert.FfnBRefIdeal.nD Cert.FfnBRefIdeal.τ).loc Cert.FfnBRefIdeal.main_v49) = v0 c
          ∧ r.2.mem ((c.tc : Thread Cert.FfnBRefIdeal.nD Cert.FfnBRefIdeal.τ).loc Cert.FfnBRefIdeal.main_v50) = v1 c
          ∧ r.2.mem ((c.tc : Thread Cert.FfnBRefIdeal.nD Cert.FfnBRefIdeal.τ).loc Cert.FfnBRefIdeal.main_v45) = v2 c
          ∧ r.2.mem ((c.tc : Thread Cert.FfnBRefIdeal.nD Cert.FfnBRefIdeal.τ).loc Cert.FfnBRefIdeal.main_arg0) = m' ((c.tc : Thread Cert.FfnBRefIdeal.nD Cert.FfnBRefIdeal.τ).loc Cert.FfnBRefIdeal.main_arg0)
          ∧ r.2.mem ((c.tc : Thread Cert.FfnBRefIdeal.nD Cert.FfnBRefIdeal.τ).loc Cert.FfnBRefIdeal.main_arg1) = m' ((c.tc : Thread Cert.FfnBRefIdeal.nD Cert.FfnBRefIdeal.τ).loc Cert.FfnBRefIdeal.main_arg1)
          ∧ r.2.mem ((c.tc : Thread Cert.FfnBRefIdeal.nD Cert.FfnBRefIdeal.τ).loc Cert.FfnBRefIdeal.main_arg2) = m' ((c.tc : Thread Cert.FfnBRefIdeal.nD Cert.FfnBRefIdeal.τ).loc Cert.FfnBRefIdeal.main_arg2)
          ∧ r.2.mem ((c.tc : Thread Cert.FfnBRefIdeal.nD Cert.FfnBRefIdeal.τ).loc Cert.FfnBRefIdeal.main_arg3) = m' ((c.tc : Thread Cert.FfnBRefIdeal.nD Cert.FfnBRefIdeal.τ).loc Cert.FfnBRefIdeal.main_arg3)
          ∧ r.2.mem ((c.tc : Thread Cert.FfnBRefIdeal.nD Cert.FfnBRefIdeal.τ).loc Cert.FfnBRefIdeal.main_arg4) = m' ((c.tc : Thread Cert.FfnBRefIdeal.nD Cert.FfnBRefIdeal.τ).loc Cert.FfnBRefIdeal.main_arg4))

def preserves_FfnC_FfnCIdeal : Prop :=
  True

def algebraic_FfnCIdeal_FfnCRefIdeal [hFfnCIdeal : Cert.FfnCIdeal.Facts] [hFfnCRefIdeal : Cert.FfnCRefIdeal.Facts] : Prop :=
  ∀ (m : (ℓ : Loc Cert.FfnCIdeal.nD Cert.FfnCIdeal.τ Cert.FfnCIdeal.sig) → Buf (Elt Ideal) ℓ) (g : Dev Cert.FfnCIdeal.nD → PrngReg)
    (m' : (ℓ : Loc Cert.FfnCRefIdeal.nD Cert.FfnCRefIdeal.τ Cert.FfnCRefIdeal.sig) → Buf (Elt Ideal) ℓ) (g' : Dev Cert.FfnCRefIdeal.nD → PrngReg), Pre_FfnCIdeal m →
    (∀ c : Dev Cert.FfnCIdeal.nD,
      m' ((c.tc : Thread Cert.FfnCRefIdeal.nD Cert.FfnCRefIdeal.τ).loc Cert.FfnCRefIdeal.main_arg0) = m ((c.tc : Thread Cert.FfnCIdeal.nD Cert.FfnCIdeal.τ).loc Cert.FfnCIdeal.main_arg0)
      ∧ m' ((c.tc : Thread Cert.FfnCRefIdeal.nD Cert.FfnCRefIdeal.τ).loc Cert.FfnCRefIdeal.main_arg1) = m ((c.tc : Thread Cert.FfnCIdeal.nD Cert.FfnCIdeal.τ).loc Cert.FfnCIdeal.main_arg1)
      ∧ m' ((c.tc : Thread Cert.FfnCRefIdeal.nD Cert.FfnCRefIdeal.τ).loc Cert.FfnCRefIdeal.main_arg2) = m ((c.tc : Thread Cert.FfnCIdeal.nD Cert.FfnCIdeal.τ).loc Cert.FfnCIdeal.main_arg2)
      ∧ m' ((c.tc : Thread Cert.FfnCRefIdeal.nD Cert.FfnCRefIdeal.τ).loc Cert.FfnCRefIdeal.main_arg3) = m ((c.tc : Thread Cert.FfnCIdeal.nD Cert.FfnCIdeal.τ).loc Cert.FfnCIdeal.main_arg3)
      ∧ m' ((c.tc : Thread Cert.FfnCRefIdeal.nD Cert.FfnCRefIdeal.τ).loc Cert.FfnCRefIdeal.main_arg4) = m ((c.tc : Thread Cert.FfnCIdeal.nD Cert.FfnCIdeal.τ).loc Cert.FfnCIdeal.main_arg4)) →
    ∃ (v0 : (c : Dev Cert.FfnCIdeal.nD) → Buf (Elt Ideal) ((c.tc : Thread Cert.FfnCIdeal.nD Cert.FfnCIdeal.τ).loc Cert.FfnCIdeal.main_v4_0)) (v1 : (c : Dev Cert.FfnCIdeal.nD) → Buf (Elt Ideal) ((c.tc : Thread Cert.FfnCIdeal.nD Cert.FfnCIdeal.τ).loc Cert.FfnCIdeal.main_v4_1)) (v2 : (c : Dev Cert.FfnCIdeal.nD) → Buf (Elt Ideal) ((c.tc : Thread Cert.FfnCIdeal.nD Cert.FfnCIdeal.τ).loc Cert.FfnCIdeal.main_v4_2)),
      θ_run (Cert.FfnCIdeal.defs (F := Ideal)) (onTc (τ := Cert.FfnCIdeal.τ) (Cert.FfnCIdeal.main (F := Ideal))) ⟨m, fun _ => 0, g⟩ (fun r => ∀ c : Dev Cert.FfnCIdeal.nD,
          r.2.mem ((c.tc : Thread Cert.FfnCIdeal.nD Cert.FfnCIdeal.τ).loc Cert.FfnCIdeal.main_v4_0) = v0 c
          ∧ r.2.mem ((c.tc : Thread Cert.FfnCIdeal.nD Cert.FfnCIdeal.τ).loc Cert.FfnCIdeal.main_v4_1) = v1 c
          ∧ r.2.mem ((c.tc : Thread Cert.FfnCIdeal.nD Cert.FfnCIdeal.τ).loc Cert.FfnCIdeal.main_v4_2) = v2 c
          ∧ r.2.mem ((c.tc : Thread Cert.FfnCIdeal.nD Cert.FfnCIdeal.τ).loc Cert.FfnCIdeal.main_arg0) = m ((c.tc : Thread Cert.FfnCIdeal.nD Cert.FfnCIdeal.τ).loc Cert.FfnCIdeal.main_arg0)
          ∧ r.2.mem ((c.tc : Thread Cert.FfnCIdeal.nD Cert.FfnCIdeal.τ).loc Cert.FfnCIdeal.main_arg1) = m ((c.tc : Thread Cert.FfnCIdeal.nD Cert.FfnCIdeal.τ).loc Cert.FfnCIdeal.main_arg1)
          ∧ r.2.mem ((c.tc : Thread Cert.FfnCIdeal.nD Cert.FfnCIdeal.τ).loc Cert.FfnCIdeal.main_arg2) = m ((c.tc : Thread Cert.FfnCIdeal.nD Cert.FfnCIdeal.τ).loc Cert.FfnCIdeal.main_arg2)
          ∧ r.2.mem ((c.tc : Thread Cert.FfnCIdeal.nD Cert.FfnCIdeal.τ).loc Cert.FfnCIdeal.main_arg3) = m ((c.tc : Thread Cert.FfnCIdeal.nD Cert.FfnCIdeal.τ).loc Cert.FfnCIdeal.main_arg3)
          ∧ r.2.mem ((c.tc : Thread Cert.FfnCIdeal.nD Cert.FfnCIdeal.τ).loc Cert.FfnCIdeal.main_arg4) = m ((c.tc : Thread Cert.FfnCIdeal.nD Cert.FfnCIdeal.τ).loc Cert.FfnCIdeal.main_arg4))
      ∧ θ_run (Cert.FfnCRefIdeal.defs (F := Ideal)) (onTc (τ := Cert.FfnCRefIdeal.τ) (Cert.FfnCRefIdeal.main (F := Ideal))) ⟨m', fun _ => 0, g'⟩ (fun r => ∀ c : Dev Cert.FfnCRefIdeal.nD,
          r.2.mem ((c.tc : Thread Cert.FfnCRefIdeal.nD Cert.FfnCRefIdeal.τ).loc Cert.FfnCRefIdeal.main_v49) = v0 c
          ∧ r.2.mem ((c.tc : Thread Cert.FfnCRefIdeal.nD Cert.FfnCRefIdeal.τ).loc Cert.FfnCRefIdeal.main_v50) = v1 c
          ∧ r.2.mem ((c.tc : Thread Cert.FfnCRefIdeal.nD Cert.FfnCRefIdeal.τ).loc Cert.FfnCRefIdeal.main_v45) = v2 c
          ∧ r.2.mem ((c.tc : Thread Cert.FfnCRefIdeal.nD Cert.FfnCRefIdeal.τ).loc Cert.FfnCRefIdeal.main_arg0) = m' ((c.tc : Thread Cert.FfnCRefIdeal.nD Cert.FfnCRefIdeal.τ).loc Cert.FfnCRefIdeal.main_arg0)
          ∧ r.2.mem ((c.tc : Thread Cert.FfnCRefIdeal.nD Cert.FfnCRefIdeal.τ).loc Cert.FfnCRefIdeal.main_arg1) = m' ((c.tc : Thread Cert.FfnCRefIdeal.nD Cert.FfnCRefIdeal.τ).loc Cert.FfnCRefIdeal.main_arg1)
          ∧ r.2.mem ((c.tc : Thread Cert.FfnCRefIdeal.nD Cert.FfnCRefIdeal.τ).loc Cert.FfnCRefIdeal.main_arg2) = m' ((c.tc : Thread Cert.FfnCRefIdeal.nD Cert.FfnCRefIdeal.τ).loc Cert.FfnCRefIdeal.main_arg2)
          ∧ r.2.mem ((c.tc : Thread Cert.FfnCRefIdeal.nD Cert.FfnCRefIdeal.τ).loc Cert.FfnCRefIdeal.main_arg3) = m' ((c.tc : Thread Cert.FfnCRefIdeal.nD Cert.FfnCRefIdeal.τ).loc Cert.FfnCRefIdeal.main_arg3)
          ∧ r.2.mem ((c.tc : Thread Cert.FfnCRefIdeal.nD Cert.FfnCRefIdeal.τ).loc Cert.FfnCRefIdeal.main_arg4) = m' ((c.tc : Thread Cert.FfnCRefIdeal.nD Cert.FfnCRefIdeal.τ).loc Cert.FfnCRefIdeal.main_arg4))

def preserves_FfnD_FfnDIdeal : Prop :=
  True

def algebraic_FfnDIdeal_FfnDRefIdeal [hFfnDIdeal : Cert.FfnDIdeal.Facts] [hFfnDRefIdeal : Cert.FfnDRefIdeal.Facts] : Prop :=
  ∀ (m : (ℓ : Loc Cert.FfnDIdeal.nD Cert.FfnDIdeal.τ Cert.FfnDIdeal.sig) → Buf (Elt Ideal) ℓ) (g : Dev Cert.FfnDIdeal.nD → PrngReg)
    (m' : (ℓ : Loc Cert.FfnDRefIdeal.nD Cert.FfnDRefIdeal.τ Cert.FfnDRefIdeal.sig) → Buf (Elt Ideal) ℓ) (g' : Dev Cert.FfnDRefIdeal.nD → PrngReg), Pre_FfnDIdeal m →
    (∀ c : Dev Cert.FfnDIdeal.nD,
      m' ((c.tc : Thread Cert.FfnDRefIdeal.nD Cert.FfnDRefIdeal.τ).loc Cert.FfnDRefIdeal.main_arg0) = m ((c.tc : Thread Cert.FfnDIdeal.nD Cert.FfnDIdeal.τ).loc Cert.FfnDIdeal.main_arg0)
      ∧ m' ((c.tc : Thread Cert.FfnDRefIdeal.nD Cert.FfnDRefIdeal.τ).loc Cert.FfnDRefIdeal.main_arg1) = m ((c.tc : Thread Cert.FfnDIdeal.nD Cert.FfnDIdeal.τ).loc Cert.FfnDIdeal.main_arg1)
      ∧ m' ((c.tc : Thread Cert.FfnDRefIdeal.nD Cert.FfnDRefIdeal.τ).loc Cert.FfnDRefIdeal.main_arg2) = m ((c.tc : Thread Cert.FfnDIdeal.nD Cert.FfnDIdeal.τ).loc Cert.FfnDIdeal.main_arg2)
      ∧ m' ((c.tc : Thread Cert.FfnDRefIdeal.nD Cert.FfnDRefIdeal.τ).loc Cert.FfnDRefIdeal.main_arg3) = m ((c.tc : Thread Cert.FfnDIdeal.nD Cert.FfnDIdeal.τ).loc Cert.FfnDIdeal.main_arg3)
      ∧ m' ((c.tc : Thread Cert.FfnDRefIdeal.nD Cert.FfnDRefIdeal.τ).loc Cert.FfnDRefIdeal.main_arg4) = m ((c.tc : Thread Cert.FfnDIdeal.nD Cert.FfnDIdeal.τ).loc Cert.FfnDIdeal.main_arg4)) →
    ∃ (v0 : (c : Dev Cert.FfnDIdeal.nD) → Buf (Elt Ideal) ((c.tc : Thread Cert.FfnDIdeal.nD Cert.FfnDIdeal.τ).loc Cert.FfnDIdeal.main_v4_0)) (v1 : (c : Dev Cert.FfnDIdeal.nD) → Buf (Elt Ideal) ((c.tc : Thread Cert.FfnDIdeal.nD Cert.FfnDIdeal.τ).loc Cert.FfnDIdeal.main_v4_1)) (v2 : (c : Dev Cert.FfnDIdeal.nD) → Buf (Elt Ideal) ((c.tc : Thread Cert.FfnDIdeal.nD Cert.FfnDIdeal.τ).loc Cert.FfnDIdeal.main_v4_2)),
      θ_run (Cert.FfnDIdeal.defs (F := Ideal)) (onTc (τ := Cert.FfnDIdeal.τ) (Cert.FfnDIdeal.main (F := Ideal))) ⟨m, fun _ => 0, g⟩ (fun r => ∀ c : Dev Cert.FfnDIdeal.nD,
          r.2.mem ((c.tc : Thread Cert.FfnDIdeal.nD Cert.FfnDIdeal.τ).loc Cert.FfnDIdeal.main_v4_0) = v0 c
          ∧ r.2.mem ((c.tc : Thread Cert.FfnDIdeal.nD Cert.FfnDIdeal.τ).loc Cert.FfnDIdeal.main_v4_1) = v1 c
          ∧ r.2.mem ((c.tc : Thread Cert.FfnDIdeal.nD Cert.FfnDIdeal.τ).loc Cert.FfnDIdeal.main_v4_2) = v2 c
          ∧ r.2.mem ((c.tc : Thread Cert.FfnDIdeal.nD Cert.FfnDIdeal.τ).loc Cert.FfnDIdeal.main_arg0) = m ((c.tc : Thread Cert.FfnDIdeal.nD Cert.FfnDIdeal.τ).loc Cert.FfnDIdeal.main_arg0)
          ∧ r.2.mem ((c.tc : Thread Cert.FfnDIdeal.nD Cert.FfnDIdeal.τ).loc Cert.FfnDIdeal.main_arg1) = m ((c.tc : Thread Cert.FfnDIdeal.nD Cert.FfnDIdeal.τ).loc Cert.FfnDIdeal.main_arg1)
          ∧ r.2.mem ((c.tc : Thread Cert.FfnDIdeal.nD Cert.FfnDIdeal.τ).loc Cert.FfnDIdeal.main_arg2) = m ((c.tc : Thread Cert.FfnDIdeal.nD Cert.FfnDIdeal.τ).loc Cert.FfnDIdeal.main_arg2)
          ∧ r.2.mem ((c.tc : Thread Cert.FfnDIdeal.nD Cert.FfnDIdeal.τ).loc Cert.FfnDIdeal.main_arg3) = m ((c.tc : Thread Cert.FfnDIdeal.nD Cert.FfnDIdeal.τ).loc Cert.FfnDIdeal.main_arg3)
          ∧ r.2.mem ((c.tc : Thread Cert.FfnDIdeal.nD Cert.FfnDIdeal.τ).loc Cert.FfnDIdeal.main_arg4) = m ((c.tc : Thread Cert.FfnDIdeal.nD Cert.FfnDIdeal.τ).loc Cert.FfnDIdeal.main_arg4))
      ∧ θ_run (Cert.FfnDRefIdeal.defs (F := Ideal)) (onTc (τ := Cert.FfnDRefIdeal.τ) (Cert.FfnDRefIdeal.main (F := Ideal))) ⟨m', fun _ => 0, g'⟩ (fun r => ∀ c : Dev Cert.FfnDRefIdeal.nD,
          r.2.mem ((c.tc : Thread Cert.FfnDRefIdeal.nD Cert.FfnDRefIdeal.τ).loc Cert.FfnDRefIdeal.main_v49) = v0 c
          ∧ r.2.mem ((c.tc : Thread Cert.FfnDRefIdeal.nD Cert.FfnDRefIdeal.τ).loc Cert.FfnDRefIdeal.main_v50) = v1 c
          ∧ r.2.mem ((c.tc : Thread Cert.FfnDRefIdeal.nD Cert.FfnDRefIdeal.τ).loc Cert.FfnDRefIdeal.main_v45) = v2 c
          ∧ r.2.mem ((c.tc : Thread Cert.FfnDRefIdeal.nD Cert.FfnDRefIdeal.τ).loc Cert.FfnDRefIdeal.main_arg0) = m' ((c.tc : Thread Cert.FfnDRefIdeal.nD Cert.FfnDRefIdeal.τ).loc Cert.FfnDRefIdeal.main_arg0)
          ∧ r.2.mem ((c.tc : Thread Cert.FfnDRefIdeal.nD Cert.FfnDRefIdeal.τ).loc Cert.FfnDRefIdeal.main_arg1) = m' ((c.tc : Thread Cert.FfnDRefIdeal.nD Cert.FfnDRefIdeal.τ).loc Cert.FfnDRefIdeal.main_arg1)
          ∧ r.2.mem ((c.tc : Thread Cert.FfnDRefIdeal.nD Cert.FfnDRefIdeal.τ).loc Cert.FfnDRefIdeal.main_arg2) = m' ((c.tc : Thread Cert.FfnDRefIdeal.nD Cert.FfnDRefIdeal.τ).loc Cert.FfnDRefIdeal.main_arg2)
          ∧ r.2.mem ((c.tc : Thread Cert.FfnDRefIdeal.nD Cert.FfnDRefIdeal.τ).loc Cert.FfnDRefIdeal.main_arg3) = m' ((c.tc : Thread Cert.FfnDRefIdeal.nD Cert.FfnDRefIdeal.τ).loc Cert.FfnDRefIdeal.main_arg3)
          ∧ r.2.mem ((c.tc : Thread Cert.FfnDRefIdeal.nD Cert.FfnDRefIdeal.τ).loc Cert.FfnDRefIdeal.main_arg4) = m' ((c.tc : Thread Cert.FfnDRefIdeal.nD Cert.FfnDRefIdeal.τ).loc Cert.FfnDRefIdeal.main_arg4))

def preserves_FfnBwdB_FfnBwdBIdeal : Prop :=
  True

def algebraic_FfnBwdBIdeal_FfnBwdBRefIdeal_pre_finite [hFfnBwdBIdeal : Cert.FfnBwdBIdeal.Facts] [hFfnBwdBRefIdeal : Cert.FfnBwdBRefIdeal.Facts] [hPre_finite : Cert.Pre_finite.Facts] : Prop :=
  ∀ (m : (ℓ : Loc Cert.FfnBwdBIdeal.nD Cert.FfnBwdBIdeal.τ Cert.FfnBwdBIdeal.sig) → Buf (Elt Ideal) ℓ) (g : Dev Cert.FfnBwdBIdeal.nD → PrngReg)
    (m' : (ℓ : Loc Cert.FfnBwdBRefIdeal.nD Cert.FfnBwdBRefIdeal.τ Cert.FfnBwdBRefIdeal.sig) → Buf (Elt Ideal) ℓ) (g' : Dev Cert.FfnBwdBRefIdeal.nD → PrngReg), Pre_FfnBwdBIdeal_finite m →
    (∀ c : Dev Cert.FfnBwdBIdeal.nD,
      m' ((c.tc : Thread Cert.FfnBwdBRefIdeal.nD Cert.FfnBwdBRefIdeal.τ).loc Cert.FfnBwdBRefIdeal.main_arg0) = m ((c.tc : Thread Cert.FfnBwdBIdeal.nD Cert.FfnBwdBIdeal.τ).loc Cert.FfnBwdBIdeal.main_arg0)
      ∧ m' ((c.tc : Thread Cert.FfnBwdBRefIdeal.nD Cert.FfnBwdBRefIdeal.τ).loc Cert.FfnBwdBRefIdeal.main_arg1) = m ((c.tc : Thread Cert.FfnBwdBIdeal.nD Cert.FfnBwdBIdeal.τ).loc Cert.FfnBwdBIdeal.main_arg1)
      ∧ m' ((c.tc : Thread Cert.FfnBwdBRefIdeal.nD Cert.FfnBwdBRefIdeal.τ).loc Cert.FfnBwdBRefIdeal.main_arg2) = m ((c.tc : Thread Cert.FfnBwdBIdeal.nD Cert.FfnBwdBIdeal.τ).loc Cert.FfnBwdBIdeal.main_arg2)
      ∧ m' ((c.tc : Thread Cert.FfnBwdBRefIdeal.nD Cert.FfnBwdBRefIdeal.τ).loc Cert.FfnBwdBRefIdeal.main_arg3) = m ((c.tc : Thread Cert.FfnBwdBIdeal.nD Cert.FfnBwdBIdeal.τ).loc Cert.FfnBwdBIdeal.main_arg3)
      ∧ m' ((c.tc : Thread Cert.FfnBwdBRefIdeal.nD Cert.FfnBwdBRefIdeal.τ).loc Cert.FfnBwdBRefIdeal.main_arg4) = m ((c.tc : Thread Cert.FfnBwdBIdeal.nD Cert.FfnBwdBIdeal.τ).loc Cert.FfnBwdBIdeal.main_arg4)
      ∧ m' ((c.tc : Thread Cert.FfnBwdBRefIdeal.nD Cert.FfnBwdBRefIdeal.τ).loc Cert.FfnBwdBRefIdeal.main_arg5) = m ((c.tc : Thread Cert.FfnBwdBIdeal.nD Cert.FfnBwdBIdeal.τ).loc Cert.FfnBwdBIdeal.main_arg5)) →
    ∃ (v0 : (c : Dev Cert.FfnBwdBIdeal.nD) → Buf (Elt Ideal) ((c.tc : Thread Cert.FfnBwdBIdeal.nD Cert.FfnBwdBIdeal.τ).loc Cert.FfnBwdBIdeal.main_v53_0)) (v1 : (c : Dev Cert.FfnBwdBIdeal.nD) → Buf (Elt Ideal) ((c.tc : Thread Cert.FfnBwdBIdeal.nD Cert.FfnBwdBIdeal.τ).loc Cert.FfnBwdBIdeal.main_v53_1)) (v2 : (c : Dev Cert.FfnBwdBIdeal.nD) → Buf (Elt Ideal) ((c.tc : Thread Cert.FfnBwdBIdeal.nD Cert.FfnBwdBIdeal.τ).loc Cert.FfnBwdBIdeal.main_v53_2)) (v3 : (c : Dev Cert.FfnBwdBIdeal.nD) → Buf (Elt Ideal) ((c.tc : Thread Cert.FfnBwdBIdeal.nD Cert.FfnBwdBIdeal.τ).loc Cert.FfnBwdBIdeal.main_v53_3)) (v4 : (c : Dev Cert.FfnBwdBIdeal.nD) → Buf (Elt Ideal) ((c.tc : Thread Cert.FfnBwdBIdeal.nD Cert.FfnBwdBIdeal.τ).loc Cert.FfnBwdBIdeal.main_v53_4)) (v5 : (c : Dev Cert.FfnBwdBIdeal.nD) → Buf (Elt Ideal) ((c.tc : Thread Cert.FfnBwdBIdeal.nD Cert.FfnBwdBIdeal.τ).loc Cert.FfnBwdBIdeal.main_v53_5)),
      θ_run (Cert.FfnBwdBIdeal.defs (F := Ideal)) (onTc (τ := Cert.FfnBwdBIdeal.τ) (Cert.FfnBwdBIdeal.main (F := Ideal))) ⟨m, fun _ => 0, g⟩ (fun r => ∀ c : Dev Cert.FfnBwdBIdeal.nD,
          r.2.mem ((c.tc : Thread Cert.FfnBwdBIdeal.nD Cert.FfnBwdBIdeal.τ).loc Cert.FfnBwdBIdeal.main_v53_0) = v0 c
          ∧ r.2.mem ((c.tc : Thread Cert.FfnBwdBIdeal.nD Cert.FfnBwdBIdeal.τ).loc Cert.FfnBwdBIdeal.main_v53_1) = v1 c
          ∧ r.2.mem ((c.tc : Thread Cert.FfnBwdBIdeal.nD Cert.FfnBwdBIdeal.τ).loc Cert.FfnBwdBIdeal.main_v53_2) = v2 c
          ∧ r.2.mem ((c.tc : Thread Cert.FfnBwdBIdeal.nD Cert.FfnBwdBIdeal.τ).loc Cert.FfnBwdBIdeal.main_v53_3) = v3 c
          ∧ r.2.mem ((c.tc : Thread Cert.FfnBwdBIdeal.nD Cert.FfnBwdBIdeal.τ).loc Cert.FfnBwdBIdeal.main_v53_4) = v4 c
          ∧ r.2.mem ((c.tc : Thread Cert.FfnBwdBIdeal.nD Cert.FfnBwdBIdeal.τ).loc Cert.FfnBwdBIdeal.main_v53_5) = v5 c
          ∧ r.2.mem ((c.tc : Thread Cert.FfnBwdBIdeal.nD Cert.FfnBwdBIdeal.τ).loc Cert.FfnBwdBIdeal.main_arg0) = m ((c.tc : Thread Cert.FfnBwdBIdeal.nD Cert.FfnBwdBIdeal.τ).loc Cert.FfnBwdBIdeal.main_arg0)
          ∧ r.2.mem ((c.tc : Thread Cert.FfnBwdBIdeal.nD Cert.FfnBwdBIdeal.τ).loc Cert.FfnBwdBIdeal.main_arg1) = m ((c.tc : Thread Cert.FfnBwdBIdeal.nD Cert.FfnBwdBIdeal.τ).loc Cert.FfnBwdBIdeal.main_arg1)
          ∧ r.2.mem ((c.tc : Thread Cert.FfnBwdBIdeal.nD Cert.FfnBwdBIdeal.τ).loc Cert.FfnBwdBIdeal.main_arg2) = m ((c.tc : Thread Cert.FfnBwdBIdeal.nD Cert.FfnBwdBIdeal.τ).loc Cert.FfnBwdBIdeal.main_arg2)
          ∧ r.2.mem ((c.tc : Thread Cert.FfnBwdBIdeal.nD Cert.FfnBwdBIdeal.τ).loc Cert.FfnBwdBIdeal.main_arg3) = m ((c.tc : Thread Cert.FfnBwdBIdeal.nD Cert.FfnBwdBIdeal.τ).loc Cert.FfnBwdBIdeal.main_arg3)
          ∧ r.2.mem ((c.tc : Thread Cert.FfnBwdBIdeal.nD Cert.FfnBwdBIdeal.τ).loc Cert.FfnBwdBIdeal.main_arg4) = m ((c.tc : Thread Cert.FfnBwdBIdeal.nD Cert.FfnBwdBIdeal.τ).loc Cert.FfnBwdBIdeal.main_arg4)
          ∧ r.2.mem ((c.tc : Thread Cert.FfnBwdBIdeal.nD Cert.FfnBwdBIdeal.τ).loc Cert.FfnBwdBIdeal.main_arg5) = m ((c.tc : Thread Cert.FfnBwdBIdeal.nD Cert.FfnBwdBIdeal.τ).loc Cert.FfnBwdBIdeal.main_arg5))
      ∧ θ_run (Cert.FfnBwdBRefIdeal.defs (F := Ideal)) (onTc (τ := Cert.FfnBwdBRefIdeal.τ) (Cert.FfnBwdBRefIdeal.main (F := Ideal))) ⟨m', fun _ => 0, g'⟩ (fun r => ∀ c : Dev Cert.FfnBwdBRefIdeal.nD,
          r.2.mem ((c.tc : Thread Cert.FfnBwdBRefIdeal.nD Cert.FfnBwdBRefIdeal.τ).loc Cert.FfnBwdBRefIdeal.main_v132) = v0 c
          ∧ r.2.mem ((c.tc : Thread Cert.FfnBwdBRefIdeal.nD Cert.FfnBwdBRefIdeal.τ).loc Cert.FfnBwdBRefIdeal.main_v133) = v1 c
          ∧ r.2.mem ((c.tc : Thread Cert.FfnBwdBRefIdeal.nD Cert.FfnBwdBRefIdeal.τ).loc Cert.FfnBwdBRefIdeal.main_v134) = v2 c
          ∧ r.2.mem ((c.tc : Thread Cert.FfnBwdBRefIdeal.nD Cert.FfnBwdBRefIdeal.τ).loc Cert.FfnBwdBRefIdeal.main_v135) = v3 c
          ∧ r.2.mem ((c.tc : Thread Cert.FfnBwdBRefIdeal.nD Cert.FfnBwdBRefIdeal.τ).loc Cert.FfnBwdBRefIdeal.main_v136) = v4 c
          ∧ r.2.mem ((c.tc : Thread Cert.FfnBwdBRefIdeal.nD Cert.FfnBwdBRefIdeal.τ).loc Cert.FfnBwdBRefIdeal.main_v131) = v5 c
          ∧ r.2.mem ((c.tc : Thread Cert.FfnBwdBRefIdeal.nD Cert.FfnBwdBRefIdeal.τ).loc Cert.FfnBwdBRefIdeal.main_arg0) = m' ((c.tc : Thread Cert.FfnBwdBRefIdeal.nD Cert.FfnBwdBRefIdeal.τ).loc Cert.FfnBwdBRefIdeal.main_arg0)
          ∧ r.2.mem ((c.tc : Thread Cert.FfnBwdBRefIdeal.nD Cert.FfnBwdBRefIdeal.τ).loc Cert.FfnBwdBRefIdeal.main_arg1) = m' ((c.tc : Thread Cert.FfnBwdBRefIdeal.nD Cert.FfnBwdBRefIdeal.τ).loc Cert.FfnBwdBRefIdeal.main_arg1)
          ∧ r.2.mem ((c.tc : Thread Cert.FfnBwdBRefIdeal.nD Cert.FfnBwdBRefIdeal.τ).loc Cert.FfnBwdBRefIdeal.main_arg2) = m' ((c.tc : Thread Cert.FfnBwdBRefIdeal.nD Cert.FfnBwdBRefIdeal.τ).loc Cert.FfnBwdBRefIdeal.main_arg2)
          ∧ r.2.mem ((c.tc : Thread Cert.FfnBwdBRefIdeal.nD Cert.FfnBwdBRefIdeal.τ).loc Cert.FfnBwdBRefIdeal.main_arg3) = m' ((c.tc : Thread Cert.FfnBwdBRefIdeal.nD Cert.FfnBwdBRefIdeal.τ).loc Cert.FfnBwdBRefIdeal.main_arg3)
          ∧ r.2.mem ((c.tc : Thread Cert.FfnBwdBRefIdeal.nD Cert.FfnBwdBRefIdeal.τ).loc Cert.FfnBwdBRefIdeal.main_arg4) = m' ((c.tc : Thread Cert.FfnBwdBRefIdeal.nD Cert.FfnBwdBRefIdeal.τ).loc Cert.FfnBwdBRefIdeal.main_arg4)
          ∧ r.2.mem ((c.tc : Thread Cert.FfnBwdBRefIdeal.nD Cert.FfnBwdBRefIdeal.τ).loc Cert.FfnBwdBRefIdeal.main_arg5) = m' ((c.tc : Thread Cert.FfnBwdBRefIdeal.nD Cert.FfnBwdBRefIdeal.τ).loc Cert.FfnBwdBRefIdeal.main_arg5))

def preserves_FfnBwdC_FfnBwdCIdeal : Prop :=
  True

def algebraic_FfnBwdCIdeal_FfnBwdCRefIdeal_pre_finite [hFfnBwdCIdeal : Cert.FfnBwdCIdeal.Facts] [hFfnBwdCRefIdeal : Cert.FfnBwdCRefIdeal.Facts] [hPre_finite : Cert.Pre_finite.Facts] : Prop :=
  ∀ (m : (ℓ : Loc Cert.FfnBwdCIdeal.nD Cert.FfnBwdCIdeal.τ Cert.FfnBwdCIdeal.sig) → Buf (Elt Ideal) ℓ) (g : Dev Cert.FfnBwdCIdeal.nD → PrngReg)
    (m' : (ℓ : Loc Cert.FfnBwdCRefIdeal.nD Cert.FfnBwdCRefIdeal.τ Cert.FfnBwdCRefIdeal.sig) → Buf (Elt Ideal) ℓ) (g' : Dev Cert.FfnBwdCRefIdeal.nD → PrngReg), Pre_FfnBwdCIdeal_finite m →
    (∀ c : Dev Cert.FfnBwdCIdeal.nD,
      m' ((c.tc : Thread Cert.FfnBwdCRefIdeal.nD Cert.FfnBwdCRefIdeal.τ).loc Cert.FfnBwdCRefIdeal.main_arg0) = m ((c.tc : Thread Cert.FfnBwdCIdeal.nD Cert.FfnBwdCIdeal.τ).loc Cert.FfnBwdCIdeal.main_arg0)
      ∧ m' ((c.tc : Thread Cert.FfnBwdCRefIdeal.nD Cert.FfnBwdCRefIdeal.τ).loc Cert.FfnBwdCRefIdeal.main_arg1) = m ((c.tc : Thread Cert.FfnBwdCIdeal.nD Cert.FfnBwdCIdeal.τ).loc Cert.FfnBwdCIdeal.main_arg1)
      ∧ m' ((c.tc : Thread Cert.FfnBwdCRefIdeal.nD Cert.FfnBwdCRefIdeal.τ).loc Cert.FfnBwdCRefIdeal.main_arg2) = m ((c.tc : Thread Cert.FfnBwdCIdeal.nD Cert.FfnBwdCIdeal.τ).loc Cert.FfnBwdCIdeal.main_arg2)
      ∧ m' ((c.tc : Thread Cert.FfnBwdCRefIdeal.nD Cert.FfnBwdCRefIdeal.τ).loc Cert.FfnBwdCRefIdeal.main_arg3) = m ((c.tc : Thread Cert.FfnBwdCIdeal.nD Cert.FfnBwdCIdeal.τ).loc Cert.FfnBwdCIdeal.main_arg3)
      ∧ m' ((c.tc : Thread Cert.FfnBwdCRefIdeal.nD Cert.FfnBwdCRefIdeal.τ).loc Cert.FfnBwdCRefIdeal.main_arg4) = m ((c.tc : Thread Cert.FfnBwdCIdeal.nD Cert.FfnBwdCIdeal.τ).loc Cert.FfnBwdCIdeal.main_arg4)
      ∧ m' ((c.tc : Thread Cert.FfnBwdCRefIdeal.nD Cert.FfnBwdCRefIdeal.τ).loc Cert.FfnBwdCRefIdeal.main_arg5) = m ((c.tc : Thread Cert.FfnBwdCIdeal.nD Cert.FfnBwdCIdeal.τ).loc Cert.FfnBwdCIdeal.main_arg5)) →
    ∃ (v0 : (c : Dev Cert.FfnBwdCIdeal.nD) → Buf (Elt Ideal) ((c.tc : Thread Cert.FfnBwdCIdeal.nD Cert.FfnBwdCIdeal.τ).loc Cert.FfnBwdCIdeal.main_v53_0)) (v1 : (c : Dev Cert.FfnBwdCIdeal.nD) → Buf (Elt Ideal) ((c.tc : Thread Cert.FfnBwdCIdeal.nD Cert.FfnBwdCIdeal.τ).loc Cert.FfnBwdCIdeal.main_v53_1)) (v2 : (c : Dev Cert.FfnBwdCIdeal.nD) → Buf (Elt Ideal) ((c.tc : Thread Cert.FfnBwdCIdeal.nD Cert.FfnBwdCIdeal.τ).loc Cert.FfnBwdCIdeal.main_v53_2)) (v3 : (c : Dev Cert.FfnBwdCIdeal.nD) → Buf (Elt Ideal) ((c.tc : Thread Cert.FfnBwdCIdeal.nD Cert.FfnBwdCIdeal.τ).loc Cert.FfnBwdCIdeal.main_v53_3)) (v4 : (c : Dev Cert.FfnBwdCIdeal.nD) → Buf (Elt Ideal) ((c.tc : Thread Cert.FfnBwdCIdeal.nD Cert.FfnBwdCIdeal.τ).loc Cert.FfnBwdCIdeal.main_v53_4)) (v5 : (c : Dev Cert.FfnBwdCIdeal.nD) → Buf (Elt Ideal) ((c.tc : Thread Cert.FfnBwdCIdeal.nD Cert.FfnBwdCIdeal.τ).loc Cert.FfnBwdCIdeal.main_v53_5)),
      θ_run (Cert.FfnBwdCIdeal.defs (F := Ideal)) (onTc (τ := Cert.FfnBwdCIdeal.τ) (Cert.FfnBwdCIdeal.main (F := Ideal))) ⟨m, fun _ => 0, g⟩ (fun r => ∀ c : Dev Cert.FfnBwdCIdeal.nD,
          r.2.mem ((c.tc : Thread Cert.FfnBwdCIdeal.nD Cert.FfnBwdCIdeal.τ).loc Cert.FfnBwdCIdeal.main_v53_0) = v0 c
          ∧ r.2.mem ((c.tc : Thread Cert.FfnBwdCIdeal.nD Cert.FfnBwdCIdeal.τ).loc Cert.FfnBwdCIdeal.main_v53_1) = v1 c
          ∧ r.2.mem ((c.tc : Thread Cert.FfnBwdCIdeal.nD Cert.FfnBwdCIdeal.τ).loc Cert.FfnBwdCIdeal.main_v53_2) = v2 c
          ∧ r.2.mem ((c.tc : Thread Cert.FfnBwdCIdeal.nD Cert.FfnBwdCIdeal.τ).loc Cert.FfnBwdCIdeal.main_v53_3) = v3 c
          ∧ r.2.mem ((c.tc : Thread Cert.FfnBwdCIdeal.nD Cert.FfnBwdCIdeal.τ).loc Cert.FfnBwdCIdeal.main_v53_4) = v4 c
          ∧ r.2.mem ((c.tc : Thread Cert.FfnBwdCIdeal.nD Cert.FfnBwdCIdeal.τ).loc Cert.FfnBwdCIdeal.main_v53_5) = v5 c
          ∧ r.2.mem ((c.tc : Thread Cert.FfnBwdCIdeal.nD Cert.FfnBwdCIdeal.τ).loc Cert.FfnBwdCIdeal.main_arg0) = m ((c.tc : Thread Cert.FfnBwdCIdeal.nD Cert.FfnBwdCIdeal.τ).loc Cert.FfnBwdCIdeal.main_arg0)
          ∧ r.2.mem ((c.tc : Thread Cert.FfnBwdCIdeal.nD Cert.FfnBwdCIdeal.τ).loc Cert.FfnBwdCIdeal.main_arg1) = m ((c.tc : Thread Cert.FfnBwdCIdeal.nD Cert.FfnBwdCIdeal.τ).loc Cert.FfnBwdCIdeal.main_arg1)
          ∧ r.2.mem ((c.tc : Thread Cert.FfnBwdCIdeal.nD Cert.FfnBwdCIdeal.τ).loc Cert.FfnBwdCIdeal.main_arg2) = m ((c.tc : Thread Cert.FfnBwdCIdeal.nD Cert.FfnBwdCIdeal.τ).loc Cert.FfnBwdCIdeal.main_arg2)
          ∧ r.2.mem ((c.tc : Thread Cert.FfnBwdCIdeal.nD Cert.FfnBwdCIdeal.τ).loc Cert.FfnBwdCIdeal.main_arg3) = m ((c.tc : Thread Cert.FfnBwdCIdeal.nD Cert.FfnBwdCIdeal.τ).loc Cert.FfnBwdCIdeal.main_arg3)
          ∧ r.2.mem ((c.tc : Thread Cert.FfnBwdCIdeal.nD Cert.FfnBwdCIdeal.τ).loc Cert.FfnBwdCIdeal.main_arg4) = m ((c.tc : Thread Cert.FfnBwdCIdeal.nD Cert.FfnBwdCIdeal.τ).loc Cert.FfnBwdCIdeal.main_arg4)
          ∧ r.2.mem ((c.tc : Thread Cert.FfnBwdCIdeal.nD Cert.FfnBwdCIdeal.τ).loc Cert.FfnBwdCIdeal.main_arg5) = m ((c.tc : Thread Cert.FfnBwdCIdeal.nD Cert.FfnBwdCIdeal.τ).loc Cert.FfnBwdCIdeal.main_arg5))
      ∧ θ_run (Cert.FfnBwdCRefIdeal.defs (F := Ideal)) (onTc (τ := Cert.FfnBwdCRefIdeal.τ) (Cert.FfnBwdCRefIdeal.main (F := Ideal))) ⟨m', fun _ => 0, g'⟩ (fun r => ∀ c : Dev Cert.FfnBwdCRefIdeal.nD,
          r.2.mem ((c.tc : Thread Cert.FfnBwdCRefIdeal.nD Cert.FfnBwdCRefIdeal.τ).loc Cert.FfnBwdCRefIdeal.main_v132) = v0 c
          ∧ r.2.mem ((c.tc : Thread Cert.FfnBwdCRefIdeal.nD Cert.FfnBwdCRefIdeal.τ).loc Cert.FfnBwdCRefIdeal.main_v133) = v1 c
          ∧ r.2.mem ((c.tc : Thread Cert.FfnBwdCRefIdeal.nD Cert.FfnBwdCRefIdeal.τ).loc Cert.FfnBwdCRefIdeal.main_v134) = v2 c
          ∧ r.2.mem ((c.tc : Thread Cert.FfnBwdCRefIdeal.nD Cert.FfnBwdCRefIdeal.τ).loc Cert.FfnBwdCRefIdeal.main_v135) = v3 c
          ∧ r.2.mem ((c.tc : Thread Cert.FfnBwdCRefIdeal.nD Cert.FfnBwdCRefIdeal.τ).loc Cert.FfnBwdCRefIdeal.main_v136) = v4 c
          ∧ r.2.mem ((c.tc : Thread Cert.FfnBwdCRefIdeal.nD Cert.FfnBwdCRefIdeal.τ).loc Cert.FfnBwdCRefIdeal.main_v131) = v5 c
          ∧ r.2.mem ((c.tc : Thread Cert.FfnBwdCRefIdeal.nD Cert.FfnBwdCRefIdeal.τ).loc Cert.FfnBwdCRefIdeal.main_arg0) = m' ((c.tc : Thread Cert.FfnBwdCRefIdeal.nD Cert.FfnBwdCRefIdeal.τ).loc Cert.FfnBwdCRefIdeal.main_arg0)
          ∧ r.2.mem ((c.tc : Thread Cert.FfnBwdCRefIdeal.nD Cert.FfnBwdCRefIdeal.τ).loc Cert.FfnBwdCRefIdeal.main_arg1) = m' ((c.tc : Thread Cert.FfnBwdCRefIdeal.nD Cert.FfnBwdCRefIdeal.τ).loc Cert.FfnBwdCRefIdeal.main_arg1)
          ∧ r.2.mem ((c.tc : Thread Cert.FfnBwdCRefIdeal.nD Cert.FfnBwdCRefIdeal.τ).loc Cert.FfnBwdCRefIdeal.main_arg2) = m' ((c.tc : Thread Cert.FfnBwdCRefIdeal.nD Cert.FfnBwdCRefIdeal.τ).loc Cert.FfnBwdCRefIdeal.main_arg2)
          ∧ r.2.mem ((c.tc : Thread Cert.FfnBwdCRefIdeal.nD Cert.FfnBwdCRefIdeal.τ).loc Cert.FfnBwdCRefIdeal.main_arg3) = m' ((c.tc : Thread Cert.FfnBwdCRefIdeal.nD Cert.FfnBwdCRefIdeal.τ).loc Cert.FfnBwdCRefIdeal.main_arg3)
          ∧ r.2.mem ((c.tc : Thread Cert.FfnBwdCRefIdeal.nD Cert.FfnBwdCRefIdeal.τ).loc Cert.FfnBwdCRefIdeal.main_arg4) = m' ((c.tc : Thread Cert.FfnBwdCRefIdeal.nD Cert.FfnBwdCRefIdeal.τ).loc Cert.FfnBwdCRefIdeal.main_arg4)
          ∧ r.2.mem ((c.tc : Thread Cert.FfnBwdCRefIdeal.nD Cert.FfnBwdCRefIdeal.τ).loc Cert.FfnBwdCRefIdeal.main_arg5) = m' ((c.tc : Thread Cert.FfnBwdCRefIdeal.nD Cert.FfnBwdCRefIdeal.τ).loc Cert.FfnBwdCRefIdeal.main_arg5))

def preserves_FfnBwdD_FfnBwdDIdeal : Prop :=
  True

def algebraic_FfnBwdDIdeal_FfnBwdDRefIdeal_pre_finite [hFfnBwdDIdeal : Cert.FfnBwdDIdeal.Facts] [hFfnBwdDRefIdeal : Cert.FfnBwdDRefIdeal.Facts] [hPre_finite : Cert.Pre_finite.Facts] : Prop :=
  ∀ (m : (ℓ : Loc Cert.FfnBwdDIdeal.nD Cert.FfnBwdDIdeal.τ Cert.FfnBwdDIdeal.sig) → Buf (Elt Ideal) ℓ) (g : Dev Cert.FfnBwdDIdeal.nD → PrngReg)
    (m' : (ℓ : Loc Cert.FfnBwdDRefIdeal.nD Cert.FfnBwdDRefIdeal.τ Cert.FfnBwdDRefIdeal.sig) → Buf (Elt Ideal) ℓ) (g' : Dev Cert.FfnBwdDRefIdeal.nD → PrngReg), Pre_FfnBwdDIdeal_finite m →
    (∀ c : Dev Cert.FfnBwdDIdeal.nD,
      m' ((c.tc : Thread Cert.FfnBwdDRefIdeal.nD Cert.FfnBwdDRefIdeal.τ).loc Cert.FfnBwdDRefIdeal.main_arg0) = m ((c.tc : Thread Cert.FfnBwdDIdeal.nD Cert.FfnBwdDIdeal.τ).loc Cert.FfnBwdDIdeal.main_arg0)
      ∧ m' ((c.tc : Thread Cert.FfnBwdDRefIdeal.nD Cert.FfnBwdDRefIdeal.τ).loc Cert.FfnBwdDRefIdeal.main_arg1) = m ((c.tc : Thread Cert.FfnBwdDIdeal.nD Cert.FfnBwdDIdeal.τ).loc Cert.FfnBwdDIdeal.main_arg1)
      ∧ m' ((c.tc : Thread Cert.FfnBwdDRefIdeal.nD Cert.FfnBwdDRefIdeal.τ).loc Cert.FfnBwdDRefIdeal.main_arg2) = m ((c.tc : Thread Cert.FfnBwdDIdeal.nD Cert.FfnBwdDIdeal.τ).loc Cert.FfnBwdDIdeal.main_arg2)
      ∧ m' ((c.tc : Thread Cert.FfnBwdDRefIdeal.nD Cert.FfnBwdDRefIdeal.τ).loc Cert.FfnBwdDRefIdeal.main_arg3) = m ((c.tc : Thread Cert.FfnBwdDIdeal.nD Cert.FfnBwdDIdeal.τ).loc Cert.FfnBwdDIdeal.main_arg3)
      ∧ m' ((c.tc : Thread Cert.FfnBwdDRefIdeal.nD Cert.FfnBwdDRefIdeal.τ).loc Cert.FfnBwdDRefIdeal.main_arg4) = m ((c.tc : Thread Cert.FfnBwdDIdeal.nD Cert.FfnBwdDIdeal.τ).loc Cert.FfnBwdDIdeal.main_arg4)
      ∧ m' ((c.tc : Thread Cert.FfnBwdDRefIdeal.nD Cert.FfnBwdDRefIdeal.τ).loc Cert.FfnBwdDRefIdeal.main_arg5) = m ((c.tc : Thread Cert.FfnBwdDIdeal.nD Cert.FfnBwdDIdeal.τ).loc Cert.FfnBwdDIdeal.main_arg5)) →
    ∃ (v0 : (c : Dev Cert.FfnBwdDIdeal.nD) → Buf (Elt Ideal) ((c.tc : Thread Cert.FfnBwdDIdeal.nD Cert.FfnBwdDIdeal.τ).loc Cert.FfnBwdDIdeal.main_v53_0)) (v1 : (c : Dev Cert.FfnBwdDIdeal.nD) → Buf (Elt Ideal) ((c.tc : Thread Cert.FfnBwdDIdeal.nD Cert.FfnBwdDIdeal.τ).loc Cert.FfnBwdDIdeal.main_v53_1)) (v2 : (c : Dev Cert.FfnBwdDIdeal.nD) → Buf (Elt Ideal) ((c.tc : Thread Cert.FfnBwdDIdeal.nD Cert.FfnBwdDIdeal.τ).loc Cert.FfnBwdDIdeal.main_v53_2)) (v3 : (c : Dev Cert.FfnBwdDIdeal.nD) → Buf (Elt Ideal) ((c.tc : Thread Cert.FfnBwdDIdeal.nD Cert.FfnBwdDIdeal.τ).loc Cert.FfnBwdDIdeal.main_v53_3)) (v4 : (c : Dev Cert.FfnBwdDIdeal.nD) → Buf (Elt Ideal) ((c.tc : Thread Cert.FfnBwdDIdeal.nD Cert.FfnBwdDIdeal.τ).loc Cert.FfnBwdDIdeal.main_v53_4)) (v5 : (c : Dev Cert.FfnBwdDIdeal.nD) → Buf (Elt Ideal) ((c.tc : Thread Cert.FfnBwdDIdeal.nD Cert.FfnBwdDIdeal.τ).loc Cert.FfnBwdDIdeal.main_v53_5)),
      θ_run (Cert.FfnBwdDIdeal.defs (F := Ideal)) (onTc (τ := Cert.FfnBwdDIdeal.τ) (Cert.FfnBwdDIdeal.main (F := Ideal))) ⟨m, fun _ => 0, g⟩ (fun r => ∀ c : Dev Cert.FfnBwdDIdeal.nD,
          r.2.mem ((c.tc : Thread Cert.FfnBwdDIdeal.nD Cert.FfnBwdDIdeal.τ).loc Cert.FfnBwdDIdeal.main_v53_0) = v0 c
          ∧ r.2.mem ((c.tc : Thread Cert.FfnBwdDIdeal.nD Cert.FfnBwdDIdeal.τ).loc Cert.FfnBwdDIdeal.main_v53_1) = v1 c
          ∧ r.2.mem ((c.tc : Thread Cert.FfnBwdDIdeal.nD Cert.FfnBwdDIdeal.τ).loc Cert.FfnBwdDIdeal.main_v53_2) = v2 c
          ∧ r.2.mem ((c.tc : Thread Cert.FfnBwdDIdeal.nD Cert.FfnBwdDIdeal.τ).loc Cert.FfnBwdDIdeal.main_v53_3) = v3 c
          ∧ r.2.mem ((c.tc : Thread Cert.FfnBwdDIdeal.nD Cert.FfnBwdDIdeal.τ).loc Cert.FfnBwdDIdeal.main_v53_4) = v4 c
          ∧ r.2.mem ((c.tc : Thread Cert.FfnBwdDIdeal.nD Cert.FfnBwdDIdeal.τ).loc Cert.FfnBwdDIdeal.main_v53_5) = v5 c
          ∧ r.2.mem ((c.tc : Thread Cert.FfnBwdDIdeal.nD Cert.FfnBwdDIdeal.τ).loc Cert.FfnBwdDIdeal.main_arg0) = m ((c.tc : Thread Cert.FfnBwdDIdeal.nD Cert.FfnBwdDIdeal.τ).loc Cert.FfnBwdDIdeal.main_arg0)
          ∧ r.2.mem ((c.tc : Thread Cert.FfnBwdDIdeal.nD Cert.FfnBwdDIdeal.τ).loc Cert.FfnBwdDIdeal.main_arg1) = m ((c.tc : Thread Cert.FfnBwdDIdeal.nD Cert.FfnBwdDIdeal.τ).loc Cert.FfnBwdDIdeal.main_arg1)
          ∧ r.2.mem ((c.tc : Thread Cert.FfnBwdDIdeal.nD Cert.FfnBwdDIdeal.τ).loc Cert.FfnBwdDIdeal.main_arg2) = m ((c.tc : Thread Cert.FfnBwdDIdeal.nD Cert.FfnBwdDIdeal.τ).loc Cert.FfnBwdDIdeal.main_arg2)
          ∧ r.2.mem ((c.tc : Thread Cert.FfnBwdDIdeal.nD Cert.FfnBwdDIdeal.τ).loc Cert.FfnBwdDIdeal.main_arg3) = m ((c.tc : Thread Cert.FfnBwdDIdeal.nD Cert.FfnBwdDIdeal.τ).loc Cert.FfnBwdDIdeal.main_arg3)
          ∧ r.2.mem ((c.tc : Thread Cert.FfnBwdDIdeal.nD Cert.FfnBwdDIdeal.τ).loc Cert.FfnBwdDIdeal.main_arg4) = m ((c.tc : Thread Cert.FfnBwdDIdeal.nD Cert.FfnBwdDIdeal.τ).loc Cert.FfnBwdDIdeal.main_arg4)
          ∧ r.2.mem ((c.tc : Thread Cert.FfnBwdDIdeal.nD Cert.FfnBwdDIdeal.τ).loc Cert.FfnBwdDIdeal.main_arg5) = m ((c.tc : Thread Cert.FfnBwdDIdeal.nD Cert.FfnBwdDIdeal.τ).loc Cert.FfnBwdDIdeal.main_arg5))
      ∧ θ_run (Cert.FfnBwdDRefIdeal.defs (F := Ideal)) (onTc (τ := Cert.FfnBwdDRefIdeal.τ) (Cert.FfnBwdDRefIdeal.main (F := Ideal))) ⟨m', fun _ => 0, g'⟩ (fun r => ∀ c : Dev Cert.FfnBwdDRefIdeal.nD,
          r.2.mem ((c.tc : Thread Cert.FfnBwdDRefIdeal.nD Cert.FfnBwdDRefIdeal.τ).loc Cert.FfnBwdDRefIdeal.main_v132) = v0 c
          ∧ r.2.mem ((c.tc : Thread Cert.FfnBwdDRefIdeal.nD Cert.FfnBwdDRefIdeal.τ).loc Cert.FfnBwdDRefIdeal.main_v133) = v1 c
          ∧ r.2.mem ((c.tc : Thread Cert.FfnBwdDRefIdeal.nD Cert.FfnBwdDRefIdeal.τ).loc Cert.FfnBwdDRefIdeal.main_v134) = v2 c
          ∧ r.2.mem ((c.tc : Thread Cert.FfnBwdDRefIdeal.nD Cert.FfnBwdDRefIdeal.τ).loc Cert.FfnBwdDRefIdeal.main_v135) = v3 c
          ∧ r.2.mem ((c.tc : Thread Cert.FfnBwdDRefIdeal.nD Cert.FfnBwdDRefIdeal.τ).loc Cert.FfnBwdDRefIdeal.main_v136) = v4 c
          ∧ r.2.mem ((c.tc : Thread Cert.FfnBwdDRefIdeal.nD Cert.FfnBwdDRefIdeal.τ).loc Cert.FfnBwdDRefIdeal.main_v131) = v5 c
          ∧ r.2.mem ((c.tc : Thread Cert.FfnBwdDRefIdeal.nD Cert.FfnBwdDRefIdeal.τ).loc Cert.FfnBwdDRefIdeal.main_arg0) = m' ((c.tc : Thread Cert.FfnBwdDRefIdeal.nD Cert.FfnBwdDRefIdeal.τ).loc Cert.FfnBwdDRefIdeal.main_arg0)
          ∧ r.2.mem ((c.tc : Thread Cert.FfnBwdDRefIdeal.nD Cert.FfnBwdDRefIdeal.τ).loc Cert.FfnBwdDRefIdeal.main_arg1) = m' ((c.tc : Thread Cert.FfnBwdDRefIdeal.nD Cert.FfnBwdDRefIdeal.τ).loc Cert.FfnBwdDRefIdeal.main_arg1)
          ∧ r.2.mem ((c.tc : Thread Cert.FfnBwdDRefIdeal.nD Cert.FfnBwdDRefIdeal.τ).loc Cert.FfnBwdDRefIdeal.main_arg2) = m' ((c.tc : Thread Cert.FfnBwdDRefIdeal.nD Cert.FfnBwdDRefIdeal.τ).loc Cert.FfnBwdDRefIdeal.main_arg2)
          ∧ r.2.mem ((c.tc : Thread Cert.FfnBwdDRefIdeal.nD Cert.FfnBwdDRefIdeal.τ).loc Cert.FfnBwdDRefIdeal.main_arg3) = m' ((c.tc : Thread Cert.FfnBwdDRefIdeal.nD Cert.FfnBwdDRefIdeal.τ).loc Cert.FfnBwdDRefIdeal.main_arg3)
          ∧ r.2.mem ((c.tc : Thread Cert.FfnBwdDRefIdeal.nD Cert.FfnBwdDRefIdeal.τ).loc Cert.FfnBwdDRefIdeal.main_arg4) = m' ((c.tc : Thread Cert.FfnBwdDRefIdeal.nD Cert.FfnBwdDRefIdeal.τ).loc Cert.FfnBwdDRefIdeal.main_arg4)
          ∧ r.2.mem ((c.tc : Thread Cert.FfnBwdDRefIdeal.nD Cert.FfnBwdDRefIdeal.τ).loc Cert.FfnBwdDRefIdeal.main_arg5) = m' ((c.tc : Thread Cert.FfnBwdDRefIdeal.nD Cert.FfnBwdDRefIdeal.τ).loc Cert.FfnBwdDRefIdeal.main_arg5))

def preserves_AdamRow_AdamRowIdeal : Prop :=
  True

def algebraic_AdamRowIdeal_AdamRowRefIdeal [hAdamRowIdeal : Cert.AdamRowIdeal.Facts] [hAdamRowRefIdeal : Cert.AdamRowRefIdeal.Facts] : Prop :=
  ∀ (m : (ℓ : Loc Cert.AdamRowIdeal.nD Cert.AdamRowIdeal.τ Cert.AdamRowIdeal.sig) → Buf (Elt Ideal) ℓ) (g : Dev Cert.AdamRowIdeal.nD → PrngReg)
    (m' : (ℓ : Loc Cert.AdamRowRefIdeal.nD Cert.AdamRowRefIdeal.τ Cert.AdamRowRefIdeal.sig) → Buf (Elt Ideal) ℓ) (g' : Dev Cert.AdamRowRefIdeal.nD → PrngReg), Pre_AdamRowIdeal m →
    (∀ c : Dev Cert.AdamRowIdeal.nD,
      m' ((c.tc : Thread Cert.AdamRowRefIdeal.nD Cert.AdamRowRefIdeal.τ).loc Cert.AdamRowRefIdeal.main_arg0) = m ((c.tc : Thread Cert.AdamRowIdeal.nD Cert.AdamRowIdeal.τ).loc Cert.AdamRowIdeal.main_arg0)
      ∧ m' ((c.tc : Thread Cert.AdamRowRefIdeal.nD Cert.AdamRowRefIdeal.τ).loc Cert.AdamRowRefIdeal.main_arg1) = m ((c.tc : Thread Cert.AdamRowIdeal.nD Cert.AdamRowIdeal.τ).loc Cert.AdamRowIdeal.main_arg1)
      ∧ m' ((c.tc : Thread Cert.AdamRowRefIdeal.nD Cert.AdamRowRefIdeal.τ).loc Cert.AdamRowRefIdeal.main_arg2) = m ((c.tc : Thread Cert.AdamRowIdeal.nD Cert.AdamRowIdeal.τ).loc Cert.AdamRowIdeal.main_arg2)
      ∧ m' ((c.tc : Thread Cert.AdamRowRefIdeal.nD Cert.AdamRowRefIdeal.τ).loc Cert.AdamRowRefIdeal.main_arg3) = m ((c.tc : Thread Cert.AdamRowIdeal.nD Cert.AdamRowIdeal.τ).loc Cert.AdamRowIdeal.main_arg3)) →
    ∃ (v0 : (c : Dev Cert.AdamRowIdeal.nD) → Buf (Elt Ideal) ((c.tc : Thread Cert.AdamRowIdeal.nD Cert.AdamRowIdeal.τ).loc Cert.AdamRowIdeal.main_v0_0)) (v1 : (c : Dev Cert.AdamRowIdeal.nD) → Buf (Elt Ideal) ((c.tc : Thread Cert.AdamRowIdeal.nD Cert.AdamRowIdeal.τ).loc Cert.AdamRowIdeal.main_v0_1)) (v2 : (c : Dev Cert.AdamRowIdeal.nD) → Buf (Elt Ideal) ((c.tc : Thread Cert.AdamRowIdeal.nD Cert.AdamRowIdeal.τ).loc Cert.AdamRowIdeal.main_v0_2)),
      θ_run (Cert.AdamRowIdeal.defs (F := Ideal)) (onTc (τ := Cert.AdamRowIdeal.τ) (Cert.AdamRowIdeal.main (F := Ideal))) ⟨m, fun _ => 0, g⟩ (fun r => ∀ c : Dev Cert.AdamRowIdeal.nD,
          r.2.mem ((c.tc : Thread Cert.AdamRowIdeal.nD Cert.AdamRowIdeal.τ).loc Cert.AdamRowIdeal.main_v0_0) = v0 c
          ∧ r.2.mem ((c.tc : Thread Cert.AdamRowIdeal.nD Cert.AdamRowIdeal.τ).loc Cert.AdamRowIdeal.main_v0_1) = v1 c
          ∧ r.2.mem ((c.tc : Thread Cert.AdamRowIdeal.nD Cert.AdamRowIdeal.τ).loc Cert.AdamRowIdeal.main_v0_2) = v2 c
          ∧ r.2.mem ((c.tc : Thread Cert.AdamRowIdeal.nD Cert.AdamRowIdeal.τ).loc Cert.AdamRowIdeal.main_arg0) = m ((c.tc : Thread Cert.AdamRowIdeal.nD Cert.AdamRowIdeal.τ).loc Cert.AdamRowIdeal.main_arg0)
          ∧ r.2.mem ((c.tc : Thread Cert.AdamRowIdeal.nD Cert.AdamRowIdeal.τ).loc Cert.AdamRowIdeal.main_arg1) = m ((c.tc : Thread Cert.AdamRowIdeal.nD Cert.AdamRowIdeal.τ).loc Cert.AdamRowIdeal.main_arg1)
          ∧ r.2.mem ((c.tc : Thread Cert.AdamRowIdeal.nD Cert.AdamRowIdeal.τ).loc Cert.AdamRowIdeal.main_arg2) = m ((c.tc : Thread Cert.AdamRowIdeal.nD Cert.AdamRowIdeal.τ).loc Cert.AdamRowIdeal.main_arg2)
          ∧ r.2.mem ((c.tc : Thread Cert.AdamRowIdeal.nD Cert.AdamRowIdeal.τ).loc Cert.AdamRowIdeal.main_arg3) = m ((c.tc : Thread Cert.AdamRowIdeal.nD Cert.AdamRowIdeal.τ).loc Cert.AdamRowIdeal.main_arg3))
      ∧ θ_run (Cert.AdamRowRefIdeal.defs (F := Ideal)) (onTc (τ := Cert.AdamRowRefIdeal.τ) (Cert.AdamRowRefIdeal.main (F := Ideal))) ⟨m', fun _ => 0, g'⟩ (fun r => ∀ c : Dev Cert.AdamRowRefIdeal.nD,
          r.2.mem ((c.tc : Thread Cert.AdamRowRefIdeal.nD Cert.AdamRowRefIdeal.τ).loc Cert.AdamRowRefIdeal.main_v23) = v0 c
          ∧ r.2.mem ((c.tc : Thread Cert.AdamRowRefIdeal.nD Cert.AdamRowRefIdeal.τ).loc Cert.AdamRowRefIdeal.main_v4) = v1 c
          ∧ r.2.mem ((c.tc : Thread Cert.AdamRowRefIdeal.nD Cert.AdamRowRefIdeal.τ).loc Cert.AdamRowRefIdeal.main_v10) = v2 c
          ∧ r.2.mem ((c.tc : Thread Cert.AdamRowRefIdeal.nD Cert.AdamRowRefIdeal.τ).loc Cert.AdamRowRefIdeal.main_arg0) = m' ((c.tc : Thread Cert.AdamRowRefIdeal.nD Cert.AdamRowRefIdeal.τ).loc Cert.AdamRowRefIdeal.main_arg0)
          ∧ r.2.mem ((c.tc : Thread Cert.AdamRowRefIdeal.nD Cert.AdamRowRefIdeal.τ).loc Cert.AdamRowRefIdeal.main_arg1) = m' ((c.tc : Thread Cert.AdamRowRefIdeal.nD Cert.AdamRowRefIdeal.τ).loc Cert.AdamRowRefIdeal.main_arg1)
          ∧ r.2.mem ((c.tc : Thread Cert.AdamRowRefIdeal.nD Cert.AdamRowRefIdeal.τ).loc Cert.AdamRowRefIdeal.main_arg2) = m' ((c.tc : Thread Cert.AdamRowRefIdeal.nD Cert.AdamRowRefIdeal.τ).loc Cert.AdamRowRefIdeal.main_arg2)
          ∧ r.2.mem ((c.tc : Thread Cert.AdamRowRefIdeal.nD Cert.AdamRowRefIdeal.τ).loc Cert.AdamRowRefIdeal.main_arg3) = m' ((c.tc : Thread Cert.AdamRowRefIdeal.nD Cert.AdamRowRefIdeal.τ).loc Cert.AdamRowRefIdeal.main_arg3))

def preserves_AdamMod_AdamModIdeal : Prop :=
  True

def algebraic_AdamModIdeal_AdamModRefIdeal [hAdamModIdeal : Cert.AdamModIdeal.Facts] [hAdamModRefIdeal : Cert.AdamModRefIdeal.Facts] : Prop :=
  ∀ (m : (ℓ : Loc Cert.AdamModIdeal.nD Cert.AdamModIdeal.τ Cert.AdamModIdeal.sig) → Buf (Elt Ideal) ℓ) (g : Dev Cert.AdamModIdeal.nD → PrngReg)
    (m' : (ℓ : Loc Cert.AdamModRefIdeal.nD Cert.AdamModRefIdeal.τ Cert.AdamModRefIdeal.sig) → Buf (Elt Ideal) ℓ) (g' : Dev Cert.AdamModRefIdeal.nD → PrngReg), Pre_AdamModIdeal m →
    (∀ c : Dev Cert.AdamModIdeal.nD,
      m' ((c.tc : Thread Cert.AdamModRefIdeal.nD Cert.AdamModRefIdeal.τ).loc Cert.AdamModRefIdeal.main_arg0) = m ((c.tc : Thread Cert.AdamModIdeal.nD Cert.AdamModIdeal.τ).loc Cert.AdamModIdeal.main_arg0)
      ∧ m' ((c.tc : Thread Cert.AdamModRefIdeal.nD Cert.AdamModRefIdeal.τ).loc Cert.AdamModRefIdeal.main_arg1) = m ((c.tc : Thread Cert.AdamModIdeal.nD Cert.AdamModIdeal.τ).loc Cert.AdamModIdeal.main_arg1)
      ∧ m' ((c.tc : Thread Cert.AdamModRefIdeal.nD Cert.AdamModRefIdeal.τ).loc Cert.AdamModRefIdeal.main_arg2) = m ((c.tc : Thread Cert.AdamModIdeal.nD Cert.AdamModIdeal.τ).loc Cert.AdamModIdeal.main_arg2)
      ∧ m' ((c.tc : Thread Cert.AdamModRefIdeal.nD Cert.AdamModRefIdeal.τ).loc Cert.AdamModRefIdeal.main_arg3) = m ((c.tc : Thread Cert.AdamModIdeal.nD Cert.AdamModIdeal.τ).loc Cert.AdamModIdeal.main_arg3)) →
    ∃ (v0 : (c : Dev Cert.AdamModIdeal.nD) → Buf (Elt Ideal) ((c.tc : Thread Cert.AdamModIdeal.nD Cert.AdamModIdeal.τ).loc Cert.AdamModIdeal.main_v0_0)) (v1 : (c : Dev Cert.AdamModIdeal.nD) → Buf (Elt Ideal) ((c.tc : Thread Cert.AdamModIdeal.nD Cert.AdamModIdeal.τ).loc Cert.AdamModIdeal.main_v0_1)) (v2 : (c : Dev Cert.AdamModIdeal.nD) → Buf (Elt Ideal) ((c.tc : Thread Cert.AdamModIdeal.nD Cert.AdamModIdeal.τ).loc Cert.AdamModIdeal.main_v0_2)),
      θ_run (Cert.AdamModIdeal.defs (F := Ideal)) (onTc (τ := Cert.AdamModIdeal.τ) (Cert.AdamModIdeal.main (F := Ideal))) ⟨m, fun _ => 0, g⟩ (fun r => ∀ c : Dev Cert.AdamModIdeal.nD,
          r.2.mem ((c.tc : Thread Cert.AdamModIdeal.nD Cert.AdamModIdeal.τ).loc Cert.AdamModIdeal.main_v0_0) = v0 c
          ∧ r.2.mem ((c.tc : Thread Cert.AdamModIdeal.nD Cert.AdamModIdeal.τ).loc Cert.AdamModIdeal.main_v0_1) = v1 c
          ∧ r.2.mem ((c.tc : Thread Cert.AdamModIdeal.nD Cert.AdamModIdeal.τ).loc Cert.AdamModIdeal.main_v0_2) = v2 c
          ∧ r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
          ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
          ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
          ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ θ_run (Cert.AdamModRefIdeal.defs (F := Ideal)) (onTc (τ := Cert.AdamModRefIdeal.τ) (Cert.AdamModRefIdeal.main (F := Ideal))) ⟨m', fun _ => 0, g'⟩ (fun r => ∀ c : Dev Cert.AdamModRefIdeal.nD,
          r.2.mem ((c.tc : Thread Cert.AdamModRefIdeal.nD Cert.AdamModRefIdeal.τ).loc Cert.AdamModRefIdeal.main_v23) = v0 c
          ∧ r.2.mem ((c.tc : Thread Cert.AdamModRefIdeal.nD Cert.AdamModRefIdeal.τ).loc Cert.AdamModRefIdeal.main_v4) = v1 c
          ∧ r.2.mem ((c.tc : Thread Cert.AdamModRefIdeal.nD Cert.AdamModRefIdeal.τ).loc Cert.AdamModRefIdeal.main_v10) = v2 c
          ∧ r.2.mem ((c.tc : Thread Cert.AdamModRefIdeal.nD Cert.AdamModRefIdeal.τ).loc Cert.AdamModRefIdeal.main_arg0) = m' ((c.tc : Thread Cert.AdamModRefIdeal.nD Cert.AdamModRefIdeal.τ).loc Cert.AdamModRefIdeal.main_arg0)
          ∧ r.2.mem ((c.tc : Thread Cert.AdamModRefIdeal.nD Cert.AdamModRefIdeal.τ).loc Cert.AdamModRefIdeal.main_arg1) = m' ((c.tc : Thread Cert.AdamModRefIdeal.nD Cert.AdamModRefIdeal.τ).loc Cert.AdamModRefIdeal.main_arg1)
          ∧ r.2.mem ((c.tc : Thread Cert.AdamModRefIdeal.nD Cert.AdamModRefIdeal.τ).loc Cert.AdamModRefIdeal.main_arg2) = m' ((c.tc : Thread Cert.AdamModRefIdeal.nD Cert.AdamModRefIdeal.τ).loc Cert.AdamModRefIdeal.main_arg2)
          ∧ r.2.mem ((c.tc : Thread Cert.AdamModRefIdeal.nD Cert.AdamModRefIdeal.τ).loc Cert.AdamModRefIdeal.main_arg3) = m' ((c.tc : Thread Cert.AdamModRefIdeal.nD Cert.AdamModRefIdeal.τ).loc Cert.AdamModRefIdeal.main_arg3))

def preserves_AdamBias_AdamBiasIdeal : Prop :=
  True

def algebraic_AdamBiasIdeal_AdamBiasRefIdeal [hAdamBiasIdeal : Cert.AdamBiasIdeal.Facts] [hAdamBiasRefIdeal : Cert.AdamBiasRefIdeal.Facts] : Prop :=
  ∀ (m : (ℓ : Loc Cert.AdamBiasIdeal.nD Cert.AdamBiasIdeal.τ Cert.AdamBiasIdeal.sig) → Buf (Elt Ideal) ℓ) (g : Dev Cert.AdamBiasIdeal.nD → PrngReg)
    (m' : (ℓ : Loc Cert.AdamBiasRefIdeal.nD Cert.AdamBiasRefIdeal.τ Cert.AdamBiasRefIdeal.sig) → Buf (Elt Ideal) ℓ) (g' : Dev Cert.AdamBiasRefIdeal.nD → PrngReg), Pre_AdamBiasIdeal m →
    (∀ c : Dev Cert.AdamBiasIdeal.nD,
      m' ((c.tc : Thread Cert.AdamBiasRefIdeal.nD Cert.AdamBiasRefIdeal.τ).loc Cert.AdamBiasRefIdeal.main_arg0) = m ((c.tc : Thread Cert.AdamBiasIdeal.nD Cert.AdamBiasIdeal.τ).loc Cert.AdamBiasIdeal.main_arg0)
      ∧ m' ((c.tc : Thread Cert.AdamBiasRefIdeal.nD Cert.AdamBiasRefIdeal.τ).loc Cert.AdamBiasRefIdeal.main_arg1) = m ((c.tc : Thread Cert.AdamBiasIdeal.nD Cert.AdamBiasIdeal.τ).loc Cert.AdamBiasIdeal.main_arg1)
      ∧ m' ((c.tc : Thread Cert.AdamBiasRefIdeal.nD Cert.AdamBiasRefIdeal.τ).loc Cert.AdamBiasRefIdeal.main_arg2) = m ((c.tc : Thread Cert.AdamBiasIdeal.nD Cert.AdamBiasIdeal.τ).loc Cert.AdamBiasIdeal.main_arg2)
      ∧ m' ((c.tc : Thread Cert.AdamBiasRefIdeal.nD Cert.AdamBiasRefIdeal.τ).loc Cert.AdamBiasRefIdeal.main_arg3) = m ((c.tc : Thread Cert.AdamBiasIdeal.nD Cert.AdamBiasIdeal.τ).loc Cert.AdamBiasIdeal.main_arg3)) →
    ∃ (v0 : (c : Dev Cert.AdamBiasIdeal.nD) → Buf (Elt Ideal) ((c.tc : Thread Cert.AdamBiasIdeal.nD Cert.AdamBiasIdeal.τ).loc Cert.AdamBiasIdeal.main_v0_0)) (v1 : (c : Dev Cert.AdamBiasIdeal.nD) → Buf (Elt Ideal) ((c.tc : Thread Cert.AdamBiasIdeal.nD Cert.AdamBiasIdeal.τ).loc Cert.AdamBiasIdeal.main_v0_1)) (v2 : (c : Dev Cert.AdamBiasIdeal.nD) → Buf (Elt Ideal) ((c.tc : Thread Cert.AdamBiasIdeal.nD Cert.AdamBiasIdeal.τ).loc Cert.AdamBiasIdeal.main_v0_2)),
      θ_run (Cert.AdamBiasIdeal.defs (F := Ideal)) (onTc (τ := Cert.AdamBiasIdeal.τ) (Cert.AdamBiasIdeal.main (F := Ideal))) ⟨m, fun _ => 0, g⟩ (fun r => ∀ c : Dev Cert.AdamBiasIdeal.nD,
          r.2.mem ((c.tc : Thread Cert.AdamBiasIdeal.nD Cert.AdamBiasIdeal.τ).loc Cert.AdamBiasIdeal.main_v0_0) = v0 c
          ∧ r.2.mem ((c.tc : Thread Cert.AdamBiasIdeal.nD Cert.AdamBiasIdeal.τ).loc Cert.AdamBiasIdeal.main_v0_1) = v1 c
          ∧ r.2.mem ((c.tc : Thread Cert.AdamBiasIdeal.nD Cert.AdamBiasIdeal.τ).loc Cert.AdamBiasIdeal.main_v0_2) = v2 c
          ∧ r.2.mem ((c.tc : Thread Cert.AdamBiasIdeal.nD Cert.AdamBiasIdeal.τ).loc Cert.AdamBiasIdeal.main_arg0) = m ((c.tc : Thread Cert.AdamBiasIdeal.nD Cert.AdamBiasIdeal.τ).loc Cert.AdamBiasIdeal.main_arg0)
          ∧ r.2.mem ((c.tc : Thread Cert.AdamBiasIdeal.nD Cert.AdamBiasIdeal.τ).loc Cert.AdamBiasIdeal.main_arg1) = m ((c.tc : Thread Cert.AdamBiasIdeal.nD Cert.AdamBiasIdeal.τ).loc Cert.AdamBiasIdeal.main_arg1)
          ∧ r.2.mem ((c.tc : Thread Cert.AdamBiasIdeal.nD Cert.AdamBiasIdeal.τ).loc Cert.AdamBiasIdeal.main_arg2) = m ((c.tc : Thread Cert.AdamBiasIdeal.nD Cert.AdamBiasIdeal.τ).loc Cert.AdamBiasIdeal.main_arg2)
          ∧ r.2.mem ((c.tc : Thread Cert.AdamBiasIdeal.nD Cert.AdamBiasIdeal.τ).loc Cert.AdamBiasIdeal.main_arg3) = m ((c.tc : Thread Cert.AdamBiasIdeal.nD Cert.AdamBiasIdeal.τ).loc Cert.AdamBiasIdeal.main_arg3))
      ∧ θ_run (Cert.AdamBiasRefIdeal.defs (F := Ideal)) (onTc (τ := Cert.AdamBiasRefIdeal.τ) (Cert.AdamBiasRefIdeal.main (F := Ideal))) ⟨m', fun _ => 0, g'⟩ (fun r => ∀ c : Dev Cert.AdamBiasRefIdeal.nD,
          r.2.mem ((c.tc : Thread Cert.AdamBiasRefIdeal.nD Cert.AdamBiasRefIdeal.τ).loc Cert.AdamBiasRefIdeal.main_v23) = v0 c
          ∧ r.2.mem ((c.tc : Thread Cert.AdamBiasRefIdeal.nD Cert.AdamBiasRefIdeal.τ).loc Cert.AdamBiasRefIdeal.main_v4) = v1 c
          ∧ r.2.mem ((c.tc : Thread Cert.AdamBiasRefIdeal.nD Cert.AdamBiasRefIdeal.τ).loc Cert.AdamBiasRefIdeal.main_v10) = v2 c
          ∧ r.2.mem ((c.tc : Thread Cert.AdamBiasRefIdeal.nD Cert.AdamBiasRefIdeal.τ).loc Cert.AdamBiasRefIdeal.main_arg0) = m' ((c.tc : Thread Cert.AdamBiasRefIdeal.nD Cert.AdamBiasRefIdeal.τ).loc Cert.AdamBiasRefIdeal.main_arg0)
          ∧ r.2.mem ((c.tc : Thread Cert.AdamBiasRefIdeal.nD Cert.AdamBiasRefIdeal.τ).loc Cert.AdamBiasRefIdeal.main_arg1) = m' ((c.tc : Thread Cert.AdamBiasRefIdeal.nD Cert.AdamBiasRefIdeal.τ).loc Cert.AdamBiasRefIdeal.main_arg1)
          ∧ r.2.mem ((c.tc : Thread Cert.AdamBiasRefIdeal.nD Cert.AdamBiasRefIdeal.τ).loc Cert.AdamBiasRefIdeal.main_arg2) = m' ((c.tc : Thread Cert.AdamBiasRefIdeal.nD Cert.AdamBiasRefIdeal.τ).loc Cert.AdamBiasRefIdeal.main_arg2)
          ∧ r.2.mem ((c.tc : Thread Cert.AdamBiasRefIdeal.nD Cert.AdamBiasRefIdeal.τ).loc Cert.AdamBiasRefIdeal.main_arg3) = m' ((c.tc : Thread Cert.AdamBiasRefIdeal.nD Cert.AdamBiasRefIdeal.τ).loc Cert.AdamBiasRefIdeal.main_arg3))

def preserves_AdamNorm_AdamNormIdeal : Prop :=
  True

def algebraic_AdamNormIdeal_AdamNormRefIdeal [hAdamNormIdeal : Cert.AdamNormIdeal.Facts] [hAdamNormRefIdeal : Cert.AdamNormRefIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormRefIdeal.nD Cert.AdamNormRefIdeal.τ Cert.AdamNormRefIdeal.sig) → Buf (Elt Ideal) ℓ) (g' : Dev Cert.AdamNormRefIdeal.nD → PrngReg), Pre_AdamNormIdeal m →
    (∀ c : Dev Cert.AdamNormIdeal.nD,
      m' ((c.tc : Thread Cert.AdamNormRefIdeal.nD Cert.AdamNormRefIdeal.τ).loc Cert.AdamNormRefIdeal.main_arg0) = m ((c.tc : Thread Cert.AdamNormIdeal.nD Cert.AdamNormIdeal.τ).loc Cert.AdamNormIdeal.main_arg0)
      ∧ m' ((c.tc : Thread Cert.AdamNormRefIdeal.nD Cert.AdamNormRefIdeal.τ).loc Cert.AdamNormRefIdeal.main_arg1) = m ((c.tc : Thread Cert.AdamNormIdeal.nD Cert.AdamNormIdeal.τ).loc Cert.AdamNormIdeal.main_arg1)
      ∧ m' ((c.tc : Thread Cert.AdamNormRefIdeal.nD Cert.AdamNormRefIdeal.τ).loc Cert.AdamNormRefIdeal.main_arg2) = m ((c.tc : Thread Cert.AdamNormIdeal.nD Cert.AdamNormIdeal.τ).loc Cert.AdamNormIdeal.main_arg2)
      ∧ m' ((c.tc : Thread Cert.AdamNormRefIdeal.nD Cert.AdamNormRefIdeal.τ).loc Cert.AdamNormRefIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v0_0)) (v1 : (c : Dev Cert.AdamNormIdeal.nD) → Buf (Elt Ideal) ((c.tc : Thread Cert.AdamNormIdeal.nD Cert.AdamNormIdeal.τ).loc Cert.AdamNormIdeal.main_v0_1)) (v2 : (c : Dev Cert.AdamNormIdeal.nD) → Buf (Elt Ideal) ((c.tc : Thread Cert.AdamNormIdeal.nD Cert.AdamNormIdeal.τ).loc Cert.AdamNormIdeal.main_v0_2)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v0_0) = v0 c
          ∧ r.2.mem ((c.tc : Thread Cert.AdamNormIdeal.nD Cert.AdamNormIdeal.τ).loc Cert.AdamNormIdeal.main_v0_1) = v1 c
          ∧ r.2.mem ((c.tc : Thread Cert.AdamNormIdeal.nD Cert.AdamNormIdeal.τ).loc Cert.AdamNormIdeal.main_v0_2) = v2 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.AdamNormRefIdeal.defs (F := Ideal)) (onTc (τ := Cert.AdamNormRefIdeal.τ) (Cert.AdamNormRefIdeal.main (F := Ideal))) ⟨m', fun _ => 0, g'⟩ (fun r => ∀ c : Dev Cert.AdamNormRefIdeal.nD,
          r.2.mem ((c.tc : Thread Cert.AdamNormRefIdeal.nD Cert.AdamNormRefIdeal.τ).loc Cert.AdamNormRefIdeal.main_v23) = v0 c
          ∧ r.2.mem ((c.tc : Thread Cert.AdamNormRefIdeal.nD Cert.AdamNormRefIdeal.τ).loc Cert.AdamNormRefIdeal.main_v4) = v1 c
          ∧ r.2.mem ((c.tc : Thread Cert.AdamNormRefIdeal.nD Cert.AdamNormRefIdeal.τ).loc Cert.AdamNormRefIdeal.main_v10) = v2 c
          ∧ r.2.mem ((c.tc : Thread Cert.AdamNormRefIdeal.nD Cert.AdamNormRefIdeal.τ).loc Cert.AdamNormRefIdeal.main_arg0) = m' ((c.tc : Thread Cert.AdamNormRefIdeal.nD Cert.AdamNormRefIdeal.τ).loc Cert.AdamNormRefIdeal.main_arg0)
          ∧ r.2.mem ((c.tc : Thread Cert.AdamNormRefIdeal.nD Cert.AdamNormRefIdeal.τ).loc Cert.AdamNormRefIdeal.main_arg1) = m' ((c.tc : Thread Cert.AdamNormRefIdeal.nD Cert.AdamNormRefIdeal.τ).loc Cert.AdamNormRefIdeal.main_arg1)
          ∧ r.2.mem ((c.tc : Thread Cert.AdamNormRefIdeal.nD Cert.AdamNormRefIdeal.τ).loc Cert.AdamNormRefIdeal.main_arg2) = m' ((c.tc : Thread Cert.AdamNormRefIdeal.nD Cert.AdamNormRefIdeal.τ).loc Cert.AdamNormRefIdeal.main_arg2)
          ∧ r.2.mem ((c.tc : Thread Cert.AdamNormRefIdeal.nD Cert.AdamNormRefIdeal.τ).loc Cert.AdamNormRefIdeal.main_arg3) = m' ((c.tc : Thread Cert.AdamNormRefIdeal.nD Cert.AdamNormRefIdeal.τ).loc Cert.AdamNormRefIdeal.main_arg3))

def preserves_AdamPool_AdamPoolIdeal : Prop :=
  True

def algebraic_AdamPoolIdeal_AdamPoolRefIdeal [hAdamPoolIdeal : Cert.AdamPoolIdeal.Facts] [hAdamPoolRefIdeal : Cert.AdamPoolRefIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg)
    (m' : (ℓ : Loc Cert.AdamPoolRefIdeal.nD Cert.AdamPoolRefIdeal.τ Cert.AdamPoolRefIdeal.sig) → Buf (Elt Ideal) ℓ) (g' : Dev Cert.AdamPoolRefIdeal.nD → PrngReg), Pre_AdamPoolIdeal m →
    (∀ c : Dev Cert.AdamPoolIdeal.nD,
      m' ((c.tc : Thread Cert.AdamPoolRefIdeal.nD Cert.AdamPoolRefIdeal.τ).loc Cert.AdamPoolRefIdeal.main_arg0) = m ((c.tc : Thread Cert.AdamPoolIdeal.nD Cert.AdamPoolIdeal.τ).loc Cert.AdamPoolIdeal.main_arg0)
      ∧ m' ((c.tc : Thread Cert.AdamPoolRefIdeal.nD Cert.AdamPoolRefIdeal.τ).loc Cert.AdamPoolRefIdeal.main_arg1) = m ((c.tc : Thread Cert.AdamPoolIdeal.nD Cert.AdamPoolIdeal.τ).loc Cert.AdamPoolIdeal.main_arg1)
      ∧ m' ((c.tc : Thread Cert.AdamPoolRefIdeal.nD Cert.AdamPoolRefIdeal.τ).loc Cert.AdamPoolRefIdeal.main_arg2) = m ((c.tc : Thread Cert.AdamPoolIdeal.nD Cert.AdamPoolIdeal.τ).loc Cert.AdamPoolIdeal.main_arg2)
      ∧ m' ((c.tc : Thread Cert.AdamPoolRefIdeal.nD Cert.AdamPoolRefIdeal.τ).loc Cert.AdamPoolRefIdeal.main_arg3) = m ((c.tc : Thread Cert.AdamPoolIdeal.nD Cert.AdamPoolIdeal.τ).loc Cert.AdamPoolIdeal.main_arg3)) →
    ∃ (v0 : (c : Dev Cert.AdamPoolIdeal.nD) → Buf (Elt Ideal) ((c.tc : Thread Cert.AdamPoolIdeal.nD Cert.AdamPoolIdeal.τ).loc Cert.AdamPoolIdeal.main_v0_0)) (v1 : (c : Dev Cert.AdamPoolIdeal.nD) → Buf (Elt Ideal) ((c.tc : Thread Cert.AdamPoolIdeal.nD Cert.AdamPoolIdeal.τ).loc Cert.AdamPoolIdeal.main_v0_1)) (v2 : (c : Dev Cert.AdamPoolIdeal.nD) → Buf (Elt Ideal) ((c.tc : Thread Cert.AdamPoolIdeal.nD Cert.AdamPoolIdeal.τ).loc Cert.AdamPoolIdeal.main_v0_2)),
      θ_run (Cert.AdamPoolIdeal.defs (F := Ideal)) (onTc (τ := Cert.AdamPoolIdeal.τ) (Cert.AdamPoolIdeal.main (F := Ideal))) ⟨m, fun _ => 0, g⟩ (fun r => ∀ c : Dev Cert.AdamPoolIdeal.nD,
          r.2.mem ((c.tc : Thread Cert.AdamPoolIdeal.nD Cert.AdamPoolIdeal.τ).loc Cert.AdamPoolIdeal.main_v0_0) = v0 c
          ∧ r.2.mem ((c.tc : Thread Cert.AdamPoolIdeal.nD Cert.AdamPoolIdeal.τ).loc Cert.AdamPoolIdeal.main_v0_1) = v1 c
          ∧ r.2.mem ((c.tc : Thread Cert.AdamPoolIdeal.nD Cert.AdamPoolIdeal.τ).loc Cert.AdamPoolIdeal.main_v0_2) = v2 c
          ∧ r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
          ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
          ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
          ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ θ_run (Cert.AdamPoolRefIdeal.defs (F := Ideal)) (onTc (τ := Cert.AdamPoolRefIdeal.τ) (Cert.AdamPoolRefIdeal.main (F := Ideal))) ⟨m', fun _ => 0, g'⟩ (fun r => ∀ c : Dev Cert.AdamPoolRefIdeal.nD,
          r.2.mem ((c.tc : Thread Cert.AdamPoolRefIdeal.nD Cert.AdamPoolRefIdeal.τ).loc Cert.AdamPoolRefIdeal.main_v23) = v0 c
          ∧ r.2.mem ((c.tc : Thread Cert.AdamPoolRefIdeal.nD Cert.AdamPoolRefIdeal.τ).loc Cert.AdamPoolRefIdeal.main_v4) = v1 c
          ∧ r.2.mem ((c.tc : Thread Cert.AdamPoolRefIdeal.nD Cert.AdamPoolRefIdeal.τ).loc Cert.AdamPoolRefIdeal.main_v10) = v2 c
          ∧ r.2.mem ((c.tc : Thread Cert.AdamPoolRefIdeal.nD Cert.AdamPoolRefIdeal.τ).loc Cert.AdamPoolRefIdeal.main_arg0) = m' ((c.tc : Thread Cert.AdamPoolRefIdeal.nD Cert.AdamPoolRefIdeal.τ).loc Cert.AdamPoolRefIdeal.main_arg0)
          ∧ r.2.mem ((c.tc : Thread Cert.AdamPoolRefIdeal.nD Cert.AdamPoolRefIdeal.τ).loc Cert.AdamPoolRefIdeal.main_arg1) = m' ((c.tc : Thread Cert.AdamPoolRefIdeal.nD Cert.AdamPoolRefIdeal.τ).loc Cert.AdamPoolRefIdeal.main_arg1)
          ∧ r.2.mem ((c.tc : Thread Cert.AdamPoolRefIdeal.nD Cert.AdamPoolRefIdeal.τ).loc Cert.AdamPoolRefIdeal.main_arg2) = m' ((c.tc : Thread Cert.AdamPoolRefIdeal.nD Cert.AdamPoolRefIdeal.τ).loc Cert.AdamPoolRefIdeal.main_arg2)
          ∧ r.2.mem ((c.tc : Thread Cert.AdamPoolRefIdeal.nD Cert.AdamPoolRefIdeal.τ).loc Cert.AdamPoolRefIdeal.main_arg3) = m' ((c.tc : Thread Cert.AdamPoolRefIdeal.nD Cert.AdamPoolRefIdeal.τ).loc Cert.AdamPoolRefIdeal.main_arg3))

def preserves_AdamScale_AdamScaleIdeal : Prop :=
  True

def algebraic_AdamScaleIdeal_AdamScaleRefIdeal [hAdamScaleIdeal : Cert.AdamScaleIdeal.Facts] [hAdamScaleRefIdeal : Cert.AdamScaleRefIdeal.Facts] : Prop :=
  ∀ (m : (ℓ : Loc Cert.AdamScaleIdeal.nD Cert.AdamScaleIdeal.τ Cert.AdamScaleIdeal.sig) → Buf (Elt Ideal) ℓ) (g : Dev Cert.AdamScaleIdeal.nD → PrngReg)
    (m' : (ℓ : Loc Cert.AdamScaleRefIdeal.nD Cert.AdamScaleRefIdeal.τ Cert.AdamScaleRefIdeal.sig) → Buf (Elt Ideal) ℓ) (g' : Dev Cert.AdamScaleRefIdeal.nD → PrngReg), Pre_AdamScaleIdeal m →
    (∀ c : Dev Cert.AdamScaleIdeal.nD,
      m' ((c.tc : Thread Cert.AdamScaleRefIdeal.nD Cert.AdamScaleRefIdeal.τ).loc Cert.AdamScaleRefIdeal.main_arg0) = m ((c.tc : Thread Cert.AdamScaleIdeal.nD Cert.AdamScaleIdeal.τ).loc Cert.AdamScaleIdeal.main_arg0)
      ∧ m' ((c.tc : Thread Cert.AdamScaleRefIdeal.nD Cert.AdamScaleRefIdeal.τ).loc Cert.AdamScaleRefIdeal.main_arg1) = m ((c.tc : Thread Cert.AdamScaleIdeal.nD Cert.AdamScaleIdeal.τ).loc Cert.AdamScaleIdeal.main_arg1)
      ∧ m' ((c.tc : Thread Cert.AdamScaleRefIdeal.nD Cert.AdamScaleRefIdeal.τ).loc Cert.AdamScaleRefIdeal.main_arg2) = m ((c.tc : Thread Cert.AdamScaleIdeal.nD Cert.AdamScaleIdeal.τ).loc Cert.AdamScaleIdeal.main_arg2)
      ∧ m' ((c.tc : Thread Cert.AdamScaleRefIdeal.nD Cert.AdamScaleRefIdeal.τ).loc Cert.AdamScaleRefIdeal.main_arg3) = m ((c.tc : Thread Cert.AdamScaleIdeal.nD Cert.AdamScaleIdeal.τ).loc Cert.AdamScaleIdeal.main_arg3)) →
    ∃ (v0 : (c : Dev Cert.AdamScaleIdeal.nD) → Buf (Elt Ideal) ((c.tc : Thread Cert.AdamScaleIdeal.nD Cert.AdamScaleIdeal.τ).loc Cert.AdamScaleIdeal.main_v0_0)) (v1 : (c : Dev Cert.AdamScaleIdeal.nD) → Buf (Elt Ideal) ((c.tc : Thread Cert.AdamScaleIdeal.nD Cert.AdamScaleIdeal.τ).loc Cert.AdamScaleIdeal.main_v0_1)) (v2 : (c : Dev Cert.AdamScaleIdeal.nD) → Buf (Elt Ideal) ((c.tc : Thread Cert.AdamScaleIdeal.nD Cert.AdamScaleIdeal.τ).loc Cert.AdamScaleIdeal.main_v0_2)),
      θ_run (Cert.AdamScaleIdeal.defs (F := Ideal)) (onTc (τ := Cert.AdamScaleIdeal.τ) (Cert.AdamScaleIdeal.main (F := Ideal))) ⟨m, fun _ => 0, g⟩ (fun r => ∀ c : Dev Cert.AdamScaleIdeal.nD,
          r.2.mem ((c.tc : Thread Cert.AdamScaleIdeal.nD Cert.AdamScaleIdeal.τ).loc Cert.AdamScaleIdeal.main_v0_0) = v0 c
          ∧ r.2.mem ((c.tc : Thread Cert.AdamScaleIdeal.nD Cert.AdamScaleIdeal.τ).loc Cert.AdamScaleIdeal.main_v0_1) = v1 c
          ∧ r.2.mem ((c.tc : Thread Cert.AdamScaleIdeal.nD Cert.AdamScaleIdeal.τ).loc Cert.AdamScaleIdeal.main_v0_2) = v2 c
          ∧ r.2.mem ((c.tc : Thread Cert.AdamScaleIdeal.nD Cert.AdamScaleIdeal.τ).loc Cert.AdamScaleIdeal.main_arg0) = m ((c.tc : Thread Cert.AdamScaleIdeal.nD Cert.AdamScaleIdeal.τ).loc Cert.AdamScaleIdeal.main_arg0)
          ∧ r.2.mem ((c.tc : Thread Cert.AdamScaleIdeal.nD Cert.AdamScaleIdeal.τ).loc Cert.AdamScaleIdeal.main_arg1) = m ((c.tc : Thread Cert.AdamScaleIdeal.nD Cert.AdamScaleIdeal.τ).loc Cert.AdamScaleIdeal.main_arg1)
          ∧ r.2.mem ((c.tc : Thread Cert.AdamScaleIdeal.nD Cert.AdamScaleIdeal.τ).loc Cert.AdamScaleIdeal.main_arg2) = m ((c.tc : Thread Cert.AdamScaleIdeal.nD Cert.AdamScaleIdeal.τ).loc Cert.AdamScaleIdeal.main_arg2)
          ∧ r.2.mem ((c.tc : Thread Cert.AdamScaleIdeal.nD Cert.AdamScaleIdeal.τ).loc Cert.AdamScaleIdeal.main_arg3) = m ((c.tc : Thread Cert.AdamScaleIdeal.nD Cert.AdamScaleIdeal.τ).loc Cert.AdamScaleIdeal.main_arg3))
      ∧ θ_run (Cert.AdamScaleRefIdeal.defs (F := Ideal)) (onTc (τ := Cert.AdamScaleRefIdeal.τ) (Cert.AdamScaleRefIdeal.main (F := Ideal))) ⟨m', fun _ => 0, g'⟩ (fun r => ∀ c : Dev Cert.AdamScaleRefIdeal.nD,
          r.2.mem ((c.tc : Thread Cert.AdamScaleRefIdeal.nD Cert.AdamScaleRefIdeal.τ).loc Cert.AdamScaleRefIdeal.main_v23) = v0 c
          ∧ r.2.mem ((c.tc : Thread Cert.AdamScaleRefIdeal.nD Cert.AdamScaleRefIdeal.τ).loc Cert.AdamScaleRefIdeal.main_v4) = v1 c
          ∧ r.2.mem ((c.tc : Thread Cert.AdamScaleRefIdeal.nD Cert.AdamScaleRefIdeal.τ).loc Cert.AdamScaleRefIdeal.main_v10) = v2 c
          ∧ r.2.mem ((c.tc : Thread Cert.AdamScaleRefIdeal.nD Cert.AdamScaleRefIdeal.τ).loc Cert.AdamScaleRefIdeal.main_arg0) = m' ((c.tc : Thread Cert.AdamScaleRefIdeal.nD Cert.AdamScaleRefIdeal.τ).loc Cert.AdamScaleRefIdeal.main_arg0)
          ∧ r.2.mem ((c.tc : Thread Cert.AdamScaleRefIdeal.nD Cert.AdamScaleRefIdeal.τ).loc Cert.AdamScaleRefIdeal.main_arg1) = m' ((c.tc : Thread Cert.AdamScaleRefIdeal.nD Cert.AdamScaleRefIdeal.τ).loc Cert.AdamScaleRefIdeal.main_arg1)
          ∧ r.2.mem ((c.tc : Thread Cert.AdamScaleRefIdeal.nD Cert.AdamScaleRefIdeal.τ).loc Cert.AdamScaleRefIdeal.main_arg2) = m' ((c.tc : Thread Cert.AdamScaleRefIdeal.nD Cert.AdamScaleRefIdeal.τ).loc Cert.AdamScaleRefIdeal.main_arg2)
          ∧ r.2.mem ((c.tc : Thread Cert.AdamScaleRefIdeal.nD Cert.AdamScaleRefIdeal.τ).loc Cert.AdamScaleRefIdeal.main_arg3) = m' ((c.tc : Thread Cert.AdamScaleRefIdeal.nD Cert.AdamScaleRefIdeal.τ).loc Cert.AdamScaleRefIdeal.main_arg3))

def preserves_AdamSink_AdamSinkIdeal : Prop :=
  True

def algebraic_AdamSinkIdeal_AdamSinkRefIdeal [hAdamSinkIdeal : Cert.AdamSinkIdeal.Facts] [hAdamSinkRefIdeal : Cert.AdamSinkRefIdeal.Facts] : Prop :=
  ∀ (m : (ℓ : Loc Cert.AdamSinkIdeal.nD Cert.AdamSinkIdeal.τ Cert.AdamSinkIdeal.sig) → Buf (Elt Ideal) ℓ) (g : Dev Cert.AdamSinkIdeal.nD → PrngReg)
    (m' : (ℓ : Loc Cert.AdamSinkRefIdeal.nD Cert.AdamSinkRefIdeal.τ Cert.AdamSinkRefIdeal.sig) → Buf (Elt Ideal) ℓ) (g' : Dev Cert.AdamSinkRefIdeal.nD → PrngReg), Pre_AdamSinkIdeal m →
    (∀ c : Dev Cert.AdamSinkIdeal.nD,
      m' ((c.tc : Thread Cert.AdamSinkRefIdeal.nD Cert.AdamSinkRefIdeal.τ).loc Cert.AdamSinkRefIdeal.main_arg0) = m ((c.tc : Thread Cert.AdamSinkIdeal.nD Cert.AdamSinkIdeal.τ).loc Cert.AdamSinkIdeal.main_arg0)
      ∧ m' ((c.tc : Thread Cert.AdamSinkRefIdeal.nD Cert.AdamSinkRefIdeal.τ).loc Cert.AdamSinkRefIdeal.main_arg1) = m ((c.tc : Thread Cert.AdamSinkIdeal.nD Cert.AdamSinkIdeal.τ).loc Cert.AdamSinkIdeal.main_arg1)
      ∧ m' ((c.tc : Thread Cert.AdamSinkRefIdeal.nD Cert.AdamSinkRefIdeal.τ).loc Cert.AdamSinkRefIdeal.main_arg2) = m ((c.tc : Thread Cert.AdamSinkIdeal.nD Cert.AdamSinkIdeal.τ).loc Cert.AdamSinkIdeal.main_arg2)
      ∧ m' ((c.tc : Thread Cert.AdamSinkRefIdeal.nD Cert.AdamSinkRefIdeal.τ).loc Cert.AdamSinkRefIdeal.main_arg3) = m ((c.tc : Thread Cert.AdamSinkIdeal.nD Cert.AdamSinkIdeal.τ).loc Cert.AdamSinkIdeal.main_arg3)) →
    ∃ (v0 : (c : Dev Cert.AdamSinkIdeal.nD) → Buf (Elt Ideal) ((c.tc : Thread Cert.AdamSinkIdeal.nD Cert.AdamSinkIdeal.τ).loc Cert.AdamSinkIdeal.main_v0_0)) (v1 : (c : Dev Cert.AdamSinkIdeal.nD) → Buf (Elt Ideal) ((c.tc : Thread Cert.AdamSinkIdeal.nD Cert.AdamSinkIdeal.τ).loc Cert.AdamSinkIdeal.main_v0_1)) (v2 : (c : Dev Cert.AdamSinkIdeal.nD) → Buf (Elt Ideal) ((c.tc : Thread Cert.AdamSinkIdeal.nD Cert.AdamSinkIdeal.τ).loc Cert.AdamSinkIdeal.main_v0_2)),
      θ_run (Cert.AdamSinkIdeal.defs (F := Ideal)) (onTc (τ := Cert.AdamSinkIdeal.τ) (Cert.AdamSinkIdeal.main (F := Ideal))) ⟨m, fun _ => 0, g⟩ (fun r => ∀ c : Dev Cert.AdamSinkIdeal.nD,
          r.2.mem ((c.tc : Thread Cert.AdamSinkIdeal.nD Cert.AdamSinkIdeal.τ).loc Cert.AdamSinkIdeal.main_v0_0) = v0 c
          ∧ r.2.mem ((c.tc : Thread Cert.AdamSinkIdeal.nD Cert.AdamSinkIdeal.τ).loc Cert.AdamSinkIdeal.main_v0_1) = v1 c
          ∧ r.2.mem ((c.tc : Thread Cert.AdamSinkIdeal.nD Cert.AdamSinkIdeal.τ).loc Cert.AdamSinkIdeal.main_v0_2) = v2 c
          ∧ r.2.mem ((c.tc : Thread Cert.AdamSinkIdeal.nD Cert.AdamSinkIdeal.τ).loc Cert.AdamSinkIdeal.main_arg0) = m ((c.tc : Thread Cert.AdamSinkIdeal.nD Cert.AdamSinkIdeal.τ).loc Cert.AdamSinkIdeal.main_arg0)
          ∧ r.2.mem ((c.tc : Thread Cert.AdamSinkIdeal.nD Cert.AdamSinkIdeal.τ).loc Cert.AdamSinkIdeal.main_arg1) = m ((c.tc : Thread Cert.AdamSinkIdeal.nD Cert.AdamSinkIdeal.τ).loc Cert.AdamSinkIdeal.main_arg1)
          ∧ r.2.mem ((c.tc : Thread Cert.AdamSinkIdeal.nD Cert.AdamSinkIdeal.τ).loc Cert.AdamSinkIdeal.main_arg2) = m ((c.tc : Thread Cert.AdamSinkIdeal.nD Cert.AdamSinkIdeal.τ).loc Cert.AdamSinkIdeal.main_arg2)
          ∧ r.2.mem ((c.tc : Thread Cert.AdamSinkIdeal.nD Cert.AdamSinkIdeal.τ).loc Cert.AdamSinkIdeal.main_arg3) = m ((c.tc : Thread Cert.AdamSinkIdeal.nD Cert.AdamSinkIdeal.τ).loc Cert.AdamSinkIdeal.main_arg3))
      ∧ θ_run (Cert.AdamSinkRefIdeal.defs (F := Ideal)) (onTc (τ := Cert.AdamSinkRefIdeal.τ) (Cert.AdamSinkRefIdeal.main (F := Ideal))) ⟨m', fun _ => 0, g'⟩ (fun r => ∀ c : Dev Cert.AdamSinkRefIdeal.nD,
          r.2.mem ((c.tc : Thread Cert.AdamSinkRefIdeal.nD Cert.AdamSinkRefIdeal.τ).loc Cert.AdamSinkRefIdeal.main_v23) = v0 c
          ∧ r.2.mem ((c.tc : Thread Cert.AdamSinkRefIdeal.nD Cert.AdamSinkRefIdeal.τ).loc Cert.AdamSinkRefIdeal.main_v4) = v1 c
          ∧ r.2.mem ((c.tc : Thread Cert.AdamSinkRefIdeal.nD Cert.AdamSinkRefIdeal.τ).loc Cert.AdamSinkRefIdeal.main_v10) = v2 c
          ∧ r.2.mem ((c.tc : Thread Cert.AdamSinkRefIdeal.nD Cert.AdamSinkRefIdeal.τ).loc Cert.AdamSinkRefIdeal.main_arg0) = m' ((c.tc : Thread Cert.AdamSinkRefIdeal.nD Cert.AdamSinkRefIdeal.τ).loc Cert.AdamSinkRefIdeal.main_arg0)
          ∧ r.2.mem ((c.tc : Thread Cert.AdamSinkRefIdeal.nD Cert.AdamSinkRefIdeal.τ).loc Cert.AdamSinkRefIdeal.main_arg1) = m' ((c.tc : Thread Cert.AdamSinkRefIdeal.nD Cert.AdamSinkRefIdeal.τ).loc Cert.AdamSinkRefIdeal.main_arg1)
          ∧ r.2.mem ((c.tc : Thread Cert.AdamSinkRefIdeal.nD Cert.AdamSinkRefIdeal.τ).loc Cert.AdamSinkRefIdeal.main_arg2) = m' ((c.tc : Thread Cert.AdamSinkRefIdeal.nD Cert.AdamSinkRefIdeal.τ).loc Cert.AdamSinkRefIdeal.main_arg2)
          ∧ r.2.mem ((c.tc : Thread Cert.AdamSinkRefIdeal.nD Cert.AdamSinkRefIdeal.τ).loc Cert.AdamSinkRefIdeal.main_arg3) = m' ((c.tc : Thread Cert.AdamSinkRefIdeal.nD Cert.AdamSinkRefIdeal.τ).loc Cert.AdamSinkRefIdeal.main_arg3))

def preserves_AdamWide_AdamWideIdeal : Prop :=
  True

def algebraic_AdamWideIdeal_AdamWideRefIdeal [hAdamWideIdeal : Cert.AdamWideIdeal.Facts] [hAdamWideRefIdeal : Cert.AdamWideRefIdeal.Facts] : Prop :=
  ∀ (m : (ℓ : Loc Cert.AdamWideIdeal.nD Cert.AdamWideIdeal.τ Cert.AdamWideIdeal.sig) → Buf (Elt Ideal) ℓ) (g : Dev Cert.AdamWideIdeal.nD → PrngReg)
    (m' : (ℓ : Loc Cert.AdamWideRefIdeal.nD Cert.AdamWideRefIdeal.τ Cert.AdamWideRefIdeal.sig) → Buf (Elt Ideal) ℓ) (g' : Dev Cert.AdamWideRefIdeal.nD → PrngReg), Pre_AdamWideIdeal m →
    (∀ c : Dev Cert.AdamWideIdeal.nD,
      m' ((c.tc : Thread Cert.AdamWideRefIdeal.nD Cert.AdamWideRefIdeal.τ).loc Cert.AdamWideRefIdeal.main_arg0) = m ((c.tc : Thread Cert.AdamWideIdeal.nD Cert.AdamWideIdeal.τ).loc Cert.AdamWideIdeal.main_arg0)
      ∧ m' ((c.tc : Thread Cert.AdamWideRefIdeal.nD Cert.AdamWideRefIdeal.τ).loc Cert.AdamWideRefIdeal.main_arg1) = m ((c.tc : Thread Cert.AdamWideIdeal.nD Cert.AdamWideIdeal.τ).loc Cert.AdamWideIdeal.main_arg1)
      ∧ m' ((c.tc : Thread Cert.AdamWideRefIdeal.nD Cert.AdamWideRefIdeal.τ).loc Cert.AdamWideRefIdeal.main_arg2) = m ((c.tc : Thread Cert.AdamWideIdeal.nD Cert.AdamWideIdeal.τ).loc Cert.AdamWideIdeal.main_arg2)
      ∧ m' ((c.tc : Thread Cert.AdamWideRefIdeal.nD Cert.AdamWideRefIdeal.τ).loc Cert.AdamWideRefIdeal.main_arg3) = m ((c.tc : Thread Cert.AdamWideIdeal.nD Cert.AdamWideIdeal.τ).loc Cert.AdamWideIdeal.main_arg3)
      ∧ m' ((c.tc : Thread Cert.AdamWideRefIdeal.nD Cert.AdamWideRefIdeal.τ).loc Cert.AdamWideRefIdeal.main_arg4) = m ((c.tc : Thread Cert.AdamWideIdeal.nD Cert.AdamWideIdeal.τ).loc Cert.AdamWideIdeal.main_arg4)) →
    ∃ (v0 : (c : Dev Cert.AdamWideIdeal.nD) → Buf (Elt Ideal) ((c.tc : Thread Cert.AdamWideIdeal.nD Cert.AdamWideIdeal.τ).loc Cert.AdamWideIdeal.main_v0_0)) (v1 : (c : Dev Cert.AdamWideIdeal.nD) → Buf (Elt Ideal) ((c.tc : Thread Cert.AdamWideIdeal.nD Cert.AdamWideIdeal.τ).loc Cert.AdamWideIdeal.main_v0_1)) (v2 : (c : Dev Cert.AdamWideIdeal.nD) → Buf (Elt Ideal) ((c.tc : Thread Cert.AdamWideIdeal.nD Cert.AdamWideIdeal.τ).loc Cert.AdamWideIdeal.main_v0_2)) (v3 : (c : Dev Cert.AdamWideIdeal.nD) → Buf (Elt Ideal) ((c.tc : Thread Cert.AdamWideIdeal.nD Cert.AdamWideIdeal.τ).loc Cert.AdamWideIdeal.main_v0_3)),
      θ_run (Cert.AdamWideIdeal.defs (F := Ideal)) (onTc (τ := Cert.AdamWideIdeal.τ) (Cert.AdamWideIdeal.main (F := Ideal))) ⟨m, fun _ => 0, g⟩ (fun r => ∀ c : Dev Cert.AdamWideIdeal.nD,
          r.2.mem ((c.tc : Thread Cert.AdamWideIdeal.nD Cert.AdamWideIdeal.τ).loc Cert.AdamWideIdeal.main_v0_0) = v0 c
          ∧ r.2.mem ((c.tc : Thread Cert.AdamWideIdeal.nD Cert.AdamWideIdeal.τ).loc Cert.AdamWideIdeal.main_v0_1) = v1 c
          ∧ r.2.mem ((c.tc : Thread Cert.AdamWideIdeal.nD Cert.AdamWideIdeal.τ).loc Cert.AdamWideIdeal.main_v0_2) = v2 c
          ∧ r.2.mem ((c.tc : Thread Cert.AdamWideIdeal.nD Cert.AdamWideIdeal.τ).loc Cert.AdamWideIdeal.main_v0_3) = v3 c
          ∧ r.2.mem ((c.tc : Thread Cert.AdamWideIdeal.nD Cert.AdamWideIdeal.τ).loc Cert.AdamWideIdeal.main_arg0) = m ((c.tc : Thread Cert.AdamWideIdeal.nD Cert.AdamWideIdeal.τ).loc Cert.AdamWideIdeal.main_arg0)
          ∧ r.2.mem ((c.tc : Thread Cert.AdamWideIdeal.nD Cert.AdamWideIdeal.τ).loc Cert.AdamWideIdeal.main_arg1) = m ((c.tc : Thread Cert.AdamWideIdeal.nD Cert.AdamWideIdeal.τ).loc Cert.AdamWideIdeal.main_arg1)
          ∧ r.2.mem ((c.tc : Thread Cert.AdamWideIdeal.nD Cert.AdamWideIdeal.τ).loc Cert.AdamWideIdeal.main_arg2) = m ((c.tc : Thread Cert.AdamWideIdeal.nD Cert.AdamWideIdeal.τ).loc Cert.AdamWideIdeal.main_arg2)
          ∧ r.2.mem ((c.tc : Thread Cert.AdamWideIdeal.nD Cert.AdamWideIdeal.τ).loc Cert.AdamWideIdeal.main_arg3) = m ((c.tc : Thread Cert.AdamWideIdeal.nD Cert.AdamWideIdeal.τ).loc Cert.AdamWideIdeal.main_arg3)
          ∧ r.2.mem ((c.tc : Thread Cert.AdamWideIdeal.nD Cert.AdamWideIdeal.τ).loc Cert.AdamWideIdeal.main_arg4) = m ((c.tc : Thread Cert.AdamWideIdeal.nD Cert.AdamWideIdeal.τ).loc Cert.AdamWideIdeal.main_arg4))
      ∧ θ_run (Cert.AdamWideRefIdeal.defs (F := Ideal)) (onTc (τ := Cert.AdamWideRefIdeal.τ) (Cert.AdamWideRefIdeal.main (F := Ideal))) ⟨m', fun _ => 0, g'⟩ (fun r => ∀ c : Dev Cert.AdamWideRefIdeal.nD,
          r.2.mem ((c.tc : Thread Cert.AdamWideRefIdeal.nD Cert.AdamWideRefIdeal.τ).loc Cert.AdamWideRefIdeal.main_v2) = v0 c
          ∧ r.2.mem ((c.tc : Thread Cert.AdamWideRefIdeal.nD Cert.AdamWideRefIdeal.τ).loc Cert.AdamWideRefIdeal.main_v26) = v1 c
          ∧ r.2.mem ((c.tc : Thread Cert.AdamWideRefIdeal.nD Cert.AdamWideRefIdeal.τ).loc Cert.AdamWideRefIdeal.main_v7) = v2 c
          ∧ r.2.mem ((c.tc : Thread Cert.AdamWideRefIdeal.nD Cert.AdamWideRefIdeal.τ).loc Cert.AdamWideRefIdeal.main_v13) = v3 c
          ∧ r.2.mem ((c.tc : Thread Cert.AdamWideRefIdeal.nD Cert.AdamWideRefIdeal.τ).loc Cert.AdamWideRefIdeal.main_arg0) = m' ((c.tc : Thread Cert.AdamWideRefIdeal.nD Cert.AdamWideRefIdeal.τ).loc Cert.AdamWideRefIdeal.main_arg0)
          ∧ r.2.mem ((c.tc : Thread Cert.AdamWideRefIdeal.nD Cert.AdamWideRefIdeal.τ).loc Cert.AdamWideRefIdeal.main_arg1) = m' ((c.tc : Thread Cert.AdamWideRefIdeal.nD Cert.AdamWideRefIdeal.τ).loc Cert.AdamWideRefIdeal.main_arg1)
          ∧ r.2.mem ((c.tc : Thread Cert.AdamWideRefIdeal.nD Cert.AdamWideRefIdeal.τ).loc Cert.AdamWideRefIdeal.main_arg2) = m' ((c.tc : Thread Cert.AdamWideRefIdeal.nD Cert.AdamWideRefIdeal.τ).loc Cert.AdamWideRefIdeal.main_arg2)
          ∧ r.2.mem ((c.tc : Thread Cert.AdamWideRefIdeal.nD Cert.AdamWideRefIdeal.τ).loc Cert.AdamWideRefIdeal.main_arg3) = m' ((c.tc : Thread Cert.AdamWideRefIdeal.nD Cert.AdamWideRefIdeal.τ).loc Cert.AdamWideRefIdeal.main_arg3)
          ∧ r.2.mem ((c.tc : Thread Cert.AdamWideRefIdeal.nD Cert.AdamWideRefIdeal.τ).loc Cert.AdamWideRefIdeal.main_arg4) = m' ((c.tc : Thread Cert.AdamWideRefIdeal.nD Cert.AdamWideRefIdeal.τ).loc Cert.AdamWideRefIdeal.main_arg4))

def preserves_AdamNarrow_AdamNarrowIdeal : Prop :=
  True

def algebraic_AdamNarrowIdeal_AdamNarrowRefIdeal [hAdamNarrowIdeal : Cert.AdamNarrowIdeal.Facts] [hAdamNarrowRefIdeal : Cert.AdamNarrowRefIdeal.Facts] : Prop :=
  ∀ (m : (ℓ : Loc Cert.AdamNarrowIdeal.nD Cert.AdamNarrowIdeal.τ Cert.AdamNarrowIdeal.sig) → Buf (Elt Ideal) ℓ) (g : Dev Cert.AdamNarrowIdeal.nD → PrngReg)
    (m' : (ℓ : Loc Cert.AdamNarrowRefIdeal.nD Cert.AdamNarrowRefIdeal.τ Cert.AdamNarrowRefIdeal.sig) → Buf (Elt Ideal) ℓ) (g' : Dev Cert.AdamNarrowRefIdeal.nD → PrngReg), Pre_AdamNarrowIdeal m →
    (∀ c : Dev Cert.AdamNarrowIdeal.nD,
      m' ((c.tc : Thread Cert.AdamNarrowRefIdeal.nD Cert.AdamNarrowRefIdeal.τ).loc Cert.AdamNarrowRefIdeal.main_arg0) = m ((c.tc : Thread Cert.AdamNarrowIdeal.nD Cert.AdamNarrowIdeal.τ).loc Cert.AdamNarrowIdeal.main_arg0)
      ∧ m' ((c.tc : Thread Cert.AdamNarrowRefIdeal.nD Cert.AdamNarrowRefIdeal.τ).loc Cert.AdamNarrowRefIdeal.main_arg1) = m ((c.tc : Thread Cert.AdamNarrowIdeal.nD Cert.AdamNarrowIdeal.τ).loc Cert.AdamNarrowIdeal.main_arg1)
      ∧ m' ((c.tc : Thread Cert.AdamNarrowRefIdeal.nD Cert.AdamNarrowRefIdeal.τ).loc Cert.AdamNarrowRefIdeal.main_arg2) = m ((c.tc : Thread Cert.AdamNarrowIdeal.nD Cert.AdamNarrowIdeal.τ).loc Cert.AdamNarrowIdeal.main_arg2)
      ∧ m' ((c.tc : Thread Cert.AdamNarrowRefIdeal.nD Cert.AdamNarrowRefIdeal.τ).loc Cert.AdamNarrowRefIdeal.main_arg3) = m ((c.tc : Thread Cert.AdamNarrowIdeal.nD Cert.AdamNarrowIdeal.τ).loc Cert.AdamNarrowIdeal.main_arg3)
      ∧ m' ((c.tc : Thread Cert.AdamNarrowRefIdeal.nD Cert.AdamNarrowRefIdeal.τ).loc Cert.AdamNarrowRefIdeal.main_arg4) = m ((c.tc : Thread Cert.AdamNarrowIdeal.nD Cert.AdamNarrowIdeal.τ).loc Cert.AdamNarrowIdeal.main_arg4)) →
    ∃ (v0 : (c : Dev Cert.AdamNarrowIdeal.nD) → Buf (Elt Ideal) ((c.tc : Thread Cert.AdamNarrowIdeal.nD Cert.AdamNarrowIdeal.τ).loc Cert.AdamNarrowIdeal.main_v0_0)) (v1 : (c : Dev Cert.AdamNarrowIdeal.nD) → Buf (Elt Ideal) ((c.tc : Thread Cert.AdamNarrowIdeal.nD Cert.AdamNarrowIdeal.τ).loc Cert.AdamNarrowIdeal.main_v0_1)) (v2 : (c : Dev Cert.AdamNarrowIdeal.nD) → Buf (Elt Ideal) ((c.tc : Thread Cert.AdamNarrowIdeal.nD Cert.AdamNarrowIdeal.τ).loc Cert.AdamNarrowIdeal.main_v0_2)) (v3 : (c : Dev Cert.AdamNarrowIdeal.nD) → Buf (Elt Ideal) ((c.tc : Thread Cert.AdamNarrowIdeal.nD Cert.AdamNarrowIdeal.τ).loc Cert.AdamNarrowIdeal.main_v0_3)),
      θ_run (Cert.AdamNarrowIdeal.defs (F := Ideal)) (onTc (τ := Cert.AdamNarrowIdeal.τ) (Cert.AdamNarrowIdeal.main (F := Ideal))) ⟨m, fun _ => 0, g⟩ (fun r => ∀ c : Dev Cert.AdamNarrowIdeal.nD,
          r.2.mem ((c.tc : Thread Cert.AdamNarrowIdeal.nD Cert.AdamNarrowIdeal.τ).loc Cert.AdamNarrowIdeal.main_v0_0) = v0 c
          ∧ r.2.mem ((c.tc : Thread Cert.AdamNarrowIdeal.nD Cert.AdamNarrowIdeal.τ).loc Cert.AdamNarrowIdeal.main_v0_1) = v1 c
          ∧ r.2.mem ((c.tc : Thread Cert.AdamNarrowIdeal.nD Cert.AdamNarrowIdeal.τ).loc Cert.AdamNarrowIdeal.main_v0_2) = v2 c
          ∧ r.2.mem ((c.tc : Thread Cert.AdamNarrowIdeal.nD Cert.AdamNarrowIdeal.τ).loc Cert.AdamNarrowIdeal.main_v0_3) = v3 c
          ∧ r.2.mem ((c.tc : Thread Cert.AdamNarrowIdeal.nD Cert.AdamNarrowIdeal.τ).loc Cert.AdamNarrowIdeal.main_arg0) = m ((c.tc : Thread Cert.AdamNarrowIdeal.nD Cert.AdamNarrowIdeal.τ).loc Cert.AdamNarrowIdeal.main_arg0)
          ∧ r.2.mem ((c.tc : Thread Cert.AdamNarrowIdeal.nD Cert.AdamNarrowIdeal.τ).loc Cert.AdamNarrowIdeal.main_arg1) = m ((c.tc : Thread Cert.AdamNarrowIdeal.nD Cert.AdamNarrowIdeal.τ).loc Cert.AdamNarrowIdeal.main_arg1)
          ∧ r.2.mem ((c.tc : Thread Cert.AdamNarrowIdeal.nD Cert.AdamNarrowIdeal.τ).loc Cert.AdamNarrowIdeal.main_arg2) = m ((c.tc : Thread Cert.AdamNarrowIdeal.nD Cert.AdamNarrowIdeal.τ).loc Cert.AdamNarrowIdeal.main_arg2)
          ∧ r.2.mem ((c.tc : Thread Cert.AdamNarrowIdeal.nD Cert.AdamNarrowIdeal.τ).loc Cert.AdamNarrowIdeal.main_arg3) = m ((c.tc : Thread Cert.AdamNarrowIdeal.nD Cert.AdamNarrowIdeal.τ).loc Cert.AdamNarrowIdeal.main_arg3)
          ∧ r.2.mem ((c.tc : Thread Cert.AdamNarrowIdeal.nD Cert.AdamNarrowIdeal.τ).loc Cert.AdamNarrowIdeal.main_arg4) = m ((c.tc : Thread Cert.AdamNarrowIdeal.nD Cert.AdamNarrowIdeal.τ).loc Cert.AdamNarrowIdeal.main_arg4))
      ∧ θ_run (Cert.AdamNarrowRefIdeal.defs (F := Ideal)) (onTc (τ := Cert.AdamNarrowRefIdeal.τ) (Cert.AdamNarrowRefIdeal.main (F := Ideal))) ⟨m', fun _ => 0, g'⟩ (fun r => ∀ c : Dev Cert.AdamNarrowRefIdeal.nD,
          r.2.mem ((c.tc : Thread Cert.AdamNarrowRefIdeal.nD Cert.AdamNarrowRefIdeal.τ).loc Cert.AdamNarrowRefIdeal.main_v2) = v0 c
          ∧ r.2.mem ((c.tc : Thread Cert.AdamNarrowRefIdeal.nD Cert.AdamNarrowRefIdeal.τ).loc Cert.AdamNarrowRefIdeal.main_v26) = v1 c
          ∧ r.2.mem ((c.tc : Thread Cert.AdamNarrowRefIdeal.nD Cert.AdamNarrowRefIdeal.τ).loc Cert.AdamNarrowRefIdeal.main_v7) = v2 c
          ∧ r.2.mem ((c.tc : Thread Cert.AdamNarrowRefIdeal.nD Cert.AdamNarrowRefIdeal.τ).loc Cert.AdamNarrowRefIdeal.main_v13) = v3 c
          ∧ r.2.mem ((c.tc : Thread Cert.AdamNarrowRefIdeal.nD Cert.AdamNarrowRefIdeal.τ).loc Cert.AdamNarrowRefIdeal.main_arg0) = m' ((c.tc : Thread Cert.AdamNarrowRefIdeal.nD Cert.AdamNarrowRefIdeal.τ).loc Cert.AdamNarrowRefIdeal.main_arg0)
          ∧ r.2.mem ((c.tc : Thread Cert.AdamNarrowRefIdeal.nD Cert.AdamNarrowRefIdeal.τ).loc Cert.AdamNarrowRefIdeal.main_arg1) = m' ((c.tc : Thread Cert.AdamNarrowRefIdeal.nD Cert.AdamNarrowRefIdeal.τ).loc Cert.AdamNarrowRefIdeal.main_arg1)
          ∧ r.2.mem ((c.tc : Thread Cert.AdamNarrowRefIdeal.nD Cert.AdamNarrowRefIdeal.τ).loc Cert.AdamNarrowRefIdeal.main_arg2) = m' ((c.tc : Thread Cert.AdamNarrowRefIdeal.nD Cert.AdamNarrowRefIdeal.τ).loc Cert.AdamNarrowRefIdeal.main_arg2)
          ∧ r.2.mem ((c.tc : Thread Cert.AdamNarrowRefIdeal.nD Cert.AdamNarrowRefIdeal.τ).loc Cert.AdamNarrowRefIdeal.main_arg3) = m' ((c.tc : Thread Cert.AdamNarrowRefIdeal.nD Cert.AdamNarrowRefIdeal.τ).loc Cert.AdamNarrowRefIdeal.main_arg3)
          ∧ r.2.mem ((c.tc : Thread Cert.AdamNarrowRefIdeal.nD Cert.AdamNarrowRefIdeal.τ).loc Cert.AdamNarrowRefIdeal.main_arg4) = m' ((c.tc : Thread Cert.AdamNarrowRefIdeal.nD Cert.AdamNarrowRefIdeal.τ).loc Cert.AdamNarrowRefIdeal.main_arg4))

def preserves_AdamProj_AdamProjIdeal : Prop :=
  True

def algebraic_AdamProjIdeal_AdamProjRefIdeal [hAdamProjIdeal : Cert.AdamProjIdeal.Facts] [hAdamProjRefIdeal : Cert.AdamProjRefIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg)
    (m' : (ℓ : Loc Cert.AdamProjRefIdeal.nD Cert.AdamProjRefIdeal.τ Cert.AdamProjRefIdeal.sig) → Buf (Elt Ideal) ℓ) (g' : Dev Cert.AdamProjRefIdeal.nD → PrngReg), Pre_AdamProjIdeal m →
    (∀ c : Dev Cert.AdamProjIdeal.nD,
      m' ((c.tc : Thread Cert.AdamProjRefIdeal.nD Cert.AdamProjRefIdeal.τ).loc Cert.AdamProjRefIdeal.main_arg0) = m ((c.tc : Thread Cert.AdamProjIdeal.nD Cert.AdamProjIdeal.τ).loc Cert.AdamProjIdeal.main_arg0)
      ∧ m' ((c.tc : Thread Cert.AdamProjRefIdeal.nD Cert.AdamProjRefIdeal.τ).loc Cert.AdamProjRefIdeal.main_arg1) = m ((c.tc : Thread Cert.AdamProjIdeal.nD Cert.AdamProjIdeal.τ).loc Cert.AdamProjIdeal.main_arg1)
      ∧ m' ((c.tc : Thread Cert.AdamProjRefIdeal.nD Cert.AdamProjRefIdeal.τ).loc Cert.AdamProjRefIdeal.main_arg2) = m ((c.tc : Thread Cert.AdamProjIdeal.nD Cert.AdamProjIdeal.τ).loc Cert.AdamProjIdeal.main_arg2)
      ∧ m' ((c.tc : Thread Cert.AdamProjRefIdeal.nD Cert.AdamProjRefIdeal.τ).loc Cert.AdamProjRefIdeal.main_arg3) = m ((c.tc : Thread Cert.AdamProjIdeal.nD Cert.AdamProjIdeal.τ).loc Cert.AdamProjIdeal.main_arg3)
      ∧ m' ((c.tc : Thread Cert.AdamProjRefIdeal.nD Cert.AdamProjRefIdeal.τ).loc Cert.AdamProjRefIdeal.main_arg4) = m ((c.tc : Thread Cert.AdamProjIdeal.nD Cert.AdamProjIdeal.τ).loc Cert.AdamProjIdeal.main_arg4)) →
    ∃ (v0 : (c : Dev Cert.AdamProjIdeal.nD) → Buf (Elt Ideal) ((c.tc : Thread Cert.AdamProjIdeal.nD Cert.AdamProjIdeal.τ).loc Cert.AdamProjIdeal.main_v0_0)) (v1 : (c : Dev Cert.AdamProjIdeal.nD) → Buf (Elt Ideal) ((c.tc : Thread Cert.AdamProjIdeal.nD Cert.AdamProjIdeal.τ).loc Cert.AdamProjIdeal.main_v0_1)) (v2 : (c : Dev Cert.AdamProjIdeal.nD) → Buf (Elt Ideal) ((c.tc : Thread Cert.AdamProjIdeal.nD Cert.AdamProjIdeal.τ).loc Cert.AdamProjIdeal.main_v0_2)) (v3 : (c : Dev Cert.AdamProjIdeal.nD) → Buf (Elt Ideal) ((c.tc : Thread Cert.AdamProjIdeal.nD Cert.AdamProjIdeal.τ).loc Cert.AdamProjIdeal.main_v0_3)),
      θ_run (Cert.AdamProjIdeal.defs (F := Ideal)) (onTc (τ := Cert.AdamProjIdeal.τ) (Cert.AdamProjIdeal.main (F := Ideal))) ⟨m, fun _ => 0, g⟩ (fun r => ∀ c : Dev Cert.AdamProjIdeal.nD,
          r.2.mem ((c.tc : Thread Cert.AdamProjIdeal.nD Cert.AdamProjIdeal.τ).loc Cert.AdamProjIdeal.main_v0_0) = v0 c
          ∧ r.2.mem ((c.tc : Thread Cert.AdamProjIdeal.nD Cert.AdamProjIdeal.τ).loc Cert.AdamProjIdeal.main_v0_1) = v1 c
          ∧ r.2.mem ((c.tc : Thread Cert.AdamProjIdeal.nD Cert.AdamProjIdeal.τ).loc Cert.AdamProjIdeal.main_v0_2) = v2 c
          ∧ r.2.mem ((c.tc : Thread Cert.AdamProjIdeal.nD Cert.AdamProjIdeal.τ).loc Cert.AdamProjIdeal.main_v0_3) = v3 c
          ∧ r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
          ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
          ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
          ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3)
          ∧ r.2.mem ((c.tc : Thread Cert.AdamProjIdeal.nD Cert.AdamProjIdeal.τ).loc Cert.AdamProjIdeal.main_arg4) = m ((c.tc : Thread Cert.AdamProjIdeal.nD Cert.AdamProjIdeal.τ).loc Cert.AdamProjIdeal.main_arg4))
      ∧ θ_run (Cert.AdamProjRefIdeal.defs (F := Ideal)) (onTc (τ := Cert.AdamProjRefIdeal.τ) (Cert.AdamProjRefIdeal.main (F := Ideal))) ⟨m', fun _ => 0, g'⟩ (fun r => ∀ c : Dev Cert.AdamProjRefIdeal.nD,
          r.2.mem ((c.tc : Thread Cert.AdamProjRefIdeal.nD Cert.AdamProjRefIdeal.τ).loc Cert.AdamProjRefIdeal.main_v2) = v0 c
          ∧ r.2.mem ((c.tc : Thread Cert.AdamProjRefIdeal.nD Cert.AdamProjRefIdeal.τ).loc Cert.AdamProjRefIdeal.main_v26) = v1 c
          ∧ r.2.mem ((c.tc : Thread Cert.AdamProjRefIdeal.nD Cert.AdamProjRefIdeal.τ).loc Cert.AdamProjRefIdeal.main_v7) = v2 c
          ∧ r.2.mem ((c.tc : Thread Cert.AdamProjRefIdeal.nD Cert.AdamProjRefIdeal.τ).loc Cert.AdamProjRefIdeal.main_v13) = v3 c
          ∧ r.2.mem ((c.tc : Thread Cert.AdamProjRefIdeal.nD Cert.AdamProjRefIdeal.τ).loc Cert.AdamProjRefIdeal.main_arg0) = m' ((c.tc : Thread Cert.AdamProjRefIdeal.nD Cert.AdamProjRefIdeal.τ).loc Cert.AdamProjRefIdeal.main_arg0)
          ∧ r.2.mem ((c.tc : Thread Cert.AdamProjRefIdeal.nD Cert.AdamProjRefIdeal.τ).loc Cert.AdamProjRefIdeal.main_arg1) = m' ((c.tc : Thread Cert.AdamProjRefIdeal.nD Cert.AdamProjRefIdeal.τ).loc Cert.AdamProjRefIdeal.main_arg1)
          ∧ r.2.mem ((c.tc : Thread Cert.AdamProjRefIdeal.nD Cert.AdamProjRefIdeal.τ).loc Cert.AdamProjRefIdeal.main_arg2) = m' ((c.tc : Thread Cert.AdamProjRefIdeal.nD Cert.AdamProjRefIdeal.τ).loc Cert.AdamProjRefIdeal.main_arg2)
          ∧ r.2.mem ((c.tc : Thread Cert.AdamProjRefIdeal.nD Cert.AdamProjRefIdeal.τ).loc Cert.AdamProjRefIdeal.main_arg3) = m' ((c.tc : Thread Cert.AdamProjRefIdeal.nD Cert.AdamProjRefIdeal.τ).loc Cert.AdamProjRefIdeal.main_arg3)
          ∧ r.2.mem ((c.tc : Thread Cert.AdamProjRefIdeal.nD Cert.AdamProjRefIdeal.τ).loc Cert.AdamProjRefIdeal.main_arg4) = m' ((c.tc : Thread Cert.AdamProjRefIdeal.nD Cert.AdamProjRefIdeal.τ).loc Cert.AdamProjRefIdeal.main_arg4))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v2) = v0 c
          ∧ r.2.mem ((c.tc : Thread Cert.AdamOutRefIdeal.nD Cert.AdamOutRefIdeal.τ).loc Cert.AdamOutRefIdeal.main_v26) = v1 c
          ∧ r.2.mem ((c.tc : Thread Cert.AdamOutRefIdeal.nD Cert.AdamOutRefIdeal.τ).loc Cert.AdamOutRefIdeal.main_v7) = v2 c
          ∧ r.2.mem ((c.tc : Thread Cert.AdamOutRefIdeal.nD Cert.AdamOutRefIdeal.τ).loc Cert.AdamOutRefIdeal.main_v13) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4))

def Claim : Prop :=
  ∃ (hKernel : Cert.Kernel.Facts) (hKernelIdeal : Cert.KernelIdeal.Facts) (hFfn : Cert.Ffn.Facts) (hFfnIdeal : Cert.FfnIdeal.Facts) (hFfnRefIdeal : Cert.FfnRefIdeal.Facts) (hFfnBwd : Cert.FfnBwd.Facts) (hFfnBwdIdeal : Cert.FfnBwdIdeal.Facts) (hFfnBwdRefIdeal : Cert.FfnBwdRefIdeal.Facts) (hInWgrad : Cert.InWgrad.Facts) (hInWgradIdeal : Cert.InWgradIdeal.Facts) (hInWgradRefIdeal : Cert.InWgradRefIdeal.Facts) (hOutWgrad : Cert.OutWgrad.Facts) (hOutWgradIdeal : Cert.OutWgradIdeal.Facts) (hOutWgradRefIdeal : Cert.OutWgradRefIdeal.Facts) (hProjWgrad : Cert.ProjWgrad.Facts) (hProjWgradIdeal : Cert.ProjWgradIdeal.Facts) (hProjWgradRefIdeal : Cert.ProjWgradRefIdeal.Facts) (hMixOutWgrad : Cert.MixOutWgrad.Facts) (hMixOutWgradIdeal : Cert.MixOutWgradIdeal.Facts) (hMixOutWgradRefIdeal : Cert.MixOutWgradRefIdeal.Facts) (hFfnB : Cert.FfnB.Facts) (hFfnBIdeal : Cert.FfnBIdeal.Facts) (hFfnBRefIdeal : Cert.FfnBRefIdeal.Facts) (hFfnC : Cert.FfnC.Facts) (hFfnCIdeal : Cert.FfnCIdeal.Facts) (hFfnCRefIdeal : Cert.FfnCRefIdeal.Facts) (hFfnD : Cert.FfnD.Facts) (hFfnDIdeal : Cert.FfnDIdeal.Facts) (hFfnDRefIdeal : Cert.FfnDRefIdeal.Facts) (hFfnBwdB : Cert.FfnBwdB.Facts) (hFfnBwdBIdeal : Cert.FfnBwdBIdeal.Facts) (hFfnBwdBRefIdeal : Cert.FfnBwdBRefIdeal.Facts) (hFfnBwdC : Cert.FfnBwdC.Facts) (hFfnBwdCIdeal : Cert.FfnBwdCIdeal.Facts) (hFfnBwdCRefIdeal : Cert.FfnBwdCRefIdeal.Facts) (hFfnBwdD : Cert.FfnBwdD.Facts) (hFfnBwdDIdeal : Cert.FfnBwdDIdeal.Facts) (hFfnBwdDRefIdeal : Cert.FfnBwdDRefIdeal.Facts) (hAdamRow : Cert.AdamRow.Facts) (hAdamRowIdeal : Cert.AdamRowIdeal.Facts) (hAdamRowRefIdeal : Cert.AdamRowRefIdeal.Facts) (hAdamMod : Cert.AdamMod.Facts) (hAdamModIdeal : Cert.AdamModIdeal.Facts) (hAdamModRefIdeal : Cert.AdamModRefIdeal.Facts) (hAdamBias : Cert.AdamBias.Facts) (hAdamBiasIdeal : Cert.AdamBiasIdeal.Facts) (hAdamBiasRefIdeal : Cert.AdamBiasRefIdeal.Facts) (hAdamNorm : Cert.AdamNorm.Facts) (hAdamNormIdeal : Cert.AdamNormIdeal.Facts) (hAdamNormRefIdeal : Cert.AdamNormRefIdeal.Facts) (hAdamPool : Cert.AdamPool.Facts) (hAdamPoolIdeal : Cert.AdamPoolIdeal.Facts) (hAdamPoolRefIdeal : Cert.AdamPoolRefIdeal.Facts) (hAdamScale : Cert.AdamScale.Facts) (hAdamScaleIdeal : Cert.AdamScaleIdeal.Facts) (hAdamScaleRefIdeal : Cert.AdamScaleRefIdeal.Facts) (hAdamSink : Cert.AdamSink.Facts) (hAdamSinkIdeal : Cert.AdamSinkIdeal.Facts) (hAdamSinkRefIdeal : Cert.AdamSinkRefIdeal.Facts) (hAdamWide : Cert.AdamWide.Facts) (hAdamWideIdeal : Cert.AdamWideIdeal.Facts) (hAdamWideRefIdeal : Cert.AdamWideRefIdeal.Facts) (hAdamNarrow : Cert.AdamNarrow.Facts) (hAdamNarrowIdeal : Cert.AdamNarrowIdeal.Facts) (hAdamNarrowRefIdeal : Cert.AdamNarrowRefIdeal.Facts) (hAdamProj : Cert.AdamProj.Facts) (hAdamProjIdeal : Cert.AdamProjIdeal.Facts) (hAdamProjRefIdeal : Cert.AdamProjRefIdeal.Facts) (hAdamOut : Cert.AdamOut.Facts) (hAdamOutIdeal : Cert.AdamOutIdeal.Facts) (hAdamOutRefIdeal : Cert.AdamOutRefIdeal.Facts) (hPre_finite : Cert.Pre_finite.Facts),
    quiescent_Kernel (hKernel := hKernel)
    ∧ quiescent_KernelIdeal (hKernelIdeal := hKernelIdeal)
    ∧ quiescent_Ffn (hFfn := hFfn)
    ∧ quiescent_FfnIdeal (hFfnIdeal := hFfnIdeal)
    ∧ quiescent_FfnRefIdeal (hFfnRefIdeal := hFfnRefIdeal)
    ∧ quiescent_FfnBwd (hFfnBwd := hFfnBwd)
    ∧ quiescent_FfnBwdIdeal (hFfnBwdIdeal := hFfnBwdIdeal)
    ∧ quiescent_FfnBwdIdeal_pre_finite (hFfnBwdIdeal := hFfnBwdIdeal) (hPre_finite := hPre_finite)
    ∧ quiescent_FfnBwdRefIdeal (hFfnBwdRefIdeal := hFfnBwdRefIdeal)
    ∧ quiescent_FfnBwdRefIdeal_pre_finite (hFfnBwdRefIdeal := hFfnBwdRefIdeal) (hPre_finite := hPre_finite)
    ∧ quiescent_InWgrad (hInWgrad := hInWgrad)
    ∧ quiescent_InWgradIdeal (hInWgradIdeal := hInWgradIdeal)
    ∧ quiescent_InWgradRefIdeal (hInWgradRefIdeal := hInWgradRefIdeal)
    ∧ quiescent_OutWgrad (hOutWgrad := hOutWgrad)
    ∧ quiescent_OutWgradIdeal (hOutWgradIdeal := hOutWgradIdeal)
    ∧ quiescent_OutWgradRefIdeal (hOutWgradRefIdeal := hOutWgradRefIdeal)
    ∧ quiescent_ProjWgrad (hProjWgrad := hProjWgrad)
    ∧ quiescent_ProjWgradIdeal (hProjWgradIdeal := hProjWgradIdeal)
    ∧ quiescent_ProjWgradRefIdeal (hProjWgradRefIdeal := hProjWgradRefIdeal)
    ∧ quiescent_MixOutWgrad (hMixOutWgrad := hMixOutWgrad)
    ∧ quiescent_MixOutWgradIdeal (hMixOutWgradIdeal := hMixOutWgradIdeal)
    ∧ quiescent_MixOutWgradRefIdeal (hMixOutWgradRefIdeal := hMixOutWgradRefIdeal)
    ∧ quiescent_FfnB (hFfnB := hFfnB)
    ∧ quiescent_FfnBIdeal (hFfnBIdeal := hFfnBIdeal)
    ∧ quiescent_FfnBRefIdeal (hFfnBRefIdeal := hFfnBRefIdeal)
    ∧ quiescent_FfnC (hFfnC := hFfnC)
    ∧ quiescent_FfnCIdeal (hFfnCIdeal := hFfnCIdeal)
    ∧ quiescent_FfnCRefIdeal (hFfnCRefIdeal := hFfnCRefIdeal)
    ∧ quiescent_FfnD (hFfnD := hFfnD)
    ∧ quiescent_FfnDIdeal (hFfnDIdeal := hFfnDIdeal)
    ∧ quiescent_FfnDRefIdeal (hFfnDRefIdeal := hFfnDRefIdeal)
    ∧ quiescent_FfnBwdB (hFfnBwdB := hFfnBwdB)
    ∧ quiescent_FfnBwdBIdeal (hFfnBwdBIdeal := hFfnBwdBIdeal)
    ∧ quiescent_FfnBwdBIdeal_pre_finite (hFfnBwdBIdeal := hFfnBwdBIdeal) (hPre_finite := hPre_finite)
    ∧ quiescent_FfnBwdBRefIdeal (hFfnBwdBRefIdeal := hFfnBwdBRefIdeal)
    ∧ quiescent_FfnBwdBRefIdeal_pre_finite (hFfnBwdBRefIdeal := hFfnBwdBRefIdeal) (hPre_finite := hPre_finite)
    ∧ quiescent_FfnBwdC (hFfnBwdC := hFfnBwdC)
    ∧ quiescent_FfnBwdCIdeal (hFfnBwdCIdeal := hFfnBwdCIdeal)
    ∧ quiescent_FfnBwdCIdeal_pre_finite (hFfnBwdCIdeal := hFfnBwdCIdeal) (hPre_finite := hPre_finite)
    ∧ quiescent_FfnBwdCRefIdeal (hFfnBwdCRefIdeal := hFfnBwdCRefIdeal)
    ∧ quiescent_FfnBwdCRefIdeal_pre_finite (hFfnBwdCRefIdeal := hFfnBwdCRefIdeal) (hPre_finite := hPre_finite)
    ∧ quiescent_FfnBwdD (hFfnBwdD := hFfnBwdD)
    ∧ quiescent_FfnBwdDIdeal (hFfnBwdDIdeal := hFfnBwdDIdeal)
    ∧ quiescent_FfnBwdDIdeal_pre_finite (hFfnBwdDIdeal := hFfnBwdDIdeal) (hPre_finite := hPre_finite)
    ∧ quiescent_FfnBwdDRefIdeal (hFfnBwdDRefIdeal := hFfnBwdDRefIdeal)
    ∧ quiescent_FfnBwdDRefIdeal_pre_finite (hFfnBwdDRefIdeal := hFfnBwdDRefIdeal) (hPre_finite := hPre_finite)
    ∧ quiescent_AdamRow (hAdamRow := hAdamRow)
    ∧ quiescent_AdamRowIdeal (hAdamRowIdeal := hAdamRowIdeal)
    ∧ quiescent_AdamRowRefIdeal (hAdamRowRefIdeal := hAdamRowRefIdeal)
    ∧ quiescent_AdamMod (hAdamMod := hAdamMod)
    ∧ quiescent_AdamModIdeal (hAdamModIdeal := hAdamModIdeal)
    ∧ quiescent_AdamModRefIdeal (hAdamModRefIdeal := hAdamModRefIdeal)
    ∧ quiescent_AdamBias (hAdamBias := hAdamBias)
    ∧ quiescent_AdamBiasIdeal (hAdamBiasIdeal := hAdamBiasIdeal)
    ∧ quiescent_AdamBiasRefIdeal (hAdamBiasRefIdeal := hAdamBiasRefIdeal)
    ∧ quiescent_AdamNorm (hAdamNorm := hAdamNorm)
    ∧ quiescent_AdamNormIdeal (hAdamNormIdeal := hAdamNormIdeal)
    ∧ quiescent_AdamNormRefIdeal (hAdamNormRefIdeal := hAdamNormRefIdeal)
    ∧ quiescent_AdamPool (hAdamPool := hAdamPool)
    ∧ quiescent_AdamPoolIdeal (hAdamPoolIdeal := hAdamPoolIdeal)
    ∧ quiescent_AdamPoolRefIdeal (hAdamPoolRefIdeal := hAdamPoolRefIdeal)
    ∧ quiescent_AdamScale (hAdamScale := hAdamScale)
    ∧ quiescent_AdamScaleIdeal (hAdamScaleIdeal := hAdamScaleIdeal)
    ∧ quiescent_AdamScaleRefIdeal (hAdamScaleRefIdeal := hAdamScaleRefIdeal)
    ∧ quiescent_AdamSink (hAdamSink := hAdamSink)
    ∧ quiescent_AdamSinkIdeal (hAdamSinkIdeal := hAdamSinkIdeal)
    ∧ quiescent_AdamSinkRefIdeal (hAdamSinkRefIdeal := hAdamSinkRefIdeal)
    ∧ quiescent_AdamWide (hAdamWide := hAdamWide)
    ∧ quiescent_AdamWideIdeal (hAdamWideIdeal := hAdamWideIdeal)
    ∧ quiescent_AdamWideRefIdeal (hAdamWideRefIdeal := hAdamWideRefIdeal)
    ∧ quiescent_AdamNarrow (hAdamNarrow := hAdamNarrow)
    ∧ quiescent_AdamNarrowIdeal (hAdamNarrowIdeal := hAdamNarrowIdeal)
    ∧ quiescent_AdamNarrowRefIdeal (hAdamNarrowRefIdeal := hAdamNarrowRefIdeal)
    ∧ quiescent_AdamProj (hAdamProj := hAdamProj)
    ∧ quiescent_AdamProjIdeal (hAdamProjIdeal := hAdamProjIdeal)
    ∧ quiescent_AdamProjRefIdeal (hAdamProjRefIdeal := hAdamProjRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ preserves_Kernel_KernelIdeal
    ∧ preserves_Ffn_FfnIdeal
    ∧ algebraic_FfnIdeal_FfnRefIdeal (hFfnIdeal := hFfnIdeal) (hFfnRefIdeal := hFfnRefIdeal)
    ∧ preserves_FfnBwd_FfnBwdIdeal
    ∧ algebraic_FfnBwdIdeal_FfnBwdRefIdeal_pre_finite (hFfnBwdIdeal := hFfnBwdIdeal) (hFfnBwdRefIdeal := hFfnBwdRefIdeal) (hPre_finite := hPre_finite)
    ∧ preserves_InWgrad_InWgradIdeal
    ∧ algebraic_InWgradIdeal_InWgradRefIdeal (hInWgradIdeal := hInWgradIdeal) (hInWgradRefIdeal := hInWgradRefIdeal)
    ∧ preserves_OutWgrad_OutWgradIdeal
    ∧ algebraic_OutWgradIdeal_OutWgradRefIdeal (hOutWgradIdeal := hOutWgradIdeal) (hOutWgradRefIdeal := hOutWgradRefIdeal)
    ∧ preserves_ProjWgrad_ProjWgradIdeal
    ∧ algebraic_ProjWgradIdeal_ProjWgradRefIdeal (hProjWgradIdeal := hProjWgradIdeal) (hProjWgradRefIdeal := hProjWgradRefIdeal)
    ∧ preserves_MixOutWgrad_MixOutWgradIdeal
    ∧ algebraic_MixOutWgradIdeal_MixOutWgradRefIdeal (hMixOutWgradIdeal := hMixOutWgradIdeal) (hMixOutWgradRefIdeal := hMixOutWgradRefIdeal)
    ∧ preserves_FfnB_FfnBIdeal
    ∧ algebraic_FfnBIdeal_FfnBRefIdeal (hFfnBIdeal := hFfnBIdeal) (hFfnBRefIdeal := hFfnBRefIdeal)
    ∧ preserves_FfnC_FfnCIdeal
    ∧ algebraic_FfnCIdeal_FfnCRefIdeal (hFfnCIdeal := hFfnCIdeal) (hFfnCRefIdeal := hFfnCRefIdeal)
    ∧ preserves_FfnD_FfnDIdeal
    ∧ algebraic_FfnDIdeal_FfnDRefIdeal (hFfnDIdeal := hFfnDIdeal) (hFfnDRefIdeal := hFfnDRefIdeal)
    ∧ preserves_FfnBwdB_FfnBwdBIdeal
    ∧ algebraic_FfnBwdBIdeal_FfnBwdBRefIdeal_pre_finite (hFfnBwdBIdeal := hFfnBwdBIdeal) (hFfnBwdBRefIdeal := hFfnBwdBRefIdeal) (hPre_finite := hPre_finite)
    ∧ preserves_FfnBwdC_FfnBwdCIdeal
    ∧ algebraic_FfnBwdCIdeal_FfnBwdCRefIdeal_pre_finite (hFfnBwdCIdeal := hFfnBwdCIdeal) (hFfnBwdCRefIdeal := hFfnBwdCRefIdeal) (hPre_finite := hPre_finite)
    ∧ preserves_FfnBwdD_FfnBwdDIdeal
    ∧ algebraic_FfnBwdDIdeal_FfnBwdDRefIdeal_pre_finite (hFfnBwdDIdeal := hFfnBwdDIdeal) (hFfnBwdDRefIdeal := hFfnBwdDRefIdeal) (hPre_finite := hPre_finite)
    ∧ preserves_AdamRow_AdamRowIdeal
    ∧ algebraic_AdamRowIdeal_AdamRowRefIdeal (hAdamRowIdeal := hAdamRowIdeal) (hAdamRowRefIdeal := hAdamRowRefIdeal)
    ∧ preserves_AdamMod_AdamModIdeal
    ∧ algebraic_AdamModIdeal_AdamModRefIdeal (hAdamModIdeal := hAdamModIdeal) (hAdamModRefIdeal := hAdamModRefIdeal)
    ∧ preserves_AdamBias_AdamBiasIdeal
    ∧ algebraic_AdamBiasIdeal_AdamBiasRefIdeal (hAdamBiasIdeal := hAdamBiasIdeal) (hAdamBiasRefIdeal := hAdamBiasRefIdeal)
    ∧ preserves_AdamNorm_AdamNormIdeal
    ∧ algebraic_AdamNormIdeal_AdamNormRefIdeal (hAdamNormIdeal := hAdamNormIdeal) (hAdamNormRefIdeal := hAdamNormRefIdeal)
    ∧ preserves_AdamPool_AdamPoolIdeal
    ∧ algebraic_AdamPoolIdeal_AdamPoolRefIdeal (hAdamPoolIdeal := hAdamPoolIdeal) (hAdamPoolRefIdeal := hAdamPoolRefIdeal)
    ∧ preserves_AdamScale_AdamScaleIdeal
    ∧ algebraic_AdamScaleIdeal_AdamScaleRefIdeal (hAdamScaleIdeal := hAdamScaleIdeal) (hAdamScaleRefIdeal := hAdamScaleRefIdeal)
    ∧ preserves_AdamSink_AdamSinkIdeal
    ∧ algebraic_AdamSinkIdeal_AdamSinkRefIdeal (hAdamSinkIdeal := hAdamSinkIdeal) (hAdamSinkRefIdeal := hAdamSinkRefIdeal)
    ∧ preserves_AdamWide_AdamWideIdeal
    ∧ algebraic_AdamWideIdeal_AdamWideRefIdeal (hAdamWideIdeal := hAdamWideIdeal) (hAdamWideRefIdeal := hAdamWideRefIdeal)
    ∧ preserves_AdamNarrow_AdamNarrowIdeal
    ∧ algebraic_AdamNarrowIdeal_AdamNarrowRefIdeal (hAdamNarrowIdeal := hAdamNarrowIdeal) (hAdamNarrowRefIdeal := hAdamNarrowRefIdeal)
    ∧ preserves_AdamProj_AdamProjIdeal
    ∧ algebraic_AdamProjIdeal_AdamProjRefIdeal (hAdamProjIdeal := hAdamProjIdeal) (hAdamProjRefIdeal := hAdamProjRefIdeal)
    ∧ preserves_AdamOut_AdamOutIdeal
    ∧ algebraic_AdamOutIdeal_AdamOutRefIdeal (hAdamOutIdeal := hAdamOutIdeal) (hAdamOutRefIdeal := hAdamOutRefIdeal)
-- ==== Pre_finite.lean ====
abbrev S4352x1024 : Shape := ⟨2, ![4352, 1024]⟩
abbrev S2x2x16x1024 : Shape := ⟨4, ![2, 2, 16, 1024]⟩
abbrev S2x1x1024 : Shape := ⟨3, ![2, 1, 1024]⟩
abbrev S1024x5632 : Shape := ⟨2, ![1024, 5632]⟩
abbrev S2816x1024 : Shape := ⟨2, ![2816, 1024]⟩
abbrev S_ : Shape := ⟨0, ![]⟩

class Facts : Prop where
  bcast_S_S4352x1024 : S_.BroadcastsInDim S4352x1024 (![] : Fin 0 → Fin S4352x1024.rank)
  reducesTo_S4352x1024_S_d0_1 : S4352x1024.ReducesTo [0, 1] S_
  h_S_ : 0 < S_.numel
  bcast_S_S2x2x16x1024 : S_.BroadcastsInDim S2x2x16x1024 (![] : Fin 0 → Fin S2x2x16x1024.rank)
  reducesTo_S2x2x16x1024_S_d0_1_2_3 : S2x2x16x1024.ReducesTo [0, 1, 2, 3] S_
  bcast_S_S2x1x1024 : S_.BroadcastsInDim S2x1x1024 (![] : Fin 0 → Fin S2x1x1024.rank)
  reducesTo_S2x1x1024_S_d0_1_2 : S2x1x1024.ReducesTo [0, 1, 2] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S4352x1024 .f32) (main_v13 : IVec S_ 1) (main_v16 : IVec S1024x5632 1) : IVec S_ 1 :=
  let main_c_5 : IVec S_ 1 := constantI S_ 1 1#1
  let main_v17 : IVec S_ 1 := (fun x v => Host.reduce IntOp.andi x v reducesTo_S1024x5632_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S4352x1024 .f32 := Host.absf main_arg5
  let main_cst_8 : FVec F S_ .f32 := constant S_ .f32 0x7F800000#32
  let main_v25 : FVec F S4352x1024 .f32 := broadcastInDim S4352x1024 ![] bcast_S_S4352x1024 main_cst_8
  let main_v26 : IVec S4352x1024 1 := cmpf .olt main_v24 main_v25
  let main_c_9 : IVec S_ 1 := constantI S_ 1 1#1
  let main_v27 : IVec S_ 1 := (fun x v => Host.reduce IntOp.andi x v reducesTo_S4352x1024_S_d0_1 h_S_) main_v26 main_c_9
  let main_v28 : IVec S_ 1 := andi main_v23 main_v27
  main_v28

def fn {F : FTy → Type} [FloatOps F] (main_arg0 : FVec F S4352x1024 .f32) (main_arg1 : FVec F S2x2x16x1024 .f32) (main_arg2 : FVec F S2x1x1024 .f32) (main_arg3 : FVec F S1024x5632 .f32) (main_arg4 : FVec F S2816x1024 .f32) (main_arg5 : FVec F S4352x1024 .f32) : IVec S_ 1 :=
  let main_v0 : FVec F S4352x1024 .f32 := Host.absf main_arg0
  let main_cst : FVec F S_ .f32 := constant S_ .f32 0x7F800000#32
  let main_v1 : FVec F S4352x1024 .f32 := broadcastInDim S4352x1024 ![] bcast_S_S4352x1024 main_cst
  let main_v2 : IVec S4352x1024 1 := cmpf .olt main_v0 main_v1
  let main_c : IVec S_ 1 := constantI S_ 1 1#1
  let main_v3 : IVec S_ 1 := (fun x v => Host.reduce IntOp.andi x v reducesTo_S4352x1024_S_d0_1 h_S_) main_v2 main_c
  let main_v4 : FVec F S2x2x16x1024 .f32 := Host.absf main_arg1
  let main_cst_0 : FVec F S_ .f32 := constant S_ .f32 0x7F800000#32
  let main_v5 : FVec F S2x2x16x1024 .f32 := broadcastInDim S2x2x16x1024 ![] bcast_S_S2x2x16x1024 main_cst_0
  let main_v6 : IVec S2x2x16x1024 1 := cmpf .olt main_v4 main_v5
  let main_c_1 : IVec S_ 1 := constantI S_ 1 1#1
  let main_v7 : IVec S_ 1 := (fun x v => Host.reduce IntOp.andi x v reducesTo_S2x2x16x1024_S_d0_1_2_3 h_S_) main_v6 main_c_1
  let main_v8 : IVec S_ 1 := andi main_v3 main_v7
  let main_v9 : FVec F S2x1x1024 .f32 := Host.absf main_arg2
  let main_cst_2 : FVec F S_ .f32 := constant S_ .f32 0x7F800000#32
  let main_v10 : FVec F S2x1x1024 .f32 := broadcastInDim S2x1x1024 ![] bcast_S_S2x1x1024 main_cst_2
  let main_v11 : IVec S2x1x1024 1 := cmpf .olt main_v9 main_v10
  let main_c_3 : IVec S_ 1 := constantI S_ 1 1#1
  let main_v12 : IVec S_ 1 := (fun x v => Host.reduce IntOp.andi x v reducesTo_S2x1x1024_S_d0_1_2 h_S_) main_v11 main_c_3
  let main_v13 : IVec S_ 1 := andi main_v8 main_v12
  let main_v14 : FVec F S1024x5632 .f32 := Host.absf main_arg3
  let main_cst_4 : FVec F S_ .f32 := constant S_ .f32 0x7F800000#32
  let main_v15 : FVec F S1024x5632 .f32 := broadcastInDim S1024x5632 ![] bcast_S_S1024x5632 main_cst_4
  let main_v16 : IVec S1024x5632 1 := cmpf .olt main_v14 main_v15
  fn_part1 (F := F) main_arg4 main_arg5 main_v13 main_v16
-- ==== Kernel.lean ====
abbrev S4352x1024 : Shape := ⟨2, ![4352, 1024]⟩
abbrev S4352x512 : Shape := ⟨2, ![4352, 512]⟩
abbrev S4352x128 : Shape := ⟨2, ![4352, 128]⟩
abbrev S2x4x128x128 : Shape := ⟨4, ![2, 4, 128, 128]⟩
abbrev S2x1x512 : Shape := ⟨3, ![2, 1, 512]⟩
abbrev S2x8 : Shape := ⟨2, ![2, 8]⟩
abbrev S1024x1024 : Shape := ⟨2, ![1024, 1024]⟩
abbrev S2x2x16x1024 : Shape := ⟨4, ![2, 2, 16, 1024]⟩
abbrev S4 : Shape := ⟨1, ![4]⟩
abbrev S4x1x1 : Shape := ⟨3, ![4, 1, 1]⟩
abbrev S_ : Shape := ⟨0, ![]⟩
abbrev S256 : Shape := ⟨1, ![256]⟩
abbrev S1x256x1 : Shape := ⟨3, ![1, 256, 1]⟩
abbrev S4x256x1 : Shape := ⟨3, ![4, 256, 1]⟩
abbrev S512 : Shape := ⟨1, ![512]⟩
abbrev S1x1x512 : Shape := ⟨3, ![1, 1, 512]⟩
abbrev S4x1x512 : Shape := ⟨3, ![4, 1, 512]⟩
abbrev S4x256x512 : Shape := ⟨3, ![4, 256, 512]⟩
abbrev S4x256x256 : Shape := ⟨3, ![4, 256, 256]⟩
abbrev S4x256x768 : Shape := ⟨3, ![4, 256, 768]⟩
abbrev S4x1x256x512 : Shape := ⟨4, ![4, 1, 256, 512]⟩
abbrev S4x4x256x512 : Shape := ⟨4, ![4, 4, 256, 512]⟩
abbrev S4x256x124 : Shape := ⟨3, ![4, 256, 124]⟩
abbrev S4x256x128 : Shape := ⟨3, ![4, 256, 128]⟩
abbrev S4x4x512x256 : Shape := ⟨4, ![4, 4, 512, 256]⟩
abbrev S4x128x128 : Shape := ⟨3, ![4, 128, 128]⟩
abbrev S8x512 : Shape := ⟨2, ![8, 512]⟩
abbrev S8x128 : Shape := ⟨2, ![8, 128]⟩
abbrev S2x8x1024 : Shape := ⟨3, ![2, 8, 1024]⟩
abbrev S256x1024 : Shape := ⟨2, ![256, 1024]⟩
abbrev S256x512 : Shape := ⟨2, ![256, 512]⟩
abbrev S256x128 : Shape := ⟨2, ![256, 128]⟩
abbrev S1x4x128x128 : Shape := ⟨4, ![1, 4, 128, 128]⟩
abbrev S1x1x16x1024 : Shape := ⟨4, ![1, 1, 16, 1024]⟩
abbrev S1x256x768 : Shape := ⟨3, ![1, 256, 768]⟩
abbrev S1x4x256x512 : Shape := ⟨4, ![1, 4, 256, 512]⟩
abbrev S1x4x512x256 : Shape := ⟨4, ![1, 4, 512, 256]⟩
abbrev S1x256x128 : Shape := ⟨3, ![1, 256, 128]⟩
abbrev S1x8x1024 : Shape := ⟨3, ![1, 8, 1024]⟩
abbrev S8x1024 : Shape := ⟨2, ![8, 1024]⟩
abbrev S1x1x1024 : Shape := ⟨3, ![1, 1, 1024]⟩
abbrev S1x1024 : Shape := ⟨2, ![1, 1024]⟩
abbrev S1024 : Shape := ⟨1, ![1024]⟩
abbrev S1x1x1x1024 : Shape := ⟨4, ![1, 1, 1, 1024]⟩
abbrev S1x1x256x512 : Shape := ⟨4, ![1, 1, 256, 512]⟩
abbrev S512x128 : Shape := ⟨2, ![512, 128]⟩
abbrev S256x1 : Shape := ⟨2, ![256, 1]⟩
abbrev S1x128 : Shape := ⟨2, ![1, 128]⟩
abbrev S1x1x128x128 : Shape := ⟨4, ![1, 1, 128, 128]⟩
abbrev S128x128 : Shape := ⟨2, ![128, 128]⟩
abbrev S128 : Shape := ⟨1, ![128]⟩
abbrev S1x1x128 : Shape := ⟨3, ![1, 1, 128]⟩
abbrev S1x128x128 : Shape := ⟨3, ![1, 128, 128]⟩
abbrev S1x1x512x256 : Shape := ⟨4, ![1, 1, 512, 256]⟩
abbrev S512x256 : Shape := ⟨2, ![512, 256]⟩
abbrev S256x768 : Shape := ⟨2, ![256, 768]⟩
abbrev S768x128 : Shape := ⟨2, ![768, 128]⟩
abbrev S256x64 : Shape := ⟨2, ![256, 64]⟩
abbrev S1024x64 : Shape := ⟨2, ![1024, 64]⟩
abbrev S1024x1 : Shape := ⟨2, ![1024, 1]⟩
abbrev S768x64 : Shape := ⟨2, ![768, 64]⟩
abbrev S1024x768 : Shape := ⟨2, ![1024, 768]⟩
abbrev S1x1 : Shape := ⟨2, ![1, 1]⟩
abbrev S1 : Shape := ⟨1, ![1]⟩

abbrev nBuf : Space → Nat
  | .hbm => 197
  | .vmem => 36
  | .smem => 1
  | _ => 0

abbrev hbmTy0_0 (i : Nat) : BufTy := match i % 128 with
  | 0 => ⟨S4352x1024, .f32⟩
  | 1 => ⟨S4352x1024, .f32⟩
  | 2 => ⟨S4352x512, .f32⟩
  | 3 => ⟨S4352x128, .f32⟩
  | 4 => ⟨S4352x128, .f32⟩
  | 5 => ⟨S4352x512, .f32⟩
  | 6 => ⟨S4352x128, .f32⟩
  | 7 => ⟨S2x4x128x128, .f32⟩
  | 8 => ⟨S2x1x512, .f32⟩
  | 9 => ⟨S2x8, .f32⟩
  | 10 => ⟨S1024x1024, .f32⟩
  | 11 => ⟨S2x2x16x1024, .f32⟩
  | 12 => ⟨S4, .i32⟩
  | 13 => ⟨S4x1x1, .i32⟩
  | 14 => ⟨S_, .i32⟩
  | 15 => ⟨S4x1x1, .i32⟩
  | 16 => ⟨S4x1x1, .i32⟩
  | 17 => ⟨S_, .i32⟩
  | 18 => ⟨S4x1x1, .i32⟩
  | 19 => ⟨S4x1x1, .i32⟩
  | 20 => ⟨S_, .i32⟩
  | 21 => ⟨S_, .i32⟩
  | 22 => ⟨S_, .i32⟩
  | 23 => ⟨S4x1x1, .i32⟩
  | 24 => ⟨S4x1x1, .i32⟩
  | 25 => ⟨S_, .i32⟩
  | 26 => ⟨S4x1x1, .i32⟩
  | 27 => ⟨S4x1x1, .i32⟩
  | 28 => ⟨S_, .i32⟩
  | 29 => ⟨S4x1x1, .i32⟩
  | 30 => ⟨S4x1x1, .i32⟩
  | 31 => ⟨S256, .i32⟩
  | 32 => ⟨S1x256x1, .i32⟩
  | 33 => ⟨S4x256x1, .i32⟩
  | 34 => ⟨S4x256x1, .i32⟩
  | 35 => ⟨S4x256x1, .i32⟩
  | 36 => ⟨S512, .i32⟩
  | 37 => ⟨S1x1x512, .i32⟩
  | 38 => ⟨S4x1x512, .i32⟩
  | 39 => ⟨S4x1x512, .i32⟩
  | 40 => ⟨S4x1x512, .i32⟩
  | 41 => ⟨S_, .i32⟩
  | 42 => ⟨S4x1x1, .i32⟩
  | 43 => ⟨S4x1x1, .i1⟩
  | 44 => ⟨S_, .i32⟩
  | 45 => ⟨S4x1x512, .i32⟩
  | 46 => ⟨S4x1x512, .i1⟩
  | 47 => ⟨S4x1x512, .i1⟩
  | 48 => ⟨S4x1x512, .i1⟩
  | 49 => ⟨S4x256x512, .i32⟩
  | 50 => ⟨S4x256x512, .i32⟩
  | 51 => ⟨S4x256x512, .i32⟩
  | 52 => ⟨S4x256x512, .i32⟩
  | 53 => ⟨S_, .i32⟩
  | 54 => ⟨S4x256x512, .i32⟩
  | 55 => ⟨S4x256x512, .i1⟩
  | 56 => ⟨S4x256x512, .i1⟩
  | 57 => ⟨S4x256x512, .i1⟩
  | 58 => ⟨S_, .f32⟩
  | 59 => ⟨S_, .f32⟩
  | 60 => ⟨S4x256x512, .f32⟩
  | 61 => ⟨S4x256x512, .f32⟩
  | 62 => ⟨S4x256x512, .f32⟩
  | 63 => ⟨S4x256x512, .f32⟩
  | 64 => ⟨S_, .f32⟩
  | 65 => ⟨S4x256x256, .f32⟩
  | 66 => ⟨S4x256x768, .f32⟩
  | 67 => ⟨S_, .i32⟩
  | 68 => ⟨S_, .i32⟩
  | 69 => ⟨S4x1x1, .i32⟩
  | 70 => ⟨S4x1x1, .i32⟩
  | 71 => ⟨S4x1x1, .i32⟩
  | 72 => ⟨S_, .i32⟩
  | 73 => ⟨S_, .i32⟩
  | 74 => ⟨S4x1x1, .i32⟩
  | 75 => ⟨S4x1x1, .i32⟩
  | 76 => ⟨S4x1x1, .i32⟩
  | 77 => ⟨S_, .i32⟩
  | 78 => ⟨S4x256x1, .i32⟩
  | 79 => ⟨S4x256x1, .i32⟩
  | 80 => ⟨S4x1x1, .i32⟩
  | 81 => ⟨S4x256x1, .i32⟩
  | 82 => ⟨S4x256x1, .i32⟩
  | 83 => ⟨S_, .i32⟩
  | 84 => ⟨S4x256x1, .i32⟩
  | 85 => ⟨S4x256x1, .i32⟩
  | 86 => ⟨S_, .i32⟩
  | 87 => ⟨S4x256x1, .i32⟩
  | 88 => ⟨S4x256x1, .i32⟩
  | 89 => ⟨S4x1x1, .i32⟩
  | 90 => ⟨S4x256x1, .i32⟩
  | 91 => ⟨S4x256x1, .i32⟩
  | 92 => ⟨S4x256x512, .i32⟩
  | 93 => ⟨S4x256x512, .i32⟩
  | 94 => ⟨S4x256x512, .i1⟩
  | 95 => ⟨S4x256x512, .i32⟩
  | 96 => ⟨S4x256x512, .i32⟩
  | 97 => ⟨S4x256x512, .i1⟩
  | 98 => ⟨S4x256x512, .i1⟩
  | 99 => ⟨S4x256x1, .i32⟩
  | 100 => ⟨S4x256x1, .f32⟩
  | 101 => ⟨S_, .i32⟩
  | 102 => ⟨S4x256x1, .i32⟩
  | 103 => ⟨S4x256x1, .i32⟩
  | 104 => ⟨S4x1x1, .i32⟩
  | 105 => ⟨S4x256x1, .i32⟩
  | 106 => ⟨S4x256x1, .i32⟩
  | 107 => ⟨S_, .i32⟩
  | 108 => ⟨S4x256x1, .i32⟩
  | 109 => ⟨S4x256x1, .i32⟩
  | 110 => ⟨S_, .i32⟩
  | 111 => ⟨S4x256x1, .i32⟩
  | 112 => ⟨S4x256x1, .i32⟩
  | 113 => ⟨S4x1x1, .i32⟩
  | 114 => ⟨S4x256x1, .i32⟩
  | 115 => ⟨S4x256x1, .i32⟩
  | 116 => ⟨S4x256x512, .i32⟩
  | 117 => ⟨S4x256x512, .i32⟩
  | 118 => ⟨S4x256x512, .i1⟩
  | 119 => ⟨S4x256x512, .i32⟩
  | 120 => ⟨S4x256x512, .i32⟩
  | 121 => ⟨S4x256x512, .i1⟩
  | 122 => ⟨S4x256x512, .i1⟩
  | 123 => ⟨S4x256x1, .i32⟩
  | 124 => ⟨S4x256x1, .f32⟩
  | 125 => ⟨S_, .i32⟩
  | 126 => ⟨S4x256x1, .i32⟩
  | 127 => ⟨S4x256x1, .i32⟩
  | _ => ⟨S4352x1024, .f32⟩

abbrev hbmTy0_1 (i : Nat) : BufTy := match i % 128 with
  | 0 => ⟨S4x1x1, .i32⟩
  | 1 => ⟨S4x256x1, .i32⟩
  | 2 => ⟨S4x256x1, .i32⟩
  | 3 => ⟨S_, .i32⟩
  | 4 => ⟨S4x256x1, .i32⟩
  | 5 => ⟨S4x256x1, .i32⟩
  | 6 => ⟨S_, .i32⟩
  | 7 => ⟨S4x256x1, .i32⟩
  | 8 => ⟨S4x256x1, .i32⟩
  | 9 => ⟨S4x1x1, .i32⟩
  | 10 => ⟨S4x256x1, .i32⟩
  | 11 => ⟨S4x256x1, .i32⟩
  | 12 => ⟨S4x256x512, .i32⟩
  | 13 => ⟨S4x256x512, .i32⟩
  | 14 => ⟨S4x256x512, .i1⟩
  | 15 => ⟨S4x256x512, .i32⟩
  | 16 => ⟨S4x256x512, .i32⟩
  | 17 => ⟨S4x256x512, .i1⟩
  | 18 => ⟨S4x256x512, .i1⟩
  | 19 => ⟨S4x256x1, .i32⟩
  | 20 => ⟨S4x256x1, .f32⟩
  | 21 => ⟨S_, .i32⟩
  | 22 => ⟨S4x256x1, .i32⟩
  | 23 => ⟨S4x256x1, .i32⟩
  | 24 => ⟨S4x1x1, .i32⟩
  | 25 => ⟨S4x256x1, .i32⟩
  | 26 => ⟨S4x256x1, .i32⟩
  | 27 => ⟨S_, .i32⟩
  | 28 => ⟨S4x256x1, .i32⟩
  | 29 => ⟨S4x256x1, .i32⟩
  | 30 => ⟨S_, .i32⟩
  | 31 => ⟨S4x256x1, .i32⟩
  | 32 => ⟨S4x256x1, .i32⟩
  | 33 => ⟨S4x1x1, .i32⟩
  | 34 => ⟨S4x256x1, .i32⟩
  | 35 => ⟨S4x256x1, .i32⟩
  | 36 => ⟨S4x256x512, .i32⟩
  | 37 => ⟨S4x256x512, .i32⟩
  | 38 => ⟨S4x256x512, .i1⟩
  | 39 => ⟨S4x256x512, .i32⟩
  | 40 => ⟨S4x256x512, .i32⟩
  | 41 => ⟨S4x256x512, .i1⟩
  | 42 => ⟨S4x256x512, .i1⟩
  | 43 => ⟨S4x256x1, .i32⟩
  | 44 => ⟨S4x256x1, .f32⟩
  | 45 => ⟨S4x1x256x512, .i1⟩
  | 46 => ⟨S4x1x256x512, .i1⟩
  | 47 => ⟨S4x1x256x512, .i1⟩
  | 48 => ⟨S4x1x256x512, .i1⟩
  | 49 => ⟨S4x4x256x512, .i1⟩
  | 50 => ⟨S4x4x256x512, .bf16⟩
  | 51 => ⟨S_, .f32⟩
  | 52 => ⟨S4x256x124, .f32⟩
  | 53 => ⟨S4x256x128, .f32⟩
  | 54 => ⟨S4x4x512x256, .bf16⟩
  | 55 => ⟨S4352x512, .bf16⟩
  | 56 => ⟨S4352x128, .bf16⟩
  | 57 => ⟨S4352x128, .bf16⟩
  | 58 => ⟨S2x4x128x128, .bf16⟩
  | 59 => ⟨S1024x1024, .bf16⟩
  | 60 => ⟨S4352x512, .f32⟩
  | 61 => ⟨S4352x128, .f32⟩
  | 62 => ⟨S4352x128, .f32⟩
  | 63 => ⟨S4352x512, .f32⟩
  | 64 => ⟨S4352x1024, .bf16⟩
  | 65 => ⟨S4x128x128, .f32⟩
  | 66 => ⟨S8x512, .f32⟩
  | 67 => ⟨S8x128, .f32⟩
  | 68 => ⟨S2x8x1024, .f32⟩
  | _ => ⟨S4352x1024, .f32⟩

abbrev hbmTy (i : Nat) : BufTy := match i / 128 with
  | 0 => hbmTy0_0 i
  | 1 => hbmTy0_1 i
  | _ => ⟨S4352x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x512, .bf16⟩
  | .local _ .vmem, ⟨5, _⟩ => ⟨S256x512, .bf16⟩
  | .local _ .vmem, ⟨6, _⟩ => ⟨S4352x128, .bf16⟩
  | .local _ .vmem, ⟨7, _⟩ => ⟨S4352x128, .bf16⟩
  | .local _ .vmem, ⟨8, _⟩ => ⟨S4352x512, .f32⟩
  | .local _ .vmem, ⟨9, _⟩ => ⟨S256x128, .f32⟩
  | .local _ .vmem, ⟨10, _⟩ => ⟨S256x128, .f32⟩
  | .local _ .vmem, ⟨11, _⟩ => ⟨S1x4x128x128, .bf16⟩
  | .local _ .vmem, ⟨12, _⟩ => ⟨S1x1x512, .f32⟩
  | .local _ .vmem, ⟨13, _⟩ => ⟨S1024x1024, .bf16⟩
  | .local _ .vmem, ⟨14, _⟩ => ⟨S1x1x16x1024, .f32⟩
  | .local _ .vmem, ⟨15, _⟩ => ⟨S1x1x16x1024, .f32⟩
  | .local _ .vmem, ⟨16, _⟩ => ⟨S1x256x768, .f32⟩
  | .local _ .vmem, ⟨17, _⟩ => ⟨S1x256x768, .f32⟩
  | .local _ .vmem, ⟨18, _⟩ => ⟨S1x4x256x512, .bf16⟩
  | .local _ .vmem, ⟨19, _⟩ => ⟨S1x4x256x512, .bf16⟩
  | .local _ .vmem, ⟨20, _⟩ => ⟨S1x4x512x256, .bf16⟩
  | .local _ .vmem, ⟨21, _⟩ => ⟨S1x4x512x256, .bf16⟩
  | .local _ .vmem, ⟨22, _⟩ => ⟨S1x256x128, .f32⟩
  | .local _ .vmem, ⟨23, _⟩ => ⟨S1x256x128, .f32⟩
  | .local _ .vmem, ⟨24, _⟩ => ⟨S256x512, .f32⟩
  | .local _ .vmem, ⟨25, _⟩ => ⟨S256x512, .f32⟩
  | .local _ .vmem, ⟨26, _⟩ => ⟨S4352x128, .f32⟩
  | .local _ .vmem, ⟨27, _⟩ => ⟨S4352x128, .f32⟩
  | .local _ .vmem, ⟨28, _⟩ => ⟨S4352x512, .f32⟩
  | .local _ .vmem, ⟨29, _⟩ => ⟨S256x1024, .bf16⟩
  | .local _ .vmem, ⟨30, _⟩ => ⟨S256x1024, .bf16⟩
  | .local _ .vmem, ⟨31, _⟩ => ⟨S4x128x128, .f32⟩
  | .local _ .vmem, ⟨32, _⟩ => ⟨S8x512, .f32⟩
  | .local _ .vmem, ⟨33, _⟩ => ⟨S8x128, .f32⟩
  | .local _ .vmem, ⟨34, _⟩ => ⟨S1x8x1024, .f32⟩
  | .local _ .vmem, ⟨35, _⟩ => ⟨S1x8x1024, .f32⟩
  | .local _ .smem, ⟨0, _⟩ => ⟨S2x8, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .smem, ⟨0, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_c_0 : Ref sig .tc := ⟨.hbm, 14, rfl⟩
abbrev main_v1 : Ref sig .tc := ⟨.hbm, 15, rfl⟩
abbrev main_v2 : Ref sig .tc := ⟨.hbm, 16, rfl⟩
abbrev main_c_1 : Ref sig .tc := ⟨.hbm, 17, rfl⟩
abbrev main_v3 : Ref sig .tc := ⟨.hbm, 18, rfl⟩
abbrev main_v4 : Ref sig .tc := ⟨.hbm, 19, rfl⟩
abbrev main_c_2 : Ref sig .tc := ⟨.hbm, 20, rfl⟩
abbrev main_c_3 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v5 : Ref sig .tc := ⟨.hbm, 27, rfl⟩
abbrev main_c_4 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c_5 : Ref sig .tc := ⟨.hbm, 41, rfl⟩
abbrev main_v18 : Ref sig .tc := ⟨.hbm, 42, rfl⟩
abbrev main_v19 : Ref sig .tc := ⟨.hbm, 43, rfl⟩
abbrev main_c_6 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c_7 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst : Ref sig .tc := ⟨.hbm, 58, rfl⟩
abbrev main_cst_8 : Ref sig .tc := ⟨.hbm, 59, rfl⟩
abbrev main_call1_v0 : Ref sig .tc := ⟨.hbm, 60, rfl⟩
abbrev main_call1_v1 : Ref sig .tc := ⟨.hbm, 61, rfl⟩
abbrev main_v32 : Ref sig .tc := ⟨.hbm, 62, rfl⟩
abbrev main_v33 : Ref sig .tc := ⟨.hbm, 63, rfl⟩
abbrev main_cst_9 : Ref sig .tc := ⟨.hbm, 64, rfl⟩
abbrev main_v34 : Ref sig .tc := ⟨.hbm, 65, rfl⟩
abbrev main_v35 : Ref sig .tc := ⟨.hbm, 66, rfl⟩
abbrev main_c_10 : Ref sig .tc := ⟨.hbm, 67, rfl⟩
abbrev main_c_11 : Ref sig .tc := ⟨.hbm, 68, rfl⟩
abbrev main_call2_v0 : Ref sig .tc := ⟨.hbm, 69, rfl⟩
abbrev main_call2_v1 : Ref sig .tc := ⟨.hbm, 70, rfl⟩
abbrev main_v36 : Ref sig .tc := ⟨.hbm, 71, rfl⟩
abbrev main_c_12 : Ref sig .tc := ⟨.hbm, 72, rfl⟩
abbrev main_c_13 : Ref sig .tc := ⟨.hbm, 73, rfl⟩
abbrev main_call3_v0 : Ref sig .tc := ⟨.hbm, 74, rfl⟩
abbrev main_call3_v1 : Ref sig .tc := ⟨.hbm, 75, rfl⟩
abbrev main_v37 : Ref sig .tc := ⟨.hbm, 76, rfl⟩
abbrev main_c_14 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_c_15 : Ref sig .tc := ⟨.hbm, 83, rfl⟩
abbrev main_v43 : Ref sig .tc := ⟨.hbm, 84, rfl⟩
abbrev main_v44 : Ref sig .tc := ⟨.hbm, 85, rfl⟩
abbrev main_c_16 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_c_17 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_c_18 : Ref sig .tc := ⟨.hbm, 107, rfl⟩
abbrev main_v64 : Ref sig .tc := ⟨.hbm, 108, rfl⟩
abbrev main_v65 : Ref sig .tc := ⟨.hbm, 109, rfl⟩
abbrev main_c_19 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_c_20 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_c_21 : Ref sig .tc := ⟨.hbm, 131, rfl⟩
abbrev main_v85 : Ref sig .tc := ⟨.hbm, 132, rfl⟩
abbrev main_v86 : Ref sig .tc := ⟨.hbm, 133, rfl⟩
abbrev main_c_22 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_c_23 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_c_24 : Ref sig .tc := ⟨.hbm, 155, rfl⟩
abbrev main_v106 : Ref sig .tc := ⟨.hbm, 156, rfl⟩
abbrev main_v107 : Ref sig .tc := ⟨.hbm, 157, rfl⟩
abbrev main_c_25 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_cst_26 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136_0 : Ref sig .tc := ⟨.hbm, 188, rfl⟩
abbrev main_v136_1 : Ref sig .tc := ⟨.hbm, 189, rfl⟩
abbrev main_v136_2 : Ref sig .tc := ⟨.hbm, 190, rfl⟩
abbrev main_v136_3 : Ref sig .tc := ⟨.hbm, 191, rfl⟩
abbrev main_v136_4 : Ref sig .tc := ⟨.hbm, 192, rfl⟩
abbrev main_v136_5 : Ref sig .tc := ⟨.hbm, 193, rfl⟩
abbrev main_v136_6 : Ref sig .tc := ⟨.hbm, 194, rfl⟩
abbrev main_v136_7 : Ref sig .tc := ⟨.hbm, 195, rfl⟩
abbrev main_v136_8 : Ref sig .tc := ⟨.hbm, 196, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg22_0 : Ref sig .tc := ⟨.vmem, 32, rfl⟩
abbrev cc0_stg23_0 : Ref sig .tc := ⟨.vmem, 33, rfl⟩
abbrev cc0_stg24_0 : Ref sig .tc := ⟨.vmem, 34, rfl⟩
abbrev cc0_stg24_1 : Ref sig .tc := ⟨.vmem, 35, rfl⟩
abbrev cc0_stg9_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem18_0 : DmaSem sig := 28
abbrev cc0_sem19_0 : DmaSem sig := 29
abbrev cc0_sem20_0 : DmaSem sig := 30
abbrev cc0_sem20_1 : DmaSem sig := 31
abbrev cc0_sem21_0 : DmaSem sig := 32
abbrev cc0_sem22_0 : DmaSem sig := 33
abbrev cc0_sem23_0 : DmaSem sig := 34
abbrev cc0_sem24_0 : DmaSem sig := 35
abbrev cc0_sem24_1 : DmaSem sig := 36

abbrev nD : Nat := 1
abbrev τ : Topo := Topo.v7x

variable {F : FTy → Type} [FloatOps F]

abbrev grid0 : Pipeline.Grid := ⟨1, ![17], ![false]⟩

def k0_mult1 (i : grid0.Coords) : BitVec 32 :=
  let c3840_i32 : BitVec 32 := 3840#32
  let c0_i32_3 : BitVec 32 := 0#32
  let arg0 : BitVec 32 := BitVec.ofNat 32 (i 0).val
  let c256_i32 : BitVec 32 := 256#32
  let v8 : BitVec 32 := Scalar.muli arg0 c256_i32
  let c128_i32 : BitVec 32 := 128#32
  let v9 : BitVec 32 := Scalar.subi v8 c128_i32
  let v10 : BitVec 32 := Scalar.maxsi c0_i32_3 v9
  let v11 : BitVec 32 := Scalar.minsi c3840_i32 v10
  v11
def k0_mult2 (i : grid0.Coords) : BitVec 32 :=
  let arg0 : BitVec 32 := BitVec.ofNat 32 (i 0).val
  let c256_i32_4 : BitVec 32 := 256#32
  let v13 : BitVec 32 := Scalar.muli arg0 c256_i32_4
  v13
def k0_off1 (i : grid0.Coords) : Fin 2 → Nat :=
  let c3840_i32 : BitVec 32 := 3840#32
  let c0_i32_3 : BitVec 32 := 0#32
  let arg0 : BitVec 32 := BitVec.ofNat 32 (i 0).val
  let c256_i32 : BitVec 32 := 256#32
  let v8 : BitVec 32 := Scalar.muli arg0 c256_i32
  let c128_i32 : BitVec 32 := 128#32
  let v9 : BitVec 32 := Scalar.subi v8 c128_i32
  let v10 : BitVec 32 := Scalar.maxsi c0_i32_3 v9
  let v11 : BitVec 32 := Scalar.minsi c3840_i32 v10
  let v12 : BitVec 32 := v11
  let v37 : Index := Scalar.indexCast v12
  let c0_25 : Index := 0#32
  ![v37.toNat, 0]
def k0_mult3 (i : grid0.Coords) : BitVec 32 :=
  let arg0 : BitVec 32 := BitVec.ofNat 32 (i 0).val
  let c256_i32_30 : BitVec 32 := 256#32
  let v45 : BitVec 32 := Scalar.muli arg0 c256_i32_30
  v45
def k0_off2 (i : grid0.Coords) : Fin 2 → Nat :=
  let arg0 : BitVec 32 := BitVec.ofNat 32 (i 0).val
  let c256_i32_30 : BitVec 32 := 256#32
  let v45 : BitVec 32 := Scalar.muli arg0 c256_i32_30
  let v46 : BitVec 32 := v45
  let v47 : Index := Scalar.indexCast v46
  let c0_31 : Index := 0#32
  ![v47.toNat, 0]
def k0_off3 (i : grid0.Coords) : Fin 2 → Nat :=
  let c3840_i32 : BitVec 32 := 3840#32
  let c0_i32_3 : BitVec 32 := 0#32
  let arg0 : BitVec 32 := BitVec.ofNat 32 (i 0).val
  let c256_i32 : BitVec 32 := 256#32
  let v8 : BitVec 32 := Scalar.muli arg0 c256_i32
  let c128_i32 : BitVec 32 := 128#32
  let v9 : BitVec 32 := Scalar.subi v8 c128_i32
  let v10 : BitVec 32 := Scalar.maxsi c0_i32_3 v9
  let v11 : BitVec 32 := Scalar.minsi c3840_i32 v10
  let v12 : BitVec 32 := v11
  let v99 : Index := Scalar.indexCast v12
  let c128 : Index := 128#32
  ![v99.toNat, 128]
def k0_mult4 (i : grid0.Coords) : BitVec 32 :=
  let arg0 : BitVec 32 := BitVec.ofNat 32 (i 0).val
  let c256_i32_76 : BitVec 32 := 256#32
  let v107 : BitVec 32 := Scalar.muli arg0 c256_i32_76
  v107
def k0_off4 (i : grid0.Coords) : Fin 2 → Nat :=
  let arg0 : BitVec 32 := BitVec.ofNat 32 (i 0).val
  let c256_i32_76 : BitVec 32 := 256#32
  let v107 : BitVec 32 := Scalar.muli arg0 c256_i32_76
  let v108 : BitVec 32 := v107
  let v109 : Index := Scalar.indexCast v108
  let c128_77 : Index := 128#32
  ![v109.toNat, 128]
def k0_off5 (i : grid0.Coords) : Fin 2 → Nat :=
  let c3840_i32 : BitVec 32 := 3840#32
  let c0_i32_3 : BitVec 32 := 0#32
  let arg0 : BitVec 32 := BitVec.ofNat 32 (i 0).val
  let c256_i32 : BitVec 32 := 256#32
  let v8 : BitVec 32 := Scalar.muli arg0 c256_i32
  let c128_i32 : BitVec 32 := 128#32
  let v9 : BitVec 32 := Scalar.subi v8 c128_i32
  let v10 : BitVec 32 := Scalar.maxsi c0_i32_3 v9
  let v11 : BitVec 32 := Scalar.minsi c3840_i32 v10
  let v12 : BitVec 32 := v11
  let v161 : Index := Scalar.indexCast v12
  let c256 : Index := 256#32
  ![v161.toNat, 256]
def k0_mult5 (i : grid0.Coords) : BitVec 32 :=
  let arg0 : BitVec 32 := BitVec.ofNat 32 (i 0).val
  let c256_i32_123 : BitVec 32 := 256#32
  let v169 : BitVec 32 := Scalar.muli arg0 c256_i32_123
  v169
def k0_off6 (i : grid0.Coords) : Fin 2 → Nat :=
  let arg0 : BitVec 32 := BitVec.ofNat 32 (i 0).val
  let c256_i32_123 : BitVec 32 := 256#32
  let v169 : BitVec 32 := Scalar.muli arg0 c256_i32_123
  let v170 : BitVec 32 := v169
  let v171 : Index := Scalar.indexCast v170
  let c256_124 : Index := 256#32
  ![v171.toNat, 256]
def k0_off7 (i : grid0.Coords) : Fin 2 → Nat :=
  let c3840_i32 : BitVec 32 := 3840#32
  let c0_i32_3 : BitVec 32 := 0#32
  let arg0 : BitVec 32 := BitVec.ofNat 32 (i 0).val
  let c256_i32 : BitVec 32 := 256#32
  let v8 : BitVec 32 := Scalar.muli arg0 c256_i32
  let c128_i32 : BitVec 32 := 128#32
  let v9 : BitVec 32 := Scalar.subi v8 c128_i32
  let v10 : BitVec 32 := Scalar.maxsi c0_i32_3 v9
  let v11 : BitVec 32 := Scalar.minsi c3840_i32 v10
  let v12 : BitVec 32 := v11
  let v223 : Index := Scalar.indexCast v12
  let c384 : Index := 384#32
  ![v223.toNat, 384]
def k0_mult6 (i : grid0.Coords) : BitVec 32 :=
  let arg0 : BitVec 32 := BitVec.ofNat 32 (i 0).val
  let c256_i32_169 : BitVec 32 := 256#32
  let v231 : BitVec 32 := Scalar.muli arg0 c256_i32_169
  v231
def k0_off8 (i : grid0.Coords) : Fin 2 → Nat :=
  let arg0 : BitVec 32 := BitVec.ofNat 32 (i 0).val
  let c256_i32_169 : BitVec 32 := 256#32
  let v231 : BitVec 32 := Scalar.muli arg0 c256_i32_169
  let v232 : BitVec 32 := v231
  let v233 : Index := Scalar.indexCast v232
  let c384_170 : Index := 384#32
  ![v233.toNat, 384]
def k0_off9 (i : grid0.Coords) : Fin 2 → Nat :=
  let c3840_i32 : BitVec 32 := 3840#32
  let c0_i32_3 : BitVec 32 := 0#32
  let arg0 : BitVec 32 := BitVec.ofNat 32 (i 0).val
  let c256_i32 : BitVec 32 := 256#32
  let v8 : BitVec 32 := Scalar.muli arg0 c256_i32
  let c128_i32 : BitVec 32 := 128#32
  let v9 : BitVec 32 := Scalar.subi v8 c128_i32
  let v10 : BitVec 32 := Scalar.maxsi c0_i32_3 v9
  let v11 : BitVec 32 := Scalar.minsi c3840_i32 v10
  let v12 : BitVec 32 := v11
  let v285 : Index := Scalar.indexCast v12
  let c0_211 : Index := 0#32
  ![v285.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let c16_i32 : BitVec 32 := 16#32
  let v0 : BitVec 1 := Scalar.cmpi .sge arg0 c16_i32
  let v1 : BitVec 32 := Scalar.extui v0
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_12 (i : grid0.Coords) : Fin 3 → Nat :=
  let arg0 : BitVec 32 := BitVec.ofNat 32 (i 0).val
  let c15_i32 : BitVec 32 := 15#32
  let v0 : BitVec 1 := Scalar.cmpi .slt arg0 c15_i32
  let c1_i32 : BitVec 32 := 1#32
  let v1 : BitVec 32 := Scalar.minsi arg0 c1_i32
  let c16_i32 : BitVec 32 := 16#32
  let v2 : BitVec 32 := Scalar.subi arg0 c16_i32
  let c3_i32 : BitVec 32 := 3#32
  let v3 : BitVec 32 := Scalar.addi v2 c3_i32
  let v4 : BitVec 32 := Scalar.select v0 v1 v3
  let c0_i32 : BitVec 32 := 0#32
  let c0_i32_0 : BitVec 32 := 0#32
  let c0_i32_1 : BitVec 32 := 0#32
  ![v4.toNat, c0_i32.toNat, c0_i32_0.toNat]

def cc0_transform_13 (i : grid0.Coords) : Fin 4 → Nat :=
  let arg0 : BitVec 32 := BitVec.ofNat 32 (i 0).val
  let c15_i32 : BitVec 32 := 15#32
  let v0 : BitVec 1 := Scalar.cmpi .slt arg0 c15_i32
  let c1_i32 : BitVec 32 := 1#32
  let v1 : BitVec 32 := Scalar.minsi arg0 c1_i32
  let c16_i32 : BitVec 32 := 16#32
  let v2 : BitVec 32 := Scalar.subi arg0 c16_i32
  let c3_i32 : BitVec 32 := 3#32
  let v3 : BitVec 32 := Scalar.addi v2 c3_i32
  let v4 : BitVec 32 := Scalar.select v0 v1 v3
  let c0_i32 : BitVec 32 := 0#32
  let c0_i32_0 : BitVec 32 := 0#32
  let c0_i32_1 : BitVec 32 := 0#32
  let c0_i32_2 : BitVec 32 := 0#32
  ![v4.toNat, c0_i32.toNat, c0_i32_0.toNat, c0_i32_1.toNat]

def cc0_transform_14 (i : grid0.Coords) : Fin 4 → Nat :=
  let arg0 : BitVec 32 := BitVec.ofNat 32 (i 0).val
  let c15_i32 : BitVec 32 := 15#32
  let v0 : BitVec 1 := Scalar.cmpi .slt arg0 c15_i32
  let c1_i32 : BitVec 32 := 1#32
  let v1 : BitVec 32 := Scalar.minsi arg0 c1_i32
  let c16_i32 : BitVec 32 := 16#32
  let v2 : BitVec 32 := Scalar.subi arg0 c16_i32
  let c3_i32 : BitVec 32 := 3#32
  let v3 : BitVec 32 := Scalar.addi v2 c3_i32
  let v4 : BitVec 32 := Scalar.select v0 v1 v3
  let c0_i32 : BitVec 32 := 0#32
  let c0_i32_0 : BitVec 32 := 0#32
  let c0_i32_1 : BitVec 32 := 0#32
  let c0_i32_2 : BitVec 32 := 0#32
  ![v4.toNat, c0_i32.toNat, c0_i32_0.toNat, c0_i32_1.toNat]

def cc0_transform_15 (i : grid0.Coords) : Fin 3 → Nat :=
  let arg0 : BitVec 32 := BitVec.ofNat 32 (i 0).val
  let c15_i32 : BitVec 32 := 15#32
  let v0 : BitVec 1 := Scalar.cmpi .slt arg0 c15_i32
  let c1_i32 : BitVec 32 := 1#32
  let v1 : BitVec 32 := Scalar.minsi arg0 c1_i32
  let c16_i32 : BitVec 32 := 16#32
  let v2 : BitVec 32 := Scalar.subi arg0 c16_i32
  let c3_i32 : BitVec 32 := 3#32
  let v3 : BitVec 32 := Scalar.addi v2 c3_i32
  let v4 : BitVec 32 := Scalar.select v0 v1 v3
  let c0_i32 : BitVec 32 := 0#32
  let c0_i32_0 : BitVec 32 := 0#32
  let c0_i32_1 : BitVec 32 := 0#32
  ![v4.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 3 → Nat :=
  let arg0 : BitVec 32 := BitVec.ofNat 32 (i 0).val
  let c16_i32 : BitVec 32 := 16#32
  let v0 : BitVec 1 := Scalar.cmpi .sge arg0 c16_i32
  let v1 : BitVec 32 := Scalar.extui v0
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4352x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4352x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4352x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x4x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S2x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1x16x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x4x256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x4x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S4352x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S4352x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S4352x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S4x128x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S8x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S8x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S1x8x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== Ffn.lean ====
abbrev S4352x1024 : Shape := ⟨2, ![4352, 1024]⟩
abbrev S2x2x16x1024 : Shape := ⟨4, ![2, 2, 16, 1024]⟩
abbrev S2x1x1024 : Shape := ⟨3, ![2, 1, 1024]⟩
abbrev S1024x5632 : Shape := ⟨2, ![1024, 5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S4352x5632 : Shape := ⟨2, ![4352, 5632]⟩
abbrev S256x1024 : Shape := ⟨2, ![256, 1024]⟩
abbrev S1x1x16x1024 : Shape := ⟨4, ![1, 1, 16, 1024]⟩
abbrev S1x1x1024 : Shape := ⟨3, ![1, 1, 1024]⟩
abbrev S256x5632 : Shape := ⟨2, ![256, 5632]⟩
abbrev S1x1024 : Shape := ⟨2, ![1, 1024]⟩
abbrev S1x1x1x1024 : Shape := ⟨4, ![1, 1, 1, 1024]⟩
abbrev S256 : Shape := ⟨1, ![256]⟩
abbrev S256x1 : Shape := ⟨2, ![256, 1]⟩
abbrev S1x1024x1408 : Shape := ⟨3, ![1, 1024, 1408]⟩
abbrev S1024x1408 : Shape := ⟨2, ![1024, 1408]⟩
abbrev S256x1408 : Shape := ⟨2, ![256, 1408]⟩
abbrev S1408x1024 : Shape := ⟨2, ![1408, 1024]⟩

abbrev nBuf : Space → Nat
  | .hbm => 12
  | .vmem => 13
  | .smem => 0
  | _ => 0

abbrev bufTy : (tb : Table) → Fin (tcTables nBuf tb) → BufTy
  | .hbm, ⟨0, _⟩ => ⟨S4352x1024, .f32⟩
  | .hbm, ⟨1, _⟩ => ⟨S2x2x16x1024, .f32⟩
  | .hbm, ⟨2, _⟩ => ⟨S2x1x1024, .f32⟩
  | .hbm, ⟨3, _⟩ => ⟨S1024x5632, .f32⟩
  | .hbm, ⟨4, _⟩ => ⟨S2816x1024, .f32⟩
  | .hbm, ⟨5, _⟩ => ⟨S1024x4x1408, .f32⟩
  | .hbm, ⟨6, _⟩ => ⟨S4x1024x1408, .f32⟩
  | .hbm, ⟨7, _⟩ => ⟨S4x1024x1408, .bf16⟩
  | .hbm, ⟨8, _⟩ => ⟨S2816x1024, .bf16⟩
  | .hbm, ⟨9, _⟩ => ⟨S4352x1024, .f32⟩
  | .hbm, ⟨10, _⟩ => ⟨S4352x5632, .bf16⟩
  | .hbm, ⟨11, _⟩ => ⟨S4352x1024, .f32⟩
  | .local _ .vmem, ⟨0, _⟩ => ⟨S256x1024, .f32⟩
  | .local _ .vmem, ⟨1, _⟩ => ⟨S256x1024, .f32⟩
  | .local _ .vmem, ⟨2, _⟩ => ⟨S1x1x16x1024, .f32⟩
  | .local _ .vmem, ⟨3, _⟩ => ⟨S1x1x16x1024, .f32⟩
  | .local _ .vmem, ⟨4, _⟩ => ⟨S1x1x1024, .f32⟩
  | .local _ .vmem, ⟨5, _⟩ => ⟨S4x1024x1408, .bf16⟩
  | .local _ .vmem, ⟨6, _⟩ => ⟨S2816x1024, .bf16⟩
  | .local _ .vmem, ⟨7, _⟩ => ⟨S256x1024, .f32⟩
  | .local _ .vmem, ⟨8, _⟩ => ⟨S256x1024, .f32⟩
  | .local _ .vmem, ⟨9, _⟩ => ⟨S256x5632, .bf16⟩
  | .local _ .vmem, ⟨10, _⟩ => ⟨S256x5632, .bf16⟩
  | .local _ .vmem, ⟨11, _⟩ => ⟨S256x1024, .f32⟩
  | .local _ .vmem, ⟨12, _⟩ => ⟨S256x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c16_i32 : BitVec 32 := 16#32
  let v0 : BitVec 1 := Scalar.cmpi .sge arg0 c16_i32
  let v1 : BitVec 32 := Scalar.extui v0
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnRefIdeal.lean ====
abbrev S4352x1024 : Shape := ⟨2, ![4352, 1024]⟩
abbrev S2x2x16x1024 : Shape := ⟨4, ![2, 2, 16, 1024]⟩
abbrev S2x1x1024 : Shape := ⟨3, ![2, 1, 1024]⟩
abbrev S1024x5632 : Shape := ⟨2, ![1024, 5632]⟩
abbrev S2816x1024 : Shape := ⟨2, ![2816, 1024]⟩
abbrev S1x1x1x1024 : Shape := ⟨4, ![1, 1, 1, 1024]⟩
abbrev S1024 : Shape := ⟨1, ![1024]⟩
abbrev S4096x1024 : Shape := ⟨2, ![4096, 1024]⟩
abbrev S256x1024 : Shape := ⟨2, ![256, 1024]⟩
abbrev S1x1x1024 : Shape := ⟨3, ![1, 1, 1024]⟩
abbrev S_ : Shape := ⟨0, ![]⟩
abbrev S4352 : Shape := ⟨1, ![4352]⟩
abbrev S4352x1 : Shape := ⟨2, ![4352, 1]⟩
abbrev S1x1024 : Shape := ⟨2, ![1, 1024]⟩
abbrev S4352x5632 : Shape := ⟨2, ![4352, 5632]⟩
abbrev S4352x2816 : Shape := ⟨2, ![4352, 2816]⟩

abbrev nBuf : Space → Nat
  | .hbm => 69
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S2x2x16x1024, .f32⟩
  | .hbm, ⟨2, _⟩ => ⟨S2x1x1024, .f32⟩
  | .hbm, ⟨3, _⟩ => ⟨S1024x5632, .f32⟩
  | .hbm, ⟨4, _⟩ => ⟨S2816x1024, .f32⟩
  | .hbm, ⟨5, _⟩ => ⟨S1x1x1x1024, .f32⟩
  | .hbm, ⟨6, _⟩ => ⟨S1024, .f32⟩
  | .hbm, ⟨7, _⟩ => ⟨S4096x1024, .f32⟩
  | .hbm, ⟨8, _⟩ => ⟨S1x1x1x1024, .f32⟩
  | .hbm, ⟨9, _⟩ => ⟨S1024, .f32⟩
  | .hbm, ⟨10, _⟩ => ⟨S256x1024, .f32⟩
  | .hbm, ⟨11, _⟩ => ⟨S4352x1024, .f32⟩
  | .hbm, ⟨12, _⟩ => ⟨S1x1x1x1024, .f32⟩
  | .hbm, ⟨13, _⟩ => ⟨S1024, .f32⟩
  | .hbm, ⟨14, _⟩ => ⟨S4096x1024, .f32⟩
  | .hbm, ⟨15, _⟩ => ⟨S1x1x1x1024, .f32⟩
  | .hbm, ⟨16, _⟩ => ⟨S1024, .f32⟩
  | .hbm, ⟨17, _⟩ => ⟨S256x1024, .f32⟩
  | .hbm, ⟨18, _⟩ => ⟨S4352x1024, .f32⟩
  | .hbm, ⟨19, _⟩ => ⟨S1x1x1x1024, .f32⟩
  | .hbm, ⟨20, _⟩ => ⟨S1024, .f32⟩
  | .hbm, ⟨21, _⟩ => ⟨S4096x1024, .f32⟩
  | .hbm, ⟨22, _⟩ => ⟨S1x1x1x1024, .f32⟩
  | .hbm, ⟨23, _⟩ => ⟨S1024, .f32⟩
  | .hbm, ⟨24, _⟩ => ⟨S256x1024, .f32⟩
  | .hbm, ⟨25, _⟩ => ⟨S4352x1024, .f32⟩
  | .hbm, ⟨26, _⟩ => ⟨S1x1x1024, .f32⟩
  | .hbm, ⟨27, _⟩ => ⟨S1024, .f32⟩
  | .hbm, ⟨28, _⟩ => ⟨S4352x1024, .f32⟩
  | .hbm, ⟨29, _⟩ => ⟨S_, .f32⟩
  | .hbm, ⟨30, _⟩ => ⟨S4352, .f32⟩
  | .hbm, ⟨31, _⟩ => ⟨S4352x1, .f32⟩
  | .hbm, ⟨32, _⟩ => ⟨S_, .f32⟩
  | .hbm, ⟨33, _⟩ => ⟨S4352x1, .f32⟩
  | .hbm, ⟨34, _⟩ => ⟨S4352x1, .f32⟩
  | .hbm, ⟨35, _⟩ => ⟨S_, .f32⟩
  | .hbm, ⟨36, _⟩ => ⟨S4352x1, .f32⟩
  | .hbm, ⟨37, _⟩ => ⟨S4352x1, .f32⟩
  | .hbm, ⟨38, _⟩ => ⟨S4352x1, .f32⟩
  | .hbm, ⟨39, _⟩ => ⟨S4352x1024, .f32⟩
  | .hbm, ⟨40, _⟩ => ⟨S4352x1024, .f32⟩
  | .hbm, ⟨41, _⟩ => ⟨S1x1024, .f32⟩
  | .hbm, ⟨42, _⟩ => ⟨S4352x1024, .f32⟩
  | .hbm, ⟨43, _⟩ => ⟨S4352x1024, .f32⟩
  | .hbm, ⟨44, _⟩ => ⟨S_, .f32⟩
  | .hbm, ⟨45, _⟩ => ⟨S4352x1024, .f32⟩
  | .hbm, ⟨46, _⟩ => ⟨S4352x1024, .f32⟩
  | .hbm, ⟨47, _⟩ => ⟨S4352x1024, .f32⟩
  | .hbm, ⟨48, _⟩ => ⟨S4352x1024, .f32⟩
  | .hbm, ⟨49, _⟩ => ⟨S4352x5632, .f32⟩
  | .hbm, ⟨50, _⟩ => ⟨S4352x2816, .f32⟩
  | .hbm, ⟨51, _⟩ => ⟨S4352x2816, .f32⟩
  | .hbm, ⟨52, _⟩ => ⟨S4352x2816, .f32⟩
  | .hbm, ⟨53, _⟩ => ⟨S4352x2816, .f32⟩
  | .hbm, ⟨54, _⟩ => ⟨S_, .f32⟩
  | .hbm, ⟨55, _⟩ => ⟨S4352x2816, .f32⟩
  | .hbm, ⟨56, _⟩ => ⟨S4352x2816, .f32⟩
  | .hbm, ⟨57, _⟩ => ⟨S_, .f32⟩
  | .hbm, ⟨58, _⟩ => ⟨S4352x2816, .f32⟩
  | .hbm, ⟨59, _⟩ => ⟨S4352x2816, .f32⟩
  | .hbm, ⟨60, _⟩ => ⟨S4352x2816, .f32⟩
  | .hbm, ⟨61, _⟩ => ⟨S4352x2816, .f32⟩
  | .hbm, ⟨62, _⟩ => ⟨S4352x1024, .f32⟩
  | .hbm, ⟨63, _⟩ => ⟨S_, .f32⟩
  | .hbm, ⟨64, _⟩ => ⟨S4352x1024, .f32⟩
  | .hbm, ⟨65, _⟩ => ⟨S4352x1024, .f32⟩
  | .hbm, ⟨66, _⟩ => ⟨S4352x1024, .f32⟩
  | .hbm, ⟨67, _⟩ => ⟨S4352x1024, .f32⟩
  | .hbm, ⟨68, _⟩ => ⟨S4352x5632, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst : Ref sig .tc := ⟨.hbm, 29, rfl⟩
abbrev main_v24 : Ref sig .tc := ⟨.hbm, 30, rfl⟩
abbrev main_v25 : Ref sig .tc := ⟨.hbm, 31, rfl⟩
abbrev main_cst_0 : Ref sig .tc := ⟨.hbm, 32, rfl⟩
abbrev main_v26 : Ref sig .tc := ⟨.hbm, 33, rfl⟩
abbrev main_v27 : Ref sig .tc := ⟨.hbm, 34, rfl⟩
abbrev main_cst_1 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_2 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_3 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== FfnBwd.lean ====
abbrev S4352x1024 : Shape := ⟨2, ![4352, 1024]⟩
abbrev S2x2x16x1024 : Shape := ⟨4, ![2, 2, 16, 1024]⟩
abbrev S2x1x1024 : Shape := ⟨3, ![2, 1, 1024]⟩
abbrev S1024x5632 : Shape := ⟨2, ![1024, 5632]⟩
abbrev S2816x1024 : Shape := ⟨2, ![2816, 1024]⟩
abbrev S1x2x3x1024 : Shape := ⟨4, ![1, 2, 3, 1024]⟩
abbrev S2x3x1024 : Shape := ⟨3, ![2, 3, 1024]⟩
abbrev S1x1x1024 : Shape := ⟨3, ![1, 1, 1024]⟩
abbrev S1x1024 : Shape := ⟨2, ![1, 1024]⟩
abbrev S2x4x1024 : Shape := ⟨3, ![2, 4, 1024]⟩
abbrev S1024 : Shape := ⟨1, ![1024]⟩
abbrev S4096x1024 : Shape := ⟨2, ![4096, 1024]⟩
abbrev S256x1024 : Shape := ⟨2, ![256, 1024]⟩
abbrev S_ : Shape := ⟨0, ![]⟩
abbrev S4352 : Shape := ⟨1, ![4352]⟩
abbrev S4352x1 : Shape := ⟨2, ![4352, 1]⟩
abbrev S4352x5632 : Shape := ⟨2, ![4352, 5632]⟩
abbrev S4352x2816 : Shape := ⟨2, ![4352, 2816]⟩
abbrev S1024x4x1408 : Shape := ⟨3, ![1024, 4, 1408]⟩
abbrev S4x1024x1408 : Shape := ⟨3, ![4, 1024, 1408]⟩
abbrev S2x8x1024 : Shape := ⟨3, ![2, 8, 1024]⟩
abbrev S256x5632 : Shape := ⟨2, ![256, 5632]⟩
abbrev S1x1x16x1024 : Shape := ⟨4, ![1, 1, 16, 1024]⟩
abbrev S256x2816 : Shape := ⟨2, ![256, 2816]⟩
abbrev S1x8x1024 : Shape := ⟨3, ![1, 8, 1024]⟩
abbrev S8x1024 : Shape := ⟨2, ![8, 1024]⟩
abbrev S1x1x1x1024 : Shape := ⟨4, ![1, 1, 1, 1024]⟩
abbrev S256 : Shape := ⟨1, ![256]⟩
abbrev S256x1 : Shape := ⟨2, ![256, 1]⟩
abbrev S256x1408 : Shape := ⟨2, ![256, 1408]⟩
abbrev S1408x1024 : Shape := ⟨2, ![1408, 1024]⟩
abbrev S1x1024x1408 : Shape := ⟨3, ![1, 1024, 1408]⟩
abbrev S1024x1408 : Shape := ⟨2, ![1024, 1408]⟩

abbrev nBuf : Space → Nat
  | .hbm => 77
  | .vmem => 25
  | .smem => 0
  | _ => 0

abbrev bufTy : (tb : Table) → Fin (tcTables nBuf tb) → BufTy
  | .hbm, ⟨0, _⟩ => ⟨S4352x1024, .f32⟩
  | .hbm, ⟨1, _⟩ => ⟨S2x2x16x1024, .f32⟩
  | .hbm, ⟨2, _⟩ => ⟨S2x1x1024, .f32⟩
  | .hbm, ⟨3, _⟩ => ⟨S1024x5632, .f32⟩
  | .hbm, ⟨4, _⟩ => ⟨S2816x1024, .f32⟩
  | .hbm, ⟨5, _⟩ => ⟨S4352x1024, .f32⟩
  | .hbm, ⟨6, _⟩ => ⟨S1x2x3x1024, .f32⟩
  | .hbm, ⟨7, _⟩ => ⟨S2x3x1024, .f32⟩
  | .hbm, ⟨8, _⟩ => ⟨S1x1x1024, .f32⟩
  | .hbm, ⟨9, _⟩ => ⟨S1x1024, .f32⟩
  | .hbm, ⟨10, _⟩ => ⟨S2x1x1024, .f32⟩
  | .hbm, ⟨11, _⟩ => ⟨S2x4x1024, .f32⟩
  | .hbm, ⟨12, _⟩ => ⟨S1x1x1024, .f32⟩
  | .hbm, ⟨13, _⟩ => ⟨S1024, .f32⟩
  | .hbm, ⟨14, _⟩ => ⟨S4096x1024, .f32⟩
  | .hbm, ⟨15, _⟩ => ⟨S1x1x1024, .f32⟩
  | .hbm, ⟨16, _⟩ => ⟨S1024, .f32⟩
  | .hbm, ⟨17, _⟩ => ⟨S256x1024, .f32⟩
  | .hbm, ⟨18, _⟩ => ⟨S4352x1024, .f32⟩
  | .hbm, ⟨19, _⟩ => ⟨S1x1x1024, .f32⟩
  | .hbm, ⟨20, _⟩ => ⟨S1024, .f32⟩
  | .hbm, ⟨21, _⟩ => ⟨S4096x1024, .f32⟩
  | .hbm, ⟨22, _⟩ => ⟨S1x1x1024, .f32⟩
  | .hbm, ⟨23, _⟩ => ⟨S1024, .f32⟩
  | .hbm, ⟨24, _⟩ => ⟨S256x1024, .f32⟩
  | .hbm, ⟨25, _⟩ => ⟨S4352x1024, .f32⟩
  | .hbm, ⟨26, _⟩ => ⟨S1x1x1024, .f32⟩
  | .hbm, ⟨27, _⟩ => ⟨S1024, .f32⟩
  | .hbm, ⟨28, _⟩ => ⟨S4096x1024, .f32⟩
  | .hbm, ⟨29, _⟩ => ⟨S1x1x1024, .f32⟩
  | .hbm, ⟨30, _⟩ => ⟨S1024, .f32⟩
  | .hbm, ⟨31, _⟩ => ⟨S256x1024, .f32⟩
  | .hbm, ⟨32, _⟩ => ⟨S4352x1024, .f32⟩
  | .hbm, ⟨33, _⟩ => ⟨S4352x1024, .f32⟩
  | .hbm, ⟨34, _⟩ => ⟨S_, .f32⟩
  | .hbm, ⟨35, _⟩ => ⟨S4352, .f32⟩
  | .hbm, ⟨36, _⟩ => ⟨S4352x1, .f32⟩
  | .hbm, ⟨37, _⟩ => ⟨S_, .f32⟩
  | .hbm, ⟨38, _⟩ => ⟨S4352x1, .f32⟩
  | .hbm, ⟨39, _⟩ => ⟨S4352x1, .f32⟩
  | .hbm, ⟨40, _⟩ => ⟨S_, .f32⟩
  | .hbm, ⟨41, _⟩ => ⟨S4352x1, .f32⟩
  | .hbm, ⟨42, _⟩ => ⟨S4352x1, .f32⟩
  | .hbm, ⟨43, _⟩ => ⟨S4352x1, .f32⟩
  | .hbm, ⟨44, _⟩ => ⟨S4352x1024, .f32⟩
  | .hbm, ⟨45, _⟩ => ⟨S4352x1024, .f32⟩
  | .hbm, ⟨46, _⟩ => ⟨S4352x1024, .f32⟩
  | .hbm, ⟨47, _⟩ => ⟨S_, .f32⟩
  | .hbm, ⟨48, _⟩ => ⟨S4352x1024, .f32⟩
  | .hbm, ⟨49, _⟩ => ⟨S4352x1024, .f32⟩
  | .hbm, ⟨50, _⟩ => ⟨S4352x1024, .f32⟩
  | .hbm, ⟨51, _⟩ => ⟨S4352x1024, .f32⟩
  | .hbm, ⟨52, _⟩ => ⟨S4352x5632, .f32⟩
  | .hbm, ⟨53, _⟩ => ⟨S4352x2816, .f32⟩
  | .hbm, ⟨54, _⟩ => ⟨S4352x2816, .f32⟩
  | .hbm, ⟨55, _⟩ => ⟨S4352x2816, .f32⟩
  | .hbm, ⟨56, _⟩ => ⟨S4352x2816, .f32⟩
  | .hbm, ⟨57, _⟩ => ⟨S_, .f32⟩
  | .hbm, ⟨58, _⟩ => ⟨S4352x2816, .f32⟩
  | .hbm, ⟨59, _⟩ => ⟨S4352x2816, .f32⟩
  | .hbm, ⟨60, _⟩ => ⟨S_, .f32⟩
  | .hbm, ⟨61, _⟩ => ⟨S4352x2816, .f32⟩
  | .hbm, ⟨62, _⟩ => ⟨S4352x2816, .f32⟩
  | .hbm, ⟨63, _⟩ => ⟨S4352x2816, .f32⟩
  | .hbm, ⟨64, _⟩ => ⟨S4352x2816, .f32⟩
  | .hbm, ⟨65, _⟩ => ⟨S4352x1024, .f32⟩
  | .hbm, ⟨66, _⟩ => ⟨S1024x4x1408, .f32⟩
  | .hbm, ⟨67, _⟩ => ⟨S4x1024x1408, .f32⟩
  | .hbm, ⟨68, _⟩ => ⟨S4x1024x1408, .bf16⟩
  | .hbm, ⟨69, _⟩ => ⟨S4352x5632, .bf16⟩
  | .hbm, ⟨70, _⟩ => ⟨S2816x1024, .bf16⟩
  | .hbm, ⟨71, _⟩ => ⟨S4352x1024, .f32⟩
  | .hbm, ⟨72, _⟩ => ⟨S4352x5632, .bf16⟩
  | .hbm, ⟨73, _⟩ => ⟨S4352x1024, .bf16⟩
  | .hbm, ⟨74, _⟩ => ⟨S4352x1024, .bf16⟩
  | .hbm, ⟨75, _⟩ => ⟨S4352x2816, .bf16⟩
  | .hbm, ⟨76, _⟩ => ⟨S2x8x1024, .f32⟩
  | .local _ .vmem, ⟨0, _⟩ => ⟨S256x1024, .f32⟩
  | .local _ .vmem, ⟨1, _⟩ => ⟨S256x1024, .f32⟩
  | .local _ .vmem, ⟨2, _⟩ => ⟨S256x5632, .bf16⟩
  | .local _ .vmem, ⟨3, _⟩ => ⟨S256x5632, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1x16x1024, .f32⟩
  | .local _ .vmem, ⟨9, _⟩ => ⟨S1x1x16x1024, .f32⟩
  | .local _ .vmem, ⟨10, _⟩ => ⟨S1x1x1024, .f32⟩
  | .local _ .vmem, ⟨11, _⟩ => ⟨S4x1024x1408, .bf16⟩
  | .local _ .vmem, ⟨12, _⟩ => ⟨S2816x1024, .bf16⟩
  | .local _ .vmem, ⟨13, _⟩ => ⟨S256x1024, .f32⟩
  | .local _ .vmem, ⟨14, _⟩ => ⟨S256x1024, .f32⟩
  | .local _ .vmem, ⟨15, _⟩ => ⟨S256x5632, .bf16⟩
  | .local _ .vmem, ⟨16, _⟩ => ⟨S256x5632, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x2816, .bf16⟩
  | .local _ .vmem, ⟨22, _⟩ => ⟨S256x2816, .bf16⟩
  | .local _ .vmem, ⟨23, _⟩ => ⟨S1x8x1024, .f32⟩
  | .local _ .vmem, ⟨24, _⟩ => ⟨S1x8x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst : Ref sig .tc := ⟨.hbm, 34, rfl⟩
abbrev main_v28 : Ref sig .tc := ⟨.hbm, 35, rfl⟩
abbrev main_v29 : Ref sig .tc := ⟨.hbm, 36, rfl⟩
abbrev main_cst_0 : Ref sig .tc := ⟨.hbm, 37, rfl⟩
abbrev main_v30 : Ref sig .tc := ⟨.hbm, 38, rfl⟩
abbrev main_v31 : Ref sig .tc := ⟨.hbm, 39, rfl⟩
abbrev main_cst_1 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_2 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53_0 : Ref sig .tc := ⟨.hbm, 71, rfl⟩
abbrev main_v53_1 : Ref sig .tc := ⟨.hbm, 72, rfl⟩
abbrev main_v53_2 : Ref sig .tc := ⟨.hbm, 73, rfl⟩
abbrev main_v53_3 : Ref sig .tc := ⟨.hbm, 74, rfl⟩
abbrev main_v53_4 : Ref sig .tc := ⟨.hbm, 75, rfl⟩
abbrev main_v53_5 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c16_i32 : BitVec 32 := 16#32
  let v0 : BitVec 1 := Scalar.cmpi .sge arg0 c16_i32
  let v1 : BitVec 32 := Scalar.extui v0
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c16_i32 : BitVec 32 := 16#32
  let v0 : BitVec 1 := Scalar.cmpi .sge arg0 c16_i32
  let v1 : BitVec 32 := Scalar.extui v0
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x1408 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== FfnBwdRefIdeal.lean ====
abbrev S4352x1024 : Shape := ⟨2, ![4352, 1024]⟩
abbrev S2x2x16x1024 : Shape := ⟨4, ![2, 2, 16, 1024]⟩
abbrev S2x1x1024 : Shape := ⟨3, ![2, 1, 1024]⟩
abbrev S1024x5632 : Shape := ⟨2, ![1024, 5632]⟩
abbrev S2816x1024 : Shape := ⟨2, ![2816, 1024]⟩
abbrev S1x2x3x1024 : Shape := ⟨4, ![1, 2, 3, 1024]⟩
abbrev S2x3x1024 : Shape := ⟨3, ![2, 3, 1024]⟩
abbrev S1x1x1024 : Shape := ⟨3, ![1, 1, 1024]⟩
abbrev S1x1024 : Shape := ⟨2, ![1, 1024]⟩
abbrev S2x4x1024 : Shape := ⟨3, ![2, 4, 1024]⟩
abbrev S1024 : Shape := ⟨1, ![1024]⟩
abbrev S4096x1024 : Shape := ⟨2, ![4096, 1024]⟩
abbrev S256x1024 : Shape := ⟨2, ![256, 1024]⟩
abbrev S_ : Shape := ⟨0, ![]⟩
abbrev S4352 : Shape := ⟨1, ![4352]⟩
abbrev S4352x1 : Shape := ⟨2, ![4352, 1]⟩
abbrev S4352x5632 : Shape := ⟨2, ![4352, 5632]⟩
abbrev S4352x2816 : Shape := ⟨2, ![4352, 2816]⟩
abbrev S2x8x1024 : Shape := ⟨3, ![2, 8, 1024]⟩

abbrev nBuf : Space → Nat
  | .hbm => 185
  | .vmem => 0
  | .smem => 0
  | _ => 0

abbrev hbmTy0_0 (i : Nat) : BufTy := match i % 128 with
  | 0 => ⟨S4352x1024, .f32⟩
  | 1 => ⟨S2x2x16x1024, .f32⟩
  | 2 => ⟨S2x1x1024, .f32⟩
  | 3 => ⟨S1024x5632, .f32⟩
  | 4 => ⟨S2816x1024, .f32⟩
  | 5 => ⟨S4352x1024, .f32⟩
  | 6 => ⟨S1x2x3x1024, .f32⟩
  | 7 => ⟨S2x3x1024, .f32⟩
  | 8 => ⟨S1x1x1024, .f32⟩
  | 9 => ⟨S1x1024, .f32⟩
  | 10 => ⟨S2x1x1024, .f32⟩
  | 11 => ⟨S2x4x1024, .f32⟩
  | 12 => ⟨S1x1x1024, .f32⟩
  | 13 => ⟨S1024, .f32⟩
  | 14 => ⟨S4096x1024, .f32⟩
  | 15 => ⟨S1x1x1024, .f32⟩
  | 16 => ⟨S1024, .f32⟩
  | 17 => ⟨S256x1024, .f32⟩
  | 18 => ⟨S4352x1024, .f32⟩
  | 19 => ⟨S1x1x1024, .f32⟩
  | 20 => ⟨S1024, .f32⟩
  | 21 => ⟨S4096x1024, .f32⟩
  | 22 => ⟨S1x1x1024, .f32⟩
  | 23 => ⟨S1024, .f32⟩
  | 24 => ⟨S256x1024, .f32⟩
  | 25 => ⟨S4352x1024, .f32⟩
  | 26 => ⟨S1x1x1024, .f32⟩
  | 27 => ⟨S1024, .f32⟩
  | 28 => ⟨S4096x1024, .f32⟩
  | 29 => ⟨S1x1x1024, .f32⟩
  | 30 => ⟨S1024, .f32⟩
  | 31 => ⟨S256x1024, .f32⟩
  | 32 => ⟨S4352x1024, .f32⟩
  | 33 => ⟨S4352x1024, .f32⟩
  | 34 => ⟨S_, .f32⟩
  | 35 => ⟨S4352, .f32⟩
  | 36 => ⟨S4352x1, .f32⟩
  | 37 => ⟨S_, .f32⟩
  | 38 => ⟨S4352x1, .f32⟩
  | 39 => ⟨S4352x1, .f32⟩
  | 40 => ⟨S_, .f32⟩
  | 41 => ⟨S4352x1, .f32⟩
  | 42 => ⟨S4352x1, .f32⟩
  | 43 => ⟨S4352x1, .f32⟩
  | 44 => ⟨S4352x1, .f32⟩
  | 45 => ⟨S_, .f32⟩
  | 46 => ⟨S4352x1, .f32⟩
  | 47 => ⟨S4352x1, .f32⟩
  | 48 => ⟨S4352x1024, .f32⟩
  | 49 => ⟨S4352x1024, .f32⟩
  | 50 => ⟨S4352x1024, .f32⟩
  | 51 => ⟨S_, .f32⟩
  | 52 => ⟨S4352x1024, .f32⟩
  | 53 => ⟨S4352x1024, .f32⟩
  | 54 => ⟨S4352x1024, .f32⟩
  | 55 => ⟨S4352x1024, .f32⟩
  | 56 => ⟨S4352x5632, .f32⟩
  | 57 => ⟨S4352x2816, .f32⟩
  | 58 => ⟨S4352x2816, .f32⟩
  | 59 => ⟨S4352x2816, .f32⟩
  | 60 => ⟨S4352x2816, .f32⟩
  | 61 => ⟨S_, .f32⟩
  | 62 => ⟨S4352x2816, .f32⟩
  | 63 => ⟨S4352x2816, .f32⟩
  | 64 => ⟨S_, .f32⟩
  | 65 => ⟨S4352x2816, .f32⟩
  | 66 => ⟨S4352x2816, .f32⟩
  | 67 => ⟨S_, .f32⟩
  | 68 => ⟨S4352x2816, .f32⟩
  | 69 => ⟨S4352x2816, .f32⟩
  | 70 => ⟨S4352x2816, .f32⟩
  | 71 => ⟨S4352x2816, .f32⟩
  | 72 => ⟨S4352x2816, .f32⟩
  | 73 => ⟨S4352x1024, .f32⟩
  | 74 => ⟨S1x1x1024, .f32⟩
  | 75 => ⟨S1024, .f32⟩
  | 76 => ⟨S4096x1024, .f32⟩
  | 77 => ⟨S1x1x1024, .f32⟩
  | 78 => ⟨S1024, .f32⟩
  | 79 => ⟨S256x1024, .f32⟩
  | 80 => ⟨S4352x1024, .f32⟩
  | 81 => ⟨S_, .f32⟩
  | 82 => ⟨S4352x1024, .f32⟩
  | 83 => ⟨S4352x1024, .f32⟩
  | 84 => ⟨S4352x1024, .f32⟩
  | 85 => ⟨S4352x1024, .f32⟩
  | 86 => ⟨S4352x1024, .f32⟩
  | 87 => ⟨S4352x1024, .f32⟩
  | 88 => ⟨S4352x1024, .f32⟩
  | 89 => ⟨S_, .f32⟩
  | 90 => ⟨S4352x1024, .f32⟩
  | 91 => ⟨S4352x1024, .f32⟩
  | 92 => ⟨S4096x1024, .f32⟩
  | 93 => ⟨S256x1024, .f32⟩
  | 94 => ⟨S_, .f32⟩
  | 95 => ⟨S1024, .f32⟩
  | 96 => ⟨S1x1x1024, .f32⟩
  | 97 => ⟨S_, .f32⟩
  | 98 => ⟨S2x4x1024, .f32⟩
  | 99 => ⟨S_, .f32⟩
  | 100 => ⟨S1024, .f32⟩
  | 101 => ⟨S1x1x1024, .f32⟩
  | 102 => ⟨S_, .f32⟩
  | 103 => ⟨S2x4x1024, .f32⟩
  | 104 => ⟨S2x4x1024, .f32⟩
  | 105 => ⟨S4352x2816, .f32⟩
  | 106 => ⟨S4352x2816, .f32⟩
  | 107 => ⟨S4352x2816, .f32⟩
  | 108 => ⟨S4352x2816, .f32⟩
  | 109 => ⟨S4352x2816, .f32⟩
  | 110 => ⟨S4352x2816, .f32⟩
  | 111 => ⟨S4352x2816, .f32⟩
  | 112 => ⟨S4352x5632, .f32⟩
  | 113 => ⟨S4352x1024, .f32⟩
  | 114 => ⟨S4352x1024, .f32⟩
  | 115 => ⟨S4352x1024, .f32⟩
  | 116 => ⟨S4352x1024, .f32⟩
  | 117 => ⟨S4352x1024, .f32⟩
  | 118 => ⟨S4352x1024, .f32⟩
  | 119 => ⟨S_, .f32⟩
  | 120 => ⟨S4352, .f32⟩
  | 121 => ⟨S4352x1, .f32⟩
  | 122 => ⟨S4352x1024, .f32⟩
  | 123 => ⟨S4352x1024, .f32⟩
  | 124 => ⟨S4352x1, .f32⟩
  | 125 => ⟨S_, .f32⟩
  | 126 => ⟨S4352x1, .f32⟩
  | 127 => ⟨S4352x1, .f32⟩
  | _ => ⟨S4352x1024, .f32⟩

abbrev hbmTy0_1 (i : Nat) : BufTy := match i % 128 with
  | 0 => ⟨S_, .f32⟩
  | 1 => ⟨S4352, .f32⟩
  | 2 => ⟨S4352x1024, .f32⟩
  | 3 => ⟨S4352x1024, .f32⟩
  | 4 => ⟨S4352x1024, .f32⟩
  | 5 => ⟨S4352x1024, .f32⟩
  | 6 => ⟨S4352x1024, .f32⟩
  | 7 => ⟨S4096x1024, .f32⟩
  | 8 => ⟨S256x1024, .f32⟩
  | 9 => ⟨S_, .f32⟩
  | 10 => ⟨S1024, .f32⟩
  | 11 => ⟨S1x1x1024, .f32⟩
  | 12 => ⟨S_, .f32⟩
  | 13 => ⟨S2x4x1024, .f32⟩
  | 14 => ⟨S_, .f32⟩
  | 15 => ⟨S1024, .f32⟩
  | 16 => ⟨S1x1x1024, .f32⟩
  | 17 => ⟨S_, .f32⟩
  | 18 => ⟨S2x4x1024, .f32⟩
  | 19 => ⟨S2x4x1024, .f32⟩
  | 20 => ⟨S4096x1024, .f32⟩
  | 21 => ⟨S256x1024, .f32⟩
  | 22 => ⟨S_, .f32⟩
  | 23 => ⟨S1024, .f32⟩
  | 24 => ⟨S1x1x1024, .f32⟩
  | 25 => ⟨S_, .f32⟩
  | 26 => ⟨S2x4x1024, .f32⟩
  | 27 => ⟨S2x4x1024, .f32⟩
  | 28 => ⟨S_, .f32⟩
  | 29 => ⟨S1024, .f32⟩
  | 30 => ⟨S1x1x1024, .f32⟩
  | 31 => ⟨S_, .f32⟩
  | 32 => ⟨S2x4x1024, .f32⟩
  | 33 => ⟨S2x4x1024, .f32⟩
  | 34 => ⟨S4096x1024, .f32⟩
  | 35 => ⟨S256x1024, .f32⟩
  | 36 => ⟨S_, .f32⟩
  | 37 => ⟨S1024, .f32⟩
  | 38 => ⟨S1x1x1024, .f32⟩
  | 39 => ⟨S_, .f32⟩
  | 40 => ⟨S2x4x1024, .f32⟩
  | 41 => ⟨S2x4x1024, .f32⟩
  | 42 => ⟨S_, .f32⟩
  | 43 => ⟨S1024, .f32⟩
  | 44 => ⟨S1x1x1024, .f32⟩
  | 45 => ⟨S_, .f32⟩
  | 46 => ⟨S2x4x1024, .f32⟩
  | 47 => ⟨S2x4x1024, .f32⟩
  | 48 => ⟨S2x4x1024, .f32⟩
  | 49 => ⟨S_, .f32⟩
  | 50 => ⟨S2x4x1024, .f32⟩
  | 51 => ⟨S2x8x1024, .f32⟩
  | 52 => ⟨S4352x1024, .f32⟩
  | 53 => ⟨S4352x5632, .bf16⟩
  | 54 => ⟨S4352x1024, .bf16⟩
  | 55 => ⟨S4352x1024, .bf16⟩
  | 56 => ⟨S4352x2816, .bf16⟩
  | _ => ⟨S4352x1024, .f32⟩

abbrev hbmTy (i : Nat) : BufTy := match i / 128 with
  | 0 => hbmTy0_0 i
  | 1 => hbmTy0_1 i
  | _ => ⟨S4352x1024, .f32⟩

abbrev bufTy : (tb : Table) → Fin (tcTables nBuf tb) → BufTy
  | .hbm, ⟨i, _⟩ => hbmTy i
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst : Ref sig .tc := ⟨.hbm, 34, rfl⟩
abbrev main_v28 : Ref sig .tc := ⟨.hbm, 35, rfl⟩
abbrev main_v29 : Ref sig .tc := ⟨.hbm, 36, rfl⟩
abbrev main_cst_0 : Ref sig .tc := ⟨.hbm, 37, rfl⟩
abbrev main_v30 : Ref sig .tc := ⟨.hbm, 38, rfl⟩
abbrev main_v31 : Ref sig .tc := ⟨.hbm, 39, rfl⟩
abbrev main_cst_1 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_2 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_3 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_v48_2 : Ref sig .tc := ⟨.hbm, 66, rfl⟩
abbrev main_call0_cst_1 : Ref sig .tc := ⟨.hbm, 67, rfl⟩
abbrev main_call0_v6 : Ref sig .tc := ⟨.hbm, 68, rfl⟩
abbrev main_call0_v7 : Ref sig .tc := ⟨.hbm, 69, rfl⟩
abbrev main_v48_1 : Ref sig .tc := ⟨.hbm, 70, rfl⟩
abbrev main_v48_0 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_4 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_5 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_6 : Ref sig .tc := ⟨.hbm, 94, rfl⟩
abbrev main_v69 : Ref sig .tc := ⟨.hbm, 95, rfl⟩
abbrev main_v70 : Ref sig .tc := ⟨.hbm, 96, rfl⟩
abbrev main_cst_7 : Ref sig .tc := ⟨.hbm, 97, rfl⟩
abbrev main_v71 : Ref sig .tc := ⟨.hbm, 98, rfl⟩
abbrev main_cst_8 : Ref sig .tc := ⟨.hbm, 99, rfl⟩
abbrev main_v72 : Ref sig .tc := ⟨.hbm, 100, rfl⟩
abbrev main_v73 : Ref sig .tc := ⟨.hbm, 101, rfl⟩
abbrev main_cst_9 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_call1_v0 : Ref sig .tc := ⟨.hbm, 108, rfl⟩
abbrev main_call1_v1 : Ref sig .tc := ⟨.hbm, 109, rfl⟩
abbrev main_call1_v2 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_10 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_11 : Ref sig .tc := ⟨.hbm, 125, rfl⟩
abbrev main_v92 : Ref sig .tc := ⟨.hbm, 126, rfl⟩
abbrev main_v93 : Ref sig .tc := ⟨.hbm, 127, rfl⟩
abbrev main_cst_12 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_cst_13 : Ref sig .tc := ⟨.hbm, 137, rfl⟩
abbrev main_v102 : Ref sig .tc := ⟨.hbm, 138, rfl⟩
abbrev main_v103 : Ref sig .tc := ⟨.hbm, 139, rfl⟩
abbrev main_cst_14 : Ref sig .tc := ⟨.hbm, 140, rfl⟩
abbrev main_v104 : Ref sig .tc := ⟨.hbm, 141, rfl⟩
abbrev main_cst_15 : Ref sig .tc := ⟨.hbm, 142, rfl⟩
abbrev main_v105 : Ref sig .tc := ⟨.hbm, 143, rfl⟩
abbrev main_v106 : Ref sig .tc := ⟨.hbm, 144, rfl⟩
abbrev main_cst_16 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_cst_17 : Ref sig .tc := ⟨.hbm, 150, rfl⟩
abbrev main_v111 : Ref sig .tc := ⟨.hbm, 151, rfl⟩
abbrev main_v112 : Ref sig .tc := ⟨.hbm, 152, rfl⟩
abbrev main_cst_18 : Ref sig .tc := ⟨.hbm, 153, rfl⟩
abbrev main_v113 : Ref sig .tc := ⟨.hbm, 154, rfl⟩
abbrev main_v114 : Ref sig .tc := ⟨.hbm, 155, rfl⟩
abbrev main_cst_19 : Ref sig .tc := ⟨.hbm, 156, rfl⟩
abbrev main_v115 : Ref sig .tc := ⟨.hbm, 157, rfl⟩
abbrev main_v116 : Ref sig .tc := ⟨.hbm, 158, rfl⟩
abbrev main_cst_20 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_cst_21 : Ref sig .tc := ⟨.hbm, 164, rfl⟩
abbrev main_v121 : Ref sig .tc := ⟨.hbm, 165, rfl⟩
abbrev main_v122 : Ref sig .tc := ⟨.hbm, 166, rfl⟩
abbrev main_cst_22 : Ref sig .tc := ⟨.hbm, 167, rfl⟩
abbrev main_v123 : Ref sig .tc := ⟨.hbm, 168, rfl⟩
abbrev main_v124 : Ref sig .tc := ⟨.hbm, 169, rfl⟩
abbrev main_cst_23 : Ref sig .tc := ⟨.hbm, 170, rfl⟩
abbrev main_v125 : Ref sig .tc := ⟨.hbm, 171, rfl⟩
abbrev main_v126 : Ref sig .tc := ⟨.hbm, 172, rfl⟩
abbrev main_cst_24 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_cst_25 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩

abbrev nD : Nat := 1
abbrev τ : Topo := Topo.v7x

variable {F : FTy → Type} [FloatOps F]
-- ==== InWgrad.lean ====
abbrev S4352x1024 : Shape := ⟨2, ![4352, 1024]⟩
abbrev S4352x5632 : Shape := ⟨2, ![4352, 5632]⟩
abbrev S4x1024x1408 : Shape := ⟨3, ![4, 1024, 1408]⟩
abbrev S4352x512 : Shape := ⟨2, ![4352, 512]⟩
abbrev S4352x1408 : Shape := ⟨2, ![4352, 1408]⟩
abbrev S1x512x1408 : Shape := ⟨3, ![1, 512, 1408]⟩
abbrev S512x1408 : Shape := ⟨2, ![512, 1408]⟩

abbrev nBuf : Space → Nat
  | .hbm => 4
  | .vmem => 8
  | .smem => 0
  | _ => 0

abbrev bufTy : (tb : Table) → Fin (tcTables nBuf tb) → BufTy
  | .hbm, ⟨0, _⟩ => ⟨S4352x1024, .bf16⟩
  | .hbm, ⟨1, _⟩ => ⟨S4352x5632, .bf16⟩
  | .hbm, ⟨2, _⟩ => ⟨S4x1024x1408, .f32⟩
  | .hbm, ⟨3, _⟩ => ⟨S4x1024x1408, .bf16⟩
  | .local _ .vmem, ⟨0, _⟩ => ⟨S4352x512, .bf16⟩
  | .local _ .vmem, ⟨1, _⟩ => ⟨S4352x512, .bf16⟩
  | .local _ .vmem, ⟨2, _⟩ => ⟨S4352x1408, .bf16⟩
  | .local _ .vmem, ⟨3, _⟩ => ⟨S4352x1408, .bf16⟩
  | .local _ .vmem, ⟨4, _⟩ => ⟨S1x512x1408, .f32⟩
  | .local _ .vmem, ⟨5, _⟩ => ⟨S1x512x1408, .f32⟩
  | .local _ .vmem, ⟨6, _⟩ => ⟨S1x512x1408, .bf16⟩
  | .local _ .vmem, ⟨7, _⟩ => ⟨S1x512x1408, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c1_i32_0 : BitVec 32 := 1#32
  let v1 : BitVec 32 := Scalar.remsi arg0 c1_i32_0
  let c0_i32 : BitVec 32 := 0#32
  ![v0.toNat, arg1.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c1_i32_0 : BitVec 32 := 1#32
  let v1 : BitVec 32 := Scalar.remsi arg0 c1_i32_0
  let c0_i32 : BitVec 32 := 0#32
  ![v0.toNat, arg1.toNat, v1.toNat]

abbrev stage0_0 : Fin 2 → Memref sig .tc .vmem S4352x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4352x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InWgradRefIdeal.lean ====
abbrev S4352x1024 : Shape := ⟨2, ![4352, 1024]⟩
abbrev S4352x5632 : Shape := ⟨2, ![4352, 5632]⟩
abbrev S5632x1024 : Shape := ⟨2, ![5632, 1024]⟩
abbrev S1024x5632 : Shape := ⟨2, ![1024, 5632]⟩
abbrev S1024x4x1408 : Shape := ⟨3, ![1024, 4, 1408]⟩
abbrev S4x1024x1408 : Shape := ⟨3, ![4, 1024, 1408]⟩

abbrev nBuf : Space → Nat
  | .hbm => 9
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x5632, .bf16⟩
  | .hbm, ⟨2, _⟩ => ⟨S4352x1024, .f32⟩
  | .hbm, ⟨3, _⟩ => ⟨S4352x5632, .f32⟩
  | .hbm, ⟨4, _⟩ => ⟨S5632x1024, .f32⟩
  | .hbm, ⟨5, _⟩ => ⟨S1024x5632, .f32⟩
  | .hbm, ⟨6, _⟩ => ⟨S1024x4x1408, .f32⟩
  | .hbm, ⟨7, _⟩ => ⟨S4x1024x1408, .f32⟩
  | .hbm, ⟨8, _⟩ => ⟨S4x1024x1408, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== OutWgrad.lean ====
abbrev S4352x2816 : Shape := ⟨2, ![4352, 2816]⟩
abbrev S4352x1024 : Shape := ⟨2, ![4352, 1024]⟩
abbrev S2816x1024 : Shape := ⟨2, ![2816, 1024]⟩
abbrev S4352x1408 : Shape := ⟨2, ![4352, 1408]⟩
abbrev S4352x512 : Shape := ⟨2, ![4352, 512]⟩
abbrev S1408x512 : Shape := ⟨2, ![1408, 512]⟩

abbrev nBuf : Space → Nat
  | .hbm => 4
  | .vmem => 8
  | .smem => 0
  | _ => 0

abbrev bufTy : (tb : Table) → Fin (tcTables nBuf tb) → BufTy
  | .hbm, ⟨0, _⟩ => ⟨S4352x2816, .bf16⟩
  | .hbm, ⟨1, _⟩ => ⟨S4352x1024, .bf16⟩
  | .hbm, ⟨2, _⟩ => ⟨S2816x1024, .f32⟩
  | .hbm, ⟨3, _⟩ => ⟨S2816x1024, .bf16⟩
  | .local _ .vmem, ⟨0, _⟩ => ⟨S4352x1408, .bf16⟩
  | .local _ .vmem, ⟨1, _⟩ => ⟨S4352x1408, .bf16⟩
  | .local _ .vmem, ⟨2, _⟩ => ⟨S4352x512, .bf16⟩
  | .local _ .vmem, ⟨3, _⟩ => ⟨S4352x512, .bf16⟩
  | .local _ .vmem, ⟨4, _⟩ => ⟨S1408x512, .f32⟩
  | .local _ .vmem, ⟨5, _⟩ => ⟨S1408x512, .f32⟩
  | .local _ .vmem, ⟨6, _⟩ => ⟨S1408x512, .bf16⟩
  | .local _ .vmem, ⟨7, _⟩ => ⟨S1408x512, .bf16⟩
  | _, _ => ⟨S4352x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutWgradRefIdeal.lean ====
abbrev S4352x2816 : Shape := ⟨2, ![4352, 2816]⟩
abbrev S4352x1024 : Shape := ⟨2, ![4352, 1024]⟩
abbrev S1024x2816 : Shape := ⟨2, ![1024, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4352x2816, .bf16⟩
  | .hbm, ⟨1, _⟩ => ⟨S4352x1024, .bf16⟩
  | .hbm, ⟨2, _⟩ => ⟨S4352x2816, .f32⟩
  | .hbm, ⟨3, _⟩ => ⟨S4352x1024, .f32⟩
  | .hbm, ⟨4, _⟩ => ⟨S1024x2816, .f32⟩
  | .hbm, ⟨5, _⟩ => ⟨S2816x1024, .f32⟩
  | .hbm, ⟨6, _⟩ => ⟨S2816x1024, .bf16⟩
  | _, _ => ⟨S4352x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProjWgrad.lean ====
abbrev S4352x1024 : Shape := ⟨2, ![4352, 1024]⟩
abbrev S4352x1280 : Shape := ⟨2, ![4352, 1280]⟩
abbrev S1024x1280 : Shape := ⟨2, ![1024, 1280]⟩
abbrev S4352x640 : Shape := ⟨2, ![4352, 640]⟩
abbrev S1024x640 : Shape := ⟨2, ![1024, 640]⟩

abbrev nBuf : Space → Nat
  | .hbm => 4
  | .vmem => 7
  | .smem => 0
  | _ => 0

abbrev bufTy : (tb : Table) → Fin (tcTables nBuf tb) → BufTy
  | .hbm, ⟨0, _⟩ => ⟨S4352x1024, .bf16⟩
  | .hbm, ⟨1, _⟩ => ⟨S4352x1280, .bf16⟩
  | .hbm, ⟨2, _⟩ => ⟨S1024x1280, .f32⟩
  | .hbm, ⟨3, _⟩ => ⟨S1024x1280, .bf16⟩
  | .local _ .vmem, ⟨0, _⟩ => ⟨S4352x1024, .bf16⟩
  | .local _ .vmem, ⟨1, _⟩ => ⟨S4352x640, .bf16⟩
  | .local _ .vmem, ⟨2, _⟩ => ⟨S4352x640, .bf16⟩
  | .local _ .vmem, ⟨3, _⟩ => ⟨S1024x640, .f32⟩
  | .local _ .vmem, ⟨4, _⟩ => ⟨S1024x640, .f32⟩
  | .local _ .vmem, ⟨5, _⟩ => ⟨S1024x640, .bf16⟩
  | .local _ .vmem, ⟨6, _⟩ => ⟨S1024x640, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 2, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4352x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjWgradRefIdeal.lean ====
abbrev S4352x1024 : Shape := ⟨2, ![4352, 1024]⟩
abbrev S4352x1280 : Shape := ⟨2, ![4352, 1280]⟩
abbrev S1280x1024 : Shape := ⟨2, ![1280, 1024]⟩
abbrev S1024x1280 : Shape := ⟨2, ![1024, 1280]⟩

abbrev nBuf : Space → Nat
  | .hbm => 7
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x1280, .bf16⟩
  | .hbm, ⟨2, _⟩ => ⟨S4352x1024, .f32⟩
  | .hbm, ⟨3, _⟩ => ⟨S4352x1280, .f32⟩
  | .hbm, ⟨4, _⟩ => ⟨S1280x1024, .f32⟩
  | .hbm, ⟨5, _⟩ => ⟨S1024x1280, .f32⟩
  | .hbm, ⟨6, _⟩ => ⟨S1024x1280, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MixOutWgrad.lean ====
abbrev S4352x1024 : Shape := ⟨2, ![4352, 1024]⟩
abbrev S1024x1024 : Shape := ⟨2, ![1024, 1024]⟩

abbrev nBuf : Space → Nat
  | .hbm => 4
  | .vmem => 4
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S1024x1024, .f32⟩
  | .hbm, ⟨3, _⟩ => ⟨S1024x1024, .bf16⟩
  | .local _ .vmem, ⟨0, _⟩ => ⟨S4352x1024, .bf16⟩
  | .local _ .vmem, ⟨1, _⟩ => ⟨S4352x1024, .bf16⟩
  | .local _ .vmem, ⟨2, _⟩ => ⟨S1024x1024, .f32⟩
  | .local _ .vmem, ⟨3, _⟩ => ⟨S1024x1024, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨3, ![1, 1, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== MixOutWgradRefIdeal.lean ====
abbrev S4352x1024 : Shape := ⟨2, ![4352, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S4352x1024, .f32⟩
  | .hbm, ⟨3, _⟩ => ⟨S4352x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== FfnB.lean ====
abbrev S4352x1024 : Shape := ⟨2, ![4352, 1024]⟩
abbrev S2x2x16x1024 : Shape := ⟨4, ![2, 2, 16, 1024]⟩
abbrev S2x1x1024 : Shape := ⟨3, ![2, 1, 1024]⟩
abbrev S1024x5632 : Shape := ⟨2, ![1024, 5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S4352x5632 : Shape := ⟨2, ![4352, 5632]⟩
abbrev S256x1024 : Shape := ⟨2, ![256, 1024]⟩
abbrev S1x1x16x1024 : Shape := ⟨4, ![1, 1, 16, 1024]⟩
abbrev S1x1x1024 : Shape := ⟨3, ![1, 1, 1024]⟩
abbrev S256x5632 : Shape := ⟨2, ![256, 5632]⟩
abbrev S1x1024 : Shape := ⟨2, ![1, 1024]⟩
abbrev S1x1x1x1024 : Shape := ⟨4, ![1, 1, 1, 1024]⟩
abbrev S256 : Shape := ⟨1, ![256]⟩
abbrev S256x1 : Shape := ⟨2, ![256, 1]⟩
abbrev S1x1024x1408 : Shape := ⟨3, ![1, 1024, 1408]⟩
abbrev S1024x1408 : Shape := ⟨2, ![1024, 1408]⟩
abbrev S256x1408 : Shape := ⟨2, ![256, 1408]⟩
abbrev S1408x1024 : Shape := ⟨2, ![1408, 1024]⟩

abbrev nBuf : Space → Nat
  | .hbm => 12
  | .vmem => 13
  | .smem => 0
  | _ => 0

abbrev bufTy : (tb : Table) → Fin (tcTables nBuf tb) → BufTy
  | .hbm, ⟨0, _⟩ => ⟨S4352x1024, .f32⟩
  | .hbm, ⟨1, _⟩ => ⟨S2x2x16x1024, .f32⟩
  | .hbm, ⟨2, _⟩ => ⟨S2x1x1024, .f32⟩
  | .hbm, ⟨3, _⟩ => ⟨S1024x5632, .f32⟩
  | .hbm, ⟨4, _⟩ => ⟨S2816x1024, .f32⟩
  | .hbm, ⟨5, _⟩ => ⟨S1024x4x1408, .f32⟩
  | .hbm, ⟨6, _⟩ => ⟨S4x1024x1408, .f32⟩
  | .hbm, ⟨7, _⟩ => ⟨S4x1024x1408, .bf16⟩
  | .hbm, ⟨8, _⟩ => ⟨S2816x1024, .bf16⟩
  | .hbm, ⟨9, _⟩ => ⟨S4352x1024, .f32⟩
  | .hbm, ⟨10, _⟩ => ⟨S4352x5632, .bf16⟩
  | .hbm, ⟨11, _⟩ => ⟨S4352x1024, .f32⟩
  | .local _ .vmem, ⟨0, _⟩ => ⟨S256x1024, .f32⟩
  | .local _ .vmem, ⟨1, _⟩ => ⟨S256x1024, .f32⟩
  | .local _ .vmem, ⟨2, _⟩ => ⟨S1x1x16x1024, .f32⟩
  | .local _ .vmem, ⟨3, _⟩ => ⟨S1x1x16x1024, .f32⟩
  | .local _ .vmem, ⟨4, _⟩ => ⟨S1x1x1024, .f32⟩
  | .local _ .vmem, ⟨5, _⟩ => ⟨S4x1024x1408, .bf16⟩
  | .local _ .vmem, ⟨6, _⟩ => ⟨S2816x1024, .bf16⟩
  | .local _ .vmem, ⟨7, _⟩ => ⟨S256x1024, .f32⟩
  | .local _ .vmem, ⟨8, _⟩ => ⟨S256x1024, .f32⟩
  | .local _ .vmem, ⟨9, _⟩ => ⟨S256x5632, .bf16⟩
  | .local _ .vmem, ⟨10, _⟩ => ⟨S256x5632, .bf16⟩
  | .local _ .vmem, ⟨11, _⟩ => ⟨S256x1024, .f32⟩
  | .local _ .vmem, ⟨12, _⟩ => ⟨S256x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c16_i32 : BitVec 32 := 16#32
  let v0 : BitVec 1 := Scalar.cmpi .sge arg0 c16_i32
  let v1 : BitVec 32 := Scalar.extui v0
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnBRefIdeal.lean ====
abbrev S4352x1024 : Shape := ⟨2, ![4352, 1024]⟩
abbrev S2x2x16x1024 : Shape := ⟨4, ![2, 2, 16, 1024]⟩
abbrev S2x1x1024 : Shape := ⟨3, ![2, 1, 1024]⟩
abbrev S1024x5632 : Shape := ⟨2, ![1024, 5632]⟩
abbrev S2816x1024 : Shape := ⟨2, ![2816, 1024]⟩
abbrev S1x1x1x1024 : Shape := ⟨4, ![1, 1, 1, 1024]⟩
abbrev S1024 : Shape := ⟨1, ![1024]⟩
abbrev S4096x1024 : Shape := ⟨2, ![4096, 1024]⟩
abbrev S256x1024 : Shape := ⟨2, ![256, 1024]⟩
abbrev S1x1x1024 : Shape := ⟨3, ![1, 1, 1024]⟩
abbrev S_ : Shape := ⟨0, ![]⟩
abbrev S4352 : Shape := ⟨1, ![4352]⟩
abbrev S4352x1 : Shape := ⟨2, ![4352, 1]⟩
abbrev S1x1024 : Shape := ⟨2, ![1, 1024]⟩
abbrev S4352x5632 : Shape := ⟨2, ![4352, 5632]⟩
abbrev S4352x2816 : Shape := ⟨2, ![4352, 2816]⟩

abbrev nBuf : Space → Nat
  | .hbm => 69
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S2x2x16x1024, .f32⟩
  | .hbm, ⟨2, _⟩ => ⟨S2x1x1024, .f32⟩
  | .hbm, ⟨3, _⟩ => ⟨S1024x5632, .f32⟩
  | .hbm, ⟨4, _⟩ => ⟨S2816x1024, .f32⟩
  | .hbm, ⟨5, _⟩ => ⟨S1x1x1x1024, .f32⟩
  | .hbm, ⟨6, _⟩ => ⟨S1024, .f32⟩
  | .hbm, ⟨7, _⟩ => ⟨S4096x1024, .f32⟩
  | .hbm, ⟨8, _⟩ => ⟨S1x1x1x1024, .f32⟩
  | .hbm, ⟨9, _⟩ => ⟨S1024, .f32⟩
  | .hbm, ⟨10, _⟩ => ⟨S256x1024, .f32⟩
  | .hbm, ⟨11, _⟩ => ⟨S4352x1024, .f32⟩
  | .hbm, ⟨12, _⟩ => ⟨S1x1x1x1024, .f32⟩
  | .hbm, ⟨13, _⟩ => ⟨S1024, .f32⟩
  | .hbm, ⟨14, _⟩ => ⟨S4096x1024, .f32⟩
  | .hbm, ⟨15, _⟩ => ⟨S1x1x1x1024, .f32⟩
  | .hbm, ⟨16, _⟩ => ⟨S1024, .f32⟩
  | .hbm, ⟨17, _⟩ => ⟨S256x1024, .f32⟩
  | .hbm, ⟨18, _⟩ => ⟨S4352x1024, .f32⟩
  | .hbm, ⟨19, _⟩ => ⟨S1x1x1x1024, .f32⟩
  | .hbm, ⟨20, _⟩ => ⟨S1024, .f32⟩
  | .hbm, ⟨21, _⟩ => ⟨S4096x1024, .f32⟩
  | .hbm, ⟨22, _⟩ => ⟨S1x1x1x1024, .f32⟩
  | .hbm, ⟨23, _⟩ => ⟨S1024, .f32⟩
  | .hbm, ⟨24, _⟩ => ⟨S256x1024, .f32⟩
  | .hbm, ⟨25, _⟩ => ⟨S4352x1024, .f32⟩
  | .hbm, ⟨26, _⟩ => ⟨S1x1x1024, .f32⟩
  | .hbm, ⟨27, _⟩ => ⟨S1024, .f32⟩
  | .hbm, ⟨28, _⟩ => ⟨S4352x1024, .f32⟩
  | .hbm, ⟨29, _⟩ => ⟨S_, .f32⟩
  | .hbm, ⟨30, _⟩ => ⟨S4352, .f32⟩
  | .hbm, ⟨31, _⟩ => ⟨S4352x1, .f32⟩
  | .hbm, ⟨32, _⟩ => ⟨S_, .f32⟩
  | .hbm, ⟨33, _⟩ => ⟨S4352x1, .f32⟩
  | .hbm, ⟨34, _⟩ => ⟨S4352x1, .f32⟩
  | .hbm, ⟨35, _⟩ => ⟨S_, .f32⟩
  | .hbm, ⟨36, _⟩ => ⟨S4352x1, .f32⟩
  | .hbm, ⟨37, _⟩ => ⟨S4352x1, .f32⟩
  | .hbm, ⟨38, _⟩ => ⟨S4352x1, .f32⟩
  | .hbm, ⟨39, _⟩ => ⟨S4352x1024, .f32⟩
  | .hbm, ⟨40, _⟩ => ⟨S4352x1024, .f32⟩
  | .hbm, ⟨41, _⟩ => ⟨S1x1024, .f32⟩
  | .hbm, ⟨42, _⟩ => ⟨S4352x1024, .f32⟩
  | .hbm, ⟨43, _⟩ => ⟨S4352x1024, .f32⟩
  | .hbm, ⟨44, _⟩ => ⟨S_, .f32⟩
  | .hbm, ⟨45, _⟩ => ⟨S4352x1024, .f32⟩
  | .hbm, ⟨46, _⟩ => ⟨S4352x1024, .f32⟩
  | .hbm, ⟨47, _⟩ => ⟨S4352x1024, .f32⟩
  | .hbm, ⟨48, _⟩ => ⟨S4352x1024, .f32⟩
  | .hbm, ⟨49, _⟩ => ⟨S4352x5632, .f32⟩
  | .hbm, ⟨50, _⟩ => ⟨S4352x2816, .f32⟩
  | .hbm, ⟨51, _⟩ => ⟨S4352x2816, .f32⟩
  | .hbm, ⟨52, _⟩ => ⟨S4352x2816, .f32⟩
  | .hbm, ⟨53, _⟩ => ⟨S4352x2816, .f32⟩
  | .hbm, ⟨54, _⟩ => ⟨S_, .f32⟩
  | .hbm, ⟨55, _⟩ => ⟨S4352x2816, .f32⟩
  | .hbm, ⟨56, _⟩ => ⟨S4352x2816, .f32⟩
  | .hbm, ⟨57, _⟩ => ⟨S_, .f32⟩
  | .hbm, ⟨58, _⟩ => ⟨S4352x2816, .f32⟩
  | .hbm, ⟨59, _⟩ => ⟨S4352x2816, .f32⟩
  | .hbm, ⟨60, _⟩ => ⟨S4352x2816, .f32⟩
  | .hbm, ⟨61, _⟩ => ⟨S4352x2816, .f32⟩
  | .hbm, ⟨62, _⟩ => ⟨S4352x1024, .f32⟩
  | .hbm, ⟨63, _⟩ => ⟨S_, .f32⟩
  | .hbm, ⟨64, _⟩ => ⟨S4352x1024, .f32⟩
  | .hbm, ⟨65, _⟩ => ⟨S4352x1024, .f32⟩
  | .hbm, ⟨66, _⟩ => ⟨S4352x1024, .f32⟩
  | .hbm, ⟨67, _⟩ => ⟨S4352x1024, .f32⟩
  | .hbm, ⟨68, _⟩ => ⟨S4352x5632, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst : Ref sig .tc := ⟨.hbm, 29, rfl⟩
abbrev main_v24 : Ref sig .tc := ⟨.hbm, 30, rfl⟩
abbrev main_v25 : Ref sig .tc := ⟨.hbm, 31, rfl⟩
abbrev main_cst_0 : Ref sig .tc := ⟨.hbm, 32, rfl⟩
abbrev main_v26 : Ref sig .tc := ⟨.hbm, 33, rfl⟩
abbrev main_v27 : Ref sig .tc := ⟨.hbm, 34, rfl⟩
abbrev main_cst_1 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_2 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_3 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== FfnC.lean ====
abbrev S4352x1024 : Shape := ⟨2, ![4352, 1024]⟩
abbrev S2x2x16x1024 : Shape := ⟨4, ![2, 2, 16, 1024]⟩
abbrev S2x1x1024 : Shape := ⟨3, ![2, 1, 1024]⟩
abbrev S1024x5632 : Shape := ⟨2, ![1024, 5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S4352x5632 : Shape := ⟨2, ![4352, 5632]⟩
abbrev S256x1024 : Shape := ⟨2, ![256, 1024]⟩
abbrev S1x1x16x1024 : Shape := ⟨4, ![1, 1, 16, 1024]⟩
abbrev S1x1x1024 : Shape := ⟨3, ![1, 1, 1024]⟩
abbrev S256x5632 : Shape := ⟨2, ![256, 5632]⟩
abbrev S1x1024 : Shape := ⟨2, ![1, 1024]⟩
abbrev S1x1x1x1024 : Shape := ⟨4, ![1, 1, 1, 1024]⟩
abbrev S256 : Shape := ⟨1, ![256]⟩
abbrev S256x1 : Shape := ⟨2, ![256, 1]⟩
abbrev S1x1024x1408 : Shape := ⟨3, ![1, 1024, 1408]⟩
abbrev S1024x1408 : Shape := ⟨2, ![1024, 1408]⟩
abbrev S256x1408 : Shape := ⟨2, ![256, 1408]⟩
abbrev S1408x1024 : Shape := ⟨2, ![1408, 1024]⟩

abbrev nBuf : Space → Nat
  | .hbm => 12
  | .vmem => 13
  | .smem => 0
  | _ => 0

abbrev bufTy : (tb : Table) → Fin (tcTables nBuf tb) → BufTy
  | .hbm, ⟨0, _⟩ => ⟨S4352x1024, .f32⟩
  | .hbm, ⟨1, _⟩ => ⟨S2x2x16x1024, .f32⟩
  | .hbm, ⟨2, _⟩ => ⟨S2x1x1024, .f32⟩
  | .hbm, ⟨3, _⟩ => ⟨S1024x5632, .f32⟩
  | .hbm, ⟨4, _⟩ => ⟨S2816x1024, .f32⟩
  | .hbm, ⟨5, _⟩ => ⟨S1024x4x1408, .f32⟩
  | .hbm, ⟨6, _⟩ => ⟨S4x1024x1408, .f32⟩
  | .hbm, ⟨7, _⟩ => ⟨S4x1024x1408, .bf16⟩
  | .hbm, ⟨8, _⟩ => ⟨S2816x1024, .bf16⟩
  | .hbm, ⟨9, _⟩ => ⟨S4352x1024, .f32⟩
  | .hbm, ⟨10, _⟩ => ⟨S4352x5632, .bf16⟩
  | .hbm, ⟨11, _⟩ => ⟨S4352x1024, .f32⟩
  | .local _ .vmem, ⟨0, _⟩ => ⟨S256x1024, .f32⟩
  | .local _ .vmem, ⟨1, _⟩ => ⟨S256x1024, .f32⟩
  | .local _ .vmem, ⟨2, _⟩ => ⟨S1x1x16x1024, .f32⟩
  | .local _ .vmem, ⟨3, _⟩ => ⟨S1x1x16x1024, .f32⟩
  | .local _ .vmem, ⟨4, _⟩ => ⟨S1x1x1024, .f32⟩
  | .local _ .vmem, ⟨5, _⟩ => ⟨S4x1024x1408, .bf16⟩
  | .local _ .vmem, ⟨6, _⟩ => ⟨S2816x1024, .bf16⟩
  | .local _ .vmem, ⟨7, _⟩ => ⟨S256x1024, .f32⟩
  | .local _ .vmem, ⟨8, _⟩ => ⟨S256x1024, .f32⟩
  | .local _ .vmem, ⟨9, _⟩ => ⟨S256x5632, .bf16⟩
  | .local _ .vmem, ⟨10, _⟩ => ⟨S256x5632, .bf16⟩
  | .local _ .vmem, ⟨11, _⟩ => ⟨S256x1024, .f32⟩
  | .local _ .vmem, ⟨12, _⟩ => ⟨S256x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c16_i32 : BitVec 32 := 16#32
  let v0 : BitVec 1 := Scalar.cmpi .sge arg0 c16_i32
  let v1 : BitVec 32 := Scalar.extui v0
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnCRefIdeal.lean ====
abbrev S4352x1024 : Shape := ⟨2, ![4352, 1024]⟩
abbrev S2x2x16x1024 : Shape := ⟨4, ![2, 2, 16, 1024]⟩
abbrev S2x1x1024 : Shape := ⟨3, ![2, 1, 1024]⟩
abbrev S1024x5632 : Shape := ⟨2, ![1024, 5632]⟩
abbrev S2816x1024 : Shape := ⟨2, ![2816, 1024]⟩
abbrev S1x1x1x1024 : Shape := ⟨4, ![1, 1, 1, 1024]⟩
abbrev S1024 : Shape := ⟨1, ![1024]⟩
abbrev S4096x1024 : Shape := ⟨2, ![4096, 1024]⟩
abbrev S256x1024 : Shape := ⟨2, ![256, 1024]⟩
abbrev S1x1x1024 : Shape := ⟨3, ![1, 1, 1024]⟩
abbrev S_ : Shape := ⟨0, ![]⟩
abbrev S4352 : Shape := ⟨1, ![4352]⟩
abbrev S4352x1 : Shape := ⟨2, ![4352, 1]⟩
abbrev S1x1024 : Shape := ⟨2, ![1, 1024]⟩
abbrev S4352x5632 : Shape := ⟨2, ![4352, 5632]⟩
abbrev S4352x2816 : Shape := ⟨2, ![4352, 2816]⟩

abbrev nBuf : Space → Nat
  | .hbm => 69
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S2x2x16x1024, .f32⟩
  | .hbm, ⟨2, _⟩ => ⟨S2x1x1024, .f32⟩
  | .hbm, ⟨3, _⟩ => ⟨S1024x5632, .f32⟩
  | .hbm, ⟨4, _⟩ => ⟨S2816x1024, .f32⟩
  | .hbm, ⟨5, _⟩ => ⟨S1x1x1x1024, .f32⟩
  | .hbm, ⟨6, _⟩ => ⟨S1024, .f32⟩
  | .hbm, ⟨7, _⟩ => ⟨S4096x1024, .f32⟩
  | .hbm, ⟨8, _⟩ => ⟨S1x1x1x1024, .f32⟩
  | .hbm, ⟨9, _⟩ => ⟨S1024, .f32⟩
  | .hbm, ⟨10, _⟩ => ⟨S256x1024, .f32⟩
  | .hbm, ⟨11, _⟩ => ⟨S4352x1024, .f32⟩
  | .hbm, ⟨12, _⟩ => ⟨S1x1x1x1024, .f32⟩
  | .hbm, ⟨13, _⟩ => ⟨S1024, .f32⟩
  | .hbm, ⟨14, _⟩ => ⟨S4096x1024, .f32⟩
  | .hbm, ⟨15, _⟩ => ⟨S1x1x1x1024, .f32⟩
  | .hbm, ⟨16, _⟩ => ⟨S1024, .f32⟩
  | .hbm, ⟨17, _⟩ => ⟨S256x1024, .f32⟩
  | .hbm, ⟨18, _⟩ => ⟨S4352x1024, .f32⟩
  | .hbm, ⟨19, _⟩ => ⟨S1x1x1x1024, .f32⟩
  | .hbm, ⟨20, _⟩ => ⟨S1024, .f32⟩
  | .hbm, ⟨21, _⟩ => ⟨S4096x1024, .f32⟩
  | .hbm, ⟨22, _⟩ => ⟨S1x1x1x1024, .f32⟩
  | .hbm, ⟨23, _⟩ => ⟨S1024, .f32⟩
  | .hbm, ⟨24, _⟩ => ⟨S256x1024, .f32⟩
  | .hbm, ⟨25, _⟩ => ⟨S4352x1024, .f32⟩
  | .hbm, ⟨26, _⟩ => ⟨S1x1x1024, .f32⟩
  | .hbm, ⟨27, _⟩ => ⟨S1024, .f32⟩
  | .hbm, ⟨28, _⟩ => ⟨S4352x1024, .f32⟩
  | .hbm, ⟨29, _⟩ => ⟨S_, .f32⟩
  | .hbm, ⟨30, _⟩ => ⟨S4352, .f32⟩
  | .hbm, ⟨31, _⟩ => ⟨S4352x1, .f32⟩
  | .hbm, ⟨32, _⟩ => ⟨S_, .f32⟩
  | .hbm, ⟨33, _⟩ => ⟨S4352x1, .f32⟩
  | .hbm, ⟨34, _⟩ => ⟨S4352x1, .f32⟩
  | .hbm, ⟨35, _⟩ => ⟨S_, .f32⟩
  | .hbm, ⟨36, _⟩ => ⟨S4352x1, .f32⟩
  | .hbm, ⟨37, _⟩ => ⟨S4352x1, .f32⟩
  | .hbm, ⟨38, _⟩ => ⟨S4352x1, .f32⟩
  | .hbm, ⟨39, _⟩ => ⟨S4352x1024, .f32⟩
  | .hbm, ⟨40, _⟩ => ⟨S4352x1024, .f32⟩
  | .hbm, ⟨41, _⟩ => ⟨S1x1024, .f32⟩
  | .hbm, ⟨42, _⟩ => ⟨S4352x1024, .f32⟩
  | .hbm, ⟨43, _⟩ => ⟨S4352x1024, .f32⟩
  | .hbm, ⟨44, _⟩ => ⟨S_, .f32⟩
  | .hbm, ⟨45, _⟩ => ⟨S4352x1024, .f32⟩
  | .hbm, ⟨46, _⟩ => ⟨S4352x1024, .f32⟩
  | .hbm, ⟨47, _⟩ => ⟨S4352x1024, .f32⟩
  | .hbm, ⟨48, _⟩ => ⟨S4352x1024, .f32⟩
  | .hbm, ⟨49, _⟩ => ⟨S4352x5632, .f32⟩
  | .hbm, ⟨50, _⟩ => ⟨S4352x2816, .f32⟩
  | .hbm, ⟨51, _⟩ => ⟨S4352x2816, .f32⟩
  | .hbm, ⟨52, _⟩ => ⟨S4352x2816, .f32⟩
  | .hbm, ⟨53, _⟩ => ⟨S4352x2816, .f32⟩
  | .hbm, ⟨54, _⟩ => ⟨S_, .f32⟩
  | .hbm, ⟨55, _⟩ => ⟨S4352x2816, .f32⟩
  | .hbm, ⟨56, _⟩ => ⟨S4352x2816, .f32⟩
  | .hbm, ⟨57, _⟩ => ⟨S_, .f32⟩
  | .hbm, ⟨58, _⟩ => ⟨S4352x2816, .f32⟩
  | .hbm, ⟨59, _⟩ => ⟨S4352x2816, .f32⟩
  | .hbm, ⟨60, _⟩ => ⟨S4352x2816, .f32⟩
  | .hbm, ⟨61, _⟩ => ⟨S4352x2816, .f32⟩
  | .hbm, ⟨62, _⟩ => ⟨S4352x1024, .f32⟩
  | .hbm, ⟨63, _⟩ => ⟨S_, .f32⟩
  | .hbm, ⟨64, _⟩ => ⟨S4352x1024, .f32⟩
  | .hbm, ⟨65, _⟩ => ⟨S4352x1024, .f32⟩
  | .hbm, ⟨66, _⟩ => ⟨S4352x1024, .f32⟩
  | .hbm, ⟨67, _⟩ => ⟨S4352x1024, .f32⟩
  | .hbm, ⟨68, _⟩ => ⟨S4352x5632, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst : Ref sig .tc := ⟨.hbm, 29, rfl⟩
abbrev main_v24 : Ref sig .tc := ⟨.hbm, 30, rfl⟩
abbrev main_v25 : Ref sig .tc := ⟨.hbm, 31, rfl⟩
abbrev main_cst_0 : Ref sig .tc := ⟨.hbm, 32, rfl⟩
abbrev main_v26 : Ref sig .tc := ⟨.hbm, 33, rfl⟩
abbrev main_v27 : Ref sig .tc := ⟨.hbm, 34, rfl⟩
abbrev main_cst_1 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_2 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_3 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== FfnD.lean ====
abbrev S4352x1024 : Shape := ⟨2, ![4352, 1024]⟩
abbrev S2x2x16x1024 : Shape := ⟨4, ![2, 2, 16, 1024]⟩
abbrev S2x1x1024 : Shape := ⟨3, ![2, 1, 1024]⟩
abbrev S1024x5632 : Shape := ⟨2, ![1024, 5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S4352x5632 : Shape := ⟨2, ![4352, 5632]⟩
abbrev S256x1024 : Shape := ⟨2, ![256, 1024]⟩
abbrev S1x1x16x1024 : Shape := ⟨4, ![1, 1, 16, 1024]⟩
abbrev S1x1x1024 : Shape := ⟨3, ![1, 1, 1024]⟩
abbrev S256x5632 : Shape := ⟨2, ![256, 5632]⟩
abbrev S1x1024 : Shape := ⟨2, ![1, 1024]⟩
abbrev S1x1x1x1024 : Shape := ⟨4, ![1, 1, 1, 1024]⟩
abbrev S256 : Shape := ⟨1, ![256]⟩
abbrev S256x1 : Shape := ⟨2, ![256, 1]⟩
abbrev S1x1024x1408 : Shape := ⟨3, ![1, 1024, 1408]⟩
abbrev S1024x1408 : Shape := ⟨2, ![1024, 1408]⟩
abbrev S256x1408 : Shape := ⟨2, ![256, 1408]⟩
abbrev S1408x1024 : Shape := ⟨2, ![1408, 1024]⟩

abbrev nBuf : Space → Nat
  | .hbm => 12
  | .vmem => 13
  | .smem => 0
  | _ => 0

abbrev bufTy : (tb : Table) → Fin (tcTables nBuf tb) → BufTy
  | .hbm, ⟨0, _⟩ => ⟨S4352x1024, .f32⟩
  | .hbm, ⟨1, _⟩ => ⟨S2x2x16x1024, .f32⟩
  | .hbm, ⟨2, _⟩ => ⟨S2x1x1024, .f32⟩
  | .hbm, ⟨3, _⟩ => ⟨S1024x5632, .f32⟩
  | .hbm, ⟨4, _⟩ => ⟨S2816x1024, .f32⟩
  | .hbm, ⟨5, _⟩ => ⟨S1024x4x1408, .f32⟩
  | .hbm, ⟨6, _⟩ => ⟨S4x1024x1408, .f32⟩
  | .hbm, ⟨7, _⟩ => ⟨S4x1024x1408, .bf16⟩
  | .hbm, ⟨8, _⟩ => ⟨S2816x1024, .bf16⟩
  | .hbm, ⟨9, _⟩ => ⟨S4352x1024, .f32⟩
  | .hbm, ⟨10, _⟩ => ⟨S4352x5632, .bf16⟩
  | .hbm, ⟨11, _⟩ => ⟨S4352x1024, .f32⟩
  | .local _ .vmem, ⟨0, _⟩ => ⟨S256x1024, .f32⟩
  | .local _ .vmem, ⟨1, _⟩ => ⟨S256x1024, .f32⟩
  | .local _ .vmem, ⟨2, _⟩ => ⟨S1x1x16x1024, .f32⟩
  | .local _ .vmem, ⟨3, _⟩ => ⟨S1x1x16x1024, .f32⟩
  | .local _ .vmem, ⟨4, _⟩ => ⟨S1x1x1024, .f32⟩
  | .local _ .vmem, ⟨5, _⟩ => ⟨S4x1024x1408, .bf16⟩
  | .local _ .vmem, ⟨6, _⟩ => ⟨S2816x1024, .bf16⟩
  | .local _ .vmem, ⟨7, _⟩ => ⟨S256x1024, .f32⟩
  | .local _ .vmem, ⟨8, _⟩ => ⟨S256x1024, .f32⟩
  | .local _ .vmem, ⟨9, _⟩ => ⟨S256x5632, .bf16⟩
  | .local _ .vmem, ⟨10, _⟩ => ⟨S256x5632, .bf16⟩
  | .local _ .vmem, ⟨11, _⟩ => ⟨S256x1024, .f32⟩
  | .local _ .vmem, ⟨12, _⟩ => ⟨S256x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c16_i32 : BitVec 32 := 16#32
  let v0 : BitVec 1 := Scalar.cmpi .sge arg0 c16_i32
  let v1 : BitVec 32 := Scalar.extui v0
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnDRefIdeal.lean ====
abbrev S4352x1024 : Shape := ⟨2, ![4352, 1024]⟩
abbrev S2x2x16x1024 : Shape := ⟨4, ![2, 2, 16, 1024]⟩
abbrev S2x1x1024 : Shape := ⟨3, ![2, 1, 1024]⟩
abbrev S1024x5632 : Shape := ⟨2, ![1024, 5632]⟩
abbrev S2816x1024 : Shape := ⟨2, ![2816, 1024]⟩
abbrev S1x1x1x1024 : Shape := ⟨4, ![1, 1, 1, 1024]⟩
abbrev S1024 : Shape := ⟨1, ![1024]⟩
abbrev S4096x1024 : Shape := ⟨2, ![4096, 1024]⟩
abbrev S256x1024 : Shape := ⟨2, ![256, 1024]⟩
abbrev S1x1x1024 : Shape := ⟨3, ![1, 1, 1024]⟩
abbrev S_ : Shape := ⟨0, ![]⟩
abbrev S4352 : Shape := ⟨1, ![4352]⟩
abbrev S4352x1 : Shape := ⟨2, ![4352, 1]⟩
abbrev S1x1024 : Shape := ⟨2, ![1, 1024]⟩
abbrev S4352x5632 : Shape := ⟨2, ![4352, 5632]⟩
abbrev S4352x2816 : Shape := ⟨2, ![4352, 2816]⟩

abbrev nBuf : Space → Nat
  | .hbm => 69
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S2x2x16x1024, .f32⟩
  | .hbm, ⟨2, _⟩ => ⟨S2x1x1024, .f32⟩
  | .hbm, ⟨3, _⟩ => ⟨S1024x5632, .f32⟩
  | .hbm, ⟨4, _⟩ => ⟨S2816x1024, .f32⟩
  | .hbm, ⟨5, _⟩ => ⟨S1x1x1x1024, .f32⟩
  | .hbm, ⟨6, _⟩ => ⟨S1024, .f32⟩
  | .hbm, ⟨7, _⟩ => ⟨S4096x1024, .f32⟩
  | .hbm, ⟨8, _⟩ => ⟨S1x1x1x1024, .f32⟩
  | .hbm, ⟨9, _⟩ => ⟨S1024, .f32⟩
  | .hbm, ⟨10, _⟩ => ⟨S256x1024, .f32⟩
  | .hbm, ⟨11, _⟩ => ⟨S4352x1024, .f32⟩
  | .hbm, ⟨12, _⟩ => ⟨S1x1x1x1024, .f32⟩
  | .hbm, ⟨13, _⟩ => ⟨S1024, .f32⟩
  | .hbm, ⟨14, _⟩ => ⟨S4096x1024, .f32⟩
  | .hbm, ⟨15, _⟩ => ⟨S1x1x1x1024, .f32⟩
  | .hbm, ⟨16, _⟩ => ⟨S1024, .f32⟩
  | .hbm, ⟨17, _⟩ => ⟨S256x1024, .f32⟩
  | .hbm, ⟨18, _⟩ => ⟨S4352x1024, .f32⟩
  | .hbm, ⟨19, _⟩ => ⟨S1x1x1x1024, .f32⟩
  | .hbm, ⟨20, _⟩ => ⟨S1024, .f32⟩
  | .hbm, ⟨21, _⟩ => ⟨S4096x1024, .f32⟩
  | .hbm, ⟨22, _⟩ => ⟨S1x1x1x1024, .f32⟩
  | .hbm, ⟨23, _⟩ => ⟨S1024, .f32⟩
  | .hbm, ⟨24, _⟩ => ⟨S256x1024, .f32⟩
  | .hbm, ⟨25, _⟩ => ⟨S4352x1024, .f32⟩
  | .hbm, ⟨26, _⟩ => ⟨S1x1x1024, .f32⟩
  | .hbm, ⟨27, _⟩ => ⟨S1024, .f32⟩
  | .hbm, ⟨28, _⟩ => ⟨S4352x1024, .f32⟩
  | .hbm, ⟨29, _⟩ => ⟨S_, .f32⟩
  | .hbm, ⟨30, _⟩ => ⟨S4352, .f32⟩
  | .hbm, ⟨31, _⟩ => ⟨S4352x1, .f32⟩
  | .hbm, ⟨32, _⟩ => ⟨S_, .f32⟩
  | .hbm, ⟨33, _⟩ => ⟨S4352x1, .f32⟩
  | .hbm, ⟨34, _⟩ => ⟨S4352x1, .f32⟩
  | .hbm, ⟨35, _⟩ => ⟨S_, .f32⟩
  | .hbm, ⟨36, _⟩ => ⟨S4352x1, .f32⟩
  | .hbm, ⟨37, _⟩ => ⟨S4352x1, .f32⟩
  | .hbm, ⟨38, _⟩ => ⟨S4352x1, .f32⟩
  | .hbm, ⟨39, _⟩ => ⟨S4352x1024, .f32⟩
  | .hbm, ⟨40, _⟩ => ⟨S4352x1024, .f32⟩
  | .hbm, ⟨41, _⟩ => ⟨S1x1024, .f32⟩
  | .hbm, ⟨42, _⟩ => ⟨S4352x1024, .f32⟩
  | .hbm, ⟨43, _⟩ => ⟨S4352x1024, .f32⟩
  | .hbm, ⟨44, _⟩ => ⟨S_, .f32⟩
  | .hbm, ⟨45, _⟩ => ⟨S4352x1024, .f32⟩
  | .hbm, ⟨46, _⟩ => ⟨S4352x1024, .f32⟩
  | .hbm, ⟨47, _⟩ => ⟨S4352x1024, .f32⟩
  | .hbm, ⟨48, _⟩ => ⟨S4352x1024, .f32⟩
  | .hbm, ⟨49, _⟩ => ⟨S4352x5632, .f32⟩
  | .hbm, ⟨50, _⟩ => ⟨S4352x2816, .f32⟩
  | .hbm, ⟨51, _⟩ => ⟨S4352x2816, .f32⟩
  | .hbm, ⟨52, _⟩ => ⟨S4352x2816, .f32⟩
  | .hbm, ⟨53, _⟩ => ⟨S4352x2816, .f32⟩
  | .hbm, ⟨54, _⟩ => ⟨S_, .f32⟩
  | .hbm, ⟨55, _⟩ => ⟨S4352x2816, .f32⟩
  | .hbm, ⟨56, _⟩ => ⟨S4352x2816, .f32⟩
  | .hbm, ⟨57, _⟩ => ⟨S_, .f32⟩
  | .hbm, ⟨58, _⟩ => ⟨S4352x2816, .f32⟩
  | .hbm, ⟨59, _⟩ => ⟨S4352x2816, .f32⟩
  | .hbm, ⟨60, _⟩ => ⟨S4352x2816, .f32⟩
  | .hbm, ⟨61, _⟩ => ⟨S4352x2816, .f32⟩
  | .hbm, ⟨62, _⟩ => ⟨S4352x1024, .f32⟩
  | .hbm, ⟨63, _⟩ => ⟨S_, .f32⟩
  | .hbm, ⟨64, _⟩ => ⟨S4352x1024, .f32⟩
  | .hbm, ⟨65, _⟩ => ⟨S4352x1024, .f32⟩
  | .hbm, ⟨66, _⟩ => ⟨S4352x1024, .f32⟩
  | .hbm, ⟨67, _⟩ => ⟨S4352x1024, .f32⟩
  | .hbm, ⟨68, _⟩ => ⟨S4352x5632, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst : Ref sig .tc := ⟨.hbm, 29, rfl⟩
abbrev main_v24 : Ref sig .tc := ⟨.hbm, 30, rfl⟩
abbrev main_v25 : Ref sig .tc := ⟨.hbm, 31, rfl⟩
abbrev main_cst_0 : Ref sig .tc := ⟨.hbm, 32, rfl⟩
abbrev main_v26 : Ref sig .tc := ⟨.hbm, 33, rfl⟩
abbrev main_v27 : Ref sig .tc := ⟨.hbm, 34, rfl⟩
abbrev main_cst_1 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_2 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_3 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== FfnBwdB.lean ====
abbrev S4352x1024 : Shape := ⟨2, ![4352, 1024]⟩
abbrev S2x2x16x1024 : Shape := ⟨4, ![2, 2, 16, 1024]⟩
abbrev S2x1x1024 : Shape := ⟨3, ![2, 1, 1024]⟩
abbrev S1024x5632 : Shape := ⟨2, ![1024, 5632]⟩
abbrev S2816x1024 : Shape := ⟨2, ![2816, 1024]⟩
abbrev S1x2x3x1024 : Shape := ⟨4, ![1, 2, 3, 1024]⟩
abbrev S2x3x1024 : Shape := ⟨3, ![2, 3, 1024]⟩
abbrev S1x1x1024 : Shape := ⟨3, ![1, 1, 1024]⟩
abbrev S1x1024 : Shape := ⟨2, ![1, 1024]⟩
abbrev S2x4x1024 : Shape := ⟨3, ![2, 4, 1024]⟩
abbrev S1024 : Shape := ⟨1, ![1024]⟩
abbrev S4096x1024 : Shape := ⟨2, ![4096, 1024]⟩
abbrev S256x1024 : Shape := ⟨2, ![256, 1024]⟩
abbrev S_ : Shape := ⟨0, ![]⟩
abbrev S4352 : Shape := ⟨1, ![4352]⟩
abbrev S4352x1 : Shape := ⟨2, ![4352, 1]⟩
abbrev S4352x5632 : Shape := ⟨2, ![4352, 5632]⟩
abbrev S4352x2816 : Shape := ⟨2, ![4352, 2816]⟩
abbrev S1024x4x1408 : Shape := ⟨3, ![1024, 4, 1408]⟩
abbrev S4x1024x1408 : Shape := ⟨3, ![4, 1024, 1408]⟩
abbrev S2x8x1024 : Shape := ⟨3, ![2, 8, 1024]⟩
abbrev S256x5632 : Shape := ⟨2, ![256, 5632]⟩
abbrev S1x1x16x1024 : Shape := ⟨4, ![1, 1, 16, 1024]⟩
abbrev S256x2816 : Shape := ⟨2, ![256, 2816]⟩
abbrev S1x8x1024 : Shape := ⟨3, ![1, 8, 1024]⟩
abbrev S8x1024 : Shape := ⟨2, ![8, 1024]⟩
abbrev S1x1x1x1024 : Shape := ⟨4, ![1, 1, 1, 1024]⟩
abbrev S256 : Shape := ⟨1, ![256]⟩
abbrev S256x1 : Shape := ⟨2, ![256, 1]⟩
abbrev S256x1408 : Shape := ⟨2, ![256, 1408]⟩
abbrev S1408x1024 : Shape := ⟨2, ![1408, 1024]⟩
abbrev S1x1024x1408 : Shape := ⟨3, ![1, 1024, 1408]⟩
abbrev S1024x1408 : Shape := ⟨2, ![1024, 1408]⟩

abbrev nBuf : Space → Nat
  | .hbm => 77
  | .vmem => 25
  | .smem => 0
  | _ => 0

abbrev bufTy : (tb : Table) → Fin (tcTables nBuf tb) → BufTy
  | .hbm, ⟨0, _⟩ => ⟨S4352x1024, .f32⟩
  | .hbm, ⟨1, _⟩ => ⟨S2x2x16x1024, .f32⟩
  | .hbm, ⟨2, _⟩ => ⟨S2x1x1024, .f32⟩
  | .hbm, ⟨3, _⟩ => ⟨S1024x5632, .f32⟩
  | .hbm, ⟨4, _⟩ => ⟨S2816x1024, .f32⟩
  | .hbm, ⟨5, _⟩ => ⟨S4352x1024, .f32⟩
  | .hbm, ⟨6, _⟩ => ⟨S1x2x3x1024, .f32⟩
  | .hbm, ⟨7, _⟩ => ⟨S2x3x1024, .f32⟩
  | .hbm, ⟨8, _⟩ => ⟨S1x1x1024, .f32⟩
  | .hbm, ⟨9, _⟩ => ⟨S1x1024, .f32⟩
  | .hbm, ⟨10, _⟩ => ⟨S2x1x1024, .f32⟩
  | .hbm, ⟨11, _⟩ => ⟨S2x4x1024, .f32⟩
  | .hbm, ⟨12, _⟩ => ⟨S1x1x1024, .f32⟩
  | .hbm, ⟨13, _⟩ => ⟨S1024, .f32⟩
  | .hbm, ⟨14, _⟩ => ⟨S4096x1024, .f32⟩
  | .hbm, ⟨15, _⟩ => ⟨S1x1x1024, .f32⟩
  | .hbm, ⟨16, _⟩ => ⟨S1024, .f32⟩
  | .hbm, ⟨17, _⟩ => ⟨S256x1024, .f32⟩
  | .hbm, ⟨18, _⟩ => ⟨S4352x1024, .f32⟩
  | .hbm, ⟨19, _⟩ => ⟨S1x1x1024, .f32⟩
  | .hbm, ⟨20, _⟩ => ⟨S1024, .f32⟩
  | .hbm, ⟨21, _⟩ => ⟨S4096x1024, .f32⟩
  | .hbm, ⟨22, _⟩ => ⟨S1x1x1024, .f32⟩
  | .hbm, ⟨23, _⟩ => ⟨S1024, .f32⟩
  | .hbm, ⟨24, _⟩ => ⟨S256x1024, .f32⟩
  | .hbm, ⟨25, _⟩ => ⟨S4352x1024, .f32⟩
  | .hbm, ⟨26, _⟩ => ⟨S1x1x1024, .f32⟩
  | .hbm, ⟨27, _⟩ => ⟨S1024, .f32⟩
  | .hbm, ⟨28, _⟩ => ⟨S4096x1024, .f32⟩
  | .hbm, ⟨29, _⟩ => ⟨S1x1x1024, .f32⟩
  | .hbm, ⟨30, _⟩ => ⟨S1024, .f32⟩
  | .hbm, ⟨31, _⟩ => ⟨S256x1024, .f32⟩
  | .hbm, ⟨32, _⟩ => ⟨S4352x1024, .f32⟩
  | .hbm, ⟨33, _⟩ => ⟨S4352x1024, .f32⟩
  | .hbm, ⟨34, _⟩ => ⟨S_, .f32⟩
  | .hbm, ⟨35, _⟩ => ⟨S4352, .f32⟩
  | .hbm, ⟨36, _⟩ => ⟨S4352x1, .f32⟩
  | .hbm, ⟨37, _⟩ => ⟨S_, .f32⟩
  | .hbm, ⟨38, _⟩ => ⟨S4352x1, .f32⟩
  | .hbm, ⟨39, _⟩ => ⟨S4352x1, .f32⟩
  | .hbm, ⟨40, _⟩ => ⟨S_, .f32⟩
  | .hbm, ⟨41, _⟩ => ⟨S4352x1, .f32⟩
  | .hbm, ⟨42, _⟩ => ⟨S4352x1, .f32⟩
  | .hbm, ⟨43, _⟩ => ⟨S4352x1, .f32⟩
  | .hbm, ⟨44, _⟩ => ⟨S4352x1024, .f32⟩
  | .hbm, ⟨45, _⟩ => ⟨S4352x1024, .f32⟩
  | .hbm, ⟨46, _⟩ => ⟨S4352x1024, .f32⟩
  | .hbm, ⟨47, _⟩ => ⟨S_, .f32⟩
  | .hbm, ⟨48, _⟩ => ⟨S4352x1024, .f32⟩
  | .hbm, ⟨49, _⟩ => ⟨S4352x1024, .f32⟩
  | .hbm, ⟨50, _⟩ => ⟨S4352x1024, .f32⟩
  | .hbm, ⟨51, _⟩ => ⟨S4352x1024, .f32⟩
  | .hbm, ⟨52, _⟩ => ⟨S4352x5632, .f32⟩
  | .hbm, ⟨53, _⟩ => ⟨S4352x2816, .f32⟩
  | .hbm, ⟨54, _⟩ => ⟨S4352x2816, .f32⟩
  | .hbm, ⟨55, _⟩ => ⟨S4352x2816, .f32⟩
  | .hbm, ⟨56, _⟩ => ⟨S4352x2816, .f32⟩
  | .hbm, ⟨57, _⟩ => ⟨S_, .f32⟩
  | .hbm, ⟨58, _⟩ => ⟨S4352x2816, .f32⟩
  | .hbm, ⟨59, _⟩ => ⟨S4352x2816, .f32⟩
  | .hbm, ⟨60, _⟩ => ⟨S_, .f32⟩
  | .hbm, ⟨61, _⟩ => ⟨S4352x2816, .f32⟩
  | .hbm, ⟨62, _⟩ => ⟨S4352x2816, .f32⟩
  | .hbm, ⟨63, _⟩ => ⟨S4352x2816, .f32⟩
  | .hbm, ⟨64, _⟩ => ⟨S4352x2816, .f32⟩
  | .hbm, ⟨65, _⟩ => ⟨S4352x1024, .f32⟩
  | .hbm, ⟨66, _⟩ => ⟨S1024x4x1408, .f32⟩
  | .hbm, ⟨67, _⟩ => ⟨S4x1024x1408, .f32⟩
  | .hbm, ⟨68, _⟩ => ⟨S4x1024x1408, .bf16⟩
  | .hbm, ⟨69, _⟩ => ⟨S4352x5632, .bf16⟩
  | .hbm, ⟨70, _⟩ => ⟨S2816x1024, .bf16⟩
  | .hbm, ⟨71, _⟩ => ⟨S4352x1024, .f32⟩
  | .hbm, ⟨72, _⟩ => ⟨S4352x5632, .bf16⟩
  | .hbm, ⟨73, _⟩ => ⟨S4352x1024, .bf16⟩
  | .hbm, ⟨74, _⟩ => ⟨S4352x1024, .bf16⟩
  | .hbm, ⟨75, _⟩ => ⟨S4352x2816, .bf16⟩
  | .hbm, ⟨76, _⟩ => ⟨S2x8x1024, .f32⟩
  | .local _ .vmem, ⟨0, _⟩ => ⟨S256x1024, .f32⟩
  | .local _ .vmem, ⟨1, _⟩ => ⟨S256x1024, .f32⟩
  | .local _ .vmem, ⟨2, _⟩ => ⟨S256x5632, .bf16⟩
  | .local _ .vmem, ⟨3, _⟩ => ⟨S256x5632, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1x16x1024, .f32⟩
  | .local _ .vmem, ⟨9, _⟩ => ⟨S1x1x16x1024, .f32⟩
  | .local _ .vmem, ⟨10, _⟩ => ⟨S1x1x1024, .f32⟩
  | .local _ .vmem, ⟨11, _⟩ => ⟨S4x1024x1408, .bf16⟩
  | .local _ .vmem, ⟨12, _⟩ => ⟨S2816x1024, .bf16⟩
  | .local _ .vmem, ⟨13, _⟩ => ⟨S256x1024, .f32⟩
  | .local _ .vmem, ⟨14, _⟩ => ⟨S256x1024, .f32⟩
  | .local _ .vmem, ⟨15, _⟩ => ⟨S256x5632, .bf16⟩
  | .local _ .vmem, ⟨16, _⟩ => ⟨S256x5632, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x2816, .bf16⟩
  | .local _ .vmem, ⟨22, _⟩ => ⟨S256x2816, .bf16⟩
  | .local _ .vmem, ⟨23, _⟩ => ⟨S1x8x1024, .f32⟩
  | .local _ .vmem, ⟨24, _⟩ => ⟨S1x8x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst : Ref sig .tc := ⟨.hbm, 34, rfl⟩
abbrev main_v28 : Ref sig .tc := ⟨.hbm, 35, rfl⟩
abbrev main_v29 : Ref sig .tc := ⟨.hbm, 36, rfl⟩
abbrev main_cst_0 : Ref sig .tc := ⟨.hbm, 37, rfl⟩
abbrev main_v30 : Ref sig .tc := ⟨.hbm, 38, rfl⟩
abbrev main_v31 : Ref sig .tc := ⟨.hbm, 39, rfl⟩
abbrev main_cst_1 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_2 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53_0 : Ref sig .tc := ⟨.hbm, 71, rfl⟩
abbrev main_v53_1 : Ref sig .tc := ⟨.hbm, 72, rfl⟩
abbrev main_v53_2 : Ref sig .tc := ⟨.hbm, 73, rfl⟩
abbrev main_v53_3 : Ref sig .tc := ⟨.hbm, 74, rfl⟩
abbrev main_v53_4 : Ref sig .tc := ⟨.hbm, 75, rfl⟩
abbrev main_v53_5 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c16_i32 : BitVec 32 := 16#32
  let v0 : BitVec 1 := Scalar.cmpi .sge arg0 c16_i32
  let v1 : BitVec 32 := Scalar.extui v0
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c16_i32 : BitVec 32 := 16#32
  let v0 : BitVec 1 := Scalar.cmpi .sge arg0 c16_i32
  let v1 : BitVec 32 := Scalar.extui v0
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x1408 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== FfnBwdBRefIdeal.lean ====
abbrev S4352x1024 : Shape := ⟨2, ![4352, 1024]⟩
abbrev S2x2x16x1024 : Shape := ⟨4, ![2, 2, 16, 1024]⟩
abbrev S2x1x1024 : Shape := ⟨3, ![2, 1, 1024]⟩
abbrev S1024x5632 : Shape := ⟨2, ![1024, 5632]⟩
abbrev S2816x1024 : Shape := ⟨2, ![2816, 1024]⟩
abbrev S1x2x3x1024 : Shape := ⟨4, ![1, 2, 3, 1024]⟩
abbrev S2x3x1024 : Shape := ⟨3, ![2, 3, 1024]⟩
abbrev S1x1x1024 : Shape := ⟨3, ![1, 1, 1024]⟩
abbrev S1x1024 : Shape := ⟨2, ![1, 1024]⟩
abbrev S2x4x1024 : Shape := ⟨3, ![2, 4, 1024]⟩
abbrev S1024 : Shape := ⟨1, ![1024]⟩
abbrev S4096x1024 : Shape := ⟨2, ![4096, 1024]⟩
abbrev S256x1024 : Shape := ⟨2, ![256, 1024]⟩
abbrev S_ : Shape := ⟨0, ![]⟩
abbrev S4352 : Shape := ⟨1, ![4352]⟩
abbrev S4352x1 : Shape := ⟨2, ![4352, 1]⟩
abbrev S4352x5632 : Shape := ⟨2, ![4352, 5632]⟩
abbrev S4352x2816 : Shape := ⟨2, ![4352, 2816]⟩
abbrev S2x8x1024 : Shape := ⟨3, ![2, 8, 1024]⟩

abbrev nBuf : Space → Nat
  | .hbm => 185
  | .vmem => 0
  | .smem => 0
  | _ => 0

abbrev hbmTy0_0 (i : Nat) : BufTy := match i % 128 with
  | 0 => ⟨S4352x1024, .f32⟩
  | 1 => ⟨S2x2x16x1024, .f32⟩
  | 2 => ⟨S2x1x1024, .f32⟩
  | 3 => ⟨S1024x5632, .f32⟩
  | 4 => ⟨S2816x1024, .f32⟩
  | 5 => ⟨S4352x1024, .f32⟩
  | 6 => ⟨S1x2x3x1024, .f32⟩
  | 7 => ⟨S2x3x1024, .f32⟩
  | 8 => ⟨S1x1x1024, .f32⟩
  | 9 => ⟨S1x1024, .f32⟩
  | 10 => ⟨S2x1x1024, .f32⟩
  | 11 => ⟨S2x4x1024, .f32⟩
  | 12 => ⟨S1x1x1024, .f32⟩
  | 13 => ⟨S1024, .f32⟩
  | 14 => ⟨S4096x1024, .f32⟩
  | 15 => ⟨S1x1x1024, .f32⟩
  | 16 => ⟨S1024, .f32⟩
  | 17 => ⟨S256x1024, .f32⟩
  | 18 => ⟨S4352x1024, .f32⟩
  | 19 => ⟨S1x1x1024, .f32⟩
  | 20 => ⟨S1024, .f32⟩
  | 21 => ⟨S4096x1024, .f32⟩
  | 22 => ⟨S1x1x1024, .f32⟩
  | 23 => ⟨S1024, .f32⟩
  | 24 => ⟨S256x1024, .f32⟩
  | 25 => ⟨S4352x1024, .f32⟩
  | 26 => ⟨S1x1x1024, .f32⟩
  | 27 => ⟨S1024, .f32⟩
  | 28 => ⟨S4096x1024, .f32⟩
  | 29 => ⟨S1x1x1024, .f32⟩
  | 30 => ⟨S1024, .f32⟩
  | 31 => ⟨S256x1024, .f32⟩
  | 32 => ⟨S4352x1024, .f32⟩
  | 33 => ⟨S4352x1024, .f32⟩
  | 34 => ⟨S_, .f32⟩
  | 35 => ⟨S4352, .f32⟩
  | 36 => ⟨S4352x1, .f32⟩
  | 37 => ⟨S_, .f32⟩
  | 38 => ⟨S4352x1, .f32⟩
  | 39 => ⟨S4352x1, .f32⟩
  | 40 => ⟨S_, .f32⟩
  | 41 => ⟨S4352x1, .f32⟩
  | 42 => ⟨S4352x1, .f32⟩
  | 43 => ⟨S4352x1, .f32⟩
  | 44 => ⟨S4352x1, .f32⟩
  | 45 => ⟨S_, .f32⟩
  | 46 => ⟨S4352x1, .f32⟩
  | 47 => ⟨S4352x1, .f32⟩
  | 48 => ⟨S4352x1024, .f32⟩
  | 49 => ⟨S4352x1024, .f32⟩
  | 50 => ⟨S4352x1024, .f32⟩
  | 51 => ⟨S_, .f32⟩
  | 52 => ⟨S4352x1024, .f32⟩
  | 53 => ⟨S4352x1024, .f32⟩
  | 54 => ⟨S4352x1024, .f32⟩
  | 55 => ⟨S4352x1024, .f32⟩
  | 56 => ⟨S4352x5632, .f32⟩
  | 57 => ⟨S4352x2816, .f32⟩
  | 58 => ⟨S4352x2816, .f32⟩
  | 59 => ⟨S4352x2816, .f32⟩
  | 60 => ⟨S4352x2816, .f32⟩
  | 61 => ⟨S_, .f32⟩
  | 62 => ⟨S4352x2816, .f32⟩
  | 63 => ⟨S4352x2816, .f32⟩
  | 64 => ⟨S_, .f32⟩
  | 65 => ⟨S4352x2816, .f32⟩
  | 66 => ⟨S4352x2816, .f32⟩
  | 67 => ⟨S_, .f32⟩
  | 68 => ⟨S4352x2816, .f32⟩
  | 69 => ⟨S4352x2816, .f32⟩
  | 70 => ⟨S4352x2816, .f32⟩
  | 71 => ⟨S4352x2816, .f32⟩
  | 72 => ⟨S4352x2816, .f32⟩
  | 73 => ⟨S4352x1024, .f32⟩
  | 74 => ⟨S1x1x1024, .f32⟩
  | 75 => ⟨S1024, .f32⟩
  | 76 => ⟨S4096x1024, .f32⟩
  | 77 => ⟨S1x1x1024, .f32⟩
  | 78 => ⟨S1024, .f32⟩
  | 79 => ⟨S256x1024, .f32⟩
  | 80 => ⟨S4352x1024, .f32⟩
  | 81 => ⟨S_, .f32⟩
  | 82 => ⟨S4352x1024, .f32⟩
  | 83 => ⟨S4352x1024, .f32⟩
  | 84 => ⟨S4352x1024, .f32⟩
  | 85 => ⟨S4352x1024, .f32⟩
  | 86 => ⟨S4352x1024, .f32⟩
  | 87 => ⟨S4352x1024, .f32⟩
  | 88 => ⟨S4352x1024, .f32⟩
  | 89 => ⟨S_, .f32⟩
  | 90 => ⟨S4352x1024, .f32⟩
  | 91 => ⟨S4352x1024, .f32⟩
  | 92 => ⟨S4096x1024, .f32⟩
  | 93 => ⟨S256x1024, .f32⟩
  | 94 => ⟨S_, .f32⟩
  | 95 => ⟨S1024, .f32⟩
  | 96 => ⟨S1x1x1024, .f32⟩
  | 97 => ⟨S_, .f32⟩
  | 98 => ⟨S2x4x1024, .f32⟩
  | 99 => ⟨S_, .f32⟩
  | 100 => ⟨S1024, .f32⟩
  | 101 => ⟨S1x1x1024, .f32⟩
  | 102 => ⟨S_, .f32⟩
  | 103 => ⟨S2x4x1024, .f32⟩
  | 104 => ⟨S2x4x1024, .f32⟩
  | 105 => ⟨S4352x2816, .f32⟩
  | 106 => ⟨S4352x2816, .f32⟩
  | 107 => ⟨S4352x2816, .f32⟩
  | 108 => ⟨S4352x2816, .f32⟩
  | 109 => ⟨S4352x2816, .f32⟩
  | 110 => ⟨S4352x2816, .f32⟩
  | 111 => ⟨S4352x2816, .f32⟩
  | 112 => ⟨S4352x5632, .f32⟩
  | 113 => ⟨S4352x1024, .f32⟩
  | 114 => ⟨S4352x1024, .f32⟩
  | 115 => ⟨S4352x1024, .f32⟩
  | 116 => ⟨S4352x1024, .f32⟩
  | 117 => ⟨S4352x1024, .f32⟩
  | 118 => ⟨S4352x1024, .f32⟩
  | 119 => ⟨S_, .f32⟩
  | 120 => ⟨S4352, .f32⟩
  | 121 => ⟨S4352x1, .f32⟩
  | 122 => ⟨S4352x1024, .f32⟩
  | 123 => ⟨S4352x1024, .f32⟩
  | 124 => ⟨S4352x1, .f32⟩
  | 125 => ⟨S_, .f32⟩
  | 126 => ⟨S4352x1, .f32⟩
  | 127 => ⟨S4352x1, .f32⟩
  | _ => ⟨S4352x1024, .f32⟩

abbrev hbmTy0_1 (i : Nat) : BufTy := match i % 128 with
  | 0 => ⟨S_, .f32⟩
  | 1 => ⟨S4352, .f32⟩
  | 2 => ⟨S4352x1024, .f32⟩
  | 3 => ⟨S4352x1024, .f32⟩
  | 4 => ⟨S4352x1024, .f32⟩
  | 5 => ⟨S4352x1024, .f32⟩
  | 6 => ⟨S4352x1024, .f32⟩
  | 7 => ⟨S4096x1024, .f32⟩
  | 8 => ⟨S256x1024, .f32⟩
  | 9 => ⟨S_, .f32⟩
  | 10 => ⟨S1024, .f32⟩
  | 11 => ⟨S1x1x1024, .f32⟩
  | 12 => ⟨S_, .f32⟩
  | 13 => ⟨S2x4x1024, .f32⟩
  | 14 => ⟨S_, .f32⟩
  | 15 => ⟨S1024, .f32⟩
  | 16 => ⟨S1x1x1024, .f32⟩
  | 17 => ⟨S_, .f32⟩
  | 18 => ⟨S2x4x1024, .f32⟩
  | 19 => ⟨S2x4x1024, .f32⟩
  | 20 => ⟨S4096x1024, .f32⟩
  | 21 => ⟨S256x1024, .f32⟩
  | 22 => ⟨S_, .f32⟩
  | 23 => ⟨S1024, .f32⟩
  | 24 => ⟨S1x1x1024, .f32⟩
  | 25 => ⟨S_, .f32⟩
  | 26 => ⟨S2x4x1024, .f32⟩
  | 27 => ⟨S2x4x1024, .f32⟩
  | 28 => ⟨S_, .f32⟩
  | 29 => ⟨S1024, .f32⟩
  | 30 => ⟨S1x1x1024, .f32⟩
  | 31 => ⟨S_, .f32⟩
  | 32 => ⟨S2x4x1024, .f32⟩
  | 33 => ⟨S2x4x1024, .f32⟩
  | 34 => ⟨S4096x1024, .f32⟩
  | 35 => ⟨S256x1024, .f32⟩
  | 36 => ⟨S_, .f32⟩
  | 37 => ⟨S1024, .f32⟩
  | 38 => ⟨S1x1x1024, .f32⟩
  | 39 => ⟨S_, .f32⟩
  | 40 => ⟨S2x4x1024, .f32⟩
  | 41 => ⟨S2x4x1024, .f32⟩
  | 42 => ⟨S_, .f32⟩
  | 43 => ⟨S1024, .f32⟩
  | 44 => ⟨S1x1x1024, .f32⟩
  | 45 => ⟨S_, .f32⟩
  | 46 => ⟨S2x4x1024, .f32⟩
  | 47 => ⟨S2x4x1024, .f32⟩
  | 48 => ⟨S2x4x1024, .f32⟩
  | 49 => ⟨S_, .f32⟩
  | 50 => ⟨S2x4x1024, .f32⟩
  | 51 => ⟨S2x8x1024, .f32⟩
  | 52 => ⟨S4352x1024, .f32⟩
  | 53 => ⟨S4352x5632, .bf16⟩
  | 54 => ⟨S4352x1024, .bf16⟩
  | 55 => ⟨S4352x1024, .bf16⟩
  | 56 => ⟨S4352x2816, .bf16⟩
  | _ => ⟨S4352x1024, .f32⟩

abbrev hbmTy (i : Nat) : BufTy := match i / 128 with
  | 0 => hbmTy0_0 i
  | 1 => hbmTy0_1 i
  | _ => ⟨S4352x1024, .f32⟩

abbrev bufTy : (tb : Table) → Fin (tcTables nBuf tb) → BufTy
  | .hbm, ⟨i, _⟩ => hbmTy i
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst : Ref sig .tc := ⟨.hbm, 34, rfl⟩
abbrev main_v28 : Ref sig .tc := ⟨.hbm, 35, rfl⟩
abbrev main_v29 : Ref sig .tc := ⟨.hbm, 36, rfl⟩
abbrev main_cst_0 : Ref sig .tc := ⟨.hbm, 37, rfl⟩
abbrev main_v30 : Ref sig .tc := ⟨.hbm, 38, rfl⟩
abbrev main_v31 : Ref sig .tc := ⟨.hbm, 39, rfl⟩
abbrev main_cst_1 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_2 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_3 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_v48_2 : Ref sig .tc := ⟨.hbm, 66, rfl⟩
abbrev main_call0_cst_1 : Ref sig .tc := ⟨.hbm, 67, rfl⟩
abbrev main_call0_v6 : Ref sig .tc := ⟨.hbm, 68, rfl⟩
abbrev main_call0_v7 : Ref sig .tc := ⟨.hbm, 69, rfl⟩
abbrev main_v48_1 : Ref sig .tc := ⟨.hbm, 70, rfl⟩
abbrev main_v48_0 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_4 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_5 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_6 : Ref sig .tc := ⟨.hbm, 94, rfl⟩
abbrev main_v69 : Ref sig .tc := ⟨.hbm, 95, rfl⟩
abbrev main_v70 : Ref sig .tc := ⟨.hbm, 96, rfl⟩
abbrev main_cst_7 : Ref sig .tc := ⟨.hbm, 97, rfl⟩
abbrev main_v71 : Ref sig .tc := ⟨.hbm, 98, rfl⟩
abbrev main_cst_8 : Ref sig .tc := ⟨.hbm, 99, rfl⟩
abbrev main_v72 : Ref sig .tc := ⟨.hbm, 100, rfl⟩
abbrev main_v73 : Ref sig .tc := ⟨.hbm, 101, rfl⟩
abbrev main_cst_9 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_call1_v0 : Ref sig .tc := ⟨.hbm, 108, rfl⟩
abbrev main_call1_v1 : Ref sig .tc := ⟨.hbm, 109, rfl⟩
abbrev main_call1_v2 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_10 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_11 : Ref sig .tc := ⟨.hbm, 125, rfl⟩
abbrev main_v92 : Ref sig .tc := ⟨.hbm, 126, rfl⟩
abbrev main_v93 : Ref sig .tc := ⟨.hbm, 127, rfl⟩
abbrev main_cst_12 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_cst_13 : Ref sig .tc := ⟨.hbm, 137, rfl⟩
abbrev main_v102 : Ref sig .tc := ⟨.hbm, 138, rfl⟩
abbrev main_v103 : Ref sig .tc := ⟨.hbm, 139, rfl⟩
abbrev main_cst_14 : Ref sig .tc := ⟨.hbm, 140, rfl⟩
abbrev main_v104 : Ref sig .tc := ⟨.hbm, 141, rfl⟩
abbrev main_cst_15 : Ref sig .tc := ⟨.hbm, 142, rfl⟩
abbrev main_v105 : Ref sig .tc := ⟨.hbm, 143, rfl⟩
abbrev main_v106 : Ref sig .tc := ⟨.hbm, 144, rfl⟩
abbrev main_cst_16 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_cst_17 : Ref sig .tc := ⟨.hbm, 150, rfl⟩
abbrev main_v111 : Ref sig .tc := ⟨.hbm, 151, rfl⟩
abbrev main_v112 : Ref sig .tc := ⟨.hbm, 152, rfl⟩
abbrev main_cst_18 : Ref sig .tc := ⟨.hbm, 153, rfl⟩
abbrev main_v113 : Ref sig .tc := ⟨.hbm, 154, rfl⟩
abbrev main_v114 : Ref sig .tc := ⟨.hbm, 155, rfl⟩
abbrev main_cst_19 : Ref sig .tc := ⟨.hbm, 156, rfl⟩
abbrev main_v115 : Ref sig .tc := ⟨.hbm, 157, rfl⟩
abbrev main_v116 : Ref sig .tc := ⟨.hbm, 158, rfl⟩
abbrev main_cst_20 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_cst_21 : Ref sig .tc := ⟨.hbm, 164, rfl⟩
abbrev main_v121 : Ref sig .tc := ⟨.hbm, 165, rfl⟩
abbrev main_v122 : Ref sig .tc := ⟨.hbm, 166, rfl⟩
abbrev main_cst_22 : Ref sig .tc := ⟨.hbm, 167, rfl⟩
abbrev main_v123 : Ref sig .tc := ⟨.hbm, 168, rfl⟩
abbrev main_v124 : Ref sig .tc := ⟨.hbm, 169, rfl⟩
abbrev main_cst_23 : Ref sig .tc := ⟨.hbm, 170, rfl⟩
abbrev main_v125 : Ref sig .tc := ⟨.hbm, 171, rfl⟩
abbrev main_v126 : Ref sig .tc := ⟨.hbm, 172, rfl⟩
abbrev main_cst_24 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_cst_25 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩

abbrev nD : Nat := 1
abbrev τ : Topo := Topo.v7x

variable {F : FTy → Type} [FloatOps F]
-- ==== FfnBwdC.lean ====
abbrev S4352x1024 : Shape := ⟨2, ![4352, 1024]⟩
abbrev S2x2x16x1024 : Shape := ⟨4, ![2, 2, 16, 1024]⟩
abbrev S2x1x1024 : Shape := ⟨3, ![2, 1, 1024]⟩
abbrev S1024x5632 : Shape := ⟨2, ![1024, 5632]⟩
abbrev S2816x1024 : Shape := ⟨2, ![2816, 1024]⟩
abbrev S1x2x3x1024 : Shape := ⟨4, ![1, 2, 3, 1024]⟩
abbrev S2x3x1024 : Shape := ⟨3, ![2, 3, 1024]⟩
abbrev S1x1x1024 : Shape := ⟨3, ![1, 1, 1024]⟩
abbrev S1x1024 : Shape := ⟨2, ![1, 1024]⟩
abbrev S2x4x1024 : Shape := ⟨3, ![2, 4, 1024]⟩
abbrev S1024 : Shape := ⟨1, ![1024]⟩
abbrev S4096x1024 : Shape := ⟨2, ![4096, 1024]⟩
abbrev S256x1024 : Shape := ⟨2, ![256, 1024]⟩
abbrev S_ : Shape := ⟨0, ![]⟩
abbrev S4352 : Shape := ⟨1, ![4352]⟩
abbrev S4352x1 : Shape := ⟨2, ![4352, 1]⟩
abbrev S4352x5632 : Shape := ⟨2, ![4352, 5632]⟩
abbrev S4352x2816 : Shape := ⟨2, ![4352, 2816]⟩
abbrev S1024x4x1408 : Shape := ⟨3, ![1024, 4, 1408]⟩
abbrev S4x1024x1408 : Shape := ⟨3, ![4, 1024, 1408]⟩
abbrev S2x8x1024 : Shape := ⟨3, ![2, 8, 1024]⟩
abbrev S256x5632 : Shape := ⟨2, ![256, 5632]⟩
abbrev S1x1x16x1024 : Shape := ⟨4, ![1, 1, 16, 1024]⟩
abbrev S256x2816 : Shape := ⟨2, ![256, 2816]⟩
abbrev S1x8x1024 : Shape := ⟨3, ![1, 8, 1024]⟩
abbrev S8x1024 : Shape := ⟨2, ![8, 1024]⟩
abbrev S1x1x1x1024 : Shape := ⟨4, ![1, 1, 1, 1024]⟩
abbrev S256 : Shape := ⟨1, ![256]⟩
abbrev S256x1 : Shape := ⟨2, ![256, 1]⟩
abbrev S256x1408 : Shape := ⟨2, ![256, 1408]⟩
abbrev S1408x1024 : Shape := ⟨2, ![1408, 1024]⟩
abbrev S1x1024x1408 : Shape := ⟨3, ![1, 1024, 1408]⟩
abbrev S1024x1408 : Shape := ⟨2, ![1024, 1408]⟩

abbrev nBuf : Space → Nat
  | .hbm => 77
  | .vmem => 25
  | .smem => 0
  | _ => 0

abbrev bufTy : (tb : Table) → Fin (tcTables nBuf tb) → BufTy
  | .hbm, ⟨0, _⟩ => ⟨S4352x1024, .f32⟩
  | .hbm, ⟨1, _⟩ => ⟨S2x2x16x1024, .f32⟩
  | .hbm, ⟨2, _⟩ => ⟨S2x1x1024, .f32⟩
  | .hbm, ⟨3, _⟩ => ⟨S1024x5632, .f32⟩
  | .hbm, ⟨4, _⟩ => ⟨S2816x1024, .f32⟩
  | .hbm, ⟨5, _⟩ => ⟨S4352x1024, .f32⟩
  | .hbm, ⟨6, _⟩ => ⟨S1x2x3x1024, .f32⟩
  | .hbm, ⟨7, _⟩ => ⟨S2x3x1024, .f32⟩
  | .hbm, ⟨8, _⟩ => ⟨S1x1x1024, .f32⟩
  | .hbm, ⟨9, _⟩ => ⟨S1x1024, .f32⟩
  | .hbm, ⟨10, _⟩ => ⟨S2x1x1024, .f32⟩
  | .hbm, ⟨11, _⟩ => ⟨S2x4x1024, .f32⟩
  | .hbm, ⟨12, _⟩ => ⟨S1x1x1024, .f32⟩
  | .hbm, ⟨13, _⟩ => ⟨S1024, .f32⟩
  | .hbm, ⟨14, _⟩ => ⟨S4096x1024, .f32⟩
  | .hbm, ⟨15, _⟩ => ⟨S1x1x1024, .f32⟩
  | .hbm, ⟨16, _⟩ => ⟨S1024, .f32⟩
  | .hbm, ⟨17, _⟩ => ⟨S256x1024, .f32⟩
  | .hbm, ⟨18, _⟩ => ⟨S4352x1024, .f32⟩
  | .hbm, ⟨19, _⟩ => ⟨S1x1x1024, .f32⟩
  | .hbm, ⟨20, _⟩ => ⟨S1024, .f32⟩
  | .hbm, ⟨21, _⟩ => ⟨S4096x1024, .f32⟩
  | .hbm, ⟨22, _⟩ => ⟨S1x1x1024, .f32⟩
  | .hbm, ⟨23, _⟩ => ⟨S1024, .f32⟩
  | .hbm, ⟨24, _⟩ => ⟨S256x1024, .f32⟩
  | .hbm, ⟨25, _⟩ => ⟨S4352x1024, .f32⟩
  | .hbm, ⟨26, _⟩ => ⟨S1x1x1024, .f32⟩
  | .hbm, ⟨27, _⟩ => ⟨S1024, .f32⟩
  | .hbm, ⟨28, _⟩ => ⟨S4096x1024, .f32⟩
  | .hbm, ⟨29, _⟩ => ⟨S1x1x1024, .f32⟩
  | .hbm, ⟨30, _⟩ => ⟨S1024, .f32⟩
  | .hbm, ⟨31, _⟩ => ⟨S256x1024, .f32⟩
  | .hbm, ⟨32, _⟩ => ⟨S4352x1024, .f32⟩
  | .hbm, ⟨33, _⟩ => ⟨S4352x1024, .f32⟩
  | .hbm, ⟨34, _⟩ => ⟨S_, .f32⟩
  | .hbm, ⟨35, _⟩ => ⟨S4352, .f32⟩
  | .hbm, ⟨36, _⟩ => ⟨S4352x1, .f32⟩
  | .hbm, ⟨37, _⟩ => ⟨S_, .f32⟩
  | .hbm, ⟨38, _⟩ => ⟨S4352x1, .f32⟩
  | .hbm, ⟨39, _⟩ => ⟨S4352x1, .f32⟩
  | .hbm, ⟨40, _⟩ => ⟨S_, .f32⟩
  | .hbm, ⟨41, _⟩ => ⟨S4352x1, .f32⟩
  | .hbm, ⟨42, _⟩ => ⟨S4352x1, .f32⟩
  | .hbm, ⟨43, _⟩ => ⟨S4352x1, .f32⟩
  | .hbm, ⟨44, _⟩ => ⟨S4352x1024, .f32⟩
  | .hbm, ⟨45, _⟩ => ⟨S4352x1024, .f32⟩
  | .hbm, ⟨46, _⟩ => ⟨S4352x1024, .f32⟩
  | .hbm, ⟨47, _⟩ => ⟨S_, .f32⟩
  | .hbm, ⟨48, _⟩ => ⟨S4352x1024, .f32⟩
  | .hbm, ⟨49, _⟩ => ⟨S4352x1024, .f32⟩
  | .hbm, ⟨50, _⟩ => ⟨S4352x1024, .f32⟩
  | .hbm, ⟨51, _⟩ => ⟨S4352x1024, .f32⟩
  | .hbm, ⟨52, _⟩ => ⟨S4352x5632, .f32⟩
  | .hbm, ⟨53, _⟩ => ⟨S4352x2816, .f32⟩
  | .hbm, ⟨54, _⟩ => ⟨S4352x2816, .f32⟩
  | .hbm, ⟨55, _⟩ => ⟨S4352x2816, .f32⟩
  | .hbm, ⟨56, _⟩ => ⟨S4352x2816, .f32⟩
  | .hbm, ⟨57, _⟩ => ⟨S_, .f32⟩
  | .hbm, ⟨58, _⟩ => ⟨S4352x2816, .f32⟩
  | .hbm, ⟨59, _⟩ => ⟨S4352x2816, .f32⟩
  | .hbm, ⟨60, _⟩ => ⟨S_, .f32⟩
  | .hbm, ⟨61, _⟩ => ⟨S4352x2816, .f32⟩
  | .hbm, ⟨62, _⟩ => ⟨S4352x2816, .f32⟩
  | .hbm, ⟨63, _⟩ => ⟨S4352x2816, .f32⟩
  | .hbm, ⟨64, _⟩ => ⟨S4352x2816, .f32⟩
  | .hbm, ⟨65, _⟩ => ⟨S4352x1024, .f32⟩
  | .hbm, ⟨66, _⟩ => ⟨S1024x4x1408, .f32⟩
  | .hbm, ⟨67, _⟩ => ⟨S4x1024x1408, .f32⟩
  | .hbm, ⟨68, _⟩ => ⟨S4x1024x1408, .bf16⟩
  | .hbm, ⟨69, _⟩ => ⟨S4352x5632, .bf16⟩
  | .hbm, ⟨70, _⟩ => ⟨S2816x1024, .bf16⟩
  | .hbm, ⟨71, _⟩ => ⟨S4352x1024, .f32⟩
  | .hbm, ⟨72, _⟩ => ⟨S4352x5632, .bf16⟩
  | .hbm, ⟨73, _⟩ => ⟨S4352x1024, .bf16⟩
  | .hbm, ⟨74, _⟩ => ⟨S4352x1024, .bf16⟩
  | .hbm, ⟨75, _⟩ => ⟨S4352x2816, .bf16⟩
  | .hbm, ⟨76, _⟩ => ⟨S2x8x1024, .f32⟩
  | .local _ .vmem, ⟨0, _⟩ => ⟨S256x1024, .f32⟩
  | .local _ .vmem, ⟨1, _⟩ => ⟨S256x1024, .f32⟩
  | .local _ .vmem, ⟨2, _⟩ => ⟨S256x5632, .bf16⟩
  | .local _ .vmem, ⟨3, _⟩ => ⟨S256x5632, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1x16x1024, .f32⟩
  | .local _ .vmem, ⟨9, _⟩ => ⟨S1x1x16x1024, .f32⟩
  | .local _ .vmem, ⟨10, _⟩ => ⟨S1x1x1024, .f32⟩
  | .local _ .vmem, ⟨11, _⟩ => ⟨S4x1024x1408, .bf16⟩
  | .local _ .vmem, ⟨12, _⟩ => ⟨S2816x1024, .bf16⟩
  | .local _ .vmem, ⟨13, _⟩ => ⟨S256x1024, .f32⟩
  | .local _ .vmem, ⟨14, _⟩ => ⟨S256x1024, .f32⟩
  | .local _ .vmem, ⟨15, _⟩ => ⟨S256x5632, .bf16⟩
  | .local _ .vmem, ⟨16, _⟩ => ⟨S256x5632, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x2816, .bf16⟩
  | .local _ .vmem, ⟨22, _⟩ => ⟨S256x2816, .bf16⟩
  | .local _ .vmem, ⟨23, _⟩ => ⟨S1x8x1024, .f32⟩
  | .local _ .vmem, ⟨24, _⟩ => ⟨S1x8x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst : Ref sig .tc := ⟨.hbm, 34, rfl⟩
abbrev main_v28 : Ref sig .tc := ⟨.hbm, 35, rfl⟩
abbrev main_v29 : Ref sig .tc := ⟨.hbm, 36, rfl⟩
abbrev main_cst_0 : Ref sig .tc := ⟨.hbm, 37, rfl⟩
abbrev main_v30 : Ref sig .tc := ⟨.hbm, 38, rfl⟩
abbrev main_v31 : Ref sig .tc := ⟨.hbm, 39, rfl⟩
abbrev main_cst_1 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_2 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53_0 : Ref sig .tc := ⟨.hbm, 71, rfl⟩
abbrev main_v53_1 : Ref sig .tc := ⟨.hbm, 72, rfl⟩
abbrev main_v53_2 : Ref sig .tc := ⟨.hbm, 73, rfl⟩
abbrev main_v53_3 : Ref sig .tc := ⟨.hbm, 74, rfl⟩
abbrev main_v53_4 : Ref sig .tc := ⟨.hbm, 75, rfl⟩
abbrev main_v53_5 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c16_i32 : BitVec 32 := 16#32
  let v0 : BitVec 1 := Scalar.cmpi .sge arg0 c16_i32
  let v1 : BitVec 32 := Scalar.extui v0
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c16_i32 : BitVec 32 := 16#32
  let v0 : BitVec 1 := Scalar.cmpi .sge arg0 c16_i32
  let v1 : BitVec 32 := Scalar.extui v0
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x1408 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== FfnBwdCRefIdeal.lean ====
abbrev S4352x1024 : Shape := ⟨2, ![4352, 1024]⟩
abbrev S2x2x16x1024 : Shape := ⟨4, ![2, 2, 16, 1024]⟩
abbrev S2x1x1024 : Shape := ⟨3, ![2, 1, 1024]⟩
abbrev S1024x5632 : Shape := ⟨2, ![1024, 5632]⟩
abbrev S2816x1024 : Shape := ⟨2, ![2816, 1024]⟩
abbrev S1x2x3x1024 : Shape := ⟨4, ![1, 2, 3, 1024]⟩
abbrev S2x3x1024 : Shape := ⟨3, ![2, 3, 1024]⟩
abbrev S1x1x1024 : Shape := ⟨3, ![1, 1, 1024]⟩
abbrev S1x1024 : Shape := ⟨2, ![1, 1024]⟩
abbrev S2x4x1024 : Shape := ⟨3, ![2, 4, 1024]⟩
abbrev S1024 : Shape := ⟨1, ![1024]⟩
abbrev S4096x1024 : Shape := ⟨2, ![4096, 1024]⟩
abbrev S256x1024 : Shape := ⟨2, ![256, 1024]⟩
abbrev S_ : Shape := ⟨0, ![]⟩
abbrev S4352 : Shape := ⟨1, ![4352]⟩
abbrev S4352x1 : Shape := ⟨2, ![4352, 1]⟩
abbrev S4352x5632 : Shape := ⟨2, ![4352, 5632]⟩
abbrev S4352x2816 : Shape := ⟨2, ![4352, 2816]⟩
abbrev S2x8x1024 : Shape := ⟨3, ![2, 8, 1024]⟩

abbrev nBuf : Space → Nat
  | .hbm => 185
  | .vmem => 0
  | .smem => 0
  | _ => 0

abbrev hbmTy0_0 (i : Nat) : BufTy := match i % 128 with
  | 0 => ⟨S4352x1024, .f32⟩
  | 1 => ⟨S2x2x16x1024, .f32⟩
  | 2 => ⟨S2x1x1024, .f32⟩
  | 3 => ⟨S1024x5632, .f32⟩
  | 4 => ⟨S2816x1024, .f32⟩
  | 5 => ⟨S4352x1024, .f32⟩
  | 6 => ⟨S1x2x3x1024, .f32⟩
  | 7 => ⟨S2x3x1024, .f32⟩
  | 8 => ⟨S1x1x1024, .f32⟩
  | 9 => ⟨S1x1024, .f32⟩
  | 10 => ⟨S2x1x1024, .f32⟩
  | 11 => ⟨S2x4x1024, .f32⟩
  | 12 => ⟨S1x1x1024, .f32⟩
  | 13 => ⟨S1024, .f32⟩
  | 14 => ⟨S4096x1024, .f32⟩
  | 15 => ⟨S1x1x1024, .f32⟩
  | 16 => ⟨S1024, .f32⟩
  | 17 => ⟨S256x1024, .f32⟩
  | 18 => ⟨S4352x1024, .f32⟩
  | 19 => ⟨S1x1x1024, .f32⟩
  | 20 => ⟨S1024, .f32⟩
  | 21 => ⟨S4096x1024, .f32⟩
  | 22 => ⟨S1x1x1024, .f32⟩
  | 23 => ⟨S1024, .f32⟩
  | 24 => ⟨S256x1024, .f32⟩
  | 25 => ⟨S4352x1024, .f32⟩
  | 26 => ⟨S1x1x1024, .f32⟩
  | 27 => ⟨S1024, .f32⟩
  | 28 => ⟨S4096x1024, .f32⟩
  | 29 => ⟨S1x1x1024, .f32⟩
  | 30 => ⟨S1024, .f32⟩
  | 31 => ⟨S256x1024, .f32⟩
  | 32 => ⟨S4352x1024, .f32⟩
  | 33 => ⟨S4352x1024, .f32⟩
  | 34 => ⟨S_, .f32⟩
  | 35 => ⟨S4352, .f32⟩
  | 36 => ⟨S4352x1, .f32⟩
  | 37 => ⟨S_, .f32⟩
  | 38 => ⟨S4352x1, .f32⟩
  | 39 => ⟨S4352x1, .f32⟩
  | 40 => ⟨S_, .f32⟩
  | 41 => ⟨S4352x1, .f32⟩
  | 42 => ⟨S4352x1, .f32⟩
  | 43 => ⟨S4352x1, .f32⟩
  | 44 => ⟨S4352x1, .f32⟩
  | 45 => ⟨S_, .f32⟩
  | 46 => ⟨S4352x1, .f32⟩
  | 47 => ⟨S4352x1, .f32⟩
  | 48 => ⟨S4352x1024, .f32⟩
  | 49 => ⟨S4352x1024, .f32⟩
  | 50 => ⟨S4352x1024, .f32⟩
  | 51 => ⟨S_, .f32⟩
  | 52 => ⟨S4352x1024, .f32⟩
  | 53 => ⟨S4352x1024, .f32⟩
  | 54 => ⟨S4352x1024, .f32⟩
  | 55 => ⟨S4352x1024, .f32⟩
  | 56 => ⟨S4352x5632, .f32⟩
  | 57 => ⟨S4352x2816, .f32⟩
  | 58 => ⟨S4352x2816, .f32⟩
  | 59 => ⟨S4352x2816, .f32⟩
  | 60 => ⟨S4352x2816, .f32⟩
  | 61 => ⟨S_, .f32⟩
  | 62 => ⟨S4352x2816, .f32⟩
  | 63 => ⟨S4352x2816, .f32⟩
  | 64 => ⟨S_, .f32⟩
  | 65 => ⟨S4352x2816, .f32⟩
  | 66 => ⟨S4352x2816, .f32⟩
  | 67 => ⟨S_, .f32⟩
  | 68 => ⟨S4352x2816, .f32⟩
  | 69 => ⟨S4352x2816, .f32⟩
  | 70 => ⟨S4352x2816, .f32⟩
  | 71 => ⟨S4352x2816, .f32⟩
  | 72 => ⟨S4352x2816, .f32⟩
  | 73 => ⟨S4352x1024, .f32⟩
  | 74 => ⟨S1x1x1024, .f32⟩
  | 75 => ⟨S1024, .f32⟩
  | 76 => ⟨S4096x1024, .f32⟩
  | 77 => ⟨S1x1x1024, .f32⟩
  | 78 => ⟨S1024, .f32⟩
  | 79 => ⟨S256x1024, .f32⟩
  | 80 => ⟨S4352x1024, .f32⟩
  | 81 => ⟨S_, .f32⟩
  | 82 => ⟨S4352x1024, .f32⟩
  | 83 => ⟨S4352x1024, .f32⟩
  | 84 => ⟨S4352x1024, .f32⟩
  | 85 => ⟨S4352x1024, .f32⟩
  | 86 => ⟨S4352x1024, .f32⟩
  | 87 => ⟨S4352x1024, .f32⟩
  | 88 => ⟨S4352x1024, .f32⟩
  | 89 => ⟨S_, .f32⟩
  | 90 => ⟨S4352x1024, .f32⟩
  | 91 => ⟨S4352x1024, .f32⟩
  | 92 => ⟨S4096x1024, .f32⟩
  | 93 => ⟨S256x1024, .f32⟩
  | 94 => ⟨S_, .f32⟩
  | 95 => ⟨S1024, .f32⟩
  | 96 => ⟨S1x1x1024, .f32⟩
  | 97 => ⟨S_, .f32⟩
  | 98 => ⟨S2x4x1024, .f32⟩
  | 99 => ⟨S_, .f32⟩
  | 100 => ⟨S1024, .f32⟩
  | 101 => ⟨S1x1x1024, .f32⟩
  | 102 => ⟨S_, .f32⟩
  | 103 => ⟨S2x4x1024, .f32⟩
  | 104 => ⟨S2x4x1024, .f32⟩
  | 105 => ⟨S4352x2816, .f32⟩
  | 106 => ⟨S4352x2816, .f32⟩
  | 107 => ⟨S4352x2816, .f32⟩
  | 108 => ⟨S4352x2816, .f32⟩
  | 109 => ⟨S4352x2816, .f32⟩
  | 110 => ⟨S4352x2816, .f32⟩
  | 111 => ⟨S4352x2816, .f32⟩
  | 112 => ⟨S4352x5632, .f32⟩
  | 113 => ⟨S4352x1024, .f32⟩
  | 114 => ⟨S4352x1024, .f32⟩
  | 115 => ⟨S4352x1024, .f32⟩
  | 116 => ⟨S4352x1024, .f32⟩
  | 117 => ⟨S4352x1024, .f32⟩
  | 118 => ⟨S4352x1024, .f32⟩
  | 119 => ⟨S_, .f32⟩
  | 120 => ⟨S4352, .f32⟩
  | 121 => ⟨S4352x1, .f32⟩
  | 122 => ⟨S4352x1024, .f32⟩
  | 123 => ⟨S4352x1024, .f32⟩
  | 124 => ⟨S4352x1, .f32⟩
  | 125 => ⟨S_, .f32⟩
  | 126 => ⟨S4352x1, .f32⟩
  | 127 => ⟨S4352x1, .f32⟩
  | _ => ⟨S4352x1024, .f32⟩

abbrev hbmTy0_1 (i : Nat) : BufTy := match i % 128 with
  | 0 => ⟨S_, .f32⟩
  | 1 => ⟨S4352, .f32⟩
  | 2 => ⟨S4352x1024, .f32⟩
  | 3 => ⟨S4352x1024, .f32⟩
  | 4 => ⟨S4352x1024, .f32⟩
  | 5 => ⟨S4352x1024, .f32⟩
  | 6 => ⟨S4352x1024, .f32⟩
  | 7 => ⟨S4096x1024, .f32⟩
  | 8 => ⟨S256x1024, .f32⟩
  | 9 => ⟨S_, .f32⟩
  | 10 => ⟨S1024, .f32⟩
  | 11 => ⟨S1x1x1024, .f32⟩
  | 12 => ⟨S_, .f32⟩
  | 13 => ⟨S2x4x1024, .f32⟩
  | 14 => ⟨S_, .f32⟩
  | 15 => ⟨S1024, .f32⟩
  | 16 => ⟨S1x1x1024, .f32⟩
  | 17 => ⟨S_, .f32⟩
  | 18 => ⟨S2x4x1024, .f32⟩
  | 19 => ⟨S2x4x1024, .f32⟩
  | 20 => ⟨S4096x1024, .f32⟩
  | 21 => ⟨S256x1024, .f32⟩
  | 22 => ⟨S_, .f32⟩
  | 23 => ⟨S1024, .f32⟩
  | 24 => ⟨S1x1x1024, .f32⟩
  | 25 => ⟨S_, .f32⟩
  | 26 => ⟨S2x4x1024, .f32⟩
  | 27 => ⟨S2x4x1024, .f32⟩
  | 28 => ⟨S_, .f32⟩
  | 29 => ⟨S1024, .f32⟩
  | 30 => ⟨S1x1x1024, .f32⟩
  | 31 => ⟨S_, .f32⟩
  | 32 => ⟨S2x4x1024, .f32⟩
  | 33 => ⟨S2x4x1024, .f32⟩
  | 34 => ⟨S4096x1024, .f32⟩
  | 35 => ⟨S256x1024, .f32⟩
  | 36 => ⟨S_, .f32⟩
  | 37 => ⟨S1024, .f32⟩
  | 38 => ⟨S1x1x1024, .f32⟩
  | 39 => ⟨S_, .f32⟩
  | 40 => ⟨S2x4x1024, .f32⟩
  | 41 => ⟨S2x4x1024, .f32⟩
  | 42 => ⟨S_, .f32⟩
  | 43 => ⟨S1024, .f32⟩
  | 44 => ⟨S1x1x1024, .f32⟩
  | 45 => ⟨S_, .f32⟩
  | 46 => ⟨S2x4x1024, .f32⟩
  | 47 => ⟨S2x4x1024, .f32⟩
  | 48 => ⟨S2x4x1024, .f32⟩
  | 49 => ⟨S_, .f32⟩
  | 50 => ⟨S2x4x1024, .f32⟩
  | 51 => ⟨S2x8x1024, .f32⟩
  | 52 => ⟨S4352x1024, .f32⟩
  | 53 => ⟨S4352x5632, .bf16⟩
  | 54 => ⟨S4352x1024, .bf16⟩
  | 55 => ⟨S4352x1024, .bf16⟩
  | 56 => ⟨S4352x2816, .bf16⟩
  | _ => ⟨S4352x1024, .f32⟩

abbrev hbmTy (i : Nat) : BufTy := match i / 128 with
  | 0 => hbmTy0_0 i
  | 1 => hbmTy0_1 i
  | _ => ⟨S4352x1024, .f32⟩

abbrev bufTy : (tb : Table) → Fin (tcTables nBuf tb) → BufTy
  | .hbm, ⟨i, _⟩ => hbmTy i
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst : Ref sig .tc := ⟨.hbm, 34, rfl⟩
abbrev main_v28 : Ref sig .tc := ⟨.hbm, 35, rfl⟩
abbrev main_v29 : Ref sig .tc := ⟨.hbm, 36, rfl⟩
abbrev main_cst_0 : Ref sig .tc := ⟨.hbm, 37, rfl⟩
abbrev main_v30 : Ref sig .tc := ⟨.hbm, 38, rfl⟩
abbrev main_v31 : Ref sig .tc := ⟨.hbm, 39, rfl⟩
abbrev main_cst_1 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_2 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_3 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_v48_2 : Ref sig .tc := ⟨.hbm, 66, rfl⟩
abbrev main_call0_cst_1 : Ref sig .tc := ⟨.hbm, 67, rfl⟩
abbrev main_call0_v6 : Ref sig .tc := ⟨.hbm, 68, rfl⟩
abbrev main_call0_v7 : Ref sig .tc := ⟨.hbm, 69, rfl⟩
abbrev main_v48_1 : Ref sig .tc := ⟨.hbm, 70, rfl⟩
abbrev main_v48_0 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_4 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_5 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_6 : Ref sig .tc := ⟨.hbm, 94, rfl⟩
abbrev main_v69 : Ref sig .tc := ⟨.hbm, 95, rfl⟩
abbrev main_v70 : Ref sig .tc := ⟨.hbm, 96, rfl⟩
abbrev main_cst_7 : Ref sig .tc := ⟨.hbm, 97, rfl⟩
abbrev main_v71 : Ref sig .tc := ⟨.hbm, 98, rfl⟩
abbrev main_cst_8 : Ref sig .tc := ⟨.hbm, 99, rfl⟩
abbrev main_v72 : Ref sig .tc := ⟨.hbm, 100, rfl⟩
abbrev main_v73 : Ref sig .tc := ⟨.hbm, 101, rfl⟩
abbrev main_cst_9 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_call1_v0 : Ref sig .tc := ⟨.hbm, 108, rfl⟩
abbrev main_call1_v1 : Ref sig .tc := ⟨.hbm, 109, rfl⟩
abbrev main_call1_v2 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_10 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_11 : Ref sig .tc := ⟨.hbm, 125, rfl⟩
abbrev main_v92 : Ref sig .tc := ⟨.hbm, 126, rfl⟩
abbrev main_v93 : Ref sig .tc := ⟨.hbm, 127, rfl⟩
abbrev main_cst_12 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_cst_13 : Ref sig .tc := ⟨.hbm, 137, rfl⟩
abbrev main_v102 : Ref sig .tc := ⟨.hbm, 138, rfl⟩
abbrev main_v103 : Ref sig .tc := ⟨.hbm, 139, rfl⟩
abbrev main_cst_14 : Ref sig .tc := ⟨.hbm, 140, rfl⟩
abbrev main_v104 : Ref sig .tc := ⟨.hbm, 141, rfl⟩
abbrev main_cst_15 : Ref sig .tc := ⟨.hbm, 142, rfl⟩
abbrev main_v105 : Ref sig .tc := ⟨.hbm, 143, rfl⟩
abbrev main_v106 : Ref sig .tc := ⟨.hbm, 144, rfl⟩
abbrev main_cst_16 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_cst_17 : Ref sig .tc := ⟨.hbm, 150, rfl⟩
abbrev main_v111 : Ref sig .tc := ⟨.hbm, 151, rfl⟩
abbrev main_v112 : Ref sig .tc := ⟨.hbm, 152, rfl⟩
abbrev main_cst_18 : Ref sig .tc := ⟨.hbm, 153, rfl⟩
abbrev main_v113 : Ref sig .tc := ⟨.hbm, 154, rfl⟩
abbrev main_v114 : Ref sig .tc := ⟨.hbm, 155, rfl⟩
abbrev main_cst_19 : Ref sig .tc := ⟨.hbm, 156, rfl⟩
abbrev main_v115 : Ref sig .tc := ⟨.hbm, 157, rfl⟩
abbrev main_v116 : Ref sig .tc := ⟨.hbm, 158, rfl⟩
abbrev main_cst_20 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_cst_21 : Ref sig .tc := ⟨.hbm, 164, rfl⟩
abbrev main_v121 : Ref sig .tc := ⟨.hbm, 165, rfl⟩
abbrev main_v122 : Ref sig .tc := ⟨.hbm, 166, rfl⟩
abbrev main_cst_22 : Ref sig .tc := ⟨.hbm, 167, rfl⟩
abbrev main_v123 : Ref sig .tc := ⟨.hbm, 168, rfl⟩
abbrev main_v124 : Ref sig .tc := ⟨.hbm, 169, rfl⟩
abbrev main_cst_23 : Ref sig .tc := ⟨.hbm, 170, rfl⟩
abbrev main_v125 : Ref sig .tc := ⟨.hbm, 171, rfl⟩
abbrev main_v126 : Ref sig .tc := ⟨.hbm, 172, rfl⟩
abbrev main_cst_24 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_cst_25 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩

abbrev nD : Nat := 1
abbrev τ : Topo := Topo.v7x

variable {F : FTy → Type} [FloatOps F]
-- ==== FfnBwdD.lean ====
abbrev S4352x1024 : Shape := ⟨2, ![4352, 1024]⟩
abbrev S2x2x16x1024 : Shape := ⟨4, ![2, 2, 16, 1024]⟩
abbrev S2x1x1024 : Shape := ⟨3, ![2, 1, 1024]⟩
abbrev S1024x5632 : Shape := ⟨2, ![1024, 5632]⟩
abbrev S2816x1024 : Shape := ⟨2, ![2816, 1024]⟩
abbrev S1x2x3x1024 : Shape := ⟨4, ![1, 2, 3, 1024]⟩
abbrev S2x3x1024 : Shape := ⟨3, ![2, 3, 1024]⟩
abbrev S1x1x1024 : Shape := ⟨3, ![1, 1, 1024]⟩
abbrev S1x1024 : Shape := ⟨2, ![1, 1024]⟩
abbrev S2x4x1024 : Shape := ⟨3, ![2, 4, 1024]⟩
abbrev S1024 : Shape := ⟨1, ![1024]⟩
abbrev S4096x1024 : Shape := ⟨2, ![4096, 1024]⟩
abbrev S256x1024 : Shape := ⟨2, ![256, 1024]⟩
abbrev S_ : Shape := ⟨0, ![]⟩
abbrev S4352 : Shape := ⟨1, ![4352]⟩
abbrev S4352x1 : Shape := ⟨2, ![4352, 1]⟩
abbrev S4352x5632 : Shape := ⟨2, ![4352, 5632]⟩
abbrev S4352x2816 : Shape := ⟨2, ![4352, 2816]⟩
abbrev S1024x4x1408 : Shape := ⟨3, ![1024, 4, 1408]⟩
abbrev S4x1024x1408 : Shape := ⟨3, ![4, 1024, 1408]⟩
abbrev S2x8x1024 : Shape := ⟨3, ![2, 8, 1024]⟩
abbrev S256x5632 : Shape := ⟨2, ![256, 5632]⟩
abbrev S1x1x16x1024 : Shape := ⟨4, ![1, 1, 16, 1024]⟩
abbrev S256x2816 : Shape := ⟨2, ![256, 2816]⟩
abbrev S1x8x1024 : Shape := ⟨3, ![1, 8, 1024]⟩
abbrev S8x1024 : Shape := ⟨2, ![8, 1024]⟩
abbrev S1x1x1x1024 : Shape := ⟨4, ![1, 1, 1, 1024]⟩
abbrev S256 : Shape := ⟨1, ![256]⟩
abbrev S256x1 : Shape := ⟨2, ![256, 1]⟩
abbrev S256x1408 : Shape := ⟨2, ![256, 1408]⟩
abbrev S1408x1024 : Shape := ⟨2, ![1408, 1024]⟩
abbrev S1x1024x1408 : Shape := ⟨3, ![1, 1024, 1408]⟩
abbrev S1024x1408 : Shape := ⟨2, ![1024, 1408]⟩

abbrev nBuf : Space → Nat
  | .hbm => 77
  | .vmem => 25
  | .smem => 0
  | _ => 0

abbrev bufTy : (tb : Table) → Fin (tcTables nBuf tb) → BufTy
  | .hbm, ⟨0, _⟩ => ⟨S4352x1024, .f32⟩
  | .hbm, ⟨1, _⟩ => ⟨S2x2x16x1024, .f32⟩
  | .hbm, ⟨2, _⟩ => ⟨S2x1x1024, .f32⟩
  | .hbm, ⟨3, _⟩ => ⟨S1024x5632, .f32⟩
  | .hbm, ⟨4, _⟩ => ⟨S2816x1024, .f32⟩
  | .hbm, ⟨5, _⟩ => ⟨S4352x1024, .f32⟩
  | .hbm, ⟨6, _⟩ => ⟨S1x2x3x1024, .f32⟩
  | .hbm, ⟨7, _⟩ => ⟨S2x3x1024, .f32⟩
  | .hbm, ⟨8, _⟩ => ⟨S1x1x1024, .f32⟩
  | .hbm, ⟨9, _⟩ => ⟨S1x1024, .f32⟩
  | .hbm, ⟨10, _⟩ => ⟨S2x1x1024, .f32⟩
  | .hbm, ⟨11, _⟩ => ⟨S2x4x1024, .f32⟩
  | .hbm, ⟨12, _⟩ => ⟨S1x1x1024, .f32⟩
  | .hbm, ⟨13, _⟩ => ⟨S1024, .f32⟩
  | .hbm, ⟨14, _⟩ => ⟨S4096x1024, .f32⟩
  | .hbm, ⟨15, _⟩ => ⟨S1x1x1024, .f32⟩
  | .hbm, ⟨16, _⟩ => ⟨S1024, .f32⟩
  | .hbm, ⟨17, _⟩ => ⟨S256x1024, .f32⟩
  | .hbm, ⟨18, _⟩ => ⟨S4352x1024, .f32⟩
  | .hbm, ⟨19, _⟩ => ⟨S1x1x1024, .f32⟩
  | .hbm, ⟨20, _⟩ => ⟨S1024, .f32⟩
  | .hbm, ⟨21, _⟩ => ⟨S4096x1024, .f32⟩
  | .hbm, ⟨22, _⟩ => ⟨S1x1x1024, .f32⟩
  | .hbm, ⟨23, _⟩ => ⟨S1024, .f32⟩
  | .hbm, ⟨24, _⟩ => ⟨S256x1024, .f32⟩
  | .hbm, ⟨25, _⟩ => ⟨S4352x1024, .f32⟩
  | .hbm, ⟨26, _⟩ => ⟨S1x1x1024, .f32⟩
  | .hbm, ⟨27, _⟩ => ⟨S1024, .f32⟩
  | .hbm, ⟨28, _⟩ => ⟨S4096x1024, .f32⟩
  | .hbm, ⟨29, _⟩ => ⟨S1x1x1024, .f32⟩
  | .hbm, ⟨30, _⟩ => ⟨S1024, .f32⟩
  | .hbm, ⟨31, _⟩ => ⟨S256x1024, .f32⟩
  | .hbm, ⟨32, _⟩ => ⟨S4352x1024, .f32⟩
  | .hbm, ⟨33, _⟩ => ⟨S4352x1024, .f32⟩
  | .hbm, ⟨34, _⟩ => ⟨S_, .f32⟩
  | .hbm, ⟨35, _⟩ => ⟨S4352, .f32⟩
  | .hbm, ⟨36, _⟩ => ⟨S4352x1, .f32⟩
  | .hbm, ⟨37, _⟩ => ⟨S_, .f32⟩
  | .hbm, ⟨38, _⟩ => ⟨S4352x1, .f32⟩
  | .hbm, ⟨39, _⟩ => ⟨S4352x1, .f32⟩
  | .hbm, ⟨40, _⟩ => ⟨S_, .f32⟩
  | .hbm, ⟨41, _⟩ => ⟨S4352x1, .f32⟩
  | .hbm, ⟨42, _⟩ => ⟨S4352x1, .f32⟩
  | .hbm, ⟨43, _⟩ => ⟨S4352x1, .f32⟩
  | .hbm, ⟨44, _⟩ => ⟨S4352x1024, .f32⟩
  | .hbm, ⟨45, _⟩ => ⟨S4352x1024, .f32⟩
  | .hbm, ⟨46, _⟩ => ⟨S4352x1024, .f32⟩
  | .hbm, ⟨47, _⟩ => ⟨S_, .f32⟩
  | .hbm, ⟨48, _⟩ => ⟨S4352x1024, .f32⟩
  | .hbm, ⟨49, _⟩ => ⟨S4352x1024, .f32⟩
  | .hbm, ⟨50, _⟩ => ⟨S4352x1024, .f32⟩
  | .hbm, ⟨51, _⟩ => ⟨S4352x1024, .f32⟩
  | .hbm, ⟨52, _⟩ => ⟨S4352x5632, .f32⟩
  | .hbm, ⟨53, _⟩ => ⟨S4352x2816, .f32⟩
  | .hbm, ⟨54, _⟩ => ⟨S4352x2816, .f32⟩
  | .hbm, ⟨55, _⟩ => ⟨S4352x2816, .f32⟩
  | .hbm, ⟨56, _⟩ => ⟨S4352x2816, .f32⟩
  | .hbm, ⟨57, _⟩ => ⟨S_, .f32⟩
  | .hbm, ⟨58, _⟩ => ⟨S4352x2816, .f32⟩
  | .hbm, ⟨59, _⟩ => ⟨S4352x2816, .f32⟩
  | .hbm, ⟨60, _⟩ => ⟨S_, .f32⟩
  | .hbm, ⟨61, _⟩ => ⟨S4352x2816, .f32⟩
  | .hbm, ⟨62, _⟩ => ⟨S4352x2816, .f32⟩
  | .hbm, ⟨63, _⟩ => ⟨S4352x2816, .f32⟩
  | .hbm, ⟨64, _⟩ => ⟨S4352x2816, .f32⟩
  | .hbm, ⟨65, _⟩ => ⟨S4352x1024, .f32⟩
  | .hbm, ⟨66, _⟩ => ⟨S1024x4x1408, .f32⟩
  | .hbm, ⟨67, _⟩ => ⟨S4x1024x1408, .f32⟩
  | .hbm, ⟨68, _⟩ => ⟨S4x1024x1408, .bf16⟩
  | .hbm, ⟨69, _⟩ => ⟨S4352x5632, .bf16⟩
  | .hbm, ⟨70, _⟩ => ⟨S2816x1024, .bf16⟩
  | .hbm, ⟨71, _⟩ => ⟨S4352x1024, .f32⟩
  | .hbm, ⟨72, _⟩ => ⟨S4352x5632, .bf16⟩
  | .hbm, ⟨73, _⟩ => ⟨S4352x1024, .bf16⟩
  | .hbm, ⟨74, _⟩ => ⟨S4352x1024, .bf16⟩
  | .hbm, ⟨75, _⟩ => ⟨S4352x2816, .bf16⟩
  | .hbm, ⟨76, _⟩ => ⟨S2x8x1024, .f32⟩
  | .local _ .vmem, ⟨0, _⟩ => ⟨S256x1024, .f32⟩
  | .local _ .vmem, ⟨1, _⟩ => ⟨S256x1024, .f32⟩
  | .local _ .vmem, ⟨2, _⟩ => ⟨S256x5632, .bf16⟩
  | .local _ .vmem, ⟨3, _⟩ => ⟨S256x5632, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1x16x1024, .f32⟩
  | .local _ .vmem, ⟨9, _⟩ => ⟨S1x1x16x1024, .f32⟩
  | .local _ .vmem, ⟨10, _⟩ => ⟨S1x1x1024, .f32⟩
  | .local _ .vmem, ⟨11, _⟩ => ⟨S4x1024x1408, .bf16⟩
  | .local _ .vmem, ⟨12, _⟩ => ⟨S2816x1024, .bf16⟩
  | .local _ .vmem, ⟨13, _⟩ => ⟨S256x1024, .f32⟩
  | .local _ .vmem, ⟨14, _⟩ => ⟨S256x1024, .f32⟩
  | .local _ .vmem, ⟨15, _⟩ => ⟨S256x5632, .bf16⟩
  | .local _ .vmem, ⟨16, _⟩ => ⟨S256x5632, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x2816, .bf16⟩
  | .local _ .vmem, ⟨22, _⟩ => ⟨S256x2816, .bf16⟩
  | .local _ .vmem, ⟨23, _⟩ => ⟨S1x8x1024, .f32⟩
  | .local _ .vmem, ⟨24, _⟩ => ⟨S1x8x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst : Ref sig .tc := ⟨.hbm, 34, rfl⟩
abbrev main_v28 : Ref sig .tc := ⟨.hbm, 35, rfl⟩
abbrev main_v29 : Ref sig .tc := ⟨.hbm, 36, rfl⟩
abbrev main_cst_0 : Ref sig .tc := ⟨.hbm, 37, rfl⟩
abbrev main_v30 : Ref sig .tc := ⟨.hbm, 38, rfl⟩
abbrev main_v31 : Ref sig .tc := ⟨.hbm, 39, rfl⟩
abbrev main_cst_1 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_2 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53_0 : Ref sig .tc := ⟨.hbm, 71, rfl⟩
abbrev main_v53_1 : Ref sig .tc := ⟨.hbm, 72, rfl⟩
abbrev main_v53_2 : Ref sig .tc := ⟨.hbm, 73, rfl⟩
abbrev main_v53_3 : Ref sig .tc := ⟨.hbm, 74, rfl⟩
abbrev main_v53_4 : Ref sig .tc := ⟨.hbm, 75, rfl⟩
abbrev main_v53_5 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c16_i32 : BitVec 32 := 16#32
  let v0 : BitVec 1 := Scalar.cmpi .sge arg0 c16_i32
  let v1 : BitVec 32 := Scalar.extui v0
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c16_i32 : BitVec 32 := 16#32
  let v0 : BitVec 1 := Scalar.cmpi .sge arg0 c16_i32
  let v1 : BitVec 32 := Scalar.extui v0
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x1408 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== FfnBwdDRefIdeal.lean ====
abbrev S4352x1024 : Shape := ⟨2, ![4352, 1024]⟩
abbrev S2x2x16x1024 : Shape := ⟨4, ![2, 2, 16, 1024]⟩
abbrev S2x1x1024 : Shape := ⟨3, ![2, 1, 1024]⟩
abbrev S1024x5632 : Shape := ⟨2, ![1024, 5632]⟩
abbrev S2816x1024 : Shape := ⟨2, ![2816, 1024]⟩
abbrev S1x2x3x1024 : Shape := ⟨4, ![1, 2, 3, 1024]⟩
abbrev S2x3x1024 : Shape := ⟨3, ![2, 3, 1024]⟩
abbrev S1x1x1024 : Shape := ⟨3, ![1, 1, 1024]⟩
abbrev S1x1024 : Shape := ⟨2, ![1, 1024]⟩
abbrev S2x4x1024 : Shape := ⟨3, ![2, 4, 1024]⟩
abbrev S1024 : Shape := ⟨1, ![1024]⟩
abbrev S4096x1024 : Shape := ⟨2, ![4096, 1024]⟩
abbrev S256x1024 : Shape := ⟨2, ![256, 1024]⟩
abbrev S_ : Shape := ⟨0, ![]⟩
abbrev S4352 : Shape := ⟨1, ![4352]⟩
abbrev S4352x1 : Shape := ⟨2, ![4352, 1]⟩
abbrev S4352x5632 : Shape := ⟨2, ![4352, 5632]⟩
abbrev S4352x2816 : Shape := ⟨2, ![4352, 2816]⟩
abbrev S2x8x1024 : Shape := ⟨3, ![2, 8, 1024]⟩

abbrev nBuf : Space → Nat
  | .hbm => 185
  | .vmem => 0
  | .smem => 0
  | _ => 0

abbrev hbmTy0_0 (i : Nat) : BufTy := match i % 128 with
  | 0 => ⟨S4352x1024, .f32⟩
  | 1 => ⟨S2x2x16x1024, .f32⟩
  | 2 => ⟨S2x1x1024, .f32⟩
  | 3 => ⟨S1024x5632, .f32⟩
  | 4 => ⟨S2816x1024, .f32⟩
  | 5 => ⟨S4352x1024, .f32⟩
  | 6 => ⟨S1x2x3x1024, .f32⟩
  | 7 => ⟨S2x3x1024, .f32⟩
  | 8 => ⟨S1x1x1024, .f32⟩
  | 9 => ⟨S1x1024, .f32⟩
  | 10 => ⟨S2x1x1024, .f32⟩
  | 11 => ⟨S2x4x1024, .f32⟩
  | 12 => ⟨S1x1x1024, .f32⟩
  | 13 => ⟨S1024, .f32⟩
  | 14 => ⟨S4096x1024, .f32⟩
  | 15 => ⟨S1x1x1024, .f32⟩
  | 16 => ⟨S1024, .f32⟩
  | 17 => ⟨S256x1024, .f32⟩
  | 18 => ⟨S4352x1024, .f32⟩
  | 19 => ⟨S1x1x1024, .f32⟩
  | 20 => ⟨S1024, .f32⟩
  | 21 => ⟨S4096x1024, .f32⟩
  | 22 => ⟨S1x1x1024, .f32⟩
  | 23 => ⟨S1024, .f32⟩
  | 24 => ⟨S256x1024, .f32⟩
  | 25 => ⟨S4352x1024, .f32⟩
  | 26 => ⟨S1x1x1024, .f32⟩
  | 27 => ⟨S1024, .f32⟩
  | 28 => ⟨S4096x1024, .f32⟩
  | 29 => ⟨S1x1x1024, .f32⟩
  | 30 => ⟨S1024, .f32⟩
  | 31 => ⟨S256x1024, .f32⟩
  | 32 => ⟨S4352x1024, .f32⟩
  | 33 => ⟨S4352x1024, .f32⟩
  | 34 => ⟨S_, .f32⟩
  | 35 => ⟨S4352, .f32⟩
  | 36 => ⟨S4352x1, .f32⟩
  | 37 => ⟨S_, .f32⟩
  | 38 => ⟨S4352x1, .f32⟩
  | 39 => ⟨S4352x1, .f32⟩
  | 40 => ⟨S_, .f32⟩
  | 41 => ⟨S4352x1, .f32⟩
  | 42 => ⟨S4352x1, .f32⟩
  | 43 => ⟨S4352x1, .f32⟩
  | 44 => ⟨S4352x1, .f32⟩
  | 45 => ⟨S_, .f32⟩
  | 46 => ⟨S4352x1, .f32⟩
  | 47 => ⟨S4352x1, .f32⟩
  | 48 => ⟨S4352x1024, .f32⟩
  | 49 => ⟨S4352x1024, .f32⟩
  | 50 => ⟨S4352x1024, .f32⟩
  | 51 => ⟨S_, .f32⟩
  | 52 => ⟨S4352x1024, .f32⟩
  | 53 => ⟨S4352x1024, .f32⟩
  | 54 => ⟨S4352x1024, .f32⟩
  | 55 => ⟨S4352x1024, .f32⟩
  | 56 => ⟨S4352x5632, .f32⟩
  | 57 => ⟨S4352x2816, .f32⟩
  | 58 => ⟨S4352x2816, .f32⟩
  | 59 => ⟨S4352x2816, .f32⟩
  | 60 => ⟨S4352x2816, .f32⟩
  | 61 => ⟨S_, .f32⟩
  | 62 => ⟨S4352x2816, .f32⟩
  | 63 => ⟨S4352x2816, .f32⟩
  | 64 => ⟨S_, .f32⟩
  | 65 => ⟨S4352x2816, .f32⟩
  | 66 => ⟨S4352x2816, .f32⟩
  | 67 => ⟨S_, .f32⟩
  | 68 => ⟨S4352x2816, .f32⟩
  | 69 => ⟨S4352x2816, .f32⟩
  | 70 => ⟨S4352x2816, .f32⟩
  | 71 => ⟨S4352x2816, .f32⟩
  | 72 => ⟨S4352x2816, .f32⟩
  | 73 => ⟨S4352x1024, .f32⟩
  | 74 => ⟨S1x1x1024, .f32⟩
  | 75 => ⟨S1024, .f32⟩
  | 76 => ⟨S4096x1024, .f32⟩
  | 77 => ⟨S1x1x1024, .f32⟩
  | 78 => ⟨S1024, .f32⟩
  | 79 => ⟨S256x1024, .f32⟩
  | 80 => ⟨S4352x1024, .f32⟩
  | 81 => ⟨S_, .f32⟩
  | 82 => ⟨S4352x1024, .f32⟩
  | 83 => ⟨S4352x1024, .f32⟩
  | 84 => ⟨S4352x1024, .f32⟩
  | 85 => ⟨S4352x1024, .f32⟩
  | 86 => ⟨S4352x1024, .f32⟩
  | 87 => ⟨S4352x1024, .f32⟩
  | 88 => ⟨S4352x1024, .f32⟩
  | 89 => ⟨S_, .f32⟩
  | 90 => ⟨S4352x1024, .f32⟩
  | 91 => ⟨S4352x1024, .f32⟩
  | 92 => ⟨S4096x1024, .f32⟩
  | 93 => ⟨S256x1024, .f32⟩
  | 94 => ⟨S_, .f32⟩
  | 95 => ⟨S1024, .f32⟩
  | 96 => ⟨S1x1x1024, .f32⟩
  | 97 => ⟨S_, .f32⟩
  | 98 => ⟨S2x4x1024, .f32⟩
  | 99 => ⟨S_, .f32⟩
  | 100 => ⟨S1024, .f32⟩
  | 101 => ⟨S1x1x1024, .f32⟩
  | 102 => ⟨S_, .f32⟩
  | 103 => ⟨S2x4x1024, .f32⟩
  | 104 => ⟨S2x4x1024, .f32⟩
  | 105 => ⟨S4352x2816, .f32⟩
  | 106 => ⟨S4352x2816, .f32⟩
  | 107 => ⟨S4352x2816, .f32⟩
  | 108 => ⟨S4352x2816, .f32⟩
  | 109 => ⟨S4352x2816, .f32⟩
  | 110 => ⟨S4352x2816, .f32⟩
  | 111 => ⟨S4352x2816, .f32⟩
  | 112 => ⟨S4352x5632, .f32⟩
  | 113 => ⟨S4352x1024, .f32⟩
  | 114 => ⟨S4352x1024, .f32⟩
  | 115 => ⟨S4352x1024, .f32⟩
  | 116 => ⟨S4352x1024, .f32⟩
  | 117 => ⟨S4352x1024, .f32⟩
  | 118 => ⟨S4352x1024, .f32⟩
  | 119 => ⟨S_, .f32⟩
  | 120 => ⟨S4352, .f32⟩
  | 121 => ⟨S4352x1, .f32⟩
  | 122 => ⟨S4352x1024, .f32⟩
  | 123 => ⟨S4352x1024, .f32⟩
  | 124 => ⟨S4352x1, .f32⟩
  | 125 => ⟨S_, .f32⟩
  | 126 => ⟨S4352x1, .f32⟩
  | 127 => ⟨S4352x1, .f32⟩
  | _ => ⟨S4352x1024, .f32⟩

abbrev hbmTy0_1 (i : Nat) : BufTy := match i % 128 with
  | 0 => ⟨S_, .f32⟩
  | 1 => ⟨S4352, .f32⟩
  | 2 => ⟨S4352x1024, .f32⟩
  | 3 => ⟨S4352x1024, .f32⟩
  | 4 => ⟨S4352x1024, .f32⟩
  | 5 => ⟨S4352x1024, .f32⟩
  | 6 => ⟨S4352x1024, .f32⟩
  | 7 => ⟨S4096x1024, .f32⟩
  | 8 => ⟨S256x1024, .f32⟩
  | 9 => ⟨S_, .f32⟩
  | 10 => ⟨S1024, .f32⟩
  | 11 => ⟨S1x1x1024, .f32⟩
  | 12 => ⟨S_, .f32⟩
  | 13 => ⟨S2x4x1024, .f32⟩
  | 14 => ⟨S_, .f32⟩
  | 15 => ⟨S1024, .f32⟩
  | 16 => ⟨S1x1x1024, .f32⟩
  | 17 => ⟨S_, .f32⟩
  | 18 => ⟨S2x4x1024, .f32⟩
  | 19 => ⟨S2x4x1024, .f32⟩
  | 20 => ⟨S4096x1024, .f32⟩
  | 21 => ⟨S256x1024, .f32⟩
  | 22 => ⟨S_, .f32⟩
  | 23 => ⟨S1024, .f32⟩
  | 24 => ⟨S1x1x1024, .f32⟩
  | 25 => ⟨S_, .f32⟩
  | 26 => ⟨S2x4x1024, .f32⟩
  | 27 => ⟨S2x4x1024, .f32⟩
  | 28 => ⟨S_, .f32⟩
  | 29 => ⟨S1024, .f32⟩
  | 30 => ⟨S1x1x1024, .f32⟩
  | 31 => ⟨S_, .f32⟩
  | 32 => ⟨S2x4x1024, .f32⟩
  | 33 => ⟨S2x4x1024, .f32⟩
  | 34 => ⟨S4096x1024, .f32⟩
  | 35 => ⟨S256x1024, .f32⟩
  | 36 => ⟨S_, .f32⟩
  | 37 => ⟨S1024, .f32⟩
  | 38 => ⟨S1x1x1024, .f32⟩
  | 39 => ⟨S_, .f32⟩
  | 40 => ⟨S2x4x1024, .f32⟩
  | 41 => ⟨S2x4x1024, .f32⟩
  | 42 => ⟨S_, .f32⟩
  | 43 => ⟨S1024, .f32⟩
  | 44 => ⟨S1x1x1024, .f32⟩
  | 45 => ⟨S_, .f32⟩
  | 46 => ⟨S2x4x1024, .f32⟩
  | 47 => ⟨S2x4x1024, .f32⟩
  | 48 => ⟨S2x4x1024, .f32⟩
  | 49 => ⟨S_, .f32⟩
  | 50 => ⟨S2x4x1024, .f32⟩
  | 51 => ⟨S2x8x1024, .f32⟩
  | 52 => ⟨S4352x1024, .f32⟩
  | 53 => ⟨S4352x5632, .bf16⟩
  | 54 => ⟨S4352x1024, .bf16⟩
  | 55 => ⟨S4352x1024, .bf16⟩
  | 56 => ⟨S4352x2816, .bf16⟩
  | _ => ⟨S4352x1024, .f32⟩

abbrev hbmTy (i : Nat) : BufTy := match i / 128 with
  | 0 => hbmTy0_0 i
  | 1 => hbmTy0_1 i
  | _ => ⟨S4352x1024, .f32⟩

abbrev bufTy : (tb : Table) → Fin (tcTables nBuf tb) → BufTy
  | .hbm, ⟨i, _⟩ => hbmTy i
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst : Ref sig .tc := ⟨.hbm, 34, rfl⟩
abbrev main_v28 : Ref sig .tc := ⟨.hbm, 35, rfl⟩
abbrev main_v29 : Ref sig .tc := ⟨.hbm, 36, rfl⟩
abbrev main_cst_0 : Ref sig .tc := ⟨.hbm, 37, rfl⟩
abbrev main_v30 : Ref sig .tc := ⟨.hbm, 38, rfl⟩
abbrev main_v31 : Ref sig .tc := ⟨.hbm, 39, rfl⟩
abbrev main_cst_1 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_2 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_3 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_v48_2 : Ref sig .tc := ⟨.hbm, 66, rfl⟩
abbrev main_call0_cst_1 : Ref sig .tc := ⟨.hbm, 67, rfl⟩
abbrev main_call0_v6 : Ref sig .tc := ⟨.hbm, 68, rfl⟩
abbrev main_call0_v7 : Ref sig .tc := ⟨.hbm, 69, rfl⟩
abbrev main_v48_1 : Ref sig .tc := ⟨.hbm, 70, rfl⟩
abbrev main_v48_0 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_4 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_5 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_6 : Ref sig .tc := ⟨.hbm, 94, rfl⟩
abbrev main_v69 : Ref sig .tc := ⟨.hbm, 95, rfl⟩
abbrev main_v70 : Ref sig .tc := ⟨.hbm, 96, rfl⟩
abbrev main_cst_7 : Ref sig .tc := ⟨.hbm, 97, rfl⟩
abbrev main_v71 : Ref sig .tc := ⟨.hbm, 98, rfl⟩
abbrev main_cst_8 : Ref sig .tc := ⟨.hbm, 99, rfl⟩
abbrev main_v72 : Ref sig .tc := ⟨.hbm, 100, rfl⟩
abbrev main_v73 : Ref sig .tc := ⟨.hbm, 101, rfl⟩
abbrev main_cst_9 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_call1_v0 : Ref sig .tc := ⟨.hbm, 108, rfl⟩
abbrev main_call1_v1 : Ref sig .tc := ⟨.hbm, 109, rfl⟩
abbrev main_call1_v2 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_10 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_11 : Ref sig .tc := ⟨.hbm, 125, rfl⟩
abbrev main_v92 : Ref sig .tc := ⟨.hbm, 126, rfl⟩
abbrev main_v93 : Ref sig .tc := ⟨.hbm, 127, rfl⟩
abbrev main_cst_12 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_cst_13 : Ref sig .tc := ⟨.hbm, 137, rfl⟩
abbrev main_v102 : Ref sig .tc := ⟨.hbm, 138, rfl⟩
abbrev main_v103 : Ref sig .tc := ⟨.hbm, 139, rfl⟩
abbrev main_cst_14 : Ref sig .tc := ⟨.hbm, 140, rfl⟩
abbrev main_v104 : Ref sig .tc := ⟨.hbm, 141, rfl⟩
abbrev main_cst_15 : Ref sig .tc := ⟨.hbm, 142, rfl⟩
abbrev main_v105 : Ref sig .tc := ⟨.hbm, 143, rfl⟩
abbrev main_v106 : Ref sig .tc := ⟨.hbm, 144, rfl⟩
abbrev main_cst_16 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_cst_17 : Ref sig .tc := ⟨.hbm, 150, rfl⟩
abbrev main_v111 : Ref sig .tc := ⟨.hbm, 151, rfl⟩
abbrev main_v112 : Ref sig .tc := ⟨.hbm, 152, rfl⟩
abbrev main_cst_18 : Ref sig .tc := ⟨.hbm, 153, rfl⟩
abbrev main_v113 : Ref sig .tc := ⟨.hbm, 154, rfl⟩
abbrev main_v114 : Ref sig .tc := ⟨.hbm, 155, rfl⟩
abbrev main_cst_19 : Ref sig .tc := ⟨.hbm, 156, rfl⟩
abbrev main_v115 : Ref sig .tc := ⟨.hbm, 157, rfl⟩
abbrev main_v116 : Ref sig .tc := ⟨.hbm, 158, rfl⟩
abbrev main_cst_20 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_cst_21 : Ref sig .tc := ⟨.hbm, 164, rfl⟩
abbrev main_v121 : Ref sig .tc := ⟨.hbm, 165, rfl⟩
abbrev main_v122 : Ref sig .tc := ⟨.hbm, 166, rfl⟩
abbrev main_cst_22 : Ref sig .tc := ⟨.hbm, 167, rfl⟩
abbrev main_v123 : Ref sig .tc := ⟨.hbm, 168, rfl⟩
abbrev main_v124 : Ref sig .tc := ⟨.hbm, 169, rfl⟩
abbrev main_cst_23 : Ref sig .tc := ⟨.hbm, 170, rfl⟩
abbrev main_v125 : Ref sig .tc := ⟨.hbm, 171, rfl⟩
abbrev main_v126 : Ref sig .tc := ⟨.hbm, 172, rfl⟩
abbrev main_cst_24 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_cst_25 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩

abbrev nD : Nat := 1
abbrev τ : Topo := Topo.v7x

variable {F : FTy → Type} [FloatOps F]
-- ==== AdamRow.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRowRefIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMod.lean ====
abbrev S2048x2304 : Shape := ⟨2, ![2048, 2304]⟩
abbrev S64x2304 : Shape := ⟨2, ![64, 2304]⟩

abbrev nBuf : Space → Nat
  | .hbm => 7
  | .vmem => 14
  | .smem => 0
  | _ => 0

abbrev bufTy : (tb : Table) → Fin (tcTables nBuf tb) → BufTy
  | .hbm, ⟨0, _⟩ => ⟨S2048x2304, .f32⟩
  | .hbm, ⟨1, _⟩ => ⟨S2048x2304, .f32⟩
  | .hbm, ⟨2, _⟩ => ⟨S2048x2304, .f32⟩
  | .hbm, ⟨3, _⟩ => ⟨S2048x2304, .f32⟩
  | .hbm, ⟨4, _⟩ => ⟨S2048x2304, .f32⟩
  | .hbm, ⟨5, _⟩ => ⟨S2048x2304, .f32⟩
  | .hbm, ⟨6, _⟩ => ⟨S2048x2304, .f32⟩
  | .local _ .vmem, ⟨0, _⟩ => ⟨S64x2304, .f32⟩
  | .local _ .vmem, ⟨1, _⟩ => ⟨S64x2304, .f32⟩
  | .local _ .vmem, ⟨2, _⟩ => ⟨S64x2304, .f32⟩
  | .local _ .vmem, ⟨3, _⟩ => ⟨S64x2304, .f32⟩
  | .local _ .vmem, ⟨4, _⟩ => ⟨S64x2304, .f32⟩
  | .local _ .vmem, ⟨5, _⟩ => ⟨S64x2304, .f32⟩
  | .local _ .vmem, ⟨6, _⟩ => ⟨S64x2304, .f32⟩
  | .local _ .vmem, ⟨7, _⟩ => ⟨S64x2304, .f32⟩
  | .local _ .vmem, ⟨8, _⟩ => ⟨S64x2304, .f32⟩
  | .local _ .vmem, ⟨9, _⟩ => ⟨S64x2304, .f32⟩
  | .local _ .vmem, ⟨10, _⟩ => ⟨S64x2304, .f32⟩
  | .local _ .vmem, ⟨11, _⟩ => ⟨S64x2304, .f32⟩
  | .local _ .vmem, ⟨12, _⟩ => ⟨S64x2304, .f32⟩
  | .local _ .vmem, ⟨13, _⟩ => ⟨S64x2304, .f32⟩
  | _, _ => ⟨S2048x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamModRefIdeal.lean ====
abbrev S2048x2304 : Shape := ⟨2, ![2048, 2304]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2304, .f32⟩
  | .hbm, ⟨1, _⟩ => ⟨S2048x2304, .f32⟩
  | .hbm, ⟨2, _⟩ => ⟨S2048x2304, .f32⟩
  | .hbm, ⟨3, _⟩ => ⟨S2048x2304, .f32⟩
  | .hbm, ⟨4, _⟩ => ⟨S_, .f32⟩
  | .hbm, ⟨5, _⟩ => ⟨S2048x2304, .f32⟩
  | .hbm, ⟨6, _⟩ => ⟨S2048x2304, .f32⟩
  | .hbm, ⟨7, _⟩ => ⟨S_, .f32⟩
  | .hbm, ⟨8, _⟩ => ⟨S2048x2304, .f32⟩
  | .hbm, ⟨9, _⟩ => ⟨S2048x2304, .f32⟩
  | .hbm, ⟨10, _⟩ => ⟨S2048x2304, .f32⟩
  | .hbm, ⟨11, _⟩ => ⟨S_, .f32⟩
  | .hbm, ⟨12, _⟩ => ⟨S2048x2304, .f32⟩
  | .hbm, ⟨13, _⟩ => ⟨S2048x2304, .f32⟩
  | .hbm, ⟨14, _⟩ => ⟨S2048x2304, .f32⟩
  | .hbm, ⟨15, _⟩ => ⟨S_, .f32⟩
  | .hbm, ⟨16, _⟩ => ⟨S2048x2304, .f32⟩
  | .hbm, ⟨17, _⟩ => ⟨S2048x2304, .f32⟩
  | .hbm, ⟨18, _⟩ => ⟨S2048x2304, .f32⟩
  | .hbm, ⟨19, _⟩ => ⟨S_, .f32⟩
  | .hbm, ⟨20, _⟩ => ⟨S2048x2304, .f32⟩
  | .hbm, ⟨21, _⟩ => ⟨S2048x2304, .f32⟩
  | .hbm, ⟨22, _⟩ => ⟨S_, .f32⟩
  | .hbm, ⟨23, _⟩ => ⟨S2048x2304, .f32⟩
  | .hbm, ⟨24, _⟩ => ⟨S2048x2304, .f32⟩
  | .hbm, ⟨25, _⟩ => ⟨S2048x2304, .f32⟩
  | .hbm, ⟨26, _⟩ => ⟨S_, .f32⟩
  | .hbm, ⟨27, _⟩ => ⟨S2048x2304, .f32⟩
  | .hbm, ⟨28, _⟩ => ⟨S2048x2304, .f32⟩
  | .hbm, ⟨29, _⟩ => ⟨S2048x2304, .f32⟩
  | .hbm, ⟨30, _⟩ => ⟨S_, .f32⟩
  | .hbm, ⟨31, _⟩ => ⟨S2048x2304, .f32⟩
  | .hbm, ⟨32, _⟩ => ⟨S2048x2304, .f32⟩
  | .hbm, ⟨33, _⟩ => ⟨S2048x2304, .f32⟩
  | .hbm, ⟨34, _⟩ => ⟨S_, .f32⟩
  | .hbm, ⟨35, _⟩ => ⟨S2048x2304, .f32⟩
  | .hbm, ⟨36, _⟩ => ⟨S2048x2304, .f32⟩
  | _, _ => ⟨S2048x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamBias.lean ====
abbrev S2x9216 : Shape := ⟨2, ![2, 9216]⟩

abbrev nBuf : Space → Nat
  | .hbm => 7
  | .vmem => 7
  | .smem => 0
  | _ => 0

abbrev bufTy : (tb : Table) → Fin (tcTables nBuf tb) → BufTy
  | .hbm, ⟨0, _⟩ => ⟨S2x9216, .f32⟩
  | .hbm, ⟨1, _⟩ => ⟨S2x9216, .f32⟩
  | .hbm, ⟨2, _⟩ => ⟨S2x9216, .f32⟩
  | .hbm, ⟨3, _⟩ => ⟨S2x9216, .f32⟩
  | .hbm, ⟨4, _⟩ => ⟨S2x9216, .f32⟩
  | .hbm, ⟨5, _⟩ => ⟨S2x9216, .f32⟩
  | .hbm, ⟨6, _⟩ => ⟨S2x9216, .f32⟩
  | .local _ .vmem, ⟨0, _⟩ => ⟨S2x9216, .f32⟩
  | .local _ .vmem, ⟨1, _⟩ => ⟨S2x9216, .f32⟩
  | .local _ .vmem, ⟨2, _⟩ => ⟨S2x9216, .f32⟩
  | .local _ .vmem, ⟨3, _⟩ => ⟨S2x9216, .f32⟩
  | .local _ .vmem, ⟨4, _⟩ => ⟨S2x9216, .f32⟩
  | .local _ .vmem, ⟨5, _⟩ => ⟨S2x9216, .f32⟩
  | .local _ .vmem, ⟨6, _⟩ => ⟨S2x9216, .f32⟩
  | _, _ => ⟨S2x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x9216 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x9216 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x9216 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x9216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x9216 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x9216 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x9216 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBiasRefIdeal.lean ====
abbrev S2x9216 : Shape := ⟨2, ![2, 9216]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x9216, .f32⟩
  | .hbm, ⟨1, _⟩ => ⟨S2x9216, .f32⟩
  | .hbm, ⟨2, _⟩ => ⟨S2x9216, .f32⟩
  | .hbm, ⟨3, _⟩ => ⟨S2x9216, .f32⟩
  | .hbm, ⟨4, _⟩ => ⟨S_, .f32⟩
  | .hbm, ⟨5, _⟩ => ⟨S2x9216, .f32⟩
  | .hbm, ⟨6, _⟩ => ⟨S2x9216, .f32⟩
  | .hbm, ⟨7, _⟩ => ⟨S_, .f32⟩
  | .hbm, ⟨8, _⟩ => ⟨S2x9216, .f32⟩
  | .hbm, ⟨9, _⟩ => ⟨S2x9216, .f32⟩
  | .hbm, ⟨10, _⟩ => ⟨S2x9216, .f32⟩
  | .hbm, ⟨11, _⟩ => ⟨S_, .f32⟩
  | .hbm, ⟨12, _⟩ => ⟨S2x9216, .f32⟩
  | .hbm, ⟨13, _⟩ => ⟨S2x9216, .f32⟩
  | .hbm, ⟨14, _⟩ => ⟨S2x9216, .f32⟩
  | .hbm, ⟨15, _⟩ => ⟨S_, .f32⟩
  | .hbm, ⟨16, _⟩ => ⟨S2x9216, .f32⟩
  | .hbm, ⟨17, _⟩ => ⟨S2x9216, .f32⟩
  | .hbm, ⟨18, _⟩ => ⟨S2x9216, .f32⟩
  | .hbm, ⟨19, _⟩ => ⟨S_, .f32⟩
  | .hbm, ⟨20, _⟩ => ⟨S2x9216, .f32⟩
  | .hbm, ⟨21, _⟩ => ⟨S2x9216, .f32⟩
  | .hbm, ⟨22, _⟩ => ⟨S_, .f32⟩
  | .hbm, ⟨23, _⟩ => ⟨S2x9216, .f32⟩
  | .hbm, ⟨24, _⟩ => ⟨S2x9216, .f32⟩
  | .hbm, ⟨25, _⟩ => ⟨S2x9216, .f32⟩
  | .hbm, ⟨26, _⟩ => ⟨S_, .f32⟩
  | .hbm, ⟨27, _⟩ => ⟨S2x9216, .f32⟩
  | .hbm, ⟨28, _⟩ => ⟨S2x9216, .f32⟩
  | .hbm, ⟨29, _⟩ => ⟨S2x9216, .f32⟩
  | .hbm, ⟨30, _⟩ => ⟨S_, .f32⟩
  | .hbm, ⟨31, _⟩ => ⟨S2x9216, .f32⟩
  | .hbm, ⟨32, _⟩ => ⟨S2x9216, .f32⟩
  | .hbm, ⟨33, _⟩ => ⟨S2x9216, .f32⟩
  | .hbm, ⟨34, _⟩ => ⟨S_, .f32⟩
  | .hbm, ⟨35, _⟩ => ⟨S2x9216, .f32⟩
  | .hbm, ⟨36, _⟩ => ⟨S2x9216, .f32⟩
  | _, _ => ⟨S2x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamNorm.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormRefIdeal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamPool.lean ====
abbrev S1024x128 : Shape := ⟨2, ![1024, 128]⟩

abbrev nBuf : Space → Nat
  | .hbm => 7
  | .vmem => 7
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamPoolRefIdeal.lean ====
abbrev S1024x128 : Shape := ⟨2, ![1024, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S_, .f32⟩
  | .hbm, ⟨5, _⟩ => ⟨S1024x128, .f32⟩
  | .hbm, ⟨6, _⟩ => ⟨S1024x128, .f32⟩
  | .hbm, ⟨7, _⟩ => ⟨S_, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S_, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S_, .f32⟩
  | .hbm, ⟨16, _⟩ => ⟨S1024x128, .f32⟩
  | .hbm, ⟨17, _⟩ => ⟨S1024x128, .f32⟩
  | .hbm, ⟨18, _⟩ => ⟨S1024x128, .f32⟩
  | .hbm, ⟨19, _⟩ => ⟨S_, .f32⟩
  | .hbm, ⟨20, _⟩ => ⟨S1024x128, .f32⟩
  | .hbm, ⟨21, _⟩ => ⟨S1024x128, .f32⟩
  | .hbm, ⟨22, _⟩ => ⟨S_, .f32⟩
  | .hbm, ⟨23, _⟩ => ⟨S1024x128, .f32⟩
  | .hbm, ⟨24, _⟩ => ⟨S1024x128, .f32⟩
  | .hbm, ⟨25, _⟩ => ⟨S1024x128, .f32⟩
  | .hbm, ⟨26, _⟩ => ⟨S_, .f32⟩
  | .hbm, ⟨27, _⟩ => ⟨S1024x128, .f32⟩
  | .hbm, ⟨28, _⟩ => ⟨S1024x128, .f32⟩
  | .hbm, ⟨29, _⟩ => ⟨S1024x128, .f32⟩
  | .hbm, ⟨30, _⟩ => ⟨S_, .f32⟩
  | .hbm, ⟨31, _⟩ => ⟨S1024x128, .f32⟩
  | .hbm, ⟨32, _⟩ => ⟨S1024x128, .f32⟩
  | .hbm, ⟨33, _⟩ => ⟨S1024x128, .f32⟩
  | .hbm, ⟨34, _⟩ => ⟨S_, .f32⟩
  | .hbm, ⟨35, _⟩ => ⟨S1024x128, .f32⟩
  | .hbm, ⟨36, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamScale.lean ====
abbrev S2x512 : Shape := ⟨2, ![2, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamScaleRefIdeal.lean ====
abbrev S2x512 : Shape := ⟨2, ![2, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S_, .f32⟩
  | .hbm, ⟨5, _⟩ => ⟨S2x512, .f32⟩
  | .hbm, ⟨6, _⟩ => ⟨S2x512, .f32⟩
  | .hbm, ⟨7, _⟩ => ⟨S_, .f32⟩
  | .hbm, ⟨8, _⟩ => ⟨S2x512, .f32⟩
  | .hbm, ⟨9, _⟩ => ⟨S2x512, .f32⟩
  | .hbm, ⟨10, _⟩ => ⟨S2x512, .f32⟩
  | .hbm, ⟨11, _⟩ => ⟨S_, .f32⟩
  | .hbm, ⟨12, _⟩ => ⟨S2x512, .f32⟩
  | .hbm, ⟨13, _⟩ => ⟨S2x512, .f32⟩
  | .hbm, ⟨14, _⟩ => ⟨S2x512, .f32⟩
  | .hbm, ⟨15, _⟩ => ⟨S_, .f32⟩
  | .hbm, ⟨16, _⟩ => ⟨S2x512, .f32⟩
  | .hbm, ⟨17, _⟩ => ⟨S2x512, .f32⟩
  | .hbm, ⟨18, _⟩ => ⟨S2x512, .f32⟩
  | .hbm, ⟨19, _⟩ => ⟨S_, .f32⟩
  | .hbm, ⟨20, _⟩ => ⟨S2x512, .f32⟩
  | .hbm, ⟨21, _⟩ => ⟨S2x512, .f32⟩
  | .hbm, ⟨22, _⟩ => ⟨S_, .f32⟩
  | .hbm, ⟨23, _⟩ => ⟨S2x512, .f32⟩
  | .hbm, ⟨24, _⟩ => ⟨S2x512, .f32⟩
  | .hbm, ⟨25, _⟩ => ⟨S2x512, .f32⟩
  | .hbm, ⟨26, _⟩ => ⟨S_, .f32⟩
  | .hbm, ⟨27, _⟩ => ⟨S2x512, .f32⟩
  | .hbm, ⟨28, _⟩ => ⟨S2x512, .f32⟩
  | .hbm, ⟨29, _⟩ => ⟨S2x512, .f32⟩
  | .hbm, ⟨30, _⟩ => ⟨S_, .f32⟩
  | .hbm, ⟨31, _⟩ => ⟨S2x512, .f32⟩
  | .hbm, ⟨32, _⟩ => ⟨S2x512, .f32⟩
  | .hbm, ⟨33, _⟩ => ⟨S2x512, .f32⟩
  | .hbm, ⟨34, _⟩ => ⟨S_, .f32⟩
  | .hbm, ⟨35, _⟩ => ⟨S2x512, .f32⟩
  | .hbm, ⟨36, _⟩ => ⟨S2x512, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSink.lean ====
abbrev S2x8 : Shape := ⟨2, ![2, 8]⟩

abbrev nBuf : Space → Nat
  | .hbm => 7
  | .vmem => 7
  | .smem => 0
  | _ => 0

abbrev bufTy : (tb : Table) → Fin (tcTables nBuf tb) → BufTy
  | .hbm, ⟨0, _⟩ => ⟨S2x8, .f32⟩
  | .hbm, ⟨1, _⟩ => ⟨S2x8, .f32⟩
  | .hbm, ⟨2, _⟩ => ⟨S2x8, .f32⟩
  | .hbm, ⟨3, _⟩ => ⟨S2x8, .f32⟩
  | .hbm, ⟨4, _⟩ => ⟨S2x8, .f32⟩
  | .hbm, ⟨5, _⟩ => ⟨S2x8, .f32⟩
  | .hbm, ⟨6, _⟩ => ⟨S2x8, .f32⟩
  | .local _ .vmem, ⟨0, _⟩ => ⟨S2x8, .f32⟩
  | .local _ .vmem, ⟨1, _⟩ => ⟨S2x8, .f32⟩
  | .local _ .vmem, ⟨2, _⟩ => ⟨S2x8, .f32⟩
  | .local _ .vmem, ⟨3, _⟩ => ⟨S2x8, .f32⟩
  | .local _ .vmem, ⟨4, _⟩ => ⟨S2x8, .f32⟩
  | .local _ .vmem, ⟨5, _⟩ => ⟨S2x8, .f32⟩
  | .local _ .vmem, ⟨6, _⟩ => ⟨S2x8, .f32⟩
  | _, _ => ⟨S2x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSinkRefIdeal.lean ====
abbrev S2x8 : Shape := ⟨2, ![2, 8]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x8, .f32⟩
  | .hbm, ⟨1, _⟩ => ⟨S2x8, .f32⟩
  | .hbm, ⟨2, _⟩ => ⟨S2x8, .f32⟩
  | .hbm, ⟨3, _⟩ => ⟨S2x8, .f32⟩
  | .hbm, ⟨4, _⟩ => ⟨S_, .f32⟩
  | .hbm, ⟨5, _⟩ => ⟨S2x8, .f32⟩
  | .hbm, ⟨6, _⟩ => ⟨S2x8, .f32⟩
  | .hbm, ⟨7, _⟩ => ⟨S_, .f32⟩
  | .hbm, ⟨8, _⟩ => ⟨S2x8, .f32⟩
  | .hbm, ⟨9, _⟩ => ⟨S2x8, .f32⟩
  | .hbm, ⟨10, _⟩ => ⟨S2x8, .f32⟩
  | .hbm, ⟨11, _⟩ => ⟨S_, .f32⟩
  | .hbm, ⟨12, _⟩ => ⟨S2x8, .f32⟩
  | .hbm, ⟨13, _⟩ => ⟨S2x8, .f32⟩
  | .hbm, ⟨14, _⟩ => ⟨S2x8, .f32⟩
  | .hbm, ⟨15, _⟩ => ⟨S_, .f32⟩
  | .hbm, ⟨16, _⟩ => ⟨S2x8, .f32⟩
  | .hbm, ⟨17, _⟩ => ⟨S2x8, .f32⟩
  | .hbm, ⟨18, _⟩ => ⟨S2x8, .f32⟩
  | .hbm, ⟨19, _⟩ => ⟨S_, .f32⟩
  | .hbm, ⟨20, _⟩ => ⟨S2x8, .f32⟩
  | .hbm, ⟨21, _⟩ => ⟨S2x8, .f32⟩
  | .hbm, ⟨22, _⟩ => ⟨S_, .f32⟩
  | .hbm, ⟨23, _⟩ => ⟨S2x8, .f32⟩
  | .hbm, ⟨24, _⟩ => ⟨S2x8, .f32⟩
  | .hbm, ⟨25, _⟩ => ⟨S2x8, .f32⟩
  | .hbm, ⟨26, _⟩ => ⟨S_, .f32⟩
  | .hbm, ⟨27, _⟩ => ⟨S2x8, .f32⟩
  | .hbm, ⟨28, _⟩ => ⟨S2x8, .f32⟩
  | .hbm, ⟨29, _⟩ => ⟨S2x8, .f32⟩
  | .hbm, ⟨30, _⟩ => ⟨S_, .f32⟩
  | .hbm, ⟨31, _⟩ => ⟨S2x8, .f32⟩
  | .hbm, ⟨32, _⟩ => ⟨S2x8, .f32⟩
  | .hbm, ⟨33, _⟩ => ⟨S2x8, .f32⟩
  | .hbm, ⟨34, _⟩ => ⟨S_, .f32⟩
  | .hbm, ⟨35, _⟩ => ⟨S2x8, .f32⟩
  | .hbm, ⟨36, _⟩ => ⟨S2x8, .f32⟩
  | _, _ => ⟨S2x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWide.lean ====
abbrev S2x1024x1408 : Shape := ⟨3, ![2, 1024, 1408]⟩
abbrev S1024x1408 : Shape := ⟨2, ![1024, 1408]⟩
abbrev S1x128x1408 : Shape := ⟨3, ![1, 128, 1408]⟩
abbrev S128x1408 : Shape := ⟨2, ![128, 1408]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x1408, .f32⟩
  | .hbm, ⟨1, _⟩ => ⟨S1024x1408, .f32⟩
  | .hbm, ⟨2, _⟩ => ⟨S1024x1408, .f32⟩
  | .hbm, ⟨3, _⟩ => ⟨S2x1024x1408, .f32⟩
  | .hbm, ⟨4, _⟩ => ⟨S2x1024x1408, .f32⟩
  | .hbm, ⟨5, _⟩ => ⟨S2x1024x1408, .f32⟩
  | .hbm, ⟨6, _⟩ => ⟨S2x1024x1408, .f32⟩
  | .hbm, ⟨7, _⟩ => ⟨S2x1024x1408, .f32⟩
  | .hbm, ⟨8, _⟩ => ⟨S2x1024x1408, .f32⟩
  | .local _ .vmem, ⟨0, _⟩ => ⟨S1x128x1408, .f32⟩
  | .local _ .vmem, ⟨1, _⟩ => ⟨S1x128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | .local _ .vmem, ⟨16, _⟩ => ⟨S1x128x1408, .f32⟩
  | .local _ .vmem, ⟨17, _⟩ => ⟨S1x128x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamWideRefIdeal.lean ====
abbrev S2x1024x1408 : Shape := ⟨3, ![2, 1024, 1408]⟩
abbrev S1024x1408 : Shape := ⟨2, ![1024, 1408]⟩
abbrev S1x1024x1408 : Shape := ⟨3, ![1, 1024, 1408]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S1024x1408, .f32⟩
  | .hbm, ⟨2, _⟩ => ⟨S1024x1408, .f32⟩
  | .hbm, ⟨3, _⟩ => ⟨S2x1024x1408, .f32⟩
  | .hbm, ⟨4, _⟩ => ⟨S2x1024x1408, .f32⟩
  | .hbm, ⟨5, _⟩ => ⟨S1x1024x1408, .f32⟩
  | .hbm, ⟨6, _⟩ => ⟨S1x1024x1408, .f32⟩
  | .hbm, ⟨7, _⟩ => ⟨S2x1024x1408, .f32⟩
  | .hbm, ⟨8, _⟩ => ⟨S_, .f32⟩
  | .hbm, ⟨9, _⟩ => ⟨S2x1024x1408, .f32⟩
  | .hbm, ⟨10, _⟩ => ⟨S2x1024x1408, .f32⟩
  | .hbm, ⟨11, _⟩ => ⟨S_, .f32⟩
  | .hbm, ⟨12, _⟩ => ⟨S2x1024x1408, .f32⟩
  | .hbm, ⟨13, _⟩ => ⟨S2x1024x1408, .f32⟩
  | .hbm, ⟨14, _⟩ => ⟨S2x1024x1408, .f32⟩
  | .hbm, ⟨15, _⟩ => ⟨S_, .f32⟩
  | .hbm, ⟨16, _⟩ => ⟨S2x1024x1408, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S2x1024x1408, .f32⟩
  | .hbm, ⟨23, _⟩ => ⟨S_, .f32⟩
  | .hbm, ⟨24, _⟩ => ⟨S2x1024x1408, .f32⟩
  | .hbm, ⟨25, _⟩ => ⟨S2x1024x1408, .f32⟩
  | .hbm, ⟨26, _⟩ => ⟨S_, .f32⟩
  | .hbm, ⟨27, _⟩ => ⟨S2x1024x1408, .f32⟩
  | .hbm, ⟨28, _⟩ => ⟨S2x1024x1408, .f32⟩
  | .hbm, ⟨29, _⟩ => ⟨S2x1024x1408, .f32⟩
  | .hbm, ⟨30, _⟩ => ⟨S_, .f32⟩
  | .hbm, ⟨31, _⟩ => ⟨S2x1024x1408, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | .hbm, ⟨37, _⟩ => ⟨S2x1024x1408, .f32⟩
  | .hbm, ⟨38, _⟩ => ⟨S_, .f32⟩
  | .hbm, ⟨39, _⟩ => ⟨S2x1024x1408, .f32⟩
  | .hbm, ⟨40, _⟩ => ⟨S2x1024x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamNarrow.lean ====
abbrev S2x704x1024 : Shape := ⟨3, ![2, 704, 1024]⟩
abbrev S704x1024 : Shape := ⟨2, ![704, 1024]⟩
abbrev S1x176x1024 : Shape := ⟨3, ![1, 176, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x704x1024, .f32⟩
  | .hbm, ⟨1, _⟩ => ⟨S704x1024, .f32⟩
  | .hbm, ⟨2, _⟩ => ⟨S704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamNarrowRefIdeal.lean ====
abbrev S2x704x1024 : Shape := ⟨3, ![2, 704, 1024]⟩
abbrev S704x1024 : Shape := ⟨2, ![704, 1024]⟩
abbrev S1x704x1024 : Shape := ⟨3, ![1, 704, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S704x1024, .f32⟩
  | .hbm, ⟨2, _⟩ => ⟨S704x1024, .f32⟩
  | .hbm, ⟨3, _⟩ => ⟨S2x704x1024, .f32⟩
  | .hbm, ⟨4, _⟩ => ⟨S2x704x1024, .f32⟩
  | .hbm, ⟨5, _⟩ => ⟨S1x704x1024, .f32⟩
  | .hbm, ⟨6, _⟩ => ⟨S1x704x1024, .f32⟩
  | .hbm, ⟨7, _⟩ => ⟨S2x704x1024, .f32⟩
  | .hbm, ⟨8, _⟩ => ⟨S_, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S2x704x1024, .f32⟩
  | .hbm, ⟨23, _⟩ => ⟨S_, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | .hbm, ⟨37, _⟩ => ⟨S2x704x1024, .f32⟩
  | .hbm, ⟨38, _⟩ => ⟨S_, .f32⟩
  | .hbm, ⟨39, _⟩ => ⟨S2x704x1024, .f32⟩
  | .hbm, ⟨40, _⟩ => ⟨S2x704x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamProj.lean ====
abbrev S2x1024x320 : Shape := ⟨3, ![2, 1024, 320]⟩
abbrev S1024x320 : Shape := ⟨2, ![1024, 320]⟩
abbrev S1x512x320 : Shape := ⟨3, ![1, 512, 320]⟩
abbrev S512x320 : Shape := ⟨2, ![512, 320]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x320, .f32⟩
  | .hbm, ⟨1, _⟩ => ⟨S1024x320, .f32⟩
  | .hbm, ⟨2, _⟩ => ⟨S1024x320, .f32⟩
  | .hbm, ⟨3, _⟩ => ⟨S2x1024x320, .f32⟩
  | .hbm, ⟨4, _⟩ => ⟨S2x1024x320, .f32⟩
  | .hbm, ⟨5, _⟩ => ⟨S2x1024x320, .f32⟩
  | .hbm, ⟨6, _⟩ => ⟨S2x1024x320, .f32⟩
  | .hbm, ⟨7, _⟩ => ⟨S2x1024x320, .f32⟩
  | .hbm, ⟨8, _⟩ => ⟨S2x1024x320, .f32⟩
  | .local _ .vmem, ⟨0, _⟩ => ⟨S1x512x320, .f32⟩
  | .local _ .vmem, ⟨1, _⟩ => ⟨S1x512x320, .f32⟩
  | .local _ .vmem, ⟨2, _⟩ => ⟨S512x320, .f32⟩
  | .local _ .vmem, ⟨3, _⟩ => ⟨S512x320, .f32⟩
  | .local _ .vmem, ⟨4, _⟩ => ⟨S512x320, .f32⟩
  | .local _ .vmem, ⟨5, _⟩ => ⟨S512x320, .f32⟩
  | .local _ .vmem, ⟨6, _⟩ => ⟨S1x512x320, .f32⟩
  | .local _ .vmem, ⟨7, _⟩ => ⟨S1x512x320, .f32⟩
  | .local _ .vmem, ⟨8, _⟩ => ⟨S1x512x320, .f32⟩
  | .local _ .vmem, ⟨9, _⟩ => ⟨S1x512x320, .f32⟩
  | .local _ .vmem, ⟨10, _⟩ => ⟨S1x512x320, .f32⟩
  | .local _ .vmem, ⟨11, _⟩ => ⟨S1x512x320, .f32⟩
  | .local _ .vmem, ⟨12, _⟩ => ⟨S1x512x320, .f32⟩
  | .local _ .vmem, ⟨13, _⟩ => ⟨S1x512x320, .f32⟩
  | .local _ .vmem, ⟨14, _⟩ => ⟨S1x512x320, .f32⟩
  | .local _ .vmem, ⟨15, _⟩ => ⟨S1x512x320, .f32⟩
  | .local _ .vmem, ⟨16, _⟩ => ⟨S1x512x320, .f32⟩
  | .local _ .vmem, ⟨17, _⟩ => ⟨S1x512x320, .f32⟩
  | _, _ => ⟨S2x1024x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x320 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x320 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x320 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x320 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x320 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x320 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamProjRefIdeal.lean ====
abbrev S2x1024x320 : Shape := ⟨3, ![2, 1024, 320]⟩
abbrev S1024x320 : Shape := ⟨2, ![1024, 320]⟩
abbrev S1x1024x320 : Shape := ⟨3, ![1, 1024, 320]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x320, .f32⟩
  | .hbm, ⟨1, _⟩ => ⟨S1024x320, .f32⟩
  | .hbm, ⟨2, _⟩ => ⟨S1024x320, .f32⟩
  | .hbm, ⟨3, _⟩ => ⟨S2x1024x320, .f32⟩
  | .hbm, ⟨4, _⟩ => ⟨S2x1024x320, .f32⟩
  | .hbm, ⟨5, _⟩ => ⟨S1x1024x320, .f32⟩
  | .hbm, ⟨6, _⟩ => ⟨S1x1024x320, .f32⟩
  | .hbm, ⟨7, _⟩ => ⟨S2x1024x320, .f32⟩
  | .hbm, ⟨8, _⟩ => ⟨S_, .f32⟩
  | .hbm, ⟨9, _⟩ => ⟨S2x1024x320, .f32⟩
  | .hbm, ⟨10, _⟩ => ⟨S2x1024x320, .f32⟩
  | .hbm, ⟨11, _⟩ => ⟨S_, .f32⟩
  | .hbm, ⟨12, _⟩ => ⟨S2x1024x320, .f32⟩
  | .hbm, ⟨13, _⟩ => ⟨S2x1024x320, .f32⟩
  | .hbm, ⟨14, _⟩ => ⟨S2x1024x320, .f32⟩
  | .hbm, ⟨15, _⟩ => ⟨S_, .f32⟩
  | .hbm, ⟨16, _⟩ => ⟨S2x1024x320, .f32⟩
  | .hbm, ⟨17, _⟩ => ⟨S2x1024x320, .f32⟩
  | .hbm, ⟨18, _⟩ => ⟨S2x1024x320, .f32⟩
  | .hbm, ⟨19, _⟩ => ⟨S_, .f32⟩
  | .hbm, ⟨20, _⟩ => ⟨S2x1024x320, .f32⟩
  | .hbm, ⟨21, _⟩ => ⟨S2x1024x320, .f32⟩
  | .hbm, ⟨22, _⟩ => ⟨S2x1024x320, .f32⟩
  | .hbm, ⟨23, _⟩ => ⟨S_, .f32⟩
  | .hbm, ⟨24, _⟩ => ⟨S2x1024x320, .f32⟩
  | .hbm, ⟨25, _⟩ => ⟨S2x1024x320, .f32⟩
  | .hbm, ⟨26, _⟩ => ⟨S_, .f32⟩
  | .hbm, ⟨27, _⟩ => ⟨S2x1024x320, .f32⟩
  | .hbm, ⟨28, _⟩ => ⟨S2x1024x320, .f32⟩
  | .hbm, ⟨29, _⟩ => ⟨S2x1024x320, .f32⟩
  | .hbm, ⟨30, _⟩ => ⟨S_, .f32⟩
  | .hbm, ⟨31, _⟩ => ⟨S2x1024x320, .f32⟩
  | .hbm, ⟨32, _⟩ => ⟨S2x1024x320, .f32⟩
  | .hbm, ⟨33, _⟩ => ⟨S2x1024x320, .f32⟩
  | .hbm, ⟨34, _⟩ => ⟨S_, .f32⟩
  | .hbm, ⟨35, _⟩ => ⟨S2x1024x320, .f32⟩
  | .hbm, ⟨36, _⟩ => ⟨S2x1024x320, .f32⟩
  | .hbm, ⟨37, _⟩ => ⟨S2x1024x320, .f32⟩
  | .hbm, ⟨38, _⟩ => ⟨S_, .f32⟩
  | .hbm, ⟨39, _⟩ => ⟨S2x1024x320, .f32⟩
  | .hbm, ⟨40, _⟩ => ⟨S2x1024x320, .f32⟩
  | _, _ => ⟨S2x1024x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamOut.lean ====
abbrev S2x256x1024 : Shape := ⟨3, ![2, 256, 1024]⟩
abbrev S256x1024 : Shape := ⟨2, ![256, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x256x1024, .f32⟩
  | .hbm, ⟨1, _⟩ => ⟨S256x1024, .f32⟩
  | .hbm, ⟨2, _⟩ => ⟨S256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamOutRefIdeal.lean ====
abbrev S2x256x1024 : Shape := ⟨3, ![2, 256, 1024]⟩
abbrev S256x1024 : Shape := ⟨2, ![256, 1024]⟩
abbrev S1x256x1024 : Shape := ⟨3, ![1, 256, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S256x1024, .f32⟩
  | .hbm, ⟨2, _⟩ => ⟨S256x1024, .f32⟩
  | .hbm, ⟨3, _⟩ => ⟨S2x256x1024, .f32⟩
  | .hbm, ⟨4, _⟩ => ⟨S2x256x1024, .f32⟩
  | .hbm, ⟨5, _⟩ => ⟨S1x256x1024, .f32⟩
  | .hbm, ⟨6, _⟩ => ⟨S1x256x1024, .f32⟩
  | .hbm, ⟨7, _⟩ => ⟨S2x256x1024, .f32⟩
  | .hbm, ⟨8, _⟩ => ⟨S_, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S2x256x1024, .f32⟩
  | .hbm, ⟨23, _⟩ => ⟨S_, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S2x256x1024, .f32⟩
  | .hbm, ⟨38, _⟩ => ⟨S_, .f32⟩
  | .hbm, ⟨39, _⟩ => ⟨S2x256x1024, .f32⟩
  | .hbm, ⟨40, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Proof.Mix.Points.lean ====
module

public import proofs.«01_k».proof.Proof.Gen.KernelIdeal.Frame
public import proofs.«01_k».proof.Proof.Gen.KernelIdeal.Skeleton

@[expose] public section

set_option maxRecDepth 16384

noncomputable section

namespace Cert.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional of the body is taken: the point is the first. -/
abbrev first (i : grid0.Coords) : Prop := (Scalar.cmpi .ne (Scalar.extui (Scalar.cmpi .eq (BitVec.ofNat 32 (i 0).val) 0#32)) 0#32) = 1#1

/-- The second conditional of the body is taken: the point is the first of the latent rows or of the context rows. -/
abbrev fresh (i : grid0.Coords) : Prop := (Scalar.cmpi .ne (Scalar.extui (Scalar.ori (Scalar.cmpi .eq (BitVec.ofNat 32 (i 0).val) 0#32) (Scalar.cmpi .eq (BitVec.ofNat 32 (i 0).val) 16#32))) 0#32) = 1#1

theorem first_iff : ∀ t : Fin cfg0.N, first (grid0.coords t) ↔ t.val = 0 := by decide +kernel
theorem fresh_iff : ∀ t : Fin cfg0.N, fresh (grid0.coords t) ↔ t.val % 16 = 0 := by decide +kernel

/-- Where the window of a point begins, in the part of the columns it is read from. -/
theorem off1_eq : ∀ i : grid0.Coords, k0_off1 i = ![min (256 * (i 0).val - 128) 3840, 0] := by decide +kernel
instance closedOff_off1 (i : grid0.Coords) : ClosedOff (k0_off1 i) := ⟨![min (256 * (i 0).val - 128) 3840, 0], off1_eq i⟩
/-- Where the window of a point begins, in the part of the columns it is read from. -/
theorem off3_eq : ∀ i : grid0.Coords, k0_off3 i = ![min (256 * (i 0).val - 128) 3840, 128] := by decide +kernel
instance closedOff_off3 (i : grid0.Coords) : ClosedOff (k0_off3 i) := ⟨![min (256 * (i 0).val - 128) 3840, 128], off3_eq i⟩
/-- Where the window of a point begins, in the part of the columns it is read from. -/
theorem off5_eq : ∀ i : grid0.Coords, k0_off5 i = ![min (256 * (i 0).val - 128) 3840, 256] := by decide +kernel
instance closedOff_off5 (i : grid0.Coords) : ClosedOff (k0_off5 i) := ⟨![min (256 * (i 0).val - 128) 3840, 256], off5_eq i⟩
/-- Where the window of a point begins, in the part of the columns it is read from. -/
theorem off7_eq : ∀ i : grid0.Coords, k0_off7 i = ![min (256 * (i 0).val - 128) 3840, 384] := by decide +kernel
instance closedOff_off7 (i : grid0.Coords) : ClosedOff (k0_off7 i) := ⟨![min (256 * (i 0).val - 128) 3840, 384], off7_eq i⟩
/-- Where the window of a point begins, in the part of the columns it is read from. -/
theorem off9_eq : ∀ i : grid0.Coords, k0_off9 i = ![min (256 * (i 0).val - 128) 3840, 0] := by decide +kernel
instance closedOff_off9 (i : grid0.Coords) : ClosedOff (k0_off9 i) := ⟨![min (256 * (i 0).val - 128) 3840, 0], off9_eq i⟩

end Cert.Mix

end
-- ==== Proof.Mix.RunA.lean ====
module

public import proofs.«01_k».proof.Proof.Mix.Points

@[expose] public section

set_option maxRecDepth 16384

noncomputable section

namespace Cert.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point: every accumulator is zeroed before it is added to, so that nothing of what the buffers held is read. The contents the buffers end with are what the run finds. -/
def runA (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x512 .bf16) (harg3 : arg3.IsWhole) (arg4 : Memref sig .tc .vmem S4352x128 .bf16) (harg4 : arg4.IsWhole) (arg5 : Memref sig .tc .vmem S4352x128 .bf16) (harg5 : arg5.IsWhole) (arg6 : Memref sig .tc .vmem S4352x512 .f32) (harg6 : arg6.IsWhole) (arg7 : Memref sig .tc .vmem S256x128 .f32) (harg7 : arg7.IsWhole) (arg8 : Memref sig .tc .vmem S1x4x128x128 .bf16) (harg8 : arg8.IsWhole) (arg9 : Memref sig .tc .vmem S1x1x512 .f32) (harg9 : arg9.IsWhole) (arg10 : Memref sig .tc .smem S2x8 .f32) (harg10 : arg10.IsWhole) (arg11 : Memref sig .tc .vmem S1024x1024 .bf16) (harg11 : arg11.IsWhole) (arg12 : Memref sig .tc .vmem S1x1x16x1024 .f32) (harg12 : arg12.IsWhole) (arg13 : Memref sig .tc .vmem S1x256x768 .f32) (harg13 : arg13.IsWhole) (arg14 : Memref sig .tc .vmem S1x4x256x512 .bf16) (harg14 : arg14.IsWhole) (arg15 : Memref sig .tc .vmem S1x4x512x256 .bf16) (harg15 : arg15.IsWhole) (arg16 : Memref sig .tc .vmem S1x256x128 .f32) (harg16 : arg16.IsWhole) (arg17 : Memref sig .tc .vmem S256x512 .f32) (harg17 : arg17.IsWhole) (arg18 : Memref sig .tc .vmem S4352x128 .f32) (harg18 : arg18.IsWhole) (arg19 : Memref sig .tc .vmem S4352x128 .f32) (harg19 : arg19.IsWhole) (arg20 : Memref sig .tc .vmem S4352x512 .f32) (harg20 : arg20.IsWhole) (arg21 : Memref sig .tc .vmem S256x1024 .bf16) (harg21 : arg21.IsWhole) (arg22 : Memref sig .tc .vmem S4x128x128 .f32) (harg22 : arg22.IsWhole) (arg23 : Memref sig .tc .vmem S8x512 .f32) (harg23 : arg23.IsWhole) (arg24 : Memref sig .tc .vmem S8x128 .f32) (harg24 : arg24.IsWhole) (arg25 : Memref sig .tc .vmem S1x8x1024 .f32) (harg25 : arg25.IsWhole)
    (hc0 : first i) (hc1 : fresh i)
    (x0 : Vec F S256x1024 .f32) (x1 : Vec F S256x1024 .f32) (x2 : Vec F S256x512 .bf16) (x3 : Vec F S4352x128 .bf16) (x4 : Vec F S4352x128 .bf16) (x5 : Vec F S4352x512 .f32) (x6 : Vec F S256x128 .f32) (x7 : Vec F S1x4x128x128 .bf16) (x8 : Vec F S1x1x512 .f32) (x9 : Vec F S2x8 .f32) (x10 : Vec F S1024x1024 .bf16) (x11 : Vec F S1x1x16x1024 .f32) (x12 : Vec F S1x256x768 .f32) (x13 : Vec F S1x4x256x512 .bf16) (x14 : Vec F S1x4x512x256 .bf16) (x15 : Vec F S1x256x128 .f32) :
    { W : Vec F S256x512 .f32 × Vec F S4352x128 .f32 × Vec F S4352x128 .f32 × Vec F S4352x512 .f32 × Vec F S256x1024 .bf16 × Vec F S4x128x128 .f32 × Vec F S8x512 .f32 × Vec F S8x128 .f32 × Vec F S1x8x1024 .f32 //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare W.1 ∗ owns (c : Thread nD τ) arg18 fullShare W.2.1 ∗ owns (c : Thread nD τ) arg19 fullShare W.2.2.1 ∗ owns (c : Thread nD τ) arg20 fullShare W.2.2.2.1 ∗ owns (c : Thread nD τ) arg21 fullShare W.2.2.2.2.1 ∗ owns (c : Thread nD τ) arg22 fullShare W.2.2.2.2.2.1 ∗ owns (c : Thread nD τ) arg23 fullShare W.2.2.2.2.2.2.1 ∗ owns (c : Thread nD τ) arg24 fullShare W.2.2.2.2.2.2.2.1 ∗ owns (c : Thread nD τ) arg25 fullShare W.2.2.2.2.2.2.2.2) -∗ K ⟨⟩))
          ⊢ wp frame (wpE (defs₀ (F := F)) Variants.none c none) E (cc0_mix_bwd_0 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨⟨?_, ?_, ?_, ?_, ?_, ?_, ?_, ?_, ?_⟩, fun E K => ?run⟩
  case run =>
    simp only [cc0_mix_bwd_0_eq_skeleton]; unfold cc0_mix_bwd_0_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec! (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; swap; · iexact H16
      ipureintro; rfl
    isplitl [H17]
    · iexists _; isplitr; swap; · iexact H17
      ipureintro; rfl
    isplitl [H18]
    · iexists _; isplitr; swap; · iexact H18
      ipureintro; rfl
    isplitl [H19]
    · iexists _; isplitr; swap; · iexact H19
      ipureintro; rfl
    isplitl [H20]
    · iexists _; isplitr; swap; · iexact H20
      ipureintro; rfl
    isplitl [H21]
    · iexists _; isplitr; swap; · iexact H21
      ipureintro; rfl
    isplitl [H22]
    · iexists _; isplitr; swap; · iexact H22
      ipureintro; rfl
    isplitl [H23]
    · iexists _; isplitr; swap; · iexact H23
      ipureintro; rfl
    iexists _; isplitr; swap; · iexact H24
    ipureintro; rfl

end Cert.Mix

end
-- ==== Proof.Mix.RunB.lean ====
module

public import proofs.«01_k».proof.Proof.Mix.RunA

@[expose] public section

set_option maxRecDepth 16384

noncomputable section

namespace Cert.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point of the context rows: the accumulator of the modulation gradients is zeroed, the others are added to. -/
def runB (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x512 .bf16) (harg3 : arg3.IsWhole) (arg4 : Memref sig .tc .vmem S4352x128 .bf16) (harg4 : arg4.IsWhole) (arg5 : Memref sig .tc .vmem S4352x128 .bf16) (harg5 : arg5.IsWhole) (arg6 : Memref sig .tc .vmem S4352x512 .f32) (harg6 : arg6.IsWhole) (arg7 : Memref sig .tc .vmem S256x128 .f32) (harg7 : arg7.IsWhole) (arg8 : Memref sig .tc .vmem S1x4x128x128 .bf16) (harg8 : arg8.IsWhole) (arg9 : Memref sig .tc .vmem S1x1x512 .f32) (harg9 : arg9.IsWhole) (arg10 : Memref sig .tc .smem S2x8 .f32) (harg10 : arg10.IsWhole) (arg11 : Memref sig .tc .vmem S1024x1024 .bf16) (harg11 : arg11.IsWhole) (arg12 : Memref sig .tc .vmem S1x1x16x1024 .f32) (harg12 : arg12.IsWhole) (arg13 : Memref sig .tc .vmem S1x256x768 .f32) (harg13 : arg13.IsWhole) (arg14 : Memref sig .tc .vmem S1x4x256x512 .bf16) (harg14 : arg14.IsWhole) (arg15 : Memref sig .tc .vmem S1x4x512x256 .bf16) (harg15 : arg15.IsWhole) (arg16 : Memref sig .tc .vmem S1x256x128 .f32) (harg16 : arg16.IsWhole) (arg17 : Memref sig .tc .vmem S256x512 .f32) (harg17 : arg17.IsWhole) (arg18 : Memref sig .tc .vmem S4352x128 .f32) (harg18 : arg18.IsWhole) (arg19 : Memref sig .tc .vmem S4352x128 .f32) (harg19 : arg19.IsWhole) (arg20 : Memref sig .tc .vmem S4352x512 .f32) (harg20 : arg20.IsWhole) (arg21 : Memref sig .tc .vmem S256x1024 .bf16) (harg21 : arg21.IsWhole) (arg22 : Memref sig .tc .vmem S4x128x128 .f32) (harg22 : arg22.IsWhole) (arg23 : Memref sig .tc .vmem S8x512 .f32) (harg23 : arg23.IsWhole) (arg24 : Memref sig .tc .vmem S8x128 .f32) (harg24 : arg24.IsWhole) (arg25 : Memref sig .tc .vmem S1x8x1024 .f32) (harg25 : arg25.IsWhole)
    (hc0 : ¬ first i) (hc1 : fresh i)
    (x0 : Vec F S256x1024 .f32) (x1 : Vec F S256x1024 .f32) (x2 : Vec F S256x512 .bf16) (x3 : Vec F S4352x128 .bf16) (x4 : Vec F S4352x128 .bf16) (x5 : Vec F S4352x512 .f32) (x6 : Vec F S256x128 .f32) (x7 : Vec F S1x4x128x128 .bf16) (x8 : Vec F S1x1x512 .f32) (x9 : Vec F S2x8 .f32) (x10 : Vec F S1024x1024 .bf16) (x11 : Vec F S1x1x16x1024 .f32) (x12 : Vec F S1x256x768 .f32) (x13 : Vec F S1x4x256x512 .bf16) (x14 : Vec F S1x4x512x256 .bf16) (x15 : Vec F S1x256x128 .f32)
    (y17 : Vec F S4352x128 .f32) (y18 : Vec F S4352x128 .f32) (y19 : Vec F S4352x512 .f32) (y21 : Vec F S4x128x128 .f32) (y22 : Vec F S8x512 .f32) (y23 : Vec F S8x128 .f32) :
    { W : Vec F S256x512 .f32 × Vec F S4352x128 .f32 × Vec F S4352x128 .f32 × Vec F S4352x512 .f32 × Vec F S256x1024 .bf16 × Vec F S4x128x128 .f32 × Vec F S8x512 .f32 × Vec F S8x128 .f32 × Vec F S1x8x1024 .f32 //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ owns (c : Thread nD τ) arg18 fullShare y17 ∗ owns (c : Thread nD τ) arg19 fullShare y18 ∗ owns (c : Thread nD τ) arg20 fullShare y19 ∗ (∃ d, owns (c : Thread nD τ) arg21 fullShare d) ∗ owns (c : Thread nD τ) arg22 fullShare y21 ∗ owns (c : Thread nD τ) arg23 fullShare y22 ∗ owns (c : Thread nD τ) arg24 fullShare y23 ∗ (∃ d, owns (c : Thread nD τ) arg25 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare W.1 ∗ owns (c : Thread nD τ) arg18 fullShare W.2.1 ∗ owns (c : Thread nD τ) arg19 fullShare W.2.2.1 ∗ owns (c : Thread nD τ) arg20 fullShare W.2.2.2.1 ∗ owns (c : Thread nD τ) arg21 fullShare W.2.2.2.2.1 ∗ owns (c : Thread nD τ) arg22 fullShare W.2.2.2.2.2.1 ∗ owns (c : Thread nD τ) arg23 fullShare W.2.2.2.2.2.2.1 ∗ owns (c : Thread nD τ) arg24 fullShare W.2.2.2.2.2.2.2.1 ∗ owns (c : Thread nD τ) arg25 fullShare W.2.2.2.2.2.2.2.2) -∗ K ⟨⟩))
          ⊢ wp frame (wpE (defs₀ (F := F)) Variants.none c none) E (cc0_mix_bwd_0 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨⟨?_, ?_, ?_, ?_, ?_, ?_, ?_, ?_, ?_⟩, fun E K => ?run⟩
  case run =>
    simp only [cc0_mix_bwd_0_eq_skeleton]; unfold cc0_mix_bwd_0_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%f17, %hf17, H17⟩, ⟨%f18, %hf18, H18⟩, ⟨%f19, %hf19, H19⟩, ⟨%d20, %f20, -, H20⟩, ⟨%f21, %hf21, H21⟩, ⟨%f22, %hf22, H22⟩, ⟨%f23, %hf23, H23⟩, ⟨%d24, %f24, -, H24⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg18.eq_unread hf17; obtain rfl := harg19.eq_unread hf18; obtain rfl := harg20.eq_unread hf19; obtain rfl := harg22.eq_unread hf21; obtain rfl := harg23.eq_unread hf22; obtain rfl := harg24.eq_unread hf23
    sl_exec! (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; swap; · iexact H16
      ipureintro; rfl
    isplitl [H17]
    · iexists _; isplitr; swap; · iexact H17
      ipureintro; rfl
    isplitl [H18]
    · iexists _; isplitr; swap; · iexact H18
      ipureintro; rfl
    isplitl [H19]
    · iexists _; isplitr; swap; · iexact H19
      ipureintro; rfl
    isplitl [H20]
    · iexists _; isplitr; swap; · iexact H20
      ipureintro; rfl
    isplitl [H21]
    · iexists _; isplitr; swap; · iexact H21
      ipureintro; rfl
    isplitl [H22]
    · iexists _; isplitr; swap; · iexact H22
      ipureintro; rfl
    isplitl [H23]
    · iexists _; isplitr; swap; · iexact H23
      ipureintro; rfl
    iexists _; isplitr; swap; · iexact H24
    ipureintro; rfl

end Cert.Mix

end
-- ==== Proof.Mix.RunC.lean ====
module

public import proofs.«01_k».proof.Proof.Mix.RunB

@[expose] public section

set_option maxRecDepth 16384

noncomputable section

namespace Cert.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at any other point: every accumulator is added to. -/
def runC (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x512 .bf16) (harg3 : arg3.IsWhole) (arg4 : Memref sig .tc .vmem S4352x128 .bf16) (harg4 : arg4.IsWhole) (arg5 : Memref sig .tc .vmem S4352x128 .bf16) (harg5 : arg5.IsWhole) (arg6 : Memref sig .tc .vmem S4352x512 .f32) (harg6 : arg6.IsWhole) (arg7 : Memref sig .tc .vmem S256x128 .f32) (harg7 : arg7.IsWhole) (arg8 : Memref sig .tc .vmem S1x4x128x128 .bf16) (harg8 : arg8.IsWhole) (arg9 : Memref sig .tc .vmem S1x1x512 .f32) (harg9 : arg9.IsWhole) (arg10 : Memref sig .tc .smem S2x8 .f32) (harg10 : arg10.IsWhole) (arg11 : Memref sig .tc .vmem S1024x1024 .bf16) (harg11 : arg11.IsWhole) (arg12 : Memref sig .tc .vmem S1x1x16x1024 .f32) (harg12 : arg12.IsWhole) (arg13 : Memref sig .tc .vmem S1x256x768 .f32) (harg13 : arg13.IsWhole) (arg14 : Memref sig .tc .vmem S1x4x256x512 .bf16) (harg14 : arg14.IsWhole) (arg15 : Memref sig .tc .vmem S1x4x512x256 .bf16) (harg15 : arg15.IsWhole) (arg16 : Memref sig .tc .vmem S1x256x128 .f32) (harg16 : arg16.IsWhole) (arg17 : Memref sig .tc .vmem S256x512 .f32) (harg17 : arg17.IsWhole) (arg18 : Memref sig .tc .vmem S4352x128 .f32) (harg18 : arg18.IsWhole) (arg19 : Memref sig .tc .vmem S4352x128 .f32) (harg19 : arg19.IsWhole) (arg20 : Memref sig .tc .vmem S4352x512 .f32) (harg20 : arg20.IsWhole) (arg21 : Memref sig .tc .vmem S256x1024 .bf16) (harg21 : arg21.IsWhole) (arg22 : Memref sig .tc .vmem S4x128x128 .f32) (harg22 : arg22.IsWhole) (arg23 : Memref sig .tc .vmem S8x512 .f32) (harg23 : arg23.IsWhole) (arg24 : Memref sig .tc .vmem S8x128 .f32) (harg24 : arg24.IsWhole) (arg25 : Memref sig .tc .vmem S1x8x1024 .f32) (harg25 : arg25.IsWhole)
    (hc0 : ¬ first i) (hc1 : ¬ fresh i)
    (x0 : Vec F S256x1024 .f32) (x1 : Vec F S256x1024 .f32) (x2 : Vec F S256x512 .bf16) (x3 : Vec F S4352x128 .bf16) (x4 : Vec F S4352x128 .bf16) (x5 : Vec F S4352x512 .f32) (x6 : Vec F S256x128 .f32) (x7 : Vec F S1x4x128x128 .bf16) (x8 : Vec F S1x1x512 .f32) (x9 : Vec F S2x8 .f32) (x10 : Vec F S1024x1024 .bf16) (x11 : Vec F S1x1x16x1024 .f32) (x12 : Vec F S1x256x768 .f32) (x13 : Vec F S1x4x256x512 .bf16) (x14 : Vec F S1x4x512x256 .bf16) (x15 : Vec F S1x256x128 .f32)
    (y17 : Vec F S4352x128 .f32) (y18 : Vec F S4352x128 .f32) (y19 : Vec F S4352x512 .f32) (y21 : Vec F S4x128x128 .f32) (y22 : Vec F S8x512 .f32) (y23 : Vec F S8x128 .f32) (y24 : Vec F S1x8x1024 .f32) :
    { W : Vec F S256x512 .f32 × Vec F S4352x128 .f32 × Vec F S4352x128 .f32 × Vec F S4352x512 .f32 × Vec F S256x1024 .bf16 × Vec F S4x128x128 .f32 × Vec F S8x512 .f32 × Vec F S8x128 .f32 × Vec F S1x8x1024 .f32 //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ owns (c : Thread nD τ) arg18 fullShare y17 ∗ owns (c : Thread nD τ) arg19 fullShare y18 ∗ owns (c : Thread nD τ) arg20 fullShare y19 ∗ (∃ d, owns (c : Thread nD τ) arg21 fullShare d) ∗ owns (c : Thread nD τ) arg22 fullShare y21 ∗ owns (c : Thread nD τ) arg23 fullShare y22 ∗ owns (c : Thread nD τ) arg24 fullShare y23 ∗ owns (c : Thread nD τ) arg25 fullShare y24
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare W.1 ∗ owns (c : Thread nD τ) arg18 fullShare W.2.1 ∗ owns (c : Thread nD τ) arg19 fullShare W.2.2.1 ∗ owns (c : Thread nD τ) arg20 fullShare W.2.2.2.1 ∗ owns (c : Thread nD τ) arg21 fullShare W.2.2.2.2.1 ∗ owns (c : Thread nD τ) arg22 fullShare W.2.2.2.2.2.1 ∗ owns (c : Thread nD τ) arg23 fullShare W.2.2.2.2.2.2.1 ∗ owns (c : Thread nD τ) arg24 fullShare W.2.2.2.2.2.2.2.1 ∗ owns (c : Thread nD τ) arg25 fullShare W.2.2.2.2.2.2.2.2) -∗ K ⟨⟩))
          ⊢ wp frame (wpE (defs₀ (F := F)) Variants.none c none) E (cc0_mix_bwd_0 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨⟨?_, ?_, ?_, ?_, ?_, ?_, ?_, ?_, ?_⟩, fun E K => ?run⟩
  case run =>
    simp only [cc0_mix_bwd_0_eq_skeleton]; unfold cc0_mix_bwd_0_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%f17, %hf17, H17⟩, ⟨%f18, %hf18, H18⟩, ⟨%f19, %hf19, H19⟩, ⟨%d20, %f20, -, H20⟩, ⟨%f21, %hf21, H21⟩, ⟨%f22, %hf22, H22⟩, ⟨%f23, %hf23, H23⟩, ⟨%f24, %hf24, H24⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg18.eq_unread hf17; obtain rfl := harg19.eq_unread hf18; obtain rfl := harg20.eq_unread hf19; obtain rfl := harg22.eq_unread hf21; obtain rfl := harg23.eq_unread hf22; obtain rfl := harg24.eq_unread hf23; obtain rfl := harg25.eq_unread hf24
    sl_exec! (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; swap; · iexact H16
      ipureintro; rfl
    isplitl [H17]
    · iexists _; isplitr; swap; · iexact H17
      ipureintro; rfl
    isplitl [H18]
    · iexists _; isplitr; swap; · iexact H18
      ipureintro; rfl
    isplitl [H19]
    · iexists _; isplitr; swap; · iexact H19
      ipureintro; rfl
    isplitl [H20]
    · iexists _; isplitr; swap; · iexact H20
      ipureintro; rfl
    isplitl [H21]
    · iexists _; isplitr; swap; · iexact H21
      ipureintro; rfl
    isplitl [H22]
    · iexists _; isplitr; swap; · iexact H22
      ipureintro; rfl
    isplitl [H23]
    · iexists _; isplitr; swap; · iexact H23
      ipureintro; rfl
    iexists _; isplitr; swap; · iexact H24
    ipureintro; rfl

end Cert.Mix

end
-- ==== Proof.Mix.Frame.lean ====
module

public import proofs.«01_k».proof.Proof.Mix.RunC
public import Idealize.ShloMosaic.Lib.Claim

@[expose] public section

set_option maxRecDepth 16384

noncomputable section

namespace Cert.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output buffers hold, point by point -/

/-- The contents of the nine output buffers. -/
abbrev Outs (F : FTy → Type) : Type := Vec F S256x512 .f32 × Vec F S4352x128 .f32 × Vec F S4352x128 .f32 × Vec F S4352x512 .f32 × Vec F S256x1024 .bf16 × Vec F S4x128x128 .f32 × Vec F S8x512 .f32 × Vec F S8x128 .f32 × Vec F S1x8x1024 .f32

theorem not_first {t : Fin cfg0.N} (h : ¬ t.val = 0) : ¬ first (grid0.coords t) := fun h' => h ((first_iff t).mp h')
theorem not_fresh {t : Fin cfg0.N} (h : ¬ t.val % 16 = 0) : ¬ fresh (grid0.coords t) := fun h' => h ((fresh_iff t).mp h')

/-- What the body leaves at the first point. -/
def outsA (c : Dev nD) (t : Fin cfg0.N) (h : t.val = 0) : Outs F :=
  (runA c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (st0_18 t) (hstage0_18 ((cfg0.slots t 18).cast nbuf0_18)) (st0_19 t) (hstage0_19 ((cfg0.slots t 19).cast nbuf0_19)) (st0_20 t) (hstage0_20 ((cfg0.slots t 20).cast nbuf0_20)) (st0_21 t) (hstage0_21 ((cfg0.slots t 21).cast nbuf0_21)) (st0_22 t) (hstage0_22 ((cfg0.slots t 22).cast nbuf0_22)) (st0_23 t) (hstage0_23 ((cfg0.slots t 23).cast nbuf0_23)) (st0_24 t) (hstage0_24 ((cfg0.slots t 24).cast nbuf0_24))
    ((first_iff t).mpr h) ((fresh_iff t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)).1

/-- What it leaves at the first point of the context rows, the accumulators having held `y`. -/
def outsB (c : Dev nD) (t : Fin cfg0.N) (h : ¬ t.val = 0) (h' : t.val % 16 = 0) (y : Outs F) : Outs F :=
  (runB c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (st0_18 t) (hstage0_18 ((cfg0.slots t 18).cast nbuf0_18)) (st0_19 t) (hstage0_19 ((cfg0.slots t 19).cast nbuf0_19)) (st0_20 t) (hstage0_20 ((cfg0.slots t 20).cast nbuf0_20)) (st0_21 t) (hstage0_21 ((cfg0.slots t 21).cast nbuf0_21)) (st0_22 t) (hstage0_22 ((cfg0.slots t 22).cast nbuf0_22)) (st0_23 t) (hstage0_23 ((cfg0.slots t 23).cast nbuf0_23)) (st0_24 t) (hstage0_24 ((cfg0.slots t 24).cast nbuf0_24))
    (not_first h) ((fresh_iff t).mpr h') (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    y.2.1 y.2.2.1 y.2.2.2.1 y.2.2.2.2.2.1 y.2.2.2.2.2.2.1 y.2.2.2.2.2.2.2.1).1

/-- What it leaves at any other point, the accumulators having held `y`. -/
def outsC (c : Dev nD) (t : Fin cfg0.N) (h : ¬ t.val = 0) (h' : ¬ t.val % 16 = 0) (y : Outs F) : Outs F :=
  (runC c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (st0_18 t) (hstage0_18 ((cfg0.slots t 18).cast nbuf0_18)) (st0_19 t) (hstage0_19 ((cfg0.slots t 19).cast nbuf0_19)) (st0_20 t) (hstage0_20 ((cfg0.slots t 20).cast nbuf0_20)) (st0_21 t) (hstage0_21 ((cfg0.slots t 21).cast nbuf0_21)) (st0_22 t) (hstage0_22 ((cfg0.slots t 22).cast nbuf0_22)) (st0_23 t) (hstage0_23 ((cfg0.slots t 23).cast nbuf0_23)) (st0_24 t) (hstage0_24 ((cfg0.slots t 24).cast nbuf0_24))
    (not_first h) (not_fresh h') (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    y.2.1 y.2.2.1 y.2.2.2.1 y.2.2.2.2.2.1 y.2.2.2.2.2.2.1 y.2.2.2.2.2.2.2.1 y.2.2.2.2.2.2.2.2).1

/-- What the output buffers hold after the body at point `n`. -/
def outsAt (c : Dev nD) : (n : ℕ) → n < cfg0.N → Outs F
  | 0, h => outsA m c ⟨0, h⟩ rfl
  | n + 1, h =>
    if h' : (n + 1) % 16 = 0 then outsB m c ⟨n + 1, h⟩ (Nat.succ_ne_zero n) h' (outsAt c n (Nat.lt_of_succ_lt h))
    else outsC m c ⟨n + 1, h⟩ (Nat.succ_ne_zero n) h' (outsAt c n (Nat.lt_of_succ_lt h))

theorem outsAt_A (c : Dev nD) (t : Fin cfg0.N) (h : t.val = 0) : outsAt m c t.val t.isLt = outsA m c t h := by
  obtain ⟨n, hn⟩ := t; cases h; rfl

theorem outsAt_B (c : Dev nD) (t : Fin cfg0.N) (h : ¬ t.val = 0) (h' : t.val % 16 = 0) :
    outsAt m c t.val t.isLt = outsB m c t h h' (outsAt m c (t.val - 1) (Nat.lt_of_le_of_lt (Nat.sub_le _ _) t.isLt)) := by
  obtain ⟨n, hn⟩ := t
  cases n with
  | zero => exact absurd rfl h
  | succ n => exact dif_pos h'

theorem outsAt_C (c : Dev nD) (t : Fin cfg0.N) (h : ¬ t.val = 0) (h' : ¬ t.val % 16 = 0) :
    outsAt m c t.val t.isLt = outsC m c t h h' (outsAt m c (t.val - 1) (Nat.lt_of_le_of_lt (Nat.sub_le _ _) t.isLt)) := by
  obtain ⟨n, hn⟩ := t
  cases n with
  | zero => exact absurd rfl h
  | succ n => exact dif_neg h'

/-! ## The pipeline's proof data -/

/-- The arrays as the region finds them; after the body each input's buffer at its block and the outputs at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (outsAt m c t.val t.isLt).1
    | ⟨17, _⟩ => (outsAt m c t.val t.isLt).2.1
    | ⟨18, _⟩ => (outsAt m c t.val t.isLt).2.2.1
    | ⟨19, _⟩ => (outsAt m c t.val t.isLt).2.2.2.1
    | ⟨20, _⟩ => (outsAt m c t.val t.isLt).2.2.2.2.1
    | ⟨21, _⟩ => (outsAt m c t.val t.isLt).2.2.2.2.2.1
    | ⟨22, _⟩ => (outsAt m c t.val t.isLt).2.2.2.2.2.2.1
    | ⟨23, _⟩ => (outsAt m c t.val t.isLt).2.2.2.2.2.2.2.1
    | ⟨24, _⟩ => (outsAt m c t.val t.isLt).2.2.2.2.2.2.2.2
    | ⟨n + 25, h⟩ => absurd (show n + 25 < 25 from h) (by omega)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = (outsAt m c t.val t.isLt).1 := by dsimp only [dats]
theorem after_17 (c : Dev nD) (t : Fin cfg0.N) : (dats m 0 c).after 17 t = (outsAt m c t.val t.isLt).2.1 := by dsimp only [dats]
theorem after_18 (c : Dev nD) (t : Fin cfg0.N) : (dats m 0 c).after 18 t = (outsAt m c t.val t.isLt).2.2.1 := by dsimp only [dats]
theorem after_19 (c : Dev nD) (t : Fin cfg0.N) : (dats m 0 c).after 19 t = (outsAt m c t.val t.isLt).2.2.2.1 := by dsimp only [dats]
theorem after_20 (c : Dev nD) (t : Fin cfg0.N) : (dats m 0 c).after 20 t = (outsAt m c t.val t.isLt).2.2.2.2.1 := by dsimp only [dats]
theorem after_21 (c : Dev nD) (t : Fin cfg0.N) : (dats m 0 c).after 21 t = (outsAt m c t.val t.isLt).2.2.2.2.2.1 := by dsimp only [dats]
theorem after_22 (c : Dev nD) (t : Fin cfg0.N) : (dats m 0 c).after 22 t = (outsAt m c t.val t.isLt).2.2.2.2.2.2.1 := by dsimp only [dats]
theorem after_23 (c : Dev nD) (t : Fin cfg0.N) : (dats m 0 c).after 23 t = (outsAt m c t.val t.isLt).2.2.2.2.2.2.2.1 := by dsimp only [dats]
theorem after_24 (c : Dev nD) (t : Fin cfg0.N) : (dats m 0 c).after 24 t = (outsAt m c t.val t.isLt).2.2.2.2.2.2.2.2 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d

/-- The window of the modulation gradients is written back after the last latent point, and at the last. -/
theorem flush_24 : ∀ t : Fin cfg0.N, (cfg0.win 24).flush t = true ↔ 15 ≤ t.val := by decide +kernel

/-- An accumulator holds what the point before left. -/
theorem before_17 (c : Dev nD) (t : Fin cfg0.N) (ht : ¬ t.val = 0) (d) :
    (dats m 0 c).before 17 t d = (outsAt m c (t.val - 1) (Nat.lt_of_le_of_lt (Nat.sub_le _ _) t.isLt)).2.1 :=
  ((dats m 0 c).before_out_kept 17 rfl t ht
    (Bool.eq_false_iff.mpr fun h => by
      have h1 := (flush0_17 _).mp h
      have h2 : t.val < 17 := lt_of_lt_of_eq t.isLt (show cfg0.N = 17 from N_0)
      dsimp only at h1; omega)
    (fun _ => rfl) (fun _ _ => rfl) d).trans (after_17 m c _)
theorem before_18 (c : Dev nD) (t : Fin cfg0.N) (ht : ¬ t.val = 0) (d) :
    (dats m 0 c).before 18 t d = (outsAt m c (t.val - 1) (Nat.lt_of_le_of_lt (Nat.sub_le _ _) t.isLt)).2.2.1 :=
  ((dats m 0 c).before_out_kept 18 rfl t ht
    (Bool.eq_false_iff.mpr fun h => by
      have h1 := (flush0_18 _).mp h
      have h2 : t.val < 17 := lt_of_lt_of_eq t.isLt (show cfg0.N = 17 from N_0)
      dsimp only at h1; omega)
    (fun _ => rfl) (fun _ _ => rfl) d).trans (after_18 m c _)
theorem before_19 (c : Dev nD) (t : Fin cfg0.N) (ht : ¬ t.val = 0) (d) :
    (dats m 0 c).before 19 t d = (outsAt m c (t.val - 1) (Nat.lt_of_le_of_lt (Nat.sub_le _ _) t.isLt)).2.2.2.1 :=
  ((dats m 0 c).before_out_kept 19 rfl t ht
    (Bool.eq_false_iff.mpr fun h => by
      have h1 := (flush0_19 _).mp h
      have h2 : t.val < 17 := lt_of_lt_of_eq t.isLt (show cfg0.N = 17 from N_0)
      dsimp only at h1; omega)
    (fun _ => rfl) (fun _ _ => rfl) d).trans (after_19 m c _)
theorem before_21 (c : Dev nD) (t : Fin cfg0.N) (ht : ¬ t.val = 0) (d) :
    (dats m 0 c).before 21 t d = (outsAt m c (t.val - 1) (Nat.lt_of_le_of_lt (Nat.sub_le _ _) t.isLt)).2.2.2.2.2.1 :=
  ((dats m 0 c).before_out_kept 21 rfl t ht
    (Bool.eq_false_iff.mpr fun h => by
      have h1 := (flush0_21 _).mp h
      have h2 : t.val < 17 := lt_of_lt_of_eq t.isLt (show cfg0.N = 17 from N_0)
      dsimp only at h1; omega)
    (fun _ => rfl) (fun _ _ => rfl) d).trans (after_21 m c _)
theorem before_22 (c : Dev nD) (t : Fin cfg0.N) (ht : ¬ t.val = 0) (d) :
    (dats m 0 c).before 22 t d = (outsAt m c (t.val - 1) (Nat.lt_of_le_of_lt (Nat.sub_le _ _) t.isLt)).2.2.2.2.2.2.1 :=
  ((dats m 0 c).before_out_kept 22 rfl t ht
    (Bool.eq_false_iff.mpr fun h => by
      have h1 := (flush0_22 _).mp h
      have h2 : t.val < 17 := lt_of_lt_of_eq t.isLt (show cfg0.N = 17 from N_0)
      dsimp only at h1; omega)
    (fun _ => rfl) (fun _ _ => rfl) d).trans (after_22 m c _)
theorem before_23 (c : Dev nD) (t : Fin cfg0.N) (ht : ¬ t.val = 0) (d) :
    (dats m 0 c).before 23 t d = (outsAt m c (t.val - 1) (Nat.lt_of_le_of_lt (Nat.sub_le _ _) t.isLt)).2.2.2.2.2.2.2.1 :=
  ((dats m 0 c).before_out_kept 23 rfl t ht
    (Bool.eq_false_iff.mpr fun h => by
      have h1 := (flush0_23 _).mp h
      have h2 : t.val < 17 := lt_of_lt_of_eq t.isLt (show cfg0.N = 17 from N_0)
      dsimp only at h1; omega)
    (fun _ => rfl) (fun _ _ => rfl) d).trans (after_23 m c _)
theorem before_24 (c : Dev nD) (t : Fin cfg0.N) (ht : ¬ t.val % 16 = 0) (d) :
    (dats m 0 c).before 24 t d = (outsAt m c (t.val - 1) (Nat.lt_of_le_of_lt (Nat.sub_le _ _) t.isLt)).2.2.2.2.2.2.2.2 :=
  ((dats m 0 c).before_out_kept 24 rfl t (fun h => ht (by omega))
    (Bool.eq_false_iff.mpr fun h => by
      have h1 := (flush_24 _).mp h
      have h2 : t.val < 17 := lt_of_lt_of_eq t.isLt (show cfg0.N = 17 from N_0)
      dsimp only at h1; omega)
    (fun _ => rfl) (fun _ _ => rfl) d).trans (after_24 m c _)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t))

set_option maxHeartbeats 4000000 in
/-- The body at any point: the inputs hold their blocks, the accumulators what the point before left, so the run of the
    point's case applies; the invariant passes through unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24]
  by_cases h0 : t.val = 0
  · have h1 : t.val % 16 = 0 := by omega
    rw [outsAt_A m c t h0]; unfold outsA
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
    iapply ((runA c (grid0.coords t) _ _ _ _ _ _ _ _ _ _ _ _ _ _ _ _ _ _ _ _ _ _ _ _ _ _ _ _ _ _ _ _ _ _ _ _ _ _ _ _ _ _ _ _ _ _ _ _ _ _ ((first_iff t).mpr h0) ((fresh_iff t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) ).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    iintro ⟨H0, H1, H2, H3, H4, H5, H6, H7, H8, H9, H10, H11, H12, H13, H14, H15, H16, H17, H18, H19, H20, H21, H22, H23, H24⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    iexact H24
  by_cases h1 : t.val % 16 = 0
  · simp only [before_17 m c t h0, before_18 m c t h0, before_19 m c t h0, before_21 m c t h0, before_22 m c t h0, before_23 m c t h0]
    rw [outsAt_B m c t h0 h1]; unfold outsB
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
    iapply ((runB c (grid0.coords t) _ _ _ _ _ _ _ _ _ _ _ _ _ _ _ _ _ _ _ _ _ _ _ _ _ _ _ _ _ _ _ _ _ _ _ _ _ _ _ _ _ _ _ _ _ _ _ _ _ _ (not_first h0) ((fresh_iff t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2.2.1 (outsAt m c (t.val - 1) (Nat.lt_of_le_of_lt (Nat.sub_le _ _) t.isLt)).2.2.2.2.2.2.1 (outsAt m c (t.val - 1) (Nat.lt_of_le_of_lt (Nat.sub_le _ _) t.isLt)).2.2.2.2.2.2.2.1).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexact H17
    isplitl [H18]; · iexact H18
    isplitl [H19]; · iexact H19
    isplitl [H20]; · iexists _; iexact H20
    isplitl [H21]; · iexact H21
    isplitl [H22]; · iexact H22
    isplitl [H23]; · iexact H23
    isplitl [H24]; · iexists _; iexact H24
    iintro ⟨H0, H1, H2, H3, H4, H5, H6, H7, H8, H9, H10, H11, H12, H13, H14, H15, H16, H17, H18, H19, H20, H21, H22, H23, H24⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    iexact H24
  · simp only [before_17 m c t h0, before_18 m c t h0, before_19 m c t h0, before_21 m c t h0, before_22 m c t h0, before_23 m c t h0, before_24 m c t h1]
    rw [outsAt_C m c t h0 h1]; unfold outsC
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
    iapply ((runC c (grid0.coords t) _ _ _ _ _ _ _ _ _ _ _ _ _ _ _ _ _ _ _ _ _ _ _ _ _ _ _ _ _ _ _ _ _ _ _ _ _ _ _ _ _ _ _ _ _ _ _ _ _ _ (not_first h0) (not_fresh h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2.1 (outsAt m c (t.val - 1) (Nat.lt_of_le_of_lt (Nat.sub_le _ _) t.isLt)).2.2.2.2.2.1 (outsAt m c (t.val - 1) (Nat.lt_of_le_of_lt (Nat.sub_le _ _) t.isLt)).2.2.2.2.2.2.1 (outsAt m c (t.val - 1) (Nat.lt_of_le_of_lt (Nat.sub_le _ _) t.isLt)).2.2.2.2.2.2.2.1 (outsAt m c (t.val - 1) (Nat.lt_of_le_of_lt (Nat.sub_le _ _) t.isLt)).2.2.2.2.2.2.2.2).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexact H17
    isplitl [H18]; · iexact H18
    isplitl [H19]; · iexact H19
    isplitl [H20]; · iexists _; iexact H20
    isplitl [H21]; · iexact H21
    isplitl [H22]; · iexact H22
    isplitl [H23]; · iexact H23
    isplitl [H24]; · iexact H24
    iintro ⟨H0, H1, H2, H3, H4, H5, H6, H7, H8, H9, H10, H11, H12, H13, H14, H15, H16, H17, H18, H19, H20, H21, H22, H23, H24⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    iexact H24

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every final state has each array at what the proof data say, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they began and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (dats m) (A_eq m) (run_main m ρ)) ((θ_run defs _ _).mono (fun _ h => h.2) (run_main_quiescent m ρ))

end Cert.Mix

end
-- ==== Proof.Mix.Claims.lean ====
module

public import proofs.«01_k».proof.Defs
public import proofs.«01_k».proof.Proof.Gen.Kernel
public import proofs.«01_k».proof.Proof.Mix.Frame

/-! The mixer's backward call: the frames of the program over machine floats and over extended reals, from one run. -/

@[expose] public section

set_option maxRecDepth 16384

noncomputable section

namespace Cert.Mix

open Idealize.ShloMosaic Idealize.ShloMosaic.TcCoe Idealize.SL.Sem Idealize.ShloMosaic.StableHlo

section Bits

set_option maxHeartbeats 8000000

variable {F : FTy → Type} [FloatOps F]

theorem defs₀_eq : Cert.Kernel.defs₀ (F := F) = Cert.KernelIdeal.defs₀ (F := F) := by
  unfold Cert.Kernel.defs₀ Cert.KernelIdeal.defs₀
  refine congrArg Defs.onTc (funext fun l => ?_)
  match l with
  | 0 => exact funext fun ⟨t, s⟩ => rfl
  | ⟨n + 1, h⟩ => exact absurd h (Nat.not_lt.2 (Nat.le_add_left _ _))

theorem defs_eq : Cert.Kernel.defs (F := F) = Cert.KernelIdeal.defs (F := F) := by
  unfold Cert.Kernel.defs Cert.KernelIdeal.defs
  rw [defs₀_eq]; rfl

theorem main_eq : Cert.Kernel.main (F := F) = Cert.KernelIdeal.main (F := F) := rfl

theorem frame_kernel : Cert.quiescent_Kernel := fun m ρ _ => by
  have h := Cert.Mix.frame (F := Bits) m ρ
  rw [← main_eq, ← defs_eq] at h
  exact h

end Bits

theorem frame_kernel_ideal : Cert.quiescent_KernelIdeal := fun m ρ _ => frame (F := Ideal) m ρ

end Cert.Mix

end
-- ==== Proof.Ffn.Spec.lean ====
module

public import Idealize.ShloMosaic.Lib.Pointwise

/-! One macaron half-step of the block, token by token, over the extended reals: the modulated norm, the two halves of
    the widening product, the gated activation, the narrowing product and the gated residual. No program is mentioned:
    the kernel's tiles and the reference's arrays are both read against these functions. -/

@[expose] public section

noncomputable section

namespace Macaron

open Idealize.ShloMosaic

/-- The mean of the squares of a token's 1024 channels, plus the norm's epsilon. -/
def power (x : Fin 1024 → EReal) : EReal :=
  Ideal.div (∑ k, x k * x k) (Ideal.ofBits FTy.f32 1149239296#32) + Ideal.ofBits FTy.f32 897988541#32

/-- A token normalised, scaled by the norm's weight `g`, and modulated by `scale` and `shift`. -/
def modNorm (x g shift scale : Fin 1024 → EReal) (k : Fin 1024) : EReal :=
  x k * Ideal.rsqrt (power x) * g k * (1 + scale k) + shift k

/-- The widening product of a token. -/
def widen (n : Fin 1024 → EReal) (w : Fin 1024 → Fin 5632 → EReal) (j : Fin 5632) : EReal := ∑ k, n k * w k j

/-- The gated activation: the first half of the widened token through `z · logistic z`, times the second half. -/
def gated (ab : Fin 5632 → EReal) (j : Fin 2816) : EReal :=
  ab ⟨j.val, by omega⟩ * Ideal.logistic (ab ⟨j.val, by omega⟩) * ab ⟨2816 + j.val, by omega⟩

/-- The narrowing product of a token. -/
def narrow (act : Fin 2816 → EReal) (w : Fin 2816 → Fin 1024 → EReal) (k : Fin 1024) : EReal := ∑ j, act j * w j k

/-- The half-step's residual: the token plus half the gate times the branch. -/
def residual (x gate f : Fin 1024 → EReal) (k : Fin 1024) : EReal :=
  x k + Ideal.ofBits FTy.f32 1056964608#32 * gate k * f k

/-- The narrowing product as two products over the halves of the inner axis, which is how the kernel accumulates it. -/
theorem narrow_halves (act : Fin 2816 → EReal) (w : Fin 2816 → Fin 1024 → EReal) (k : Fin 1024) :
    narrow act w k = ∑ j : Fin 1408, act ⟨j.val, by omega⟩ * w ⟨j.val, by omega⟩ k
      + ∑ j : Fin 1408, act ⟨1408 + j.val, by omega⟩ * w ⟨1408 + j.val, by omega⟩ k :=
  Fin.sum_univ_two_halves 1408 1408 rfl _

/-- The set of modulation parameters that a token takes: latent tokens the first, context tokens the second. -/
def stream (r : Fin 4352) : Fin 2 := if r.val < 4096 then 0 else 1

/-! The half-step of token `r` from whole arrays: the tokens, the modulation parameters (rows `0`, `1`, `2` of the token's
    set are shift, scale and gate), the norm's weight and the two weights of the branch. -/

variable (h : Fin 4352 → Fin 1024 → EReal) (mods : Fin 2 → Fin 3 → Fin 1024 → EReal) (g : Fin 1024 → EReal)
  (wi : Fin 1024 → Fin 5632 → EReal) (wo : Fin 2816 → Fin 1024 → EReal)

/-- Token `r` normalised and modulated. -/
def tokNorm (r : Fin 4352) : Fin 1024 → EReal := modNorm (h r) g (mods (stream r) 0) (mods (stream r) 1)

/-- Token `r` widened. -/
def tokWide (r : Fin 4352) : Fin 5632 → EReal := widen (tokNorm h mods g r) wi

/-- Token `r` through the branch. -/
def tokBranch (r : Fin 4352) : Fin 1024 → EReal := narrow (gated (tokWide h mods g wi r)) wo

/-- Token `r` after the half-step. -/
def tokOut (r : Fin 4352) : Fin 1024 → EReal := residual (h r) (mods (stream r) 2) (tokBranch h mods g wi wo r)

end Macaron
-- ==== Proof.Ffn.Block.lean ====
module

public import proofs.«01_k».proof.Proof.Gen.FfnIdeal.Value
public import Idealize.ShloMosaic.Lib.Pipeline.ValueKit
public import proofs.«01_k».proof.Proof.Ffn.Spec

/-! What one grid point of the forward half-step leaves in its three output blocks, token by token, as the functions of
    `Spec`, over the blocks it reads. -/

@[expose] public section

set_option maxRecDepth 16384

noncomputable section

namespace Macaron.Fwd

open Idealize.ShloMosaic Idealize.ShloMosaic.TcCoe Idealize.SL.Sem
open Cert.FfnIdeal Cert.FfnIdeal.Gen

section Blocks

variable (x0 : Vec Ideal S256x1024 .f32) (x1 : Vec Ideal S1x1x16x1024 .f32) (x2 : Vec Ideal S1x1x1024 .f32)
  (x3 : Vec Ideal S4x1024x1408 .bf16) (x4 : Vec Ideal S2816x1024 .bf16)

/-- Token `r` of the block, normalised and modulated. -/
def bn (r : Fin 256) : Fin 1024 → EReal :=
  modNorm (fun k => x0 (ix2 r k)) (fun k => x2 (ix3 0 0 k)) (fun k => x1 (ix4 0 0 0 k)) fun k => x1 (ix4 0 0 1 k)

/-- The widening weight as the block holds it: four slots of 1408 columns. -/
def bw (k : Fin 1024) (j : Fin 5632) : EReal := x3 (ix3 ⟨j.val / 1408, by omega⟩ k ⟨j.val % 1408, by omega⟩)

/-- Token `r` of the block, widened. -/
def bab (r : Fin 256) : Fin 5632 → EReal := widen (bn x0 x1 x2 r) (bw x3)

/-- Token `r` of the block through the whole branch. -/
def bf (r : Fin 256) : Fin 1024 → EReal := narrow (gated (bab x0 x1 x2 x3 r)) fun j k => x4 (ix2 j k)

theorem widen_slot (n : Fin 1024 → EReal) (s : Fin 4) (j : Fin 1408) (i : Fin 5632) (hi : i.val = 1408 * s.val + j.val) :
    widen n (bw x3) i = ∑ k, n k * x3 (ix3 s k j) := by
  refine Finset.sum_congr rfl fun k _ => congrArg (n k * x3 ·) ?_
  have h1 : (⟨i.val / 1408, by omega⟩ : Fin 4) = s := Fin.ext (by show i.val / 1408 = s.val; omega)
  have h2 : (⟨i.val % 1408, by omega⟩ : Fin 1408) = j := Fin.ext (by show i.val % 1408 = j.val; omega)
  rw [h1, h2]

theorem n_at (r : Fin 256) (k : Fin 1024) : k0_pay13 x0 x1 x2 x3 x4 (ix2 r k) = bn x0 x1 x2 r k := by
  unfold k0_pay13
  pointwise [k0_pay2]
  rfl

theorem a0_at (r : Fin 256) (j : Fin 1408) :
    k0_pay15 x0 x1 x2 x3 x4 (ix2 r j) = bab x0 x1 x2 x3 r ⟨j.val, by omega⟩ := by
  have h : k0_pay15 x0 x1 x2 x3 x4 (ix2 r j) = ∑ k, k0_pay13 x0 x1 x2 x3 x4 (ix2 r k) * x3 (ix3 0 k j) := by
    unfold k0_pay15 k0_pay13
    pointwise [k0_pay4]
  rw [h]
  simp only [n_at]
  exact (widen_slot x3 _ 0 j _ (by simp)).symm

theorem b0_at (r : Fin 256) (j : Fin 1408) :
    k0_pay16 x0 x1 x2 x3 x4 (ix2 r j) = bab x0 x1 x2 x3 r ⟨2816 + j.val, by omega⟩ := by
  have h : k0_pay16 x0 x1 x2 x3 x4 (ix2 r j) = ∑ k, k0_pay13 x0 x1 x2 x3 x4 (ix2 r k) * x3 (ix3 2 k j) := by
    unfold k0_pay16 k0_pay13
    pointwise [k0_pay5]
  rw [h]
  simp only [n_at]
  exact (widen_slot x3 _ 2 j _ (by simp)).symm

theorem a1_at (r : Fin 256) (j : Fin 1408) :
    k0_pay8 (k0_pay13 x0 x1 x2 x3 x4) (View.ld x3 r0_9) (ix2 r j) = bab x0 x1 x2 x3 r ⟨1408 + j.val, by omega⟩ := by
  pointwise [k0_pay8]
  simp only [n_at]
  exact (widen_slot x3 _ 1 j _ (by simp)).symm

theorem b1_at (r : Fin 256) (j : Fin 1408) :
    k0_pay9 (k0_pay13 x0 x1 x2 x3 x4) (View.ld x3 r0_10) (ix2 r j) = bab x0 x1 x2 x3 r ⟨4224 + j.val, by omega⟩ := by
  pointwise [k0_pay9]
  simp only [n_at]
  exact (widen_slot x3 _ 3 j _ (by simp)).symm

theorem bab_congr {r r' : Fin 256} {j j' : Fin 5632} (hr : r'.val = r.val) (hj : j'.val = j.val) :
    bab x0 x1 x2 x3 r j = bab x0 x1 x2 x3 r' j' := by
  rw [Fin.ext hr, Fin.ext hj]

theorem f_at (r : Fin 256) (k : Fin 1024) :
    k0_pay12 (k0_pay13 x0 x1 x2 x3 x4) (k0_pay14 x0 x1 x2 x3 x4) (k0_pay15 x0 x1 x2 x3 x4) (k0_pay16 x0 x1 x2 x3 x4)
        (View.ld x4 r0_8) (View.ld x3 r0_9) (View.ld x3 r0_10) (View.ld x4 r0_13) (ix2 r k)
      = bf x0 x1 x2 x3 x4 r k := by
  unfold k0_pay14
  pointwise [k0_pay12, k0_pay3]
  simp only [a0_at, b0_at, a1_at, b1_at]
  rw [bf, narrow_halves]
  refine congrArg₂ (· + ·) rfl (Finset.sum_congr rfl fun j _ => ?_)
  have h : (⟨4224 + j.val, by omega⟩ : Fin 5632) = ⟨2816 + (1408 + j.val), by omega⟩ := Fin.ext (by simp only; omega)
  simp only [gated, h]

/-- The block of the branch's results. -/
theorem out7_at (r : Fin 256) (k : Fin 1024) : out0_7 x0 x1 x2 x3 x4 (ix2 r k) = bf x0 x1 x2 x3 x4 r k := by
  refine Eq.trans ?_ (f_at x0 x1 x2 x3 x4 r k)
  unfold out0_7
  frame_out

/-- The block of the half-step's results. -/
theorem out5_at (r : Fin 256) (k : Fin 1024) :
    out0_5 x0 x1 x2 x3 x4 (ix2 r k)
      = residual (fun k => x0 (ix2 r k)) (fun k => x1 (ix4 0 0 2 k)) (bf x0 x1 x2 x3 x4 r) k := by
  unfold out0_5
  frame_out
  pointwise [k0_pay1]
  rw [f_at]
  rfl

/-- The block of the widened tokens. -/
theorem out6_at (r : Fin 256) (j : Fin 5632) : out0_6 x0 x1 x2 x3 x4 (ix2 r j) = bab x0 x1 x2 x3 r j := by
  unfold out0_6
  canon_tiles x h
  · obtain ⟨a, b, rfl⟩ : ∃ (a : Fin 256) (b : Fin 1408), x = ix2 a b := ⟨x 0, x 1, eq_ix2 x⟩
    pointwise [k0_pay11]
    exact (b1_at x0 x1 x2 x3 x4 a b).trans (bab_congr x0 x1 x2 x3 (r := a) (r' := r) h0 h1)
  · obtain ⟨a, b, rfl⟩ : ∃ (a : Fin 256) (b : Fin 1408), x = ix2 a b := ⟨x 0, x 1, eq_ix2 x⟩
    pointwise [k0_pay10]
    exact (a1_at x0 x1 x2 x3 x4 a b).trans (bab_congr x0 x1 x2 x3 (r := a) (r' := r) h0 h1)
  · obtain ⟨a, b, rfl⟩ : ∃ (a : Fin 256) (b : Fin 1408), x = ix2 a b := ⟨x 0, x 1, eq_ix2 x⟩
    pointwise [k0_pay7]
    exact (b0_at x0 x1 x2 x3 x4 a b).trans (bab_congr x0 x1 x2 x3 (r := a) (r' := r) h0 h1)
  · obtain ⟨a, b, rfl⟩ : ∃ (a : Fin 256) (b : Fin 1408), x = ix2 a b := ⟨x 0, x 1, eq_ix2 x⟩
    pointwise [k0_pay6]
    exact (a0_at x0 x1 x2 x3 x4 a b).trans (bab_congr x0 x1 x2 x3 (r := a) (r' := r) h0 h1)

end Blocks

end Macaron.Fwd
-- ==== Proof.Ffn.Token.lean ====
module

public import proofs.«01_k».proof.Proof.Ffn.Block

/-! One grid point of the forward half-step, from the whole arrays: if the blocks it reads are the tokens of tile `t` and
    the parameters of their stream, what it leaves is the half-step of those tokens. -/

@[expose] public section

set_option maxRecDepth 16384

noncomputable section

namespace Macaron.Fwd

open Idealize.ShloMosaic Idealize.ShloMosaic.TcCoe Idealize.SL.Sem
open Cert.FfnIdeal Cert.FfnIdeal.Gen

/-- Token `256 t + r` of the whole array. -/
def tok (t : Fin 17) (r : Fin 256) : Fin 4352 := ⟨256 * t.val + r.val, by omega⟩

/-- The stream of a token is the stream of its tile. -/
theorem stream_tok (t : Fin 17) (r : Fin 256) : (stream (tok t r)).val = if t.val < 16 then 0 else 1 := by
  unfold stream tok
  simp only
  split_ifs <;> first | rfl | omega

/-- The blocks of tile `t`: the tokens, the parameters of their stream from the set's row `0`, and the weights. -/
structure Tile (H : Fin 4352 → Fin 1024 → EReal) (mods : Fin 2 → Fin 3 → Fin 1024 → EReal) (g : Fin 1024 → EReal)
    (wi : Fin 1024 → Fin 5632 → EReal) (wo : Fin 2816 → Fin 1024 → EReal) (t : Fin 17)
    (x0 : Vec Ideal S256x1024 .f32) (x1 : Vec Ideal S1x1x16x1024 .f32) (x2 : Vec Ideal S1x1x1024 .f32)
    (x3 : Vec Ideal S4x1024x1408 .bf16) (x4 : Vec Ideal S2816x1024 .bf16) : Prop where
  h : ∀ (r : Fin 256) (k : Fin 1024), x0 (ix2 r k) = H (tok t r) k
  mods : ∀ (i : Fin 3) (k : Fin 1024) (r : Fin 256), x1 (ix4 0 0 ⟨i.val, by omega⟩ k) = mods (stream (tok t r)) i k
  g : ∀ k : Fin 1024, x2 (ix3 0 0 k) = g k
  wi : ∀ (s : Fin 4) (k : Fin 1024) (j : Fin 1408), x3 (ix3 s k j) = wi k ⟨1408 * s.val + j.val, by omega⟩
  wo : ∀ (j : Fin 2816) (k : Fin 1024), x4 (ix2 j k) = wo j k

section

variable {H : Fin 4352 → Fin 1024 → EReal} {mods : Fin 2 → Fin 3 → Fin 1024 → EReal} {g : Fin 1024 → EReal}
  {wi : Fin 1024 → Fin 5632 → EReal} {wo : Fin 2816 → Fin 1024 → EReal} {t : Fin 17}
  {x0 : Vec Ideal S256x1024 .f32} {x1 : Vec Ideal S1x1x16x1024 .f32} {x2 : Vec Ideal S1x1x1024 .f32}
  {x3 : Vec Ideal S4x1024x1408 .bf16} {x4 : Vec Ideal S2816x1024 .bf16} (T : Tile H mods g wi wo t x0 x1 x2 x3 x4)

include T

theorem bw_at : bw x3 = wi := by
  funext k j
  refine (T.wi _ k _).trans (congrArg (wi k) (Fin.ext ?_))
  exact Nat.div_add_mod j.val 1408

theorem bn_at (r : Fin 256) : bn x0 x1 x2 r = tokNorm H mods g (tok t r) := by
  unfold bn tokNorm
  rw [funext fun k => T.h r k, show (fun k => x1 (ix4 0 0 0 k)) = _ from funext fun k => T.mods 0 k r,
    show (fun k => x1 (ix4 0 0 1 k)) = _ from funext fun k => T.mods 1 k r, funext T.g]

theorem bab_at (r : Fin 256) : bab x0 x1 x2 x3 r = tokWide H mods g wi (tok t r) := by
  rw [bab, bn_at T, bw_at T, tokWide]

theorem bf_at (r : Fin 256) : bf x0 x1 x2 x3 x4 r = tokBranch H mods g wi wo (tok t r) := by
  rw [bf, bab_at T, tokBranch, funext fun j => funext fun k => T.wo j k]

/-- The tile's results. -/
theorem out5_tok (r : Fin 256) (k : Fin 1024) : out0_5 x0 x1 x2 x3 x4 (ix2 r k) = tokOut H mods g wi wo (tok t r) k := by
  rw [out5_at, bf_at T, funext fun k => T.h r k, show (fun k => x1 (ix4 0 0 2 k)) = _ from funext fun k => T.mods 2 k r]
  rfl

/-- The tile's widened tokens. -/
theorem out6_tok (r : Fin 256) (j : Fin 5632) : out0_6 x0 x1 x2 x3 x4 (ix2 r j) = tokWide H mods g wi (tok t r) j := by
  rw [out6_at, bab_at T]

/-- The tile's branch. -/
theorem out7_tok (r : Fin 256) (k : Fin 1024) : out0_7 x0 x1 x2 x3 x4 (ix2 r k) = tokBranch H mods g wi wo (tok t r) k := by
  rw [out7_at, bf_at T]

end

/-- A block of parameters with its rows `6`, `7`, `8` moved to `0`, `1`, `2`. -/
def up (x1 : Vec Ideal S1x1x16x1024 .f32) : Vec Ideal S1x1x16x1024 .f32 :=
  fun i => x1 (ix4 (i 0) (i 1) ⟨((i 2).val + 6) % 16, Nat.mod_lt _ (by decide)⟩ (i 3))

theorem up_at (x1 : Vec Ideal S1x1x16x1024 .f32) (i : Fin 3) (k : Fin 1024) :
    up x1 (ix4 0 0 ⟨i.val, by omega⟩ k) = x1 (ix4 0 0 ⟨6 + i.val, by omega⟩ k) := by
  refine congrArg (fun q => x1 (ix4 0 0 q k)) (Fin.ext ?_)
  show (i.val + 6) % 16 = 6 + i.val
  omega

end Macaron.Fwd

end
-- ==== Proof.Ffn.Ffn1L0.lean ====
module

public import proofs.«01_k».proof.Defs
public import proofs.«01_k».proof.Proof.Gen.Ffn
public import proofs.«01_k».proof.Proof.Gen.Ffn.Frame
public import proofs.«01_k».proof.Proof.Gen.FfnIdeal.Value
public import proofs.«01_k».proof.Proof.Gen.FfnRefIdeal.Run
public import proofs.«01_k».proof.Proof.Gen.FfnRefIdeal
public import proofs.«01_k».proof.Proof.Ffn.Token
public import Idealize.ShloMosaic.Lib.Tactic.CleanTypes
public import Idealize.ShloMosaic.Adequacy
public import Idealize.ShloMosaic.Init

/-! The first half-step of layer 0: the kernel's result arrays, the reference's results, and the claims. -/

@[expose] public section

set_option maxRecDepth 16384

noncomputable section

namespace Macaron.Ffn1L0

open Idealize.ShloMosaic Idealize.ShloMosaic.TcCoe Idealize.SL.Sem Macaron.Fwd

section Kernel

open Cert.FfnIdeal Cert.FfnIdeal.Gen

variable (m : (ℓ : Loc nD τ sig) → Buf (Elt Ideal) ℓ) (c : Dev nD)

/-- The block indices of the windows at a grid point. -/
theorem idx : ∀ t : Fin cfg0.N,
    win0_0.index t = ![t.val, 0] ∧ win0_1.index t = ![0, if t.val < 16 then 0 else 1, 0, 0] ∧ win0_2.index t = ![0, 0, 0]
      ∧ win0_3.index t = ![0, 0, 0] ∧ win0_4.index t = ![0, 0] ∧ win0_5.index t = ![t.val, 0]
      ∧ win0_6.index t = ![t.val, 0] ∧ win0_7.index t = ![t.val, 0] :=
  (by decide +kernel : ∀ t : Fin grid0.N, _)

/-! The arguments, as the functions that `Spec` takes. -/

def aH (r : Fin 4352) (k : Fin 1024) : EReal := m ((c.tc : Thread nD τ).loc main_arg0) (ix2 r k)
def aMods (s : Fin 2) (i : Fin 3) (k : Fin 1024) : EReal :=
  m ((c.tc : Thread nD τ).loc main_arg1) (ix4 0 s ⟨i.val, by omega⟩ k)
def aG (k : Fin 1024) : EReal := m ((c.tc : Thread nD τ).loc main_arg2) (ix3 0 0 k)
def aWi (k : Fin 1024) (j : Fin 5632) : EReal := m ((c.tc : Thread nD τ).loc main_arg3) (ix2 k j)
def aWo (j : Fin 2816) (k : Fin 1024) : EReal := m ((c.tc : Thread nD τ).loc main_arg4) (ix2 j k)

theorem h_at (t : Fin cfg0.N) (r : Fin 256) (k : Fin 1024) :
    iblk m c 0 t (ix2 r k) = m ((c.tc : Thread nD τ).loc main_arg0) (ix2 (tok t r) k) := by
  blk_ext! [iblk, V, idx t, tok]

theorem mods_at (t : Fin cfg0.N) (i : Fin 16) (k : Fin 1024) (r : Fin 256) :
    iblk m c 1 t (ix4 0 0 i k) = m ((c.tc : Thread nD τ).loc main_arg1) (ix4 0 (stream (tok t r)) i k) := by
  have hs := stream_tok t r
  blk_ext! [iblk, V, idx t, hs]

theorem g_at (t : Fin cfg0.N) (k : Fin 1024) :
    iblk m c 2 t (ix3 0 0 k) = m ((c.tc : Thread nD τ).loc main_arg2) (ix3 0 0 k) := by
  blk_ext! [iblk, V, idx t]

theorem w_at (t : Fin cfg0.N) (s : Fin 4) (k : Fin 1024) (j : Fin 1408) :
    iblk m c 3 t (ix3 s k j) = m ((c.tc : Thread nD τ).loc main_arg3) (ix2 k ⟨1408 * s.val + j.val, by omega⟩) := by
  blk_ext! [iblk, V, idx t]

theorem wo_at (t : Fin cfg0.N) (j : Fin 2816) (k : Fin 1024) :
    iblk m c 4 t (ix2 j k) = m ((c.tc : Thread nD τ).loc main_arg4) (ix2 j k) := by
  blk_ext! [iblk, V, idx t]

/-- What a grid point reads. -/
theorem tile (t : Fin cfg0.N) : Tile (aH m c) (aMods m c) (aG m c) (aWi m c) (aWo m c) t
    (iblk m c 0 t) (iblk m c 1 t) (iblk m c 2 t) (iblk m c 3 t) (iblk m c 4 t) :=
  ⟨h_at m c t, (fun i k r => mods_at m c t _ k r), g_at m c t, w_at m c t, wo_at m c t⟩

/-- The array of the half-step's results after the run. -/
theorem final5 : (dats m 0 c).arrAt 5 cfg0.N
    = fun i : S4352x1024.Idx => tokOut (aH m c) (aMods m c) (aG m c) (aWi m c) (aWo m c) (i 0) (i 1) := by
  refine (dats m 0 c).arrAt_eq_of_covers 5 _ (by decide +kernel) fun t hf y => ?_
  blk_simp
  rw [after0_5]
  obtain ⟨a, b, rfl⟩ : ∃ (a : Fin 256) (b : Fin 1024), y = ix2 a b := ⟨y 0, y 1, eq_ix2 y⟩
  have e0 : (win0_5.blk t).view.emb (ix2 a b) 0 = tok t a := Fin.ext (by blk_simp [idx t, tok]; simp only [ix2]; omega)
  have e1 : (win0_5.blk t).view.emb (ix2 a b) 1 = b := Fin.ext (by blk_simp [idx t])
  rw [e0, e1]
  exact (show _ = Cert.FfnIdeal.Gen.out0_5 _ _ _ _ _ (ix2 a b) from rfl).trans (Fwd.out5_tok (tile m c t) a b)

/-- The array of the widening's results after the run. -/
theorem final6 : (dats m 0 c).arrAt 6 cfg0.N
    = fun i : S4352x5632.Idx => tokWide (aH m c) (aMods m c) (aG m c) (aWi m c) (i 0) (i 1) := by
  refine (dats m 0 c).arrAt_eq_of_covers 6 _ (by decide +kernel) fun t hf y => ?_
  blk_simp
  rw [after0_6]
  obtain ⟨a, b, rfl⟩ : ∃ (a : Fin 256) (b : Fin 5632), y = ix2 a b := ⟨y 0, y 1, eq_ix2 y⟩
  have e0 : (win0_6.blk t).view.emb (ix2 a b) 0 = tok t a := Fin.ext (by blk_simp [idx t, tok]; simp only [ix2]; omega)
  have e1 : (win0_6.blk t).view.emb (ix2 a b) 1 = b := Fin.ext (by blk_simp [idx t])
  rw [e0, e1]
  exact (show _ = Cert.FfnIdeal.Gen.out0_6 _ _ _ _ _ (ix2 a b) from rfl).trans (Fwd.out6_tok (tile m c t) a b)

/-- The array of the branch's results after the run. -/
theorem final7 : (dats m 0 c).arrAt 7 cfg0.N
    = fun i : S4352x1024.Idx => tokBranch (aH m c) (aMods m c) (aG m c) (aWi m c) (aWo m c) (i 0) (i 1) := by
  refine (dats m 0 c).arrAt_eq_of_covers 7 _ (by decide +kernel) fun t hf y => ?_
  blk_simp
  rw [after0_7]
  obtain ⟨a, b, rfl⟩ : ∃ (a : Fin 256) (b : Fin 1024), y = ix2 a b := ⟨y 0, y 1, eq_ix2 y⟩
  have e0 : (win0_7.blk t).view.emb (ix2 a b) 0 = tok t a := Fin.ext (by blk_simp [idx t, tok]; simp only [ix2]; omega)
  have e1 : (win0_7.blk t).view.emb (ix2 a b) 1 = b := Fin.ext (by blk_simp [idx t])
  rw [e0, e1]
  exact (show _ = Cert.FfnIdeal.Gen.out0_7 _ _ _ _ _ (ix2 a b) from rfl).trans (Fwd.out7_tok (tile m c t) a b)

end Kernel

section Reference

open Cert.FfnRefIdeal Cert.FfnRefIdeal.Gen Cert.FfnRefIdeal.Value

variable (m : (ℓ : Loc nD τ sig) → Buf (Elt Ideal) ℓ) (c : Dev nD)

/-! The reference's arguments, as the functions that `Spec` takes. -/

def rH (r : Fin 4352) (k : Fin 1024) : EReal := m ((c.tc : Thread nD τ).loc main_arg0) (ix2 r k)
def rMods (s : Fin 2) (i : Fin 3) (k : Fin 1024) : EReal :=
  m ((c.tc : Thread nD τ).loc main_arg1) (ix4 0 s ⟨i.val, by omega⟩ k)
def rG (k : Fin 1024) : EReal := m ((c.tc : Thread nD τ).loc main_arg2) (ix3 0 0 k)
def rWi (k : Fin 1024) (j : Fin 5632) : EReal := m ((c.tc : Thread nD τ).loc main_arg3) (ix2 k j)
def rWo (j : Fin 2816) (k : Fin 1024) : EReal := m ((c.tc : Thread nD τ).loc main_arg4) (ix2 j k)

/-- Modulation parameter `i` of token `r`, chosen by the token's place as the reference's concatenation does. -/
def pick (i : Fin 16) (r : Fin 4352) (k : Fin 1024) : EReal :=
  if _h : r.val < 4096 then m ((c.tc : Thread nD τ).loc main_arg1) (ix4 0 0 i k)
  else m ((c.tc : Thread nD τ).loc main_arg1) (ix4 0 1 i k)

theorem pick_eq (i : Fin 3) (r : Fin 4352) : pick m c ⟨i.val, by omega⟩ r = rMods m c (stream r) i := by
  funext k
  unfold pick stream rMods
  split <;> rfl

/-- The widened token, with its parameters picked as the reference does. -/
theorem wide_eq (r : Fin 4352) :
    widen (modNorm (rH m c r) (rG m c) (pick m c 0 r) (pick m c 1 r)) (rWi m c)
      = tokWide (rH m c) (rMods m c) (rG m c) (rWi m c) r := by
  unfold tokWide tokNorm
  rw [← pick_eq m c 0 r, ← pick_eq m c 1 r]
  rfl

/-- The branch's results. -/
theorem branch_at (r : Fin 4352) (k : Fin 1024) :
    res_out2 m c (ix2 r k) = tokBranch (rH m c) (rMods m c) (rG m c) (rWi m c) (rWo m c) r k := by
  unfold tokBranch
  rw [← wide_eq]
  unfold res_out2 res_main_v45
  clean_types
  pointwise
  rfl

/-- The half-step's results. -/
theorem out_at (r : Fin 4352) (k : Fin 1024) :
    res_out0 m c (ix2 r k) = tokOut (rH m c) (rMods m c) (rG m c) (rWi m c) (rWo m c) r k := by
  unfold tokOut tokBranch
  rw [← wide_eq, ← pick_eq m c 2 r]
  unfold res_out0 res_main_v49
  clean_types
  pointwise
  rfl

/-- The reference's run: its three results as functions of its arguments, the arguments unchanged. -/
theorem ref_run (ρ : Dev nD → PrngReg) :
    θ_run defs (onTc (τ := τ) (main (F := Ideal))) ⟨m, fun _ => 0, ρ⟩ fun r => ∀ c : Dev nD,
      r.2.mem ((c.tc : Thread nD τ).loc main_v49)
          = (fun i : S4352x1024.Idx => tokOut (rH m c) (rMods m c) (rG m c) (rWi m c) (rWo m c) (i 0) (i 1))
      ∧ r.2.mem ((c.tc : Thread nD τ).loc main_v50)
          = (fun i : S4352x5632.Idx => tokWide (rH m c) (rMods m c) (rG m c) (rWi m c) (i 0) (i 1))
      ∧ r.2.mem ((c.tc : Thread nD τ).loc main_v45)
          = (fun i : S4352x1024.Idx => tokBranch (rH m c) (rMods m c) (rG m c) (rWi m c) (rWo m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (run m ρ)
  obtain ⟨h0, h1, h2, h3⟩ := h c
  refine ⟨h0.trans ?_, h1.trans ?_, h2.trans ?_, h3⟩
  · funext i
    obtain ⟨a, b, rfl⟩ : ∃ a b, i = ix2 a b := ⟨i 0, i 1, eq_ix2 i⟩
    exact out_at m c a b
  · funext i
    obtain ⟨a, b, rfl⟩ : ∃ (a : Fin 4352) (b : Fin 5632), i = ix2 a b := ⟨i 0, i 1, eq_ix2 i⟩
    refine Eq.trans ?_ (congrFun (wide_eq m c a) b)
    clean_types
    pointwise
    rfl
  · funext i
    obtain ⟨a, b, rfl⟩ : ∃ a b, i = ix2 a b := ⟨i 0, i 1, eq_ix2 i⟩
    exact branch_at m c a b

end Reference

theorem frame : Cert.quiescent_Ffn := fun m ρ _ => Cert.Ffn.Gen.frame m ρ

theorem frame_ideal : Cert.quiescent_FfnIdeal := fun m ρ _ => Cert.FfnIdeal.Gen.frame m ρ

theorem frame_ref : Cert.quiescent_FfnRefIdeal := fun m ρ _ =>
  (θ_run Cert.FfnRefIdeal.defs _ _).mono
    (fun r h => ⟨fun c => (h c).2.2.2, sem_eq_zero_of_no_sems (by decide) r.2⟩) (ref_run m ρ)

/-- The kernel's three results are the reference's. -/
theorem algebraic : Cert.algebraic_FfnIdeal_FfnRefIdeal := by
  intro m g m' g' _ hm
  refine ⟨fun c => (Cert.FfnIdeal.Gen.dats m 0 c).arrAt 5 Cert.FfnIdeal.cfg0.N,
    fun c => (Cert.FfnIdeal.Gen.dats m 0 c).arrAt 6 Cert.FfnIdeal.cfg0.N,
    fun c => (Cert.FfnIdeal.Gen.dats m 0 c).arrAt 7 Cert.FfnIdeal.cfg0.N,
    Cert.FfnIdeal.Value.run_blocks m g, ?_⟩
  refine (θ_run Cert.FfnRefIdeal.defs _ _).mono (fun r h c => ?_) (ref_run m' g')
  obtain ⟨h0, h1, h2, h3⟩ := h c
  obtain ⟨e0, e1, e2, e3, e4⟩ := hm c
  have eH : rH m' c = aH m c := funext fun _ => funext fun _ => congrFun e0 _
  have eM : rMods m' c = aMods m c := funext fun _ => funext fun _ => funext fun _ => congrFun e1 _
  have eG : rG m' c = aG m c := funext fun _ => congrFun e2 _
  have eI : rWi m' c = aWi m c := funext fun _ => funext fun _ => congrFun e3 _
  have eO : rWo m' c = aWo m c := funext fun _ => funext fun _ => congrFun e4 _
  rw [eH, eM, eG, eI, eO] at h0 h2
  rw [eH, eM, eG, eI] at h1
  exact ⟨h0.trans (final5 m c).symm, h1.trans (final6 m c).symm, h2.trans (final7 m c).symm, h3⟩

end Macaron.Ffn1L0

end
-- ==== Proof.Ffn.Ffn1L1.lean ====
module

public import proofs.«01_k».proof.Defs
public import proofs.«01_k».proof.Proof.Gen.FfnB
public import proofs.«01_k».proof.Proof.Gen.FfnB.Frame
public import proofs.«01_k».proof.Proof.Gen.FfnBIdeal.Value
public import proofs.«01_k».proof.Proof.Gen.FfnBRefIdeal.Run
public import proofs.«01_k».proof.Proof.Gen.FfnBRefIdeal
public import proofs.«01_k».proof.Proof.Ffn.Token
public import Idealize.ShloMosaic.Lib.Tactic.CleanTypes
public import Idealize.ShloMosaic.Adequacy
public import Idealize.ShloMosaic.Init

/-! The first half-step of layer 1: the kernel's result arrays, the reference's results, and the claims. -/

@[expose] public section

set_option maxRecDepth 16384

noncomputable section

namespace Macaron.Ffn1L1

open Idealize.ShloMosaic Idealize.ShloMosaic.TcCoe Idealize.SL.Sem Macaron.Fwd

section Kernel

open Cert.FfnBIdeal Cert.FfnBIdeal.Gen

variable (m : (ℓ : Loc nD τ sig) → Buf (Elt Ideal) ℓ) (c : Dev nD)

/-- The block indices of the windows at a grid point. -/
theorem idx : ∀ t : Fin cfg0.N,
    win0_0.index t = ![t.val, 0] ∧ win0_1.index t = ![1, if t.val < 16 then 0 else 1, 0, 0] ∧ win0_2.index t = ![1, 0, 0]
      ∧ win0_3.index t = ![0, 0, 0] ∧ win0_4.index t = ![0, 0] ∧ win0_5.index t = ![t.val, 0]
      ∧ win0_6.index t = ![t.val, 0] ∧ win0_7.index t = ![t.val, 0] :=
  (by decide +kernel : ∀ t : Fin grid0.N, _)

/-! The arguments, as the functions that `Spec` takes. -/

def aH (r : Fin 4352) (k : Fin 1024) : EReal := m ((c.tc : Thread nD τ).loc main_arg0) (ix2 r k)
def aMods (s : Fin 2) (i : Fin 3) (k : Fin 1024) : EReal :=
  m ((c.tc : Thread nD τ).loc main_arg1) (ix4 1 s ⟨i.val, by omega⟩ k)
def aG (k : Fin 1024) : EReal := m ((c.tc : Thread nD τ).loc main_arg2) (ix3 1 0 k)
def aWi (k : Fin 1024) (j : Fin 5632) : EReal := m ((c.tc : Thread nD τ).loc main_arg3) (ix2 k j)
def aWo (j : Fin 2816) (k : Fin 1024) : EReal := m ((c.tc : Thread nD τ).loc main_arg4) (ix2 j k)

theorem h_at (t : Fin cfg0.N) (r : Fin 256) (k : Fin 1024) :
    iblk m c 0 t (ix2 r k) = m ((c.tc : Thread nD τ).loc main_arg0) (ix2 (tok t r) k) := by
  blk_ext! [iblk, V, idx t, tok]

theorem mods_at (t : Fin cfg0.N) (i : Fin 16) (k : Fin 1024) (r : Fin 256) :
    iblk m c 1 t (ix4 0 0 i k) = m ((c.tc : Thread nD τ).loc main_arg1) (ix4 1 (stream (tok t r)) i k) := by
  have hs := stream_tok t r
  blk_ext! [iblk, V, idx t, hs]

theorem g_at (t : Fin cfg0.N) (k : Fin 1024) :
    iblk m c 2 t (ix3 0 0 k) = m ((c.tc : Thread nD τ).loc main_arg2) (ix3 1 0 k) := by
  blk_ext! [iblk, V, idx t]

theorem w_at (t : Fin cfg0.N) (s : Fin 4) (k : Fin 1024) (j : Fin 1408) :
    iblk m c 3 t (ix3 s k j) = m ((c.tc : Thread nD τ).loc main_arg3) (ix2 k ⟨1408 * s.val + j.val, by omega⟩) := by
  blk_ext! [iblk, V, idx t]

theorem wo_at (t : Fin cfg0.N) (j : Fin 2816) (k : Fin 1024) :
    iblk m c 4 t (ix2 j k) = m ((c.tc : Thread nD τ).loc main_arg4) (ix2 j k) := by
  blk_ext! [iblk, V, idx t]

/-- What a grid point reads. -/
theorem tile (t : Fin cfg0.N) : Tile (aH m c) (aMods m c) (aG m c) (aWi m c) (aWo m c) t
    (iblk m c 0 t) (iblk m c 1 t) (iblk m c 2 t) (iblk m c 3 t) (iblk m c 4 t) :=
  ⟨h_at m c t, (fun i k r => mods_at m c t _ k r), g_at m c t, w_at m c t, wo_at m c t⟩

/-- The array of the half-step's results after the run. -/
theorem final5 : (dats m 0 c).arrAt 5 cfg0.N
    = fun i : S4352x1024.Idx => tokOut (aH m c) (aMods m c) (aG m c) (aWi m c) (aWo m c) (i 0) (i 1) := by
  refine (dats m 0 c).arrAt_eq_of_covers 5 _ (by decide +kernel) fun t hf y => ?_
  blk_simp
  rw [after0_5]
  obtain ⟨a, b, rfl⟩ : ∃ (a : Fin 256) (b : Fin 1024), y = ix2 a b := ⟨y 0, y 1, eq_ix2 y⟩
  have e0 : (win0_5.blk t).view.emb (ix2 a b) 0 = tok t a := Fin.ext (by blk_simp [idx t, tok]; simp only [ix2]; omega)
  have e1 : (win0_5.blk t).view.emb (ix2 a b) 1 = b := Fin.ext (by blk_simp [idx t])
  rw [e0, e1]
  exact (show _ = Cert.FfnIdeal.Gen.out0_5 _ _ _ _ _ (ix2 a b) from rfl).trans (Fwd.out5_tok (tile m c t) a b)

/-- The array of the widening's results after the run. -/
theorem final6 : (dats m 0 c).arrAt 6 cfg0.N
    = fun i : S4352x5632.Idx => tokWide (aH m c) (aMods m c) (aG m c) (aWi m c) (i 0) (i 1) := by
  refine (dats m 0 c).arrAt_eq_of_covers 6 _ (by decide +kernel) fun t hf y => ?_
  blk_simp
  rw [after0_6]
  obtain ⟨a, b, rfl⟩ : ∃ (a : Fin 256) (b : Fin 5632), y = ix2 a b := ⟨y 0, y 1, eq_ix2 y⟩
  have e0 : (win0_6.blk t).view.emb (ix2 a b) 0 = tok t a := Fin.ext (by blk_simp [idx t, tok]; simp only [ix2]; omega)
  have e1 : (win0_6.blk t).view.emb (ix2 a b) 1 = b := Fin.ext (by blk_simp [idx t])
  rw [e0, e1]
  exact (show _ = Cert.FfnIdeal.Gen.out0_6 _ _ _ _ _ (ix2 a b) from rfl).trans (Fwd.out6_tok (tile m c t) a b)

/-- The array of the branch's results after the run. -/
theorem final7 : (dats m 0 c).arrAt 7 cfg0.N
    = fun i : S4352x1024.Idx => tokBranch (aH m c) (aMods m c) (aG m c) (aWi m c) (aWo m c) (i 0) (i 1) := by
  refine (dats m 0 c).arrAt_eq_of_covers 7 _ (by decide +kernel) fun t hf y => ?_
  blk_simp
  rw [after0_7]
  obtain ⟨a, b, rfl⟩ : ∃ (a : Fin 256) (b : Fin 1024), y = ix2 a b := ⟨y 0, y 1, eq_ix2 y⟩
  have e0 : (win0_7.blk t).view.emb (ix2 a b) 0 = tok t a := Fin.ext (by blk_simp [idx t, tok]; simp only [ix2]; omega)
  have e1 : (win0_7.blk t).view.emb (ix2 a b) 1 = b := Fin.ext (by blk_simp [idx t])
  rw [e0, e1]
  exact (show _ = Cert.FfnIdeal.Gen.out0_7 _ _ _ _ _ (ix2 a b) from rfl).trans (Fwd.out7_tok (tile m c t) a b)

end Kernel

section Reference

open Cert.FfnBRefIdeal Cert.FfnBRefIdeal.Gen Cert.FfnBRefIdeal.Value

variable (m : (ℓ : Loc nD τ sig) → Buf (Elt Ideal) ℓ) (c : Dev nD)

/-! The reference's arguments, as the functions that `Spec` takes. -/

def rH (r : Fin 4352) (k : Fin 1024) : EReal := m ((c.tc : Thread nD τ).loc main_arg0) (ix2 r k)
def rMods (s : Fin 2) (i : Fin 3) (k : Fin 1024) : EReal :=
  m ((c.tc : Thread nD τ).loc main_arg1) (ix4 1 s ⟨i.val, by omega⟩ k)
def rG (k : Fin 1024) : EReal := m ((c.tc : Thread nD τ).loc main_arg2) (ix3 1 0 k)
def rWi (k : Fin 1024) (j : Fin 5632) : EReal := m ((c.tc : Thread nD τ).loc main_arg3) (ix2 k j)
def rWo (j : Fin 2816) (k : Fin 1024) : EReal := m ((c.tc : Thread nD τ).loc main_arg4) (ix2 j k)

/-- Modulation parameter `i` of token `r`, chosen by the token's place as the reference's concatenation does. -/
def pick (i : Fin 16) (r : Fin 4352) (k : Fin 1024) : EReal :=
  if _h : r.val < 4096 then m ((c.tc : Thread nD τ).loc main_arg1) (ix4 1 0 i k)
  else m ((c.tc : Thread nD τ).loc main_arg1) (ix4 1 1 i k)

theorem pick_eq (i : Fin 3) (r : Fin 4352) : pick m c ⟨i.val, by omega⟩ r = rMods m c (stream r) i := by
  funext k
  unfold pick stream rMods
  split <;> rfl

/-- The widened token, with its parameters picked as the reference does. -/
theorem wide_eq (r : Fin 4352) :
    widen (modNorm (rH m c r) (rG m c) (pick m c 0 r) (pick m c 1 r)) (rWi m c)
      = tokWide (rH m c) (rMods m c) (rG m c) (rWi m c) r := by
  unfold tokWide tokNorm
  rw [← pick_eq m c 0 r, ← pick_eq m c 1 r]
  rfl

/-- The branch's results. -/
theorem branch_at (r : Fin 4352) (k : Fin 1024) :
    res_out2 m c (ix2 r k) = tokBranch (rH m c) (rMods m c) (rG m c) (rWi m c) (rWo m c) r k := by
  unfold tokBranch
  rw [← wide_eq]
  unfold res_out2 res_main_v45
  clean_types
  pointwise
  rfl

/-- The half-step's results. -/
theorem out_at (r : Fin 4352) (k : Fin 1024) :
    res_out0 m c (ix2 r k) = tokOut (rH m c) (rMods m c) (rG m c) (rWi m c) (rWo m c) r k := by
  unfold tokOut tokBranch
  rw [← wide_eq, ← pick_eq m c 2 r]
  unfold res_out0 res_main_v49
  clean_types
  pointwise
  rfl

/-- The reference's run: its three results as functions of its arguments, the arguments unchanged. -/
theorem ref_run (ρ : Dev nD → PrngReg) :
    θ_run defs (onTc (τ := τ) (main (F := Ideal))) ⟨m, fun _ => 0, ρ⟩ fun r => ∀ c : Dev nD,
      r.2.mem ((c.tc : Thread nD τ).loc main_v49)
          = (fun i : S4352x1024.Idx => tokOut (rH m c) (rMods m c) (rG m c) (rWi m c) (rWo m c) (i 0) (i 1))
      ∧ r.2.mem ((c.tc : Thread nD τ).loc main_v50)
          = (fun i : S4352x5632.Idx => tokWide (rH m c) (rMods m c) (rG m c) (rWi m c) (i 0) (i 1))
      ∧ r.2.mem ((c.tc : Thread nD τ).loc main_v45)
          = (fun i : S4352x1024.Idx => tokBranch (rH m c) (rMods m c) (rG m c) (rWi m c) (rWo m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (run m ρ)
  obtain ⟨h0, h1, h2, h3⟩ := h c
  refine ⟨h0.trans ?_, h1.trans ?_, h2.trans ?_, h3⟩
  · funext i
    obtain ⟨a, b, rfl⟩ : ∃ a b, i = ix2 a b := ⟨i 0, i 1, eq_ix2 i⟩
    exact out_at m c a b
  · funext i
    obtain ⟨a, b, rfl⟩ : ∃ (a : Fin 4352) (b : Fin 5632), i = ix2 a b := ⟨i 0, i 1, eq_ix2 i⟩
    refine Eq.trans ?_ (congrFun (wide_eq m c a) b)
    clean_types
    pointwise
    rfl
  · funext i
    obtain ⟨a, b, rfl⟩ : ∃ a b, i = ix2 a b := ⟨i 0, i 1, eq_ix2 i⟩
    exact branch_at m c a b

end Reference

theorem frame : Cert.quiescent_FfnB := fun m ρ _ => Cert.FfnB.Gen.frame m ρ

theorem frame_ideal : Cert.quiescent_FfnBIdeal := fun m ρ _ => Cert.FfnBIdeal.Gen.frame m ρ

theorem frame_ref : Cert.quiescent_FfnBRefIdeal := fun m ρ _ =>
  (θ_run Cert.FfnBRefIdeal.defs _ _).mono
    (fun r h => ⟨fun c => (h c).2.2.2, sem_eq_zero_of_no_sems (by decide) r.2⟩) (ref_run m ρ)

/-- The kernel's three results are the reference's. -/
theorem algebraic : Cert.algebraic_FfnBIdeal_FfnBRefIdeal := by
  intro m g m' g' _ hm
  refine ⟨fun c => (Cert.FfnBIdeal.Gen.dats m 0 c).arrAt 5 Cert.FfnBIdeal.cfg0.N,
    fun c => (Cert.FfnBIdeal.Gen.dats m 0 c).arrAt 6 Cert.FfnBIdeal.cfg0.N,
    fun c => (Cert.FfnBIdeal.Gen.dats m 0 c).arrAt 7 Cert.FfnBIdeal.cfg0.N,
    Cert.FfnBIdeal.Value.run_blocks m g, ?_⟩
  refine (θ_run Cert.FfnBRefIdeal.defs _ _).mono (fun r h c => ?_) (ref_run m' g')
  obtain ⟨h0, h1, h2, h3⟩ := h c
  obtain ⟨e0, e1, e2, e3, e4⟩ := hm c
  have eH : rH m' c = aH m c := funext fun _ => funext fun _ => congrFun e0 _
  have eM : rMods m' c = aMods m c := funext fun _ => funext fun _ => funext fun _ => congrFun e1 _
  have eG : rG m' c = aG m c := funext fun _ => congrFun e2 _
  have eI : rWi m' c = aWi m c := funext fun _ => funext fun _ => congrFun e3 _
  have eO : rWo m' c = aWo m c := funext fun _ => funext fun _ => congrFun e4 _
  rw [eH, eM, eG, eI, eO] at h0 h2
  rw [eH, eM, eG, eI] at h1
  exact ⟨h0.trans (final5 m c).symm, h1.trans (final6 m c).symm, h2.trans (final7 m c).symm, h3⟩

end Macaron.Ffn1L1

end
-- ==== Proof.Ffn.Second.lean ====
module

public import proofs.«01_k».proof.Proof.Gen.FfnCIdeal.Value
public import proofs.«01_k».proof.Proof.Ffn.Token

/-! The second half-step's grid point is the first's, on a block of parameters moved up by six rows. -/

@[expose] public section

set_option maxRecDepth 16384

noncomputable section

namespace Macaron.Fwd

open Idealize.ShloMosaic Idealize.ShloMosaic.TcCoe Idealize.SL.Sem
open Cert.FfnIdeal Cert.FfnIdeal.Gen

variable (x0 : Vec Ideal S256x1024 .f32) (x1 : Vec Ideal S1x1x16x1024 .f32) (x2 : Vec Ideal S1x1x1024 .f32)
  (x3 : Vec Ideal S4x1024x1408 .bf16) (x4 : Vec Ideal S2816x1024 .bf16)

theorem ld_shift : View.ld x1 Cert.FfnCIdeal.Gen.r0_2 = View.ld (up x1) r0_2 := by
  funext i
  obtain ⟨a, b, e, d, rfl⟩ : ∃ (a b e : Fin 1) (d : Fin 1024), i = ix4 a b e d := ⟨i 0, i 1, i 2, i 3, eq_ix4 i⟩
  obtain rfl : e = 0 := Subsingleton.elim _ _
  exact congrArg x1 (funext fun n => by fin_cases n <;> rfl)

theorem ld_scale : View.ld x1 Cert.FfnCIdeal.Gen.r0_3 = View.ld (up x1) r0_3 := by
  funext i
  obtain ⟨a, b, e, d, rfl⟩ : ∃ (a b e : Fin 1) (d : Fin 1024), i = ix4 a b e d := ⟨i 0, i 1, i 2, i 3, eq_ix4 i⟩
  obtain rfl : e = 0 := Subsingleton.elim _ _
  exact congrArg x1 (funext fun n => by fin_cases n <;> rfl)

theorem ld_gate : View.ld x1 Cert.FfnCIdeal.Gen.r0_14 = View.ld (up x1) r0_14 := by
  funext i
  obtain ⟨a, b, e, d, rfl⟩ : ∃ (a b e : Fin 1) (d : Fin 1024), i = ix4 a b e d := ⟨i 0, i 1, i 2, i 3, eq_ix4 i⟩
  obtain rfl : e = 0 := Subsingleton.elim _ _
  exact congrArg x1 (funext fun n => by fin_cases n <;> rfl)

theorem second5 : Cert.FfnCIdeal.Gen.out0_5 x0 x1 x2 x3 x4 = out0_5 x0 (up x1) x2 x3 x4 := by
  unfold Cert.FfnCIdeal.Gen.out0_5 Cert.FfnCIdeal.Gen.k0_pay13 Cert.FfnCIdeal.Gen.k0_pay15 Cert.FfnCIdeal.Gen.k0_pay16
  rw [ld_shift, ld_scale, ld_gate]
  rfl

theorem second6 : Cert.FfnCIdeal.Gen.out0_6 x0 x1 x2 x3 x4 = out0_6 x0 (up x1) x2 x3 x4 := by
  unfold Cert.FfnCIdeal.Gen.out0_6 Cert.FfnCIdeal.Gen.k0_pay13 Cert.FfnCIdeal.Gen.k0_pay15 Cert.FfnCIdeal.Gen.k0_pay16
  rw [ld_shift, ld_scale]
  rfl

theorem second7 : Cert.FfnCIdeal.Gen.out0_7 x0 x1 x2 x3 x4 = out0_7 x0 (up x1) x2 x3 x4 := by
  unfold Cert.FfnCIdeal.Gen.out0_7 Cert.FfnCIdeal.Gen.k0_pay13 Cert.FfnCIdeal.Gen.k0_pay15 Cert.FfnCIdeal.Gen.k0_pay16
  rw [ld_shift, ld_scale]
  rfl

end Macaron.Fwd

end
-- ==== Proof.Ffn.Ffn2L0.lean ====
module

public import proofs.«01_k».proof.Defs
public import proofs.«01_k».proof.Proof.Gen.FfnC
public import proofs.«01_k».proof.Proof.Gen.FfnC.Frame
public import proofs.«01_k».proof.Proof.Gen.FfnCIdeal.Value
public import proofs.«01_k».proof.Proof.Gen.FfnCRefIdeal.Run
public import proofs.«01_k».proof.Proof.Gen.FfnCRefIdeal
public import proofs.«01_k».proof.Proof.Ffn.Second
public import Idealize.ShloMosaic.Lib.Tactic.CleanTypes
public import Idealize.ShloMosaic.Adequacy
public import Idealize.ShloMosaic.Init

/-! The second half-step of layer 0: the kernel's result arrays, the reference's results, and the claims. -/

@[expose] public section

set_option maxRecDepth 16384

noncomputable section

namespace Macaron.Ffn2L0

open Idealize.ShloMosaic Idealize.ShloMosaic.TcCoe Idealize.SL.Sem Macaron.Fwd

section Kernel

open Cert.FfnCIdeal Cert.FfnCIdeal.Gen

variable (m : (ℓ : Loc nD τ sig) → Buf (Elt Ideal) ℓ) (c : Dev nD)

/-- The block indices of the windows at a grid point. -/
theorem idx : ∀ t : Fin cfg0.N,
    win0_0.index t = ![t.val, 0] ∧ win0_1.index t = ![0, if t.val < 16 then 0 else 1, 0, 0] ∧ win0_2.index t = ![0, 0, 0]
      ∧ win0_3.index t = ![0, 0, 0] ∧ win0_4.index t = ![0, 0] ∧ win0_5.index t = ![t.val, 0]
      ∧ win0_6.index t = ![t.val, 0] ∧ win0_7.index t = ![t.val, 0] :=
  (by decide +kernel : ∀ t : Fin grid0.N, _)

/-! The arguments, as the functions that `Spec` takes. -/

def aH (r : Fin 4352) (k : Fin 1024) : EReal := m ((c.tc : Thread nD τ).loc main_arg0) (ix2 r k)
def aMods (s : Fin 2) (i : Fin 3) (k : Fin 1024) : EReal :=
  m ((c.tc : Thread nD τ).loc main_arg1) (ix4 0 s ⟨6 + i.val, by omega⟩ k)
def aG (k : Fin 1024) : EReal := m ((c.tc : Thread nD τ).loc main_arg2) (ix3 0 0 k)
def aWi (k : Fin 1024) (j : Fin 5632) : EReal := m ((c.tc : Thread nD τ).loc main_arg3) (ix2 k j)
def aWo (j : Fin 2816) (k : Fin 1024) : EReal := m ((c.tc : Thread nD τ).loc main_arg4) (ix2 j k)

theorem h_at (t : Fin cfg0.N) (r : Fin 256) (k : Fin 1024) :
    iblk m c 0 t (ix2 r k) = m ((c.tc : Thread nD τ).loc main_arg0) (ix2 (tok t r) k) := by
  blk_ext! [iblk, V, idx t, tok]

theorem mods_at (t : Fin cfg0.N) (i : Fin 16) (k : Fin 1024) (r : Fin 256) :
    iblk m c 1 t (ix4 0 0 i k) = m ((c.tc : Thread nD τ).loc main_arg1) (ix4 0 (stream (tok t r)) i k) := by
  have hs := stream_tok t r
  blk_ext! [iblk, V, idx t, hs]

theorem g_at (t : Fin cfg0.N) (k : Fin 1024) :
    iblk m c 2 t (ix3 0 0 k) = m ((c.tc : Thread nD τ).loc main_arg2) (ix3 0 0 k) := by
  blk_ext! [iblk, V, idx t]

theorem w_at (t : Fin cfg0.N) (s : Fin 4) (k : Fin 1024) (j : Fin 1408) :
    iblk m c 3 t (ix3 s k j) = m ((c.tc : Thread nD τ).loc main_arg3) (ix2 k ⟨1408 * s.val + j.val, by omega⟩) := by
  blk_ext! [iblk, V, idx t]

theorem wo_at (t : Fin cfg0.N) (j : Fin 2816) (k : Fin 1024) :
    iblk m c 4 t (ix2 j k) = m ((c.tc : Thread nD τ).loc main_arg4) (ix2 j k) := by
  blk_ext! [iblk, V, idx t]

/-- What a grid point reads. -/
theorem tile (t : Fin cfg0.N) : Tile (aH m c) (aMods m c) (aG m c) (aWi m c) (aWo m c) t
    (iblk m c 0 t) (up (iblk m c 1 t)) (iblk m c 2 t) (iblk m c 3 t) (iblk m c 4 t) :=
  ⟨h_at m c t, (fun i k r => (Fwd.up_at _ i k).trans (mods_at m c t _ k r)), g_at m c t, w_at m c t, wo_at m c t⟩

/-- The array of the half-step's results after the run. -/
theorem final5 : (dats m 0 c).arrAt 5 cfg0.N
    = fun i : S4352x1024.Idx => tokOut (aH m c) (aMods m c) (aG m c) (aWi m c) (aWo m c) (i 0) (i 1) := by
  refine (dats m 0 c).arrAt_eq_of_covers 5 _ (by decide +kernel) fun t hf y => ?_
  blk_simp
  rw [after0_5]
  obtain ⟨a, b, rfl⟩ : ∃ (a : Fin 256) (b : Fin 1024), y = ix2 a b := ⟨y 0, y 1, eq_ix2 y⟩
  have e0 : (win0_5.blk t).view.emb (ix2 a b) 0 = tok t a := Fin.ext (by blk_simp [idx t, tok]; simp only [ix2]; omega)
  have e1 : (win0_5.blk t).view.emb (ix2 a b) 1 = b := Fin.ext (by blk_simp [idx t])
  rw [e0, e1]
  exact (congrFun ((show _ = _ from rfl : _ = Cert.FfnCIdeal.Gen.out0_5 _ _ _ _ _).trans (Fwd.second5 _ _ _ _ _)) _).trans (Fwd.out5_tok (tile m c t) a b)

/-- The array of the widening's results after the run. -/
theorem final6 : (dats m 0 c).arrAt 6 cfg0.N
    = fun i : S4352x5632.Idx => tokWide (aH m c) (aMods m c) (aG m c) (aWi m c) (i 0) (i 1) := by
  refine (dats m 0 c).arrAt_eq_of_covers 6 _ (by decide +kernel) fun t hf y => ?_
  blk_simp
  rw [after0_6]
  obtain ⟨a, b, rfl⟩ : ∃ (a : Fin 256) (b : Fin 5632), y = ix2 a b := ⟨y 0, y 1, eq_ix2 y⟩
  have e0 : (win0_6.blk t).view.emb (ix2 a b) 0 = tok t a := Fin.ext (by blk_simp [idx t, tok]; simp only [ix2]; omega)
  have e1 : (win0_6.blk t).view.emb (ix2 a b) 1 = b := Fin.ext (by blk_simp [idx t])
  rw [e0, e1]
  exact (congrFun ((show _ = _ from rfl : _ = Cert.FfnCIdeal.Gen.out0_6 _ _ _ _ _).trans (Fwd.second6 _ _ _ _ _)) _).trans (Fwd.out6_tok (tile m c t) a b)

/-- The array of the branch's results after the run. -/
theorem final7 : (dats m 0 c).arrAt 7 cfg0.N
    = fun i : S4352x1024.Idx => tokBranch (aH m c) (aMods m c) (aG m c) (aWi m c) (aWo m c) (i 0) (i 1) := by
  refine (dats m 0 c).arrAt_eq_of_covers 7 _ (by decide +kernel) fun t hf y => ?_
  blk_simp
  rw [after0_7]
  obtain ⟨a, b, rfl⟩ : ∃ (a : Fin 256) (b : Fin 1024), y = ix2 a b := ⟨y 0, y 1, eq_ix2 y⟩
  have e0 : (win0_7.blk t).view.emb (ix2 a b) 0 = tok t a := Fin.ext (by blk_simp [idx t, tok]; simp only [ix2]; omega)
  have e1 : (win0_7.blk t).view.emb (ix2 a b) 1 = b := Fin.ext (by blk_simp [idx t])
  rw [e0, e1]
  exact (congrFun ((show _ = _ from rfl : _ = Cert.FfnCIdeal.Gen.out0_7 _ _ _ _ _).trans (Fwd.second7 _ _ _ _ _)) _).trans (Fwd.out7_tok (tile m c t) a b)

end Kernel

section Reference

open Cert.FfnCRefIdeal Cert.FfnCRefIdeal.Gen Cert.FfnCRefIdeal.Value

variable (m : (ℓ : Loc nD τ sig) → Buf (Elt Ideal) ℓ) (c : Dev nD)

/-! The reference's arguments, as the functions that `Spec` takes. -/

def rH (r : Fin 4352) (k : Fin 1024) : EReal := m ((c.tc : Thread nD τ).loc main_arg0) (ix2 r k)
def rMods (s : Fin 2) (i : Fin 3) (k : Fin 1024) : EReal :=
  m ((c.tc : Thread nD τ).loc main_arg1) (ix4 0 s ⟨6 + i.val, by omega⟩ k)
def rG (k : Fin 1024) : EReal := m ((c.tc : Thread nD τ).loc main_arg2) (ix3 0 0 k)
def rWi (k : Fin 1024) (j : Fin 5632) : EReal := m ((c.tc : Thread nD τ).loc main_arg3) (ix2 k j)
def rWo (j : Fin 2816) (k : Fin 1024) : EReal := m ((c.tc : Thread nD τ).loc main_arg4) (ix2 j k)

/-- Modulation parameter `i` of token `r`, chosen by the token's place as the reference's concatenation does. -/
def pick (i : Fin 16) (r : Fin 4352) (k : Fin 1024) : EReal :=
  if _h : r.val < 4096 then m ((c.tc : Thread nD τ).loc main_arg1) (ix4 0 0 i k)
  else m ((c.tc : Thread nD τ).loc main_arg1) (ix4 0 1 i k)

theorem pick_eq (i : Fin 3) (r : Fin 4352) : pick m c ⟨6 + i.val, by omega⟩ r = rMods m c (stream r) i := by
  funext k
  unfold pick stream rMods
  split <;> rfl

/-- The widened token, with its parameters picked as the reference does. -/
theorem wide_eq (r : Fin 4352) :
    widen (modNorm (rH m c r) (rG m c) (pick m c 6 r) (pick m c 7 r)) (rWi m c)
      = tokWide (rH m c) (rMods m c) (rG m c) (rWi m c) r := by
  unfold tokWide tokNorm
  rw [← pick_eq m c 0 r, ← pick_eq m c 1 r]
  rfl

/-- The branch's results. -/
theorem branch_at (r : Fin 4352) (k : Fin 1024) :
    res_out2 m c (ix2 r k) = tokBranch (rH m c) (rMods m c) (rG m c) (rWi m c) (rWo m c) r k := by
  unfold tokBranch
  rw [← wide_eq]
  unfold res_out2 res_main_v45
  clean_types
  pointwise
  rfl

/-- The half-step's results. -/
theorem out_at (r : Fin 4352) (k : Fin 1024) :
    res_out0 m c (ix2 r k) = tokOut (rH m c) (rMods m c) (rG m c) (rWi m c) (rWo m c) r k := by
  unfold tokOut tokBranch
  rw [← wide_eq, ← pick_eq m c 2 r]
  unfold res_out0 res_main_v49
  clean_types
  pointwise
  rfl

/-- The reference's run: its three results as functions of its arguments, the arguments unchanged. -/
theorem ref_run (ρ : Dev nD → PrngReg) :
    θ_run defs (onTc (τ := τ) (main (F := Ideal))) ⟨m, fun _ => 0, ρ⟩ fun r => ∀ c : Dev nD,
      r.2.mem ((c.tc : Thread nD τ).loc main_v49)
          = (fun i : S4352x1024.Idx => tokOut (rH m c) (rMods m c) (rG m c) (rWi m c) (rWo m c) (i 0) (i 1))
      ∧ r.2.mem ((c.tc : Thread nD τ).loc main_v50)
          = (fun i : S4352x5632.Idx => tokWide (rH m c) (rMods m c) (rG m c) (rWi m c) (i 0) (i 1))
      ∧ r.2.mem ((c.tc : Thread nD τ).loc main_v45)
          = (fun i : S4352x1024.Idx => tokBranch (rH m c) (rMods m c) (rG m c) (rWi m c) (rWo m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (run m ρ)
  obtain ⟨h0, h1, h2, h3⟩ := h c
  refine ⟨h0.trans ?_, h1.trans ?_, h2.trans ?_, h3⟩
  · funext i
    obtain ⟨a, b, rfl⟩ : ∃ a b, i = ix2 a b := ⟨i 0, i 1, eq_ix2 i⟩
    exact out_at m c a b
  · funext i
    obtain ⟨a, b, rfl⟩ : ∃ (a : Fin 4352) (b : Fin 5632), i = ix2 a b := ⟨i 0, i 1, eq_ix2 i⟩
    refine Eq.trans ?_ (congrFun (wide_eq m c a) b)
    clean_types
    pointwise
    rfl
  · funext i
    obtain ⟨a, b, rfl⟩ : ∃ a b, i = ix2 a b := ⟨i 0, i 1, eq_ix2 i⟩
    exact branch_at m c a b

end Reference

theorem frame : Cert.quiescent_FfnC := fun m ρ _ => Cert.FfnC.Gen.frame m ρ

theorem frame_ideal : Cert.quiescent_FfnCIdeal := fun m ρ _ => Cert.FfnCIdeal.Gen.frame m ρ

theorem frame_ref : Cert.quiescent_FfnCRefIdeal := fun m ρ _ =>
  (θ_run Cert.FfnCRefIdeal.defs _ _).mono
    (fun r h => ⟨fun c => (h c).2.2.2, sem_eq_zero_of_no_sems (by decide) r.2⟩) (ref_run m ρ)

/-- The kernel's three results are the reference's. -/
theorem algebraic : Cert.algebraic_FfnCIdeal_FfnCRefIdeal := by
  intro m g m' g' _ hm
  refine ⟨fun c => (Cert.FfnCIdeal.Gen.dats m 0 c).arrAt 5 Cert.FfnCIdeal.cfg0.N,
    fun c => (Cert.FfnCIdeal.Gen.dats m 0 c).arrAt 6 Cert.FfnCIdeal.cfg0.N,
    fun c => (Cert.FfnCIdeal.Gen.dats m 0 c).arrAt 7 Cert.FfnCIdeal.cfg0.N,
    Cert.FfnCIdeal.Value.run_blocks m g, ?_⟩
  refine (θ_run Cert.FfnCRefIdeal.defs _ _).mono (fun r h c => ?_) (ref_run m' g')
  obtain ⟨h0, h1, h2, h3⟩ := h c
  obtain ⟨e0, e1, e2, e3, e4⟩ := hm c
  have eH : rH m' c = aH m c := funext fun _ => funext fun _ => congrFun e0 _
  have eM : rMods m' c = aMods m c := funext fun _ => funext fun _ => funext fun _ => congrFun e1 _
  have eG : rG m' c = aG m c := funext fun _ => congrFun e2 _
  have eI : rWi m' c = aWi m c := funext fun _ => funext fun _ => congrFun e3 _
  have eO : rWo m' c = aWo m c := funext fun _ => funext fun _ => congrFun e4 _
  rw [eH, eM, eG, eI, eO] at h0 h2
  rw [eH, eM, eG, eI] at h1
  exact ⟨h0.trans (final5 m c).symm, h1.trans (final6 m c).symm, h2.trans (final7 m c).symm, h3⟩

end Macaron.Ffn2L0

end
-- ==== Proof.Ffn.Ffn2L1.lean ====
module

public import proofs.«01_k».proof.Defs
public import proofs.«01_k».proof.Proof.Gen.FfnD
public import proofs.«01_k».proof.Proof.Gen.FfnD.Frame
public import proofs.«01_k».proof.Proof.Gen.FfnDIdeal.Value
public import proofs.«01_k».proof.Proof.Gen.FfnDRefIdeal.Run
public import proofs.«01_k».proof.Proof.Gen.FfnDRefIdeal
public import proofs.«01_k».proof.Proof.Ffn.Second
public import Idealize.ShloMosaic.Lib.Tactic.CleanTypes
public import Idealize.ShloMosaic.Adequacy
public import Idealize.ShloMosaic.Init

/-! The second half-step of layer 1: the kernel's result arrays, the reference's results, and the claims. -/

@[expose] public section

set_option maxRecDepth 16384

noncomputable section

namespace Macaron.Ffn2L1

open Idealize.ShloMosaic Idealize.ShloMosaic.TcCoe Idealize.SL.Sem Macaron.Fwd

section Kernel

open Cert.FfnDIdeal Cert.FfnDIdeal.Gen

variable (m : (ℓ : Loc nD τ sig) → Buf (Elt Ideal) ℓ) (c : Dev nD)

/-- The block indices of the windows at a grid point. -/
theorem idx : ∀ t : Fin cfg0.N,
    win0_0.index t = ![t.val, 0] ∧ win0_1.index t = ![1, if t.val < 16 then 0 else 1, 0, 0] ∧ win0_2.index t = ![1, 0, 0]
      ∧ win0_3.index t = ![0, 0, 0] ∧ win0_4.index t = ![0, 0] ∧ win0_5.index t = ![t.val, 0]
      ∧ win0_6.index t = ![t.val, 0] ∧ win0_7.index t = ![t.val, 0] :=
  (by decide +kernel : ∀ t : Fin grid0.N, _)

/-! The arguments, as the functions that `Spec` takes. -/

def aH (r : Fin 4352) (k : Fin 1024) : EReal := m ((c.tc : Thread nD τ).loc main_arg0) (ix2 r k)
def aMods (s : Fin 2) (i : Fin 3) (k : Fin 1024) : EReal :=
  m ((c.tc : Thread nD τ).loc main_arg1) (ix4 1 s ⟨6 + i.val, by omega⟩ k)
def aG (k : Fin 1024) : EReal := m ((c.tc : Thread nD τ).loc main_arg2) (ix3 1 0 k)
def aWi (k : Fin 1024) (j : Fin 5632) : EReal := m ((c.tc : Thread nD τ).loc main_arg3) (ix2 k j)
def aWo (j : Fin 2816) (k : Fin 1024) : EReal := m ((c.tc : Thread nD τ).loc main_arg4) (ix2 j k)

theorem h_at (t : Fin cfg0.N) (r : Fin 256) (k : Fin 1024) :
    iblk m c 0 t (ix2 r k) = m ((c.tc : Thread nD τ).loc main_arg0) (ix2 (tok t r) k) := by
  blk_ext! [iblk, V, idx t, tok]

theorem mods_at (t : Fin cfg0.N) (i : Fin 16) (k : Fin 1024) (r : Fin 256) :
    iblk m c 1 t (ix4 0 0 i k) = m ((c.tc : Thread nD τ).loc main_arg1) (ix4 1 (stream (tok t r)) i k) := by
  have hs := stream_tok t r
  blk_ext! [iblk, V, idx t, hs]

theorem g_at (t : Fin cfg0.N) (k : Fin 1024) :
    iblk m c 2 t (ix3 0 0 k) = m ((c.tc : Thread nD τ).loc main_arg2) (ix3 1 0 k) := by
  blk_ext! [iblk, V, idx t]

theorem w_at (t : Fin cfg0.N) (s : Fin 4) (k : Fin 1024) (j : Fin 1408) :
    iblk m c 3 t (ix3 s k j) = m ((c.tc : Thread nD τ).loc main_arg3) (ix2 k ⟨1408 * s.val + j.val, by omega⟩) := by
  blk_ext! [iblk, V, idx t]

theorem wo_at (t : Fin cfg0.N) (j : Fin 2816) (k : Fin 1024) :
    iblk m c 4 t (ix2 j k) = m ((c.tc : Thread nD τ).loc main_arg4) (ix2 j k) := by
  blk_ext! [iblk, V, idx t]

/-- What a grid point reads. -/
theorem tile (t : Fin cfg0.N) : Tile (aH m c) (aMods m c) (aG m c) (aWi m c) (aWo m c) t
    (iblk m c 0 t) (up (iblk m c 1 t)) (iblk m c 2 t) (iblk m c 3 t) (iblk m c 4 t) :=
  ⟨h_at m c t, (fun i k r => (Fwd.up_at _ i k).trans (mods_at m c t _ k r)), g_at m c t, w_at m c t, wo_at m c t⟩

/-- The array of the half-step's results after the run. -/
theorem final5 : (dats m 0 c).arrAt 5 cfg0.N
    = fun i : S4352x1024.Idx => tokOut (aH m c) (aMods m c) (aG m c) (aWi m c) (aWo m c) (i 0) (i 1) := by
  refine (dats m 0 c).arrAt_eq_of_covers 5 _ (by decide +kernel) fun t hf y => ?_
  blk_simp
  rw [after0_5]
  obtain ⟨a, b, rfl⟩ : ∃ (a : Fin 256) (b : Fin 1024), y = ix2 a b := ⟨y 0, y 1, eq_ix2 y⟩
  have e0 : (win0_5.blk t).view.emb (ix2 a b) 0 = tok t a := Fin.ext (by blk_simp [idx t, tok]; simp only [ix2]; omega)
  have e1 : (win0_5.blk t).view.emb (ix2 a b) 1 = b := Fin.ext (by blk_simp [idx t])
  rw [e0, e1]
  exact (congrFun ((show _ = _ from rfl : _ = Cert.FfnCIdeal.Gen.out0_5 _ _ _ _ _).trans (Fwd.second5 _ _ _ _ _)) _).trans (Fwd.out5_tok (tile m c t) a b)

/-- The array of the widening's results after the run. -/
theorem final6 : (dats m 0 c).arrAt 6 cfg0.N
    = fun i : S4352x5632.Idx => tokWide (aH m c) (aMods m c) (aG m c) (aWi m c) (i 0) (i 1) := by
  refine (dats m 0 c).arrAt_eq_of_covers 6 _ (by decide +kernel) fun t hf y => ?_
  blk_simp
  rw [after0_6]
  obtain ⟨a, b, rfl⟩ : ∃ (a : Fin 256) (b : Fin 5632), y = ix2 a b := ⟨y 0, y 1, eq_ix2 y⟩
  have e0 : (win0_6.blk t).view.emb (ix2 a b) 0 = tok t a := Fin.ext (by blk_simp [idx t, tok]; simp only [ix2]; omega)
  have e1 : (win0_6.blk t).view.emb (ix2 a b) 1 = b := Fin.ext (by blk_simp [idx t])
  rw [e0, e1]
  exact (congrFun ((show _ = _ from rfl : _ = Cert.FfnCIdeal.Gen.out0_6 _ _ _ _ _).trans (Fwd.second6 _ _ _ _ _)) _).trans (Fwd.out6_tok (tile m c t) a b)

/-- The array of the branch's results after the run. -/
theorem final7 : (dats m 0 c).arrAt 7 cfg0.N
    = fun i : S4352x1024.Idx => tokBranch (aH m c) (aMods m c) (aG m c) (aWi m c) (aWo m c) (i 0) (i 1) := by
  refine (dats m 0 c).arrAt_eq_of_covers 7 _ (by decide +kernel) fun t hf y => ?_
  blk_simp
  rw [after0_7]
  obtain ⟨a, b, rfl⟩ : ∃ (a : Fin 256) (b : Fin 1024), y = ix2 a b := ⟨y 0, y 1, eq_ix2 y⟩
  have e0 : (win0_7.blk t).view.emb (ix2 a b) 0 = tok t a := Fin.ext (by blk_simp [idx t, tok]; simp only [ix2]; omega)
  have e1 : (win0_7.blk t).view.emb (ix2 a b) 1 = b := Fin.ext (by blk_simp [idx t])
  rw [e0, e1]
  exact (congrFun ((show _ = _ from rfl : _ = Cert.FfnCIdeal.Gen.out0_7 _ _ _ _ _).trans (Fwd.second7 _ _ _ _ _)) _).trans (Fwd.out7_tok (tile m c t) a b)

end Kernel

section Reference

open Cert.FfnDRefIdeal Cert.FfnDRefIdeal.Gen Cert.FfnDRefIdeal.Value

variable (m : (ℓ : Loc nD τ sig) → Buf (Elt Ideal) ℓ) (c : Dev nD)

/-! The reference's arguments, as the functions that `Spec` takes. -/

def rH (r : Fin 4352) (k : Fin 1024) : EReal := m ((c.tc : Thread nD τ).loc main_arg0) (ix2 r k)
def rMods (s : Fin 2) (i : Fin 3) (k : Fin 1024) : EReal :=
  m ((c.tc : Thread nD τ).loc main_arg1) (ix4 1 s ⟨6 + i.val, by omega⟩ k)
def rG (k : Fin 1024) : EReal := m ((c.tc : Thread nD τ).loc main_arg2) (ix3 1 0 k)
def rWi (k : Fin 1024) (j : Fin 5632) : EReal := m ((c.tc : Thread nD τ).loc main_arg3) (ix2 k j)
def rWo (j : Fin 2816) (k : Fin 1024) : EReal := m ((c.tc : Thread nD τ).loc main_arg4) (ix2 j k)

/-- Modulation parameter `i` of token `r`, chosen by the token's place as the reference's concatenation does. -/
def pick (i : Fin 16) (r : Fin 4352) (k : Fin 1024) : EReal :=
  if _h : r.val < 4096 then m ((c.tc : Thread nD τ).loc main_arg1) (ix4 1 0 i k)
  else m ((c.tc : Thread nD τ).loc main_arg1) (ix4 1 1 i k)

theorem pick_eq (i : Fin 3) (r : Fin 4352) : pick m c ⟨6 + i.val, by omega⟩ r = rMods m c (stream r) i := by
  funext k
  unfold pick stream rMods
  split <;> rfl

/-- The widened token, with its parameters picked as the reference does. -/
theorem wide_eq (r : Fin 4352) :
    widen (modNorm (rH m c r) (rG m c) (pick m c 6 r) (pick m c 7 r)) (rWi m c)
      = tokWide (rH m c) (rMods m c) (rG m c) (rWi m c) r := by
  unfold tokWide tokNorm
  rw [← pick_eq m c 0 r, ← pick_eq m c 1 r]
  rfl

/-- The branch's results. -/
theorem branch_at (r : Fin 4352) (k : Fin 1024) :
    res_out2 m c (ix2 r k) = tokBranch (rH m c) (rMods m c) (rG m c) (rWi m c) (rWo m c) r k := by
  unfold tokBranch
  rw [← wide_eq]
  unfold res_out2 res_main_v45
  clean_types
  pointwise
  rfl

/-- The half-step's results. -/
theorem out_at (r : Fin 4352) (k : Fin 1024) :
    res_out0 m c (ix2 r k) = tokOut (rH m c) (rMods m c) (rG m c) (rWi m c) (rWo m c) r k := by
  unfold tokOut tokBranch
  rw [← wide_eq, ← pick_eq m c 2 r]
  unfold res_out0 res_main_v49
  clean_types
  pointwise
  rfl

/-- The reference's run: its three results as functions of its arguments, the arguments unchanged. -/
theorem ref_run (ρ : Dev nD → PrngReg) :
    θ_run defs (onTc (τ := τ) (main (F := Ideal))) ⟨m, fun _ => 0, ρ⟩ fun r => ∀ c : Dev nD,
      r.2.mem ((c.tc : Thread nD τ).loc main_v49)
          = (fun i : S4352x1024.Idx => tokOut (rH m c) (rMods m c) (rG m c) (rWi m c) (rWo m c) (i 0) (i 1))
      ∧ r.2.mem ((c.tc : Thread nD τ).loc main_v50)
          = (fun i : S4352x5632.Idx => tokWide (rH m c) (rMods m c) (rG m c) (rWi m c) (i 0) (i 1))
      ∧ r.2.mem ((c.tc : Thread nD τ).loc main_v45)
          = (fun i : S4352x1024.Idx => tokBranch (rH m c) (rMods m c) (rG m c) (rWi m c) (rWo m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (run m ρ)
  obtain ⟨h0, h1, h2, h3⟩ := h c
  refine ⟨h0.trans ?_, h1.trans ?_, h2.trans ?_, h3⟩
  · funext i
    obtain ⟨a, b, rfl⟩ : ∃ a b, i = ix2 a b := ⟨i 0, i 1, eq_ix2 i⟩
    exact out_at m c a b
  · funext i
    obtain ⟨a, b, rfl⟩ : ∃ (a : Fin 4352) (b : Fin 5632), i = ix2 a b := ⟨i 0, i 1, eq_ix2 i⟩
    refine Eq.trans ?_ (congrFun (wide_eq m c a) b)
    clean_types
    pointwise
    rfl
  · funext i
    obtain ⟨a, b, rfl⟩ : ∃ a b, i = ix2 a b := ⟨i 0, i 1, eq_ix2 i⟩
    exact branch_at m c a b

end Reference

theorem frame : Cert.quiescent_FfnD := fun m ρ _ => Cert.FfnD.Gen.frame m ρ

theorem frame_ideal : Cert.quiescent_FfnDIdeal := fun m ρ _ => Cert.FfnDIdeal.Gen.frame m ρ

theorem frame_ref : Cert.quiescent_FfnDRefIdeal := fun m ρ _ =>
  (θ_run Cert.FfnDRefIdeal.defs _ _).mono
    (fun r h => ⟨fun c => (h c).2.2.2, sem_eq_zero_of_no_sems (by decide) r.2⟩) (ref_run m ρ)

/-- The kernel's three results are the reference's. -/
theorem algebraic : Cert.algebraic_FfnDIdeal_FfnDRefIdeal := by
  intro m g m' g' _ hm
  refine ⟨fun c => (Cert.FfnDIdeal.Gen.dats m 0 c).arrAt 5 Cert.FfnDIdeal.cfg0.N,
    fun c => (Cert.FfnDIdeal.Gen.dats m 0 c).arrAt 6 Cert.FfnDIdeal.cfg0.N,
    fun c => (Cert.FfnDIdeal.Gen.dats m 0 c).arrAt 7 Cert.FfnDIdeal.cfg0.N,
    Cert.FfnDIdeal.Value.run_blocks m g, ?_⟩
  refine (θ_run Cert.FfnDRefIdeal.defs _ _).mono (fun r h c => ?_) (ref_run m' g')
  obtain ⟨h0, h1, h2, h3⟩ := h c
  obtain ⟨e0, e1, e2, e3, e4⟩ := hm c
  have eH : rH m' c = aH m c := funext fun _ => funext fun _ => congrFun e0 _
  have eM : rMods m' c = aMods m c := funext fun _ => funext fun _ => funext fun _ => congrFun e1 _
  have eG : rG m' c = aG m c := funext fun _ => congrFun e2 _
  have eI : rWi m' c = aWi m c := funext fun _ => funext fun _ => congrFun e3 _
  have eO : rWo m' c = aWo m c := funext fun _ => funext fun _ => congrFun e4 _
  rw [eH, eM, eG, eI, eO] at h0 h2
  rw [eH, eM, eG, eI] at h1
  exact ⟨h0.trans (final5 m c).symm, h1.trans (final6 m c).symm, h2.trans (final7 m c).symm, h3⟩

end Macaron.Ffn2L1

end
-- ==== Proof.FfnBwd.Points.lean ====
module

public import proofs.«01_k».proof.Proof.Gen.FfnBwdIdeal.Frame
public import proofs.«01_k».proof.Proof.Gen.FfnBwdIdeal.Skeleton

@[expose] public section

set_option maxRecDepth 16384

noncomputable section

namespace Cert.FfnBwdIdeal.Value

open Cert.FfnBwdIdeal Cert.FfnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The conditional of the body is taken: the point is the first of the latent rows or of the context rows. -/
abbrev fresh (i : grid0.Coords) : Prop := (Scalar.cmpi .ne (Scalar.extui (Scalar.ori (Scalar.cmpi .eq (BitVec.ofNat 32 (i 0).val) 0#32) (Scalar.cmpi .eq (BitVec.ofNat 32 (i 0).val) 16#32))) 0#32) = 1#1

theorem fresh_iff : ∀ t : Fin cfg0.N, fresh (grid0.coords t) ↔ t.val % 16 = 0 := by decide +kernel

end Cert.FfnBwdIdeal.Value

end
-- ==== Proof.FfnBwd.Body.lean ====
module

public import proofs.«01_k».proof.Proof.FfnBwd.Points
public import Idealize.ShloMosaic.Lib.Pipeline.ReadBack

@[expose] public section

set_option maxRecDepth 16384

noncomputable section

namespace Cert.FfnBwdIdeal.Value

open Cert.FfnBwdIdeal Cert.FfnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The blocks' parts -/

/-- The first half of the gated columns of the hidden block. -/
def gateLo (x1 : Vec F S256x5632 .bf16) : Vec F S256x1408 .bf16 := View.ld x1 (Rect.unit (s := S256x5632) ![0, 0] S256x1408.size inb_S256x5632_S256x1408_0_0)

/-- The first half of its plain columns. -/
def upLo (x1 : Vec F S256x5632 .bf16) : Vec F S256x1408 .bf16 := View.ld x1 (Rect.unit (s := S256x5632) ![0, 2816] S256x1408.size inb_S256x5632_S256x1408_0_2816)

/-- The second half of its gated columns. -/
def gateHi (x1 : Vec F S256x5632 .bf16) : Vec F S256x1408 .bf16 := View.ld x1 (Rect.unit (s := S256x5632) ![0, 1408] S256x1408.size inb_S256x5632_S256x1408_0_1408)

/-- The second half of its plain columns. -/
def upHi (x1 : Vec F S256x5632 .bf16) : Vec F S256x1408 .bf16 := View.ld x1 (Rect.unit (s := S256x5632) ![0, 4224] S256x1408.size inb_S256x5632_S256x1408_0_4224)

/-- The first half of the rows of the output weight. -/
def outLo (x7 : Vec F S2816x1024 .bf16) : Vec F S1408x1024 .bf16 := View.ld x7 (Rect.unit (s := S2816x1024) ![0, 0] S1408x1024.size inb_S2816x1024_S1408x1024_0_0)

/-- The second half of them. -/
def outHi (x7 : Vec F S2816x1024 .bf16) : Vec F S1408x1024 .bf16 := View.ld x7 (Rect.unit (s := S2816x1024) ![1408, 0] S1408x1024.size inb_S2816x1024_S1408x1024_1408_0)

/-- Slot 0 of the input weight. -/
def slot0 (x6 : Vec F S4x1024x1408 .bf16) : Vec F S1x1024x1408 .bf16 := View.ld x6 (Rect.unit (s := S4x1024x1408) ![0, 0, 0] S1x1024x1408.size inb_S4x1024x1408_S1x1024x1408_0_0_0)

/-- Slot 1 of the input weight. -/
def slot1 (x6 : Vec F S4x1024x1408 .bf16) : Vec F S1x1024x1408 .bf16 := View.ld x6 (Rect.unit (s := S4x1024x1408) ![1, 0, 0] S1x1024x1408.size inb_S4x1024x1408_S1x1024x1408_1_0_0)

/-- Slot 2 of the input weight. -/
def slot2 (x6 : Vec F S4x1024x1408 .bf16) : Vec F S1x1024x1408 .bf16 := View.ld x6 (Rect.unit (s := S4x1024x1408) ![2, 0, 0] S1x1024x1408.size inb_S4x1024x1408_S1x1024x1408_2_0_0)

/-- Slot 3 of the input weight. -/
def slot3 (x6 : Vec F S4x1024x1408 .bf16) : Vec F S1x1024x1408 .bf16 := View.ld x6 (Rect.unit (s := S4x1024x1408) ![3, 0, 0] S1x1024x1408.size inb_S4x1024x1408_S1x1024x1408_3_0_0)

/-- The whole block of a token window, as the body loads it. -/
def rows (x : Vec F S256x1024 .f32) : Vec F S256x1024 .f32 := View.ld x (Rect.unit (s := S256x1024) ![0, 0] S256x1024.size inb_S256x1024_S256x1024_0_0)

/-- The whole block of the norm's weight. -/
def weight (x5 : Vec F S1x1x1024 .f32) : Vec F S1x1x1024 .f32 := View.ld x5 (Rect.unit (s := S1x1x1024) ![0, 0, 0] S1x1x1024.size inb_S1x1x1024_S1x1x1024_0_0_0)

/-! ## What the body computes: `p`, `q` and `s` are the rows of gate, scale and shift it loads -/

section

variable (x0 : Vec F S256x1024 .f32) (x1 : Vec F S256x5632 .bf16) (x2 x3 : Vec F S256x1024 .f32) (s q p : Vec F S1x1x1x1024 .f32)
  (x5 : Vec F S1x1x1024 .f32) (x6 : Vec F S4x1024x1408 .bf16) (x7 : Vec F S2816x1024 .bf16)

/-- The cotangent of the feed-forward output. -/
def dOut : FVec F S256x1024 .bf16 := k0_pay13 (rows x3) (k0_pay5 p)

/-- The cotangent of the activation, in two halves. -/
def dActLo : FVec F S256x1408 .f32 := k0_pay20 (rows x3) (k0_pay5 p) (outLo x7)
def dActHi : FVec F S256x1408 .f32 := k0_pay32 (dOut x3 p) (outHi x7)

/-- The cotangents of the gated and of the plain columns, in two halves each. -/
def dGateLo : FVec F S256x1408 .bf16 :=
  k0_pay24 (k0_pay17 (gateLo x1)) (k0_pay21 (rows x3) (k0_pay5 p) (upLo x1) (outLo x7)) (k0_pay22 (gateLo x1)) k0_pay23
def dUpLo : FVec F S256x1408 .bf16 := k0_pay25 (k0_pay18 (gateLo x1)) (dActLo x3 p x7)
def dGateHi : FVec F S256x1408 .bf16 :=
  k0_pay35 (k0_pay29 (gateHi x1)) (k0_pay33 (dOut x3 p) (upHi x1) (outHi x7)) (k0_pay34 (gateHi x1)) (Scalar.ofBits .f32 0x3F800000#32)
def dUpHi : FVec F S256x1408 .bf16 := k0_pay36 (k0_pay30 (gateHi x1)) (dActHi x3 p x7)

/-- The first half's part of the cotangent of the normed tokens. -/
def dNormLo : FVec F S256x1024 .f32 :=
  k0_pay26 k0_pay14 (k0_pay17 (gateLo x1)) (k0_pay18 (gateLo x1)) (dActLo x3 p x7)
    (k0_pay21 (rows x3) (k0_pay5 p) (upLo x1) (outLo x7)) (k0_pay22 (gateLo x1)) k0_pay23 (slot0 x6) (slot2 x6)

/-- The cotangent of the normed tokens. -/
def dNorm : FVec F S256x1024 .f32 :=
  k0_pay37 (dNormLo x1 x3 p x6 x7) (k0_pay29 (gateHi x1)) (k0_pay30 (gateHi x1)) (dActHi x3 p x7)
    (k0_pay33 (dOut x3 p) (upHi x1) (outHi x7)) (k0_pay34 (gateHi x1)) (Scalar.ofBits .f32 0x3F800000#32) (slot1 x6) (slot3 x6)

/-- What the norm's backward pass adds to the cotangent of the tokens. -/
def dTok : FVec F S256x1024 .f32 :=
  k0_pay39 (k0_pay3 (weight x5)) (k0_pay4 q) (k0_pay6 (rows x0)) (k0_pay7 (rows x0)) (dNormLo x1 x3 p x6 x7) (k0_pay29 (gateHi x1)) (k0_pay30 (gateHi x1)) (dActHi x3 p x7)
    (k0_pay33 (dOut x3 p) (upHi x1) (outHi x7)) (k0_pay34 (gateHi x1)) (Scalar.ofBits .f32 0x3F800000#32) (slot1 x6) (slot3 x6)

/-- The column sums of the four parameter gradients. -/
def shiftSum : FVec F S1x1024 .f32 :=
  k0_pay40 (dNormLo x1 x3 p x6 x7) (k0_pay29 (gateHi x1)) (k0_pay30 (gateHi x1)) (dActHi x3 p x7)
    (k0_pay33 (dOut x3 p) (upHi x1) (outHi x7)) (k0_pay34 (gateHi x1)) (Scalar.ofBits .f32 0x3F800000#32) (slot1 x6) (slot3 x6)
def scaleSum : FVec F S1x1024 .f32 :=
  k0_pay41 (k0_pay8 (rows x0) (weight x5)) (dNormLo x1 x3 p x6 x7) (k0_pay29 (gateHi x1)) (k0_pay30 (gateHi x1)) (dActHi x3 p x7)
    (k0_pay33 (dOut x3 p) (upHi x1) (outHi x7)) (k0_pay34 (gateHi x1)) (Scalar.ofBits .f32 0x3F800000#32) (slot1 x6) (slot3 x6)
def gateSum : FVec F S1x1024 .f32 := k0_pay12 (rows x3) (rows x2)
def weightSum : FVec F S1024 .f32 :=
  k0_pay42 (k0_pay4 q) (k0_pay7 (rows x0)) (dNormLo x1 x3 p x6 x7) (k0_pay29 (gateHi x1)) (k0_pay30 (gateHi x1)) (dActHi x3 p x7)
    (k0_pay33 (dOut x3 p) (upHi x1) (outHi x7)) (k0_pay34 (gateHi x1)) (Scalar.ofBits .f32 0x3F800000#32) (slot1 x6) (slot3 x6)

/-! ## What it leaves in the output buffers -/

def out8 : Vec F S256x1024 .f32 :=
  View.canon [⟨(Rect.unit (s := S256x1024) ![0, 0] S256x1024.size inb_S256x1024_S256x1024_0_0), k0_pay43 (rows x3) (dTok x0 x1 x3 q p x5 x6 x7)⟩]
def out9 : Vec F S256x5632 .bf16 :=
  View.canon [⟨(Rect.unit (s := S256x5632) ![0, 4224] S256x1408.size inb_S256x5632_S256x1408_0_4224), dUpHi x1 x3 p x7⟩,
    ⟨(Rect.unit (s := S256x5632) ![0, 1408] S256x1408.size inb_S256x5632_S256x1408_0_1408), dGateHi x1 x3 p x7⟩,
    ⟨(Rect.unit (s := S256x5632) ![0, 2816] S256x1408.size inb_S256x5632_S256x1408_0_2816), dUpLo x1 x3 p x7⟩,
    ⟨(Rect.unit (s := S256x5632) ![0, 0] S256x1408.size inb_S256x5632_S256x1408_0_0), dGateLo x1 x3 p x7⟩]
def out10 : Vec F S256x1024 .bf16 := View.canon [⟨(Rect.unit (s := S256x1024) ![0, 0] S256x1024.size inb_S256x1024_S256x1024_0_0), dOut x3 p⟩]
def out11 : Vec F S256x1024 .bf16 :=
  View.canon [⟨(Rect.unit (s := S256x1024) ![0, 0] S256x1024.size inb_S256x1024_S256x1024_0_0), k0_pay11 (k0_pay9 (rows x0) (weight x5) q) (k0_pay10 s)⟩]
def out12 : Vec F S256x2816 .bf16 :=
  View.canon [⟨(Rect.unit (s := S256x2816) ![0, 1408] S256x1408.size inb_S256x2816_S256x1408_0_1408), k0_pay31 (gateHi x1) (upHi x1)⟩,
    ⟨(Rect.unit (s := S256x2816) ![0, 0] S256x1408.size inb_S256x2816_S256x1408_0_0), k0_pay19 (gateLo x1) (upLo x1)⟩]

/-- The parameter gradients, the buffer having held `y`. -/
def out13 (y : Vec F S1x8x1024 .f32) : Vec F S1x8x1024 .f32 :=
  View.canon [
    ⟨(Rect.unit (s := S1x8x1024) ![0, 3, 0] S1x1x1024.size inb_S1x8x1024_S1x1x1024_0_3_0), k0_pay1 (k0_pay47 (weightSum x0 x1 x3 q p x6 x7) (View.ld y (Rect.unit (s := S1x8x1024) ![0, 3, 0] S1x1x1024.size inb_S1x8x1024_S1x1x1024_0_3_0)))⟩,
    ⟨(Rect.unit (s := S1x8x1024) ![0, 2, 0] S1x1x1024.size inb_S1x8x1024_S1x1x1024_0_2_0), k0_pay46 (gateSum x2 x3) (View.ld y (Rect.unit (s := S1x8x1024) ![0, 2, 0] S1x1x1024.size inb_S1x8x1024_S1x1x1024_0_2_0))⟩,
    ⟨(Rect.unit (s := S1x8x1024) ![0, 1, 0] S1x1x1024.size inb_S1x8x1024_S1x1x1024_0_1_0), k0_pay45 (scaleSum x0 x1 x3 p x5 x6 x7) (View.ld y (Rect.unit (s := S1x8x1024) ![0, 1, 0] S1x1x1024.size inb_S1x8x1024_S1x1x1024_0_1_0))⟩,
    ⟨(Rect.unit (s := S1x8x1024) ![0, 0, 0] S1x1x1024.size inb_S1x8x1024_S1x1x1024_0_0_0), k0_pay44 (shiftSum x1 x3 p x6 x7) (View.ld y (Rect.unit (s := S1x8x1024) ![0, 0, 0] S1x1x1024.size inb_S1x8x1024_S1x1x1024_0_0_0))⟩,
    ⟨(Rect.unit (s := S1x8x1024) ![0, 0, 0] S1x8x1024.size inb_S1x8x1024_S1x8x1024_0_0_0), y⟩]

end

/-! ## The stores cover their buffers -/

theorem cover_tok {e : EltTy} (w : Vec F S256x1024 e) (y : S256x1024.Idx) :
    ∃ p ∈ ([⟨(Rect.unit (s := S256x1024) ![0, 0] S256x1024.size inb_S256x1024_S256x1024_0_0), w⟩] : List (View.Piece (Elt F) S256x1024 e)), y ∈ p.1.set :=
  View.cover_of_tiled _ S256x1024.size (by rfl) y

theorem cover_hidden (w0 w1 w2 w3 : Vec F S256x1408 .bf16) (y : S256x5632.Idx) :
    ∃ p ∈ ([⟨(Rect.unit (s := S256x5632) ![0, 4224] S256x1408.size inb_S256x5632_S256x1408_0_4224), w0⟩, ⟨(Rect.unit (s := S256x5632) ![0, 1408] S256x1408.size inb_S256x5632_S256x1408_0_1408), w1⟩,
      ⟨(Rect.unit (s := S256x5632) ![0, 2816] S256x1408.size inb_S256x5632_S256x1408_0_2816), w2⟩, ⟨(Rect.unit (s := S256x5632) ![0, 0] S256x1408.size inb_S256x5632_S256x1408_0_0), w3⟩] : List (View.Piece (Elt F) S256x5632 .bf16)), y ∈ p.1.set :=
  View.cover_of_tiled (s := S256x5632) _ S256x1408.size (by rfl) y

theorem cover_act (w0 w1 : Vec F S256x1408 .bf16) (y : S256x2816.Idx) :
    ∃ p ∈ ([⟨(Rect.unit (s := S256x2816) ![0, 1408] S256x1408.size inb_S256x2816_S256x1408_0_1408), w0⟩, ⟨(Rect.unit (s := S256x2816) ![0, 0] S256x1408.size inb_S256x2816_S256x1408_0_0), w1⟩] : List (View.Piece (Elt F) S256x2816 .bf16)), y ∈ p.1.set :=
  View.cover_of_tiled (s := S256x2816) _ S256x1408.size (by rfl) y

theorem whole_emb (y : S1x8x1024.Idx) : (Rect.unit (s := S1x8x1024) ![0, 0, 0] S1x8x1024.size inb_S1x8x1024_S1x8x1024_0_0_0).emb y = y :=
  Rect.emb_eq_of_coords _ _ _ fun a => by fin_cases a <;> simp [Rect.unit]

theorem whole_mem (y : S1x8x1024.Idx) : y ∈ (Rect.unit (s := S1x8x1024) ![0, 0, 0] S1x8x1024.size inb_S1x8x1024_S1x8x1024_0_0_0).set := by
  rw [← Rect.map_emb_univ, Finset.mem_map]
  exact ⟨y, Finset.mem_univ _, whole_emb y⟩

/-- Writes over contents that read `y` leave what they would leave over a write of the whole of `y`. -/
theorem read_writes_over {σ : RefSig} {κ : Kind} {sp : Space} (v : View σ κ sp S1x8x1024 .f32) (f : v.ty.Contents (Elt F)) :
    ∀ L : List (View.Piece (Elt F) S1x8x1024 .f32),
      v.read (Elt F) (v.writes (Elt F) f L) = View.canon (L ++ [⟨(Rect.unit (s := S1x8x1024) ![0, 0, 0] S1x8x1024.size inb_S1x8x1024_S1x8x1024_0_0_0), v.read (Elt F) f⟩])
  | [] => by
    funext y
    conv_rhs => rw [← whole_emb y]
    exact (View.canon_cons_emb (Val := Elt F) (Rect.unit (s := S1x8x1024) ![0, 0, 0] S1x8x1024.size inb_S1x8x1024_S1x8x1024_0_0_0) (v.read (Elt F) f) [] y).symm
  | p :: L => by
    funext y
    by_cases hy : y ∈ p.1.set
    · obtain ⟨r, w⟩ := p
      obtain ⟨x, rfl⟩ : ∃ x, r.emb x = y := r.exists_idx_of_mem hy
      rw [View.read_writes_cons_emb, List.cons_append, View.canon_cons_emb]
    · rw [View.read_writes_cons_miss v f p L y hy, List.cons_append, View.canon_cons_of_not_mem _ _ hy, read_writes_over v f L]

end Cert.FfnBwdIdeal.Value

end
-- ==== Proof.FfnBwd.Spec.lean ====
module

public import proofs.«01_k».proof.Proof.Ffn.Spec
public import Idealize.ShloMosaic.Lib.Pipeline.ValueKit

/-! The backward pass of one macaron half-step, token by token, over the extended reals: the cotangents of the branch, of
    the activation, of the widened token, of the normed token and of the token itself, and each token's terms of the four
    parameter gradients. No program is mentioned. -/

@[expose] public section

noncomputable section

namespace Macaron

open Idealize.ShloMosaic

/-- A token times the reciprocal root of its power. -/
def normed (x : Fin 1024 → EReal) (k : Fin 1024) : EReal := x k * Ideal.rsqrt (power x)

/-- The cotangent of the branch: half the gate times the cotangent of the half-step. -/
def dBranch (gate dh : Fin 1024 → EReal) (k : Fin 1024) : EReal := Ideal.ofBits FTy.f32 1056964608#32 * gate k * dh k

/-- The cotangent of the activation. -/
def dAct (df : Fin 1024 → EReal) (wo : Fin 2816 → Fin 1024 → EReal) (j : Fin 2816) : EReal := ∑ k, df k * wo j k

/-- The cotangent of a gated column `a`, for the cotangent `d` of the activation and the plain column `b`. -/
def dGate (a b d : EReal) : EReal := d * b * (Ideal.logistic a * (1 + a * (1 - Ideal.logistic a)))

/-- The cotangent of a plain column. -/
def dUp (a d : EReal) : EReal := d * (a * Ideal.logistic a)

/-- The cotangent of the gated columns of a widened token. -/
def dGates (ab : Fin 5632 → EReal) (d : Fin 2816 → EReal) (j : Fin 2816) : EReal :=
  dGate (ab ⟨j.val, by omega⟩) (ab ⟨2816 + j.val, by omega⟩) (d j)

/-- The cotangent of its plain columns. -/
def dUps (ab : Fin 5632 → EReal) (d : Fin 2816 → EReal) (j : Fin 2816) : EReal := dUp (ab ⟨j.val, by omega⟩) (d j)

/-- Two families of 2816 columns, side by side. -/
def beside (a b : Fin 2816 → EReal) (j : Fin 5632) : EReal :=
  if h : j.val < 2816 then a ⟨j.val, h⟩ else b ⟨j.val - 2816, by omega⟩

theorem beside_lo (a b : Fin 2816 → EReal) (j : Fin 2816) : beside a b ⟨j.val, by omega⟩ = a j := by
  unfold beside
  rw [dif_pos j.isLt]

theorem beside_hi (a b : Fin 2816 → EReal) (j : Fin 2816) : beside a b ⟨2816 + j.val, by omega⟩ = b j := by
  unfold beside
  rw [dif_neg (by simp only; omega)]
  exact congrArg b (Fin.ext (by simp only; omega))

/-- The cotangent of the normed token. -/
def dNormed (dab : Fin 5632 → EReal) (wi : Fin 1024 → Fin 5632 → EReal) (k : Fin 1024) : EReal := ∑ j, dab j * wi k j

/-- The product over the widened columns as four products, over the halves of the gated and of the plain columns, in the
    order in which the kernel adds them. -/
theorem dNormed_quarters (a b : Fin 2816 → EReal) (wi : Fin 1024 → Fin 5632 → EReal) (k : Fin 1024) :
    dNormed (beside a b) wi k
      = ∑ j : Fin 1408, a ⟨j.val, by omega⟩ * wi k ⟨j.val, by omega⟩
        + ∑ j : Fin 1408, b ⟨j.val, by omega⟩ * wi k ⟨2816 + j.val, by omega⟩
        + ∑ j : Fin 1408, a ⟨1408 + j.val, by omega⟩ * wi k ⟨1408 + j.val, by omega⟩
        + ∑ j : Fin 1408, b ⟨1408 + j.val, by omega⟩ * wi k ⟨4224 + j.val, by omega⟩ := by
  unfold dNormed
  rw [Fin.sum_univ_two_halves 2816 2816 rfl]
  have ha : ∑ j : Fin 2816, beside a b ⟨j.val, by omega⟩ * wi k ⟨j.val, by omega⟩
      = ∑ j : Fin 2816, a j * wi k ⟨j.val, by omega⟩ := Finset.sum_congr rfl fun j _ => by rw [beside_lo]
  have hb : ∑ j : Fin 2816, beside a b ⟨2816 + j.val, by omega⟩ * wi k ⟨2816 + j.val, by omega⟩
      = ∑ j : Fin 2816, b j * wi k ⟨2816 + j.val, by omega⟩ := Finset.sum_congr rfl fun j _ => by rw [beside_hi]
  refine (congrArg₂ (· + ·) ha hb).trans ?_
  rw [Fin.sum_univ_two_halves 1408 1408 rfl, Fin.sum_univ_two_halves 1408 1408 rfl]
  have h : ∀ j : Fin 1408, (⟨2816 + (1408 + j.val), by omega⟩ : Fin 5632) = ⟨4224 + j.val, by omega⟩ :=
    fun j => Fin.ext (by simp only; omega)
  simp only [h]
  ac_rfl

/-- The cotangent of the normalised token, through the modulation and the norm's weight. -/
def dHat (dn g scale : Fin 1024 → EReal) (k : Fin 1024) : EReal := dn k * (1 + scale k) * g k

/-- What the norm adds to the cotangent of the token, for the cotangent `dx` of the normalised token. -/
def dThrough (x dx : Fin 1024 → EReal) (k : Fin 1024) : EReal :=
  Ideal.rsqrt (power x)
    * (dx k - normed x k * Ideal.div (∑ k, dx k * normed x k) (Ideal.ofBits FTy.f32 1149239296#32))

/-- What the backward pass reads: the tokens, the widened tokens, the branch, the cotangent of the half-step, the modulation
    parameters (rows `0`, `1`, `2` of a stream's set are shift, scale and gate), the norm's weight and the branch's weights. -/
structure Back where
  h : Fin 4352 → Fin 1024 → EReal
  ab : Fin 4352 → Fin 5632 → EReal
  f : Fin 4352 → Fin 1024 → EReal
  dh : Fin 4352 → Fin 1024 → EReal
  mods : Fin 2 → Fin 3 → Fin 1024 → EReal
  g : Fin 1024 → EReal
  wi : Fin 1024 → Fin 5632 → EReal
  wo : Fin 2816 → Fin 1024 → EReal

namespace Back

variable (B : Back)

/-- The cotangent of token `r`'s branch. -/
def df (r : Fin 4352) : Fin 1024 → EReal := dBranch (B.mods (stream r) 2) (B.dh r)

/-- The cotangent of its activation. -/
def dact (r : Fin 4352) : Fin 2816 → EReal := dAct (B.df r) B.wo

/-- The cotangent of its widened columns. -/
def dab (r : Fin 4352) : Fin 5632 → EReal := beside (dGates (B.ab r) (B.dact r)) (dUps (B.ab r) (B.dact r))

/-- The cotangent of the normed token. -/
def dn (r : Fin 4352) : Fin 1024 → EReal := dNormed (B.dab r) B.wi

/-- The cotangent of the normalised token. -/
def dx (r : Fin 4352) : Fin 1024 → EReal := dHat (B.dn r) B.g (B.mods (stream r) 1)

/-- The cotangent of the token. -/
def dtok (r : Fin 4352) (k : Fin 1024) : EReal := B.dh r k + dThrough (B.h r) (B.dx r) k

/-- The normed token. -/
def n (r : Fin 4352) : Fin 1024 → EReal := modNorm (B.h r) B.g (B.mods (stream r) 0) (B.mods (stream r) 1)

/-- Token `r`'s terms of the four parameter gradients: of the shift, the scale, the gate and the norm's weight. -/
def term (i : Fin 4) (r : Fin 4352) (k : Fin 1024) : EReal :=
  match i with
  | 0 => B.dn r k
  | 1 => B.dn r k * (normed (B.h r) k * B.g k)
  | 2 => B.dh r k * (Ideal.ofBits FTy.f32 1056964608#32 * B.f r k)
  | 3 => B.dn r k * (1 + B.mods (stream r) 1 k) * normed (B.h r) k

/-- A parameter gradient of a stream: the sum over the stream's tokens, 4096 of the first and 256 of the second. -/
def grad (s : Fin 2) (i : Fin 4) (k : Fin 1024) : EReal :=
  match s with
  | 0 => ∑ r : Fin 4096, B.term i ⟨r.val, by omega⟩ k
  | 1 => ∑ r : Fin 256, B.term i ⟨4096 + r.val, by omega⟩ k

/-- The eight rows of a stream's block of gradients, the last four zero. -/
def rows (s : Fin 2) (i : Fin 8) (k : Fin 1024) : EReal :=
  if h : i.val < 4 then B.grad s ⟨i.val, h⟩ k else 0

end Back

end Macaron
-- ==== Proof.FfnBwd.Block.lean ====
module

public import proofs.«01_k».proof.Proof.FfnBwd.Body
public import proofs.«01_k».proof.Proof.FfnBwd.Spec
public import Idealize.ShloMosaic.Lib.Pipeline.ValueKit

/-! What one grid point of the backward half-step computes, token by token, as the functions of `Spec`: if the blocks it
    reads are those of tile `t`, its results are the backward pass of the tile's tokens. -/

@[expose] public section

set_option maxRecDepth 16384

noncomputable section

namespace Macaron.Bwd

open Idealize.ShloMosaic Idealize.ShloMosaic.TcCoe Idealize.SL.Sem
open Cert.FfnBwdIdeal Cert.FfnBwdIdeal.Gen Cert.FfnBwdIdeal.Value

/-- Token `256 t + r` of the whole array. -/
def tok (t : Fin 17) (r : Fin 256) : Fin 4352 := ⟨256 * t.val + r.val, by omega⟩

/-- The blocks of tile `t`: the rows of the four token arrays, the three parameters of the tile's stream, and the weights. -/
structure Tile (B : Back) (t : Fin 17) (x0 : Vec Ideal S256x1024 .f32) (x1 : Vec Ideal S256x5632 .bf16)
    (x2 x3 : Vec Ideal S256x1024 .f32) (s q p : Vec Ideal S1x1x1x1024 .f32) (x5 : Vec Ideal S1x1x1024 .f32)
    (x6 : Vec Ideal S4x1024x1408 .bf16) (x7 : Vec Ideal S2816x1024 .bf16) : Prop where
  h : ∀ (r : Fin 256) (k : Fin 1024), x0 (ix2 r k) = B.h (tok t r) k
  ab : ∀ (r : Fin 256) (j : Fin 5632), x1 (ix2 r j) = B.ab (tok t r) j
  f : ∀ (r : Fin 256) (k : Fin 1024), x2 (ix2 r k) = B.f (tok t r) k
  dh : ∀ (r : Fin 256) (k : Fin 1024), x3 (ix2 r k) = B.dh (tok t r) k
  shift : ∀ (r : Fin 256) (k : Fin 1024), s (ix4 0 0 0 k) = B.mods (stream (tok t r)) 0 k
  scale : ∀ (r : Fin 256) (k : Fin 1024), q (ix4 0 0 0 k) = B.mods (stream (tok t r)) 1 k
  gate : ∀ (r : Fin 256) (k : Fin 1024), p (ix4 0 0 0 k) = B.mods (stream (tok t r)) 2 k
  g : ∀ k : Fin 1024, x5 (ix3 0 0 k) = B.g k
  wi : ∀ (i : Fin 4) (k : Fin 1024) (j : Fin 1408), x6 (ix3 i k j) = B.wi k ⟨1408 * i.val + j.val, by omega⟩
  wo : ∀ (j : Fin 2816) (k : Fin 1024), x7 (ix2 j k) = B.wo j k

section

variable {B : Back} {t : Fin 17} {x0 : Vec Ideal S256x1024 .f32} {x1 : Vec Ideal S256x5632 .bf16}
  {x2 x3 : Vec Ideal S256x1024 .f32} {s q p : Vec Ideal S1x1x1x1024 .f32} {x5 : Vec Ideal S1x1x1024 .f32}
  {x6 : Vec Ideal S4x1024x1408 .bf16} {x7 : Vec Ideal S2816x1024 .bf16} (T : Tile B t x0 x1 x2 x3 s q p x5 x6 x7)

include T

theorem dOut_at (r : Fin 256) (k : Fin 1024) : dOut x3 p (ix2 r k) = B.df (tok t r) k := by
  unfold dOut rows
  pointwise [k0_pay13, k0_pay5]
  rw [T.dh, T.gate r]
  rfl

theorem dActLo_at (r : Fin 256) (j : Fin 1408) : dActLo x3 p x7 (ix2 r j) = B.dact (tok t r) ⟨j.val, by omega⟩ := by
  have h : dActLo x3 p x7 (ix2 r j) = ∑ k, dOut x3 p (ix2 r k) * x7 (ix2 ⟨j.val, by omega⟩ k) := by
    unfold dActLo dOut outLo rows
    pointwise [k0_pay20]
  rw [h]
  simp only [dOut_at T, T.wo]
  rfl

theorem dActHi_at (r : Fin 256) (j : Fin 1408) : dActHi x3 p x7 (ix2 r j) = B.dact (tok t r) ⟨1408 + j.val, by omega⟩ := by
  have h : dActHi x3 p x7 (ix2 r j) = ∑ k, dOut x3 p (ix2 r k) * x7 (ix2 ⟨1408 + j.val, by omega⟩ k) := by
    unfold dActHi outHi
    pointwise [k0_pay32]
  rw [h]
  simp only [dOut_at T, T.wo]
  rfl

theorem dGateLo_at (r : Fin 256) (j : Fin 1408) :
    dGateLo x1 x3 p x7 (ix2 r j) = dGates (B.ab (tok t r)) (B.dact (tok t r)) ⟨j.val, by omega⟩ := by
  have h : dGateLo x1 x3 p x7 (ix2 r j)
      = dGate (x1 (ix2 r ⟨j.val, by omega⟩)) (x1 (ix2 r ⟨2816 + j.val, by omega⟩)) (dActLo x3 p x7 (ix2 r j)) := by
    unfold dGateLo dActLo gateLo upLo k0_pay21
    pointwise [k0_pay24, k0_pay15, k0_pay16, k0_pay17, k0_pay22, k0_pay23]
    rfl
  rw [h, T.ab, T.ab, dActLo_at T]
  rfl

theorem dUpLo_at (r : Fin 256) (j : Fin 1408) :
    dUpLo x1 x3 p x7 (ix2 r j) = dUps (B.ab (tok t r)) (B.dact (tok t r)) ⟨j.val, by omega⟩ := by
  have h : dUpLo x1 x3 p x7 (ix2 r j) = dUp (x1 (ix2 r ⟨j.val, by omega⟩)) (dActLo x3 p x7 (ix2 r j)) := by
    unfold dUpLo gateLo
    pointwise [k0_pay25, k0_pay18, k0_pay15, k0_pay17]
    rfl
  rw [h, T.ab, dActLo_at T]
  rfl

theorem dGateHi_at (r : Fin 256) (j : Fin 1408) :
    dGateHi x1 x3 p x7 (ix2 r j) = dGates (B.ab (tok t r)) (B.dact (tok t r)) ⟨1408 + j.val, by omega⟩ := by
  have h : dGateHi x1 x3 p x7 (ix2 r j)
      = dGate (x1 (ix2 r ⟨1408 + j.val, by omega⟩)) (x1 (ix2 r ⟨4224 + j.val, by omega⟩)) (dActHi x3 p x7 (ix2 r j)) := by
    unfold dGateHi dActHi gateHi upHi k0_pay33
    pointwise [k0_pay35, k0_pay27, k0_pay28, k0_pay29, k0_pay34]
    rfl
  have e : (⟨4224 + j.val, by omega⟩ : Fin 5632) = ⟨2816 + (1408 + j.val), by omega⟩ := Fin.ext (by simp only; omega)
  rw [h, T.ab, T.ab, dActHi_at T, e]
  rfl

theorem dUpHi_at (r : Fin 256) (j : Fin 1408) :
    dUpHi x1 x3 p x7 (ix2 r j) = dUps (B.ab (tok t r)) (B.dact (tok t r)) ⟨1408 + j.val, by omega⟩ := by
  have h : dUpHi x1 x3 p x7 (ix2 r j) = dUp (x1 (ix2 r ⟨1408 + j.val, by omega⟩)) (dActHi x3 p x7 (ix2 r j)) := by
    unfold dUpHi gateHi
    pointwise [k0_pay36, k0_pay30, k0_pay27, k0_pay29]
    rfl
  rw [h, T.ab, dActHi_at T]
  rfl

theorem dNorm_at (r : Fin 256) (k : Fin 1024) : dNorm x1 x3 p x6 x7 (ix2 r k) = B.dn (tok t r) k := by
  have h : dNorm x1 x3 p x6 x7 (ix2 r k)
      = ∑ j : Fin 1408, dGateLo x1 x3 p x7 (ix2 r j) * x6 (ix3 0 k j)
        + ∑ j : Fin 1408, dUpLo x1 x3 p x7 (ix2 r j) * x6 (ix3 2 k j)
        + ∑ j : Fin 1408, dGateHi x1 x3 p x7 (ix2 r j) * x6 (ix3 1 k j)
        + ∑ j : Fin 1408, dUpHi x1 x3 p x7 (ix2 r j) * x6 (ix3 3 k j) := by
    unfold dNorm dNormLo slot0 slot1 slot2 slot3 dGateLo dUpLo dGateHi dUpHi
    pointwise [k0_pay37, k0_pay26, k0_pay14]
  rw [h, Back.dn, Back.dab, dNormed_quarters]
  simp only [dGateLo_at T, dUpLo_at T, dGateHi_at T, dUpHi_at T, T.wi]
  simp

/-! ## The tile's results -/

theorem normed_at (r : Fin 256) (k : Fin 1024) : k0_pay7 (rows x0) (ix2 r k) = normed (B.h (tok t r)) k := by
  have h : k0_pay7 (rows x0) (ix2 r k) = normed (fun k => x0 (ix2 r k)) k := by
    unfold rows
    pointwise [k0_pay7, k0_pay6]
    rfl
  rw [h, funext fun k => T.h r k]

/-- The tile's cotangents of the branch. -/
theorem out10_at (r : Fin 256) (k : Fin 1024) : out10 x3 p (ix2 r k) = B.df (tok t r) k := by
  refine Eq.trans ?_ (dOut_at T r k)
  unfold out10
  frame_out

/-- The tile's normed tokens. -/
theorem out11_at (r : Fin 256) (k : Fin 1024) : out11 x0 s q x5 (ix2 r k) = B.n (tok t r) k := by
  have h : out11 x0 s q x5 (ix2 r k) = k0_pay7 (rows x0) (ix2 r k) * x5 (ix3 0 0 k) * (1 + q (ix4 0 0 0 k)) + s (ix4 0 0 0 k) := by
    unfold out11 weight
    frame_out
    pointwise [k0_pay11, k0_pay9, k0_pay10, k0_pay8, k0_pay3, k0_pay4]
  rw [h, normed_at T, T.g, T.scale r, T.shift r]
  rfl

theorem dHat_at (r : Fin 256) (k : Fin 1024) :
    dNorm x1 x3 p x6 x7 (ix2 r k) * (1 + q (ix4 0 0 0 k)) * x5 (ix3 0 0 k) = B.dx (tok t r) k := by
  rw [dNorm_at T, T.g, T.scale r]
  rfl

/-- The tile's cotangents of the tokens. -/
theorem out8_at (r : Fin 256) (k : Fin 1024) : out8 x0 x1 x3 q p x5 x6 x7 (ix2 r k) = B.dtok (tok t r) k := by
  have h : out8 x0 x1 x3 q p x5 x6 x7 (ix2 r k)
      = x3 (ix2 r k) + k0_pay6 (rows x0) (ix2 r 0)
        * (dNorm x1 x3 p x6 x7 (ix2 r k) * (1 + q (ix4 0 0 0 k)) * x5 (ix3 0 0 k) - k0_pay7 (rows x0) (ix2 r k)
          * Ideal.div (∑ k, dNorm x1 x3 p x6 x7 (ix2 r k) * (1 + q (ix4 0 0 0 k)) * x5 (ix3 0 0 k) * k0_pay7 (rows x0) (ix2 r k))
            (Ideal.ofBits FTy.f32 1149239296#32)) := by
    unfold out8 dTok dNorm
    frame_out
    unfold weight rows
    pointwise [k0_pay43, k0_pay39, k0_pay38, k0_pay3, k0_pay4]
  have h6 : k0_pay6 (rows x0) (ix2 r 0) = Ideal.rsqrt (power (B.h (tok t r))) := by
    rw [← funext fun k => T.h r k]
    unfold rows
    pointwise [k0_pay6]
    rfl
  rw [h, h6]
  simp only [dHat_at T, normed_at T, T.dh]
  rfl

theorem dab_lo {r r' : Fin 256} {b : Fin 2816} {j : Fin 5632} (hr : r'.val = r.val) (hj : j.val = b.val) :
    dGates (B.ab (tok t r')) (B.dact (tok t r')) b = B.dab (tok t r) j := by
  rw [Fin.ext hr, show j = ⟨b.val, by omega⟩ from Fin.ext hj, Back.dab, beside_lo]

theorem dab_hi {r r' : Fin 256} {b : Fin 2816} {j : Fin 5632} (hr : r'.val = r.val) (hj : j.val = 2816 + b.val) :
    dUps (B.ab (tok t r')) (B.dact (tok t r')) b = B.dab (tok t r) j := by
  rw [Fin.ext hr, show j = ⟨2816 + b.val, by omega⟩ from Fin.ext hj, Back.dab, beside_hi]

/-- The tile's cotangents of the widened tokens. -/
theorem out9_at (r : Fin 256) (j : Fin 5632) : out9 x1 x3 p x7 (ix2 r j) = B.dab (tok t r) j := by
  unfold out9
  canon_tiles x h
  · obtain ⟨a, b, rfl⟩ : ∃ (a : Fin 256) (b : Fin 1408), x = ix2 a b := ⟨x 0, x 1, eq_ix2 x⟩
    exact (dUpHi_at T a b).trans (dab_hi T h0.symm (by simp only [ix2] at h1 ⊢; omega))
  · obtain ⟨a, b, rfl⟩ : ∃ (a : Fin 256) (b : Fin 1408), x = ix2 a b := ⟨x 0, x 1, eq_ix2 x⟩
    exact (dGateHi_at T a b).trans (dab_lo T h0.symm (by simp only [ix2] at h1 ⊢; omega))
  · obtain ⟨a, b, rfl⟩ : ∃ (a : Fin 256) (b : Fin 1408), x = ix2 a b := ⟨x 0, x 1, eq_ix2 x⟩
    exact (dUpLo_at T a b).trans (dab_hi T h0.symm (by simp only [ix2] at h1 ⊢; omega))
  · obtain ⟨a, b, rfl⟩ : ∃ (a : Fin 256) (b : Fin 1408), x = ix2 a b := ⟨x 0, x 1, eq_ix2 x⟩
    exact (dGateLo_at T a b).trans (dab_lo T h0.symm (by simp only [ix2] at h1 ⊢; omega))

/-- The tile's activations. -/
theorem out12_at (r : Fin 256) (j : Fin 2816) : out12 x1 (ix2 r j) = gated (B.ab (tok t r)) j := by
  have e : ∀ (a : Fin 256) (b : Fin 2816), x1 (ix2 a ⟨b.val, by omega⟩) * Ideal.logistic (x1 (ix2 a ⟨b.val, by omega⟩))
      * x1 (ix2 a ⟨2816 + b.val, by omega⟩) = gated (B.ab (tok t a)) b := fun a b => by rw [T.ab, T.ab]; rfl
  unfold out12
  canon_tiles x h
  · obtain ⟨a, b, rfl⟩ : ∃ (a : Fin 256) (b : Fin 1408), x = ix2 a b := ⟨x 0, x 1, eq_ix2 x⟩
    obtain rfl : r = a := Fin.ext h0
    rw [show j = ⟨1408 + b.val, by omega⟩ from Fin.ext h1, ← e]
    have e' : (⟨2816 + (1408 + b.val), by omega⟩ : Fin 5632) = ⟨4224 + b.val, by omega⟩ := Fin.ext (by simp only; omega)
    simp only [e']
    unfold gateHi upHi
    pointwise [k0_pay31, k0_pay30, k0_pay27, k0_pay28, k0_pay29]
  · obtain ⟨a, b, rfl⟩ : ∃ (a : Fin 256) (b : Fin 1408), x = ix2 a b := ⟨x 0, x 1, eq_ix2 x⟩
    obtain rfl : r = a := Fin.ext h0
    rw [show j = ⟨b.val, by omega⟩ from Fin.ext h1, ← e]
    unfold gateLo upLo
    pointwise [k0_pay19, k0_pay18, k0_pay15, k0_pay16, k0_pay17]

end

end Macaron.Bwd

end
-- ==== Proof.FfnBwd.Rows.lean ====
module

public import proofs.«01_k».proof.Proof.FfnBwd.Block

/-! The parameter gradients that one grid point of the backward half-step adds to their block. -/

@[expose] public section

set_option maxRecDepth 16384

noncomputable section

namespace Macaron.Bwd

open Idealize.ShloMosaic Idealize.ShloMosaic.TcCoe Idealize.SL.Sem
open Cert.FfnBwdIdeal Cert.FfnBwdIdeal.Gen Cert.FfnBwdIdeal.Value

/-- Tile `t`'s part of the eight rows of gradients: the sums over its tokens, and nothing for the last four rows. -/
def part (B : Back) (t : Fin 17) (i : Fin 8) (k : Fin 1024) : EReal :=
  if h : i.val < 4 then ∑ r : Fin 256, B.term ⟨i.val, h⟩ (tok t r) k else 0

theorem row_emb (j : ℕ) (hj : j < 8) (inb : ∀ a, (![0, j, 0] : Fin 3 → ℕ) a + S1x1x1024.size a ≤ S1x8x1024.size a) (k : Fin 1024) :
    (Rect.unit (s := S1x8x1024) ![0, j, 0] S1x1x1024.size inb).emb (ix3 0 0 k) = ix3 0 ⟨j, hj⟩ k :=
  Rect.emb_eq_of_coords _ _ _ fun a => by
    fin_cases a
    · rfl
    · rfl
    · exact ((Nat.zero_add _).trans (Nat.one_mul _)).symm

theorem row_miss (j : ℕ) (inb : ∀ a, (![0, j, 0] : Fin 3 → ℕ) a + S1x1x1024.size a ≤ S1x8x1024.size a) (i : Fin 8) (h : i.val ≠ j) (k : Fin 1024) :
    ix3 0 i k ∉ (Rect.unit (s := S1x8x1024) ![0, j, 0] S1x1x1024.size inb).set := fun h' => by
  have := Rect.mem_set_unit.mp h' 1
  simp [ix3] at this
  omega

/-- What a piece just written leaves at one of its places. -/
theorem piece_hit {r : Rect S1x8x1024} (w : r.shape.Idx → Elt Ideal .f32) (L : List (View.Piece (Elt Ideal) S1x8x1024 .f32)) (x : r.shape.Idx) (y : S1x8x1024.Idx) (h : r.emb x = y) :
    View.canon (⟨r, w⟩ :: L) y = w x := by
  subst h
  exact View.canon_cons_emb _ w L _

/-- A row just written, and rows written later elsewhere. -/
theorem row_hit (j : ℕ) (hj : j < 8) (inb : ∀ a, (![0, j, 0] : Fin 3 → ℕ) a + S1x1x1024.size a ≤ S1x8x1024.size a) (w : Vec Ideal S1x1x1024 .f32) (L : List (View.Piece (Elt Ideal) S1x8x1024 .f32)) (k : Fin 1024) :
    View.canon (⟨Rect.unit (s := S1x8x1024) ![0, j, 0] S1x1x1024.size inb, w⟩ :: L) (ix3 0 ⟨j, hj⟩ k) = w (ix3 0 0 k) :=
  piece_hit (r := Rect.unit (s := S1x8x1024) ![0, j, 0] S1x1x1024.size inb) w L (ix3 0 0 k) _ (row_emb j hj inb k)

theorem row_skip (j : ℕ) (inb : ∀ a, (![0, j, 0] : Fin 3 → ℕ) a + S1x1x1024.size a ≤ S1x8x1024.size a) (w : Vec Ideal S1x1x1024 .f32) (L : List (View.Piece (Elt Ideal) S1x8x1024 .f32)) (i : Fin 8) (h : i.val ≠ j)
    (k : Fin 1024) :
    View.canon (⟨Rect.unit (s := S1x8x1024) ![0, j, 0] S1x1x1024.size inb, w⟩ :: L) (ix3 0 i k) = View.canon L (ix3 0 i k) :=
  View.canon_cons_of_not_mem _ L (row_miss j inb i h k)

theorem row_ld (y : Vec Ideal S1x8x1024 .f32) (j : ℕ) (hj : j < 8) (inb : ∀ a, (![0, j, 0] : Fin 3 → ℕ) a + S1x1x1024.size a ≤ S1x8x1024.size a) (k : Fin 1024) :
    View.ld y (Rect.unit (s := S1x8x1024) ![0, j, 0] S1x1x1024.size inb) (ix3 0 0 k) = y (ix3 0 ⟨j, hj⟩ k) :=
  congrArg y (row_emb j hj inb k)

theorem part_row (B : Back) (t : Fin 17) (j : ℕ) (hj : j < 4) (k : Fin 1024) :
    part B t ⟨j, by omega⟩ k = ∑ r : Fin 256, B.term ⟨j, hj⟩ (tok t r) k := dif_pos hj

section

variable {B : Back} {t : Fin 17} {x0 : Vec Ideal S256x1024 .f32} {x1 : Vec Ideal S256x5632 .bf16}
  {x2 x3 : Vec Ideal S256x1024 .f32} {s q p : Vec Ideal S1x1x1x1024 .f32} {x5 : Vec Ideal S1x1x1024 .f32}
  {x6 : Vec Ideal S4x1024x1408 .bf16} {x7 : Vec Ideal S2816x1024 .bf16} (T : Tile B t x0 x1 x2 x3 s q p x5 x6 x7)

include T

theorem shiftSum_at (k : Fin 1024) : shiftSum x1 x3 p x6 x7 (ix2 0 k) = ∑ r : Fin 256, B.term 0 (tok t r) k := by
  have h : shiftSum x1 x3 p x6 x7 (ix2 0 k) = ∑ r : Fin 256, dNorm x1 x3 p x6 x7 (ix2 r k) := by
    unfold shiftSum dNorm
    pointwise [k0_pay40]
  rw [h]
  simp only [dNorm_at T]
  rfl

theorem scaleSum_at (k : Fin 1024) : scaleSum x0 x1 x3 p x5 x6 x7 (ix2 0 k) = ∑ r : Fin 256, B.term 1 (tok t r) k := by
  have h : scaleSum x0 x1 x3 p x5 x6 x7 (ix2 0 k)
      = ∑ r : Fin 256, dNorm x1 x3 p x6 x7 (ix2 r k) * (k0_pay7 (rows x0) (ix2 r k) * x5 (ix3 0 0 k)) := by
    unfold scaleSum dNorm weight
    pointwise [k0_pay41, k0_pay8, k0_pay3]
  rw [h]
  simp only [dNorm_at T, normed_at T, T.g]
  rfl

theorem gateSum_at (k : Fin 1024) : gateSum x2 x3 (ix2 0 k) = ∑ r : Fin 256, B.term 2 (tok t r) k := by
  have h : gateSum x2 x3 (ix2 0 k)
      = ∑ r : Fin 256, x3 (ix2 r k) * (Ideal.ofBits FTy.f32 1056964608#32 * x2 (ix2 r k)) := by
    unfold gateSum rows
    pointwise [k0_pay12]
  rw [h]
  simp only [T.dh, T.f]
  rfl

theorem weightSum_at (k : Fin 1024) : weightSum x0 x1 x3 q p x6 x7 (ix1 k) = ∑ r : Fin 256, B.term 3 (tok t r) k := by
  have h : weightSum x0 x1 x3 q p x6 x7 (ix1 k)
      = ∑ r : Fin 256, dNorm x1 x3 p x6 x7 (ix2 r k) * (1 + q (ix4 0 0 0 k)) * k0_pay7 (rows x0) (ix2 r k) := by
    unfold weightSum dNorm
    pointwise [k0_pay42, k0_pay38, k0_pay4]
  rw [h]
  refine Finset.sum_congr rfl fun r _ => ?_
  rw [dNorm_at T, normed_at T, T.scale r]
  rfl

set_option maxHeartbeats 4000000 in
/-- What the block of gradients holds after the tile, if it held `y` before. -/
theorem out13_at (y : Vec Ideal S1x8x1024 .f32) (i : Fin 8) (k : Fin 1024) :
    out13 x0 x1 x2 x3 q p x5 x6 x7 y (ix3 0 i k) = y (ix3 0 i k) + part B t i k := by
  unfold out13
  by_cases h3 : i.val = 3
  · rw [show i = ⟨3, by omega⟩ from Fin.ext h3, row_hit 3 (by omega), part_row B t 3 (by omega)]
    pointwise [k0_pay1, k0_pay47]
    rw [weightSum_at T]
  rw [row_skip 3 _ _ _ i h3]
  by_cases h2 : i.val = 2
  · rw [show i = ⟨2, by omega⟩ from Fin.ext h2, row_hit 2 (by omega), part_row B t 2 (by omega)]
    pointwise [k0_pay46]
    rw [gateSum_at T]
  rw [row_skip 2 _ _ _ i h2]
  by_cases h1 : i.val = 1
  · rw [show i = ⟨1, by omega⟩ from Fin.ext h1, row_hit 1 (by omega), part_row B t 1 (by omega)]
    pointwise [k0_pay45]
    rw [scaleSum_at T]
  rw [row_skip 1 _ _ _ i h1]
  by_cases h0 : i.val = 0
  · rw [show i = ⟨0, by omega⟩ from Fin.ext h0, row_hit 0 (by omega), part_row B t 0 (by omega)]
    pointwise [k0_pay44]
    rw [shiftSum_at T]
  rw [row_skip 0 _ _ _ i h0, part, dif_neg (by omega), add_zero]
  exact piece_hit (r := Rect.unit (s := S1x8x1024) ![0, 0, 0] S1x8x1024.size inb_S1x8x1024_S1x8x1024_0_0_0) y [] (ix3 0 i k) (ix3 0 i k) (whole_emb (ix3 0 i k))

end

/-- The sixteen latent tiles' parts of a gradient are the sum over the latent tokens. -/
theorem parts_latent (B : Back) (i : Fin 8) (k : Fin 1024) :
    ∑ s : Fin 16, part B ⟨s.val, by omega⟩ i k = B.rows 0 i k := by
  unfold part Back.rows
  by_cases h : i.val < 4
  · simp only [dif_pos h]
    have e := Fin.sum_univ_univ_mul_add (M := EReal) 16 256 fun n => if hn : n < 4352 then B.term ⟨i.val, h⟩ ⟨n, hn⟩ k else 0
    have e1 : ∀ (s : Fin 16) (r : Fin 256), (if hn : s.val * 256 + r.val < 4352 then B.term ⟨i.val, h⟩ ⟨s.val * 256 + r.val, hn⟩ k else 0)
        = B.term ⟨i.val, h⟩ (tok ⟨s.val, by omega⟩ r) k := fun s r => by
      rw [dif_pos (by omega)]
      exact congrArg (fun q => B.term ⟨i.val, h⟩ q k) (Fin.ext (by simp only [tok]; omega))
    have e2 : ∀ r : Fin (16 * 256), (if hn : r.val < 4352 then B.term ⟨i.val, h⟩ ⟨r.val, hn⟩ k else 0)
        = B.term ⟨i.val, h⟩ ⟨r.val, by omega⟩ k := fun r => dif_pos (by omega)
    simp only [e1, e2] at e
    exact e
  · simp only [dif_neg h, Finset.sum_const_zero]

/-- The context tile's part of a gradient is the sum over the context tokens. -/
theorem part_context (B : Back) (i : Fin 8) (k : Fin 1024) : part B ⟨16, by omega⟩ i k = B.rows 1 i k := rfl

end Macaron.Bwd

end
-- ==== Proof.FfnBwd.Arrays.lean ====
module

public import proofs.«01_k».proof.Proof.FfnBwd.Frame
public import proofs.«01_k».proof.Proof.FfnBwd.Rows
public import proofs.«01_k».proof.Proof.Ffn.Token
public import Idealize.ShloMosaic.Lib.StableHlo.ReadAt
public import Idealize.ShloMosaic.Lib.Tactic.CleanTypes

/-! The first half-step's backward pass of layer 0: what its grid points read, and the arrays it leaves. -/

@[expose] public section

set_option maxRecDepth 16384

noncomputable section

namespace Macaron.Bwd1L0

open Idealize.ShloMosaic Idealize.ShloMosaic.TcCoe Idealize.SL.Sem Macaron.Bwd
open Cert.FfnBwdIdeal Cert.FfnBwdIdeal.Gen Cert.FfnBwdIdeal.Value

variable (m : (ℓ : Loc nD τ sig) → Buf (Elt Ideal) ℓ) (c : Dev nD)

/-! The arguments, as the functions that `Spec` takes. -/

def aH (r : Fin 4352) (k : Fin 1024) : EReal := m ((c.tc : Thread nD τ).loc main_arg0) (ix2 r k)
def aMods (s : Fin 2) (i : Fin 3) (k : Fin 1024) : EReal :=
  m ((c.tc : Thread nD τ).loc main_arg1) (ix4 0 s ⟨i.val, by omega⟩ k)
def aG (k : Fin 1024) : EReal := m ((c.tc : Thread nD τ).loc main_arg2) (ix3 0 0 k)
def aWi (k : Fin 1024) (j : Fin 5632) : EReal := m ((c.tc : Thread nD τ).loc main_arg3) (ix2 k j)
def aWo (j : Fin 2816) (k : Fin 1024) : EReal := m ((c.tc : Thread nD τ).loc main_arg4) (ix2 j k)
def aD (r : Fin 4352) (k : Fin 1024) : EReal := m ((c.tc : Thread nD τ).loc main_arg5) (ix2 r k)

/-- What the backward pass of the call reads: its arguments, and the two values of the forward pass that the host prepares. -/
def back : Back where
  h := aH m c
  ab := tokWide (aH m c) (aMods m c) (aG m c) (aWi m c)
  f := tokBranch (aH m c) (aMods m c) (aG m c) (aWi m c) (aWo m c)
  dh := aD m c
  mods := aMods m c
  g := aG m c
  wi := aWi m c
  wo := aWo m c

/-- The block indices of the windows at a grid point. -/
theorem idx : ∀ t : Fin cfg0.N,
    win0_0.index t = ![t.val, 0] ∧ win0_1.index t = ![t.val, 0] ∧ win0_2.index t = ![t.val, 0] ∧ win0_3.index t = ![t.val, 0]
      ∧ win0_4.index t = ![0, if t.val < 16 then 0 else 1, 0, 0] ∧ win0_5.index t = ![0, 0, 0]
      ∧ win0_6.index t = ![0, 0, 0] ∧ win0_7.index t = ![0, 0] ∧ win0_8.index t = ![t.val, 0]
      ∧ win0_9.index t = ![t.val, 0] ∧ win0_10.index t = ![t.val, 0] ∧ win0_11.index t = ![t.val, 0]
      ∧ win0_12.index t = ![t.val, 0] ∧ win0_13.index t = ![t.val / 16, 0, 0] :=
  (by decide +kernel : ∀ t : Fin grid0.N, _)

/-- Modulation parameter `i` of token `r`, chosen by the token's place as the host's concatenation does. -/
def pick (i : Fin 16) (r : Fin 4352) (k : Fin 1024) : EReal :=
  if _h : r.val < 4096 then m ((c.tc : Thread nD τ).loc main_arg1) (ix4 0 0 i k)
  else m ((c.tc : Thread nD τ).loc main_arg1) (ix4 0 1 i k)

theorem pick_eq (i : Fin 3) (r : Fin 4352) : pick m c ⟨i.val, by omega⟩ r = aMods m c (stream r) i := by
  funext k
  unfold pick stream aMods
  split <;> rfl

/-- The norm's weight, chosen in the same way from two equal rows. -/
def pickG (r : Fin 4352) (k : Fin 1024) : EReal :=
  if _h : r.val < 4096 then m ((c.tc : Thread nD τ).loc main_arg2) (ix3 0 0 k)
  else m ((c.tc : Thread nD τ).loc main_arg2) (ix3 0 0 k)

theorem pickG_eq (r : Fin 4352) : pickG m c r = aG m c := by
  funext k
  unfold pickG aG
  split <;> rfl

theorem wide_eq (r : Fin 4352) :
    widen (modNorm (aH m c r) (pickG m c r) (pick m c 0 r) (pick m c 1 r)) (aWi m c)
      = tokWide (aH m c) (aMods m c) (aG m c) (aWi m c) r := by
  unfold tokWide tokNorm
  rw [← pick_eq m c 0 r, ← pick_eq m c 1 r, pickG_eq]
  rfl

theorem V_ab (r : Fin 4352) (j : Fin 5632) :
    V m c main_v51 (ix2 r j) = tokWide (aH m c) (aMods m c) (aG m c) (aWi m c) r j := by
  rw [← wide_eq]
  unfold V
  after_reads_at
  after_reads_at
  after_reads_at
  rfl

theorem V_f (r : Fin 4352) (k : Fin 1024) :
    V m c main_v47 (ix2 r k) = tokBranch (aH m c) (aMods m c) (aG m c) (aWi m c) (aWo m c) r k := by
  unfold tokBranch
  rw [← wide_eq]
  unfold V
  after_reads_at
  after_reads_at
  after_reads_at
  rfl

theorem V_wi (s : Fin 4) (k : Fin 1024) (j : Fin 1408) :
    V m c main_v50 (ix3 s k j) = m ((c.tc : Thread nD τ).loc main_arg3) (ix2 k ⟨1408 * s.val + j.val, by omega⟩) := by
  have h : V m c main_v50 (ix3 s k j)
      = m ((c.tc : Thread nD τ).loc main_arg3) (ix2 k ⟨s.val * 1408 + j.val, by omega⟩) := by
    unfold V
    after_reads_at
  rw [h]
  exact congrArg (fun q => m ((c.tc : Thread nD τ).loc main_arg3) (ix2 k q)) (Fin.ext (by simp only; omega))

theorem V_wo (j : Fin 2816) (k : Fin 1024) :
    V m c main_v52 (ix2 j k) = m ((c.tc : Thread nD τ).loc main_arg4) (ix2 j k) := by
  unfold V
  after_reads_at

theorem h_at (t : Fin cfg0.N) (r : Fin 256) (k : Fin 1024) :
    iblk m c 0 t (ix2 r k) = m ((c.tc : Thread nD τ).loc main_arg0) (ix2 (Bwd.tok t r) k) := by
  blk_ext! [iblk, V, idx t, Bwd.tok]

theorem ab_at (t : Fin cfg0.N) (r : Fin 256) (j : Fin 5632) :
    iblk m c 1 t (ix2 r j) = V m c main_v51 (ix2 (Bwd.tok t r) j) := by
  refine congrArg (V m c main_v51) (funext fun a => ?_)
  fin_cases a
  · exact Fin.ext (by blk_simp [idx t, Bwd.tok]; simp only [ix2]; omega)
  · exact Fin.ext (by blk_simp [idx t]; rfl)

theorem f_at (t : Fin cfg0.N) (r : Fin 256) (k : Fin 1024) :
    iblk m c 2 t (ix2 r k) = V m c main_v47 (ix2 (Bwd.tok t r) k) := by
  refine congrArg (V m c main_v47) (funext fun a => ?_)
  fin_cases a
  · exact Fin.ext (by blk_simp [idx t, Bwd.tok]; simp only [ix2]; omega)
  · exact Fin.ext (by blk_simp [idx t]; rfl)

theorem dh_at (t : Fin cfg0.N) (r : Fin 256) (k : Fin 1024) :
    iblk m c 3 t (ix2 r k) = m ((c.tc : Thread nD τ).loc main_arg5) (ix2 (Bwd.tok t r) k) := by
  blk_ext! [iblk, V, idx t, Bwd.tok]

theorem mods_at (t : Fin cfg0.N) (i : Fin 16) (k : Fin 1024) (r : Fin 256) :
    iblk m c 4 t (ix4 0 0 i k) = m ((c.tc : Thread nD τ).loc main_arg1) (ix4 0 (stream (Bwd.tok t r)) i k) := by
  have hs : (stream (Bwd.tok t r)).val = if t.val < 16 then 0 else 1 := Fwd.stream_tok t r
  blk_ext! [iblk, V, idx t, hs]

theorem g_at (t : Fin cfg0.N) (k : Fin 1024) :
    iblk m c 5 t (ix3 0 0 k) = m ((c.tc : Thread nD τ).loc main_arg2) (ix3 0 0 k) := by
  blk_ext! [iblk, V, idx t]

theorem wi_at (t : Fin cfg0.N) (s : Fin 4) (k : Fin 1024) (j : Fin 1408) :
    iblk m c 6 t (ix3 s k j) = m ((c.tc : Thread nD τ).loc main_arg3) (ix2 k ⟨1408 * s.val + j.val, by omega⟩) := by
  refine (congrArg (V m c main_v50) (a₂ := ix3 s k j) (funext fun a => ?_)).trans (V_wi m c s k j)
  fin_cases a
  · exact Fin.ext (by blk_simp [idx t])
  · exact Fin.ext (by blk_simp [idx t])
  · exact Fin.ext (by blk_simp [idx t])

theorem wo_at (t : Fin cfg0.N) (j : Fin 2816) (k : Fin 1024) :
    iblk m c 7 t (ix2 j k) = m ((c.tc : Thread nD τ).loc main_arg4) (ix2 j k) := by
  refine (congrArg (V m c main_v52) (a₂ := ix2 j k) (funext fun a => ?_)).trans (V_wo m c j k)
  fin_cases a
  · exact Fin.ext (by blk_simp [idx t])
  · exact Fin.ext (by blk_simp [idx t])

theorem shift_at (t : Fin cfg0.N) (k : Fin 1024) : shiftRow m c t (ix4 0 0 0 k) = iblk m c 4 t (ix4 0 0 0 k) :=
  congrArg (iblk m c 4 t) (Rect.emb_eq_of_coords _ _ _ fun a => by fin_cases a <;> simp [Rect.unit, ix4])

theorem scale_at (t : Fin cfg0.N) (k : Fin 1024) : scaleRow m c t (ix4 0 0 0 k) = iblk m c 4 t (ix4 0 0 1 k) :=
  congrArg (iblk m c 4 t) (Rect.emb_eq_of_coords _ _ _ fun a => by fin_cases a <;> simp [Rect.unit, ix4])

theorem gate_at (t : Fin cfg0.N) (k : Fin 1024) : gateRow m c t (ix4 0 0 0 k) = iblk m c 4 t (ix4 0 0 2 k) :=
  congrArg (iblk m c 4 t) (Rect.emb_eq_of_coords _ _ _ fun a => by fin_cases a <;> simp [Rect.unit, ix4])

/-- What a grid point reads. -/
theorem tile (t : Fin cfg0.N) : Tile (back m c) t (iblk m c 0 t) (iblk m c 1 t) (iblk m c 2 t) (iblk m c 3 t)
    (shiftRow m c t) (scaleRow m c t) (gateRow m c t) (iblk m c 5 t) (iblk m c 6 t) (iblk m c 7 t) where
  h := h_at m c t
  ab r j := (ab_at m c t r j).trans (V_ab m c _ j)
  f r k := (f_at m c t r k).trans (V_f m c _ k)
  dh := dh_at m c t
  shift r k := (shift_at m c t k).trans (mods_at m c t 0 k r)
  scale r k := (scale_at m c t k).trans (mods_at m c t 1 k r)
  gate r k := (gate_at m c t k).trans (mods_at m c t 2 k r)
  g := g_at m c t
  wi := wi_at m c t
  wo := wo_at m c t

theorem final8 : (dats m 0 c).arrAt 8 cfg0.N = fun i : S4352x1024.Idx => (back m c).dtok (i 0) (i 1) := by
  refine (dats m 0 c).arrAt_eq_of_covers 8 _ (by decide +kernel) fun t hf y => ?_
  blk_simp
  rw [after_8]
  obtain ⟨a, b, rfl⟩ : ∃ (a : Fin 256) (b : Fin 1024), y = ix2 a b := ⟨y 0, y 1, eq_ix2 y⟩
  have e0 : (win0_8.blk t).view.emb (ix2 a b) 0 = Bwd.tok t a := Fin.ext (by blk_simp [idx t, Bwd.tok]; simp only [ix2]; omega)
  have e1 : (win0_8.blk t).view.emb (ix2 a b) 1 = b := Fin.ext (by blk_simp [idx t])
  rw [e0, e1]
  exact out8_at (tile m c t) a b

theorem final9 : (dats m 0 c).arrAt 9 cfg0.N = fun i : S4352x5632.Idx => (back m c).dab (i 0) (i 1) := by
  refine (dats m 0 c).arrAt_eq_of_covers 9 _ (by decide +kernel) fun t hf y => ?_
  blk_simp
  rw [after_9]
  obtain ⟨a, b, rfl⟩ : ∃ (a : Fin 256) (b : Fin 5632), y = ix2 a b := ⟨y 0, y 1, eq_ix2 y⟩
  have e0 : (win0_9.blk t).view.emb (ix2 a b) 0 = Bwd.tok t a := Fin.ext (by blk_simp [idx t, Bwd.tok]; simp only [ix2]; omega)
  have e1 : (win0_9.blk t).view.emb (ix2 a b) 1 = b := Fin.ext (by blk_simp [idx t])
  rw [e0, e1]
  exact out9_at (tile m c t) a b

theorem final10 : (dats m 0 c).arrAt 10 cfg0.N = fun i : S4352x1024.Idx => (back m c).df (i 0) (i 1) := by
  refine (dats m 0 c).arrAt_eq_of_covers 10 _ (by decide +kernel) fun t hf y => ?_
  blk_simp
  rw [after_10]
  obtain ⟨a, b, rfl⟩ : ∃ (a : Fin 256) (b : Fin 1024), y = ix2 a b := ⟨y 0, y 1, eq_ix2 y⟩
  have e0 : (win0_10.blk t).view.emb (ix2 a b) 0 = Bwd.tok t a := Fin.ext (by blk_simp [idx t, Bwd.tok]; simp only [ix2]; omega)
  have e1 : (win0_10.blk t).view.emb (ix2 a b) 1 = b := Fin.ext (by blk_simp [idx t])
  rw [e0, e1]
  exact out10_at (tile m c t) a b

theorem final11 : (dats m 0 c).arrAt 11 cfg0.N = fun i : S4352x1024.Idx => (back m c).n (i 0) (i 1) := by
  refine (dats m 0 c).arrAt_eq_of_covers 11 _ (by decide +kernel) fun t hf y => ?_
  blk_simp
  rw [after_11]
  obtain ⟨a, b, rfl⟩ : ∃ (a : Fin 256) (b : Fin 1024), y = ix2 a b := ⟨y 0, y 1, eq_ix2 y⟩
  have e0 : (win0_11.blk t).view.emb (ix2 a b) 0 = Bwd.tok t a := Fin.ext (by blk_simp [idx t, Bwd.tok]; simp only [ix2]; omega)
  have e1 : (win0_11.blk t).view.emb (ix2 a b) 1 = b := Fin.ext (by blk_simp [idx t])
  rw [e0, e1]
  exact out11_at (tile m c t) a b

theorem final12 : (dats m 0 c).arrAt 12 cfg0.N = fun i : S4352x2816.Idx => gated ((back m c).ab (i 0)) (i 1) := by
  refine (dats m 0 c).arrAt_eq_of_covers 12 _ (by decide +kernel) fun t hf y => ?_
  blk_simp
  rw [after_12]
  obtain ⟨a, b, rfl⟩ : ∃ (a : Fin 256) (b : Fin 2816), y = ix2 a b := ⟨y 0, y 1, eq_ix2 y⟩
  have e0 : (win0_12.blk t).view.emb (ix2 a b) 0 = Bwd.tok t a := Fin.ext (by blk_simp [idx t, Bwd.tok]; simp only [ix2]; omega)
  have e1 : (win0_12.blk t).view.emb (ix2 a b) 1 = b := Fin.ext (by blk_simp [idx t])
  rw [e0, e1]
  exact out12_at (tile m c t) a b

/-- The parameter gradients after a point: the parts of the tiles since they were started. -/
theorem acc_at (t : Fin cfg0.N) (y : S1x8x1024.Idx) :
    acc m c t.val t.isLt y
      = 0 + ∑ s : Fin (t.val % 16 + 1), part (back m c) ⟨16 * (t.val / 16) + s.val, Pipeline.run_point_lt t rfl s⟩ (y 1) (y 2) := by
  have hp : ∀ (t : Fin cfg0.N) (z : Vec Ideal S1x8x1024 .f32) (y : S1x8x1024.Idx),
      step m c t z y = z y + part (back m c) t (y 1) (y 2) := fun t z y => by
    obtain ⟨a, i, k, rfl⟩ : ∃ (a : Fin 1) (i : Fin 8) (k : Fin 1024), y = ix3 a i k := ⟨y 0, y 1, y 2, eq_ix3 y⟩
    obtain rfl : a = 0 := Subsingleton.elim _ _
    exact out13_at (tile m c t) z i k
  have hz : ∀ y : S1x8x1024.Idx, (k0_pay2 : FVec Ideal S1x8x1024 .f32) y = 0 := fun y => by
    pointwise [k0_pay2]
  refine Pipeline.eq_sum_fin_of_reset_step_apply (fun n h y => acc m c n h y) 16 (fun _ => 0)
    (fun t y => part (back m c) t (y 1) (y 2)) (fun t ht y => ?_) (fun t ht y => ?_) t y
  · beta_reduce
    rw [acc_fresh m c t ht, hp, hz]
  · beta_reduce
    rw [acc_kept m c t ht, hp]

/-- The parts of a stream's tiles, over a range of points that is known by its ends. -/
theorem parts_first (q n : ℕ) (h : ∀ s : Fin n, 16 * q + s.val < cfg0.N) (b : Fin 8) (k : Fin 1024) (hq : q = 0) (hn : n = 16) :
    ∑ s : Fin n, part (back m c) ⟨16 * q + s.val, h s⟩ b k = (back m c).rows 0 b k := by
  subst hq
  subst hn
  rw [← parts_latent (back m c) b k]
  exact Finset.sum_congr rfl fun s _ => congrArg (fun q => part (back m c) q b k) (Fin.ext (by simp only; omega))

theorem parts_second (q n : ℕ) (h : ∀ s : Fin n, 16 * q + s.val < cfg0.N) (b : Fin 8) (k : Fin 1024) (hq : q = 1) (hn : n = 1) :
    ∑ s : Fin n, part (back m c) ⟨16 * q + s.val, h s⟩ b k = (back m c).rows 1 b k := by
  subst hq
  subst hn
  rw [← part_context (back m c) b k]
  exact (Fin.sum_univ_one _).trans (congrArg (fun q => part (back m c) q b k) (Fin.ext (by simp)))

/-- The parameter gradients after a stream's last point: the rows of the stream. -/
theorem acc_last (t : Fin cfg0.N) (ht : t.val = 15 ∨ t.val = 16) (b : Fin 8) (k : Fin 1024) :
    acc m c t.val t.isLt (ix3 0 b k) = (back m c).rows ⟨t.val / 16, by omega⟩ b k := by
  refine (acc_at m c t _).trans ((zero_add _).trans ?_)
  obtain ht | ht := ht
  · rw [show (⟨t.val / 16, by omega⟩ : Fin 2) = 0 from Fin.ext (by show t.val / 16 = 0; omega)]
    exact parts_first m c _ _ _ b k (by omega) (by omega)
  · rw [show (⟨t.val / 16, by omega⟩ : Fin 2) = 1 from Fin.ext (by show t.val / 16 = 1; omega)]
    exact parts_second m c _ _ _ b k (by omega) (by omega)

theorem final13 : (dats m 0 c).arrAt 13 cfg0.N = fun i : S2x8x1024.Idx => (back m c).rows (i 0) (i 1) (i 2) := by
  refine (dats m 0 c).arrAt_eq_of_covers 13 _ (by decide +kernel) fun t hf y => ?_
  have hN : t.val < 17 := lt_of_lt_of_eq t.isLt (show cfg0.N = 17 from N_0)
  have ht := (flush_13 t).mp hf
  have h16 : t.val = 15 ∨ t.val = 16 := by omega
  blk_simp
  rw [after_13]
  obtain ⟨a, b, k, rfl⟩ : ∃ (a : Fin 1) (b : Fin 8) (k : Fin 1024), y = ix3 a b k := ⟨y 0, y 1, y 2, eq_ix3 y⟩
  obtain rfl : a = 0 := Subsingleton.elim _ _
  have e0 : ((win0_13.blk t).view.emb (ix3 0 b k) 0).val = t.val / 16 := by blk_simp [idx t]; rfl
  have e1 : (win0_13.blk t).view.emb (ix3 0 b k) 1 = b := Fin.ext (by blk_simp [idx t])
  have e2 : (win0_13.blk t).view.emb (ix3 0 b k) 2 = k := Fin.ext (by blk_simp [idx t])
  have e0' : (win0_13.blk t).view.emb (ix3 0 b k) 0 = (⟨t.val / 16, by omega⟩ : Fin 2) := Fin.ext e0
  rw [e0', e1, e2]
  exact acc_last m c t h16 b k

end Macaron.Bwd1L0

end
-- ==== Proof.FfnBwd.Finite.lean ====
module

public import proofs.«01_k».proof.Proof.FfnBwd.Spec

/-! The arithmetic of the backward pass at tokens and weights that are real numbers: every intermediate value is a real
    number, and the two places where the reference writes a cotangent in another form than the kernel agree. At an infinite
    value they need not, as the extended reals do not distribute. No program is mentioned. -/

@[expose] public section

noncomputable section

namespace Macaron

open Idealize.ShloMosaic

/-- The extended real of a sum of reals is the sum of their extended reals. -/
theorem coe_sum {ι : Type} [Fintype ι] (g : ι → ℝ) : ((∑ i, g i : ℝ) : EReal) = ∑ i, (g i : EReal) :=
  map_sum (⟨⟨fun r : ℝ => (r : EReal), rfl⟩, EReal.coe_add⟩ : ℝ →+ EReal) g Finset.univ

/-- The number is neither infinity. -/
def IsReal (x : EReal) : Prop := ∃ r : ℝ, x = (r : EReal)

namespace IsReal

theorem coe (r : ℝ) : IsReal (r : EReal) := ⟨r, rfl⟩

theorem zero : IsReal 0 := ⟨0, rfl⟩

theorem one : IsReal 1 := ⟨1, rfl⟩

theorem add {x y : EReal} (hx : IsReal x) (hy : IsReal y) : IsReal (x + y) := by
  obtain ⟨a, rfl⟩ := hx
  obtain ⟨b, rfl⟩ := hy
  exact ⟨a + b, (EReal.coe_add a b).symm⟩

theorem mul {x y : EReal} (hx : IsReal x) (hy : IsReal y) : IsReal (x * y) := by
  obtain ⟨a, rfl⟩ := hx
  obtain ⟨b, rfl⟩ := hy
  exact ⟨a * b, (EReal.coe_mul a b).symm⟩

theorem sub {x y : EReal} (hx : IsReal x) (hy : IsReal y) : IsReal (x - y) := by
  obtain ⟨a, rfl⟩ := hx
  obtain ⟨b, rfl⟩ := hy
  exact ⟨a - b, (EReal.coe_sub a b).symm⟩

theorem sum {ι : Type} [Fintype ι] {f : ι → EReal} (h : ∀ i, IsReal (f i)) : IsReal (∑ i, f i) := by
  choose g hg using h
  exact ⟨∑ i, g i, by rw [coe_sum]; exact Finset.sum_congr rfl fun i _ => hg i⟩

theorem logistic {x : EReal} (hx : IsReal x) : IsReal (Ideal.logistic x) := by
  obtain ⟨a, rfl⟩ := hx
  exact ⟨_, Ideal.logistic_coe a⟩

/-- A number whose magnitude is below the infinity is a real number. -/
theorem of_abs_lt {x : EReal} (h : max x (-x) < ⊤) : IsReal x := by
  induction x with
  | bot => simp at h
  | top => simp at h
  | coe r => exact ⟨r, rfl⟩

end IsReal

/-! The constants. -/

theorem const_1024 : Ideal.ofBits FTy.f32 1149239296#32 = ((1024 : ℝ) : EReal) := by
  simp [Ideal.ofBits, Ideal.ieee, -EReal.coe_mul]; norm_num

theorem const_half : Ideal.ofBits FTy.f32 1056964608#32 = ((1 / 2 : ℝ) : EReal) := by
  simp [Ideal.ofBits, Ideal.ieee, -EReal.coe_mul]; norm_num

theorem const_neg_half : Ideal.ofBits FTy.f32 3204448256#32 = ((-(1 / 2) : ℝ) : EReal) := by
  simp [Ideal.ofBits, Ideal.ieee, -EReal.coe_mul, -EReal.coe_neg]; norm_num

theorem const_eps : ∃ e : ℝ, 0 < e ∧ Ideal.ofBits FTy.f32 897988541#32 = (e : EReal) := by
  refine ⟨_, ?_, by simp [Ideal.ofBits, Ideal.ieee, -EReal.coe_mul]; rfl⟩
  norm_num

/-- The power of a real token is a positive real. -/
theorem power_pos {x : Fin 1024 → EReal} (h : ∀ k, IsReal (x k)) : ∃ P : ℝ, 0 < P ∧ power x = (P : EReal) := by
  choose v hv using h
  obtain ⟨e, he, hc⟩ := const_eps
  refine ⟨(∑ k, v k * v k) * (1 / 1024) + e,
    add_pos_of_nonneg_of_pos (mul_nonneg (Finset.sum_nonneg fun k _ => mul_self_nonneg _) (by norm_num)) he, ?_⟩
  unfold power
  rw [hc, const_1024, Ideal.div_coe (by norm_num)]
  simp only [hv]
  rw [EReal.coe_add, EReal.coe_mul, coe_sum]
  simp only [EReal.coe_mul]

theorem rsqrt_pos {P : ℝ} (h : 0 < P) : Ideal.rsqrt (P : EReal) = (((Real.sqrt P)⁻¹ : ℝ) : EReal) := by
  rw [Ideal.rsqrt_coe, if_neg h.not_gt, if_neg h.ne']

theorem IsReal.normed {x : Fin 1024 → EReal} (h : ∀ k, IsReal (x k)) (k : Fin 1024) : IsReal (normed x k) := by
  obtain ⟨P, hP, e⟩ := power_pos h
  unfold Macaron.normed
  rw [e, rsqrt_pos hP]
  exact (h k).mul (.coe _)

/-- The cotangent of a gated column, as the derivative of a product of the column and its logistic. -/
theorem dGate_eq {a b d : EReal} (ha : IsReal a) (hb : IsReal b) (hd : IsReal d) :
    d * b * Ideal.logistic a + a * (d * b) * (Ideal.logistic a * (1 - Ideal.logistic a)) = dGate a b d := by
  unfold dGate
  obtain ⟨s, hs⟩ := ha.logistic
  rw [hs]
  obtain ⟨a, rfl⟩ := ha
  obtain ⟨b, rfl⟩ := hb
  obtain ⟨d, rfl⟩ := hd
  rw [← EReal.coe_one]
  simp only [← EReal.coe_mul, ← EReal.coe_add, ← EReal.coe_sub]
  exact congrArg _ (by ring)

/-- What the norm adds to the cotangent of a token, as the derivative of the reciprocal root of its power. -/
theorem dThrough_eq {x dx : Fin 1024 → EReal} (hx : ∀ k, IsReal (x k)) (hd : ∀ k, IsReal (dx k)) {dh : EReal} (k : Fin 1024)
    (hh : IsReal dh) :
    dh + (dx k * Ideal.rsqrt (power x)
        + x k * Ideal.div ((∑ k, x k * dx k)
            * (Ideal.ofBits FTy.f32 3204448256#32 * Ideal.div (Ideal.rsqrt (power x)) (power x)))
              (Ideal.ofBits FTy.f32 1149239296#32)
        + Ideal.div ((∑ k, x k * dx k)
            * (Ideal.ofBits FTy.f32 3204448256#32 * Ideal.div (Ideal.rsqrt (power x)) (power x)))
              (Ideal.ofBits FTy.f32 1149239296#32) * x k)
      = dh + dThrough x dx k := by
  obtain ⟨P, hP, e⟩ := power_pos hx
  unfold dThrough Macaron.normed
  have h0 : (1024 : ℝ) ≠ 0 := by norm_num
  rw [e, rsqrt_pos hP, const_1024, const_neg_half]
  simp only [Ideal.div_coe h0, Ideal.div_coe hP.ne']
  choose v hv using hx
  choose w hw using hd
  obtain ⟨d, rfl⟩ := hh
  have hs : (Real.sqrt P)⁻¹ * (Real.sqrt P)⁻¹ = 1 / P := by
    rw [← mul_inv, Real.mul_self_sqrt hP.le, one_div]
  generalize (Real.sqrt P)⁻¹ = s at hs
  simp only [hv, hw]
  have h1 : (∑ k, (v k : EReal) * (w k : EReal)) = ((∑ k, v k * w k : ℝ) : EReal) := by
    rw [coe_sum]
    simp only [EReal.coe_mul]
  have h2 : (∑ k, (w k : EReal) * ((v k : EReal) * (s : EReal))) = (((∑ k, v k * w k) * s : ℝ) : EReal) := by
    rw [Finset.sum_mul, coe_sum]
    exact Finset.sum_congr rfl fun i _ => by
      simp only [← EReal.coe_mul]; exact congrArg _ (by ring)
  rw [h1, h2]
  generalize (∑ k, v k * w k) = S
  simp only [← EReal.coe_mul, ← EReal.coe_add, ← EReal.coe_sub]
  refine congrArg _ ?_
  rw [← hs]
  ring

/-- Everything that the backward pass reads is a real number. -/
structure Back.Real (B : Back) : Prop where
  h : ∀ r k, IsReal (B.h r k)
  ab : ∀ r j, IsReal (B.ab r j)
  dh : ∀ r k, IsReal (B.dh r k)
  mods : ∀ s i k, IsReal (B.mods s i k)
  g : ∀ k, IsReal (B.g k)
  wi : ∀ k j, IsReal (B.wi k j)
  wo : ∀ j k, IsReal (B.wo j k)

namespace Back.Real

variable {B : Back} (hB : B.Real)

include hB

theorem dact (r : Fin 4352) (j : Fin 2816) : IsReal (B.dact r j) :=
  .sum fun k => ((const_half ▸ IsReal.coe _ : IsReal (Ideal.ofBits FTy.f32 1056964608#32)).mul (hB.mods _ _ k)
    |>.mul (hB.dh r k)).mul (hB.wo j k)

theorem dab (r : Fin 4352) (j : Fin 5632) : IsReal (B.dab r j) := by
  unfold Back.dab beside
  split
  · exact ((hB.dact r _).mul (hB.ab r _)).mul
      ((hB.ab r _).logistic.mul (IsReal.one.add ((hB.ab r _).mul (IsReal.one.sub (hB.ab r _).logistic))))
  · exact (hB.dact r _).mul ((hB.ab r _).mul (hB.ab r _).logistic)

theorem dx (r : Fin 4352) (k : Fin 1024) : IsReal (B.dx r k) :=
  ((IsReal.sum fun j => (hB.dab r j).mul (hB.wi k j)).mul (IsReal.one.add (hB.mods _ _ k))).mul (hB.g k)

end Back.Real

/-- A widened token of real tokens, parameters and weights is real. -/
theorem tokWide_real {h : Fin 4352 → Fin 1024 → EReal} {mods : Fin 2 → Fin 3 → Fin 1024 → EReal} {g : Fin 1024 → EReal}
    {wi : Fin 1024 → Fin 5632 → EReal} (hh : ∀ r k, IsReal (h r k)) (hm : ∀ s i k, IsReal (mods s i k))
    (hg : ∀ k, IsReal (g k)) (hw : ∀ k j, IsReal (wi k j)) (r : Fin 4352) (j : Fin 5632) : IsReal (tokWide h mods g wi r j) :=
  .sum fun k => ((((IsReal.normed (hh r) k).mul (hg k)).mul (IsReal.one.add (hm _ _ k))).add (hm _ _ k)).mul (hw k j)

end Macaron

end
-- ==== Proof.FfnBwd.Ref.lean ====
module

public import proofs.«01_k».proof.Proof.Gen.FfnBwdRefIdeal.Run
public import proofs.«01_k».proof.Proof.FfnBwd.Finite
public import proofs.«01_k».proof.Proof.Ffn.Token
public import Idealize.ShloMosaic.Lib.StableHlo.ReadAt
public import Idealize.ShloMosaic.Lib.Tactic.CleanTypes

/-! The reference of the first half-step's backward pass of layer 0: its values, line by line, are those of `Spec`. -/

@[expose] public section

set_option maxRecDepth 16384

noncomputable section

namespace Macaron.BwdRef

open Idealize.ShloMosaic Idealize.ShloMosaic.TcCoe Idealize.SL.Sem
open Cert.FfnBwdRefIdeal Cert.FfnBwdRefIdeal.Gen Cert.FfnBwdRefIdeal.Value

variable (V : Valuation τ sig (Elt Ideal))

/-! The arguments, as the functions that `Spec` takes. -/

def rH (r : Fin 4352) (k : Fin 1024) : EReal := V (Proc.devRef .tc main_arg0) (ix2 r k)
def rMods (s : Fin 2) (i : Fin 3) (k : Fin 1024) : EReal := V (Proc.devRef .tc main_arg1) (ix4 0 s ⟨i.val, by omega⟩ k)
def rG (k : Fin 1024) : EReal := V (Proc.devRef .tc main_arg2) (ix3 0 0 k)
def rWi (k : Fin 1024) (j : Fin 5632) : EReal := V (Proc.devRef .tc main_arg3) (ix2 k j)
def rWo (j : Fin 2816) (k : Fin 1024) : EReal := V (Proc.devRef .tc main_arg4) (ix2 j k)
def rD (r : Fin 4352) (k : Fin 1024) : EReal := V (Proc.devRef .tc main_arg5) (ix2 r k)

/-- What the backward pass reads. -/
def back : Back where
  h := rH V
  ab := tokWide (rH V) (rMods V) (rG V) (rWi V)
  f := tokBranch (rH V) (rMods V) (rG V) (rWi V) (rWo V)
  dh := rD V
  mods := rMods V
  g := rG V
  wi := rWi V
  wo := rWo V

theorem v5_at (s : Fin 2) (i : Fin 3) (k : Fin 1024) :
    res_main_v5 V (ix3 s ⟨i.val, by omega⟩ k) = rMods V s i k := by
  unfold res_main_v5
  clean_types
  pointwise
  rfl

theorem v5_at_g (s : Fin 2) (k : Fin 1024) : res_main_v5 V (ix3 s 3 k) = rG V k := by
  unfold res_main_v5
  clean_types
  pointwise
  rfl

/-- Row `i` of the parameters, of token `r`'s stream: how the reference's concatenation chooses it. -/
theorem chosen (i : Fin 4) (r : Fin 4352) (k : Fin 1024) :
    (if _h : r.val < 4096 then res_main_v5 V (ix3 0 i k) else res_main_v5 V (ix3 1 i k)) = res_main_v5 V (ix3 (stream r) i k) := by
  unfold stream
  split <;> rfl

theorem v12_at (r : Fin 4352) (k : Fin 1024) : res_main_v12 V (ix2 r k) = rG V k := by
  rw [← v5_at_g V (stream r) k, ← chosen]
  unfold res_main_v12
  clean_types
  pointwise

theorem v33_at (r : Fin 4352) : res_main_v33 V (ix2 r 0) = power (rH V r) := by
  unfold res_main_v33
  clean_types
  pointwise
  rfl

theorem v34_at (r : Fin 4352) : res_main_v34 V (ix2 r 0) = Ideal.rsqrt (power (rH V r)) := by
  rw [← v33_at]
  rfl

theorem v39_at (r : Fin 4352) (k : Fin 1024) : res_main_v39 V (ix2 r k) = normed (rH V r) k := by
  unfold normed
  rw [← v34_at]
  unfold res_main_v39
  clean_types
  pointwise
  rfl

theorem v40_at (r : Fin 4352) (k : Fin 1024) : res_main_v40 V (ix2 r k) = normed (rH V r) k * rG V k := by
  rw [← v39_at, ← v12_at V r]
  rfl

theorem v42_at (r : Fin 4352) (k : Fin 1024) : res_main_v42 V (ix2 r k) = 1 + rMods V (stream r) 1 k := by
  rw [← v5_at, ← chosen]
  unfold res_main_v42
  clean_types
  pointwise

theorem v44_at (r : Fin 4352) (k : Fin 1024) : res_main_v44 V (ix2 r k) = (back V).n r k := by
  show _ = normed (rH V r) k * rG V k * (1 + rMods V (stream r) 1 k) + rMods V (stream r) 0 k
  rw [← v40_at, ← v42_at, ← v5_at, ← chosen]
  unfold res_main_v44
  clean_types
  pointwise

theorem v45_at (r : Fin 4352) (j : Fin 5632) : res_main_v45 V (ix2 r j) = (back V).ab r j := by
  show _ = ∑ k, (back V).n r k * rWi V k j
  simp only [← v44_at]
  unfold res_main_v45
  clean_types
  pointwise
  rfl

theorem v46_at (r : Fin 4352) (j : Fin 2816) : res_main_v46 V (ix2 r j) = (back V).ab r ⟨j.val, by omega⟩ := by
  rw [← v45_at]
  unfold res_main_v46
  clean_types
  pointwise

theorem v47_at (r : Fin 4352) (j : Fin 2816) : res_main_v47 V (ix2 r j) = (back V).ab r ⟨2816 + j.val, by omega⟩ := by
  rw [← v45_at]
  unfold res_main_v47
  clean_types
  pointwise

theorem v48_2_at (r : Fin 4352) (j : Fin 2816) :
    res_main_v48_2 V (ix2 r j) = Ideal.logistic ((back V).ab r ⟨j.val, by omega⟩) := by
  rw [← v46_at]
  unfold res_main_v48_2
  clean_types
  pointwise
  rfl

theorem v48_0_at (r : Fin 4352) (j : Fin 2816) : res_main_v48_0 V (ix2 r j)
    = (back V).ab r ⟨j.val, by omega⟩ * Ideal.logistic ((back V).ab r ⟨j.val, by omega⟩) := by
  rw [← v48_2_at, ← v46_at]
  rfl

theorem v49_at (r : Fin 4352) (j : Fin 2816) : res_main_v49 V (ix2 r j) = gated ((back V).ab r) j := by
  unfold gated
  rw [← v48_0_at, ← v47_at]
  rfl

theorem v50_at (r : Fin 4352) (k : Fin 1024) : res_main_v50 V (ix2 r k) = (back V).f r k := by
  show _ = ∑ j, gated ((back V).ab r) j * rWo V j k
  simp only [← v49_at]
  unfold res_main_v50
  clean_types
  pointwise
  rfl

theorem v59_at (r : Fin 4352) (k : Fin 1024) :
    res_main_v59 V (ix2 r k) = Ideal.ofBits FTy.f32 1056964608#32 * rMods V (stream r) 2 k := by
  rw [← v5_at, ← chosen]
  unfold res_main_v59
  clean_types
  pointwise

theorem v62_at (r : Fin 4352) (k : Fin 1024) : res_main_v62 V (ix2 r k) = rD V r k := by
  unfold res_main_v62
  clean_types
  pointwise
  rfl

theorem v63_at (r : Fin 4352) (k : Fin 1024) : res_main_v63 V (ix2 r k) = (back V).df r k := by
  show _ = Ideal.ofBits FTy.f32 1056964608#32 * rMods V (stream r) 2 k * rD V r k
  rw [← v59_at, ← v62_at]
  rfl

theorem v66_at (r : Fin 4352) (k : Fin 1024) : res_main_v66 V (ix2 r k) = (back V).term 2 r k := by
  show _ = rD V r k * (Ideal.ofBits FTy.f32 1056964608#32 * (back V).f r k)
  rw [← v50_at, ← v62_at, mul_left_comm]
  unfold res_main_v66
  clean_types
  pointwise

theorem v76_at (r : Fin 4352) (j : Fin 2816) : res_main_v76 V (ix2 r j) = (back V).dact r j := by
  show _ = ∑ k, (back V).df r k * rWo V j k
  simp only [← v63_at]
  unfold res_main_v76
  clean_types
  pointwise
  rfl

theorem v78_at (r : Fin 4352) (j : Fin 2816) :
    res_main_v78 V (ix2 r j) = (back V).dact r j * (back V).ab r ⟨2816 + j.val, by omega⟩ := by
  rw [← v76_at, ← v47_at]
  rfl

/-- The reference's cotangent of a gated column and of a plain column, before they are put side by side. -/
def gateAt (r : Fin 4352) (j : Fin 2816) : EReal :=
  (back V).dact r j * (back V).ab r ⟨2816 + j.val, by omega⟩ * Ideal.logistic ((back V).ab r ⟨j.val, by omega⟩)
    + (back V).ab r ⟨j.val, by omega⟩ * ((back V).dact r j * (back V).ab r ⟨2816 + j.val, by omega⟩)
      * (Ideal.logistic ((back V).ab r ⟨j.val, by omega⟩) * (1 - Ideal.logistic ((back V).ab r ⟨j.val, by omega⟩)))

def upAt (r : Fin 4352) (j : Fin 2816) : EReal :=
  (back V).ab r ⟨j.val, by omega⟩ * Ideal.logistic ((back V).ab r ⟨j.val, by omega⟩) * (back V).dact r j

theorem v80_shape (r : Fin 4352) (j : Fin 5632) : res_main_v80 V (ix2 r j) = beside (gateAt V r) (upAt V r) j := by
  unfold res_main_v80
  clean_types
  pointwise
  unfold beside
  by_cases h : j.val < 2816
  · rw [dif_pos h, dif_pos h, v78_at, v48_2_at, v46_at]
    rfl
  · rw [dif_neg h, dif_neg h, v48_0_at, v76_at]
    rfl

theorem v80_at (hB : (back V).Real) (r : Fin 4352) (j : Fin 5632) : res_main_v80 V (ix2 r j) = (back V).dab r j := by
  rw [v80_shape]
  unfold Back.dab
  refine congrFun (congrArg₂ beside (funext fun i => ?_) (funext fun i => ?_)) j
  · exact dGate_eq (hB.ab r _) (hB.ab r _) (hB.dact r _)
  · exact mul_comm _ _

theorem v81_at (hB : (back V).Real) (r : Fin 4352) (k : Fin 1024) : res_main_v81 V (ix2 r k) = (back V).dn r k := by
  show _ = ∑ j, (back V).dab r j * rWi V k j
  simp only [← v80_at V hB]
  unfold res_main_v81
  clean_types
  pointwise
  rfl

theorem v82_at (hB : (back V).Real) (r : Fin 4352) (k : Fin 1024) : res_main_v82 V (ix2 r k) = (back V).term 1 r k := by
  show _ = (back V).dn r k * (normed (rH V r) k * rG V k)
  rw [← v81_at V hB, ← v40_at, mul_comm]
  rfl

theorem v83_at (hB : (back V).Real) (r : Fin 4352) (k : Fin 1024) :
    res_main_v83 V (ix2 r k) = (back V).dn r k * (1 + rMods V (stream r) 1 k) := by
  rw [← v81_at V hB, ← v42_at]
  rfl

theorem v84_at (hB : (back V).Real) (r : Fin 4352) (k : Fin 1024) : res_main_v84 V (ix2 r k) = (back V).term 3 r k := by
  show _ = (back V).dn r k * (1 + rMods V (stream r) 1 k) * normed (rH V r) k
  rw [← v83_at V hB, ← v39_at, mul_comm]
  rfl

theorem v85_at (hB : (back V).Real) (r : Fin 4352) (k : Fin 1024) : res_main_v85 V (ix2 r k) = (back V).dx r k := by
  show _ = (back V).dn r k * (1 + rMods V (stream r) 1 k) * rG V k
  rw [← v83_at V hB, ← v12_at V r]
  rfl

theorem v95_at (hB : (back V).Real) (r : Fin 4352) (k : Fin 1024) : res_main_v95 V (ix2 r k)
    = Ideal.div ((∑ k, rH V r k * (back V).dx r k)
        * (Ideal.ofBits FTy.f32 3204448256#32 * Ideal.div (Ideal.rsqrt (power (rH V r))) (power (rH V r))))
          (Ideal.ofBits FTy.f32 1149239296#32) := by
  simp only [← v85_at V hB]
  rw [← v34_at, ← v33_at]
  unfold res_main_v95
  clean_types
  pointwise
  exact Fin.sum_univ_one _

/-- The reference's cotangent of the tokens. -/
def outTok : FVec Ideal S4352x1024 .f32 :=
  addf (V (Proc.devRef .tc main_arg5)) (addf (addf (mulf (res_main_v85 V) (broadcastInDim S4352x1024 ![0, 1] bcast_S4352x1_S4352x1024_0_1 (res_main_v34 V))) (mulf (V (Proc.devRef .tc main_arg0)) (res_main_v95 V))) (mulf (res_main_v95 V) (V (Proc.devRef .tc main_arg0))))

theorem outTok_at (hB : (back V).Real) (r : Fin 4352) (k : Fin 1024) : outTok V (ix2 r k) = (back V).dtok r k := by
  refine Eq.trans ?_ (dThrough_eq (hB.h r) (hB.dx r) k (hB.dh r k))
  show _ = rD V r k + ((back V).dx r k * Ideal.rsqrt (power (rH V r))
        + rH V r k * Ideal.div ((∑ k, rH V r k * (back V).dx r k)
            * (Ideal.ofBits FTy.f32 3204448256#32 * Ideal.div (Ideal.rsqrt (power (rH V r))) (power (rH V r))))
              (Ideal.ofBits FTy.f32 1149239296#32)
        + Ideal.div ((∑ k, rH V r k * (back V).dx r k)
            * (Ideal.ofBits FTy.f32 3204448256#32 * Ideal.div (Ideal.rsqrt (power (rH V r))) (power (rH V r))))
              (Ideal.ofBits FTy.f32 1149239296#32) * rH V r k)
  rw [← v95_at V hB r k, ← v85_at V hB, ← v34_at]
  unfold outTok
  clean_types
  pointwise
  rfl

/-- A row of a parameter gradient, padded into its place among the first four rows of the two streams. -/
theorem pad_row (s0 i0 : Nat) (hi : Fin 3 → Nat) (x : FVec Ideal S1x1x1024 .f32) (v : FVec Ideal S_ .f32)
    (hp : S1x1x1024.Pads ![s0, i0, 0] hi ![0, 0, 0] S2x4x1024) (hu : 0 < S_.numel) (s : Fin 2) (i : Fin 4) (k : Fin 1024) :
    pad S2x4x1024 ![s0, i0, 0] hi ![0, 0, 0] x v hp hu (ix3 s i k)
      = if s.val = s0 ∧ i.val = i0 then x (ix3 0 0 k) else v (Shape.Idx.first hu) := by
  split
  · next h =>
    obtain ⟨rfl, rfl⟩ := h
    unfold pad
    rw [dif_pos (fun a => by fin_cases a <;> simp [ix3, Nat.mod_one])]
    refine congrArg x (funext fun a => ?_)
    fin_cases a <;> simp [ix3]
  · next h =>
    unfold pad
    rw [dif_neg fun hin => h ?_]
    have h0 := hin 0
    have h1 := hin 1
    simp [ix3] at h0 h1
    omega

/-- The sum over the tokens of the first stream of a term. -/
theorem sum_lat (x : FVec Ideal S4352x1024 .f32) (k : Fin 1024) :
    broadcastInDim S1x1x1024 ![2] bcast_S1024_S1x1x1024_2 (Host.reduceAdd (extractStridedSlice S4096x1024 ![0, 0] x slices_S4352x1024_S4096x1024_0_0) (constant S_ .f32 0x00000000#32) reducesTo_S4096x1024_S1024_d0 h_S_) (ix3 0 0 k)
      = ∑ r : Fin 4096, x (ix2 ⟨r.val, by omega⟩ k) := by
  pointwise

theorem sum_ctx (x : FVec Ideal S4352x1024 .f32) (k : Fin 1024) :
    broadcastInDim S1x1x1024 ![2] bcast_S1024_S1x1x1024_2 (Host.reduceAdd (extractStridedSlice S256x1024 ![4096, 0] x slices_S4352x1024_S256x1024_4096_0) (constant S_ .f32 0x00000000#32) reducesTo_S256x1024_S1024_d0 h_S_) (ix3 0 0 k)
      = ∑ r : Fin 256, x (ix2 ⟨4096 + r.val, by omega⟩ k) := by
  pointwise

/-- The four rows of the two streams, before the four rows of zeros are put below them. -/
def sums : FVec Ideal S2x4x1024 .f32 :=
  (addf (addf (pad S2x4x1024 ![1, 2, 0] ![0, 1, 0] ![0, 0, 0] (broadcastInDim S1x1x1024 ![2] bcast_S1024_S1x1x1024_2 (Host.reduceAdd (extractStridedSlice S256x1024 ![4096, 0] (res_main_v66 V) slices_S4352x1024_S256x1024_4096_0) (constant S_ .f32 0x00000000#32) reducesTo_S256x1024_S1024_d0 h_S_)) (constant S_ .f32 0x00000000#32) pads_S1x1x1024_S2x4x1024_100_210_000 h_S_) (pad S2x4x1024 ![0, 2, 0] ![1, 1, 0] ![0, 0, 0] (broadcastInDim S1x1x1024 ![2] bcast_S1024_S1x1x1024_2 (Host.reduceAdd (extractStridedSlice S4096x1024 ![0, 0] (res_main_v66 V) slices_S4352x1024_S4096x1024_0_0) (constant S_ .f32 0x00000000#32) reducesTo_S4096x1024_S1024_d0 h_S_)) (constant S_ .f32 0x00000000#32) pads_S1x1x1024_S2x4x1024_010_210_000 h_S_)) (addf (addf (addf (addf (addf (pad S2x4x1024 ![1, 1, 0] ![0, 2, 0] ![0, 0, 0] (broadcastInDim S1x1x1024 ![2] bcast_S1024_S1x1x1024_2 (Host.reduceAdd (extractStridedSlice S256x1024 ![4096, 0] (res_main_v82 V) slices_S4352x1024_S256x1024_4096_0) (constant S_ .f32 0x00000000#32) reducesTo_S256x1024_S1024_d0 h_S_)) (constant S_ .f32 0x00000000#32) pads_S1x1x1024_S2x4x1024_100_120_000 h_S_) (pad S2x4x1024 ![0, 1, 0] ![1, 2, 0] ![0, 0, 0] (broadcastInDim S1x1x1024 ![2] bcast_S1024_S1x1x1024_2 (Host.reduceAdd (extractStridedSlice S4096x1024 ![0, 0] (res_main_v82 V) slices_S4352x1024_S4096x1024_0_0) (constant S_ .f32 0x00000000#32) reducesTo_S4096x1024_S1024_d0 h_S_)) (constant S_ .f32 0x00000000#32) pads_S1x1x1024_S2x4x1024_010_120_000 h_S_)) (pad S2x4x1024 ![1, 0, 0] ![0, 3, 0] ![0, 0, 0] (broadcastInDim S1x1x1024 ![2] bcast_S1024_S1x1x1024_2 (Host.reduceAdd (extractStridedSlice S256x1024 ![4096, 0] (res_main_v81 V) slices_S4352x1024_S256x1024_4096_0) (constant S_ .f32 0x00000000#32) reducesTo_S256x1024_S1024_d0 h_S_)) (constant S_ .f32 0x00000000#32) pads_S1x1x1024_S2x4x1024_100_030_000 h_S_)) (pad S2x4x1024 ![0, 0, 0] ![1, 3, 0] ![0, 0, 0] (broadcastInDim S1x1x1024 ![2] bcast_S1024_S1x1x1024_2 (Host.reduceAdd (extractStridedSlice S4096x1024 ![0, 0] (res_main_v81 V) slices_S4352x1024_S4096x1024_0_0) (constant S_ .f32 0x00000000#32) reducesTo_S4096x1024_S1024_d0 h_S_)) (constant S_ .f32 0x00000000#32) pads_S1x1x1024_S2x4x1024_010_030_000 h_S_)) (pad S2x4x1024 ![1, 3, 0] ![0, 0, 0] ![0, 0, 0] (broadcastInDim S1x1x1024 ![2] bcast_S1024_S1x1x1024_2 (Host.reduceAdd (extractStridedSlice S256x1024 ![4096, 0] (res_main_v84 V) slices_S4352x1024_S256x1024_4096_0) (constant S_ .f32 0x00000000#32) reducesTo_S256x1024_S1024_d0 h_S_)) (constant S_ .f32 0x00000000#32) pads_S1x1x1024_S2x4x1024_100_300_000 h_S_)) (pad S2x4x1024 ![0, 3, 0] ![1, 0, 0] ![0, 0, 0] (broadcastInDim S1x1x1024 ![2] bcast_S1024_S1x1x1024_2 (Host.reduceAdd (extractStridedSlice S4096x1024 ![0, 0] (res_main_v84 V) slices_S4352x1024_S4096x1024_0_0) (constant S_ .f32 0x00000000#32) reducesTo_S4096x1024_S1024_d0 h_S_)) (constant S_ .f32 0x00000000#32) pads_S1x1x1024_S2x4x1024_010_300_000 h_S_)))

theorem sums_at (hB : (back V).Real) (s : Fin 2) (i : Fin 4) (k : Fin 1024) : sums V (ix3 s i k) = (back V).grad s i k := by
  unfold sums
  simp only [addf_apply, pad_row, sum_lat, sum_ctx, v81_at V hB, v82_at V hB, v84_at V hB, v66_at]
  fin_cases s <;> fin_cases i <;> simp [constant_apply]
  · exact (sum_lat _ k).trans (Finset.sum_congr rfl fun r _ => v81_at V hB _ k)
  · exact (sum_lat _ k).trans (Finset.sum_congr rfl fun r _ => v82_at V hB _ k)
  · exact (sum_lat _ k).trans (Finset.sum_congr rfl fun r _ => v66_at V _ k)
  · exact (sum_lat _ k).trans (Finset.sum_congr rfl fun r _ => v84_at V hB _ k)
  · exact (sum_ctx _ k).trans (Finset.sum_congr rfl fun r _ => v81_at V hB _ k)
  · exact (sum_ctx _ k).trans (Finset.sum_congr rfl fun r _ => v82_at V hB _ k)
  · exact (sum_ctx _ k).trans (Finset.sum_congr rfl fun r _ => v66_at V _ k)
  · exact (sum_ctx _ k).trans (Finset.sum_congr rfl fun r _ => v84_at V hB _ k)

/-- The rows of the parameter gradients. -/
def outRows : FVec Ideal S2x8x1024 .f32 :=
  concatenate S2x8x1024 1 [⟨S2x4x1024, sums V⟩, ⟨S2x4x1024, (broadcastInDim S2x4x1024 ![] bcast_S_S2x4x1024 (constant S_ .f32 0x00000000#32))⟩] concatenates_S2x4x1024_S2x4x1024_S2x8x1024_d1

theorem outRows_at (hB : (back V).Real) (s : Fin 2) (i : Fin 8) (k : Fin 1024) :
    outRows V (ix3 s i k) = (back V).rows s i k := by
  unfold Back.rows
  simp only [← sums_at V hB]
  unfold outRows
  clean_types
  pointwise

/-- The reference's six results. -/
theorem results (hB : (back V).Real) :
    outTok V = (fun i : S4352x1024.Idx => (back V).dtok (i 0) (i 1))
    ∧ (truncf .bf16 (res_main_v80 V) bitsLt_bf16_f32 : FVec Ideal S4352x5632 .bf16)
      = (fun i : S4352x5632.Idx => (back V).dab (i 0) (i 1))
    ∧ (truncf .bf16 (res_main_v63 V) bitsLt_bf16_f32 : FVec Ideal S4352x1024 .bf16)
      = (fun i : S4352x1024.Idx => (back V).df (i 0) (i 1))
    ∧ (truncf .bf16 (res_main_v44 V) bitsLt_bf16_f32 : FVec Ideal S4352x1024 .bf16)
      = (fun i : S4352x1024.Idx => (back V).n (i 0) (i 1))
    ∧ (truncf .bf16 (res_main_v49 V) bitsLt_bf16_f32 : FVec Ideal S4352x2816 .bf16)
      = (fun i : S4352x2816.Idx => gated ((back V).ab (i 0)) (i 1))
    ∧ outRows V = (fun i : S2x8x1024.Idx => (back V).rows (i 0) (i 1) (i 2)) := by
  refine ⟨funext fun i => ?_, funext fun i => ?_, funext fun i => ?_, funext fun i => ?_, funext fun i => ?_, funext fun i => ?_⟩
  · exact (congrArg (outTok V) (eq_ix2 i)).trans (outTok_at V hB _ _)
  · exact (congrArg (res_main_v80 V) (eq_ix2 i)).trans (v80_at V hB _ _)
  · exact (congrArg (res_main_v63 V) (eq_ix2 i)).trans (v63_at V _ _)
  · exact (congrArg (res_main_v44 V) (eq_ix2 i)).trans (v44_at V _ _)
  · exact (congrArg (res_main_v49 V) (eq_ix2 i)).trans (v49_at V _ _)
  · exact (congrArg (outRows V) (eq_ix3 i)).trans (outRows_at V hB _ _ _)

end Macaron.BwdRef

end
-- ==== Proof.FfnBwd.Given.lean ====
module

public import proofs.«01_k».proof.Pre_finite
public import proofs.«01_k».proof.Proof.FfnBwd.Finite
public import Idealize.ShloMosaic.Lib.ReduceAll
public import Idealize.ShloMosaic.Lib.ValueIdx

/-! What the precondition says: every element of every argument is a real number. -/

@[expose] public section

noncomputable section

namespace Macaron

open Idealize.ShloMosaic

theorem const_inf : Ideal.ofBits FTy.f32 0x7F800000#32 = ⊤ := by
  simp [Ideal.ofBits, Ideal.ieee]

/-- The bounds of a whole array: if they all hold, every element is real. -/
theorem real_of_all {s u : Shape} [Subsingleton u.Idx] {axes : List (Fin s.rank)} (x : FVec Ideal s .f32)
    (b : Cert.Pre_finite.S_.BroadcastsInDim s (![] : Fin 0 → Fin s.rank)) (v : IVec Cert.Pre_finite.S_ 1)
    (h : s.ReducesTo axes u) (hu : 0 < Cert.Pre_finite.S_.numel) (j : u.Idx)
    (e : Host.reduce IntOp.andi (cmpf .olt (Host.absf x)
      (broadcastInDim s ![] b (constant (F := Ideal) Cert.Pre_finite.S_ .f32 0x7F800000#32))) v h hu j = 1#1)
    (i : s.Idx) : IsReal (x i) := by
  have hi := Host.reduce_andi_all _ _ h hu j e i
  have hc : Ideal.cmp .olt (max (x i) (-x i)) (Ideal.ofBits FTy.f32 0x7F800000#32) = 1#1 := hi
  rw [const_inf] at hc
  refine IsReal.of_abs_lt ?_
  by_contra hn
  simp [Ideal.cmp, hn] at hc

instance : Subsingleton Cert.Pre_finite.S_.Idx := ⟨fun a b => funext fun i => i.elim0⟩

/-- The precondition, read back. -/
theorem real_of_finite [Cert.Pre_finite.Facts] {a0 : FVec Ideal Cert.Pre_finite.S4352x1024 .f32}
    {a1 : FVec Ideal Cert.Pre_finite.S2x2x16x1024 .f32} {a2 : FVec Ideal Cert.Pre_finite.S2x1x1024 .f32}
    {a3 : FVec Ideal Cert.Pre_finite.S1024x5632 .f32} {a4 : FVec Ideal Cert.Pre_finite.S2816x1024 .f32}
    {a5 : FVec Ideal Cert.Pre_finite.S4352x1024 .f32} (e : Cert.Pre_finite.fn (F := Ideal) a0 a1 a2 a3 a4 a5 = fun _ => 1#1) :
    (∀ i, IsReal (a0 i)) ∧ (∀ i, IsReal (a1 i)) ∧ (∀ i, IsReal (a2 i)) ∧ (∀ i, IsReal (a3 i)) ∧ (∀ i, IsReal (a4 i))
      ∧ ∀ i, IsReal (a5 i) := by
  have e := congrFun e fun i => i.elim0
  unfold Cert.Pre_finite.fn Cert.Pre_finite.fn_part1 at e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨real_of_all _ _ _ _ _ _ h0, real_of_all _ _ _ _ _ _ h1, real_of_all _ _ _ _ _ _ h2,
    real_of_all _ _ _ _ _ _ h3, real_of_all _ _ _ _ _ _ h4, real_of_all _ _ _ _ _ _ h5⟩

end Macaron

end
-- ==== Proof.FfnBwd.Claims.lean ====
module

public import proofs.«01_k».proof.Defs
public import proofs.«01_k».proof.Proof.Gen.FfnBwd
public import proofs.«01_k».proof.Proof.Gen.Pre_finite
public import proofs.«01_k».proof.Proof.FfnBwd.Arrays
public import proofs.«01_k».proof.Proof.FfnBwd.Ref
public import proofs.«01_k».proof.Proof.FfnBwd.Given

/-! The first half-step's backward pass of layer 0: its claims. -/

@[expose] public section

set_option maxRecDepth 16384

noncomputable section

namespace Macaron.Bwd1L0

open Idealize.ShloMosaic Idealize.ShloMosaic.TcCoe Idealize.SL.Sem Idealize.ShloMosaic.StableHlo

/-! The program over machine floats is the program over extended reals, read at another number type. -/

section Bits

set_option maxHeartbeats 8000000

variable {F : FTy → Type} [FloatOps F]

theorem defs₀_eq : Cert.FfnBwd.defs₀ (F := F) = Cert.FfnBwdIdeal.defs₀ (F := F) := by
  unfold Cert.FfnBwd.defs₀ Cert.FfnBwdIdeal.defs₀
  refine congrArg Defs.onTc (funext fun l => ?_)
  match l with
  | 0 => exact funext fun ⟨t, s⟩ => rfl
  | ⟨n + 1, h⟩ => exact absurd h (Nat.not_lt.2 (Nat.le_add_left _ _))

theorem defs_eq : Cert.FfnBwd.defs (F := F) = Cert.FfnBwdIdeal.defs (F := F) := by
  unfold Cert.FfnBwd.defs Cert.FfnBwdIdeal.defs
  rw [defs₀_eq]; rfl

theorem main_eq : Cert.FfnBwd.main (F := F) = Cert.FfnBwdIdeal.main (F := F) := rfl

theorem frame : Cert.quiescent_FfnBwd := fun m ρ _ => by
  have h := Cert.FfnBwdIdeal.Value.frame m ρ
  rw [← main_eq, ← defs_eq] at h
  exact h

end Bits

theorem frame_ideal : Cert.quiescent_FfnBwdIdeal := fun m ρ _ => Cert.FfnBwdIdeal.Value.frame m ρ

theorem frame_ideal_finite : Cert.quiescent_FfnBwdIdeal_pre_finite := fun m ρ _ => Cert.FfnBwdIdeal.Value.frame m ρ

theorem frame_ref : Cert.quiescent_FfnBwdRefIdeal := fun m ρ _ =>
  (θ_run Cert.FfnBwdRefIdeal.defs _ _).mono
    (fun r h => ⟨fun c => (h c).2.2.2.2.2.2, sem_eq_zero_of_no_sems (by decide) r.2⟩) (Cert.FfnBwdRefIdeal.Value.run m ρ)

theorem frame_ref_finite : Cert.quiescent_FfnBwdRefIdeal_pre_finite := fun m ρ _ => frame_ref m ρ trivial

/-- Under the precondition everything that the backward pass reads is real. -/
theorem real (m : (ℓ : Loc Cert.FfnBwdIdeal.nD Cert.FfnBwdIdeal.τ Cert.FfnBwdIdeal.sig) → Buf (Elt Ideal) ℓ)
    (h : Cert.Pre_FfnBwdIdeal_finite m) (c : Dev Cert.FfnBwdIdeal.nD) : (back m c).Real := by
  obtain ⟨h0, h1, h2, h3, h4, h5⟩ := real_of_finite (h c)
  exact ⟨fun r k => h0 _, tokWide_real (fun r k => h0 _) (fun s i k => h1 _) (fun k => h2 _) (fun k j => h3 _),
    fun r k => h5 _, fun s i k => h1 _, fun k => h2 _, fun k j => h3 _, fun j k => h4 _⟩

section Kernel

open Cert.FfnBwdIdeal Cert.FfnBwdIdeal.Value

set_option maxHeartbeats 4000000 in
/-- The kernel's run: its six results, the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v53_0) = (dats m 0 c).arrAt 8 cfg0.N
      ∧ r.2.mem ((c.tc : Thread nD τ).loc main_v53_1) = (dats m 0 c).arrAt 9 cfg0.N
      ∧ r.2.mem ((c.tc : Thread nD τ).loc main_v53_2) = (dats m 0 c).arrAt 10 cfg0.N
      ∧ r.2.mem ((c.tc : Thread nD τ).loc main_v53_3) = (dats m 0 c).arrAt 11 cfg0.N
      ∧ r.2.mem ((c.tc : Thread nD τ).loc main_v53_4) = (dats m 0 c).arrAt 12 cfg0.N
      ∧ r.2.mem ((c.tc : Thread nD τ).loc main_v53_5) = (dats m 0 c).arrAt 13 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono
    (fun r h c => ⟨(h.1 c).1 8, (h.1 c).1 9, (h.1 c).1 10, (h.1 c).1 11, (h.1 c).1 12, (h.1 c).1 13, h.2.1 c⟩)
    (θ_run_and (run_main m ρ) (Cert.FfnBwdIdeal.Value.frame m ρ))

end Kernel

set_option maxHeartbeats 4000000 in
/-- The kernel's six results are the reference's. -/
theorem algebraic : Cert.algebraic_FfnBwdIdeal_FfnBwdRefIdeal_pre_finite := by
  intro m g m' g' hp hm
  refine ⟨fun c => (Cert.FfnBwdIdeal.Value.dats m 0 c).arrAt 8 Cert.FfnBwdIdeal.cfg0.N,
    fun c => (Cert.FfnBwdIdeal.Value.dats m 0 c).arrAt 9 Cert.FfnBwdIdeal.cfg0.N,
    fun c => (Cert.FfnBwdIdeal.Value.dats m 0 c).arrAt 10 Cert.FfnBwdIdeal.cfg0.N,
    fun c => (Cert.FfnBwdIdeal.Value.dats m 0 c).arrAt 11 Cert.FfnBwdIdeal.cfg0.N,
    fun c => (Cert.FfnBwdIdeal.Value.dats m 0 c).arrAt 12 Cert.FfnBwdIdeal.cfg0.N,
    fun c => (Cert.FfnBwdIdeal.Value.dats m 0 c).arrAt 13 Cert.FfnBwdIdeal.cfg0.N, kernel_run m g, ?_⟩
  refine (θ_run Cert.FfnBwdRefIdeal.defs _ _).mono (fun r h c => ?_) (Cert.FfnBwdRefIdeal.Value.run m' g')
  obtain ⟨h0, h1, h2, h3, h4, h5, h6⟩ := h c
  obtain ⟨e0, e1, e2, e3, e4, e5⟩ := hm c
  have eB : BwdRef.back (launchContents m' c) = back m c := by
    have eH : BwdRef.rH (launchContents m' c) = aH m c := funext fun _ => funext fun _ => congrFun e0 _
    have eM : BwdRef.rMods (launchContents m' c) = aMods m c := funext fun _ => funext fun _ => funext fun _ => congrFun e1 _
    have eG : BwdRef.rG (launchContents m' c) = aG m c := funext fun _ => congrFun e2 _
    have eI : BwdRef.rWi (launchContents m' c) = aWi m c := funext fun _ => funext fun _ => congrFun e3 _
    have eO : BwdRef.rWo (launchContents m' c) = aWo m c := funext fun _ => funext fun _ => congrFun e4 _
    have eD : BwdRef.rD (launchContents m' c) = aD m c := funext fun _ => funext fun _ => congrFun e5 _
    unfold BwdRef.back back
    rw [eH, eM, eG, eI, eO, eD]
  obtain ⟨f0, f1, f2, f3, f4, f5⟩ := BwdRef.results (launchContents m' c) (eB ▸ real m hp c)
  rw [eB] at f0 f1 f2 f3 f4 f5
  exact ⟨(h0.trans f0).trans (final8 m c).symm, (h1.trans f1).trans (final9 m c).symm, (h2.trans f2).trans (final10 m c).symm,
    (h3.trans f3).trans (final11 m c).symm, (h4.trans f4).trans (final12 m c).symm, (h5.trans f5).trans (final13 m c).symm, h6⟩

end Macaron.Bwd1L0

end
-- ==== Proof.Bwd1L1.Sound.lean ====
module

public import proofs.«01_k».proof.Proof.FfnBwd.Body
public import proofs.«01_k».proof.Proof.Gen.FfnBwdBIdeal.Frame
public import proofs.«01_k».proof.Proof.Gen.FfnBwdBIdeal.Skeleton

@[expose] public section

set_option maxRecDepth 16384

noncomputable section

namespace Cert.FfnBwdBIdeal.Value

open Cert.FfnBwdBIdeal Cert.FfnBwdBIdeal.Gen
open Cert.FfnBwdIdeal.Value (fresh fresh_iff out8 out9 out10 out11 out12 out13 cover_tok cover_hidden cover_act read_writes_over whole_mem)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point that adds to the parameter gradients already there. -/
theorem soundB (c : Dev nD) (E : Set ℕ) (i : grid0.Coords) (hc0 : ¬ fresh i) (arg1 : Memref sig .tc .vmem S256x1024 .f32) (harg1 : arg1.IsWhole) (arg2 : Memref sig .tc .vmem S256x5632 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1x1x16x1024 .f32) (harg5 : arg5.IsWhole) (arg6 : Memref sig .tc .vmem S1x1x1024 .f32) (harg6 : arg6.IsWhole) (arg7 : Memref sig .tc .vmem S4x1024x1408 .bf16) (harg7 : arg7.IsWhole) (arg8 : Memref sig .tc .vmem S2816x1024 .bf16) (harg8 : arg8.IsWhole) (arg9 : Memref sig .tc .vmem S256x1024 .f32) (harg9 : arg9.IsWhole) (arg10 : Memref sig .tc .vmem S256x5632 .bf16) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x2816 .bf16) (harg13 : arg13.IsWhole) (arg14 : Memref sig .tc .vmem S1x8x1024 .f32) (harg14 : arg14.IsWhole)
    (x0 : Vec F S256x1024 .f32) (x1 : Vec F S256x5632 .bf16) (x2 : Vec F S256x1024 .f32) (x3 : Vec F S256x1024 .f32) (x4 : Vec F S1x1x16x1024 .f32) (x5 : Vec F S1x1x1024 .f32) (x6 : Vec F S4x1024x1408 .bf16) (x7 : Vec F S2816x1024 .bf16) (y : Vec F S1x8x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare y
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out8 x0 x1 x3 (View.ld x4 (Rect.unit (s := S1x1x16x1024) ![0, 0, 1, 0] S1x1x1x1024.size inb_S1x1x16x1024_S1x1x1x1024_0_0_1_0)) (View.ld x4 (Rect.unit (s := S1x1x16x1024) ![0, 0, 2, 0] S1x1x1x1024.size inb_S1x1x16x1024_S1x1x1x1024_0_0_2_0)) x5 x6 x7) ∗ owns (c : Thread nD τ) arg10 fullShare (out9 x1 x3 (View.ld x4 (Rect.unit (s := S1x1x16x1024) ![0, 0, 2, 0] S1x1x1x1024.size inb_S1x1x16x1024_S1x1x1x1024_0_0_2_0)) x7) ∗ owns (c : Thread nD τ) arg11 fullShare (out10 x3 (View.ld x4 (Rect.unit (s := S1x1x16x1024) ![0, 0, 2, 0] S1x1x1x1024.size inb_S1x1x16x1024_S1x1x1x1024_0_0_2_0))) ∗ owns (c : Thread nD τ) arg12 fullShare (out11 x0 (View.ld x4 (Rect.unit (s := S1x1x16x1024) ![0, 0, 0, 0] S1x1x1x1024.size inb_S1x1x16x1024_S1x1x1x1024_0_0_0_0)) (View.ld x4 (Rect.unit (s := S1x1x16x1024) ![0, 0, 1, 0] S1x1x1x1024.size inb_S1x1x16x1024_S1x1x1x1024_0_0_1_0)) x5) ∗ owns (c : Thread nD τ) arg13 fullShare (out12 x1) ∗ owns (c : Thread nD τ) arg14 fullShare (out13 x0 x1 x2 x3 (View.ld x4 (Rect.unit (s := S1x1x16x1024) ![0, 0, 1, 0] S1x1x1x1024.size inb_S1x1x16x1024_S1x1x1x1024_0_0_1_0)) (View.ld x4 (Rect.unit (s := S1x1x16x1024) ![0, 0, 2, 0] S1x1x1x1024.size inb_S1x1x16x1024_S1x1x1x1024_0_0_2_0)) x5 x6 x7 y)) -∗ K ⟨⟩))
      ⊢ wp frame (wpE (defs₀ (F := F)) Variants.none c none) E (cc0_ffn1_bwd_1 i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_ffn1_bwd_1_eq_skeleton]; unfold cc0_ffn1_bwd_1_skel
  simp only [k0_part5_eq_skeleton, k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%f13, %hf13, H13⟩, Hk⟩
  subst hf0 hf1 hf2 hf3 hf4 hf5 hf6 hf7 hf13
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr; swap; · iexact H8
    ipureintro
    refine (View.read_writes_eq_canon _ _ _ (cover_tok _)).trans ?_; rfl
  isplitl [H9]
  · iexists _; isplitr; swap; · iexact H9
    ipureintro
    refine (View.read_writes_eq_canon _ _ _ (cover_hidden _ _ _ _)).trans ?_; rfl
  isplitl [H10]
  · iexists _; isplitr; swap; · iexact H10
    ipureintro
    refine (View.read_writes_eq_canon _ _ _ (cover_tok _)).trans ?_; rfl
  isplitl [H11]
  · iexists _; isplitr; swap; · iexact H11
    ipureintro
    refine (View.read_writes_eq_canon _ _ _ (cover_tok _)).trans ?_; rfl
  isplitl [H12]
  · iexists _; isplitr; swap; · iexact H12
    ipureintro
    refine (View.read_writes_eq_canon _ _ _ (cover_act _ _)).trans ?_; rfl
  iexists _; isplitr; swap; · iexact H13
  ipureintro
  refine (read_writes_over _ _ _).trans ?_; rfl

set_option maxHeartbeats 4000000 in
/-- The body at a point that starts them anew. -/
theorem soundA (c : Dev nD) (E : Set ℕ) (i : grid0.Coords) (hc0 : fresh i) (arg1 : Memref sig .tc .vmem S256x1024 .f32) (harg1 : arg1.IsWhole) (arg2 : Memref sig .tc .vmem S256x5632 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1x1x16x1024 .f32) (harg5 : arg5.IsWhole) (arg6 : Memref sig .tc .vmem S1x1x1024 .f32) (harg6 : arg6.IsWhole) (arg7 : Memref sig .tc .vmem S4x1024x1408 .bf16) (harg7 : arg7.IsWhole) (arg8 : Memref sig .tc .vmem S2816x1024 .bf16) (harg8 : arg8.IsWhole) (arg9 : Memref sig .tc .vmem S256x1024 .f32) (harg9 : arg9.IsWhole) (arg10 : Memref sig .tc .vmem S256x5632 .bf16) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x2816 .bf16) (harg13 : arg13.IsWhole) (arg14 : Memref sig .tc .vmem S1x8x1024 .f32) (harg14 : arg14.IsWhole)
    (x0 : Vec F S256x1024 .f32) (x1 : Vec F S256x5632 .bf16) (x2 : Vec F S256x1024 .f32) (x3 : Vec F S256x1024 .f32) (x4 : Vec F S1x1x16x1024 .f32) (x5 : Vec F S1x1x1024 .f32) (x6 : Vec F S4x1024x1408 .bf16) (x7 : Vec F S2816x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out8 x0 x1 x3 (View.ld x4 (Rect.unit (s := S1x1x16x1024) ![0, 0, 1, 0] S1x1x1x1024.size inb_S1x1x16x1024_S1x1x1x1024_0_0_1_0)) (View.ld x4 (Rect.unit (s := S1x1x16x1024) ![0, 0, 2, 0] S1x1x1x1024.size inb_S1x1x16x1024_S1x1x1x1024_0_0_2_0)) x5 x6 x7) ∗ owns (c : Thread nD τ) arg10 fullShare (out9 x1 x3 (View.ld x4 (Rect.unit (s := S1x1x16x1024) ![0, 0, 2, 0] S1x1x1x1024.size inb_S1x1x16x1024_S1x1x1x1024_0_0_2_0)) x7) ∗ owns (c : Thread nD τ) arg11 fullShare (out10 x3 (View.ld x4 (Rect.unit (s := S1x1x16x1024) ![0, 0, 2, 0] S1x1x1x1024.size inb_S1x1x16x1024_S1x1x1x1024_0_0_2_0))) ∗ owns (c : Thread nD τ) arg12 fullShare (out11 x0 (View.ld x4 (Rect.unit (s := S1x1x16x1024) ![0, 0, 0, 0] S1x1x1x1024.size inb_S1x1x16x1024_S1x1x1x1024_0_0_0_0)) (View.ld x4 (Rect.unit (s := S1x1x16x1024) ![0, 0, 1, 0] S1x1x1x1024.size inb_S1x1x16x1024_S1x1x1x1024_0_0_1_0)) x5) ∗ owns (c : Thread nD τ) arg13 fullShare (out12 x1) ∗ owns (c : Thread nD τ) arg14 fullShare (out13 x0 x1 x2 x3 (View.ld x4 (Rect.unit (s := S1x1x16x1024) ![0, 0, 1, 0] S1x1x1x1024.size inb_S1x1x16x1024_S1x1x1x1024_0_0_1_0)) (View.ld x4 (Rect.unit (s := S1x1x16x1024) ![0, 0, 2, 0] S1x1x1x1024.size inb_S1x1x16x1024_S1x1x1x1024_0_0_2_0)) x5 x6 x7 k0_pay2)) -∗ K ⟨⟩))
      ⊢ wp frame (wpE (defs₀ (F := F)) Variants.none c none) E (cc0_ffn1_bwd_1 i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_ffn1_bwd_1_eq_skeleton]; unfold cc0_ffn1_bwd_1_skel
  simp only [k0_part5_eq_skeleton, k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  subst hf0 hf1 hf2 hf3 hf4 hf5 hf6 hf7
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr; swap; · iexact H8
    ipureintro
    refine (View.read_writes_eq_canon _ _ _ (cover_tok _)).trans ?_; rfl
  isplitl [H9]
  · iexists _; isplitr; swap; · iexact H9
    ipureintro
    refine (View.read_writes_eq_canon _ _ _ (cover_hidden _ _ _ _)).trans ?_; rfl
  isplitl [H10]
  · iexists _; isplitr; swap; · iexact H10
    ipureintro
    refine (View.read_writes_eq_canon _ _ _ (cover_tok _)).trans ?_; rfl
  isplitl [H11]
  · iexists _; isplitr; swap; · iexact H11
    ipureintro
    refine (View.read_writes_eq_canon _ _ _ (cover_tok _)).trans ?_; rfl
  isplitl [H12]
  · iexists _; isplitr; swap; · iexact H12
    ipureintro
    refine (View.read_writes_eq_canon _ _ _ (cover_act _ _)).trans ?_; rfl
  iexists _; isplitr; swap; · iexact H13
  ipureintro
  unfold soundA.sl.H13_4 soundA.sl.H13_3 soundA.sl.r_26 soundA.sl.v163 soundA.sl.H13_4 soundA.sl.v157 soundA.sl.H13_3 soundA.sl.v151 soundA.sl.H13_2 soundA.sl.v145 soundA.sl.H13_1
  simp (disch := decide) only [↓ View.readCov_skip, ↓ View.readCov_fill]
  refine (View.read_writes_eq_canon _ _ _ fun y => ⟨_, List.mem_of_getLast? rfl, whole_mem y⟩).trans ?_
  rfl

end Cert.FfnBwdBIdeal.Value

end
-- ==== Proof.Bwd1L1.Frame.lean ====
module

public import proofs.«01_k».proof.Proof.Bwd1L1.Sound
public import Idealize.ShloMosaic.Lib.Claim

@[expose] public section

set_option maxRecDepth 16384

noncomputable section

namespace Cert.FfnBwdBIdeal.Value

open Cert.FfnBwdBIdeal Cert.FfnBwdBIdeal.Gen
open Cert.FfnBwdIdeal.Value (fresh fresh_iff out8 out9 out10 out11 out12 out13 cover_tok cover_hidden cover_act read_writes_over whole_mem)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output buffers hold, point by point -/

/-- The rows of shift, scale and gate the body loads at a point. -/
def shiftRow (c : Dev nD) (t : Fin cfg0.N) : Vec F S1x1x1x1024 .f32 := View.ld (iblk m c 4 t) (Rect.unit (s := S1x1x16x1024) ![0, 0, 0, 0] S1x1x1x1024.size inb_S1x1x16x1024_S1x1x1x1024_0_0_0_0)
def scaleRow (c : Dev nD) (t : Fin cfg0.N) : Vec F S1x1x1x1024 .f32 := View.ld (iblk m c 4 t) (Rect.unit (s := S1x1x16x1024) ![0, 0, 1, 0] S1x1x1x1024.size inb_S1x1x16x1024_S1x1x1x1024_0_0_1_0)
def gateRow (c : Dev nD) (t : Fin cfg0.N) : Vec F S1x1x1x1024 .f32 := View.ld (iblk m c 4 t) (Rect.unit (s := S1x1x16x1024) ![0, 0, 2, 0] S1x1x1x1024.size inb_S1x1x16x1024_S1x1x1x1024_0_0_2_0)

/-- The parameter gradients after a point, the buffer having held `y`. -/
def step (c : Dev nD) (t : Fin cfg0.N) (y : Vec F S1x8x1024 .f32) : Vec F S1x8x1024 .f32 :=
  out13 (iblk m c 0 t) (iblk m c 1 t) (iblk m c 2 t) (iblk m c 3 t) (scaleRow m c t) (gateRow m c t) (iblk m c 5 t) (iblk m c 6 t) (iblk m c 7 t) y

/-- The parameter gradients after point `n`: started anew at the first latent and at the first context point. -/
def acc (c : Dev nD) : (n : ℕ) → n < cfg0.N → Vec F S1x8x1024 .f32
  | 0, h => step m c ⟨0, h⟩ k0_pay2
  | n + 1, h => step m c ⟨n + 1, h⟩ (if (n + 1) % 16 = 0 then k0_pay2 else acc c n (Nat.lt_of_succ_lt h))

theorem not_fresh {t : Fin cfg0.N} (h : ¬ t.val % 16 = 0) : ¬ fresh (grid0.coords t) := fun h' => h ((fresh_iff t).mp h')

theorem acc_fresh (c : Dev nD) (t : Fin cfg0.N) (h : t.val % 16 = 0) : acc m c t.val t.isLt = step m c t k0_pay2 := by
  obtain ⟨n, hn⟩ := t
  cases n with
  | zero => rfl
  | succ n => exact congrArg (step m c ⟨n + 1, hn⟩) (if_pos h)

theorem acc_kept (c : Dev nD) (t : Fin cfg0.N) (h : ¬ t.val % 16 = 0) :
    acc m c t.val t.isLt = step m c t (acc m c (t.val - 1) (Nat.lt_of_le_of_lt (Nat.sub_le _ _) t.isLt)) := by
  obtain ⟨n, hn⟩ := t
  cases n with
  | zero => exact absurd rfl h
  | succ n => exact congrArg (step m c ⟨n + 1, hn⟩) (if_neg h)

/-! ## The pipeline's proof data -/

/-- The arrays as the region finds them; after the body each input's buffer at its block and the outputs at what the
    body computes of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 (iblk m c 0 t) (iblk m c 1 t) (iblk m c 3 t) (scaleRow m c t) (gateRow m c t) (iblk m c 5 t) (iblk m c 6 t) (iblk m c 7 t)
    | ⟨9, _⟩ => out9 (iblk m c 1 t) (iblk m c 3 t) (gateRow m c t) (iblk m c 7 t)
    | ⟨10, _⟩ => out10 (iblk m c 3 t) (gateRow m c t)
    | ⟨11, _⟩ => out11 (iblk m c 0 t) (shiftRow m c t) (scaleRow m c t) (iblk m c 5 t)
    | ⟨12, _⟩ => out12 (iblk m c 1 t)
    | ⟨13, _⟩ => acc m c t.val t.isLt
    | ⟨n + 14, h⟩ => absurd (show n + 14 < 14 from h) (by omega)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = out8 (iblk m c 0 t) (iblk m c 1 t) (iblk m c 3 t) (scaleRow m c t) (gateRow m c t) (iblk m c 5 t) (iblk m c 6 t) (iblk m c 7 t) := by dsimp only [dats]
theorem after_9 (c : Dev nD) (t : Fin cfg0.N) : (dats m 0 c).after 9 t = out9 (iblk m c 1 t) (iblk m c 3 t) (gateRow m c t) (iblk m c 7 t) := by dsimp only [dats]
theorem after_10 (c : Dev nD) (t : Fin cfg0.N) : (dats m 0 c).after 10 t = out10 (iblk m c 3 t) (gateRow m c t) := by dsimp only [dats]
theorem after_11 (c : Dev nD) (t : Fin cfg0.N) : (dats m 0 c).after 11 t = out11 (iblk m c 0 t) (shiftRow m c t) (scaleRow m c t) (iblk m c 5 t) := by dsimp only [dats]
theorem after_12 (c : Dev nD) (t : Fin cfg0.N) : (dats m 0 c).after 12 t = out12 (iblk m c 1 t) := by dsimp only [dats]
theorem after_13 (c : Dev nD) (t : Fin cfg0.N) : (dats m 0 c).after 13 t = acc m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- The window of the parameter gradients is written back after the last latent point, and at the last. -/
theorem flush_13 : ∀ t : Fin cfg0.N, (cfg0.win 13).flush t = true ↔ 15 ≤ t.val := by decide +kernel

/-- The buffer of the parameter gradients holds what the point before left. -/
theorem before_13 (c : Dev nD) (t : Fin cfg0.N) (ht : ¬ t.val % 16 = 0) (d) :
    (dats m 0 c).before 13 t d = acc m c (t.val - 1) (Nat.lt_of_le_of_lt (Nat.sub_le _ _) t.isLt) :=
  ((dats m 0 c).before_out_kept 13 rfl t (fun h => ht (by omega))
    (Bool.eq_false_iff.mpr fun h => by
      have h1 := (flush_13 _).mp h
      have h2 : t.val < 17 := lt_of_lt_of_eq t.isLt (show cfg0.N = 17 from N_0)
      dsimp only at h1; omega)
    (fun _ => rfl) (fun _ _ => rfl) d).trans (after_13 m c _)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 4000000 in
/-- The body at any point: the inputs hold their blocks, the gradients' buffer what the point before left unless they
    start anew; the invariant passes through unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13]
  by_cases h : t.val % 16 = 0
  · rw [acc_fresh m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (soundA c Set.univ (grid0.coords t) ((fresh_iff t).mpr h) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)  _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iintro ⟨H0, H1, H2, H3, H4, H5, H6, H7, H8, H9, H10, H11, H12, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · simp only [before_13 m c t h]
    rw [acc_kept m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (soundB c Set.univ (grid0.coords t) (not_fresh h) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (acc m c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexact H13
    iintro ⟨H0, H1, H2, H3, H4, H5, H6, H7, H8, H9, H10, H11, H12, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every final state has each array at what the proof data say, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they began and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.FfnBwdBIdeal.Value

end
-- ==== Proof.Bwd1L1.Arrays.lean ====
module

public import proofs.«01_k».proof.Proof.Bwd1L1.Frame
public import proofs.«01_k».proof.Proof.FfnBwd.Rows
public import proofs.«01_k».proof.Proof.Ffn.Token
public import Idealize.ShloMosaic.Lib.StableHlo.ReadAt
public import Idealize.ShloMosaic.Lib.Tactic.CleanTypes

/-! The first half-step's backward pass of layer 1: what its grid points read, and the arrays it leaves. -/

@[expose] public section

set_option maxRecDepth 16384

noncomputable section

namespace Macaron.Bwd1L1

open Idealize.ShloMosaic Idealize.ShloMosaic.TcCoe Idealize.SL.Sem Macaron.Bwd
open Cert.FfnBwdBIdeal Cert.FfnBwdBIdeal.Gen Cert.FfnBwdBIdeal.Value

variable (m : (ℓ : Loc nD τ sig) → Buf (Elt Ideal) ℓ) (c : Dev nD)

/-! The arguments, as the functions that `Spec` takes. -/

def aH (r : Fin 4352) (k : Fin 1024) : EReal := m ((c.tc : Thread nD τ).loc main_arg0) (ix2 r k)
def aMods (s : Fin 2) (i : Fin 3) (k : Fin 1024) : EReal :=
  m ((c.tc : Thread nD τ).loc main_arg1) (ix4 1 s ⟨i.val, by omega⟩ k)
def aG (k : Fin 1024) : EReal := m ((c.tc : Thread nD τ).loc main_arg2) (ix3 1 0 k)
def aWi (k : Fin 1024) (j : Fin 5632) : EReal := m ((c.tc : Thread nD τ).loc main_arg3) (ix2 k j)
def aWo (j : Fin 2816) (k : Fin 1024) : EReal := m ((c.tc : Thread nD τ).loc main_arg4) (ix2 j k)
def aD (r : Fin 4352) (k : Fin 1024) : EReal := m ((c.tc : Thread nD τ).loc main_arg5) (ix2 r k)

/-- What the backward pass of the call reads: its arguments, and the two values of the forward pass that the host prepares. -/
def back : Back where
  h := aH m c
  ab := tokWide (aH m c) (aMods m c) (aG m c) (aWi m c)
  f := tokBranch (aH m c) (aMods m c) (aG m c) (aWi m c) (aWo m c)
  dh := aD m c
  mods := aMods m c
  g := aG m c
  wi := aWi m c
  wo := aWo m c

/-- The block indices of the windows at a grid point. -/
theorem idx : ∀ t : Fin cfg0.N,
    win0_0.index t = ![t.val, 0] ∧ win0_1.index t = ![t.val, 0] ∧ win0_2.index t = ![t.val, 0] ∧ win0_3.index t = ![t.val, 0]
      ∧ win0_4.index t = ![1, if t.val < 16 then 0 else 1, 0, 0] ∧ win0_5.index t = ![1, 0, 0]
      ∧ win0_6.index t = ![0, 0, 0] ∧ win0_7.index t = ![0, 0] ∧ win0_8.index t = ![t.val, 0]
      ∧ win0_9.index t = ![t.val, 0] ∧ win0_10.index t = ![t.val, 0] ∧ win0_11.index t = ![t.val, 0]
      ∧ win0_12.index t = ![t.val, 0] ∧ win0_13.index t = ![t.val / 16, 0, 0] :=
  (by decide +kernel : ∀ t : Fin grid0.N, _)

/-- Modulation parameter `i` of token `r`, chosen by the token's place as the host's concatenation does. -/
def pick (i : Fin 16) (r : Fin 4352) (k : Fin 1024) : EReal :=
  if _h : r.val < 4096 then m ((c.tc : Thread nD τ).loc main_arg1) (ix4 1 0 i k)
  else m ((c.tc : Thread nD τ).loc main_arg1) (ix4 1 1 i k)

theorem pick_eq (i : Fin 3) (r : Fin 4352) : pick m c ⟨i.val, by omega⟩ r = aMods m c (stream r) i := by
  funext k
  unfold pick stream aMods
  split <;> rfl

/-- The norm's weight, chosen in the same way from two equal rows. -/
def pickG (r : Fin 4352) (k : Fin 1024) : EReal :=
  if _h : r.val < 4096 then m ((c.tc : Thread nD τ).loc main_arg2) (ix3 1 0 k)
  else m ((c.tc : Thread nD τ).loc main_arg2) (ix3 1 0 k)

theorem pickG_eq (r : Fin 4352) : pickG m c r = aG m c := by
  funext k
  unfold pickG aG
  split <;> rfl

theorem wide_eq (r : Fin 4352) :
    widen (modNorm (aH m c r) (pickG m c r) (pick m c 0 r) (pick m c 1 r)) (aWi m c)
      = tokWide (aH m c) (aMods m c) (aG m c) (aWi m c) r := by
  unfold tokWide tokNorm
  rw [← pick_eq m c 0 r, ← pick_eq m c 1 r, pickG_eq]
  rfl

theorem V_ab (r : Fin 4352) (j : Fin 5632) :
    V m c main_v51 (ix2 r j) = tokWide (aH m c) (aMods m c) (aG m c) (aWi m c) r j := by
  rw [← wide_eq]
  unfold V
  after_reads_at
  after_reads_at
  after_reads_at
  rfl

theorem V_f (r : Fin 4352) (k : Fin 1024) :
    V m c main_v47 (ix2 r k) = tokBranch (aH m c) (aMods m c) (aG m c) (aWi m c) (aWo m c) r k := by
  unfold tokBranch
  rw [← wide_eq]
  unfold V
  after_reads_at
  after_reads_at
  after_reads_at
  rfl

theorem V_wi (s : Fin 4) (k : Fin 1024) (j : Fin 1408) :
    V m c main_v50 (ix3 s k j) = m ((c.tc : Thread nD τ).loc main_arg3) (ix2 k ⟨1408 * s.val + j.val, by omega⟩) := by
  have h : V m c main_v50 (ix3 s k j)
      = m ((c.tc : Thread nD τ).loc main_arg3) (ix2 k ⟨s.val * 1408 + j.val, by omega⟩) := by
    unfold V
    after_reads_at
  rw [h]
  exact congrArg (fun q => m ((c.tc : Thread nD τ).loc main_arg3) (ix2 k q)) (Fin.ext (by simp only; omega))

theorem V_wo (j : Fin 2816) (k : Fin 1024) :
    V m c main_v52 (ix2 j k) = m ((c.tc : Thread nD τ).loc main_arg4) (ix2 j k) := by
  unfold V
  after_reads_at

theorem h_at (t : Fin cfg0.N) (r : Fin 256) (k : Fin 1024) :
    iblk m c 0 t (ix2 r k) = m ((c.tc : Thread nD τ).loc main_arg0) (ix2 (Macaron.Bwd.tok t r) k) := by
  blk_ext! [iblk, V, idx t, Macaron.Bwd.tok]

theorem ab_at (t : Fin cfg0.N) (r : Fin 256) (j : Fin 5632) :
    iblk m c 1 t (ix2 r j) = V m c main_v51 (ix2 (Macaron.Bwd.tok t r) j) := by
  refine congrArg (V m c main_v51) (funext fun a => ?_)
  fin_cases a
  · exact Fin.ext (by blk_simp [idx t, Macaron.Bwd.tok]; simp only [ix2]; omega)
  · exact Fin.ext (by blk_simp [idx t]; rfl)

theorem f_at (t : Fin cfg0.N) (r : Fin 256) (k : Fin 1024) :
    iblk m c 2 t (ix2 r k) = V m c main_v47 (ix2 (Macaron.Bwd.tok t r) k) := by
  refine congrArg (V m c main_v47) (funext fun a => ?_)
  fin_cases a
  · exact Fin.ext (by blk_simp [idx t, Macaron.Bwd.tok]; simp only [ix2]; omega)
  · exact Fin.ext (by blk_simp [idx t]; rfl)

theorem dh_at (t : Fin cfg0.N) (r : Fin 256) (k : Fin 1024) :
    iblk m c 3 t (ix2 r k) = m ((c.tc : Thread nD τ).loc main_arg5) (ix2 (Macaron.Bwd.tok t r) k) := by
  blk_ext! [iblk, V, idx t, Macaron.Bwd.tok]

theorem mods_at (t : Fin cfg0.N) (i : Fin 16) (k : Fin 1024) (r : Fin 256) :
    iblk m c 4 t (ix4 0 0 i k) = m ((c.tc : Thread nD τ).loc main_arg1) (ix4 1 (stream (Macaron.Bwd.tok t r)) i k) := by
  have hs : (stream (Macaron.Bwd.tok t r)).val = if t.val < 16 then 0 else 1 := Fwd.stream_tok t r
  blk_ext! [iblk, V, idx t, hs]

theorem g_at (t : Fin cfg0.N) (k : Fin 1024) :
    iblk m c 5 t (ix3 0 0 k) = m ((c.tc : Thread nD τ).loc main_arg2) (ix3 1 0 k) := by
  blk_ext! [iblk, V, idx t]

theorem wi_at (t : Fin cfg0.N) (s : Fin 4) (k : Fin 1024) (j : Fin 1408) :
    iblk m c 6 t (ix3 s k j) = m ((c.tc : Thread nD τ).loc main_arg3) (ix2 k ⟨1408 * s.val + j.val, by omega⟩) := by
  refine (congrArg (V m c main_v50) (a₂ := ix3 s k j) (funext fun a => ?_)).trans (V_wi m c s k j)
  fin_cases a
  · exact Fin.ext (by blk_simp [idx t])
  · exact Fin.ext (by blk_simp [idx t])
  · exact Fin.ext (by blk_simp [idx t])

theorem wo_at (t : Fin cfg0.N) (j : Fin 2816) (k : Fin 1024) :
    iblk m c 7 t (ix2 j k) = m ((c.tc : Thread nD τ).loc main_arg4) (ix2 j k) := by
  refine (congrArg (V m c main_v52) (a₂ := ix2 j k) (funext fun a => ?_)).trans (V_wo m c j k)
  fin_cases a
  · exact Fin.ext (by blk_simp [idx t])
  · exact Fin.ext (by blk_simp [idx t])

theorem shift_at (t : Fin cfg0.N) (k : Fin 1024) : shiftRow m c t (ix4 0 0 0 k) = iblk m c 4 t (ix4 0 0 0 k) :=
  congrArg (iblk m c 4 t) (Rect.emb_eq_of_coords _ _ _ fun a => by fin_cases a <;> simp [Rect.unit, ix4])

theorem scale_at (t : Fin cfg0.N) (k : Fin 1024) : scaleRow m c t (ix4 0 0 0 k) = iblk m c 4 t (ix4 0 0 1 k) :=
  congrArg (iblk m c 4 t) (Rect.emb_eq_of_coords _ _ _ fun a => by fin_cases a <;> simp [Rect.unit, ix4])

theorem gate_at (t : Fin cfg0.N) (k : Fin 1024) : gateRow m c t (ix4 0 0 0 k) = iblk m c 4 t (ix4 0 0 2 k) :=
  congrArg (iblk m c 4 t) (Rect.emb_eq_of_coords _ _ _ fun a => by fin_cases a <;> simp [Rect.unit, ix4])

/-- What a grid point reads. -/
theorem tile (t : Fin cfg0.N) : Tile (back m c) t (iblk m c 0 t) (iblk m c 1 t) (iblk m c 2 t) (iblk m c 3 t)
    (shiftRow m c t) (scaleRow m c t) (gateRow m c t) (iblk m c 5 t) (iblk m c 6 t) (iblk m c 7 t) where
  h := h_at m c t
  ab r j := (ab_at m c t r j).trans (V_ab m c _ j)
  f r k := (f_at m c t r k).trans (V_f m c _ k)
  dh := dh_at m c t
  shift r k := (shift_at m c t k).trans (mods_at m c t 0 k r)
  scale r k := (scale_at m c t k).trans (mods_at m c t 1 k r)
  gate r k := (gate_at m c t k).trans (mods_at m c t 2 k r)
  g := g_at m c t
  wi := wi_at m c t
  wo := wo_at m c t

theorem final8 : (dats m 0 c).arrAt 8 cfg0.N = fun i : S4352x1024.Idx => (back m c).dtok (i 0) (i 1) := by
  refine (dats m 0 c).arrAt_eq_of_covers 8 _ (by decide +kernel) fun t hf y => ?_
  blk_simp
  rw [after_8]
  obtain ⟨a, b, rfl⟩ : ∃ (a : Fin 256) (b : Fin 1024), y = ix2 a b := ⟨y 0, y 1, eq_ix2 y⟩
  have e0 : (win0_8.blk t).view.emb (ix2 a b) 0 = Macaron.Bwd.tok t a := Fin.ext (by blk_simp [idx t, Macaron.Bwd.tok]; simp only [ix2]; omega)
  have e1 : (win0_8.blk t).view.emb (ix2 a b) 1 = b := Fin.ext (by blk_simp [idx t])
  rw [e0, e1]
  exact out8_at (tile m c t) a b

theorem final9 : (dats m 0 c).arrAt 9 cfg0.N = fun i : S4352x5632.Idx => (back m c).dab (i 0) (i 1) := by
  refine (dats m 0 c).arrAt_eq_of_covers 9 _ (by decide +kernel) fun t hf y => ?_
  blk_simp
  rw [after_9]
  obtain ⟨a, b, rfl⟩ : ∃ (a : Fin 256) (b : Fin 5632), y = ix2 a b := ⟨y 0, y 1, eq_ix2 y⟩
  have e0 : (win0_9.blk t).view.emb (ix2 a b) 0 = Macaron.Bwd.tok t a := Fin.ext (by blk_simp [idx t, Macaron.Bwd.tok]; simp only [ix2]; omega)
  have e1 : (win0_9.blk t).view.emb (ix2 a b) 1 = b := Fin.ext (by blk_simp [idx t])
  rw [e0, e1]
  exact out9_at (tile m c t) a b

theorem final10 : (dats m 0 c).arrAt 10 cfg0.N = fun i : S4352x1024.Idx => (back m c).df (i 0) (i 1) := by
  refine (dats m 0 c).arrAt_eq_of_covers 10 _ (by decide +kernel) fun t hf y => ?_
  blk_simp
  rw [after_10]
  obtain ⟨a, b, rfl⟩ : ∃ (a : Fin 256) (b : Fin 1024), y = ix2 a b := ⟨y 0, y 1, eq_ix2 y⟩
  have e0 : (win0_10.blk t).view.emb (ix2 a b) 0 = Macaron.Bwd.tok t a := Fin.ext (by blk_simp [idx t, Macaron.Bwd.tok]; simp only [ix2]; omega)
  have e1 : (win0_10.blk t).view.emb (ix2 a b) 1 = b := Fin.ext (by blk_simp [idx t])
  rw [e0, e1]
  exact out10_at (tile m c t) a b

theorem final11 : (dats m 0 c).arrAt 11 cfg0.N = fun i : S4352x1024.Idx => (back m c).n (i 0) (i 1) := by
  refine (dats m 0 c).arrAt_eq_of_covers 11 _ (by decide +kernel) fun t hf y => ?_
  blk_simp
  rw [after_11]
  obtain ⟨a, b, rfl⟩ : ∃ (a : Fin 256) (b : Fin 1024), y = ix2 a b := ⟨y 0, y 1, eq_ix2 y⟩
  have e0 : (win0_11.blk t).view.emb (ix2 a b) 0 = Macaron.Bwd.tok t a := Fin.ext (by blk_simp [idx t, Macaron.Bwd.tok]; simp only [ix2]; omega)
  have e1 : (win0_11.blk t).view.emb (ix2 a b) 1 = b := Fin.ext (by blk_simp [idx t])
  rw [e0, e1]
  exact out11_at (tile m c t) a b

theorem final12 : (dats m 0 c).arrAt 12 cfg0.N = fun i : S4352x2816.Idx => gated ((back m c).ab (i 0)) (i 1) := by
  refine (dats m 0 c).arrAt_eq_of_covers 12 _ (by decide +kernel) fun t hf y => ?_
  blk_simp
  rw [after_12]
  obtain ⟨a, b, rfl⟩ : ∃ (a : Fin 256) (b : Fin 2816), y = ix2 a b := ⟨y 0, y 1, eq_ix2 y⟩
  have e0 : (win0_12.blk t).view.emb (ix2 a b) 0 = Macaron.Bwd.tok t a := Fin.ext (by blk_simp [idx t, Macaron.Bwd.tok]; simp only [ix2]; omega)
  have e1 : (win0_12.blk t).view.emb (ix2 a b) 1 = b := Fin.ext (by blk_simp [idx t])
  rw [e0, e1]
  exact out12_at (tile m c t) a b

/-- The parameter gradients after a point: the parts of the tiles since they were started. -/
theorem acc_at (t : Fin cfg0.N) (y : S1x8x1024.Idx) :
    acc m c t.val t.isLt y
      = 0 + ∑ s : Fin (t.val % 16 + 1), part (back m c) ⟨16 * (t.val / 16) + s.val, Pipeline.run_point_lt t rfl s⟩ (y 1) (y 2) := by
  have hp : ∀ (t : Fin cfg0.N) (z : Vec Ideal S1x8x1024 .f32) (y : S1x8x1024.Idx),
      step m c t z y = z y + part (back m c) t (y 1) (y 2) := fun t z y => by
    obtain ⟨a, i, k, rfl⟩ : ∃ (a : Fin 1) (i : Fin 8) (k : Fin 1024), y = ix3 a i k := ⟨y 0, y 1, y 2, eq_ix3 y⟩
    obtain rfl : a = 0 := Subsingleton.elim _ _
    exact out13_at (tile m c t) z i k
  have hz : ∀ y : S1x8x1024.Idx, (k0_pay2 : FVec Ideal S1x8x1024 .f32) y = 0 := fun y => by
    pointwise [k0_pay2]
  refine Pipeline.eq_sum_fin_of_reset_step_apply (fun n h y => acc m c n h y) 16 (fun _ => 0)
    (fun t y => part (back m c) t (y 1) (y 2)) (fun t ht y => ?_) (fun t ht y => ?_) t y
  · beta_reduce
    rw [acc_fresh m c t ht, hp, hz]
  · beta_reduce
    rw [acc_kept m c t ht, hp]

/-- The parts of a stream's tiles, over a range of points that is known by its ends. -/
theorem parts_first (q n : ℕ) (h : ∀ s : Fin n, 16 * q + s.val < cfg0.N) (b : Fin 8) (k : Fin 1024) (hq : q = 0) (hn : n = 16) :
    ∑ s : Fin n, part (back m c) ⟨16 * q + s.val, h s⟩ b k = (back m c).rows 0 b k := by
  subst hq
  subst hn
  rw [← parts_latent (back m c) b k]
  exact Finset.sum_congr rfl fun s _ => congrArg (fun q => part (back m c) q b k) (Fin.ext (by simp only; omega))

theorem parts_second (q n : ℕ) (h : ∀ s : Fin n, 16 * q + s.val < cfg0.N) (b : Fin 8) (k : Fin 1024) (hq : q = 1) (hn : n = 1) :
    ∑ s : Fin n, part (back m c) ⟨16 * q + s.val, h s⟩ b k = (back m c).rows 1 b k := by
  subst hq
  subst hn
  rw [← part_context (back m c) b k]
  exact (Fin.sum_univ_one _).trans (congrArg (fun q => part (back m c) q b k) (Fin.ext (by simp)))

/-- The parameter gradients after a stream's last point: the rows of the stream. -/
theorem acc_last (t : Fin cfg0.N) (ht : t.val = 15 ∨ t.val = 16) (b : Fin 8) (k : Fin 1024) :
    acc m c t.val t.isLt (ix3 0 b k) = (back m c).rows ⟨t.val / 16, by omega⟩ b k := by
  refine (acc_at m c t _).trans ((zero_add _).trans ?_)
  obtain ht | ht := ht
  · rw [show (⟨t.val / 16, by omega⟩ : Fin 2) = 0 from Fin.ext (by show t.val / 16 = 0; omega)]
    exact parts_first m c _ _ _ b k (by omega) (by omega)
  · rw [show (⟨t.val / 16, by omega⟩ : Fin 2) = 1 from Fin.ext (by show t.val / 16 = 1; omega)]
    exact parts_second m c _ _ _ b k (by omega) (by omega)

theorem final13 : (dats m 0 c).arrAt 13 cfg0.N = fun i : S2x8x1024.Idx => (back m c).rows (i 0) (i 1) (i 2) := by
  refine (dats m 0 c).arrAt_eq_of_covers 13 _ (by decide +kernel) fun t hf y => ?_
  have hN : t.val < 17 := lt_of_lt_of_eq t.isLt (show cfg0.N = 17 from N_0)
  have ht := (flush_13 t).mp hf
  have h16 : t.val = 15 ∨ t.val = 16 := by omega
  blk_simp
  rw [after_13]
  obtain ⟨a, b, k, rfl⟩ : ∃ (a : Fin 1) (b : Fin 8) (k : Fin 1024), y = ix3 a b k := ⟨y 0, y 1, y 2, eq_ix3 y⟩
  obtain rfl : a = 0 := Subsingleton.elim _ _
  have e0 : ((win0_13.blk t).view.emb (ix3 0 b k) 0).val = t.val / 16 := by blk_simp [idx t]; rfl
  have e1 : (win0_13.blk t).view.emb (ix3 0 b k) 1 = b := Fin.ext (by blk_simp [idx t])
  have e2 : (win0_13.blk t).view.emb (ix3 0 b k) 2 = k := Fin.ext (by blk_simp [idx t])
  have e0' : (win0_13.blk t).view.emb (ix3 0 b k) 0 = (⟨t.val / 16, by omega⟩ : Fin 2) := Fin.ext e0
  rw [e0', e1, e2]
  exact acc_last m c t h16 b k

end Macaron.Bwd1L1

end
-- ==== Proof.FfnBwd.Moved.lean ====
module

public import proofs.«01_k».proof.Proof.FfnBwd.Ref

/-! The references of the four backward passes differ only in the rows of modulation parameters and norm weights that
they read: each is the first at arrays whose rows have been moved. -/

@[expose] public section

set_option maxRecDepth 16384

noncomputable section

namespace Macaron.BwdRef

open Idealize.ShloMosaic Idealize.ShloMosaic.TcCoe Idealize.SL.Sem
open Cert.FfnBwdRefIdeal Cert.FfnBwdRefIdeal.Gen Cert.FfnBwdRefIdeal.Value

/-- Modulation parameters with layer `l` in place of layer 0, and row `k0` in place of row 0. -/
def movedMods (l : Fin 2) (k0 : ℕ) (x : FVec Ideal S2x2x16x1024 .f32) : FVec Ideal S2x2x16x1024 .f32 :=
  fun i => x (ix4 l (i 1) ⟨(k0 + (i 2).val) % 16, Nat.mod_lt _ (by decide)⟩ (i 3))

/-- Norm weights with layer `l` in place of layer 0. -/
def movedWeights (l : Fin 2) (x : FVec Ideal S2x1x1024 .f32) : FVec Ideal S2x1x1024 .f32 :=
  fun i => x (ix3 l (i 1) (i 2))

variable (l : Fin 2) (k0 : ℕ) (V : Valuation τ sig (Elt Ideal))

/-- The arrays with those two moved. -/
def moved : Valuation τ sig (Elt Ideal) :=
  Function.update (Function.update V (Proc.devRef .tc main_arg1) (movedMods l k0 (V (Proc.devRef .tc main_arg1))))
    (Proc.devRef .tc main_arg2) (movedWeights l (V (Proc.devRef .tc main_arg2)))

theorem moved_other (b : DevRef τ sig) (h1 : b ≠ Proc.devRef .tc main_arg1) (h2 : b ≠ Proc.devRef .tc main_arg2) :
    moved l k0 V b = V b := by
  unfold moved
  rw [Function.update_of_ne h2, Function.update_of_ne h1]

theorem moved_arg0 : moved l k0 V (Proc.devRef .tc main_arg0) = V (Proc.devRef .tc main_arg0) :=
  moved_other l k0 V _ (by decide) (by decide)
theorem moved_arg3 : moved l k0 V (Proc.devRef .tc main_arg3) = V (Proc.devRef .tc main_arg3) :=
  moved_other l k0 V _ (by decide) (by decide)
theorem moved_arg4 : moved l k0 V (Proc.devRef .tc main_arg4) = V (Proc.devRef .tc main_arg4) :=
  moved_other l k0 V _ (by decide) (by decide)
theorem moved_arg5 : moved l k0 V (Proc.devRef .tc main_arg5) = V (Proc.devRef .tc main_arg5) :=
  moved_other l k0 V _ (by decide) (by decide)

theorem moved_arg1 : moved l k0 V (Proc.devRef .tc main_arg1) = movedMods l k0 (V (Proc.devRef .tc main_arg1)) := by
  unfold moved
  rw [Function.update_of_ne (by decide), Function.update_self]

theorem moved_arg2 : moved l k0 V (Proc.devRef .tc main_arg2) = movedWeights l (V (Proc.devRef .tc main_arg2)) := by
  unfold moved
  rw [Function.update_self]

theorem rMods_moved (h : k0 + 3 ≤ 16) (s : Fin 2) (i : Fin 3) (k : Fin 1024) :
    rMods (moved l k0 V) s i k = V (Proc.devRef .tc main_arg1) (ix4 l s ⟨k0 + i.val, by omega⟩ k) := by
  unfold rMods
  rw [moved_arg1]
  exact congrArg (fun q => V (Proc.devRef .tc main_arg1) (ix4 l s q k)) (Fin.ext (Nat.mod_eq_of_lt (by show k0 + i.val < 16; omega)))

theorem rMods_moved_zero (s : Fin 2) (i : Fin 3) (k : Fin 1024) :
    rMods (moved l 0 V) s i k = V (Proc.devRef .tc main_arg1) (ix4 l s ⟨i.val, by omega⟩ k) :=
  (rMods_moved l 0 V (by decide) s i k).trans
    (congrArg (fun q => V (Proc.devRef .tc main_arg1) (ix4 l s q k)) (Fin.ext (Nat.zero_add i.val)))

theorem rG_moved (k : Fin 1024) : rG (moved l k0 V) k = V (Proc.devRef .tc main_arg2) (ix3 l 0 k) := by
  unfold rG
  rw [moved_arg2]
  rfl

end Macaron.BwdRef

end
-- ==== Proof.Bwd1L1.Ref.lean ====
module

public import proofs.«01_k».proof.Proof.Gen.FfnBwdBRefIdeal.Run
public import proofs.«01_k».proof.Proof.FfnBwd.Moved

/-! The reference of the first half-step's backward pass of layer 1: line by line it is the first half-step's of layer 0,
at the moved arrays. -/

@[expose] public section

set_option maxRecDepth 16384

noncomputable section

namespace Macaron.Bwd1L1Ref

open Idealize.ShloMosaic Idealize.ShloMosaic.TcCoe Idealize.SL.Sem Idealize.ShloMosaic.StableHlo
open Cert.FfnBwdBRefIdeal Cert.FfnBwdBRefIdeal.Gen Cert.FfnBwdBRefIdeal.Value Macaron.BwdRef

variable (V : Valuation τ sig (Elt Ideal))

theorem v5_at (s : Fin 2) (i : Fin 3) (k : Fin 1024) :
    Cert.FfnBwdBRefIdeal.Value.res_main_v5 V (ix3 s ⟨i.val, by omega⟩ k) = V (Proc.devRef .tc main_arg1) (ix4 1 s ⟨0 + i.val, by omega⟩ k) := by
  unfold Cert.FfnBwdBRefIdeal.Value.res_main_v5
  clean_types
  pointwise

theorem v5_at_g (s : Fin 2) (k : Fin 1024) :
    Cert.FfnBwdBRefIdeal.Value.res_main_v5 V (ix3 s 3 k) = V (Proc.devRef .tc main_arg2) (ix3 1 0 k) := by
  unfold Cert.FfnBwdBRefIdeal.Value.res_main_v5
  clean_types
  pointwise

theorem v5 : Cert.FfnBwdBRefIdeal.Value.res_main_v5 V = Cert.FfnBwdRefIdeal.Value.res_main_v5 (moved 1 0 V) := by
  funext j
  obtain ⟨s, i, k, rfl⟩ : ∃ (s : Fin 2) (i : Fin 4) (k : Fin 1024), j = ix3 s i k := ⟨j 0, j 1, j 2, eq_ix3 j⟩
  by_cases h : i.val < 3
  · exact (v5_at V s ⟨i.val, h⟩ k).trans
      ((rMods_moved 1 0 V (by decide) s ⟨i.val, h⟩ k).symm.trans (BwdRef.v5_at (moved 1 0 V) s ⟨i.val, h⟩ k).symm)
  · obtain rfl : i = 3 := Fin.ext (by show i.val = 3; omega)
    exact (v5_at_g V s k).trans ((rG_moved 1 0 V k).symm.trans (BwdRef.v5_at_g (moved 1 0 V) s k).symm)

theorem v12 : Cert.FfnBwdBRefIdeal.Value.res_main_v12 V = Cert.FfnBwdRefIdeal.Value.res_main_v12 (moved 1 0 V) := by
  unfold Cert.FfnBwdBRefIdeal.Value.res_main_v12 Cert.FfnBwdRefIdeal.Value.res_main_v12
  rw [v5 V]

theorem v33 : Cert.FfnBwdBRefIdeal.Value.res_main_v33 V = Cert.FfnBwdRefIdeal.Value.res_main_v33 (moved 1 0 V) := by
  unfold Cert.FfnBwdBRefIdeal.Value.res_main_v33 Cert.FfnBwdRefIdeal.Value.res_main_v33
  rw [moved_arg0 1 0 V]

theorem v34 : Cert.FfnBwdBRefIdeal.Value.res_main_v34 V = Cert.FfnBwdRefIdeal.Value.res_main_v34 (moved 1 0 V) := by
  unfold Cert.FfnBwdBRefIdeal.Value.res_main_v34 Cert.FfnBwdRefIdeal.Value.res_main_v34
  rw [v33 V]

theorem v39 : Cert.FfnBwdBRefIdeal.Value.res_main_v39 V = Cert.FfnBwdRefIdeal.Value.res_main_v39 (moved 1 0 V) := by
  unfold Cert.FfnBwdBRefIdeal.Value.res_main_v39 Cert.FfnBwdRefIdeal.Value.res_main_v39
  rw [moved_arg0 1 0 V, v34 V]

theorem v40 : Cert.FfnBwdBRefIdeal.Value.res_main_v40 V = Cert.FfnBwdRefIdeal.Value.res_main_v40 (moved 1 0 V) := by
  unfold Cert.FfnBwdBRefIdeal.Value.res_main_v40 Cert.FfnBwdRefIdeal.Value.res_main_v40
  rw [v12 V, v39 V]

theorem v42 : Cert.FfnBwdBRefIdeal.Value.res_main_v42 V = Cert.FfnBwdRefIdeal.Value.res_main_v42 (moved 1 0 V) := by
  unfold Cert.FfnBwdBRefIdeal.Value.res_main_v42 Cert.FfnBwdRefIdeal.Value.res_main_v42
  rw [v5 V]

theorem v44 : Cert.FfnBwdBRefIdeal.Value.res_main_v44 V = Cert.FfnBwdRefIdeal.Value.res_main_v44 (moved 1 0 V) := by
  unfold Cert.FfnBwdBRefIdeal.Value.res_main_v44 Cert.FfnBwdRefIdeal.Value.res_main_v44
  rw [v40 V, v42 V, v5 V]

theorem v45 : Cert.FfnBwdBRefIdeal.Value.res_main_v45 V = Cert.FfnBwdRefIdeal.Value.res_main_v45 (moved 1 0 V) := by
  unfold Cert.FfnBwdBRefIdeal.Value.res_main_v45 Cert.FfnBwdRefIdeal.Value.res_main_v45
  rw [moved_arg3 1 0 V, v44 V]
  rfl

theorem v46 : Cert.FfnBwdBRefIdeal.Value.res_main_v46 V = Cert.FfnBwdRefIdeal.Value.res_main_v46 (moved 1 0 V) := by
  unfold Cert.FfnBwdBRefIdeal.Value.res_main_v46 Cert.FfnBwdRefIdeal.Value.res_main_v46
  rw [v45 V]

theorem v47 : Cert.FfnBwdBRefIdeal.Value.res_main_v47 V = Cert.FfnBwdRefIdeal.Value.res_main_v47 (moved 1 0 V) := by
  unfold Cert.FfnBwdBRefIdeal.Value.res_main_v47 Cert.FfnBwdRefIdeal.Value.res_main_v47
  rw [v45 V]

theorem v48_2 : Cert.FfnBwdBRefIdeal.Value.res_main_v48_2 V = Cert.FfnBwdRefIdeal.Value.res_main_v48_2 (moved 1 0 V) := by
  unfold Cert.FfnBwdBRefIdeal.Value.res_main_v48_2 Cert.FfnBwdRefIdeal.Value.res_main_v48_2
  rw [v46 V]

theorem v48_0 : Cert.FfnBwdBRefIdeal.Value.res_main_v48_0 V = Cert.FfnBwdRefIdeal.Value.res_main_v48_0 (moved 1 0 V) := by
  unfold Cert.FfnBwdBRefIdeal.Value.res_main_v48_0 Cert.FfnBwdRefIdeal.Value.res_main_v48_0
  rw [v46 V, v48_2 V]

theorem v49 : Cert.FfnBwdBRefIdeal.Value.res_main_v49 V = Cert.FfnBwdRefIdeal.Value.res_main_v49 (moved 1 0 V) := by
  unfold Cert.FfnBwdBRefIdeal.Value.res_main_v49 Cert.FfnBwdRefIdeal.Value.res_main_v49
  rw [v47 V, v48_0 V]

theorem v50 : Cert.FfnBwdBRefIdeal.Value.res_main_v50 V = Cert.FfnBwdRefIdeal.Value.res_main_v50 (moved 1 0 V) := by
  unfold Cert.FfnBwdBRefIdeal.Value.res_main_v50 Cert.FfnBwdRefIdeal.Value.res_main_v50
  rw [moved_arg4 1 0 V, v49 V]
  rfl

theorem v59 : Cert.FfnBwdBRefIdeal.Value.res_main_v59 V = Cert.FfnBwdRefIdeal.Value.res_main_v59 (moved 1 0 V) := by
  unfold Cert.FfnBwdBRefIdeal.Value.res_main_v59 Cert.FfnBwdRefIdeal.Value.res_main_v59
  rw [v5 V]

theorem v62 : Cert.FfnBwdBRefIdeal.Value.res_main_v62 V = Cert.FfnBwdRefIdeal.Value.res_main_v62 (moved 1 0 V) := by
  unfold Cert.FfnBwdBRefIdeal.Value.res_main_v62 Cert.FfnBwdRefIdeal.Value.res_main_v62
  rw [moved_arg5 1 0 V]
  rfl

theorem v63 : Cert.FfnBwdBRefIdeal.Value.res_main_v63 V = Cert.FfnBwdRefIdeal.Value.res_main_v63 (moved 1 0 V) := by
  unfold Cert.FfnBwdBRefIdeal.Value.res_main_v63 Cert.FfnBwdRefIdeal.Value.res_main_v63
  rw [v59 V, v62 V]

theorem v66 : Cert.FfnBwdBRefIdeal.Value.res_main_v66 V = Cert.FfnBwdRefIdeal.Value.res_main_v66 (moved 1 0 V) := by
  unfold Cert.FfnBwdBRefIdeal.Value.res_main_v66 Cert.FfnBwdRefIdeal.Value.res_main_v66
  rw [v50 V, v62 V]

theorem v76 : Cert.FfnBwdBRefIdeal.Value.res_main_v76 V = Cert.FfnBwdRefIdeal.Value.res_main_v76 (moved 1 0 V) := by
  unfold Cert.FfnBwdBRefIdeal.Value.res_main_v76 Cert.FfnBwdRefIdeal.Value.res_main_v76
  rw [moved_arg4 1 0 V, v63 V]
  rfl

theorem v78 : Cert.FfnBwdBRefIdeal.Value.res_main_v78 V = Cert.FfnBwdRefIdeal.Value.res_main_v78 (moved 1 0 V) := by
  unfold Cert.FfnBwdBRefIdeal.Value.res_main_v78 Cert.FfnBwdRefIdeal.Value.res_main_v78
  rw [v47 V, v76 V]

theorem v80 : Cert.FfnBwdBRefIdeal.Value.res_main_v80 V = Cert.FfnBwdRefIdeal.Value.res_main_v80 (moved 1 0 V) := by
  unfold Cert.FfnBwdBRefIdeal.Value.res_main_v80 Cert.FfnBwdRefIdeal.Value.res_main_v80
  rw [v46 V, v48_0 V, v48_2 V, v76 V, v78 V]

theorem v81 : Cert.FfnBwdBRefIdeal.Value.res_main_v81 V = Cert.FfnBwdRefIdeal.Value.res_main_v81 (moved 1 0 V) := by
  unfold Cert.FfnBwdBRefIdeal.Value.res_main_v81 Cert.FfnBwdRefIdeal.Value.res_main_v81
  rw [moved_arg3 1 0 V, v80 V]
  rfl

theorem v82 : Cert.FfnBwdBRefIdeal.Value.res_main_v82 V = Cert.FfnBwdRefIdeal.Value.res_main_v82 (moved 1 0 V) := by
  unfold Cert.FfnBwdBRefIdeal.Value.res_main_v82 Cert.FfnBwdRefIdeal.Value.res_main_v82
  rw [v40 V, v81 V]

theorem v83 : Cert.FfnBwdBRefIdeal.Value.res_main_v83 V = Cert.FfnBwdRefIdeal.Value.res_main_v83 (moved 1 0 V) := by
  unfold Cert.FfnBwdBRefIdeal.Value.res_main_v83 Cert.FfnBwdRefIdeal.Value.res_main_v83
  rw [v42 V, v81 V]

theorem v84 : Cert.FfnBwdBRefIdeal.Value.res_main_v84 V = Cert.FfnBwdRefIdeal.Value.res_main_v84 (moved 1 0 V) := by
  unfold Cert.FfnBwdBRefIdeal.Value.res_main_v84 Cert.FfnBwdRefIdeal.Value.res_main_v84
  rw [v39 V, v83 V]

theorem v85 : Cert.FfnBwdBRefIdeal.Value.res_main_v85 V = Cert.FfnBwdRefIdeal.Value.res_main_v85 (moved 1 0 V) := by
  unfold Cert.FfnBwdBRefIdeal.Value.res_main_v85 Cert.FfnBwdRefIdeal.Value.res_main_v85
  rw [v12 V, v83 V]

theorem v95 : Cert.FfnBwdBRefIdeal.Value.res_main_v95 V = Cert.FfnBwdRefIdeal.Value.res_main_v95 (moved 1 0 V) := by
  unfold Cert.FfnBwdBRefIdeal.Value.res_main_v95 Cert.FfnBwdRefIdeal.Value.res_main_v95
  rw [moved_arg0 1 0 V, v33 V, v34 V, v85 V]

set_option maxHeartbeats 4000000 in
/-- The reference's run, its results as the first reference's at the moved arrays. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v132) = outTok (moved 1 0 (launchContents m c))
      ∧ r.2.mem ((c.tc : Thread nD τ).loc main_v133)
        = (truncf .bf16 (Cert.FfnBwdRefIdeal.Value.res_main_v80 (moved 1 0 (launchContents m c))) Cert.FfnBwdRefIdeal.Gen.bitsLt_bf16_f32 : FVec Ideal S4352x5632 .bf16)
      ∧ r.2.mem ((c.tc : Thread nD τ).loc main_v134)
        = (truncf .bf16 (Cert.FfnBwdRefIdeal.Value.res_main_v63 (moved 1 0 (launchContents m c))) Cert.FfnBwdRefIdeal.Gen.bitsLt_bf16_f32 : FVec Ideal S4352x1024 .bf16)
      ∧ r.2.mem ((c.tc : Thread nD τ).loc main_v135)
        = (truncf .bf16 (Cert.FfnBwdRefIdeal.Value.res_main_v44 (moved 1 0 (launchContents m c))) Cert.FfnBwdRefIdeal.Gen.bitsLt_bf16_f32 : FVec Ideal S4352x1024 .bf16)
      ∧ r.2.mem ((c.tc : Thread nD τ).loc main_v136)
        = (truncf .bf16 (Cert.FfnBwdRefIdeal.Value.res_main_v49 (moved 1 0 (launchContents m c))) Cert.FfnBwdRefIdeal.Gen.bitsLt_bf16_f32 : FVec Ideal S4352x2816 .bf16)
      ∧ r.2.mem ((c.tc : Thread nD τ).loc main_v131) = outRows (moved 1 0 (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run Cert.FfnBwdBRefIdeal.defs _ _).mono (fun r h c => ?_) (Cert.FfnBwdBRefIdeal.Value.run m ρ)
  obtain ⟨h0, h1, h2, h3, h4, h5, h6⟩ := h c
  refine ⟨h0.trans ?_, h1.trans ?_, h2.trans ?_, h3.trans ?_, h4.trans ?_, h5.trans ?_, h6⟩
  · unfold outTok
    rw [moved_arg0, moved_arg5, v34, v85, v95]
    rfl
  · rw [v80]
    rfl
  · rw [v63]
    rfl
  · rw [v44]
    rfl
  · rw [v49]
    rfl
  · unfold outRows
    rw [v66, v81, v82, v84]
    rfl

end Macaron.Bwd1L1Ref

end
-- ==== Proof.Bwd1L1.Claims.lean ====
module

public import proofs.«01_k».proof.Defs
public import proofs.«01_k».proof.Proof.Gen.FfnBwdB
public import proofs.«01_k».proof.Proof.Gen.Pre_finite
public import proofs.«01_k».proof.Proof.Bwd1L1.Arrays
public import proofs.«01_k».proof.Proof.Bwd1L1.Ref
public import proofs.«01_k».proof.Proof.FfnBwd.Given

/-! The first half-step's backward pass of layer 1: its claims. -/

@[expose] public section

set_option maxRecDepth 16384

noncomputable section

namespace Macaron.Bwd1L1

open Idealize.ShloMosaic Idealize.ShloMosaic.TcCoe Idealize.SL.Sem Idealize.ShloMosaic.StableHlo

/-! The program over machine floats is the program over extended reals, read at another number type. -/

section Bits

set_option maxHeartbeats 8000000

variable {F : FTy → Type} [FloatOps F]

theorem defs₀_eq : Cert.FfnBwdB.defs₀ (F := F) = Cert.FfnBwdBIdeal.defs₀ (F := F) := by
  unfold Cert.FfnBwdB.defs₀ Cert.FfnBwdBIdeal.defs₀
  refine congrArg Defs.onTc (funext fun l => ?_)
  match l with
  | 0 => exact funext fun ⟨t, s⟩ => rfl
  | ⟨n + 1, h⟩ => exact absurd h (Nat.not_lt.2 (Nat.le_add_left _ _))

theorem defs_eq : Cert.FfnBwdB.defs (F := F) = Cert.FfnBwdBIdeal.defs (F := F) := by
  unfold Cert.FfnBwdB.defs Cert.FfnBwdBIdeal.defs
  rw [defs₀_eq]; rfl

theorem main_eq : Cert.FfnBwdB.main (F := F) = Cert.FfnBwdBIdeal.main (F := F) := rfl

theorem frame : Cert.quiescent_FfnBwdB := fun m ρ _ => by
  have h := Cert.FfnBwdBIdeal.Value.frame m ρ
  rw [← main_eq, ← defs_eq] at h
  exact h

end Bits

theorem frame_ideal : Cert.quiescent_FfnBwdBIdeal := fun m ρ _ => Cert.FfnBwdBIdeal.Value.frame m ρ

theorem frame_ideal_finite : Cert.quiescent_FfnBwdBIdeal_pre_finite := fun m ρ _ => Cert.FfnBwdBIdeal.Value.frame m ρ

theorem frame_ref : Cert.quiescent_FfnBwdBRefIdeal := fun m ρ _ =>
  (θ_run Cert.FfnBwdBRefIdeal.defs _ _).mono
    (fun r h => ⟨fun c => (h c).2.2.2.2.2.2, sem_eq_zero_of_no_sems (by decide) r.2⟩) (Cert.FfnBwdBRefIdeal.Value.run m ρ)

theorem frame_ref_finite : Cert.quiescent_FfnBwdBRefIdeal_pre_finite := fun m ρ _ => frame_ref m ρ trivial

/-- Under the precondition everything that the backward pass reads is real. -/
theorem real (m : (ℓ : Loc Cert.FfnBwdBIdeal.nD Cert.FfnBwdBIdeal.τ Cert.FfnBwdBIdeal.sig) → Buf (Elt Ideal) ℓ)
    (h : Cert.Pre_FfnBwdBIdeal_finite m) (c : Dev Cert.FfnBwdBIdeal.nD) : (back m c).Real := by
  obtain ⟨h0, h1, h2, h3, h4, h5⟩ := real_of_finite (h c)
  exact ⟨fun r k => h0 _, tokWide_real (fun r k => h0 _) (fun s i k => h1 _) (fun k => h2 _) (fun k j => h3 _),
    fun r k => h5 _, fun s i k => h1 _, fun k => h2 _, fun k j => h3 _, fun j k => h4 _⟩

section Kernel

open Cert.FfnBwdBIdeal Cert.FfnBwdBIdeal.Value

set_option maxHeartbeats 4000000 in
/-- The kernel's run: its six results, the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v53_0) = (dats m 0 c).arrAt 8 cfg0.N
      ∧ r.2.mem ((c.tc : Thread nD τ).loc main_v53_1) = (dats m 0 c).arrAt 9 cfg0.N
      ∧ r.2.mem ((c.tc : Thread nD τ).loc main_v53_2) = (dats m 0 c).arrAt 10 cfg0.N
      ∧ r.2.mem ((c.tc : Thread nD τ).loc main_v53_3) = (dats m 0 c).arrAt 11 cfg0.N
      ∧ r.2.mem ((c.tc : Thread nD τ).loc main_v53_4) = (dats m 0 c).arrAt 12 cfg0.N
      ∧ r.2.mem ((c.tc : Thread nD τ).loc main_v53_5) = (dats m 0 c).arrAt 13 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono
    (fun r h c => ⟨(h.1 c).1 8, (h.1 c).1 9, (h.1 c).1 10, (h.1 c).1 11, (h.1 c).1 12, (h.1 c).1 13, h.2.1 c⟩)
    (θ_run_and (run_main m ρ) (Cert.FfnBwdBIdeal.Value.frame m ρ))

end Kernel

set_option maxHeartbeats 4000000 in
/-- The kernel's six results are the reference's. -/
theorem algebraic : Cert.algebraic_FfnBwdBIdeal_FfnBwdBRefIdeal_pre_finite := by
  intro m g m' g' hp hm
  refine ⟨fun c => (Cert.FfnBwdBIdeal.Value.dats m 0 c).arrAt 8 Cert.FfnBwdBIdeal.cfg0.N,
    fun c => (Cert.FfnBwdBIdeal.Value.dats m 0 c).arrAt 9 Cert.FfnBwdBIdeal.cfg0.N,
    fun c => (Cert.FfnBwdBIdeal.Value.dats m 0 c).arrAt 10 Cert.FfnBwdBIdeal.cfg0.N,
    fun c => (Cert.FfnBwdBIdeal.Value.dats m 0 c).arrAt 11 Cert.FfnBwdBIdeal.cfg0.N,
    fun c => (Cert.FfnBwdBIdeal.Value.dats m 0 c).arrAt 12 Cert.FfnBwdBIdeal.cfg0.N,
    fun c => (Cert.FfnBwdBIdeal.Value.dats m 0 c).arrAt 13 Cert.FfnBwdBIdeal.cfg0.N, kernel_run m g, ?_⟩
  refine (θ_run Cert.FfnBwdBRefIdeal.defs _ _).mono (fun r h c => ?_) (Bwd1L1Ref.run m' g')
  obtain ⟨h0, h1, h2, h3, h4, h5, h6⟩ := h c
  obtain ⟨e0, e1, e2, e3, e4, e5⟩ := hm c
  have eB : BwdRef.back (BwdRef.moved 1 0 (launchContents m' c)) = back m c := by
    have eH : BwdRef.rH (BwdRef.moved 1 0 (launchContents m' c)) = aH m c := funext fun _ => funext fun _ =>
      (congrFun (BwdRef.moved_arg0 1 0 (launchContents m' c)) _).trans (congrFun e0 _)
    have eM : BwdRef.rMods (BwdRef.moved 1 0 (launchContents m' c)) = aMods m c := funext fun _ => funext fun _ => funext fun _ =>
      (BwdRef.rMods_moved_zero 1 (launchContents m' c) _ _ _).trans (congrFun e1 _)
    have eG : BwdRef.rG (BwdRef.moved 1 0 (launchContents m' c)) = aG m c := funext fun _ =>
      (BwdRef.rG_moved 1 0 (launchContents m' c) _).trans (congrFun e2 _)
    have eI : BwdRef.rWi (BwdRef.moved 1 0 (launchContents m' c)) = aWi m c := funext fun _ => funext fun _ =>
      (congrFun (BwdRef.moved_arg3 1 0 (launchContents m' c)) _).trans (congrFun e3 _)
    have eO : BwdRef.rWo (BwdRef.moved 1 0 (launchContents m' c)) = aWo m c := funext fun _ => funext fun _ =>
      (congrFun (BwdRef.moved_arg4 1 0 (launchContents m' c)) _).trans (congrFun e4 _)
    have eD : BwdRef.rD (BwdRef.moved 1 0 (launchContents m' c)) = aD m c := funext fun _ => funext fun _ =>
      (congrFun (BwdRef.moved_arg5 1 0 (launchContents m' c)) _).trans (congrFun e5 _)
    unfold BwdRef.back back
    rw [eH, eM, eG, eI, eO, eD]
  obtain ⟨f0, f1, f2, f3, f4, f5⟩ := BwdRef.results (BwdRef.moved 1 0 (launchContents m' c)) (eB ▸ real m hp c)
  rw [eB] at f0 f1 f2 f3 f4 f5
  exact ⟨(h0.trans f0).trans (final8 m c).symm, (h1.trans f1).trans (final9 m c).symm, (h2.trans f2).trans (final10 m c).symm,
    (h3.trans f3).trans (final11 m c).symm, (h4.trans f4).trans (final12 m c).symm, (h5.trans f5).trans (final13 m c).symm, h6⟩

end Macaron.Bwd1L1

end
-- ==== Proof.Bwd2L0.Sound.lean ====
module

public import proofs.«01_k».proof.Proof.FfnBwd.Body
public import proofs.«01_k».proof.Proof.Gen.FfnBwdCIdeal.Frame
public import proofs.«01_k».proof.Proof.Gen.FfnBwdCIdeal.Skeleton

@[expose] public section

set_option maxRecDepth 16384

noncomputable section

namespace Cert.FfnBwdCIdeal.Value

open Cert.FfnBwdCIdeal Cert.FfnBwdCIdeal.Gen
open Cert.FfnBwdIdeal.Value (fresh fresh_iff out8 out9 out10 out11 out12 out13 cover_tok cover_hidden cover_act read_writes_over whole_mem)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point that adds to the parameter gradients already there. -/
theorem soundB (c : Dev nD) (E : Set ℕ) (i : grid0.Coords) (hc0 : ¬ fresh i) (arg1 : Memref sig .tc .vmem S256x1024 .f32) (harg1 : arg1.IsWhole) (arg2 : Memref sig .tc .vmem S256x5632 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1x1x16x1024 .f32) (harg5 : arg5.IsWhole) (arg6 : Memref sig .tc .vmem S1x1x1024 .f32) (harg6 : arg6.IsWhole) (arg7 : Memref sig .tc .vmem S4x1024x1408 .bf16) (harg7 : arg7.IsWhole) (arg8 : Memref sig .tc .vmem S2816x1024 .bf16) (harg8 : arg8.IsWhole) (arg9 : Memref sig .tc .vmem S256x1024 .f32) (harg9 : arg9.IsWhole) (arg10 : Memref sig .tc .vmem S256x5632 .bf16) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x2816 .bf16) (harg13 : arg13.IsWhole) (arg14 : Memref sig .tc .vmem S1x8x1024 .f32) (harg14 : arg14.IsWhole)
    (x0 : Vec F S256x1024 .f32) (x1 : Vec F S256x5632 .bf16) (x2 : Vec F S256x1024 .f32) (x3 : Vec F S256x1024 .f32) (x4 : Vec F S1x1x16x1024 .f32) (x5 : Vec F S1x1x1024 .f32) (x6 : Vec F S4x1024x1408 .bf16) (x7 : Vec F S2816x1024 .bf16) (y : Vec F S1x8x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare y
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out8 x0 x1 x3 (View.ld x4 (Rect.unit (s := S1x1x16x1024) ![0, 0, 7, 0] S1x1x1x1024.size inb_S1x1x16x1024_S1x1x1x1024_0_0_7_0)) (View.ld x4 (Rect.unit (s := S1x1x16x1024) ![0, 0, 8, 0] S1x1x1x1024.size inb_S1x1x16x1024_S1x1x1x1024_0_0_8_0)) x5 x6 x7) ∗ owns (c : Thread nD τ) arg10 fullShare (out9 x1 x3 (View.ld x4 (Rect.unit (s := S1x1x16x1024) ![0, 0, 8, 0] S1x1x1x1024.size inb_S1x1x16x1024_S1x1x1x1024_0_0_8_0)) x7) ∗ owns (c : Thread nD τ) arg11 fullShare (out10 x3 (View.ld x4 (Rect.unit (s := S1x1x16x1024) ![0, 0, 8, 0] S1x1x1x1024.size inb_S1x1x16x1024_S1x1x1x1024_0_0_8_0))) ∗ owns (c : Thread nD τ) arg12 fullShare (out11 x0 (View.ld x4 (Rect.unit (s := S1x1x16x1024) ![0, 0, 6, 0] S1x1x1x1024.size inb_S1x1x16x1024_S1x1x1x1024_0_0_6_0)) (View.ld x4 (Rect.unit (s := S1x1x16x1024) ![0, 0, 7, 0] S1x1x1x1024.size inb_S1x1x16x1024_S1x1x1x1024_0_0_7_0)) x5) ∗ owns (c : Thread nD τ) arg13 fullShare (out12 x1) ∗ owns (c : Thread nD τ) arg14 fullShare (out13 x0 x1 x2 x3 (View.ld x4 (Rect.unit (s := S1x1x16x1024) ![0, 0, 7, 0] S1x1x1x1024.size inb_S1x1x16x1024_S1x1x1x1024_0_0_7_0)) (View.ld x4 (Rect.unit (s := S1x1x16x1024) ![0, 0, 8, 0] S1x1x1x1024.size inb_S1x1x16x1024_S1x1x1x1024_0_0_8_0)) x5 x6 x7 y)) -∗ K ⟨⟩))
      ⊢ wp frame (wpE (defs₀ (F := F)) Variants.none c none) E (cc0_ffn2_bwd_0 i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_ffn2_bwd_0_eq_skeleton]; unfold cc0_ffn2_bwd_0_skel
  simp only [k0_part5_eq_skeleton, k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%f13, %hf13, H13⟩, Hk⟩
  subst hf0 hf1 hf2 hf3 hf4 hf5 hf6 hf7 hf13
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr; swap; · iexact H8
    ipureintro
    refine (View.read_writes_eq_canon _ _ _ (cover_tok _)).trans ?_; rfl
  isplitl [H9]
  · iexists _; isplitr; swap; · iexact H9
    ipureintro
    refine (View.read_writes_eq_canon _ _ _ (cover_hidden _ _ _ _)).trans ?_; rfl
  isplitl [H10]
  · iexists _; isplitr; swap; · iexact H10
    ipureintro
    refine (View.read_writes_eq_canon _ _ _ (cover_tok _)).trans ?_; rfl
  isplitl [H11]
  · iexists _; isplitr; swap; · iexact H11
    ipureintro
    refine (View.read_writes_eq_canon _ _ _ (cover_tok _)).trans ?_; rfl
  isplitl [H12]
  · iexists _; isplitr; swap; · iexact H12
    ipureintro
    refine (View.read_writes_eq_canon _ _ _ (cover_act _ _)).trans ?_; rfl
  iexists _; isplitr; swap; · iexact H13
  ipureintro
  refine (read_writes_over _ _ _).trans ?_; rfl

set_option maxHeartbeats 4000000 in
/-- The body at a point that starts them anew. -/
theorem soundA (c : Dev nD) (E : Set ℕ) (i : grid0.Coords) (hc0 : fresh i) (arg1 : Memref sig .tc .vmem S256x1024 .f32) (harg1 : arg1.IsWhole) (arg2 : Memref sig .tc .vmem S256x5632 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1x1x16x1024 .f32) (harg5 : arg5.IsWhole) (arg6 : Memref sig .tc .vmem S1x1x1024 .f32) (harg6 : arg6.IsWhole) (arg7 : Memref sig .tc .vmem S4x1024x1408 .bf16) (harg7 : arg7.IsWhole) (arg8 : Memref sig .tc .vmem S2816x1024 .bf16) (harg8 : arg8.IsWhole) (arg9 : Memref sig .tc .vmem S256x1024 .f32) (harg9 : arg9.IsWhole) (arg10 : Memref sig .tc .vmem S256x5632 .bf16) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x2816 .bf16) (harg13 : arg13.IsWhole) (arg14 : Memref sig .tc .vmem S1x8x1024 .f32) (harg14 : arg14.IsWhole)
    (x0 : Vec F S256x1024 .f32) (x1 : Vec F S256x5632 .bf16) (x2 : Vec F S256x1024 .f32) (x3 : Vec F S256x1024 .f32) (x4 : Vec F S1x1x16x1024 .f32) (x5 : Vec F S1x1x1024 .f32) (x6 : Vec F S4x1024x1408 .bf16) (x7 : Vec F S2816x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out8 x0 x1 x3 (View.ld x4 (Rect.unit (s := S1x1x16x1024) ![0, 0, 7, 0] S1x1x1x1024.size inb_S1x1x16x1024_S1x1x1x1024_0_0_7_0)) (View.ld x4 (Rect.unit (s := S1x1x16x1024) ![0, 0, 8, 0] S1x1x1x1024.size inb_S1x1x16x1024_S1x1x1x1024_0_0_8_0)) x5 x6 x7) ∗ owns (c : Thread nD τ) arg10 fullShare (out9 x1 x3 (View.ld x4 (Rect.unit (s := S1x1x16x1024) ![0, 0, 8, 0] S1x1x1x1024.size inb_S1x1x16x1024_S1x1x1x1024_0_0_8_0)) x7) ∗ owns (c : Thread nD τ) arg11 fullShare (out10 x3 (View.ld x4 (Rect.unit (s := S1x1x16x1024) ![0, 0, 8, 0] S1x1x1x1024.size inb_S1x1x16x1024_S1x1x1x1024_0_0_8_0))) ∗ owns (c : Thread nD τ) arg12 fullShare (out11 x0 (View.ld x4 (Rect.unit (s := S1x1x16x1024) ![0, 0, 6, 0] S1x1x1x1024.size inb_S1x1x16x1024_S1x1x1x1024_0_0_6_0)) (View.ld x4 (Rect.unit (s := S1x1x16x1024) ![0, 0, 7, 0] S1x1x1x1024.size inb_S1x1x16x1024_S1x1x1x1024_0_0_7_0)) x5) ∗ owns (c : Thread nD τ) arg13 fullShare (out12 x1) ∗ owns (c : Thread nD τ) arg14 fullShare (out13 x0 x1 x2 x3 (View.ld x4 (Rect.unit (s := S1x1x16x1024) ![0, 0, 7, 0] S1x1x1x1024.size inb_S1x1x16x1024_S1x1x1x1024_0_0_7_0)) (View.ld x4 (Rect.unit (s := S1x1x16x1024) ![0, 0, 8, 0] S1x1x1x1024.size inb_S1x1x16x1024_S1x1x1x1024_0_0_8_0)) x5 x6 x7 k0_pay2)) -∗ K ⟨⟩))
      ⊢ wp frame (wpE (defs₀ (F := F)) Variants.none c none) E (cc0_ffn2_bwd_0 i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_ffn2_bwd_0_eq_skeleton]; unfold cc0_ffn2_bwd_0_skel
  simp only [k0_part5_eq_skeleton, k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  subst hf0 hf1 hf2 hf3 hf4 hf5 hf6 hf7
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr; swap; · iexact H8
    ipureintro
    refine (View.read_writes_eq_canon _ _ _ (cover_tok _)).trans ?_; rfl
  isplitl [H9]
  · iexists _; isplitr; swap; · iexact H9
    ipureintro
    refine (View.read_writes_eq_canon _ _ _ (cover_hidden _ _ _ _)).trans ?_; rfl
  isplitl [H10]
  · iexists _; isplitr; swap; · iexact H10
    ipureintro
    refine (View.read_writes_eq_canon _ _ _ (cover_tok _)).trans ?_; rfl
  isplitl [H11]
  · iexists _; isplitr; swap; · iexact H11
    ipureintro
    refine (View.read_writes_eq_canon _ _ _ (cover_tok _)).trans ?_; rfl
  isplitl [H12]
  · iexists _; isplitr; swap; · iexact H12
    ipureintro
    refine (View.read_writes_eq_canon _ _ _ (cover_act _ _)).trans ?_; rfl
  iexists _; isplitr; swap; · iexact H13
  ipureintro
  unfold soundA.sl.H13_4 soundA.sl.H13_3 soundA.sl.r_26 soundA.sl.v163 soundA.sl.H13_4 soundA.sl.v157 soundA.sl.H13_3 soundA.sl.v151 soundA.sl.H13_2 soundA.sl.v145 soundA.sl.H13_1
  simp (disch := decide) only [↓ View.readCov_skip, ↓ View.readCov_fill]
  refine (View.read_writes_eq_canon _ _ _ fun y => ⟨_, List.mem_of_getLast? rfl, whole_mem y⟩).trans ?_
  rfl

end Cert.FfnBwdCIdeal.Value

end
-- ==== Proof.Bwd2L0.Frame.lean ====
module

public import proofs.«01_k».proof.Proof.Bwd2L0.Sound
public import Idealize.ShloMosaic.Lib.Claim

@[expose] public section

set_option maxRecDepth 16384

noncomputable section

namespace Cert.FfnBwdCIdeal.Value

open Cert.FfnBwdCIdeal Cert.FfnBwdCIdeal.Gen
open Cert.FfnBwdIdeal.Value (fresh fresh_iff out8 out9 out10 out11 out12 out13 cover_tok cover_hidden cover_act read_writes_over whole_mem)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output buffers hold, point by point -/

/-- The rows of shift, scale and gate the body loads at a point. -/
def shiftRow (c : Dev nD) (t : Fin cfg0.N) : Vec F S1x1x1x1024 .f32 := View.ld (iblk m c 4 t) (Rect.unit (s := S1x1x16x1024) ![0, 0, 6, 0] S1x1x1x1024.size inb_S1x1x16x1024_S1x1x1x1024_0_0_6_0)
def scaleRow (c : Dev nD) (t : Fin cfg0.N) : Vec F S1x1x1x1024 .f32 := View.ld (iblk m c 4 t) (Rect.unit (s := S1x1x16x1024) ![0, 0, 7, 0] S1x1x1x1024.size inb_S1x1x16x1024_S1x1x1x1024_0_0_7_0)
def gateRow (c : Dev nD) (t : Fin cfg0.N) : Vec F S1x1x1x1024 .f32 := View.ld (iblk m c 4 t) (Rect.unit (s := S1x1x16x1024) ![0, 0, 8, 0] S1x1x1x1024.size inb_S1x1x16x1024_S1x1x1x1024_0_0_8_0)

/-- The parameter gradients after a point, the buffer having held `y`. -/
def step (c : Dev nD) (t : Fin cfg0.N) (y : Vec F S1x8x1024 .f32) : Vec F S1x8x1024 .f32 :=
  out13 (iblk m c 0 t) (iblk m c 1 t) (iblk m c 2 t) (iblk m c 3 t) (scaleRow m c t) (gateRow m c t) (iblk m c 5 t) (iblk m c 6 t) (iblk m c 7 t) y

/-- The parameter gradients after point `n`: started anew at the first latent and at the first context point. -/
def acc (c : Dev nD) : (n : ℕ) → n < cfg0.N → Vec F S1x8x1024 .f32
  | 0, h => step m c ⟨0, h⟩ k0_pay2
  | n + 1, h => step m c ⟨n + 1, h⟩ (if (n + 1) % 16 = 0 then k0_pay2 else acc c n (Nat.lt_of_succ_lt h))

theorem not_fresh {t : Fin cfg0.N} (h : ¬ t.val % 16 = 0) : ¬ fresh (grid0.coords t) := fun h' => h ((fresh_iff t).mp h')

theorem acc_fresh (c : Dev nD) (t : Fin cfg0.N) (h : t.val % 16 = 0) : acc m c t.val t.isLt = step m c t k0_pay2 := by
  obtain ⟨n, hn⟩ := t
  cases n with
  | zero => rfl
  | succ n => exact congrArg (step m c ⟨n + 1, hn⟩) (if_pos h)

theorem acc_kept (c : Dev nD) (t : Fin cfg0.N) (h : ¬ t.val % 16 = 0) :
    acc m c t.val t.isLt = step m c t (acc m c (t.val - 1) (Nat.lt_of_le_of_lt (Nat.sub_le _ _) t.isLt)) := by
  obtain ⟨n, hn⟩ := t
  cases n with
  | zero => exact absurd rfl h
  | succ n => exact congrArg (step m c ⟨n + 1, hn⟩) (if_neg h)

/-! ## The pipeline's proof data -/

/-- The arrays as the region finds them; after the body each input's buffer at its block and the outputs at what the
    body computes of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 (iblk m c 0 t) (iblk m c 1 t) (iblk m c 3 t) (scaleRow m c t) (gateRow m c t) (iblk m c 5 t) (iblk m c 6 t) (iblk m c 7 t)
    | ⟨9, _⟩ => out9 (iblk m c 1 t) (iblk m c 3 t) (gateRow m c t) (iblk m c 7 t)
    | ⟨10, _⟩ => out10 (iblk m c 3 t) (gateRow m c t)
    | ⟨11, _⟩ => out11 (iblk m c 0 t) (shiftRow m c t) (scaleRow m c t) (iblk m c 5 t)
    | ⟨12, _⟩ => out12 (iblk m c 1 t)
    | ⟨13, _⟩ => acc m c t.val t.isLt
    | ⟨n + 14, h⟩ => absurd (show n + 14 < 14 from h) (by omega)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = out8 (iblk m c 0 t) (iblk m c 1 t) (iblk m c 3 t) (scaleRow m c t) (gateRow m c t) (iblk m c 5 t) (iblk m c 6 t) (iblk m c 7 t) := by dsimp only [dats]
theorem after_9 (c : Dev nD) (t : Fin cfg0.N) : (dats m 0 c).after 9 t = out9 (iblk m c 1 t) (iblk m c 3 t) (gateRow m c t) (iblk m c 7 t) := by dsimp only [dats]
theorem after_10 (c : Dev nD) (t : Fin cfg0.N) : (dats m 0 c).after 10 t = out10 (iblk m c 3 t) (gateRow m c t) := by dsimp only [dats]
theorem after_11 (c : Dev nD) (t : Fin cfg0.N) : (dats m 0 c).after 11 t = out11 (iblk m c 0 t) (shiftRow m c t) (scaleRow m c t) (iblk m c 5 t) := by dsimp only [dats]
theorem after_12 (c : Dev nD) (t : Fin cfg0.N) : (dats m 0 c).after 12 t = out12 (iblk m c 1 t) := by dsimp only [dats]
theorem after_13 (c : Dev nD) (t : Fin cfg0.N) : (dats m 0 c).after 13 t = acc m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- The window of the parameter gradients is written back after the last latent point, and at the last. -/
theorem flush_13 : ∀ t : Fin cfg0.N, (cfg0.win 13).flush t = true ↔ 15 ≤ t.val := by decide +kernel

/-- The buffer of the parameter gradients holds what the point before left. -/
theorem before_13 (c : Dev nD) (t : Fin cfg0.N) (ht : ¬ t.val % 16 = 0) (d) :
    (dats m 0 c).before 13 t d = acc m c (t.val - 1) (Nat.lt_of_le_of_lt (Nat.sub_le _ _) t.isLt) :=
  ((dats m 0 c).before_out_kept 13 rfl t (fun h => ht (by omega))
    (Bool.eq_false_iff.mpr fun h => by
      have h1 := (flush_13 _).mp h
      have h2 : t.val < 17 := lt_of_lt_of_eq t.isLt (show cfg0.N = 17 from N_0)
      dsimp only at h1; omega)
    (fun _ => rfl) (fun _ _ => rfl) d).trans (after_13 m c _)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 4000000 in
/-- The body at any point: the inputs hold their blocks, the gradients' buffer what the point before left unless they
    start anew; the invariant passes through unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13]
  by_cases h : t.val % 16 = 0
  · rw [acc_fresh m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (soundA c Set.univ (grid0.coords t) ((fresh_iff t).mpr h) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)  _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iintro ⟨H0, H1, H2, H3, H4, H5, H6, H7, H8, H9, H10, H11, H12, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · simp only [before_13 m c t h]
    rw [acc_kept m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (soundB c Set.univ (grid0.coords t) (not_fresh h) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (acc m c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexact H13
    iintro ⟨H0, H1, H2, H3, H4, H5, H6, H7, H8, H9, H10, H11, H12, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every final state has each array at what the proof data say, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they began and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.FfnBwdCIdeal.Value

end
-- ==== Proof.Bwd2L0.Arrays.lean ====
module

public import proofs.«01_k».proof.Proof.Bwd2L0.Frame
public import proofs.«01_k».proof.Proof.FfnBwd.Rows
public import proofs.«01_k».proof.Proof.Ffn.Token
public import Idealize.ShloMosaic.Lib.StableHlo.ReadAt
public import Idealize.ShloMosaic.Lib.Tactic.CleanTypes

/-! The second half-step's backward pass of layer 0: what its grid points read, and the arrays it leaves. -/

@[expose] public section

set_option maxRecDepth 16384

noncomputable section

namespace Macaron.Bwd2L0

open Idealize.ShloMosaic Idealize.ShloMosaic.TcCoe Idealize.SL.Sem Macaron.Bwd
open Cert.FfnBwdCIdeal Cert.FfnBwdCIdeal.Gen Cert.FfnBwdCIdeal.Value

variable (m : (ℓ : Loc nD τ sig) → Buf (Elt Ideal) ℓ) (c : Dev nD)

/-! The arguments, as the functions that `Spec` takes. -/

def aH (r : Fin 4352) (k : Fin 1024) : EReal := m ((c.tc : Thread nD τ).loc main_arg0) (ix2 r k)
def aMods (s : Fin 2) (i : Fin 3) (k : Fin 1024) : EReal :=
  m ((c.tc : Thread nD τ).loc main_arg1) (ix4 0 s ⟨6 + i.val, by omega⟩ k)
def aG (k : Fin 1024) : EReal := m ((c.tc : Thread nD τ).loc main_arg2) (ix3 0 0 k)
def aWi (k : Fin 1024) (j : Fin 5632) : EReal := m ((c.tc : Thread nD τ).loc main_arg3) (ix2 k j)
def aWo (j : Fin 2816) (k : Fin 1024) : EReal := m ((c.tc : Thread nD τ).loc main_arg4) (ix2 j k)
def aD (r : Fin 4352) (k : Fin 1024) : EReal := m ((c.tc : Thread nD τ).loc main_arg5) (ix2 r k)

/-- What the backward pass of the call reads: its arguments, and the two values of the forward pass that the host prepares. -/
def back : Back where
  h := aH m c
  ab := tokWide (aH m c) (aMods m c) (aG m c) (aWi m c)
  f := tokBranch (aH m c) (aMods m c) (aG m c) (aWi m c) (aWo m c)
  dh := aD m c
  mods := aMods m c
  g := aG m c
  wi := aWi m c
  wo := aWo m c

/-- The block indices of the windows at a grid point. -/
theorem idx : ∀ t : Fin cfg0.N,
    win0_0.index t = ![t.val, 0] ∧ win0_1.index t = ![t.val, 0] ∧ win0_2.index t = ![t.val, 0] ∧ win0_3.index t = ![t.val, 0]
      ∧ win0_4.index t = ![0, if t.val < 16 then 0 else 1, 0, 0] ∧ win0_5.index t = ![0, 0, 0]
      ∧ win0_6.index t = ![0, 0, 0] ∧ win0_7.index t = ![0, 0] ∧ win0_8.index t = ![t.val, 0]
      ∧ win0_9.index t = ![t.val, 0] ∧ win0_10.index t = ![t.val, 0] ∧ win0_11.index t = ![t.val, 0]
      ∧ win0_12.index t = ![t.val, 0] ∧ win0_13.index t = ![t.val / 16, 0, 0] :=
  (by decide +kernel : ∀ t : Fin grid0.N, _)

/-- Modulation parameter `i` of token `r`, chosen by the token's place as the host's concatenation does. -/
def pick (i : Fin 16) (r : Fin 4352) (k : Fin 1024) : EReal :=
  if _h : r.val < 4096 then m ((c.tc : Thread nD τ).loc main_arg1) (ix4 0 0 i k)
  else m ((c.tc : Thread nD τ).loc main_arg1) (ix4 0 1 i k)

theorem pick_eq (i : Fin 3) (r : Fin 4352) : pick m c ⟨6 + i.val, by omega⟩ r = aMods m c (stream r) i := by
  funext k
  unfold pick stream aMods
  split <;> rfl

/-- The norm's weight, chosen in the same way from two equal rows. -/
def pickG (r : Fin 4352) (k : Fin 1024) : EReal :=
  if _h : r.val < 4096 then m ((c.tc : Thread nD τ).loc main_arg2) (ix3 0 0 k)
  else m ((c.tc : Thread nD τ).loc main_arg2) (ix3 0 0 k)

theorem pickG_eq (r : Fin 4352) : pickG m c r = aG m c := by
  funext k
  unfold pickG aG
  split <;> rfl

theorem wide_eq (r : Fin 4352) :
    widen (modNorm (aH m c r) (pickG m c r) (pick m c 6 r) (pick m c 7 r)) (aWi m c)
      = tokWide (aH m c) (aMods m c) (aG m c) (aWi m c) r := by
  unfold tokWide tokNorm
  rw [← pick_eq m c 0 r, ← pick_eq m c 1 r, pickG_eq]
  rfl

theorem V_ab (r : Fin 4352) (j : Fin 5632) :
    V m c main_v51 (ix2 r j) = tokWide (aH m c) (aMods m c) (aG m c) (aWi m c) r j := by
  rw [← wide_eq]
  unfold V
  after_reads_at
  after_reads_at
  after_reads_at
  rfl

theorem V_f (r : Fin 4352) (k : Fin 1024) :
    V m c main_v47 (ix2 r k) = tokBranch (aH m c) (aMods m c) (aG m c) (aWi m c) (aWo m c) r k := by
  unfold tokBranch
  rw [← wide_eq]
  unfold V
  after_reads_at
  after_reads_at
  after_reads_at
  rfl

theorem V_wi (s : Fin 4) (k : Fin 1024) (j : Fin 1408) :
    V m c main_v50 (ix3 s k j) = m ((c.tc : Thread nD τ).loc main_arg3) (ix2 k ⟨1408 * s.val + j.val, by omega⟩) := by
  have h : V m c main_v50 (ix3 s k j)
      = m ((c.tc : Thread nD τ).loc main_arg3) (ix2 k ⟨s.val * 1408 + j.val, by omega⟩) := by
    unfold V
    after_reads_at
  rw [h]
  exact congrArg (fun q => m ((c.tc : Thread nD τ).loc main_arg3) (ix2 k q)) (Fin.ext (by simp only; omega))

theorem V_wo (j : Fin 2816) (k : Fin 1024) :
    V m c main_v52 (ix2 j k) = m ((c.tc : Thread nD τ).loc main_arg4) (ix2 j k) := by
  unfold V
  after_reads_at

theorem h_at (t : Fin cfg0.N) (r : Fin 256) (k : Fin 1024) :
    iblk m c 0 t (ix2 r k) = m ((c.tc : Thread nD τ).loc main_arg0) (ix2 (Macaron.Bwd.tok t r) k) := by
  blk_ext! [iblk, V, idx t, Macaron.Bwd.tok]

theorem ab_at (t : Fin cfg0.N) (r : Fin 256) (j : Fin 5632) :
    iblk m c 1 t (ix2 r j) = V m c main_v51 (ix2 (Macaron.Bwd.tok t r) j) := by
  refine congrArg (V m c main_v51) (funext fun a => ?_)
  fin_cases a
  · exact Fin.ext (by blk_simp [idx t, Macaron.Bwd.tok]; simp only [ix2]; omega)
  · exact Fin.ext (by blk_simp [idx t]; rfl)

theorem f_at (t : Fin cfg0.N) (r : Fin 256) (k : Fin 1024) :
    iblk m c 2 t (ix2 r k) = V m c main_v47 (ix2 (Macaron.Bwd.tok t r) k) := by
  refine congrArg (V m c main_v47) (funext fun a => ?_)
  fin_cases a
  · exact Fin.ext (by blk_simp [idx t, Macaron.Bwd.tok]; simp only [ix2]; omega)
  · exact Fin.ext (by blk_simp [idx t]; rfl)

theorem dh_at (t : Fin cfg0.N) (r : Fin 256) (k : Fin 1024) :
    iblk m c 3 t (ix2 r k) = m ((c.tc : Thread nD τ).loc main_arg5) (ix2 (Macaron.Bwd.tok t r) k) := by
  blk_ext! [iblk, V, idx t, Macaron.Bwd.tok]

theorem mods_at (t : Fin cfg0.N) (i : Fin 16) (k : Fin 1024) (r : Fin 256) :
    iblk m c 4 t (ix4 0 0 i k) = m ((c.tc : Thread nD τ).loc main_arg1) (ix4 0 (stream (Macaron.Bwd.tok t r)) i k) := by
  have hs : (stream (Macaron.Bwd.tok t r)).val = if t.val < 16 then 0 else 1 := Fwd.stream_tok t r
  blk_ext! [iblk, V, idx t, hs]

theorem g_at (t : Fin cfg0.N) (k : Fin 1024) :
    iblk m c 5 t (ix3 0 0 k) = m ((c.tc : Thread nD τ).loc main_arg2) (ix3 0 0 k) := by
  blk_ext! [iblk, V, idx t]

theorem wi_at (t : Fin cfg0.N) (s : Fin 4) (k : Fin 1024) (j : Fin 1408) :
    iblk m c 6 t (ix3 s k j) = m ((c.tc : Thread nD τ).loc main_arg3) (ix2 k ⟨1408 * s.val + j.val, by omega⟩) := by
  refine (congrArg (V m c main_v50) (a₂ := ix3 s k j) (funext fun a => ?_)).trans (V_wi m c s k j)
  fin_cases a
  · exact Fin.ext (by blk_simp [idx t])
  · exact Fin.ext (by blk_simp [idx t])
  · exact Fin.ext (by blk_simp [idx t])

theorem wo_at (t : Fin cfg0.N) (j : Fin 2816) (k : Fin 1024) :
    iblk m c 7 t (ix2 j k) = m ((c.tc : Thread nD τ).loc main_arg4) (ix2 j k) := by
  refine (congrArg (V m c main_v52) (a₂ := ix2 j k) (funext fun a => ?_)).trans (V_wo m c j k)
  fin_cases a
  · exact Fin.ext (by blk_simp [idx t])
  · exact Fin.ext (by blk_simp [idx t])

theorem shift_at (t : Fin cfg0.N) (k : Fin 1024) : shiftRow m c t (ix4 0 0 0 k) = iblk m c 4 t (ix4 0 0 6 k) :=
  congrArg (iblk m c 4 t) (Rect.emb_eq_of_coords _ _ _ fun a => by fin_cases a <;> simp [Rect.unit, ix4])

theorem scale_at (t : Fin cfg0.N) (k : Fin 1024) : scaleRow m c t (ix4 0 0 0 k) = iblk m c 4 t (ix4 0 0 7 k) :=
  congrArg (iblk m c 4 t) (Rect.emb_eq_of_coords _ _ _ fun a => by fin_cases a <;> simp [Rect.unit, ix4])

theorem gate_at (t : Fin cfg0.N) (k : Fin 1024) : gateRow m c t (ix4 0 0 0 k) = iblk m c 4 t (ix4 0 0 8 k) :=
  congrArg (iblk m c 4 t) (Rect.emb_eq_of_coords _ _ _ fun a => by fin_cases a <;> simp [Rect.unit, ix4])

/-- What a grid point reads. -/
theorem tile (t : Fin cfg0.N) : Tile (back m c) t (iblk m c 0 t) (iblk m c 1 t) (iblk m c 2 t) (iblk m c 3 t)
    (shiftRow m c t) (scaleRow m c t) (gateRow m c t) (iblk m c 5 t) (iblk m c 6 t) (iblk m c 7 t) where
  h := h_at m c t
  ab r j := (ab_at m c t r j).trans (V_ab m c _ j)
  f r k := (f_at m c t r k).trans (V_f m c _ k)
  dh := dh_at m c t
  shift r k := (shift_at m c t k).trans (mods_at m c t 6 k r)
  scale r k := (scale_at m c t k).trans (mods_at m c t 7 k r)
  gate r k := (gate_at m c t k).trans (mods_at m c t 8 k r)
  g := g_at m c t
  wi := wi_at m c t
  wo := wo_at m c t

theorem final8 : (dats m 0 c).arrAt 8 cfg0.N = fun i : S4352x1024.Idx => (back m c).dtok (i 0) (i 1) := by
  refine (dats m 0 c).arrAt_eq_of_covers 8 _ (by decide +kernel) fun t hf y => ?_
  blk_simp
  rw [after_8]
  obtain ⟨a, b, rfl⟩ : ∃ (a : Fin 256) (b : Fin 1024), y = ix2 a b := ⟨y 0, y 1, eq_ix2 y⟩
  have e0 : (win0_8.blk t).view.emb (ix2 a b) 0 = Macaron.Bwd.tok t a := Fin.ext (by blk_simp [idx t, Macaron.Bwd.tok]; simp only [ix2]; omega)
  have e1 : (win0_8.blk t).view.emb (ix2 a b) 1 = b := Fin.ext (by blk_simp [idx t])
  rw [e0, e1]
  exact out8_at (tile m c t) a b

theorem final9 : (dats m 0 c).arrAt 9 cfg0.N = fun i : S4352x5632.Idx => (back m c).dab (i 0) (i 1) := by
  refine (dats m 0 c).arrAt_eq_of_covers 9 _ (by decide +kernel) fun t hf y => ?_
  blk_simp
  rw [after_9]
  obtain ⟨a, b, rfl⟩ : ∃ (a : Fin 256) (b : Fin 5632), y = ix2 a b := ⟨y 0, y 1, eq_ix2 y⟩
  have e0 : (win0_9.blk t).view.emb (ix2 a b) 0 = Macaron.Bwd.tok t a := Fin.ext (by blk_simp [idx t, Macaron.Bwd.tok]; simp only [ix2]; omega)
  have e1 : (win0_9.blk t).view.emb (ix2 a b) 1 = b := Fin.ext (by blk_simp [idx t])
  rw [e0, e1]
  exact out9_at (tile m c t) a b

theorem final10 : (dats m 0 c).arrAt 10 cfg0.N = fun i : S4352x1024.Idx => (back m c).df (i 0) (i 1) := by
  refine (dats m 0 c).arrAt_eq_of_covers 10 _ (by decide +kernel) fun t hf y => ?_
  blk_simp
  rw [after_10]
  obtain ⟨a, b, rfl⟩ : ∃ (a : Fin 256) (b : Fin 1024), y = ix2 a b := ⟨y 0, y 1, eq_ix2 y⟩
  have e0 : (win0_10.blk t).view.emb (ix2 a b) 0 = Macaron.Bwd.tok t a := Fin.ext (by blk_simp [idx t, Macaron.Bwd.tok]; simp only [ix2]; omega)
  have e1 : (win0_10.blk t).view.emb (ix2 a b) 1 = b := Fin.ext (by blk_simp [idx t])
  rw [e0, e1]
  exact out10_at (tile m c t) a b

theorem final11 : (dats m 0 c).arrAt 11 cfg0.N = fun i : S4352x1024.Idx => (back m c).n (i 0) (i 1) := by
  refine (dats m 0 c).arrAt_eq_of_covers 11 _ (by decide +kernel) fun t hf y => ?_
  blk_simp
  rw [after_11]
  obtain ⟨a, b, rfl⟩ : ∃ (a : Fin 256) (b : Fin 1024), y = ix2 a b := ⟨y 0, y 1, eq_ix2 y⟩
  have e0 : (win0_11.blk t).view.emb (ix2 a b) 0 = Macaron.Bwd.tok t a := Fin.ext (by blk_simp [idx t, Macaron.Bwd.tok]; simp only [ix2]; omega)
  have e1 : (win0_11.blk t).view.emb (ix2 a b) 1 = b := Fin.ext (by blk_simp [idx t])
  rw [e0, e1]
  exact out11_at (tile m c t) a b

theorem final12 : (dats m 0 c).arrAt 12 cfg0.N = fun i : S4352x2816.Idx => gated ((back m c).ab (i 0)) (i 1) := by
  refine (dats m 0 c).arrAt_eq_of_covers 12 _ (by decide +kernel) fun t hf y => ?_
  blk_simp
  rw [after_12]
  obtain ⟨a, b, rfl⟩ : ∃ (a : Fin 256) (b : Fin 2816), y = ix2 a b := ⟨y 0, y 1, eq_ix2 y⟩
  have e0 : (win0_12.blk t).view.emb (ix2 a b) 0 = Macaron.Bwd.tok t a := Fin.ext (by blk_simp [idx t, Macaron.Bwd.tok]; simp only [ix2]; omega)
  have e1 : (win0_12.blk t).view.emb (ix2 a b) 1 = b := Fin.ext (by blk_simp [idx t])
  rw [e0, e1]
  exact out12_at (tile m c t) a b

/-- The parameter gradients after a point: the parts of the tiles since they were started. -/
theorem acc_at (t : Fin cfg0.N) (y : S1x8x1024.Idx) :
    acc m c t.val t.isLt y
      = 0 + ∑ s : Fin (t.val % 16 + 1), part (back m c) ⟨16 * (t.val / 16) + s.val, Pipeline.run_point_lt t rfl s⟩ (y 1) (y 2) := by
  have hp : ∀ (t : Fin cfg0.N) (z : Vec Ideal S1x8x1024 .f32) (y : S1x8x1024.Idx),
      step m c t z y = z y + part (back m c) t (y 1) (y 2) := fun t z y => by
    obtain ⟨a, i, k, rfl⟩ : ∃ (a : Fin 1) (i : Fin 8) (k : Fin 1024), y = ix3 a i k := ⟨y 0, y 1, y 2, eq_ix3 y⟩
    obtain rfl : a = 0 := Subsingleton.elim _ _
    exact out13_at (tile m c t) z i k
  have hz : ∀ y : S1x8x1024.Idx, (k0_pay2 : FVec Ideal S1x8x1024 .f32) y = 0 := fun y => by
    pointwise [k0_pay2]
  refine Pipeline.eq_sum_fin_of_reset_step_apply (fun n h y => acc m c n h y) 16 (fun _ => 0)
    (fun t y => part (back m c) t (y 1) (y 2)) (fun t ht y => ?_) (fun t ht y => ?_) t y
  · beta_reduce
    rw [acc_fresh m c t ht, hp, hz]
  · beta_reduce
    rw [acc_kept m c t ht, hp]

/-- The parts of a stream's tiles, over a range of points that is known by its ends. -/
theorem parts_first (q n : ℕ) (h : ∀ s : Fin n, 16 * q + s.val < cfg0.N) (b : Fin 8) (k : Fin 1024) (hq : q = 0) (hn : n = 16) :
    ∑ s : Fin n, part (back m c) ⟨16 * q + s.val, h s⟩ b k = (back m c).rows 0 b k := by
  subst hq
  subst hn
  rw [← parts_latent (back m c) b k]
  exact Finset.sum_congr rfl fun s _ => congrArg (fun q => part (back m c) q b k) (Fin.ext (by simp only; omega))

theorem parts_second (q n : ℕ) (h : ∀ s : Fin n, 16 * q + s.val < cfg0.N) (b : Fin 8) (k : Fin 1024) (hq : q = 1) (hn : n = 1) :
    ∑ s : Fin n, part (back m c) ⟨16 * q + s.val, h s⟩ b k = (back m c).rows 1 b k := by
  subst hq
  subst hn
  rw [← part_context (back m c) b k]
  exact (Fin.sum_univ_one _).trans (congrArg (fun q => part (back m c) q b k) (Fin.ext (by simp)))

/-- The parameter gradients after a stream's last point: the rows of the stream. -/
theorem acc_last (t : Fin cfg0.N) (ht : t.val = 15 ∨ t.val = 16) (b : Fin 8) (k : Fin 1024) :
    acc m c t.val t.isLt (ix3 0 b k) = (back m c).rows ⟨t.val / 16, by omega⟩ b k := by
  refine (acc_at m c t _).trans ((zero_add _).trans ?_)
  obtain ht | ht := ht
  · rw [show (⟨t.val / 16, by omega⟩ : Fin 2) = 0 from Fin.ext (by show t.val / 16 = 0; omega)]
    exact parts_first m c _ _ _ b k (by omega) (by omega)
  · rw [show (⟨t.val / 16, by omega⟩ : Fin 2) = 1 from Fin.ext (by show t.val / 16 = 1; omega)]
    exact parts_second m c _ _ _ b k (by omega) (by omega)

theorem final13 : (dats m 0 c).arrAt 13 cfg0.N = fun i : S2x8x1024.Idx => (back m c).rows (i 0) (i 1) (i 2) := by
  refine (dats m 0 c).arrAt_eq_of_covers 13 _ (by decide +kernel) fun t hf y => ?_
  have hN : t.val < 17 := lt_of_lt_of_eq t.isLt (show cfg0.N = 17 from N_0)
  have ht := (flush_13 t).mp hf
  have h16 : t.val = 15 ∨ t.val = 16 := by omega
  blk_simp
  rw [after_13]
  obtain ⟨a, b, k, rfl⟩ : ∃ (a : Fin 1) (b : Fin 8) (k : Fin 1024), y = ix3 a b k := ⟨y 0, y 1, y 2, eq_ix3 y⟩
  obtain rfl : a = 0 := Subsingleton.elim _ _
  have e0 : ((win0_13.blk t).view.emb (ix3 0 b k) 0).val = t.val / 16 := by blk_simp [idx t]; rfl
  have e1 : (win0_13.blk t).view.emb (ix3 0 b k) 1 = b := Fin.ext (by blk_simp [idx t])
  have e2 : (win0_13.blk t).view.emb (ix3 0 b k) 2 = k := Fin.ext (by blk_simp [idx t])
  have e0' : (win0_13.blk t).view.emb (ix3 0 b k) 0 = (⟨t.val / 16, by omega⟩ : Fin 2) := Fin.ext e0
  rw [e0', e1, e2]
  exact acc_last m c t h16 b k

end Macaron.Bwd2L0

end
-- ==== Proof.Bwd2L0.Ref.lean ====
module

public import proofs.«01_k».proof.Proof.Gen.FfnBwdCRefIdeal.Run
public import proofs.«01_k».proof.Proof.FfnBwd.Moved

/-! The reference of the second half-step's backward pass of layer 0: line by line it is the first half-step's of layer 0,
at the moved arrays. -/

@[expose] public section

set_option maxRecDepth 16384

noncomputable section

namespace Macaron.Bwd2L0Ref

open Idealize.ShloMosaic Idealize.ShloMosaic.TcCoe Idealize.SL.Sem Idealize.ShloMosaic.StableHlo
open Cert.FfnBwdCRefIdeal Cert.FfnBwdCRefIdeal.Gen Cert.FfnBwdCRefIdeal.Value Macaron.BwdRef

variable (V : Valuation τ sig (Elt Ideal))

theorem v5_at (s : Fin 2) (i : Fin 3) (k : Fin 1024) :
    Cert.FfnBwdCRefIdeal.Value.res_main_v5 V (ix3 s ⟨i.val, by omega⟩ k) = V (Proc.devRef .tc main_arg1) (ix4 0 s ⟨6 + i.val, by omega⟩ k) := by
  unfold Cert.FfnBwdCRefIdeal.Value.res_main_v5
  clean_types
  pointwise

theorem v5_at_g (s : Fin 2) (k : Fin 1024) :
    Cert.FfnBwdCRefIdeal.Value.res_main_v5 V (ix3 s 3 k) = V (Proc.devRef .tc main_arg2) (ix3 0 0 k) := by
  unfold Cert.FfnBwdCRefIdeal.Value.res_main_v5
  clean_types
  pointwise

theorem v5 : Cert.FfnBwdCRefIdeal.Value.res_main_v5 V = Cert.FfnBwdRefIdeal.Value.res_main_v5 (moved 0 6 V) := by
  funext j
  obtain ⟨s, i, k, rfl⟩ : ∃ (s : Fin 2) (i : Fin 4) (k : Fin 1024), j = ix3 s i k := ⟨j 0, j 1, j 2, eq_ix3 j⟩
  by_cases h : i.val < 3
  · exact (v5_at V s ⟨i.val, h⟩ k).trans
      ((rMods_moved 0 6 V (by decide) s ⟨i.val, h⟩ k).symm.trans (BwdRef.v5_at (moved 0 6 V) s ⟨i.val, h⟩ k).symm)
  · obtain rfl : i = 3 := Fin.ext (by show i.val = 3; omega)
    exact (v5_at_g V s k).trans ((rG_moved 0 6 V k).symm.trans (BwdRef.v5_at_g (moved 0 6 V) s k).symm)

theorem v12 : Cert.FfnBwdCRefIdeal.Value.res_main_v12 V = Cert.FfnBwdRefIdeal.Value.res_main_v12 (moved 0 6 V) := by
  unfold Cert.FfnBwdCRefIdeal.Value.res_main_v12 Cert.FfnBwdRefIdeal.Value.res_main_v12
  rw [v5 V]

theorem v33 : Cert.FfnBwdCRefIdeal.Value.res_main_v33 V = Cert.FfnBwdRefIdeal.Value.res_main_v33 (moved 0 6 V) := by
  unfold Cert.FfnBwdCRefIdeal.Value.res_main_v33 Cert.FfnBwdRefIdeal.Value.res_main_v33
  rw [moved_arg0 0 6 V]

theorem v34 : Cert.FfnBwdCRefIdeal.Value.res_main_v34 V = Cert.FfnBwdRefIdeal.Value.res_main_v34 (moved 0 6 V) := by
  unfold Cert.FfnBwdCRefIdeal.Value.res_main_v34 Cert.FfnBwdRefIdeal.Value.res_main_v34
  rw [v33 V]

theorem v39 : Cert.FfnBwdCRefIdeal.Value.res_main_v39 V = Cert.FfnBwdRefIdeal.Value.res_main_v39 (moved 0 6 V) := by
  unfold Cert.FfnBwdCRefIdeal.Value.res_main_v39 Cert.FfnBwdRefIdeal.Value.res_main_v39
  rw [moved_arg0 0 6 V, v34 V]

theorem v40 : Cert.FfnBwdCRefIdeal.Value.res_main_v40 V = Cert.FfnBwdRefIdeal.Value.res_main_v40 (moved 0 6 V) := by
  unfold Cert.FfnBwdCRefIdeal.Value.res_main_v40 Cert.FfnBwdRefIdeal.Value.res_main_v40
  rw [v12 V, v39 V]

theorem v42 : Cert.FfnBwdCRefIdeal.Value.res_main_v42 V = Cert.FfnBwdRefIdeal.Value.res_main_v42 (moved 0 6 V) := by
  unfold Cert.FfnBwdCRefIdeal.Value.res_main_v42 Cert.FfnBwdRefIdeal.Value.res_main_v42
  rw [v5 V]

theorem v44 : Cert.FfnBwdCRefIdeal.Value.res_main_v44 V = Cert.FfnBwdRefIdeal.Value.res_main_v44 (moved 0 6 V) := by
  unfold Cert.FfnBwdCRefIdeal.Value.res_main_v44 Cert.FfnBwdRefIdeal.Value.res_main_v44
  rw [v40 V, v42 V, v5 V]

theorem v45 : Cert.FfnBwdCRefIdeal.Value.res_main_v45 V = Cert.FfnBwdRefIdeal.Value.res_main_v45 (moved 0 6 V) := by
  unfold Cert.FfnBwdCRefIdeal.Value.res_main_v45 Cert.FfnBwdRefIdeal.Value.res_main_v45
  rw [moved_arg3 0 6 V, v44 V]
  rfl

theorem v46 : Cert.FfnBwdCRefIdeal.Value.res_main_v46 V = Cert.FfnBwdRefIdeal.Value.res_main_v46 (moved 0 6 V) := by
  unfold Cert.FfnBwdCRefIdeal.Value.res_main_v46 Cert.FfnBwdRefIdeal.Value.res_main_v46
  rw [v45 V]

theorem v47 : Cert.FfnBwdCRefIdeal.Value.res_main_v47 V = Cert.FfnBwdRefIdeal.Value.res_main_v47 (moved 0 6 V) := by
  unfold Cert.FfnBwdCRefIdeal.Value.res_main_v47 Cert.FfnBwdRefIdeal.Value.res_main_v47
  rw [v45 V]

theorem v48_2 : Cert.FfnBwdCRefIdeal.Value.res_main_v48_2 V = Cert.FfnBwdRefIdeal.Value.res_main_v48_2 (moved 0 6 V) := by
  unfold Cert.FfnBwdCRefIdeal.Value.res_main_v48_2 Cert.FfnBwdRefIdeal.Value.res_main_v48_2
  rw [v46 V]

theorem v48_0 : Cert.FfnBwdCRefIdeal.Value.res_main_v48_0 V = Cert.FfnBwdRefIdeal.Value.res_main_v48_0 (moved 0 6 V) := by
  unfold Cert.FfnBwdCRefIdeal.Value.res_main_v48_0 Cert.FfnBwdRefIdeal.Value.res_main_v48_0
  rw [v46 V, v48_2 V]

theorem v49 : Cert.FfnBwdCRefIdeal.Value.res_main_v49 V = Cert.FfnBwdRefIdeal.Value.res_main_v49 (moved 0 6 V) := by
  unfold Cert.FfnBwdCRefIdeal.Value.res_main_v49 Cert.FfnBwdRefIdeal.Value.res_main_v49
  rw [v47 V, v48_0 V]

theorem v50 : Cert.FfnBwdCRefIdeal.Value.res_main_v50 V = Cert.FfnBwdRefIdeal.Value.res_main_v50 (moved 0 6 V) := by
  unfold Cert.FfnBwdCRefIdeal.Value.res_main_v50 Cert.FfnBwdRefIdeal.Value.res_main_v50
  rw [moved_arg4 0 6 V, v49 V]
  rfl

theorem v59 : Cert.FfnBwdCRefIdeal.Value.res_main_v59 V = Cert.FfnBwdRefIdeal.Value.res_main_v59 (moved 0 6 V) := by
  unfold Cert.FfnBwdCRefIdeal.Value.res_main_v59 Cert.FfnBwdRefIdeal.Value.res_main_v59
  rw [v5 V]

theorem v62 : Cert.FfnBwdCRefIdeal.Value.res_main_v62 V = Cert.FfnBwdRefIdeal.Value.res_main_v62 (moved 0 6 V) := by
  unfold Cert.FfnBwdCRefIdeal.Value.res_main_v62 Cert.FfnBwdRefIdeal.Value.res_main_v62
  rw [moved_arg5 0 6 V]
  rfl

theorem v63 : Cert.FfnBwdCRefIdeal.Value.res_main_v63 V = Cert.FfnBwdRefIdeal.Value.res_main_v63 (moved 0 6 V) := by
  unfold Cert.FfnBwdCRefIdeal.Value.res_main_v63 Cert.FfnBwdRefIdeal.Value.res_main_v63
  rw [v59 V, v62 V]

theorem v66 : Cert.FfnBwdCRefIdeal.Value.res_main_v66 V = Cert.FfnBwdRefIdeal.Value.res_main_v66 (moved 0 6 V) := by
  unfold Cert.FfnBwdCRefIdeal.Value.res_main_v66 Cert.FfnBwdRefIdeal.Value.res_main_v66
  rw [v50 V, v62 V]

theorem v76 : Cert.FfnBwdCRefIdeal.Value.res_main_v76 V = Cert.FfnBwdRefIdeal.Value.res_main_v76 (moved 0 6 V) := by
  unfold Cert.FfnBwdCRefIdeal.Value.res_main_v76 Cert.FfnBwdRefIdeal.Value.res_main_v76
  rw [moved_arg4 0 6 V, v63 V]
  rfl

theorem v78 : Cert.FfnBwdCRefIdeal.Value.res_main_v78 V = Cert.FfnBwdRefIdeal.Value.res_main_v78 (moved 0 6 V) := by
  unfold Cert.FfnBwdCRefIdeal.Value.res_main_v78 Cert.FfnBwdRefIdeal.Value.res_main_v78
  rw [v47 V, v76 V]

theorem v80 : Cert.FfnBwdCRefIdeal.Value.res_main_v80 V = Cert.FfnBwdRefIdeal.Value.res_main_v80 (moved 0 6 V) := by
  unfold Cert.FfnBwdCRefIdeal.Value.res_main_v80 Cert.FfnBwdRefIdeal.Value.res_main_v80
  rw [v46 V, v48_0 V, v48_2 V, v76 V, v78 V]

theorem v81 : Cert.FfnBwdCRefIdeal.Value.res_main_v81 V = Cert.FfnBwdRefIdeal.Value.res_main_v81 (moved 0 6 V) := by
  unfold Cert.FfnBwdCRefIdeal.Value.res_main_v81 Cert.FfnBwdRefIdeal.Value.res_main_v81
  rw [moved_arg3 0 6 V, v80 V]
  rfl

theorem v82 : Cert.FfnBwdCRefIdeal.Value.res_main_v82 V = Cert.FfnBwdRefIdeal.Value.res_main_v82 (moved 0 6 V) := by
  unfold Cert.FfnBwdCRefIdeal.Value.res_main_v82 Cert.FfnBwdRefIdeal.Value.res_main_v82
  rw [v40 V, v81 V]

theorem v83 : Cert.FfnBwdCRefIdeal.Value.res_main_v83 V = Cert.FfnBwdRefIdeal.Value.res_main_v83 (moved 0 6 V) := by
  unfold Cert.FfnBwdCRefIdeal.Value.res_main_v83 Cert.FfnBwdRefIdeal.Value.res_main_v83
  rw [v42 V, v81 V]

theorem v84 : Cert.FfnBwdCRefIdeal.Value.res_main_v84 V = Cert.FfnBwdRefIdeal.Value.res_main_v84 (moved 0 6 V) := by
  unfold Cert.FfnBwdCRefIdeal.Value.res_main_v84 Cert.FfnBwdRefIdeal.Value.res_main_v84
  rw [v39 V, v83 V]

theorem v85 : Cert.FfnBwdCRefIdeal.Value.res_main_v85 V = Cert.FfnBwdRefIdeal.Value.res_main_v85 (moved 0 6 V) := by
  unfold Cert.FfnBwdCRefIdeal.Value.res_main_v85 Cert.FfnBwdRefIdeal.Value.res_main_v85
  rw [v12 V, v83 V]

theorem v95 : Cert.FfnBwdCRefIdeal.Value.res_main_v95 V = Cert.FfnBwdRefIdeal.Value.res_main_v95 (moved 0 6 V) := by
  unfold Cert.FfnBwdCRefIdeal.Value.res_main_v95 Cert.FfnBwdRefIdeal.Value.res_main_v95
  rw [moved_arg0 0 6 V, v33 V, v34 V, v85 V]

set_option maxHeartbeats 4000000 in
/-- The reference's run, its results as the first reference's at the moved arrays. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v132) = outTok (moved 0 6 (launchContents m c))
      ∧ r.2.mem ((c.tc : Thread nD τ).loc main_v133)
        = (truncf .bf16 (Cert.FfnBwdRefIdeal.Value.res_main_v80 (moved 0 6 (launchContents m c))) Cert.FfnBwdRefIdeal.Gen.bitsLt_bf16_f32 : FVec Ideal S4352x5632 .bf16)
      ∧ r.2.mem ((c.tc : Thread nD τ).loc main_v134)
        = (truncf .bf16 (Cert.FfnBwdRefIdeal.Value.res_main_v63 (moved 0 6 (launchContents m c))) Cert.FfnBwdRefIdeal.Gen.bitsLt_bf16_f32 : FVec Ideal S4352x1024 .bf16)
      ∧ r.2.mem ((c.tc : Thread nD τ).loc main_v135)
        = (truncf .bf16 (Cert.FfnBwdRefIdeal.Value.res_main_v44 (moved 0 6 (launchContents m c))) Cert.FfnBwdRefIdeal.Gen.bitsLt_bf16_f32 : FVec Ideal S4352x1024 .bf16)
      ∧ r.2.mem ((c.tc : Thread nD τ).loc main_v136)
        = (truncf .bf16 (Cert.FfnBwdRefIdeal.Value.res_main_v49 (moved 0 6 (launchContents m c))) Cert.FfnBwdRefIdeal.Gen.bitsLt_bf16_f32 : FVec Ideal S4352x2816 .bf16)
      ∧ r.2.mem ((c.tc : Thread nD τ).loc main_v131) = outRows (moved 0 6 (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run Cert.FfnBwdCRefIdeal.defs _ _).mono (fun r h c => ?_) (Cert.FfnBwdCRefIdeal.Value.run m ρ)
  obtain ⟨h0, h1, h2, h3, h4, h5, h6⟩ := h c
  refine ⟨h0.trans ?_, h1.trans ?_, h2.trans ?_, h3.trans ?_, h4.trans ?_, h5.trans ?_, h6⟩
  · unfold outTok
    rw [moved_arg0, moved_arg5, v34, v85, v95]
    rfl
  · rw [v80]
    rfl
  · rw [v63]
    rfl
  · rw [v44]
    rfl
  · rw [v49]
    rfl
  · unfold outRows
    rw [v66, v81, v82, v84]
    rfl

end Macaron.Bwd2L0Ref

end
-- ==== Proof.Bwd2L0.Claims.lean ====
module

public import proofs.«01_k».proof.Defs
public import proofs.«01_k».proof.Proof.Gen.FfnBwdC
public import proofs.«01_k».proof.Proof.Gen.Pre_finite
public import proofs.«01_k».proof.Proof.Bwd2L0.Arrays
public import proofs.«01_k».proof.Proof.Bwd2L0.Ref
public import proofs.«01_k».proof.Proof.FfnBwd.Given

/-! The second half-step's backward pass of layer 0: its claims. -/

@[expose] public section

set_option maxRecDepth 16384

noncomputable section

namespace Macaron.Bwd2L0

open Idealize.ShloMosaic Idealize.ShloMosaic.TcCoe Idealize.SL.Sem Idealize.ShloMosaic.StableHlo

/-! The program over machine floats is the program over extended reals, read at another number type. -/

section Bits

set_option maxHeartbeats 8000000

variable {F : FTy → Type} [FloatOps F]

theorem defs₀_eq : Cert.FfnBwdC.defs₀ (F := F) = Cert.FfnBwdCIdeal.defs₀ (F := F) := by
  unfold Cert.FfnBwdC.defs₀ Cert.FfnBwdCIdeal.defs₀
  refine congrArg Defs.onTc (funext fun l => ?_)
  match l with
  | 0 => exact funext fun ⟨t, s⟩ => rfl
  | ⟨n + 1, h⟩ => exact absurd h (Nat.not_lt.2 (Nat.le_add_left _ _))

theorem defs_eq : Cert.FfnBwdC.defs (F := F) = Cert.FfnBwdCIdeal.defs (F := F) := by
  unfold Cert.FfnBwdC.defs Cert.FfnBwdCIdeal.defs
  rw [defs₀_eq]; rfl

theorem main_eq : Cert.FfnBwdC.main (F := F) = Cert.FfnBwdCIdeal.main (F := F) := rfl

theorem frame : Cert.quiescent_FfnBwdC := fun m ρ _ => by
  have h := Cert.FfnBwdCIdeal.Value.frame m ρ
  rw [← main_eq, ← defs_eq] at h
  exact h

end Bits

theorem frame_ideal : Cert.quiescent_FfnBwdCIdeal := fun m ρ _ => Cert.FfnBwdCIdeal.Value.frame m ρ

theorem frame_ideal_finite : Cert.quiescent_FfnBwdCIdeal_pre_finite := fun m ρ _ => Cert.FfnBwdCIdeal.Value.frame m ρ

theorem frame_ref : Cert.quiescent_FfnBwdCRefIdeal := fun m ρ _ =>
  (θ_run Cert.FfnBwdCRefIdeal.defs _ _).mono
    (fun r h => ⟨fun c => (h c).2.2.2.2.2.2, sem_eq_zero_of_no_sems (by decide) r.2⟩) (Cert.FfnBwdCRefIdeal.Value.run m ρ)

theorem frame_ref_finite : Cert.quiescent_FfnBwdCRefIdeal_pre_finite := fun m ρ _ => frame_ref m ρ trivial

/-- Under the precondition everything that the backward pass reads is real. -/
theorem real (m : (ℓ : Loc Cert.FfnBwdCIdeal.nD Cert.FfnBwdCIdeal.τ Cert.FfnBwdCIdeal.sig) → Buf (Elt Ideal) ℓ)
    (h : Cert.Pre_FfnBwdCIdeal_finite m) (c : Dev Cert.FfnBwdCIdeal.nD) : (back m c).Real := by
  obtain ⟨h0, h1, h2, h3, h4, h5⟩ := real_of_finite (h c)
  exact ⟨fun r k => h0 _, tokWide_real (fun r k => h0 _) (fun s i k => h1 _) (fun k => h2 _) (fun k j => h3 _),
    fun r k => h5 _, fun s i k => h1 _, fun k => h2 _, fun k j => h3 _, fun j k => h4 _⟩

section Kernel

open Cert.FfnBwdCIdeal Cert.FfnBwdCIdeal.Value

set_option maxHeartbeats 4000000 in
/-- The kernel's run: its six results, the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v53_0) = (dats m 0 c).arrAt 8 cfg0.N
      ∧ r.2.mem ((c.tc : Thread nD τ).loc main_v53_1) = (dats m 0 c).arrAt 9 cfg0.N
      ∧ r.2.mem ((c.tc : Thread nD τ).loc main_v53_2) = (dats m 0 c).arrAt 10 cfg0.N
      ∧ r.2.mem ((c.tc : Thread nD τ).loc main_v53_3) = (dats m 0 c).arrAt 11 cfg0.N
      ∧ r.2.mem ((c.tc : Thread nD τ).loc main_v53_4) = (dats m 0 c).arrAt 12 cfg0.N
      ∧ r.2.mem ((c.tc : Thread nD τ).loc main_v53_5) = (dats m 0 c).arrAt 13 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono
    (fun r h c => ⟨(h.1 c).1 8, (h.1 c).1 9, (h.1 c).1 10, (h.1 c).1 11, (h.1 c).1 12, (h.1 c).1 13, h.2.1 c⟩)
    (θ_run_and (run_main m ρ) (Cert.FfnBwdCIdeal.Value.frame m ρ))

end Kernel

set_option maxHeartbeats 4000000 in
/-- The kernel's six results are the reference's. -/
theorem algebraic : Cert.algebraic_FfnBwdCIdeal_FfnBwdCRefIdeal_pre_finite := by
  intro m g m' g' hp hm
  refine ⟨fun c => (Cert.FfnBwdCIdeal.Value.dats m 0 c).arrAt 8 Cert.FfnBwdCIdeal.cfg0.N,
    fun c => (Cert.FfnBwdCIdeal.Value.dats m 0 c).arrAt 9 Cert.FfnBwdCIdeal.cfg0.N,
    fun c => (Cert.FfnBwdCIdeal.Value.dats m 0 c).arrAt 10 Cert.FfnBwdCIdeal.cfg0.N,
    fun c => (Cert.FfnBwdCIdeal.Value.dats m 0 c).arrAt 11 Cert.FfnBwdCIdeal.cfg0.N,
    fun c => (Cert.FfnBwdCIdeal.Value.dats m 0 c).arrAt 12 Cert.FfnBwdCIdeal.cfg0.N,
    fun c => (Cert.FfnBwdCIdeal.Value.dats m 0 c).arrAt 13 Cert.FfnBwdCIdeal.cfg0.N, kernel_run m g, ?_⟩
  refine (θ_run Cert.FfnBwdCRefIdeal.defs _ _).mono (fun r h c => ?_) (Bwd2L0Ref.run m' g')
  obtain ⟨h0, h1, h2, h3, h4, h5, h6⟩ := h c
  obtain ⟨e0, e1, e2, e3, e4, e5⟩ := hm c
  have eB : BwdRef.back (BwdRef.moved 0 6 (launchContents m' c)) = back m c := by
    have eH : BwdRef.rH (BwdRef.moved 0 6 (launchContents m' c)) = aH m c := funext fun _ => funext fun _ =>
      (congrFun (BwdRef.moved_arg0 0 6 (launchContents m' c)) _).trans (congrFun e0 _)
    have eM : BwdRef.rMods (BwdRef.moved 0 6 (launchContents m' c)) = aMods m c := funext fun _ => funext fun _ => funext fun _ =>
      (BwdRef.rMods_moved 0 6 (launchContents m' c) (by decide) _ _ _).trans (congrFun e1 _)
    have eG : BwdRef.rG (BwdRef.moved 0 6 (launchContents m' c)) = aG m c := funext fun _ =>
      (BwdRef.rG_moved 0 6 (launchContents m' c) _).trans (congrFun e2 _)
    have eI : BwdRef.rWi (BwdRef.moved 0 6 (launchContents m' c)) = aWi m c := funext fun _ => funext fun _ =>
      (congrFun (BwdRef.moved_arg3 0 6 (launchContents m' c)) _).trans (congrFun e3 _)
    have eO : BwdRef.rWo (BwdRef.moved 0 6 (launchContents m' c)) = aWo m c := funext fun _ => funext fun _ =>
      (congrFun (BwdRef.moved_arg4 0 6 (launchContents m' c)) _).trans (congrFun e4 _)
    have eD : BwdRef.rD (BwdRef.moved 0 6 (launchContents m' c)) = aD m c := funext fun _ => funext fun _ =>
      (congrFun (BwdRef.moved_arg5 0 6 (launchContents m' c)) _).trans (congrFun e5 _)
    unfold BwdRef.back back
    rw [eH, eM, eG, eI, eO, eD]
  obtain ⟨f0, f1, f2, f3, f4, f5⟩ := BwdRef.results (BwdRef.moved 0 6 (launchContents m' c)) (eB ▸ real m hp c)
  rw [eB] at f0 f1 f2 f3 f4 f5
  exact ⟨(h0.trans f0).trans (final8 m c).symm, (h1.trans f1).trans (final9 m c).symm, (h2.trans f2).trans (final10 m c).symm,
    (h3.trans f3).trans (final11 m c).symm, (h4.trans f4).trans (final12 m c).symm, (h5.trans f5).trans (final13 m c).symm, h6⟩

end Macaron.Bwd2L0

end
-- ==== Proof.Bwd2L1.Sound.lean ====
module

public import proofs.«01_k».proof.Proof.FfnBwd.Body
public import proofs.«01_k».proof.Proof.Gen.FfnBwdDIdeal.Frame
public import proofs.«01_k».proof.Proof.Gen.FfnBwdDIdeal.Skeleton

@[expose] public section

set_option maxRecDepth 16384

noncomputable section

namespace Cert.FfnBwdDIdeal.Value

open Cert.FfnBwdDIdeal Cert.FfnBwdDIdeal.Gen
open Cert.FfnBwdIdeal.Value (fresh fresh_iff out8 out9 out10 out11 out12 out13 cover_tok cover_hidden cover_act read_writes_over whole_mem)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point that adds to the parameter gradients already there. -/
theorem soundB (c : Dev nD) (E : Set ℕ) (i : grid0.Coords) (hc0 : ¬ fresh i) (arg1 : Memref sig .tc .vmem S256x1024 .f32) (harg1 : arg1.IsWhole) (arg2 : Memref sig .tc .vmem S256x5632 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1x1x16x1024 .f32) (harg5 : arg5.IsWhole) (arg6 : Memref sig .tc .vmem S1x1x1024 .f32) (harg6 : arg6.IsWhole) (arg7 : Memref sig .tc .vmem S4x1024x1408 .bf16) (harg7 : arg7.IsWhole) (arg8 : Memref sig .tc .vmem S2816x1024 .bf16) (harg8 : arg8.IsWhole) (arg9 : Memref sig .tc .vmem S256x1024 .f32) (harg9 : arg9.IsWhole) (arg10 : Memref sig .tc .vmem S256x5632 .bf16) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x2816 .bf16) (harg13 : arg13.IsWhole) (arg14 : Memref sig .tc .vmem S1x8x1024 .f32) (harg14 : arg14.IsWhole)
    (x0 : Vec F S256x1024 .f32) (x1 : Vec F S256x5632 .bf16) (x2 : Vec F S256x1024 .f32) (x3 : Vec F S256x1024 .f32) (x4 : Vec F S1x1x16x1024 .f32) (x5 : Vec F S1x1x1024 .f32) (x6 : Vec F S4x1024x1408 .bf16) (x7 : Vec F S2816x1024 .bf16) (y : Vec F S1x8x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare y
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out8 x0 x1 x3 (View.ld x4 (Rect.unit (s := S1x1x16x1024) ![0, 0, 7, 0] S1x1x1x1024.size inb_S1x1x16x1024_S1x1x1x1024_0_0_7_0)) (View.ld x4 (Rect.unit (s := S1x1x16x1024) ![0, 0, 8, 0] S1x1x1x1024.size inb_S1x1x16x1024_S1x1x1x1024_0_0_8_0)) x5 x6 x7) ∗ owns (c : Thread nD τ) arg10 fullShare (out9 x1 x3 (View.ld x4 (Rect.unit (s := S1x1x16x1024) ![0, 0, 8, 0] S1x1x1x1024.size inb_S1x1x16x1024_S1x1x1x1024_0_0_8_0)) x7) ∗ owns (c : Thread nD τ) arg11 fullShare (out10 x3 (View.ld x4 (Rect.unit (s := S1x1x16x1024) ![0, 0, 8, 0] S1x1x1x1024.size inb_S1x1x16x1024_S1x1x1x1024_0_0_8_0))) ∗ owns (c : Thread nD τ) arg12 fullShare (out11 x0 (View.ld x4 (Rect.unit (s := S1x1x16x1024) ![0, 0, 6, 0] S1x1x1x1024.size inb_S1x1x16x1024_S1x1x1x1024_0_0_6_0)) (View.ld x4 (Rect.unit (s := S1x1x16x1024) ![0, 0, 7, 0] S1x1x1x1024.size inb_S1x1x16x1024_S1x1x1x1024_0_0_7_0)) x5) ∗ owns (c : Thread nD τ) arg13 fullShare (out12 x1) ∗ owns (c : Thread nD τ) arg14 fullShare (out13 x0 x1 x2 x3 (View.ld x4 (Rect.unit (s := S1x1x16x1024) ![0, 0, 7, 0] S1x1x1x1024.size inb_S1x1x16x1024_S1x1x1x1024_0_0_7_0)) (View.ld x4 (Rect.unit (s := S1x1x16x1024) ![0, 0, 8, 0] S1x1x1x1024.size inb_S1x1x16x1024_S1x1x1x1024_0_0_8_0)) x5 x6 x7 y)) -∗ K ⟨⟩))
      ⊢ wp frame (wpE (defs₀ (F := F)) Variants.none c none) E (cc0_ffn2_bwd_1 i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_ffn2_bwd_1_eq_skeleton]; unfold cc0_ffn2_bwd_1_skel
  simp only [k0_part5_eq_skeleton, k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%f13, %hf13, H13⟩, Hk⟩
  subst hf0 hf1 hf2 hf3 hf4 hf5 hf6 hf7 hf13
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr; swap; · iexact H8
    ipureintro
    refine (View.read_writes_eq_canon _ _ _ (cover_tok _)).trans ?_; rfl
  isplitl [H9]
  · iexists _; isplitr; swap; · iexact H9
    ipureintro
    refine (View.read_writes_eq_canon _ _ _ (cover_hidden _ _ _ _)).trans ?_; rfl
  isplitl [H10]
  · iexists _; isplitr; swap; · iexact H10
    ipureintro
    refine (View.read_writes_eq_canon _ _ _ (cover_tok _)).trans ?_; rfl
  isplitl [H11]
  · iexists _; isplitr; swap; · iexact H11
    ipureintro
    refine (View.read_writes_eq_canon _ _ _ (cover_tok _)).trans ?_; rfl
  isplitl [H12]
  · iexists _; isplitr; swap; · iexact H12
    ipureintro
    refine (View.read_writes_eq_canon _ _ _ (cover_act _ _)).trans ?_; rfl
  iexists _; isplitr; swap; · iexact H13
  ipureintro
  refine (read_writes_over _ _ _).trans ?_; rfl

set_option maxHeartbeats 4000000 in
/-- The body at a point that starts them anew. -/
theorem soundA (c : Dev nD) (E : Set ℕ) (i : grid0.Coords) (hc0 : fresh i) (arg1 : Memref sig .tc .vmem S256x1024 .f32) (harg1 : arg1.IsWhole) (arg2 : Memref sig .tc .vmem S256x5632 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1x1x16x1024 .f32) (harg5 : arg5.IsWhole) (arg6 : Memref sig .tc .vmem S1x1x1024 .f32) (harg6 : arg6.IsWhole) (arg7 : Memref sig .tc .vmem S4x1024x1408 .bf16) (harg7 : arg7.IsWhole) (arg8 : Memref sig .tc .vmem S2816x1024 .bf16) (harg8 : arg8.IsWhole) (arg9 : Memref sig .tc .vmem S256x1024 .f32) (harg9 : arg9.IsWhole) (arg10 : Memref sig .tc .vmem S256x5632 .bf16) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x2816 .bf16) (harg13 : arg13.IsWhole) (arg14 : Memref sig .tc .vmem S1x8x1024 .f32) (harg14 : arg14.IsWhole)
    (x0 : Vec F S256x1024 .f32) (x1 : Vec F S256x5632 .bf16) (x2 : Vec F S256x1024 .f32) (x3 : Vec F S256x1024 .f32) (x4 : Vec F S1x1x16x1024 .f32) (x5 : Vec F S1x1x1024 .f32) (x6 : Vec F S4x1024x1408 .bf16) (x7 : Vec F S2816x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out8 x0 x1 x3 (View.ld x4 (Rect.unit (s := S1x1x16x1024) ![0, 0, 7, 0] S1x1x1x1024.size inb_S1x1x16x1024_S1x1x1x1024_0_0_7_0)) (View.ld x4 (Rect.unit (s := S1x1x16x1024) ![0, 0, 8, 0] S1x1x1x1024.size inb_S1x1x16x1024_S1x1x1x1024_0_0_8_0)) x5 x6 x7) ∗ owns (c : Thread nD τ) arg10 fullShare (out9 x1 x3 (View.ld x4 (Rect.unit (s := S1x1x16x1024) ![0, 0, 8, 0] S1x1x1x1024.size inb_S1x1x16x1024_S1x1x1x1024_0_0_8_0)) x7) ∗ owns (c : Thread nD τ) arg11 fullShare (out10 x3 (View.ld x4 (Rect.unit (s := S1x1x16x1024) ![0, 0, 8, 0] S1x1x1x1024.size inb_S1x1x16x1024_S1x1x1x1024_0_0_8_0))) ∗ owns (c : Thread nD τ) arg12 fullShare (out11 x0 (View.ld x4 (Rect.unit (s := S1x1x16x1024) ![0, 0, 6, 0] S1x1x1x1024.size inb_S1x1x16x1024_S1x1x1x1024_0_0_6_0)) (View.ld x4 (Rect.unit (s := S1x1x16x1024) ![0, 0, 7, 0] S1x1x1x1024.size inb_S1x1x16x1024_S1x1x1x1024_0_0_7_0)) x5) ∗ owns (c : Thread nD τ) arg13 fullShare (out12 x1) ∗ owns (c : Thread nD τ) arg14 fullShare (out13 x0 x1 x2 x3 (View.ld x4 (Rect.unit (s := S1x1x16x1024) ![0, 0, 7, 0] S1x1x1x1024.size inb_S1x1x16x1024_S1x1x1x1024_0_0_7_0)) (View.ld x4 (Rect.unit (s := S1x1x16x1024) ![0, 0, 8, 0] S1x1x1x1024.size inb_S1x1x16x1024_S1x1x1x1024_0_0_8_0)) x5 x6 x7 k0_pay2)) -∗ K ⟨⟩))
      ⊢ wp frame (wpE (defs₀ (F := F)) Variants.none c none) E (cc0_ffn2_bwd_1 i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_ffn2_bwd_1_eq_skeleton]; unfold cc0_ffn2_bwd_1_skel
  simp only [k0_part5_eq_skeleton, k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  subst hf0 hf1 hf2 hf3 hf4 hf5 hf6 hf7
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr; swap; · iexact H8
    ipureintro
    refine (View.read_writes_eq_canon _ _ _ (cover_tok _)).trans ?_; rfl
  isplitl [H9]
  · iexists _; isplitr; swap; · iexact H9
    ipureintro
    refine (View.read_writes_eq_canon _ _ _ (cover_hidden _ _ _ _)).trans ?_; rfl
  isplitl [H10]
  · iexists _; isplitr; swap; · iexact H10
    ipureintro
    refine (View.read_writes_eq_canon _ _ _ (cover_tok _)).trans ?_; rfl
  isplitl [H11]
  · iexists _; isplitr; swap; · iexact H11
    ipureintro
    refine (View.read_writes_eq_canon _ _ _ (cover_tok _)).trans ?_; rfl
  isplitl [H12]
  · iexists _; isplitr; swap; · iexact H12
    ipureintro
    refine (View.read_writes_eq_canon _ _ _ (cover_act _ _)).trans ?_; rfl
  iexists _; isplitr; swap; · iexact H13
  ipureintro
  unfold soundA.sl.H13_4 soundA.sl.H13_3 soundA.sl.r_26 soundA.sl.v163 soundA.sl.H13_4 soundA.sl.v157 soundA.sl.H13_3 soundA.sl.v151 soundA.sl.H13_2 soundA.sl.v145 soundA.sl.H13_1
  simp (disch := decide) only [↓ View.readCov_skip, ↓ View.readCov_fill]
  refine (View.read_writes_eq_canon _ _ _ fun y => ⟨_, List.mem_of_getLast? rfl, whole_mem y⟩).trans ?_
  rfl

end Cert.FfnBwdDIdeal.Value

end
-- ==== Proof.Bwd2L1.Frame.lean ====
module

public import proofs.«01_k».proof.Proof.Bwd2L1.Sound
public import Idealize.ShloMosaic.Lib.Claim

@[expose] public section

set_option maxRecDepth 16384

noncomputable section

namespace Cert.FfnBwdDIdeal.Value

open Cert.FfnBwdDIdeal Cert.FfnBwdDIdeal.Gen
open Cert.FfnBwdIdeal.Value (fresh fresh_iff out8 out9 out10 out11 out12 out13 cover_tok cover_hidden cover_act read_writes_over whole_mem)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output buffers hold, point by point -/

/-- The rows of shift, scale and gate the body loads at a point. -/
def shiftRow (c : Dev nD) (t : Fin cfg0.N) : Vec F S1x1x1x1024 .f32 := View.ld (iblk m c 4 t) (Rect.unit (s := S1x1x16x1024) ![0, 0, 6, 0] S1x1x1x1024.size inb_S1x1x16x1024_S1x1x1x1024_0_0_6_0)
def scaleRow (c : Dev nD) (t : Fin cfg0.N) : Vec F S1x1x1x1024 .f32 := View.ld (iblk m c 4 t) (Rect.unit (s := S1x1x16x1024) ![0, 0, 7, 0] S1x1x1x1024.size inb_S1x1x16x1024_S1x1x1x1024_0_0_7_0)
def gateRow (c : Dev nD) (t : Fin cfg0.N) : Vec F S1x1x1x1024 .f32 := View.ld (iblk m c 4 t) (Rect.unit (s := S1x1x16x1024) ![0, 0, 8, 0] S1x1x1x1024.size inb_S1x1x16x1024_S1x1x1x1024_0_0_8_0)

/-- The parameter gradients after a point, the buffer having held `y`. -/
def step (c : Dev nD) (t : Fin cfg0.N) (y : Vec F S1x8x1024 .f32) : Vec F S1x8x1024 .f32 :=
  out13 (iblk m c 0 t) (iblk m c 1 t) (iblk m c 2 t) (iblk m c 3 t) (scaleRow m c t) (gateRow m c t) (iblk m c 5 t) (iblk m c 6 t) (iblk m c 7 t) y

/-- The parameter gradients after point `n`: started anew at the first latent and at the first context point. -/
def acc (c : Dev nD) : (n : ℕ) → n < cfg0.N → Vec F S1x8x1024 .f32
  | 0, h => step m c ⟨0, h⟩ k0_pay2
  | n + 1, h => step m c ⟨n + 1, h⟩ (if (n + 1) % 16 = 0 then k0_pay2 else acc c n (Nat.lt_of_succ_lt h))

theorem not_fresh {t : Fin cfg0.N} (h : ¬ t.val % 16 = 0) : ¬ fresh (grid0.coords t) := fun h' => h ((fresh_iff t).mp h')

theorem acc_fresh (c : Dev nD) (t : Fin cfg0.N) (h : t.val % 16 = 0) : acc m c t.val t.isLt = step m c t k0_pay2 := by
  obtain ⟨n, hn⟩ := t
  cases n with
  | zero => rfl
  | succ n => exact congrArg (step m c ⟨n + 1, hn⟩) (if_pos h)

theorem acc_kept (c : Dev nD) (t : Fin cfg0.N) (h : ¬ t.val % 16 = 0) :
    acc m c t.val t.isLt = step m c t (acc m c (t.val - 1) (Nat.lt_of_le_of_lt (Nat.sub_le _ _) t.isLt)) := by
  obtain ⟨n, hn⟩ := t
  cases n with
  | zero => exact absurd rfl h
  | succ n => exact congrArg (step m c ⟨n + 1, hn⟩) (if_neg h)

/-! ## The pipeline's proof data -/

/-- The arrays as the region finds them; after the body each input's buffer at its block and the outputs at what the
    body computes of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 (iblk m c 0 t) (iblk m c 1 t) (iblk m c 3 t) (scaleRow m c t) (gateRow m c t) (iblk m c 5 t) (iblk m c 6 t) (iblk m c 7 t)
    | ⟨9, _⟩ => out9 (iblk m c 1 t) (iblk m c 3 t) (gateRow m c t) (iblk m c 7 t)
    | ⟨10, _⟩ => out10 (iblk m c 3 t) (gateRow m c t)
    | ⟨11, _⟩ => out11 (iblk m c 0 t) (shiftRow m c t) (scaleRow m c t) (iblk m c 5 t)
    | ⟨12, _⟩ => out12 (iblk m c 1 t)
    | ⟨13, _⟩ => acc m c t.val t.isLt
    | ⟨n + 14, h⟩ => absurd (show n + 14 < 14 from h) (by omega)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = out8 (iblk m c 0 t) (iblk m c 1 t) (iblk m c 3 t) (scaleRow m c t) (gateRow m c t) (iblk m c 5 t) (iblk m c 6 t) (iblk m c 7 t) := by dsimp only [dats]
theorem after_9 (c : Dev nD) (t : Fin cfg0.N) : (dats m 0 c).after 9 t = out9 (iblk m c 1 t) (iblk m c 3 t) (gateRow m c t) (iblk m c 7 t) := by dsimp only [dats]
theorem after_10 (c : Dev nD) (t : Fin cfg0.N) : (dats m 0 c).after 10 t = out10 (iblk m c 3 t) (gateRow m c t) := by dsimp only [dats]
theorem after_11 (c : Dev nD) (t : Fin cfg0.N) : (dats m 0 c).after 11 t = out11 (iblk m c 0 t) (shiftRow m c t) (scaleRow m c t) (iblk m c 5 t) := by dsimp only [dats]
theorem after_12 (c : Dev nD) (t : Fin cfg0.N) : (dats m 0 c).after 12 t = out12 (iblk m c 1 t) := by dsimp only [dats]
theorem after_13 (c : Dev nD) (t : Fin cfg0.N) : (dats m 0 c).after 13 t = acc m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- The window of the parameter gradients is written back after the last latent point, and at the last. -/
theorem flush_13 : ∀ t : Fin cfg0.N, (cfg0.win 13).flush t = true ↔ 15 ≤ t.val := by decide +kernel

/-- The buffer of the parameter gradients holds what the point before left. -/
theorem before_13 (c : Dev nD) (t : Fin cfg0.N) (ht : ¬ t.val % 16 = 0) (d) :
    (dats m 0 c).before 13 t d = acc m c (t.val - 1) (Nat.lt_of_le_of_lt (Nat.sub_le _ _) t.isLt) :=
  ((dats m 0 c).before_out_kept 13 rfl t (fun h => ht (by omega))
    (Bool.eq_false_iff.mpr fun h => by
      have h1 := (flush_13 _).mp h
      have h2 : t.val < 17 := lt_of_lt_of_eq t.isLt (show cfg0.N = 17 from N_0)
      dsimp only at h1; omega)
    (fun _ => rfl) (fun _ _ => rfl) d).trans (after_13 m c _)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 4000000 in
/-- The body at any point: the inputs hold their blocks, the gradients' buffer what the point before left unless they
    start anew; the invariant passes through unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13]
  by_cases h : t.val % 16 = 0
  · rw [acc_fresh m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (soundA c Set.univ (grid0.coords t) ((fresh_iff t).mpr h) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)  _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iintro ⟨H0, H1, H2, H3, H4, H5, H6, H7, H8, H9, H10, H11, H12, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · simp only [before_13 m c t h]
    rw [acc_kept m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (soundB c Set.univ (grid0.coords t) (not_fresh h) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (acc m c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexact H13
    iintro ⟨H0, H1, H2, H3, H4, H5, H6, H7, H8, H9, H10, H11, H12, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every final state has each array at what the proof data say, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they began and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.FfnBwdDIdeal.Value

end
-- ==== Proof.Bwd2L1.Arrays.lean ====
module

public import proofs.«01_k».proof.Proof.Bwd2L1.Frame
public import proofs.«01_k».proof.Proof.FfnBwd.Rows
public import proofs.«01_k».proof.Proof.Ffn.Token
public import Idealize.ShloMosaic.Lib.StableHlo.ReadAt
public import Idealize.ShloMosaic.Lib.Tactic.CleanTypes

/-! The second half-step's backward pass of layer 1: what its grid points read, and the arrays it leaves. -/

@[expose] public section

set_option maxRecDepth 16384

noncomputable section

namespace Macaron.Bwd2L1

open Idealize.ShloMosaic Idealize.ShloMosaic.TcCoe Idealize.SL.Sem Macaron.Bwd
open Cert.FfnBwdDIdeal Cert.FfnBwdDIdeal.Gen Cert.FfnBwdDIdeal.Value

variable (m : (ℓ : Loc nD τ sig) → Buf (Elt Ideal) ℓ) (c : Dev nD)

/-! The arguments, as the functions that `Spec` takes. -/

def aH (r : Fin 4352) (k : Fin 1024) : EReal := m ((c.tc : Thread nD τ).loc main_arg0) (ix2 r k)
def aMods (s : Fin 2) (i : Fin 3) (k : Fin 1024) : EReal :=
  m ((c.tc : Thread nD τ).loc main_arg1) (ix4 1 s ⟨6 + i.val, by omega⟩ k)
def aG (k : Fin 1024) : EReal := m ((c.tc : Thread nD τ).loc main_arg2) (ix3 1 0 k)
def aWi (k : Fin 1024) (j : Fin 5632) : EReal := m ((c.tc : Thread nD τ).loc main_arg3) (ix2 k j)
def aWo (j : Fin 2816) (k : Fin 1024) : EReal := m ((c.tc : Thread nD τ).loc main_arg4) (ix2 j k)
def aD (r : Fin 4352) (k : Fin 1024) : EReal := m ((c.tc : Thread nD τ).loc main_arg5) (ix2 r k)

/-- What the backward pass of the call reads: its arguments, and the two values of the forward pass that the host prepares. -/
def back : Back where
  h := aH m c
  ab := tokWide (aH m c) (aMods m c) (aG m c) (aWi m c)
  f := tokBranch (aH m c) (aMods m c) (aG m c) (aWi m c) (aWo m c)
  dh := aD m c
  mods := aMods m c
  g := aG m c
  wi := aWi m c
  wo := aWo m c

/-- The block indices of the windows at a grid point. -/
theorem idx : ∀ t : Fin cfg0.N,
    win0_0.index t = ![t.val, 0] ∧ win0_1.index t = ![t.val, 0] ∧ win0_2.index t = ![t.val, 0] ∧ win0_3.index t = ![t.val, 0]
      ∧ win0_4.index t = ![1, if t.val < 16 then 0 else 1, 0, 0] ∧ win0_5.index t = ![1, 0, 0]
      ∧ win0_6.index t = ![0, 0, 0] ∧ win0_7.index t = ![0, 0] ∧ win0_8.index t = ![t.val, 0]
      ∧ win0_9.index t = ![t.val, 0] ∧ win0_10.index t = ![t.val, 0] ∧ win0_11.index t = ![t.val, 0]
      ∧ win0_12.index t = ![t.val, 0] ∧ win0_13.index t = ![t.val / 16, 0, 0] :=
  (by decide +kernel : ∀ t : Fin grid0.N, _)

/-- Modulation parameter `i` of token `r`, chosen by the token's place as the host's concatenation does. -/
def pick (i : Fin 16) (r : Fin 4352) (k : Fin 1024) : EReal :=
  if _h : r.val < 4096 then m ((c.tc : Thread nD τ).loc main_arg1) (ix4 1 0 i k)
  else m ((c.tc : Thread nD τ).loc main_arg1) (ix4 1 1 i k)

theorem pick_eq (i : Fin 3) (r : Fin 4352) : pick m c ⟨6 + i.val, by omega⟩ r = aMods m c (stream r) i := by
  funext k
  unfold pick stream aMods
  split <;> rfl

/-- The norm's weight, chosen in the same way from two equal rows. -/
def pickG (r : Fin 4352) (k : Fin 1024) : EReal :=
  if _h : r.val < 4096 then m ((c.tc : Thread nD τ).loc main_arg2) (ix3 1 0 k)
  else m ((c.tc : Thread nD τ).loc main_arg2) (ix3 1 0 k)

theorem pickG_eq (r : Fin 4352) : pickG m c r = aG m c := by
  funext k
  unfold pickG aG
  split <;> rfl

theorem wide_eq (r : Fin 4352) :
    widen (modNorm (aH m c r) (pickG m c r) (pick m c 6 r) (pick m c 7 r)) (aWi m c)
      = tokWide (aH m c) (aMods m c) (aG m c) (aWi m c) r := by
  unfold tokWide tokNorm
  rw [← pick_eq m c 0 r, ← pick_eq m c 1 r, pickG_eq]
  rfl

theorem V_ab (r : Fin 4352) (j : Fin 5632) :
    V m c main_v51 (ix2 r j) = tokWide (aH m c) (aMods m c) (aG m c) (aWi m c) r j := by
  rw [← wide_eq]
  unfold V
  after_reads_at
  after_reads_at
  after_reads_at
  rfl

theorem V_f (r : Fin 4352) (k : Fin 1024) :
    V m c main_v47 (ix2 r k) = tokBranch (aH m c) (aMods m c) (aG m c) (aWi m c) (aWo m c) r k := by
  unfold tokBranch
  rw [← wide_eq]
  unfold V
  after_reads_at
  after_reads_at
  after_reads_at
  rfl

theorem V_wi (s : Fin 4) (k : Fin 1024) (j : Fin 1408) :
    V m c main_v50 (ix3 s k j) = m ((c.tc : Thread nD τ).loc main_arg3) (ix2 k ⟨1408 * s.val + j.val, by omega⟩) := by
  have h : V m c main_v50 (ix3 s k j)
      = m ((c.tc : Thread nD τ).loc main_arg3) (ix2 k ⟨s.val * 1408 + j.val, by omega⟩) := by
    unfold V
    after_reads_at
  rw [h]
  exact congrArg (fun q => m ((c.tc : Thread nD τ).loc main_arg3) (ix2 k q)) (Fin.ext (by simp only; omega))

theorem V_wo (j : Fin 2816) (k : Fin 1024) :
    V m c main_v52 (ix2 j k) = m ((c.tc : Thread nD τ).loc main_arg4) (ix2 j k) := by
  unfold V
  after_reads_at

theorem h_at (t : Fin cfg0.N) (r : Fin 256) (k : Fin 1024) :
    iblk m c 0 t (ix2 r k) = m ((c.tc : Thread nD τ).loc main_arg0) (ix2 (Macaron.Bwd.tok t r) k) := by
  blk_ext! [iblk, V, idx t, Macaron.Bwd.tok]

theorem ab_at (t : Fin cfg0.N) (r : Fin 256) (j : Fin 5632) :
    iblk m c 1 t (ix2 r j) = V m c main_v51 (ix2 (Macaron.Bwd.tok t r) j) := by
  refine congrArg (V m c main_v51) (funext fun a => ?_)
  fin_cases a
  · exact Fin.ext (by blk_simp [idx t, Macaron.Bwd.tok]; simp only [ix2]; omega)
  · exact Fin.ext (by blk_simp [idx t]; rfl)

theorem f_at (t : Fin cfg0.N) (r : Fin 256) (k : Fin 1024) :
    iblk m c 2 t (ix2 r k) = V m c main_v47 (ix2 (Macaron.Bwd.tok t r) k) := by
  refine congrArg (V m c main_v47) (funext fun a => ?_)
  fin_cases a
  · exact Fin.ext (by blk_simp [idx t, Macaron.Bwd.tok]; simp only [ix2]; omega)
  · exact Fin.ext (by blk_simp [idx t]; rfl)

theorem dh_at (t : Fin cfg0.N) (r : Fin 256) (k : Fin 1024) :
    iblk m c 3 t (ix2 r k) = m ((c.tc : Thread nD τ).loc main_arg5) (ix2 (Macaron.Bwd.tok t r) k) := by
  blk_ext! [iblk, V, idx t, Macaron.Bwd.tok]

theorem mods_at (t : Fin cfg0.N) (i : Fin 16) (k : Fin 1024) (r : Fin 256) :
    iblk m c 4 t (ix4 0 0 i k) = m ((c.tc : Thread nD τ).loc main_arg1) (ix4 1 (stream (Macaron.Bwd.tok t r)) i k) := by
  have hs : (stream (Macaron.Bwd.tok t r)).val = if t.val < 16 then 0 else 1 := Fwd.stream_tok t r
  blk_ext! [iblk, V, idx t, hs]

theorem g_at (t : Fin cfg0.N) (k : Fin 1024) :
    iblk m c 5 t (ix3 0 0 k) = m ((c.tc : Thread nD τ).loc main_arg2) (ix3 1 0 k) := by
  blk_ext! [iblk, V, idx t]

theorem wi_at (t : Fin cfg0.N) (s : Fin 4) (k : Fin 1024) (j : Fin 1408) :
    iblk m c 6 t (ix3 s k j) = m ((c.tc : Thread nD τ).loc main_arg3) (ix2 k ⟨1408 * s.val + j.val, by omega⟩) := by
  refine (congrArg (V m c main_v50) (a₂ := ix3 s k j) (funext fun a => ?_)).trans (V_wi m c s k j)
  fin_cases a
  · exact Fin.ext (by blk_simp [idx t])
  · exact Fin.ext (by blk_simp [idx t])
  · exact Fin.ext (by blk_simp [idx t])

theorem wo_at (t : Fin cfg0.N) (j : Fin 2816) (k : Fin 1024) :
    iblk m c 7 t (ix2 j k) = m ((c.tc : Thread nD τ).loc main_arg4) (ix2 j k) := by
  refine (congrArg (V m c main_v52) (a₂ := ix2 j k) (funext fun a => ?_)).trans (V_wo m c j k)
  fin_cases a
  · exact Fin.ext (by blk_simp [idx t])
  · exact Fin.ext (by blk_simp [idx t])

theorem shift_at (t : Fin cfg0.N) (k : Fin 1024) : shiftRow m c t (ix4 0 0 0 k) = iblk m c 4 t (ix4 0 0 6 k) :=
  congrArg (iblk m c 4 t) (Rect.emb_eq_of_coords _ _ _ fun a => by fin_cases a <;> simp [Rect.unit, ix4])

theorem scale_at (t : Fin cfg0.N) (k : Fin 1024) : scaleRow m c t (ix4 0 0 0 k) = iblk m c 4 t (ix4 0 0 7 k) :=
  congrArg (iblk m c 4 t) (Rect.emb_eq_of_coords _ _ _ fun a => by fin_cases a <;> simp [Rect.unit, ix4])

theorem gate_at (t : Fin cfg0.N) (k : Fin 1024) : gateRow m c t (ix4 0 0 0 k) = iblk m c 4 t (ix4 0 0 8 k) :=
  congrArg (iblk m c 4 t) (Rect.emb_eq_of_coords _ _ _ fun a => by fin_cases a <;> simp [Rect.unit, ix4])

/-- What a grid point reads. -/
theorem tile (t : Fin cfg0.N) : Tile (back m c) t (iblk m c 0 t) (iblk m c 1 t) (iblk m c 2 t) (iblk m c 3 t)
    (shiftRow m c t) (scaleRow m c t) (gateRow m c t) (iblk m c 5 t) (iblk m c 6 t) (iblk m c 7 t) where
  h := h_at m c t
  ab r j := (ab_at m c t r j).trans (V_ab m c _ j)
  f r k := (f_at m c t r k).trans (V_f m c _ k)
  dh := dh_at m c t
  shift r k := (shift_at m c t k).trans (mods_at m c t 6 k r)
  scale r k := (scale_at m c t k).trans (mods_at m c t 7 k r)
  gate r k := (gate_at m c t k).trans (mods_at m c t 8 k r)
  g := g_at m c t
  wi := wi_at m c t
  wo := wo_at m c t

theorem final8 : (dats m 0 c).arrAt 8 cfg0.N = fun i : S4352x1024.Idx => (back m c).dtok (i 0) (i 1) := by
  refine (dats m 0 c).arrAt_eq_of_covers 8 _ (by decide +kernel) fun t hf y => ?_
  blk_simp
  rw [after_8]
  obtain ⟨a, b, rfl⟩ : ∃ (a : Fin 256) (b : Fin 1024), y = ix2 a b := ⟨y 0, y 1, eq_ix2 y⟩
  have e0 : (win0_8.blk t).view.emb (ix2 a b) 0 = Macaron.Bwd.tok t a := Fin.ext (by blk_simp [idx t, Macaron.Bwd.tok]; simp only [ix2]; omega)
  have e1 : (win0_8.blk t).view.emb (ix2 a b) 1 = b := Fin.ext (by blk_simp [idx t])
  rw [e0, e1]
  exact out8_at (tile m c t) a b

theorem final9 : (dats m 0 c).arrAt 9 cfg0.N = fun i : S4352x5632.Idx => (back m c).dab (i 0) (i 1) := by
  refine (dats m 0 c).arrAt_eq_of_covers 9 _ (by decide +kernel) fun t hf y => ?_
  blk_simp
  rw [after_9]
  obtain ⟨a, b, rfl⟩ : ∃ (a : Fin 256) (b : Fin 5632), y = ix2 a b := ⟨y 0, y 1, eq_ix2 y⟩
  have e0 : (win0_9.blk t).view.emb (ix2 a b) 0 = Macaron.Bwd.tok t a := Fin.ext (by blk_simp [idx t, Macaron.Bwd.tok]; simp only [ix2]; omega)
  have e1 : (win0_9.blk t).view.emb (ix2 a b) 1 = b := Fin.ext (by blk_simp [idx t])
  rw [e0, e1]
  exact out9_at (tile m c t) a b

theorem final10 : (dats m 0 c).arrAt 10 cfg0.N = fun i : S4352x1024.Idx => (back m c).df (i 0) (i 1) := by
  refine (dats m 0 c).arrAt_eq_of_covers 10 _ (by decide +kernel) fun t hf y => ?_
  blk_simp
  rw [after_10]
  obtain ⟨a, b, rfl⟩ : ∃ (a : Fin 256) (b : Fin 1024), y = ix2 a b := ⟨y 0, y 1, eq_ix2 y⟩
  have e0 : (win0_10.blk t).view.emb (ix2 a b) 0 = Macaron.Bwd.tok t a := Fin.ext (by blk_simp [idx t, Macaron.Bwd.tok]; simp only [ix2]; omega)
  have e1 : (win0_10.blk t).view.emb (ix2 a b) 1 = b := Fin.ext (by blk_simp [idx t])
  rw [e0, e1]
  exact out10_at (tile m c t) a b

theorem final11 : (dats m 0 c).arrAt 11 cfg0.N = fun i : S4352x1024.Idx => (back m c).n (i 0) (i 1) := by
  refine (dats m 0 c).arrAt_eq_of_covers 11 _ (by decide +kernel) fun t hf y => ?_
  blk_simp
  rw [after_11]
  obtain ⟨a, b, rfl⟩ : ∃ (a : Fin 256) (b : Fin 1024), y = ix2 a b := ⟨y 0, y 1, eq_ix2 y⟩
  have e0 : (win0_11.blk t).view.emb (ix2 a b) 0 = Macaron.Bwd.tok t a := Fin.ext (by blk_simp [idx t, Macaron.Bwd.tok]; simp only [ix2]; omega)
  have e1 : (win0_11.blk t).view.emb (ix2 a b) 1 = b := Fin.ext (by blk_simp [idx t])
  rw [e0, e1]
  exact out11_at (tile m c t) a b

theorem final12 : (dats m 0 c).arrAt 12 cfg0.N = fun i : S4352x2816.Idx => gated ((back m c).ab (i 0)) (i 1) := by
  refine (dats m 0 c).arrAt_eq_of_covers 12 _ (by decide +kernel) fun t hf y => ?_
  blk_simp
  rw [after_12]
  obtain ⟨a, b, rfl⟩ : ∃ (a : Fin 256) (b : Fin 2816), y = ix2 a b := ⟨y 0, y 1, eq_ix2 y⟩
  have e0 : (win0_12.blk t).view.emb (ix2 a b) 0 = Macaron.Bwd.tok t a := Fin.ext (by blk_simp [idx t, Macaron.Bwd.tok]; simp only [ix2]; omega)
  have e1 : (win0_12.blk t).view.emb (ix2 a b) 1 = b := Fin.ext (by blk_simp [idx t])
  rw [e0, e1]
  exact out12_at (tile m c t) a b

/-- The parameter gradients after a point: the parts of the tiles since they were started. -/
theorem acc_at (t : Fin cfg0.N) (y : S1x8x1024.Idx) :
    acc m c t.val t.isLt y
      = 0 + ∑ s : Fin (t.val % 16 + 1), part (back m c) ⟨16 * (t.val / 16) + s.val, Pipeline.run_point_lt t rfl s⟩ (y 1) (y 2) := by
  have hp : ∀ (t : Fin cfg0.N) (z : Vec Ideal S1x8x1024 .f32) (y : S1x8x1024.Idx),
      step m c t z y = z y + part (back m c) t (y 1) (y 2) := fun t z y => by
    obtain ⟨a, i, k, rfl⟩ : ∃ (a : Fin 1) (i : Fin 8) (k : Fin 1024), y = ix3 a i k := ⟨y 0, y 1, y 2, eq_ix3 y⟩
    obtain rfl : a = 0 := Subsingleton.elim _ _
    exact out13_at (tile m c t) z i k
  have hz : ∀ y : S1x8x1024.Idx, (k0_pay2 : FVec Ideal S1x8x1024 .f32) y = 0 := fun y => by
    pointwise [k0_pay2]
  refine Pipeline.eq_sum_fin_of_reset_step_apply (fun n h y => acc m c n h y) 16 (fun _ => 0)
    (fun t y => part (back m c) t (y 1) (y 2)) (fun t ht y => ?_) (fun t ht y => ?_) t y
  · beta_reduce
    rw [acc_fresh m c t ht, hp, hz]
  · beta_reduce
    rw [acc_kept m c t ht, hp]

/-- The parts of a stream's tiles, over a range of points that is known by its ends. -/
theorem parts_first (q n : ℕ) (h : ∀ s : Fin n, 16 * q + s.val < cfg0.N) (b : Fin 8) (k : Fin 1024) (hq : q = 0) (hn : n = 16) :
    ∑ s : Fin n, part (back m c) ⟨16 * q + s.val, h s⟩ b k = (back m c).rows 0 b k := by
  subst hq
  subst hn
  rw [← parts_latent (back m c) b k]
  exact Finset.sum_congr rfl fun s _ => congrArg (fun q => part (back m c) q b k) (Fin.ext (by simp only; omega))

theorem parts_second (q n : ℕ) (h : ∀ s : Fin n, 16 * q + s.val < cfg0.N) (b : Fin 8) (k : Fin 1024) (hq : q = 1) (hn : n = 1) :
    ∑ s : Fin n, part (back m c) ⟨16 * q + s.val, h s⟩ b k = (back m c).rows 1 b k := by
  subst hq
  subst hn
  rw [← part_context (back m c) b k]
  exact (Fin.sum_univ_one _).trans (congrArg (fun q => part (back m c) q b k) (Fin.ext (by simp)))

/-- The parameter gradients after a stream's last point: the rows of the stream. -/
theorem acc_last (t : Fin cfg0.N) (ht : t.val = 15 ∨ t.val = 16) (b : Fin 8) (k : Fin 1024) :
    acc m c t.val t.isLt (ix3 0 b k) = (back m c).rows ⟨t.val / 16, by omega⟩ b k := by
  refine (acc_at m c t _).trans ((zero_add _).trans ?_)
  obtain ht | ht := ht
  · rw [show (⟨t.val / 16, by omega⟩ : Fin 2) = 0 from Fin.ext (by show t.val / 16 = 0; omega)]
    exact parts_first m c _ _ _ b k (by omega) (by omega)
  · rw [show (⟨t.val / 16, by omega⟩ : Fin 2) = 1 from Fin.ext (by show t.val / 16 = 1; omega)]
    exact parts_second m c _ _ _ b k (by omega) (by omega)

theorem final13 : (dats m 0 c).arrAt 13 cfg0.N = fun i : S2x8x1024.Idx => (back m c).rows (i 0) (i 1) (i 2) := by
  refine (dats m 0 c).arrAt_eq_of_covers 13 _ (by decide +kernel) fun t hf y => ?_
  have hN : t.val < 17 := lt_of_lt_of_eq t.isLt (show cfg0.N = 17 from N_0)
  have ht := (flush_13 t).mp hf
  have h16 : t.val = 15 ∨ t.val = 16 := by omega
  blk_simp
  rw [after_13]
  obtain ⟨a, b, k, rfl⟩ : ∃ (a : Fin 1) (b : Fin 8) (k : Fin 1024), y = ix3 a b k := ⟨y 0, y 1, y 2, eq_ix3 y⟩
  obtain rfl : a = 0 := Subsingleton.elim _ _
  have e0 : ((win0_13.blk t).view.emb (ix3 0 b k) 0).val = t.val / 16 := by blk_simp [idx t]; rfl
  have e1 : (win0_13.blk t).view.emb (ix3 0 b k) 1 = b := Fin.ext (by blk_simp [idx t])
  have e2 : (win0_13.blk t).view.emb (ix3 0 b k) 2 = k := Fin.ext (by blk_simp [idx t])
  have e0' : (win0_13.blk t).view.emb (ix3 0 b k) 0 = (⟨t.val / 16, by omega⟩ : Fin 2) := Fin.ext e0
  rw [e0', e1, e2]
  exact acc_last m c t h16 b k

end Macaron.Bwd2L1

end
-- ==== Proof.Bwd2L1.Ref.lean ====
module

public import proofs.«01_k».proof.Proof.Gen.FfnBwdDRefIdeal.Run
public import proofs.«01_k».proof.Proof.FfnBwd.Moved

/-! The reference of the second half-step's backward pass of layer 1: line by line it is the first half-step's of layer 0,
at the moved arrays. -/

@[expose] public section

set_option maxRecDepth 16384

noncomputable section

namespace Macaron.Bwd2L1Ref

open Idealize.ShloMosaic Idealize.ShloMosaic.TcCoe Idealize.SL.Sem Idealize.ShloMosaic.StableHlo
open Cert.FfnBwdDRefIdeal Cert.FfnBwdDRefIdeal.Gen Cert.FfnBwdDRefIdeal.Value Macaron.BwdRef

variable (V : Valuation τ sig (Elt Ideal))

theorem v5_at (s : Fin 2) (i : Fin 3) (k : Fin 1024) :
    Cert.FfnBwdDRefIdeal.Value.res_main_v5 V (ix3 s ⟨i.val, by omega⟩ k) = V (Proc.devRef .tc main_arg1) (ix4 1 s ⟨6 + i.val, by omega⟩ k) := by
  unfold Cert.FfnBwdDRefIdeal.Value.res_main_v5
  clean_types
  pointwise

theorem v5_at_g (s : Fin 2) (k : Fin 1024) :
    Cert.FfnBwdDRefIdeal.Value.res_main_v5 V (ix3 s 3 k) = V (Proc.devRef .tc main_arg2) (ix3 1 0 k) := by
  unfold Cert.FfnBwdDRefIdeal.Value.res_main_v5
  clean_types
  pointwise

theorem v5 : Cert.FfnBwdDRefIdeal.Value.res_main_v5 V = Cert.FfnBwdRefIdeal.Value.res_main_v5 (moved 1 6 V) := by
  funext j
  obtain ⟨s, i, k, rfl⟩ : ∃ (s : Fin 2) (i : Fin 4) (k : Fin 1024), j = ix3 s i k := ⟨j 0, j 1, j 2, eq_ix3 j⟩
  by_cases h : i.val < 3
  · exact (v5_at V s ⟨i.val, h⟩ k).trans
      ((rMods_moved 1 6 V (by decide) s ⟨i.val, h⟩ k).symm.trans (BwdRef.v5_at (moved 1 6 V) s ⟨i.val, h⟩ k).symm)
  · obtain rfl : i = 3 := Fin.ext (by show i.val = 3; omega)
    exact (v5_at_g V s k).trans ((rG_moved 1 6 V k).symm.trans (BwdRef.v5_at_g (moved 1 6 V) s k).symm)

theorem v12 : Cert.FfnBwdDRefIdeal.Value.res_main_v12 V = Cert.FfnBwdRefIdeal.Value.res_main_v12 (moved 1 6 V) := by
  unfold Cert.FfnBwdDRefIdeal.Value.res_main_v12 Cert.FfnBwdRefIdeal.Value.res_main_v12
  rw [v5 V]

theorem v33 : Cert.FfnBwdDRefIdeal.Value.res_main_v33 V = Cert.FfnBwdRefIdeal.Value.res_main_v33 (moved 1 6 V) := by
  unfold Cert.FfnBwdDRefIdeal.Value.res_main_v33 Cert.FfnBwdRefIdeal.Value.res_main_v33
  rw [moved_arg0 1 6 V]

theorem v34 : Cert.FfnBwdDRefIdeal.Value.res_main_v34 V = Cert.FfnBwdRefIdeal.Value.res_main_v34 (moved 1 6 V) := by
  unfold Cert.FfnBwdDRefIdeal.Value.res_main_v34 Cert.FfnBwdRefIdeal.Value.res_main_v34
  rw [v33 V]

theorem v39 : Cert.FfnBwdDRefIdeal.Value.res_main_v39 V = Cert.FfnBwdRefIdeal.Value.res_main_v39 (moved 1 6 V) := by
  unfold Cert.FfnBwdDRefIdeal.Value.res_main_v39 Cert.FfnBwdRefIdeal.Value.res_main_v39
  rw [moved_arg0 1 6 V, v34 V]

theorem v40 : Cert.FfnBwdDRefIdeal.Value.res_main_v40 V = Cert.FfnBwdRefIdeal.Value.res_main_v40 (moved 1 6 V) := by
  unfold Cert.FfnBwdDRefIdeal.Value.res_main_v40 Cert.FfnBwdRefIdeal.Value.res_main_v40
  rw [v12 V, v39 V]

theorem v42 : Cert.FfnBwdDRefIdeal.Value.res_main_v42 V = Cert.FfnBwdRefIdeal.Value.res_main_v42 (moved 1 6 V) := by
  unfold Cert.FfnBwdDRefIdeal.Value.res_main_v42 Cert.FfnBwdRefIdeal.Value.res_main_v42
  rw [v5 V]

theorem v44 : Cert.FfnBwdDRefIdeal.Value.res_main_v44 V = Cert.FfnBwdRefIdeal.Value.res_main_v44 (moved 1 6 V) := by
  unfold Cert.FfnBwdDRefIdeal.Value.res_main_v44 Cert.FfnBwdRefIdeal.Value.res_main_v44
  rw [v40 V, v42 V, v5 V]

theorem v45 : Cert.FfnBwdDRefIdeal.Value.res_main_v45 V = Cert.FfnBwdRefIdeal.Value.res_main_v45 (moved 1 6 V) := by
  unfold Cert.FfnBwdDRefIdeal.Value.res_main_v45 Cert.FfnBwdRefIdeal.Value.res_main_v45
  rw [moved_arg3 1 6 V, v44 V]
  rfl

theorem v46 : Cert.FfnBwdDRefIdeal.Value.res_main_v46 V = Cert.FfnBwdRefIdeal.Value.res_main_v46 (moved 1 6 V) := by
  unfold Cert.FfnBwdDRefIdeal.Value.res_main_v46 Cert.FfnBwdRefIdeal.Value.res_main_v46
  rw [v45 V]

theorem v47 : Cert.FfnBwdDRefIdeal.Value.res_main_v47 V = Cert.FfnBwdRefIdeal.Value.res_main_v47 (moved 1 6 V) := by
  unfold Cert.FfnBwdDRefIdeal.Value.res_main_v47 Cert.FfnBwdRefIdeal.Value.res_main_v47
  rw [v45 V]

theorem v48_2 : Cert.FfnBwdDRefIdeal.Value.res_main_v48_2 V = Cert.FfnBwdRefIdeal.Value.res_main_v48_2 (moved 1 6 V) := by
  unfold Cert.FfnBwdDRefIdeal.Value.res_main_v48_2 Cert.FfnBwdRefIdeal.Value.res_main_v48_2
  rw [v46 V]

theorem v48_0 : Cert.FfnBwdDRefIdeal.Value.res_main_v48_0 V = Cert.FfnBwdRefIdeal.Value.res_main_v48_0 (moved 1 6 V) := by
  unfold Cert.FfnBwdDRefIdeal.Value.res_main_v48_0 Cert.FfnBwdRefIdeal.Value.res_main_v48_0
  rw [v46 V, v48_2 V]

theorem v49 : Cert.FfnBwdDRefIdeal.Value.res_main_v49 V = Cert.FfnBwdRefIdeal.Value.res_main_v49 (moved 1 6 V) := by
  unfold Cert.FfnBwdDRefIdeal.Value.res_main_v49 Cert.FfnBwdRefIdeal.Value.res_main_v49
  rw [v47 V, v48_0 V]

theorem v50 : Cert.FfnBwdDRefIdeal.Value.res_main_v50 V = Cert.FfnBwdRefIdeal.Value.res_main_v50 (moved 1 6 V) := by
  unfold Cert.FfnBwdDRefIdeal.Value.res_main_v50 Cert.FfnBwdRefIdeal.Value.res_main_v50
  rw [moved_arg4 1 6 V, v49 V]
  rfl

theorem v59 : Cert.FfnBwdDRefIdeal.Value.res_main_v59 V = Cert.FfnBwdRefIdeal.Value.res_main_v59 (moved 1 6 V) := by
  unfold Cert.FfnBwdDRefIdeal.Value.res_main_v59 Cert.FfnBwdRefIdeal.Value.res_main_v59
  rw [v5 V]

theorem v62 : Cert.FfnBwdDRefIdeal.Value.res_main_v62 V = Cert.FfnBwdRefIdeal.Value.res_main_v62 (moved 1 6 V) := by
  unfold Cert.FfnBwdDRefIdeal.Value.res_main_v62 Cert.FfnBwdRefIdeal.Value.res_main_v62
  rw [moved_arg5 1 6 V]
  rfl

theorem v63 : Cert.FfnBwdDRefIdeal.Value.res_main_v63 V = Cert.FfnBwdRefIdeal.Value.res_main_v63 (moved 1 6 V) := by
  unfold Cert.FfnBwdDRefIdeal.Value.res_main_v63 Cert.FfnBwdRefIdeal.Value.res_main_v63
  rw [v59 V, v62 V]

theorem v66 : Cert.FfnBwdDRefIdeal.Value.res_main_v66 V = Cert.FfnBwdRefIdeal.Value.res_main_v66 (moved 1 6 V) := by
  unfold Cert.FfnBwdDRefIdeal.Value.res_main_v66 Cert.FfnBwdRefIdeal.Value.res_main_v66
  rw [v50 V, v62 V]

theorem v76 : Cert.FfnBwdDRefIdeal.Value.res_main_v76 V = Cert.FfnBwdRefIdeal.Value.res_main_v76 (moved 1 6 V) := by
  unfold Cert.FfnBwdDRefIdeal.Value.res_main_v76 Cert.FfnBwdRefIdeal.Value.res_main_v76
  rw [moved_arg4 1 6 V, v63 V]
  rfl

theorem v78 : Cert.FfnBwdDRefIdeal.Value.res_main_v78 V = Cert.FfnBwdRefIdeal.Value.res_main_v78 (moved 1 6 V) := by
  unfold Cert.FfnBwdDRefIdeal.Value.res_main_v78 Cert.FfnBwdRefIdeal.Value.res_main_v78
  rw [v47 V, v76 V]

theorem v80 : Cert.FfnBwdDRefIdeal.Value.res_main_v80 V = Cert.FfnBwdRefIdeal.Value.res_main_v80 (moved 1 6 V) := by
  unfold Cert.FfnBwdDRefIdeal.Value.res_main_v80 Cert.FfnBwdRefIdeal.Value.res_main_v80
  rw [v46 V, v48_0 V, v48_2 V, v76 V, v78 V]

theorem v81 : Cert.FfnBwdDRefIdeal.Value.res_main_v81 V = Cert.FfnBwdRefIdeal.Value.res_main_v81 (moved 1 6 V) := by
  unfold Cert.FfnBwdDRefIdeal.Value.res_main_v81 Cert.FfnBwdRefIdeal.Value.res_main_v81
  rw [moved_arg3 1 6 V, v80 V]
  rfl

theorem v82 : Cert.FfnBwdDRefIdeal.Value.res_main_v82 V = Cert.FfnBwdRefIdeal.Value.res_main_v82 (moved 1 6 V) := by
  unfold Cert.FfnBwdDRefIdeal.Value.res_main_v82 Cert.FfnBwdRefIdeal.Value.res_main_v82
  rw [v40 V, v81 V]

theorem v83 : Cert.FfnBwdDRefIdeal.Value.res_main_v83 V = Cert.FfnBwdRefIdeal.Value.res_main_v83 (moved 1 6 V) := by
  unfold Cert.FfnBwdDRefIdeal.Value.res_main_v83 Cert.FfnBwdRefIdeal.Value.res_main_v83
  rw [v42 V, v81 V]

theorem v84 : Cert.FfnBwdDRefIdeal.Value.res_main_v84 V = Cert.FfnBwdRefIdeal.Value.res_main_v84 (moved 1 6 V) := by
  unfold Cert.FfnBwdDRefIdeal.Value.res_main_v84 Cert.FfnBwdRefIdeal.Value.res_main_v84
  rw [v39 V, v83 V]

theorem v85 : Cert.FfnBwdDRefIdeal.Value.res_main_v85 V = Cert.FfnBwdRefIdeal.Value.res_main_v85 (moved 1 6 V) := by
  unfold Cert.FfnBwdDRefIdeal.Value.res_main_v85 Cert.FfnBwdRefIdeal.Value.res_main_v85
  rw [v12 V, v83 V]

theorem v95 : Cert.FfnBwdDRefIdeal.Value.res_main_v95 V = Cert.FfnBwdRefIdeal.Value.res_main_v95 (moved 1 6 V) := by
  unfold Cert.FfnBwdDRefIdeal.Value.res_main_v95 Cert.FfnBwdRefIdeal.Value.res_main_v95
  rw [moved_arg0 1 6 V, v33 V, v34 V, v85 V]

set_option maxHeartbeats 4000000 in
/-- The reference's run, its results as the first reference's at the moved arrays. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v132) = outTok (moved 1 6 (launchContents m c))
      ∧ r.2.mem ((c.tc : Thread nD τ).loc main_v133)
        = (truncf .bf16 (Cert.FfnBwdRefIdeal.Value.res_main_v80 (moved 1 6 (launchContents m c))) Cert.FfnBwdRefIdeal.Gen.bitsLt_bf16_f32 : FVec Ideal S4352x5632 .bf16)
      ∧ r.2.mem ((c.tc : Thread nD τ).loc main_v134)
        = (truncf .bf16 (Cert.FfnBwdRefIdeal.Value.res_main_v63 (moved 1 6 (launchContents m c))) Cert.FfnBwdRefIdeal.Gen.bitsLt_bf16_f32 : FVec Ideal S4352x1024 .bf16)
      ∧ r.2.mem ((c.tc : Thread nD τ).loc main_v135)
        = (truncf .bf16 (Cert.FfnBwdRefIdeal.Value.res_main_v44 (moved 1 6 (launchContents m c))) Cert.FfnBwdRefIdeal.Gen.bitsLt_bf16_f32 : FVec Ideal S4352x1024 .bf16)
      ∧ r.2.mem ((c.tc : Thread nD τ).loc main_v136)
        = (truncf .bf16 (Cert.FfnBwdRefIdeal.Value.res_main_v49 (moved 1 6 (launchContents m c))) Cert.FfnBwdRefIdeal.Gen.bitsLt_bf16_f32 : FVec Ideal S4352x2816 .bf16)
      ∧ r.2.mem ((c.tc : Thread nD τ).loc main_v131) = outRows (moved 1 6 (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run Cert.FfnBwdDRefIdeal.defs _ _).mono (fun r h c => ?_) (Cert.FfnBwdDRefIdeal.Value.run m ρ)
  obtain ⟨h0, h1, h2, h3, h4, h5, h6⟩ := h c
  refine ⟨h0.trans ?_, h1.trans ?_, h2.trans ?_, h3.trans ?_, h4.trans ?_, h5.trans ?_, h6⟩
  · unfold outTok
    rw [moved_arg0, moved_arg5, v34, v85, v95]
    rfl
  · rw [v80]
    rfl
  · rw [v63]
    rfl
  · rw [v44]
    rfl
  · rw [v49]
    rfl
  · unfold outRows
    rw [v66, v81, v82, v84]
    rfl

end Macaron.Bwd2L1Ref

end
-- ==== Proof.Bwd2L1.Claims.lean ====
module

public import proofs.«01_k».proof.Defs
public import proofs.«01_k».proof.Proof.Gen.FfnBwdD
public import proofs.«01_k».proof.Proof.Gen.Pre_finite
public import proofs.«01_k».proof.Proof.Bwd2L1.Arrays
public import proofs.«01_k».proof.Proof.Bwd2L1.Ref
public import proofs.«01_k».proof.Proof.FfnBwd.Given

/-! The second half-step's backward pass of layer 1: its claims. -/

@[expose] public section

set_option maxRecDepth 16384

noncomputable section

namespace Macaron.Bwd2L1

open Idealize.ShloMosaic Idealize.ShloMosaic.TcCoe Idealize.SL.Sem Idealize.ShloMosaic.StableHlo

/-! The program over machine floats is the program over extended reals, read at another number type. -/

section Bits

set_option maxHeartbeats 8000000

variable {F : FTy → Type} [FloatOps F]

theorem defs₀_eq : Cert.FfnBwdD.defs₀ (F := F) = Cert.FfnBwdDIdeal.defs₀ (F := F) := by
  unfold Cert.FfnBwdD.defs₀ Cert.FfnBwdDIdeal.defs₀
  refine congrArg Defs.onTc (funext fun l => ?_)
  match l with
  | 0 => exact funext fun ⟨t, s⟩ => rfl
  | ⟨n + 1, h⟩ => exact absurd h (Nat.not_lt.2 (Nat.le_add_left _ _))

theorem defs_eq : Cert.FfnBwdD.defs (F := F) = Cert.FfnBwdDIdeal.defs (F := F) := by
  unfold Cert.FfnBwdD.defs Cert.FfnBwdDIdeal.defs
  rw [defs₀_eq]; rfl

theorem main_eq : Cert.FfnBwdD.main (F := F) = Cert.FfnBwdDIdeal.main (F := F) := rfl

theorem frame : Cert.quiescent_FfnBwdD := fun m ρ _ => by
  have h := Cert.FfnBwdDIdeal.Value.frame m ρ
  rw [← main_eq, ← defs_eq] at h
  exact h

end Bits

theorem frame_ideal : Cert.quiescent_FfnBwdDIdeal := fun m ρ _ => Cert.FfnBwdDIdeal.Value.frame m ρ

theorem frame_ideal_finite : Cert.quiescent_FfnBwdDIdeal_pre_finite := fun m ρ _ => Cert.FfnBwdDIdeal.Value.frame m ρ

theorem frame_ref : Cert.quiescent_FfnBwdDRefIdeal := fun m ρ _ =>
  (θ_run Cert.FfnBwdDRefIdeal.defs _ _).mono
    (fun r h => ⟨fun c => (h c).2.2.2.2.2.2, sem_eq_zero_of_no_sems (by decide) r.2⟩) (Cert.FfnBwdDRefIdeal.Value.run m ρ)

theorem frame_ref_finite : Cert.quiescent_FfnBwdDRefIdeal_pre_finite := fun m ρ _ => frame_ref m ρ trivial

/-- Under the precondition everything that the backward pass reads is real. -/
theorem real (m : (ℓ : Loc Cert.FfnBwdDIdeal.nD Cert.FfnBwdDIdeal.τ Cert.FfnBwdDIdeal.sig) → Buf (Elt Ideal) ℓ)
    (h : Cert.Pre_FfnBwdDIdeal_finite m) (c : Dev Cert.FfnBwdDIdeal.nD) : (back m c).Real := by
  obtain ⟨h0, h1, h2, h3, h4, h5⟩ := real_of_finite (h c)
  exact ⟨fun r k => h0 _, tokWide_real (fun r k => h0 _) (fun s i k => h1 _) (fun k => h2 _) (fun k j => h3 _),
    fun r k => h5 _, fun s i k => h1 _, fun k => h2 _, fun k j => h3 _, fun j k => h4 _⟩

section Kernel

open Cert.FfnBwdDIdeal Cert.FfnBwdDIdeal.Value

set_option maxHeartbeats 4000000 in
/-- The kernel's run: its six results, the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v53_0) = (dats m 0 c).arrAt 8 cfg0.N
      ∧ r.2.mem ((c.tc : Thread nD τ).loc main_v53_1) = (dats m 0 c).arrAt 9 cfg0.N
      ∧ r.2.mem ((c.tc : Thread nD τ).loc main_v53_2) = (dats m 0 c).arrAt 10 cfg0.N
      ∧ r.2.mem ((c.tc : Thread nD τ).loc main_v53_3) = (dats m 0 c).arrAt 11 cfg0.N
      ∧ r.2.mem ((c.tc : Thread nD τ).loc main_v53_4) = (dats m 0 c).arrAt 12 cfg0.N
      ∧ r.2.mem ((c.tc : Thread nD τ).loc main_v53_5) = (dats m 0 c).arrAt 13 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono
    (fun r h c => ⟨(h.1 c).1 8, (h.1 c).1 9, (h.1 c).1 10, (h.1 c).1 11, (h.1 c).1 12, (h.1 c).1 13, h.2.1 c⟩)
    (θ_run_and (run_main m ρ) (Cert.FfnBwdDIdeal.Value.frame m ρ))

end Kernel

set_option maxHeartbeats 4000000 in
/-- The kernel's six results are the reference's. -/
theorem algebraic : Cert.algebraic_FfnBwdDIdeal_FfnBwdDRefIdeal_pre_finite := by
  intro m g m' g' hp hm
  refine ⟨fun c => (Cert.FfnBwdDIdeal.Value.dats m 0 c).arrAt 8 Cert.FfnBwdDIdeal.cfg0.N,
    fun c => (Cert.FfnBwdDIdeal.Value.dats m 0 c).arrAt 9 Cert.FfnBwdDIdeal.cfg0.N,
    fun c => (Cert.FfnBwdDIdeal.Value.dats m 0 c).arrAt 10 Cert.FfnBwdDIdeal.cfg0.N,
    fun c => (Cert.FfnBwdDIdeal.Value.dats m 0 c).arrAt 11 Cert.FfnBwdDIdeal.cfg0.N,
    fun c => (Cert.FfnBwdDIdeal.Value.dats m 0 c).arrAt 12 Cert.FfnBwdDIdeal.cfg0.N,
    fun c => (Cert.FfnBwdDIdeal.Value.dats m 0 c).arrAt 13 Cert.FfnBwdDIdeal.cfg0.N, kernel_run m g, ?_⟩
  refine (θ_run Cert.FfnBwdDRefIdeal.defs _ _).mono (fun r h c => ?_) (Bwd2L1Ref.run m' g')
  obtain ⟨h0, h1, h2, h3, h4, h5, h6⟩ := h c
  obtain ⟨e0, e1, e2, e3, e4, e5⟩ := hm c
  have eB : BwdRef.back (BwdRef.moved 1 6 (launchContents m' c)) = back m c := by
    have eH : BwdRef.rH (BwdRef.moved 1 6 (launchContents m' c)) = aH m c := funext fun _ => funext fun _ =>
      (congrFun (BwdRef.moved_arg0 1 6 (launchContents m' c)) _).trans (congrFun e0 _)
    have eM : BwdRef.rMods (BwdRef.moved 1 6 (launchContents m' c)) = aMods m c := funext fun _ => funext fun _ => funext fun _ =>
      (BwdRef.rMods_moved 1 6 (launchContents m' c) (by decide) _ _ _).trans (congrFun e1 _)
    have eG : BwdRef.rG (BwdRef.moved 1 6 (launchContents m' c)) = aG m c := funext fun _ =>
      (BwdRef.rG_moved 1 6 (launchContents m' c) _).trans (congrFun e2 _)
    have eI : BwdRef.rWi (BwdRef.moved 1 6 (launchContents m' c)) = aWi m c := funext fun _ => funext fun _ =>
      (congrFun (BwdRef.moved_arg3 1 6 (launchContents m' c)) _).trans (congrFun e3 _)
    have eO : BwdRef.rWo (BwdRef.moved 1 6 (launchContents m' c)) = aWo m c := funext fun _ => funext fun _ =>
      (congrFun (BwdRef.moved_arg4 1 6 (launchContents m' c)) _).trans (congrFun e4 _)
    have eD : BwdRef.rD (BwdRef.moved 1 6 (launchContents m' c)) = aD m c := funext fun _ => funext fun _ =>
      (congrFun (BwdRef.moved_arg5 1 6 (launchContents m' c)) _).trans (congrFun e5 _)
    unfold BwdRef.back back
    rw [eH, eM, eG, eI, eO, eD]
  obtain ⟨f0, f1, f2, f3, f4, f5⟩ := BwdRef.results (BwdRef.moved 1 6 (launchContents m' c)) (eB ▸ real m hp c)
  rw [eB] at f0 f1 f2 f3 f4 f5
  exact ⟨(h0.trans f0).trans (final8 m c).symm, (h1.trans f1).trans (final9 m c).symm, (h2.trans f2).trans (final10 m c).symm,
    (h3.trans f3).trans (final11 m c).symm, (h4.trans f4).trans (final12 m c).symm, (h5.trans f5).trans (final13 m c).symm, h6⟩

end Macaron.Bwd2L1

end
-- ==== Proof.Wgrad.Spec.lean ====
module

public import proofs.«01_k».proof.Defs
public import Idealize.ShloMosaic.Lib.Pipeline.ValueKit

/-! The gradient of a weight: an entry is the sum over the tokens of an input times a cotangent. -/

@[expose] public section

set_option maxRecDepth 16384

noncomputable section

namespace Macaron.Wgrad

open Idealize.ShloMosaic

/-- The sum over the tokens of column `i` of the input against column `j` of the cotangent. -/
def colDot {S K J : Nat} (x : (⟨2, ![S, K]⟩ : Shape).Idx → EReal) (y : (⟨2, ![S, J]⟩ : Shape).Idx → EReal)
    (i : Fin K) (j : Fin J) : EReal := ∑ p : Fin S, x (ix2 p i) * y (ix2 p j)

/-- Two such sums are equal if their columns are. -/
theorem colDot_congr {S K J K' J' : Nat} {x : (⟨2, ![S, K]⟩ : Shape).Idx → EReal} {y : (⟨2, ![S, J]⟩ : Shape).Idx → EReal}
    {x' : (⟨2, ![S, K']⟩ : Shape).Idx → EReal} {y' : (⟨2, ![S, J']⟩ : Shape).Idx → EReal} {i : Fin K} {j : Fin J}
    {i' : Fin K'} {j' : Fin J'} (hx : ∀ p, x (ix2 p i) = x' (ix2 p i')) (hy : ∀ p, y (ix2 p j) = y' (ix2 p j')) :
    colDot x y i j = colDot x' y' i' j' := Finset.sum_congr rfl fun p _ => by rw [hx, hy]

/-- The order of the factors is of no matter. -/
theorem colDot_comm {S K J : Nat} (x : (⟨2, ![S, K]⟩ : Shape).Idx → EReal) (y : (⟨2, ![S, J]⟩ : Shape).Idx → EReal)
    (i : Fin K) (j : Fin J) : (∑ p : Fin S, y (ix2 p j) * x (ix2 p i)) = colDot x y i j :=
  Finset.sum_congr rfl fun _ _ => mul_comm _ _

end Macaron.Wgrad

end
-- ==== Proof.Wgrad.InWgrad.lean ====
module

public import proofs.«01_k».proof.Defs
public import proofs.«01_k».proof.Proof.Wgrad.Spec
public import proofs.«01_k».proof.Proof.Gen.InWgrad
public import proofs.«01_k».proof.Proof.Gen.InWgrad.Frame
public import proofs.«01_k».proof.Proof.Gen.InWgradIdeal.Value
public import proofs.«01_k».proof.Proof.Gen.InWgradRefIdeal.Run
public import proofs.«01_k».proof.Proof.Gen.InWgradRefIdeal
public import Idealize.ShloMosaic.Lib.Pipeline.ValueKit
public import Idealize.ShloMosaic.Lib.Tactic.CleanTypes
public import Idealize.ShloMosaic.Adequacy
public import Idealize.ShloMosaic.Init

/-! The gradient of the widening weight: the kernel writes the four shards of the reference's product. -/

@[expose] public section

set_option maxRecDepth 16384

noncomputable section

namespace Macaron.InWgrad

open Idealize.ShloMosaic Idealize.ShloMosaic.TcCoe Idealize.SL.Sem Macaron.Wgrad
open Cert.InWgradIdeal Cert.InWgradIdeal.Gen

section Kernel

variable (m : (ℓ : Loc nD τ sig) → Buf (Elt Ideal) ℓ) (c : Dev nD)

/-- The tokens. -/
def xs : S4352x1024.Idx → EReal := m ((c.tc : Thread nD τ).loc main_arg0)
/-- Their cotangents. -/
def dys : S4352x5632.Idx → EReal := m ((c.tc : Thread nD τ).loc main_arg1)

/-- The column that column `j` of shard `s` is of the whole. -/
def col (s : Fin 4) (j : Fin 1408) : Fin 5632 := ⟨s.val * 1408 + j.val, by omega⟩
def slot (t : Fin cfg0.N) : Fin 4 := ⟨t.val / 2, by have := t.2; simp only [show cfg0.N = 8 from rfl] at this; omega⟩
def row (t : Fin cfg0.N) (a : Fin 512) : Fin 1024 := ⟨512 * (t.val % 2) + a.val, by have := t.2; simp only [show cfg0.N = 8 from rfl] at this; omega⟩

/-- The gradient, shard by shard. -/
def grad : S4x1024x1408.Idx → EReal := fun i => colDot (xs m c) (dys m c) (i 1) (col (i 0) (i 2))

theorem idx : ∀ t : Fin cfg0.N,
    win0_0.index t = ![0, t.val % 2] ∧ win0_1.index t = ![0, t.val / 2]
      ∧ win0_2.index t = ![t.val / 2, t.val % 2, 0] ∧ win0_3.index t = ![t.val / 2, t.val % 2, 0] :=
  (by decide +kernel : ∀ t : Fin grid0.N, _)

theorem x_at (t : Fin cfg0.N) (p : Fin 4352) (a : Fin 512) : iblk m c 0 t (ix2 p a) = xs m c (ix2 p (row t a)) := by
  blk_ext! [iblk, V, idx t, row, xs]

theorem dy_at (t : Fin cfg0.N) (p : Fin 4352) (b : Fin 1408) :
    iblk m c 1 t (ix2 p b) = dys m c (ix2 p (col (slot t) b)) := by
  blk_ext! [iblk, V, idx t, slot, col, dys]

theorem pay_at (x : Vec Ideal S4352x512 .bf16) (y : Vec Ideal S4352x1408 .bf16) (a : Fin 512) (b : Fin 1408) :
    k0_pay2 x y (ix3 0 a b) = colDot x y a b := by
  unfold colDot
  pointwise [k0_pay2, k0_pay1]

theorem after2 (t : Fin cfg0.N) (a : Fin 512) (b : Fin 1408) :
    (dats m 0 c).after 2 t (ix3 0 a b) = grad m c (ix3 (slot t) (row t a) b) := by
  rw [after0_2]
  unfold outsAt0
  frame_out
  exact (pay_at _ _ a b).trans (colDot_congr (x_at m c t · a) (dy_at m c t · b))

theorem after3 (t : Fin cfg0.N) (a : Fin 512) (b : Fin 1408) :
    (dats m 0 c).after 3 t (ix3 0 a b) = grad m c (ix3 (slot t) (row t a) b) := by
  rw [after0_3]
  unfold outsAt0
  frame_out
  refine Eq.trans ?_ ((pay_at _ _ a b).trans (colDot_congr (x_at m c t · a) (dy_at m c t · b)))
  pointwise [k0_pay4]

theorem final2 : (dats m 0 c).arrAt 2 cfg0.N = grad m c := by
  refine (dats m 0 c).arrAt_eq_of_covers 2 _ (by decide +kernel) fun t hf y => ?_
  blk_simp
  obtain ⟨z, a, b, rfl⟩ : ∃ (z : Fin 1) (a : Fin 512) (b : Fin 1408), y = ix3 z a b := ⟨y 0, y 1, y 2, eq_ix3 y⟩
  obtain rfl : z = 0 := Subsingleton.elim _ _
  have e0 : (win0_2.blk t).view.emb (ix3 0 a b) 0 = slot t := Fin.ext (by blk_simp [idx t, slot]; rfl)
  have e1 : (win0_2.blk t).view.emb (ix3 0 a b) 1 = row t a := Fin.ext (by blk_simp [idx t, row]; simp only [ix3]; omega)
  have e2 : (win0_2.blk t).view.emb (ix3 0 a b) 2 = b := Fin.ext (by blk_simp [idx t])
  rw [eq_ix3 ((win0_2.blk t).view.emb (ix3 0 a b)), e0, e1, e2]
  exact after2 m c t a b

theorem final3 : (dats m 0 c).arrAt 3 cfg0.N = grad m c := by
  refine (dats m 0 c).arrAt_eq_of_covers 3 _ (by decide +kernel) fun t hf y => ?_
  blk_simp
  obtain ⟨z, a, b, rfl⟩ : ∃ (z : Fin 1) (a : Fin 512) (b : Fin 1408), y = ix3 z a b := ⟨y 0, y 1, y 2, eq_ix3 y⟩
  obtain rfl : z = 0 := Subsingleton.elim _ _
  have e0 : (win0_3.blk t).view.emb (ix3 0 a b) 0 = slot t := Fin.ext (by blk_simp [idx t, slot]; rfl)
  have e1 : (win0_3.blk t).view.emb (ix3 0 a b) 1 = row t a := Fin.ext (by blk_simp [idx t, row]; simp only [ix3]; omega)
  have e2 : (win0_3.blk t).view.emb (ix3 0 a b) 2 = b := Fin.ext (by blk_simp [idx t])
  rw [eq_ix3 ((win0_3.blk t).view.emb (ix3 0 a b)), e0, e1, e2]
  exact after3 m c t a b

end Kernel

section Reference

variable (m : (ℓ : Loc Cert.InWgradRefIdeal.nD Cert.InWgradRefIdeal.τ Cert.InWgradRefIdeal.sig) → Buf (Elt Ideal) ℓ)
  (g : Dev Cert.InWgradRefIdeal.nD → PrngReg)

/-- The reference's gradient, of its own arguments. -/
def refGrad (c : Dev Cert.InWgradRefIdeal.nD) : S4x1024x1408.Idx → EReal := fun i =>
  colDot (K := 1024) (J := 5632) (m ((c.tc : Thread Cert.InWgradRefIdeal.nD Cert.InWgradRefIdeal.τ).loc Cert.InWgradRefIdeal.main_arg0))
    (m ((c.tc : Thread Cert.InWgradRefIdeal.nD Cert.InWgradRefIdeal.τ).loc Cert.InWgradRefIdeal.main_arg1)) (i 1) (col (i 0) (i 2))

theorem ref_run : θ_run (Cert.InWgradRefIdeal.defs (F := Ideal)) (onTc (Cert.InWgradRefIdeal.main (F := Ideal))) ⟨m, fun _ => 0, g⟩ fun r =>
    ∀ c : Dev Cert.InWgradRefIdeal.nD, r.2.mem ((c.tc : Thread Cert.InWgradRefIdeal.nD Cert.InWgradRefIdeal.τ).loc Cert.InWgradRefIdeal.main_v5) = refGrad m c
      ∧ r.2.mem ((c.tc : Thread Cert.InWgradRefIdeal.nD Cert.InWgradRefIdeal.τ).loc Cert.InWgradRefIdeal.main_v6) = refGrad m c
      ∧ r.2.mem ((c.tc : Thread Cert.InWgradRefIdeal.nD Cert.InWgradRefIdeal.τ).loc Cert.InWgradRefIdeal.main_arg0) = m ((c.tc : Thread Cert.InWgradRefIdeal.nD Cert.InWgradRefIdeal.τ).loc Cert.InWgradRefIdeal.main_arg0)
      ∧ r.2.mem ((c.tc : Thread Cert.InWgradRefIdeal.nD Cert.InWgradRefIdeal.τ).loc Cert.InWgradRefIdeal.main_arg1) = m ((c.tc : Thread Cert.InWgradRefIdeal.nD Cert.InWgradRefIdeal.τ).loc Cert.InWgradRefIdeal.main_arg1) := by
  refine (θ_run _ _ _).mono (fun r h c => ?_) (Cert.InWgradRefIdeal.Value.run m g)
  obtain ⟨h0, h1, h2, h3⟩ := h c
  have e : r.2.mem ((c.tc : Thread Cert.InWgradRefIdeal.nD Cert.InWgradRefIdeal.τ).loc Cert.InWgradRefIdeal.main_v5) = refGrad m c := by
    refine h0.trans (funext fun i => ?_)
    obtain ⟨s, k, j, rfl⟩ : ∃ (s : Fin 4) (k : Fin 1024) (j : Fin 1408), i = ix3 s k j := ⟨i 0, i 1, i 2, eq_ix3 i⟩
    refine Eq.trans ?_ (colDot_comm _ _ k (col s j))
    clean_types
    pointwise
    rfl
  exact ⟨e, h1.trans (h0.symm.trans e), h2, h3⟩

end Reference

theorem frame : Cert.quiescent_InWgrad := fun m ρ _ => Cert.InWgrad.Gen.frame m ρ

theorem frame_ideal : Cert.quiescent_InWgradIdeal := fun m ρ _ => Cert.InWgradIdeal.Gen.frame m ρ

theorem frame_ref : Cert.quiescent_InWgradRefIdeal := fun m ρ _ =>
  (θ_run Cert.InWgradRefIdeal.defs _ _).mono
    (fun r h => ⟨fun c => (h c).2.2, sem_eq_zero_of_no_sems (by decide) r.2⟩) (Cert.InWgradRefIdeal.Value.run m ρ)

/-- The kernel's two results are the reference's. -/
theorem algebraic : Cert.algebraic_InWgradIdeal_InWgradRefIdeal := by
  intro m g m' g' _ hm
  refine ⟨fun c => (dats m 0 c).arrAt 2 cfg0.N, fun c => (dats m 0 c).arrAt 3 cfg0.N, Cert.InWgradIdeal.Value.run_blocks m g, ?_⟩
  refine (θ_run Cert.InWgradRefIdeal.defs _ _).mono (fun r h c => ?_) (ref_run m' g')
  obtain ⟨h0, h1, h2⟩ := h c
  obtain ⟨e0, e1⟩ := hm c
  have e : refGrad m' c = grad m c := funext fun i =>
    colDot_congr (fun p => congrFun e0 _) (fun p => congrFun e1 _)
  exact ⟨h0.trans (e.trans (final2 m c).symm), h1.trans (e.trans (final3 m c).symm), h2⟩

end Macaron.InWgrad

end
-- ==== Proof.Wgrad.OutWgrad.lean ====
module

public import proofs.«01_k».proof.Defs
public import proofs.«01_k».proof.Proof.Wgrad.Spec
public import proofs.«01_k».proof.Proof.Gen.OutWgrad
public import proofs.«01_k».proof.Proof.Gen.OutWgrad.Frame
public import proofs.«01_k».proof.Proof.Gen.OutWgradIdeal.Value
public import proofs.«01_k».proof.Proof.Gen.OutWgradRefIdeal.Run
public import proofs.«01_k».proof.Proof.Gen.OutWgradRefIdeal
public import Idealize.ShloMosaic.Lib.Pipeline.ValueKit
public import Idealize.ShloMosaic.Lib.Tactic.CleanTypes
public import Idealize.ShloMosaic.Adequacy
public import Idealize.ShloMosaic.Init

/-! The gradient of the narrowing weight: the kernel's tiles are those of the reference's product. -/

@[expose] public section

set_option maxRecDepth 16384

noncomputable section

namespace Macaron.OutWgrad

open Idealize.ShloMosaic Idealize.ShloMosaic.TcCoe Idealize.SL.Sem Macaron.Wgrad
open Cert.OutWgradIdeal Cert.OutWgradIdeal.Gen

section Kernel

variable (m : (ℓ : Loc nD τ sig) → Buf (Elt Ideal) ℓ) (c : Dev nD)

/-- The tokens. -/
def xs : S4352x2816.Idx → EReal := m ((c.tc : Thread nD τ).loc main_arg0)
/-- Their cotangents. -/
def dys : S4352x1024.Idx → EReal := m ((c.tc : Thread nD τ).loc main_arg1)

/-- The row and the column of the gradient at which entry `(a, b)` of block `t` stands. -/
def row (t : Fin cfg0.N) (a : Fin 1408) : Fin 2816 := ⟨1408 * (t.val / 2) + a.val, by have := t.2; simp only [show cfg0.N = 4 from rfl] at this; omega⟩
def col (t : Fin cfg0.N) (b : Fin 512) : Fin 1024 := ⟨512 * (t.val % 2) + b.val, by have := t.2; simp only [show cfg0.N = 4 from rfl] at this; omega⟩

/-- The gradient. -/
def grad : S2816x1024.Idx → EReal := fun i => colDot (xs m c) (dys m c) (i 0) (i 1)

theorem idx : ∀ t : Fin cfg0.N,
    win0_0.index t = ![0, t.val / 2] ∧ win0_1.index t = ![0, t.val % 2]
      ∧ win0_2.index t = ![t.val / 2, t.val % 2] ∧ win0_3.index t = ![t.val / 2, t.val % 2] :=
  (by decide +kernel : ∀ t : Fin grid0.N, _)

theorem x_at (t : Fin cfg0.N) (p : Fin 4352) (a : Fin 1408) : iblk m c 0 t (ix2 p a) = xs m c (ix2 p (row t a)) := by
  blk_ext! [iblk, V, idx t, row, xs]

theorem dy_at (t : Fin cfg0.N) (p : Fin 4352) (b : Fin 512) :
    iblk m c 1 t (ix2 p b) = dys m c (ix2 p (col t b)) := by
  blk_ext! [iblk, V, idx t, col, dys]

theorem pay_at (x : Vec Ideal S4352x1408 .bf16) (y : Vec Ideal S4352x512 .bf16) (a : Fin 1408) (b : Fin 512) :
    k0_pay1 x y (ix2 a b) = colDot x y a b := by
  unfold colDot
  pointwise [k0_pay1]

theorem after2 (t : Fin cfg0.N) (a : Fin 1408) (b : Fin 512) :
    (dats m 0 c).after 2 t (ix2 a b) = grad m c (ix2 (row t a) (col t b)) := by
  rw [after0_2]
  unfold outsAt0
  frame_out
  exact (pay_at _ _ a b).trans (colDot_congr (x_at m c t · a) (dy_at m c t · b))

theorem after3 (t : Fin cfg0.N) (a : Fin 1408) (b : Fin 512) :
    (dats m 0 c).after 3 t (ix2 a b) = grad m c (ix2 (row t a) (col t b)) := by
  rw [after0_3]
  unfold outsAt0
  frame_out
  refine Eq.trans ?_ ((pay_at _ _ a b).trans (colDot_congr (x_at m c t · a) (dy_at m c t · b)))
  pointwise [k0_pay3]

theorem final2 : (dats m 0 c).arrAt 2 cfg0.N = grad m c := by
  refine (dats m 0 c).arrAt_eq_of_covers 2 _ (by decide +kernel) fun t hf y => ?_
  blk_simp
  obtain ⟨a, b, rfl⟩ : ∃ (a : Fin 1408) (b : Fin 512), y = ix2 a b := ⟨y 0, y 1, eq_ix2 y⟩
  have e0 : (win0_2.blk t).view.emb (ix2 a b) 0 = row t a := Fin.ext (by blk_simp [idx t, row]; simp only [ix2]; omega)
  have e1 : (win0_2.blk t).view.emb (ix2 a b) 1 = col t b := Fin.ext (by blk_simp [idx t, col]; simp only [ix2]; omega)
  rw [eq_ix2 ((win0_2.blk t).view.emb (ix2 a b)), e0, e1]
  exact after2 m c t a b

theorem final3 : (dats m 0 c).arrAt 3 cfg0.N = grad m c := by
  refine (dats m 0 c).arrAt_eq_of_covers 3 _ (by decide +kernel) fun t hf y => ?_
  blk_simp
  obtain ⟨a, b, rfl⟩ : ∃ (a : Fin 1408) (b : Fin 512), y = ix2 a b := ⟨y 0, y 1, eq_ix2 y⟩
  have e0 : (win0_3.blk t).view.emb (ix2 a b) 0 = row t a := Fin.ext (by blk_simp [idx t, row]; simp only [ix2]; omega)
  have e1 : (win0_3.blk t).view.emb (ix2 a b) 1 = col t b := Fin.ext (by blk_simp [idx t, col]; simp only [ix2]; omega)
  rw [eq_ix2 ((win0_3.blk t).view.emb (ix2 a b)), e0, e1]
  exact after3 m c t a b

end Kernel

section Reference

variable (m : (ℓ : Loc Cert.OutWgradRefIdeal.nD Cert.OutWgradRefIdeal.τ Cert.OutWgradRefIdeal.sig) → Buf (Elt Ideal) ℓ)
  (g : Dev Cert.OutWgradRefIdeal.nD → PrngReg)

/-- The reference's gradient, of its own arguments. -/
def refGrad (c : Dev Cert.OutWgradRefIdeal.nD) : S2816x1024.Idx → EReal := fun i =>
  colDot (K := 2816) (J := 1024) (m ((c.tc : Thread Cert.OutWgradRefIdeal.nD Cert.OutWgradRefIdeal.τ).loc Cert.OutWgradRefIdeal.main_arg0))
    (m ((c.tc : Thread Cert.OutWgradRefIdeal.nD Cert.OutWgradRefIdeal.τ).loc Cert.OutWgradRefIdeal.main_arg1)) (i 0) (i 1)

theorem ref_run : θ_run (Cert.OutWgradRefIdeal.defs (F := Ideal)) (onTc (Cert.OutWgradRefIdeal.main (F := Ideal))) ⟨m, fun _ => 0, g⟩ fun r =>
    ∀ c : Dev Cert.OutWgradRefIdeal.nD, r.2.mem ((c.tc : Thread Cert.OutWgradRefIdeal.nD Cert.OutWgradRefIdeal.τ).loc Cert.OutWgradRefIdeal.main_v3) = refGrad m c
      ∧ r.2.mem ((c.tc : Thread Cert.OutWgradRefIdeal.nD Cert.OutWgradRefIdeal.τ).loc Cert.OutWgradRefIdeal.main_v4) = refGrad m c
      ∧ r.2.mem ((c.tc : Thread Cert.OutWgradRefIdeal.nD Cert.OutWgradRefIdeal.τ).loc Cert.OutWgradRefIdeal.main_arg0) = m ((c.tc : Thread Cert.OutWgradRefIdeal.nD Cert.OutWgradRefIdeal.τ).loc Cert.OutWgradRefIdeal.main_arg0)
      ∧ r.2.mem ((c.tc : Thread Cert.OutWgradRefIdeal.nD Cert.OutWgradRefIdeal.τ).loc Cert.OutWgradRefIdeal.main_arg1) = m ((c.tc : Thread Cert.OutWgradRefIdeal.nD Cert.OutWgradRefIdeal.τ).loc Cert.OutWgradRefIdeal.main_arg1) := by
  refine (θ_run _ _ _).mono (fun r h c => ?_) (Cert.OutWgradRefIdeal.Value.run m g)
  obtain ⟨h0, h1, h2, h3⟩ := h c
  have e : r.2.mem ((c.tc : Thread Cert.OutWgradRefIdeal.nD Cert.OutWgradRefIdeal.τ).loc Cert.OutWgradRefIdeal.main_v3) = refGrad m c := by
    refine h0.trans (funext fun i => ?_)
    obtain ⟨k, j, rfl⟩ : ∃ (k : Fin 2816) (j : Fin 1024), i = ix2 k j := ⟨i 0, i 1, eq_ix2 i⟩
    refine Eq.trans ?_ (colDot_comm _ _ k (j))
    clean_types
    pointwise
  exact ⟨e, h1.trans (h0.symm.trans e), h2, h3⟩

end Reference

theorem frame : Cert.quiescent_OutWgrad := fun m ρ _ => Cert.OutWgrad.Gen.frame m ρ

theorem frame_ideal : Cert.quiescent_OutWgradIdeal := fun m ρ _ => Cert.OutWgradIdeal.Gen.frame m ρ

theorem frame_ref : Cert.quiescent_OutWgradRefIdeal := fun m ρ _ =>
  (θ_run Cert.OutWgradRefIdeal.defs _ _).mono
    (fun r h => ⟨fun c => (h c).2.2, sem_eq_zero_of_no_sems (by decide) r.2⟩) (Cert.OutWgradRefIdeal.Value.run m ρ)

/-- The kernel's two results are the reference's. -/
theorem algebraic : Cert.algebraic_OutWgradIdeal_OutWgradRefIdeal := by
  intro m g m' g' _ hm
  refine ⟨fun c => (dats m 0 c).arrAt 2 cfg0.N, fun c => (dats m 0 c).arrAt 3 cfg0.N, Cert.OutWgradIdeal.Value.run_blocks m g, ?_⟩
  refine (θ_run Cert.OutWgradRefIdeal.defs _ _).mono (fun r h c => ?_) (ref_run m' g')
  obtain ⟨h0, h1, h2⟩ := h c
  obtain ⟨e0, e1⟩ := hm c
  have e : refGrad m' c = grad m c := funext fun i =>
    colDot_congr (fun p => congrFun e0 _) (fun p => congrFun e1 _)
  exact ⟨h0.trans (e.trans (final2 m c).symm), h1.trans (e.trans (final3 m c).symm), h2⟩

end Macaron.OutWgrad

end
-- ==== Proof.Wgrad.ProjWgrad.lean ====
module

public import proofs.«01_k».proof.Defs
public import proofs.«01_k».proof.Proof.Wgrad.Spec
public import proofs.«01_k».proof.Proof.Gen.ProjWgrad
public import proofs.«01_k».proof.Proof.Gen.ProjWgrad.Frame
public import proofs.«01_k».proof.Proof.Gen.ProjWgradIdeal.Value
public import proofs.«01_k».proof.Proof.Gen.ProjWgradRefIdeal.Run
public import proofs.«01_k».proof.Proof.Gen.ProjWgradRefIdeal
public import Idealize.ShloMosaic.Lib.Pipeline.ValueKit
public import Idealize.ShloMosaic.Lib.Tactic.CleanTypes
public import Idealize.ShloMosaic.Adequacy
public import Idealize.ShloMosaic.Init

/-! The gradient of the projections' weight: the kernel's two tiles are those of the reference's product. -/

@[expose] public section

set_option maxRecDepth 16384

noncomputable section

namespace Macaron.ProjWgrad

open Idealize.ShloMosaic Idealize.ShloMosaic.TcCoe Idealize.SL.Sem Macaron.Wgrad
open Cert.ProjWgradIdeal Cert.ProjWgradIdeal.Gen

section Kernel

variable (m : (ℓ : Loc nD τ sig) → Buf (Elt Ideal) ℓ) (c : Dev nD)

/-- The tokens. -/
def xs : S4352x1024.Idx → EReal := m ((c.tc : Thread nD τ).loc main_arg0)
/-- Their cotangents. -/
def dys : S4352x1280.Idx → EReal := m ((c.tc : Thread nD τ).loc main_arg1)

/-- The row and the column of the gradient at which entry `(a, b)` of block `t` stands. -/
def row (t : Fin cfg0.N) (a : Fin 1024) : Fin 1024 := ⟨1024 * (0) + a.val, by have := t.2; simp only [show cfg0.N = 2 from rfl] at this; omega⟩
def col (t : Fin cfg0.N) (b : Fin 640) : Fin 1280 := ⟨640 * (t.val) + b.val, by have := t.2; simp only [show cfg0.N = 2 from rfl] at this; omega⟩

/-- The gradient. -/
def grad : S1024x1280.Idx → EReal := fun i => colDot (xs m c) (dys m c) (i 0) (i 1)

theorem idx : ∀ t : Fin cfg0.N,
    win0_0.index t = ![0, 0] ∧ win0_1.index t = ![0, t.val]
      ∧ win0_2.index t = ![0, t.val] ∧ win0_3.index t = ![0, t.val] :=
  (by decide +kernel : ∀ t : Fin grid0.N, _)

theorem x_at (t : Fin cfg0.N) (p : Fin 4352) (a : Fin 1024) : iblk m c 0 t (ix2 p a) = xs m c (ix2 p (row t a)) := by
  blk_ext! [iblk, V, idx t, row, xs]

theorem dy_at (t : Fin cfg0.N) (p : Fin 4352) (b : Fin 640) :
    iblk m c 1 t (ix2 p b) = dys m c (ix2 p (col t b)) := by
  blk_ext! [iblk, V, idx t, col, dys]

theorem pay_at (x : Vec Ideal S4352x1024 .bf16) (y : Vec Ideal S4352x640 .bf16) (a : Fin 1024) (b : Fin 640) :
    k0_pay1 x y (ix2 a b) = colDot x y a b := by
  unfold colDot
  pointwise [k0_pay1]

theorem after2 (t : Fin cfg0.N) (a : Fin 1024) (b : Fin 640) :
    (dats m 0 c).after 2 t (ix2 a b) = grad m c (ix2 (row t a) (col t b)) := by
  rw [after0_2]
  unfold outsAt0
  frame_out
  exact (pay_at _ _ a b).trans (colDot_congr (x_at m c t · a) (dy_at m c t · b))

theorem after3 (t : Fin cfg0.N) (a : Fin 1024) (b : Fin 640) :
    (dats m 0 c).after 3 t (ix2 a b) = grad m c (ix2 (row t a) (col t b)) := by
  rw [after0_3]
  unfold outsAt0
  frame_out
  refine Eq.trans ?_ ((pay_at _ _ a b).trans (colDot_congr (x_at m c t · a) (dy_at m c t · b)))
  pointwise [k0_pay3]

theorem final2 : (dats m 0 c).arrAt 2 cfg0.N = grad m c := by
  refine (dats m 0 c).arrAt_eq_of_covers 2 _ (by decide +kernel) fun t hf y => ?_
  blk_simp
  obtain ⟨a, b, rfl⟩ : ∃ (a : Fin 1024) (b : Fin 640), y = ix2 a b := ⟨y 0, y 1, eq_ix2 y⟩
  have e0 : (win0_2.blk t).view.emb (ix2 a b) 0 = row t a := Fin.ext (by blk_simp [idx t, row]; simp only [ix2]; omega)
  have e1 : (win0_2.blk t).view.emb (ix2 a b) 1 = col t b := Fin.ext (by blk_simp [idx t, col]; simp only [ix2]; omega)
  rw [eq_ix2 ((win0_2.blk t).view.emb (ix2 a b)), e0, e1]
  exact after2 m c t a b

theorem final3 : (dats m 0 c).arrAt 3 cfg0.N = grad m c := by
  refine (dats m 0 c).arrAt_eq_of_covers 3 _ (by decide +kernel) fun t hf y => ?_
  blk_simp
  obtain ⟨a, b, rfl⟩ : ∃ (a : Fin 1024) (b : Fin 640), y = ix2 a b := ⟨y 0, y 1, eq_ix2 y⟩
  have e0 : (win0_3.blk t).view.emb (ix2 a b) 0 = row t a := Fin.ext (by blk_simp [idx t, row]; simp only [ix2]; omega)
  have e1 : (win0_3.blk t).view.emb (ix2 a b) 1 = col t b := Fin.ext (by blk_simp [idx t, col]; simp only [ix2]; omega)
  rw [eq_ix2 ((win0_3.blk t).view.emb (ix2 a b)), e0, e1]
  exact after3 m c t a b

end Kernel

section Reference

variable (m : (ℓ : Loc Cert.ProjWgradRefIdeal.nD Cert.ProjWgradRefIdeal.τ Cert.ProjWgradRefIdeal.sig) → Buf (Elt Ideal) ℓ)
  (g : Dev Cert.ProjWgradRefIdeal.nD → PrngReg)

/-- The reference's gradient, of its own arguments. -/
def refGrad (c : Dev Cert.ProjWgradRefIdeal.nD) : S1024x1280.Idx → EReal := fun i =>
  colDot (K := 1024) (J := 1280) (m ((c.tc : Thread Cert.ProjWgradRefIdeal.nD Cert.ProjWgradRefIdeal.τ).loc Cert.ProjWgradRefIdeal.main_arg0))
    (m ((c.tc : Thread Cert.ProjWgradRefIdeal.nD Cert.ProjWgradRefIdeal.τ).loc Cert.ProjWgradRefIdeal.main_arg1)) (i 0) (i 1)

theorem ref_run : θ_run (Cert.ProjWgradRefIdeal.defs (F := Ideal)) (onTc (Cert.ProjWgradRefIdeal.main (F := Ideal))) ⟨m, fun _ => 0, g⟩ fun r =>
    ∀ c : Dev Cert.ProjWgradRefIdeal.nD, r.2.mem ((c.tc : Thread Cert.ProjWgradRefIdeal.nD Cert.ProjWgradRefIdeal.τ).loc Cert.ProjWgradRefIdeal.main_v3) = refGrad m c
      ∧ r.2.mem ((c.tc : Thread Cert.ProjWgradRefIdeal.nD Cert.ProjWgradRefIdeal.τ).loc Cert.ProjWgradRefIdeal.main_v4) = refGrad m c
      ∧ r.2.mem ((c.tc : Thread Cert.ProjWgradRefIdeal.nD Cert.ProjWgradRefIdeal.τ).loc Cert.ProjWgradRefIdeal.main_arg0) = m ((c.tc : Thread Cert.ProjWgradRefIdeal.nD Cert.ProjWgradRefIdeal.τ).loc Cert.ProjWgradRefIdeal.main_arg0)
      ∧ r.2.mem ((c.tc : Thread Cert.ProjWgradRefIdeal.nD Cert.ProjWgradRefIdeal.τ).loc Cert.ProjWgradRefIdeal.main_arg1) = m ((c.tc : Thread Cert.ProjWgradRefIdeal.nD Cert.ProjWgradRefIdeal.τ).loc Cert.ProjWgradRefIdeal.main_arg1) := by
  refine (θ_run _ _ _).mono (fun r h c => ?_) (Cert.ProjWgradRefIdeal.Value.run m g)
  obtain ⟨h0, h1, h2, h3⟩ := h c
  have e : r.2.mem ((c.tc : Thread Cert.ProjWgradRefIdeal.nD Cert.ProjWgradRefIdeal.τ).loc Cert.ProjWgradRefIdeal.main_v3) = refGrad m c := by
    refine h0.trans (funext fun i => ?_)
    obtain ⟨k, j, rfl⟩ : ∃ (k : Fin 1024) (j : Fin 1280), i = ix2 k j := ⟨i 0, i 1, eq_ix2 i⟩
    refine Eq.trans ?_ (colDot_comm _ _ k (j))
    clean_types
    pointwise
  exact ⟨e, h1.trans (h0.symm.trans e), h2, h3⟩

end Reference

theorem frame : Cert.quiescent_ProjWgrad := fun m ρ _ => Cert.ProjWgrad.Gen.frame m ρ

theorem frame_ideal : Cert.quiescent_ProjWgradIdeal := fun m ρ _ => Cert.ProjWgradIdeal.Gen.frame m ρ

theorem frame_ref : Cert.quiescent_ProjWgradRefIdeal := fun m ρ _ =>
  (θ_run Cert.ProjWgradRefIdeal.defs _ _).mono
    (fun r h => ⟨fun c => (h c).2.2, sem_eq_zero_of_no_sems (by decide) r.2⟩) (Cert.ProjWgradRefIdeal.Value.run m ρ)

/-- The kernel's two results are the reference's. -/
theorem algebraic : Cert.algebraic_ProjWgradIdeal_ProjWgradRefIdeal := by
  intro m g m' g' _ hm
  refine ⟨fun c => (dats m 0 c).arrAt 2 cfg0.N, fun c => (dats m 0 c).arrAt 3 cfg0.N, Cert.ProjWgradIdeal.Value.run_blocks m g, ?_⟩
  refine (θ_run Cert.ProjWgradRefIdeal.defs _ _).mono (fun r h c => ?_) (ref_run m' g')
  obtain ⟨h0, h1, h2⟩ := h c
  obtain ⟨e0, e1⟩ := hm c
  have e : refGrad m' c = grad m c := funext fun i =>
    colDot_congr (fun p => congrFun e0 _) (fun p => congrFun e1 _)
  exact ⟨h0.trans (e.trans (final2 m c).symm), h1.trans (e.trans (final3 m c).symm), h2⟩

end Macaron.ProjWgrad

end
-- ==== Proof.Wgrad.MixOutWgrad.lean ====
module

public import proofs.«01_k».proof.Defs
public import proofs.«01_k».proof.Proof.Wgrad.Spec
public import proofs.«01_k».proof.Proof.Gen.MixOutWgrad
public import proofs.«01_k».proof.Proof.Gen.MixOutWgrad.Frame
public import proofs.«01_k».proof.Proof.Gen.MixOutWgradIdeal.Value
public import proofs.«01_k».proof.Proof.Gen.MixOutWgradRefIdeal.Run
public import proofs.«01_k».proof.Proof.Gen.MixOutWgradRefIdeal
public import Idealize.ShloMosaic.Lib.Pipeline.ValueKit
public import Idealize.ShloMosaic.Lib.Tactic.CleanTypes
public import Idealize.ShloMosaic.Adequacy
public import Idealize.ShloMosaic.Init

/-! The gradient of the mixer's output weight: the kernel's one tile is the reference's product. -/

@[expose] public section

set_option maxRecDepth 16384

noncomputable section

namespace Macaron.MixOutWgrad

open Idealize.ShloMosaic Idealize.ShloMosaic.TcCoe Idealize.SL.Sem Macaron.Wgrad
open Cert.MixOutWgradIdeal Cert.MixOutWgradIdeal.Gen

section Kernel

variable (m : (ℓ : Loc nD τ sig) → Buf (Elt Ideal) ℓ) (c : Dev nD)

/-- The tokens. -/
def xs : S4352x1024.Idx → EReal := m ((c.tc : Thread nD τ).loc main_arg0)
/-- Their cotangents. -/
def dys : S4352x1024.Idx → EReal := m ((c.tc : Thread nD τ).loc main_arg1)

/-- The row and the column of the gradient at which entry `(a, b)` of block `t` stands. -/
def row (t : Fin cfg0.N) (a : Fin 1024) : Fin 1024 := ⟨1024 * (0) + a.val, by have := t.2; simp only [show cfg0.N = 1 from rfl] at this; omega⟩
def col (t : Fin cfg0.N) (b : Fin 1024) : Fin 1024 := ⟨1024 * (0) + b.val, by have := t.2; simp only [show cfg0.N = 1 from rfl] at this; omega⟩

/-- The gradient. -/
def grad : S1024x1024.Idx → EReal := fun i => colDot (xs m c) (dys m c) (i 0) (i 1)

theorem idx : ∀ t : Fin cfg0.N,
    win0_0.index t = ![0, 0] ∧ win0_1.index t = ![0, 0]
      ∧ win0_2.index t = ![0, 0] ∧ win0_3.index t = ![0, 0] :=
  (by decide +kernel : ∀ t : Fin grid0.N, _)

theorem x_at (t : Fin cfg0.N) (p : Fin 4352) (a : Fin 1024) : iblk m c 0 t (ix2 p a) = xs m c (ix2 p (row t a)) := by
  blk_ext! [iblk, V, idx t, row, xs]

theorem dy_at (t : Fin cfg0.N) (p : Fin 4352) (b : Fin 1024) :
    iblk m c 1 t (ix2 p b) = dys m c (ix2 p (col t b)) := by
  blk_ext! [iblk, V, idx t, col, dys]

theorem pay_at (x : Vec Ideal S4352x1024 .bf16) (y : Vec Ideal S4352x1024 .bf16) (a : Fin 1024) (b : Fin 1024) :
    k0_pay1 x y (ix2 a b) = colDot x y a b := by
  unfold colDot
  pointwise [k0_pay1]

theorem after2 (t : Fin cfg0.N) (a : Fin 1024) (b : Fin 1024) :
    (dats m 0 c).after 2 t (ix2 a b) = grad m c (ix2 (row t a) (col t b)) := by
  rw [after0_2]
  unfold outsAt0
  frame_out
  exact (pay_at _ _ a b).trans (colDot_congr (x_at m c t · a) (dy_at m c t · b))

theorem after3 (t : Fin cfg0.N) (a : Fin 1024) (b : Fin 1024) :
    (dats m 0 c).after 3 t (ix2 a b) = grad m c (ix2 (row t a) (col t b)) := by
  rw [after0_3]
  unfold outsAt0
  frame_out
  refine Eq.trans ?_ ((pay_at _ _ a b).trans (colDot_congr (x_at m c t · a) (dy_at m c t · b)))
  pointwise [k0_pay3]

theorem final2 : (dats m 0 c).arrAt 2 cfg0.N = grad m c := by
  refine (dats m 0 c).arrAt_eq_of_covers 2 _ (by decide +kernel) fun t hf y => ?_
  blk_simp
  obtain ⟨a, b, rfl⟩ : ∃ (a : Fin 1024) (b : Fin 1024), y = ix2 a b := ⟨y 0, y 1, eq_ix2 y⟩
  have e0 : (win0_2.blk t).view.emb (ix2 a b) 0 = row t a := Fin.ext (by blk_simp [idx t, row]; simp only [ix2]; omega)
  have e1 : (win0_2.blk t).view.emb (ix2 a b) 1 = col t b := Fin.ext (by blk_simp [idx t, col]; simp only [ix2]; omega)
  rw [eq_ix2 ((win0_2.blk t).view.emb (ix2 a b)), e0, e1]
  exact after2 m c t a b

theorem final3 : (dats m 0 c).arrAt 3 cfg0.N = grad m c := by
  refine (dats m 0 c).arrAt_eq_of_covers 3 _ (by decide +kernel) fun t hf y => ?_
  blk_simp
  obtain ⟨a, b, rfl⟩ : ∃ (a : Fin 1024) (b : Fin 1024), y = ix2 a b := ⟨y 0, y 1, eq_ix2 y⟩
  have e0 : (win0_3.blk t).view.emb (ix2 a b) 0 = row t a := Fin.ext (by blk_simp [idx t, row]; simp only [ix2]; omega)
  have e1 : (win0_3.blk t).view.emb (ix2 a b) 1 = col t b := Fin.ext (by blk_simp [idx t, col]; simp only [ix2]; omega)
  rw [eq_ix2 ((win0_3.blk t).view.emb (ix2 a b)), e0, e1]
  exact after3 m c t a b

end Kernel

section Reference

variable (m : (ℓ : Loc Cert.MixOutWgradRefIdeal.nD Cert.MixOutWgradRefIdeal.τ Cert.MixOutWgradRefIdeal.sig) → Buf (Elt Ideal) ℓ)
  (g : Dev Cert.MixOutWgradRefIdeal.nD → PrngReg)

/-- The reference's gradient, of its own arguments. -/
def refGrad (c : Dev Cert.MixOutWgradRefIdeal.nD) : S1024x1024.Idx → EReal := fun i =>
  colDot (K := 1024) (J := 1024) (m ((c.tc : Thread Cert.MixOutWgradRefIdeal.nD Cert.MixOutWgradRefIdeal.τ).loc Cert.MixOutWgradRefIdeal.main_arg0))
    (m ((c.tc : Thread Cert.MixOutWgradRefIdeal.nD Cert.MixOutWgradRefIdeal.τ).loc Cert.MixOutWgradRefIdeal.main_arg1)) (i 0) (i 1)

theorem ref_run : θ_run (Cert.MixOutWgradRefIdeal.defs (F := Ideal)) (onTc (Cert.MixOutWgradRefIdeal.main (F := Ideal))) ⟨m, fun _ => 0, g⟩ fun r =>
    ∀ c : Dev Cert.MixOutWgradRefIdeal.nD, r.2.mem ((c.tc : Thread Cert.MixOutWgradRefIdeal.nD Cert.MixOutWgradRefIdeal.τ).loc Cert.MixOutWgradRefIdeal.main_v3) = refGrad m c
      ∧ r.2.mem ((c.tc : Thread Cert.MixOutWgradRefIdeal.nD Cert.MixOutWgradRefIdeal.τ).loc Cert.MixOutWgradRefIdeal.main_v4) = refGrad m c
      ∧ r.2.mem ((c.tc : Thread Cert.MixOutWgradRefIdeal.nD Cert.MixOutWgradRefIdeal.τ).loc Cert.MixOutWgradRefIdeal.main_arg0) = m ((c.tc : Thread Cert.MixOutWgradRefIdeal.nD Cert.MixOutWgradRefIdeal.τ).loc Cert.MixOutWgradRefIdeal.main_arg0)
      ∧ r.2.mem ((c.tc : Thread Cert.MixOutWgradRefIdeal.nD Cert.MixOutWgradRefIdeal.τ).loc Cert.MixOutWgradRefIdeal.main_arg1) = m ((c.tc : Thread Cert.MixOutWgradRefIdeal.nD Cert.MixOutWgradRefIdeal.τ).loc Cert.MixOutWgradRefIdeal.main_arg1) := by
  refine (θ_run _ _ _).mono (fun r h c => ?_) (Cert.MixOutWgradRefIdeal.Value.run m g)
  obtain ⟨h0, h1, h2, h3⟩ := h c
  have e : r.2.mem ((c.tc : Thread Cert.MixOutWgradRefIdeal.nD Cert.MixOutWgradRefIdeal.τ).loc Cert.MixOutWgradRefIdeal.main_v3) = refGrad m c := by
    refine h0.trans (funext fun i => ?_)
    obtain ⟨k, j, rfl⟩ : ∃ (k : Fin 1024) (j : Fin 1024), i = ix2 k j := ⟨i 0, i 1, eq_ix2 i⟩
    refine Eq.trans ?_ (colDot_comm _ _ k (j))
    clean_types
    pointwise
  exact ⟨e, h1.trans (h0.symm.trans e), h2, h3⟩

end Reference

theorem frame : Cert.quiescent_MixOutWgrad := fun m ρ _ => Cert.MixOutWgrad.Gen.frame m ρ

theorem frame_ideal : Cert.quiescent_MixOutWgradIdeal := fun m ρ _ => Cert.MixOutWgradIdeal.Gen.frame m ρ

theorem frame_ref : Cert.quiescent_MixOutWgradRefIdeal := fun m ρ _ =>
  (θ_run Cert.MixOutWgradRefIdeal.defs _ _).mono
    (fun r h => ⟨fun c => (h c).2.2, sem_eq_zero_of_no_sems (by decide) r.2⟩) (Cert.MixOutWgradRefIdeal.Value.run m ρ)

/-- The kernel's two results are the reference's. -/
theorem algebraic : Cert.algebraic_MixOutWgradIdeal_MixOutWgradRefIdeal := by
  intro m g m' g' _ hm
  refine ⟨fun c => (dats m 0 c).arrAt 2 cfg0.N, fun c => (dats m 0 c).arrAt 3 cfg0.N, Cert.MixOutWgradIdeal.Value.run_blocks m g, ?_⟩
  refine (θ_run Cert.MixOutWgradRefIdeal.defs _ _).mono (fun r h c => ?_) (ref_run m' g')
  obtain ⟨h0, h1, h2⟩ := h c
  obtain ⟨e0, e1⟩ := hm c
  have e : refGrad m' c = grad m c := funext fun i =>
    colDot_congr (fun p => congrFun e0 _) (fun p => congrFun e1 _)
  exact ⟨h0.trans (e.trans (final2 m c).symm), h1.trans (e.trans (final3 m c).symm), h2⟩

end Macaron.MixOutWgrad

end
-- ==== Proof.Adam.Row.lean ====
module

public import proofs.«01_k».proof.Defs
public import proofs.«01_k».proof.Proof.Gen.AdamRow
public import proofs.«01_k».proof.Proof.Gen.AdamRow.Frame
public import proofs.«01_k».proof.Proof.Gen.AdamRowIdeal.Value
public import proofs.«01_k».proof.Proof.Gen.AdamRowRefIdeal
public import proofs.«01_k».proof.Proof.Gen.AdamRowRefIdeal.Run
public import Idealize.ShloMosaic.Lib.Quiescent

/-! The optimiser's step on a row of 1024 entries: entry by entry, the kernel's weight change and moments are the reference's. -/

@[expose] public section

noncomputable section

namespace Macaron.AdamRow

open Idealize.ShloMosaic Idealize.ShloMosaic.TcCoe Idealize.SL.Sem

theorem frame : Cert.quiescent_AdamRow := fun m ρ _ => Cert.AdamRow.Gen.frame m ρ

theorem frame_ideal : Cert.quiescent_AdamRowIdeal := fun m ρ _ => Cert.AdamRowIdeal.Gen.frame m ρ

theorem frame_ref : Cert.quiescent_AdamRowRefIdeal := fun m ρ _ =>
  (θ_run Cert.AdamRowRefIdeal.defs _ _).mono
    (fun r h => ⟨fun c => (h c).2.2.2, sem_eq_zero_of_no_sems (by decide) r.2⟩) (Cert.AdamRowRefIdeal.Value.run m ρ)

/-- The kernel's three results are the reference's. -/
theorem algebraic : Cert.algebraic_AdamRowIdeal_AdamRowRefIdeal := by
  intro m g m' g' _ hm
  refine ⟨_, _, _, Cert.AdamRowIdeal.Value.run m g, ?_⟩
  refine (θ_run Cert.AdamRowRefIdeal.defs _ _).mono (fun r h c => ?_) (Cert.AdamRowRefIdeal.Value.run m' g')
  obtain ⟨h0, h1, h2, h3⟩ := h c
  obtain ⟨e0, e1, e2, e3⟩ := hm c
  refine ⟨h0.trans ?_, h1.trans ?_, h2.trans ?_, h3⟩
  · rw [e0, e1, e2, e3]; rfl
  · rw [e1, e2]; rfl
  · rw [e1, e3]; rfl

end Macaron.AdamRow

end
-- ==== Proof.Adam.Mod.lean ====
module

public import proofs.«01_k».proof.Defs
public import proofs.«01_k».proof.Proof.Gen.AdamMod
public import proofs.«01_k».proof.Proof.Gen.AdamMod.Frame
public import proofs.«01_k».proof.Proof.Gen.AdamModIdeal.Value
public import proofs.«01_k».proof.Proof.Gen.AdamModRefIdeal
public import proofs.«01_k».proof.Proof.Gen.AdamModRefIdeal.Run
public import Idealize.ShloMosaic.Lib.Quiescent

/-! The optimiser's step on the modulation weight's shard, 2048 by 2304: entry by entry, the kernel's weight change and moments are the reference's. -/

@[expose] public section

noncomputable section

namespace Macaron.AdamMod

open Idealize.ShloMosaic Idealize.ShloMosaic.TcCoe Idealize.SL.Sem

theorem frame : Cert.quiescent_AdamMod := fun m ρ _ => Cert.AdamMod.Gen.frame m ρ

theorem frame_ideal : Cert.quiescent_AdamModIdeal := fun m ρ _ => Cert.AdamModIdeal.Gen.frame m ρ

theorem frame_ref : Cert.quiescent_AdamModRefIdeal := fun m ρ _ =>
  (θ_run Cert.AdamModRefIdeal.defs _ _).mono
    (fun r h => ⟨fun c => (h c).2.2.2, sem_eq_zero_of_no_sems (by decide) r.2⟩) (Cert.AdamModRefIdeal.Value.run m ρ)

/-- The kernel's three results are the reference's. -/
theorem algebraic : Cert.algebraic_AdamModIdeal_AdamModRefIdeal := by
  intro m g m' g' _ hm
  refine ⟨_, _, _, Cert.AdamModIdeal.Value.run m g, ?_⟩
  refine (θ_run Cert.AdamModRefIdeal.defs _ _).mono (fun r h c => ?_) (Cert.AdamModRefIdeal.Value.run m' g')
  obtain ⟨h0, h1, h2, h3⟩ := h c
  obtain ⟨e0, e1, e2, e3⟩ := hm c
  refine ⟨h0.trans ?_, h1.trans ?_, h2.trans ?_, h3⟩
  · rw [e0, e1, e2, e3]; rfl
  · rw [e1, e2]; rfl
  · rw [e1, e3]; rfl

end Macaron.AdamMod

end
-- ==== Proof.Adam.Bias.lean ====
module

public import proofs.«01_k».proof.Defs
public import proofs.«01_k».proof.Proof.Gen.AdamBias
public import proofs.«01_k».proof.Proof.Gen.AdamBias.Frame
public import proofs.«01_k».proof.Proof.Gen.AdamBiasIdeal.Value
public import proofs.«01_k».proof.Proof.Gen.AdamBiasRefIdeal
public import proofs.«01_k».proof.Proof.Gen.AdamBiasRefIdeal.Run
public import Idealize.ShloMosaic.Lib.Quiescent

/-! The optimiser's step on the modulation bias, 2 by 9216: entry by entry, the kernel's weight change and moments are the reference's. -/

@[expose] public section

noncomputable section

namespace Macaron.AdamBias

open Idealize.ShloMosaic Idealize.ShloMosaic.TcCoe Idealize.SL.Sem

theorem frame : Cert.quiescent_AdamBias := fun m ρ _ => Cert.AdamBias.Gen.frame m ρ

theorem frame_ideal : Cert.quiescent_AdamBiasIdeal := fun m ρ _ => Cert.AdamBiasIdeal.Gen.frame m ρ

theorem frame_ref : Cert.quiescent_AdamBiasRefIdeal := fun m ρ _ =>
  (θ_run Cert.AdamBiasRefIdeal.defs _ _).mono
    (fun r h => ⟨fun c => (h c).2.2.2, sem_eq_zero_of_no_sems (by decide) r.2⟩) (Cert.AdamBiasRefIdeal.Value.run m ρ)

/-- The kernel's three results are the reference's. -/
theorem algebraic : Cert.algebraic_AdamBiasIdeal_AdamBiasRefIdeal := by
  intro m g m' g' _ hm
  refine ⟨_, _, _, Cert.AdamBiasIdeal.Value.run m g, ?_⟩
  refine (θ_run Cert.AdamBiasRefIdeal.defs _ _).mono (fun r h c => ?_) (Cert.AdamBiasRefIdeal.Value.run m' g')
  obtain ⟨h0, h1, h2, h3⟩ := h c
  obtain ⟨e0, e1, e2, e3⟩ := hm c
  refine ⟨h0.trans ?_, h1.trans ?_, h2.trans ?_, h3⟩
  · rw [e0, e1, e2, e3]; rfl
  · rw [e1, e2]; rfl
  · rw [e1, e3]; rfl

end Macaron.AdamBias

end
-- ==== Proof.Adam.Norm.lean ====
module

public import proofs.«01_k».proof.Defs
public import proofs.«01_k».proof.Proof.Gen.AdamNorm
public import proofs.«01_k».proof.Proof.Gen.AdamNorm.Frame
public import proofs.«01_k».proof.Proof.Gen.AdamNormIdeal.Value
public import proofs.«01_k».proof.Proof.Gen.AdamNormRefIdeal
public import proofs.«01_k».proof.Proof.Gen.AdamNormRefIdeal.Run
public import Idealize.ShloMosaic.Lib.Quiescent

/-! The optimiser's step on a norm's weight, 2 by 1024: entry by entry, the kernel's weight change and moments are the reference's. -/

@[expose] public section

noncomputable section

namespace Macaron.AdamNorm

open Idealize.ShloMosaic Idealize.ShloMosaic.TcCoe Idealize.SL.Sem

theorem frame : Cert.quiescent_AdamNorm := fun m ρ _ => Cert.AdamNorm.Gen.frame m ρ

theorem frame_ideal : Cert.quiescent_AdamNormIdeal := fun m ρ _ => Cert.AdamNormIdeal.Gen.frame m ρ

theorem frame_ref : Cert.quiescent_AdamNormRefIdeal := fun m ρ _ =>
  (θ_run Cert.AdamNormRefIdeal.defs _ _).mono
    (fun r h => ⟨fun c => (h c).2.2.2, sem_eq_zero_of_no_sems (by decide) r.2⟩) (Cert.AdamNormRefIdeal.Value.run m ρ)

/-- The kernel's three results are the reference's. -/
theorem algebraic : Cert.algebraic_AdamNormIdeal_AdamNormRefIdeal := by
  intro m g m' g' _ hm
  refine ⟨_, _, _, Cert.AdamNormIdeal.Value.run m g, ?_⟩
  refine (θ_run Cert.AdamNormRefIdeal.defs _ _).mono (fun r h c => ?_) (Cert.AdamNormRefIdeal.Value.run m' g')
  obtain ⟨h0, h1, h2, h3⟩ := h c
  obtain ⟨e0, e1, e2, e3⟩ := hm c
  refine ⟨h0.trans ?_, h1.trans ?_, h2.trans ?_, h3⟩
  · rw [e0, e1, e2, e3]; rfl
  · rw [e1, e2]; rfl
  · rw [e1, e3]; rfl

end Macaron.AdamNorm

end
-- ==== Proof.Adam.Pool.lean ====
module

public import proofs.«01_k».proof.Defs
public import proofs.«01_k».proof.Proof.Gen.AdamPool
public import proofs.«01_k».proof.Proof.Gen.AdamPool.Frame
public import proofs.«01_k».proof.Proof.Gen.AdamPoolIdeal.Value
public import proofs.«01_k».proof.Proof.Gen.AdamPoolRefIdeal
public import proofs.«01_k».proof.Proof.Gen.AdamPoolRefIdeal.Run
public import Idealize.ShloMosaic.Lib.Quiescent

/-! The optimiser's step on the pooling weight, 1024 by 128: entry by entry, the kernel's weight change and moments are the reference's. -/

@[expose] public section

noncomputable section

namespace Macaron.AdamPool

open Idealize.ShloMosaic Idealize.ShloMosaic.TcCoe Idealize.SL.Sem

theorem frame : Cert.quiescent_AdamPool := fun m ρ _ => Cert.AdamPool.Gen.frame m ρ

theorem frame_ideal : Cert.quiescent_AdamPoolIdeal := fun m ρ _ => Cert.AdamPoolIdeal.Gen.frame m ρ

theorem frame_ref : Cert.quiescent_AdamPoolRefIdeal := fun m ρ _ =>
  (θ_run Cert.AdamPoolRefIdeal.defs _ _).mono
    (fun r h => ⟨fun c => (h c).2.2.2, sem_eq_zero_of_no_sems (by decide) r.2⟩) (Cert.AdamPoolRefIdeal.Value.run m ρ)

/-- The kernel's three results are the reference's. -/
theorem algebraic : Cert.algebraic_AdamPoolIdeal_AdamPoolRefIdeal := by
  intro m g m' g' _ hm
  refine ⟨_, _, _, Cert.AdamPoolIdeal.Value.run m g, ?_⟩
  refine (θ_run Cert.AdamPoolRefIdeal.defs _ _).mono (fun r h c => ?_) (Cert.AdamPoolRefIdeal.Value.run m' g')
  obtain ⟨h0, h1, h2, h3⟩ := h c
  obtain ⟨e0, e1, e2, e3⟩ := hm c
  refine ⟨h0.trans ?_, h1.trans ?_, h2.trans ?_, h3⟩
  · rw [e0, e1, e2, e3]; rfl
  · rw [e1, e2]; rfl
  · rw [e1, e3]; rfl

end Macaron.AdamPool

end
-- ==== Proof.Adam.Scale.lean ====
module

public import proofs.«01_k».proof.Defs
public import proofs.«01_k».proof.Proof.Gen.AdamScale
public import proofs.«01_k».proof.Proof.Gen.AdamScale.Frame
public import proofs.«01_k».proof.Proof.Gen.AdamScaleIdeal.Value
public import proofs.«01_k».proof.Proof.Gen.AdamScaleRefIdeal
public import proofs.«01_k».proof.Proof.Gen.AdamScaleRefIdeal.Run
public import Idealize.ShloMosaic.Lib.Quiescent

/-! The optimiser's step on the pooling scale, 2 by 512: entry by entry, the kernel's weight change and moments are the reference's. -/

@[expose] public section

noncomputable section

namespace Macaron.AdamScale

open Idealize.ShloMosaic Idealize.ShloMosaic.TcCoe Idealize.SL.Sem

theorem frame : Cert.quiescent_AdamScale := fun m ρ _ => Cert.AdamScale.Gen.frame m ρ

theorem frame_ideal : Cert.quiescent_AdamScaleIdeal := fun m ρ _ => Cert.AdamScaleIdeal.Gen.frame m ρ

theorem frame_ref : Cert.quiescent_AdamScaleRefIdeal := fun m ρ _ =>
  (θ_run Cert.AdamScaleRefIdeal.defs _ _).mono
    (fun r h => ⟨fun c => (h c).2.2.2, sem_eq_zero_of_no_sems (by decide) r.2⟩) (Cert.AdamScaleRefIdeal.Value.run m ρ)

/-- The kernel's three results are the reference's. -/
theorem algebraic : Cert.algebraic_AdamScaleIdeal_AdamScaleRefIdeal := by
  intro m g m' g' _ hm
  refine ⟨_, _, _, Cert.AdamScaleIdeal.Value.run m g, ?_⟩
  refine (θ_run Cert.AdamScaleRefIdeal.defs _ _).mono (fun r h c => ?_) (Cert.AdamScaleRefIdeal.Value.run m' g')
  obtain ⟨h0, h1, h2, h3⟩ := h c
  obtain ⟨e0, e1, e2, e3⟩ := hm c
  refine ⟨h0.trans ?_, h1.trans ?_, h2.trans ?_, h3⟩
  · rw [e0, e1, e2, e3]; rfl
  · rw [e1, e2]; rfl
  · rw [e1, e3]; rfl

end Macaron.AdamScale

end
-- ==== Proof.Adam.Sink.lean ====
module

public import proofs.«01_k».proof.Defs
public import proofs.«01_k».proof.Proof.Gen.AdamSink
public import proofs.«01_k».proof.Proof.Gen.AdamSink.Frame
public import proofs.«01_k».proof.Proof.Gen.AdamSinkIdeal.Value
public import proofs.«01_k».proof.Proof.Gen.AdamSinkRefIdeal
public import proofs.«01_k».proof.Proof.Gen.AdamSinkRefIdeal.Run
public import Idealize.ShloMosaic.Lib.Quiescent

/-! The optimiser's step on the sink, 2 by 8: entry by entry, the kernel's weight change and moments are the reference's. -/

@[expose] public section

noncomputable section

namespace Macaron.AdamSink

open Idealize.ShloMosaic Idealize.ShloMosaic.TcCoe Idealize.SL.Sem

theorem frame : Cert.quiescent_AdamSink := fun m ρ _ => Cert.AdamSink.Gen.frame m ρ

theorem frame_ideal : Cert.quiescent_AdamSinkIdeal := fun m ρ _ => Cert.AdamSinkIdeal.Gen.frame m ρ

theorem frame_ref : Cert.quiescent_AdamSinkRefIdeal := fun m ρ _ =>
  (θ_run Cert.AdamSinkRefIdeal.defs _ _).mono
    (fun r h => ⟨fun c => (h c).2.2.2, sem_eq_zero_of_no_sems (by decide) r.2⟩) (Cert.AdamSinkRefIdeal.Value.run m ρ)

/-- The kernel's three results are the reference's. -/
theorem algebraic : Cert.algebraic_AdamSinkIdeal_AdamSinkRefIdeal := by
  intro m g m' g' _ hm
  refine ⟨_, _, _, Cert.AdamSinkIdeal.Value.run m g, ?_⟩
  refine (θ_run Cert.AdamSinkRefIdeal.defs _ _).mono (fun r h c => ?_) (Cert.AdamSinkRefIdeal.Value.run m' g')
  obtain ⟨h0, h1, h2, h3⟩ := h c
  obtain ⟨e0, e1, e2, e3⟩ := hm c
  refine ⟨h0.trans ?_, h1.trans ?_, h2.trans ?_, h3⟩
  · rw [e0, e1, e2, e3]; rfl
  · rw [e1, e2]; rfl
  · rw [e1, e3]; rfl

end Macaron.AdamSink

end
-- ==== Proof.Adam.Spec.lean ====
module

public import Idealize.ShloMosaic.Lib.Pointwise
public import Idealize.ShloMosaic.Lib.Pipeline.ValueKit

/-! One step of AdamW on one entry, over the extended reals, with the constants that both programs print; and the
    gradient of a stacked weight, from the gradients of its two layers. -/

@[expose] public section

noncomputable section

namespace Macaron.Adam

open Idealize.ShloMosaic

/-- The first moment: a decayed mean of the gradients. -/
def mom (g m : EReal) : EReal := Ideal.ofBits FTy.f32 0x3F666666#32 * m + Ideal.ofBits FTy.f32 0x3DCCCCCD#32 * g

/-- The second moment: a decayed mean of the gradients' squares. -/
def var (g v : EReal) : EReal := Ideal.ofBits FTy.f32 0x3F7FBE77#32 * v + Ideal.ofBits FTy.f32 0x3A83126F#32 * (g * g)

/-- The weight's change: the corrected first moment over the root of the corrected second, and the weight's decay. -/
def delta (w g m v : EReal) : EReal :=
  Ideal.ofBits FTy.f32 0xBA83126F#32 * (Ideal.div (Ideal.div (mom g m) (Ideal.ofBits FTy.f32 0x3F26BD02#32))
      (Ideal.sqrt (Ideal.div (var g v) (Ideal.ofBits FTy.f32 0x3C231ACC#32)) + Ideal.ofBits FTy.f32 0x322BCC77#32)
    + Ideal.ofBits FTy.f32 0x3C23D70A#32 * w)

/-- The gradient of a weight of two layers: the first array for layer 0, the second for layer 1. -/
def grad {R C : Nat} (g0 g1 : (⟨2, ![R, C]⟩ : Shape).Idx → EReal) (l : Fin 2) (r : Fin R) (k : Fin C) : EReal :=
  if l.val < 1 then g0 (ix2 r k) else g1 (ix2 r k)

/-- Two layers' gradients, each made a stack of one and the two joined, are the stacked gradient. -/
theorem stack {R C : Nat} (g0 g1 : (⟨2, ![R, C]⟩ : Shape).Idx → EReal)
    (hb : Shape.BroadcastsInDim (⟨2, ![R, C]⟩ : Shape) ⟨3, ![1, R, C]⟩ ![1, 2])
    (hc : Shape.Concatenates [(⟨3, ![1, R, C]⟩ : Shape), ⟨3, ![1, R, C]⟩] ⟨3, ![2, R, C]⟩ 0) :
    concatenate ⟨3, ![2, R, C]⟩ 0 [⟨⟨3, ![1, R, C]⟩, broadcastInDim ⟨3, ![1, R, C]⟩ ![1, 2] hb g0⟩,
      ⟨⟨3, ![1, R, C]⟩, broadcastInDim ⟨3, ![1, R, C]⟩ ![1, 2] hb g1⟩] hc
      = fun i => grad g0 g1 (i 0) (i 1) (i 2) := by
  funext i
  have sum_one : ∀ g : (⟨2, ![R, C]⟩ : Shape).Idx → EReal, broadcastInDim ⟨3, ![1, R, C]⟩ ![1, 2] hb g (ix3 0 (i 1) (i 2)) = g (ix2 (i 1) (i 2)) := fun g => by
    unfold broadcastInDim
    refine congrArg g (funext fun a => Fin.ext ?_)
    fin_cases a
    · dsimp only
      split
      · next h1 =>
        have h1 : R = 1 := h1
        have h2 : (i 1).val < R := (i 1).2
        show 0 = (i 1).val
        omega
      · rfl
    · dsimp only
      split
      · next h1 =>
        have h1 : C = 1 := h1
        have h2 : (i 2).val < C := (i 2).2
        show 0 = (i 2).val
        omega
      · rfl
  unfold grad
  by_cases h : (i 0).val < 1
  · rw [if_pos h]
    refine (concatenate_pair_apply_left 0 _ _ hc i rfl (ix3 0 (i 1) (i 2)) fun b => ?_).trans (sum_one g0)
    fin_cases b
    · exact (Nat.lt_one_iff.1 h).symm
    · rfl
    · rfl
  · rw [if_neg h]
    refine (concatenate_pair_apply_right 0 _ _ hc i rfl rfl (ix3 0 (i 1) (i 2)) (fun b hb => ?_) ?_).trans (sum_one g1)
    · fin_cases b
      · exact absurd rfl hb
      · rfl
      · rfl
    · have := (i 0).2
      show 0 + 1 = (i 0).val
      simp only [Matrix.cons_val_zero] at this
      omega

/-- A block of one layer's rows, index by index. -/
theorem block_idx {T C : Nat} (y : (⟨3, ![1, T, C]⟩ : Shape).Idx) : ∃ (a : Fin T) (b : Fin C), y = ix3 0 a b :=
  ⟨y 1, y 2, by rw [eq_ix3 y]; congr 1; exact Subsingleton.elim _ _⟩

end Macaron.Adam

end
-- ==== Proof.Adam.Wide.lean ====
module

public import proofs.«01_k».proof.Defs
public import proofs.«01_k».proof.Proof.Adam.Spec
public import proofs.«01_k».proof.Proof.Gen.AdamWide
public import proofs.«01_k».proof.Proof.Gen.AdamWide.Frame
public import proofs.«01_k».proof.Proof.Gen.AdamWideIdeal.Value
public import proofs.«01_k».proof.Proof.Gen.AdamWideRefIdeal
public import proofs.«01_k».proof.Proof.Gen.AdamWideRefIdeal.Run
public import Idealize.ShloMosaic.Lib.Pipeline.ValueKit
public import Idealize.ShloMosaic.Lib.Tactic.CleanTypes
public import Idealize.ShloMosaic.Lib.Quiescent

/-! The optimiser's step on the widening weights of the half-steps, both layers in one call: entry by entry, the kernel's weight change and moments
    are the reference's. -/

@[expose] public section

set_option maxRecDepth 16384

noncomputable section

namespace Macaron.AdamWide

open Idealize.ShloMosaic Idealize.ShloMosaic.TcCoe Idealize.SL.Sem Macaron.Adam
open Cert.AdamWideIdeal Cert.AdamWideIdeal.Gen

section Kernel

variable (m : (ℓ : Loc nD τ sig) → Buf (Elt Ideal) ℓ) (c : Dev nD)

/-! The weight, its gradients of the two layers, and the moments. -/

def a0 : S2x1024x1408.Idx → EReal := m ((c.tc : Thread nD τ).loc main_arg0)
def a1 : S1024x1408.Idx → EReal := m ((c.tc : Thread nD τ).loc main_arg1)
def a2 : S1024x1408.Idx → EReal := m ((c.tc : Thread nD τ).loc main_arg2)
def a3 : S2x1024x1408.Idx → EReal := m ((c.tc : Thread nD τ).loc main_arg3)
def a4 : S2x1024x1408.Idx → EReal := m ((c.tc : Thread nD τ).loc main_arg4)

theorem steps (t : Fin cfg0.N) : t.val < 16 := by have := t.2; simp only [show cfg0.N = 16 from rfl] at this; omega

/-- The layer, and the row of it, at which row `a` of block `t` stands. -/
def lay (t : Fin cfg0.N) : Fin 2 := ⟨t.val / 8, by have := steps t; omega⟩
def row (t : Fin cfg0.N) (a : Fin 128) : Fin 1024 := ⟨128 * (t.val % 8) + a.val, by omega⟩

theorem idx : ∀ t : Fin cfg0.N, win0_0.index t = ![t.val / 8, t.val % 8, 0]
      ∧ win0_1.index t = ![if t.val < 8 then t.val else 7, 0] ∧ win0_2.index t = ![if t.val < 8 then 0 else t.val - 8, 0]
      ∧ win0_3.index t = ![t.val / 8, t.val % 8, 0] ∧ win0_4.index t = ![t.val / 8, t.val % 8, 0]
      ∧ win0_5.index t = ![t.val / 8, t.val % 8, 0] ∧ win0_6.index t = ![t.val / 8, t.val % 8, 0]
      ∧ win0_7.index t = ![t.val / 8, t.val % 8, 0] ∧ win0_8.index t = ![t.val / 8, t.val % 8, 0] :=
  (by decide +kernel : ∀ t : Fin grid0.N, _)

theorem w_at (t : Fin cfg0.N) (a : Fin 128) (b : Fin 1408) : iblk m c 0 t (ix3 0 a b) = a0 m c (ix3 (lay t) (row t a) b) := by
  blk_ext! [iblk, V, idx t, row, lay, a0]

theorem m_at (t : Fin cfg0.N) (a : Fin 128) (b : Fin 1408) : iblk m c 3 t (ix3 0 a b) = a3 m c (ix3 (lay t) (row t a) b) := by
  blk_ext! [iblk, V, idx t, row, lay, a3]

theorem v_at (t : Fin cfg0.N) (a : Fin 128) (b : Fin 1408) : iblk m c 4 t (ix3 0 a b) = a4 m c (ix3 (lay t) (row t a) b) := by
  blk_ext! [iblk, V, idx t, row, lay, a4]

theorem g0_at (t : Fin cfg0.N) (h : t.val < 8) (a : Fin 128) (b : Fin 1408) : iblk m c 1 t (ix2 a b) = a1 m c (ix2 (row t a) b) := by
  have i1 : win0_1.index t = ![t.val, 0] := by rw [(idx t).2.1, if_pos h]
  blk_ext! [iblk, V, i1, row, a1, Nat.mod_eq_of_lt h]

theorem g1_at (t : Fin cfg0.N) (h : ¬ t.val < 8) (a : Fin 128) (b : Fin 1408) : iblk m c 2 t (ix2 a b) = a2 m c (ix2 (row t a) b) := by
  have e : t.val % 8 = t.val - 8 := by have := steps t; omega
  have i2 : win0_2.index t = ![t.val - 8, 0] := by rw [(idx t).2.2.1, if_neg h]
  blk_ext! [iblk, V, i2, row, a2, e]

/-- The gradient that a grid point takes: the first layer's at the first layer's points, else the second's. -/
theorem pick (t : Fin cfg0.N) (x y : Vec Ideal S128x1408 .f32) :
    k0_pay4 (grid0.coords t) x y = if t.val < 8 then x else y := by
  have h : ∀ t : Fin cfg0.N, (Scalar.cmpi .eq (BitVec.ofNat 32 (grid0.coords t 0).val) 0#32 = 1#1) ↔ t.val < 8 :=
    (by decide +kernel : ∀ t : Fin grid0.N, _)
  exact if_congr (h t) rfl rfl

theorem g_at (t : Fin cfg0.N) (a : Fin 128) (b : Fin 1408) :
    k0_pay4 (grid0.coords t) (iblk m c 1 t) (iblk m c 2 t) (ix2 a b) = grad (a1 m c) (a2 m c) (lay t) (row t a) b := by
  have ht := steps t
  rw [pick]
  unfold grad lay
  by_cases h : t.val < 8
  · rw [if_pos h, if_pos (show t.val / 8 < 1 by omega)]; exact g0_at m c t h a b
  · rw [if_neg h, if_neg (show ¬ t.val / 8 < 1 by omega)]; exact g1_at m c t h a b

/-! What a grid point stores. -/

theorem out5 (t : Fin cfg0.N) (a : Fin 128) (b : Fin 1408) :
    (dats m 0 c).after 5 t (ix3 0 a b) = grad (a1 m c) (a2 m c) (lay t) (row t a) b := by
  rw [after0_5]
  unfold out0_5
  frame_out
  refine Eq.trans ?_ (g_at m c t a b)
  pointwise [k0_pay5]

theorem out6 (t : Fin cfg0.N) (a : Fin 128) (b : Fin 1408) :
    (dats m 0 c).after 6 t (ix3 0 a b) = delta (a0 m c (ix3 (lay t) (row t a) b)) (grad (a1 m c) (a2 m c) (lay t) (row t a) b)
      (a3 m c (ix3 (lay t) (row t a) b)) (a4 m c (ix3 (lay t) (row t a) b)) := by
  rw [after0_6, ← w_at, ← m_at, ← v_at, ← g_at]
  unfold out0_6 delta mom var
  frame_out
  pointwise [k0_pay1, k0_pay6, k0_pay7, k0_pay8, k0_pay9]

theorem out7 (t : Fin cfg0.N) (a : Fin 128) (b : Fin 1408) :
    (dats m 0 c).after 7 t (ix3 0 a b) = mom (grad (a1 m c) (a2 m c) (lay t) (row t a) b) (a3 m c (ix3 (lay t) (row t a) b)) := by
  rw [after0_7, ← m_at, ← g_at]
  unfold out0_7 mom
  frame_out
  pointwise [k0_pay2, k0_pay7]

theorem out8 (t : Fin cfg0.N) (a : Fin 128) (b : Fin 1408) :
    (dats m 0 c).after 8 t (ix3 0 a b) = var (grad (a1 m c) (a2 m c) (lay t) (row t a) b) (a4 m c (ix3 (lay t) (row t a) b)) := by
  rw [after0_8, ← v_at, ← g_at]
  unfold out0_8 var
  frame_out
  pointwise [k0_pay3, k0_pay8]

/-- The array of the stacked gradients after the run. -/
theorem final5 : (dats m 0 c).arrAt 5 cfg0.N = fun i : S2x1024x1408.Idx => grad (a1 m c) (a2 m c) (i 0) (i 1) (i 2) := by
  refine (dats m 0 c).arrAt_eq_of_covers 5 _ (by decide +kernel) fun t hf y => ?_
  blk_simp
  obtain ⟨a, b, rfl⟩ := block_idx y
  have e : (win0_5.blk t).view.emb (ix3 0 a b) = ix3 (lay t) (row t a) b := by
    rw [eq_ix3 ((win0_5.blk t).view.emb (ix3 0 a b))]
    congr 1 <;> exact Fin.ext (by blk_simp [idx t, lay, row]; try simp only [ix3]; try omega)
  rw [e]
  exact out5 m c t a b

/-- The array of the weight's changes after the run. -/
theorem final6 : (dats m 0 c).arrAt 6 cfg0.N = fun i : S2x1024x1408.Idx => delta (a0 m c i) (grad (a1 m c) (a2 m c) (i 0) (i 1) (i 2)) (a3 m c i) (a4 m c i) := by
  refine (dats m 0 c).arrAt_eq_of_covers 6 _ (by decide +kernel) fun t hf y => ?_
  blk_simp
  obtain ⟨a, b, rfl⟩ := block_idx y
  have e : (win0_6.blk t).view.emb (ix3 0 a b) = ix3 (lay t) (row t a) b := by
    rw [eq_ix3 ((win0_6.blk t).view.emb (ix3 0 a b))]
    congr 1 <;> exact Fin.ext (by blk_simp [idx t, lay, row]; try simp only [ix3]; try omega)
  rw [e]
  exact out6 m c t a b

/-- The array of the first moments after the run. -/
theorem final7 : (dats m 0 c).arrAt 7 cfg0.N = fun i : S2x1024x1408.Idx => mom (grad (a1 m c) (a2 m c) (i 0) (i 1) (i 2)) (a3 m c i) := by
  refine (dats m 0 c).arrAt_eq_of_covers 7 _ (by decide +kernel) fun t hf y => ?_
  blk_simp
  obtain ⟨a, b, rfl⟩ := block_idx y
  have e : (win0_7.blk t).view.emb (ix3 0 a b) = ix3 (lay t) (row t a) b := by
    rw [eq_ix3 ((win0_7.blk t).view.emb (ix3 0 a b))]
    congr 1 <;> exact Fin.ext (by blk_simp [idx t, lay, row]; try simp only [ix3]; try omega)
  rw [e]
  exact out7 m c t a b

/-- The array of the second moments after the run. -/
theorem final8 : (dats m 0 c).arrAt 8 cfg0.N = fun i : S2x1024x1408.Idx => var (grad (a1 m c) (a2 m c) (i 0) (i 1) (i 2)) (a4 m c i) := by
  refine (dats m 0 c).arrAt_eq_of_covers 8 _ (by decide +kernel) fun t hf y => ?_
  blk_simp
  obtain ⟨a, b, rfl⟩ := block_idx y
  have e : (win0_8.blk t).view.emb (ix3 0 a b) = ix3 (lay t) (row t a) b := by
    rw [eq_ix3 ((win0_8.blk t).view.emb (ix3 0 a b))]
    congr 1 <;> exact Fin.ext (by blk_simp [idx t, lay, row]; try simp only [ix3]; try omega)
  rw [e]
  exact out8 m c t a b

end Kernel

theorem frame : Cert.quiescent_AdamWide := fun m ρ _ => Cert.AdamWide.Gen.frame m ρ

theorem frame_ideal : Cert.quiescent_AdamWideIdeal := fun m ρ _ => Cert.AdamWideIdeal.Gen.frame m ρ

theorem frame_ref : Cert.quiescent_AdamWideRefIdeal := fun m ρ _ =>
  (θ_run Cert.AdamWideRefIdeal.defs _ _).mono
    (fun r h => ⟨fun c => (h c).2.2.2.2, sem_eq_zero_of_no_sems (by decide) r.2⟩) (Cert.AdamWideRefIdeal.Value.run m ρ)

/-- The kernel's four results are the reference's. -/
theorem algebraic : Cert.algebraic_AdamWideIdeal_AdamWideRefIdeal := by
  intro m g m' g' _ hm
  refine ⟨fun c => (dats m 0 c).arrAt 5 cfg0.N, fun c => (dats m 0 c).arrAt 6 cfg0.N, fun c => (dats m 0 c).arrAt 7 cfg0.N,
    fun c => (dats m 0 c).arrAt 8 cfg0.N, Cert.AdamWideIdeal.Value.run_blocks m g, ?_⟩
  refine (θ_run Cert.AdamWideRefIdeal.defs _ _).mono (fun r h c => ?_) (Cert.AdamWideRefIdeal.Value.run m' g')
  obtain ⟨h0, h1, h2, h3, h4⟩ := h c
  obtain ⟨e0, e1, e2, e3, e4⟩ := hm c
  have S := stack (a1 m c) (a2 m c) Cert.AdamWideRefIdeal.Gen.bcast_S1024x1408_S1x1024x1408_1_2
    Cert.AdamWideRefIdeal.Gen.concatenates_S1x1024x1408_S1x1024x1408_S2x1024x1408_d0
  rw [e1, e2] at h0
  rw [e0, e1, e2, e3, e4] at h1
  rw [e1, e2, e3] at h2
  rw [e1, e2, e4] at h3
  exact ⟨(h0.trans S).trans (final5 m c).symm,
    h1.trans ((congrArg (fun G : S2x1024x1408.Idx → EReal => fun i => delta (a0 m c i) (G i) (a3 m c i) (a4 m c i)) S).trans (final6 m c).symm),
    h2.trans ((congrArg (fun G : S2x1024x1408.Idx → EReal => fun i => mom (G i) (a3 m c i)) S).trans (final7 m c).symm),
    h3.trans ((congrArg (fun G : S2x1024x1408.Idx → EReal => fun i => var (G i) (a4 m c i)) S).trans (final8 m c).symm), h4⟩

end Macaron.AdamWide

end
-- ==== Proof.Adam.Narrow.lean ====
module

public import proofs.«01_k».proof.Defs
public import proofs.«01_k».proof.Proof.Adam.Spec
public import proofs.«01_k».proof.Proof.Gen.AdamNarrow
public import proofs.«01_k».proof.Proof.Gen.AdamNarrow.Frame
public import proofs.«01_k».proof.Proof.Gen.AdamNarrowIdeal.Value
public import proofs.«01_k».proof.Proof.Gen.AdamNarrowRefIdeal
public import proofs.«01_k».proof.Proof.Gen.AdamNarrowRefIdeal.Run
public import Idealize.ShloMosaic.Lib.Pipeline.ValueKit
public import Idealize.ShloMosaic.Lib.Tactic.CleanTypes
public import Idealize.ShloMosaic.Lib.Quiescent

/-! The optimiser's step on the narrowing weights of the half-steps, both layers in one call: entry by entry, the kernel's weight change and moments
    are the reference's. -/

@[expose] public section

set_option maxRecDepth 16384

noncomputable section

namespace Macaron.AdamNarrow

open Idealize.ShloMosaic Idealize.ShloMosaic.TcCoe Idealize.SL.Sem Macaron.Adam
open Cert.AdamNarrowIdeal Cert.AdamNarrowIdeal.Gen

section Kernel

variable (m : (ℓ : Loc nD τ sig) → Buf (Elt Ideal) ℓ) (c : Dev nD)

/-! The weight, its gradients of the two layers, and the moments. -/

def a0 : S2x704x1024.Idx → EReal := m ((c.tc : Thread nD τ).loc main_arg0)
def a1 : S704x1024.Idx → EReal := m ((c.tc : Thread nD τ).loc main_arg1)
def a2 : S704x1024.Idx → EReal := m ((c.tc : Thread nD τ).loc main_arg2)
def a3 : S2x704x1024.Idx → EReal := m ((c.tc : Thread nD τ).loc main_arg3)
def a4 : S2x704x1024.Idx → EReal := m ((c.tc : Thread nD τ).loc main_arg4)

theorem steps (t : Fin cfg0.N) : t.val < 8 := by have := t.2; simp only [show cfg0.N = 8 from rfl] at this; omega

/-- The layer, and the row of it, at which row `a` of block `t` stands. -/
def lay (t : Fin cfg0.N) : Fin 2 := ⟨t.val / 4, by have := steps t; omega⟩
def row (t : Fin cfg0.N) (a : Fin 176) : Fin 704 := ⟨176 * (t.val % 4) + a.val, by omega⟩

theorem idx : ∀ t : Fin cfg0.N, win0_0.index t = ![t.val / 4, t.val % 4, 0]
      ∧ win0_1.index t = ![if t.val < 4 then t.val else 3, 0] ∧ win0_2.index t = ![if t.val < 4 then 0 else t.val - 4, 0]
      ∧ win0_3.index t = ![t.val / 4, t.val % 4, 0] ∧ win0_4.index t = ![t.val / 4, t.val % 4, 0]
      ∧ win0_5.index t = ![t.val / 4, t.val % 4, 0] ∧ win0_6.index t = ![t.val / 4, t.val % 4, 0]
      ∧ win0_7.index t = ![t.val / 4, t.val % 4, 0] ∧ win0_8.index t = ![t.val / 4, t.val % 4, 0] :=
  (by decide +kernel : ∀ t : Fin grid0.N, _)

theorem w_at (t : Fin cfg0.N) (a : Fin 176) (b : Fin 1024) : iblk m c 0 t (ix3 0 a b) = a0 m c (ix3 (lay t) (row t a) b) := by
  blk_ext! [iblk, V, idx t, row, lay, a0]

theorem m_at (t : Fin cfg0.N) (a : Fin 176) (b : Fin 1024) : iblk m c 3 t (ix3 0 a b) = a3 m c (ix3 (lay t) (row t a) b) := by
  blk_ext! [iblk, V, idx t, row, lay, a3]

theorem v_at (t : Fin cfg0.N) (a : Fin 176) (b : Fin 1024) : iblk m c 4 t (ix3 0 a b) = a4 m c (ix3 (lay t) (row t a) b) := by
  blk_ext! [iblk, V, idx t, row, lay, a4]

theorem g0_at (t : Fin cfg0.N) (h : t.val < 4) (a : Fin 176) (b : Fin 1024) : iblk m c 1 t (ix2 a b) = a1 m c (ix2 (row t a) b) := by
  have i1 : win0_1.index t = ![t.val, 0] := by rw [(idx t).2.1, if_pos h]
  blk_ext! [iblk, V, i1, row, a1, Nat.mod_eq_of_lt h]

theorem g1_at (t : Fin cfg0.N) (h : ¬ t.val < 4) (a : Fin 176) (b : Fin 1024) : iblk m c 2 t (ix2 a b) = a2 m c (ix2 (row t a) b) := by
  have e : t.val % 4 = t.val - 4 := by have := steps t; omega
  have i2 : win0_2.index t = ![t.val - 4, 0] := by rw [(idx t).2.2.1, if_neg h]
  blk_ext! [iblk, V, i2, row, a2, e]

/-- The gradient that a grid point takes: the first layer's at the first layer's points, else the second's. -/
theorem pick (t : Fin cfg0.N) (x y : Vec Ideal S176x1024 .f32) :
    k0_pay4 (grid0.coords t) x y = if t.val < 4 then x else y := by
  have h : ∀ t : Fin cfg0.N, (Scalar.cmpi .eq (BitVec.ofNat 32 (grid0.coords t 0).val) 0#32 = 1#1) ↔ t.val < 4 :=
    (by decide +kernel : ∀ t : Fin grid0.N, _)
  exact if_congr (h t) rfl rfl

theorem g_at (t : Fin cfg0.N) (a : Fin 176) (b : Fin 1024) :
    k0_pay4 (grid0.coords t) (iblk m c 1 t) (iblk m c 2 t) (ix2 a b) = grad (a1 m c) (a2 m c) (lay t) (row t a) b := by
  have ht := steps t
  rw [pick]
  unfold grad lay
  by_cases h : t.val < 4
  · rw [if_pos h, if_pos (show t.val / 4 < 1 by omega)]; exact g0_at m c t h a b
  · rw [if_neg h, if_neg (show ¬ t.val / 4 < 1 by omega)]; exact g1_at m c t h a b

/-! What a grid point stores. -/

theorem out5 (t : Fin cfg0.N) (a : Fin 176) (b : Fin 1024) :
    (dats m 0 c).after 5 t (ix3 0 a b) = grad (a1 m c) (a2 m c) (lay t) (row t a) b := by
  rw [after0_5]
  unfold out0_5
  frame_out
  refine Eq.trans ?_ (g_at m c t a b)
  pointwise [k0_pay5]

theorem out6 (t : Fin cfg0.N) (a : Fin 176) (b : Fin 1024) :
    (dats m 0 c).after 6 t (ix3 0 a b) = delta (a0 m c (ix3 (lay t) (row t a) b)) (grad (a1 m c) (a2 m c) (lay t) (row t a) b)
      (a3 m c (ix3 (lay t) (row t a) b)) (a4 m c (ix3 (lay t) (row t a) b)) := by
  rw [after0_6, ← w_at, ← m_at, ← v_at, ← g_at]
  unfold out0_6 delta mom var
  frame_out
  pointwise [k0_pay1, k0_pay6, k0_pay7, k0_pay8, k0_pay9]

theorem out7 (t : Fin cfg0.N) (a : Fin 176) (b : Fin 1024) :
    (dats m 0 c).after 7 t (ix3 0 a b) = mom (grad (a1 m c) (a2 m c) (lay t) (row t a) b) (a3 m c (ix3 (lay t) (row t a) b)) := by
  rw [after0_7, ← m_at, ← g_at]
  unfold out0_7 mom
  frame_out
  pointwise [k0_pay2, k0_pay7]

theorem out8 (t : Fin cfg0.N) (a : Fin 176) (b : Fin 1024) :
    (dats m 0 c).after 8 t (ix3 0 a b) = var (grad (a1 m c) (a2 m c) (lay t) (row t a) b) (a4 m c (ix3 (lay t) (row t a) b)) := by
  rw [after0_8, ← v_at, ← g_at]
  unfold out0_8 var
  frame_out
  pointwise [k0_pay3, k0_pay8]

/-- The array of the stacked gradients after the run. -/
theorem final5 : (dats m 0 c).arrAt 5 cfg0.N = fun i : S2x704x1024.Idx => grad (a1 m c) (a2 m c) (i 0) (i 1) (i 2) := by
  refine (dats m 0 c).arrAt_eq_of_covers 5 _ (by decide +kernel) fun t hf y => ?_
  blk_simp
  obtain ⟨a, b, rfl⟩ := block_idx y
  have e : (win0_5.blk t).view.emb (ix3 0 a b) = ix3 (lay t) (row t a) b := by
    rw [eq_ix3 ((win0_5.blk t).view.emb (ix3 0 a b))]
    congr 1 <;> exact Fin.ext (by blk_simp [idx t, lay, row]; try simp only [ix3]; try omega)
  rw [e]
  exact out5 m c t a b

/-- The array of the weight's changes after the run. -/
theorem final6 : (dats m 0 c).arrAt 6 cfg0.N = fun i : S2x704x1024.Idx => delta (a0 m c i) (grad (a1 m c) (a2 m c) (i 0) (i 1) (i 2)) (a3 m c i) (a4 m c i) := by
  refine (dats m 0 c).arrAt_eq_of_covers 6 _ (by decide +kernel) fun t hf y => ?_
  blk_simp
  obtain ⟨a, b, rfl⟩ := block_idx y
  have e : (win0_6.blk t).view.emb (ix3 0 a b) = ix3 (lay t) (row t a) b := by
    rw [eq_ix3 ((win0_6.blk t).view.emb (ix3 0 a b))]
    congr 1 <;> exact Fin.ext (by blk_simp [idx t, lay, row]; try simp only [ix3]; try omega)
  rw [e]
  exact out6 m c t a b

/-- The array of the first moments after the run. -/
theorem final7 : (dats m 0 c).arrAt 7 cfg0.N = fun i : S2x704x1024.Idx => mom (grad (a1 m c) (a2 m c) (i 0) (i 1) (i 2)) (a3 m c i) := by
  refine (dats m 0 c).arrAt_eq_of_covers 7 _ (by decide +kernel) fun t hf y => ?_
  blk_simp
  obtain ⟨a, b, rfl⟩ := block_idx y
  have e : (win0_7.blk t).view.emb (ix3 0 a b) = ix3 (lay t) (row t a) b := by
    rw [eq_ix3 ((win0_7.blk t).view.emb (ix3 0 a b))]
    congr 1 <;> exact Fin.ext (by blk_simp [idx t, lay, row]; try simp only [ix3]; try omega)
  rw [e]
  exact out7 m c t a b

/-- The array of the second moments after the run. -/
theorem final8 : (dats m 0 c).arrAt 8 cfg0.N = fun i : S2x704x1024.Idx => var (grad (a1 m c) (a2 m c) (i 0) (i 1) (i 2)) (a4 m c i) := by
  refine (dats m 0 c).arrAt_eq_of_covers 8 _ (by decide +kernel) fun t hf y => ?_
  blk_simp
  obtain ⟨a, b, rfl⟩ := block_idx y
  have e : (win0_8.blk t).view.emb (ix3 0 a b) = ix3 (lay t) (row t a) b := by
    rw [eq_ix3 ((win0_8.blk t).view.emb (ix3 0 a b))]
    congr 1 <;> exact Fin.ext (by blk_simp [idx t, lay, row]; try simp only [ix3]; try omega)
  rw [e]
  exact out8 m c t a b

end Kernel

theorem frame : Cert.quiescent_AdamNarrow := fun m ρ _ => Cert.AdamNarrow.Gen.frame m ρ

theorem frame_ideal : Cert.quiescent_AdamNarrowIdeal := fun m ρ _ => Cert.AdamNarrowIdeal.Gen.frame m ρ

theorem frame_ref : Cert.quiescent_AdamNarrowRefIdeal := fun m ρ _ =>
  (θ_run Cert.AdamNarrowRefIdeal.defs _ _).mono
    (fun r h => ⟨fun c => (h c).2.2.2.2, sem_eq_zero_of_no_sems (by decide) r.2⟩) (Cert.AdamNarrowRefIdeal.Value.run m ρ)

/-- The kernel's four results are the reference's. -/
theorem algebraic : Cert.algebraic_AdamNarrowIdeal_AdamNarrowRefIdeal := by
  intro m g m' g' _ hm
  refine ⟨fun c => (dats m 0 c).arrAt 5 cfg0.N, fun c => (dats m 0 c).arrAt 6 cfg0.N, fun c => (dats m 0 c).arrAt 7 cfg0.N,
    fun c => (dats m 0 c).arrAt 8 cfg0.N, Cert.AdamNarrowIdeal.Value.run_blocks m g, ?_⟩
  refine (θ_run Cert.AdamNarrowRefIdeal.defs _ _).mono (fun r h c => ?_) (Cert.AdamNarrowRefIdeal.Value.run m' g')
  obtain ⟨h0, h1, h2, h3, h4⟩ := h c
  obtain ⟨e0, e1, e2, e3, e4⟩ := hm c
  have S := stack (a1 m c) (a2 m c) Cert.AdamNarrowRefIdeal.Gen.bcast_S704x1024_S1x704x1024_1_2
    Cert.AdamNarrowRefIdeal.Gen.concatenates_S1x704x1024_S1x704x1024_S2x704x1024_d0
  rw [e1, e2] at h0
  rw [e0, e1, e2, e3, e4] at h1
  rw [e1, e2, e3] at h2
  rw [e1, e2, e4] at h3
  exact ⟨(h0.trans S).trans (final5 m c).symm,
    h1.trans ((congrArg (fun G : S2x704x1024.Idx → EReal => fun i => delta (a0 m c i) (G i) (a3 m c i) (a4 m c i)) S).trans (final6 m c).symm),
    h2.trans ((congrArg (fun G : S2x704x1024.Idx → EReal => fun i => mom (G i) (a3 m c i)) S).trans (final7 m c).symm),
    h3.trans ((congrArg (fun G : S2x704x1024.Idx → EReal => fun i => var (G i) (a4 m c i)) S).trans (final8 m c).symm), h4⟩

end Macaron.AdamNarrow

end
-- ==== Proof.Adam.Proj.lean ====
module

public import proofs.«01_k».proof.Defs
public import proofs.«01_k».proof.Proof.Adam.Spec
public import proofs.«01_k».proof.Proof.Gen.AdamProj
public import proofs.«01_k».proof.Proof.Gen.AdamProj.Frame
public import proofs.«01_k».proof.Proof.Gen.AdamProjIdeal.Value
public import proofs.«01_k».proof.Proof.Gen.AdamProjRefIdeal
public import proofs.«01_k».proof.Proof.Gen.AdamProjRefIdeal.Run
public import Idealize.ShloMosaic.Lib.Pipeline.ValueKit
public import Idealize.ShloMosaic.Lib.Tactic.CleanTypes
public import Idealize.ShloMosaic.Lib.Quiescent

/-! The optimiser's step on the mixer's input projections, both layers in one call: entry by entry, the kernel's weight change and moments
    are the reference's. -/

@[expose] public section

set_option maxRecDepth 16384

noncomputable section

namespace Macaron.AdamProj

open Idealize.ShloMosaic Idealize.ShloMosaic.TcCoe Idealize.SL.Sem Macaron.Adam
open Cert.AdamProjIdeal Cert.AdamProjIdeal.Gen

section Kernel

variable (m : (ℓ : Loc nD τ sig) → Buf (Elt Ideal) ℓ) (c : Dev nD)

/-! The weight, its gradients of the two layers, and the moments. -/

def a0 : S2x1024x320.Idx → EReal := m ((c.tc : Thread nD τ).loc main_arg0)
def a1 : S1024x320.Idx → EReal := m ((c.tc : Thread nD τ).loc main_arg1)
def a2 : S1024x320.Idx → EReal := m ((c.tc : Thread nD τ).loc main_arg2)
def a3 : S2x1024x320.Idx → EReal := m ((c.tc : Thread nD τ).loc main_arg3)
def a4 : S2x1024x320.Idx → EReal := m ((c.tc : Thread nD τ).loc main_arg4)

theorem steps (t : Fin cfg0.N) : t.val < 4 := by have := t.2; simp only [show cfg0.N = 4 from rfl] at this; omega

/-- The layer, and the row of it, at which row `a` of block `t` stands. -/
def lay (t : Fin cfg0.N) : Fin 2 := ⟨t.val / 2, by have := steps t; omega⟩
def row (t : Fin cfg0.N) (a : Fin 512) : Fin 1024 := ⟨512 * (t.val % 2) + a.val, by omega⟩

theorem idx : ∀ t : Fin cfg0.N, win0_0.index t = ![t.val / 2, t.val % 2, 0]
      ∧ win0_1.index t = ![if t.val < 2 then t.val else 1, 0] ∧ win0_2.index t = ![if t.val < 2 then 0 else t.val - 2, 0]
      ∧ win0_3.index t = ![t.val / 2, t.val % 2, 0] ∧ win0_4.index t = ![t.val / 2, t.val % 2, 0]
      ∧ win0_5.index t = ![t.val / 2, t.val % 2, 0] ∧ win0_6.index t = ![t.val / 2, t.val % 2, 0]
      ∧ win0_7.index t = ![t.val / 2, t.val % 2, 0] ∧ win0_8.index t = ![t.val / 2, t.val % 2, 0] :=
  (by decide +kernel : ∀ t : Fin grid0.N, _)

theorem w_at (t : Fin cfg0.N) (a : Fin 512) (b : Fin 320) : iblk m c 0 t (ix3 0 a b) = a0 m c (ix3 (lay t) (row t a) b) := by
  blk_ext! [iblk, V, idx t, row, lay, a0]

theorem m_at (t : Fin cfg0.N) (a : Fin 512) (b : Fin 320) : iblk m c 3 t (ix3 0 a b) = a3 m c (ix3 (lay t) (row t a) b) := by
  blk_ext! [iblk, V, idx t, row, lay, a3]

theorem v_at (t : Fin cfg0.N) (a : Fin 512) (b : Fin 320) : iblk m c 4 t (ix3 0 a b) = a4 m c (ix3 (lay t) (row t a) b) := by
  blk_ext! [iblk, V, idx t, row, lay, a4]

theorem g0_at (t : Fin cfg0.N) (h : t.val < 2) (a : Fin 512) (b : Fin 320) : iblk m c 1 t (ix2 a b) = a1 m c (ix2 (row t a) b) := by
  have i1 : win0_1.index t = ![t.val, 0] := by rw [(idx t).2.1, if_pos h]
  blk_ext! [iblk, V, i1, row, a1, Nat.mod_eq_of_lt h]

theorem g1_at (t : Fin cfg0.N) (h : ¬ t.val < 2) (a : Fin 512) (b : Fin 320) : iblk m c 2 t (ix2 a b) = a2 m c (ix2 (row t a) b) := by
  have e : t.val % 2 = t.val - 2 := by have := steps t; omega
  have i2 : win0_2.index t = ![t.val - 2, 0] := by rw [(idx t).2.2.1, if_neg h]
  blk_ext! [iblk, V, i2, row, a2, e]

/-- The gradient that a grid point takes: the first layer's at the first layer's points, else the second's. -/
theorem pick (t : Fin cfg0.N) (x y : Vec Ideal S512x320 .f32) :
    k0_pay4 (grid0.coords t) x y = if t.val < 2 then x else y := by
  have h : ∀ t : Fin cfg0.N, (Scalar.cmpi .eq (BitVec.ofNat 32 (grid0.coords t 0).val) 0#32 = 1#1) ↔ t.val < 2 :=
    (by decide +kernel : ∀ t : Fin grid0.N, _)
  exact if_congr (h t) rfl rfl

theorem g_at (t : Fin cfg0.N) (a : Fin 512) (b : Fin 320) :
    k0_pay4 (grid0.coords t) (iblk m c 1 t) (iblk m c 2 t) (ix2 a b) = grad (a1 m c) (a2 m c) (lay t) (row t a) b := by
  have ht := steps t
  rw [pick]
  unfold grad lay
  by_cases h : t.val < 2
  · rw [if_pos h, if_pos (show t.val / 2 < 1 by omega)]; exact g0_at m c t h a b
  · rw [if_neg h, if_neg (show ¬ t.val / 2 < 1 by omega)]; exact g1_at m c t h a b

/-! What a grid point stores. -/

theorem out5 (t : Fin cfg0.N) (a : Fin 512) (b : Fin 320) :
    (dats m 0 c).after 5 t (ix3 0 a b) = grad (a1 m c) (a2 m c) (lay t) (row t a) b := by
  rw [after0_5]
  unfold out0_5
  frame_out
  refine Eq.trans ?_ (g_at m c t a b)
  pointwise [k0_pay5]

theorem out6 (t : Fin cfg0.N) (a : Fin 512) (b : Fin 320) :
    (dats m 0 c).after 6 t (ix3 0 a b) = delta (a0 m c (ix3 (lay t) (row t a) b)) (grad (a1 m c) (a2 m c) (lay t) (row t a) b)
      (a3 m c (ix3 (lay t) (row t a) b)) (a4 m c (ix3 (lay t) (row t a) b)) := by
  rw [after0_6, ← w_at, ← m_at, ← v_at, ← g_at]
  unfold out0_6 delta mom var
  frame_out
  pointwise [k0_pay1, k0_pay6, k0_pay7, k0_pay8, k0_pay9]

theorem out7 (t : Fin cfg0.N) (a : Fin 512) (b : Fin 320) :
    (dats m 0 c).after 7 t (ix3 0 a b) = mom (grad (a1 m c) (a2 m c) (lay t) (row t a) b) (a3 m c (ix3 (lay t) (row t a) b)) := by
  rw [after0_7, ← m_at, ← g_at]
  unfold out0_7 mom
  frame_out
  pointwise [k0_pay2, k0_pay7]

theorem out8 (t : Fin cfg0.N) (a : Fin 512) (b : Fin 320) :
    (dats m 0 c).after 8 t (ix3 0 a b) = var (grad (a1 m c) (a2 m c) (lay t) (row t a) b) (a4 m c (ix3 (lay t) (row t a) b)) := by
  rw [after0_8, ← v_at, ← g_at]
  unfold out0_8 var
  frame_out
  pointwise [k0_pay3, k0_pay8]

/-- The array of the stacked gradients after the run. -/
theorem final5 : (dats m 0 c).arrAt 5 cfg0.N = fun i : S2x1024x320.Idx => grad (a1 m c) (a2 m c) (i 0) (i 1) (i 2) := by
  refine (dats m 0 c).arrAt_eq_of_covers 5 _ (by decide +kernel) fun t hf y => ?_
  blk_simp
  obtain ⟨a, b, rfl⟩ := block_idx y
  have e : (win0_5.blk t).view.emb (ix3 0 a b) = ix3 (lay t) (row t a) b := by
    rw [eq_ix3 ((win0_5.blk t).view.emb (ix3 0 a b))]
    congr 1 <;> exact Fin.ext (by blk_simp [idx t, lay, row]; try simp only [ix3]; try omega)
  rw [e]
  exact out5 m c t a b

/-- The array of the weight's changes after the run. -/
theorem final6 : (dats m 0 c).arrAt 6 cfg0.N = fun i : S2x1024x320.Idx => delta (a0 m c i) (grad (a1 m c) (a2 m c) (i 0) (i 1) (i 2)) (a3 m c i) (a4 m c i) := by
  refine (dats m 0 c).arrAt_eq_of_covers 6 _ (by decide +kernel) fun t hf y => ?_
  blk_simp
  obtain ⟨a, b, rfl⟩ := block_idx y
  have e : (win0_6.blk t).view.emb (ix3 0 a b) = ix3 (lay t) (row t a) b := by
    rw [eq_ix3 ((win0_6.blk t).view.emb (ix3 0 a b))]
    congr 1 <;> exact Fin.ext (by blk_simp [idx t, lay, row]; try simp only [ix3]; try omega)
  rw [e]
  exact out6 m c t a b

/-- The array of the first moments after the run. -/
theorem final7 : (dats m 0 c).arrAt 7 cfg0.N = fun i : S2x1024x320.Idx => mom (grad (a1 m c) (a2 m c) (i 0) (i 1) (i 2)) (a3 m c i) := by
  refine (dats m 0 c).arrAt_eq_of_covers 7 _ (by decide +kernel) fun t hf y => ?_
  blk_simp
  obtain ⟨a, b, rfl⟩ := block_idx y
  have e : (win0_7.blk t).view.emb (ix3 0 a b) = ix3 (lay t) (row t a) b := by
    rw [eq_ix3 ((win0_7.blk t).view.emb (ix3 0 a b))]
    congr 1 <;> exact Fin.ext (by blk_simp [idx t, lay, row]; try simp only [ix3]; try omega)
  rw [e]
  exact out7 m c t a b

/-- The array of the second moments after the run. -/
theorem final8 : (dats m 0 c).arrAt 8 cfg0.N = fun i : S2x1024x320.Idx => var (grad (a1 m c) (a2 m c) (i 0) (i 1) (i 2)) (a4 m c i) := by
  refine (dats m 0 c).arrAt_eq_of_covers 8 _ (by decide +kernel) fun t hf y => ?_
  blk_simp
  obtain ⟨a, b, rfl⟩ := block_idx y
  have e : (win0_8.blk t).view.emb (ix3 0 a b) = ix3 (lay t) (row t a) b := by
    rw [eq_ix3 ((win0_8.blk t).view.emb (ix3 0 a b))]
    congr 1 <;> exact Fin.ext (by blk_simp [idx t, lay, row]; try simp only [ix3]; try omega)
  rw [e]
  exact out8 m c t a b

end Kernel

theorem frame : Cert.quiescent_AdamProj := fun m ρ _ => Cert.AdamProj.Gen.frame m ρ

theorem frame_ideal : Cert.quiescent_AdamProjIdeal := fun m ρ _ => Cert.AdamProjIdeal.Gen.frame m ρ

theorem frame_ref : Cert.quiescent_AdamProjRefIdeal := fun m ρ _ =>
  (θ_run Cert.AdamProjRefIdeal.defs _ _).mono
    (fun r h => ⟨fun c => (h c).2.2.2.2, sem_eq_zero_of_no_sems (by decide) r.2⟩) (Cert.AdamProjRefIdeal.Value.run m ρ)

/-- The kernel's four results are the reference's. -/
theorem algebraic : Cert.algebraic_AdamProjIdeal_AdamProjRefIdeal := by
  intro m g m' g' _ hm
  refine ⟨fun c => (dats m 0 c).arrAt 5 cfg0.N, fun c => (dats m 0 c).arrAt 6 cfg0.N, fun c => (dats m 0 c).arrAt 7 cfg0.N,
    fun c => (dats m 0 c).arrAt 8 cfg0.N, Cert.AdamProjIdeal.Value.run_blocks m g, ?_⟩
  refine (θ_run Cert.AdamProjRefIdeal.defs _ _).mono (fun r h c => ?_) (Cert.AdamProjRefIdeal.Value.run m' g')
  obtain ⟨h0, h1, h2, h3, h4⟩ := h c
  obtain ⟨e0, e1, e2, e3, e4⟩ := hm c
  have S := stack (a1 m c) (a2 m c) Cert.AdamProjRefIdeal.Gen.bcast_S1024x320_S1x1024x320_1_2
    Cert.AdamProjRefIdeal.Gen.concatenates_S1x1024x320_S1x1024x320_S2x1024x320_d0
  rw [e1, e2] at h0
  rw [e0, e1, e2, e3, e4] at h1
  rw [e1, e2, e3] at h2
  rw [e1, e2, e4] at h3
  exact ⟨(h0.trans S).trans (final5 m c).symm,
    h1.trans ((congrArg (fun G : S2x1024x320.Idx → EReal => fun i => delta (a0 m c i) (G i) (a3 m c i) (a4 m c i)) S).trans (final6 m c).symm),
    h2.trans ((congrArg (fun G : S2x1024x320.Idx → EReal => fun i => mom (G i) (a3 m c i)) S).trans (final7 m c).symm),
    h3.trans ((congrArg (fun G : S2x1024x320.Idx → EReal => fun i => var (G i) (a4 m c i)) S).trans (final8 m c).symm), h4⟩

end Macaron.AdamProj

end
-- ==== Proof.Adam.Out.lean ====
module

public import proofs.«01_k».proof.Defs
public import proofs.«01_k».proof.Proof.Adam.Spec
public import proofs.«01_k».proof.Proof.Gen.AdamOut
public import proofs.«01_k».proof.Proof.Gen.AdamOut.Frame
public import proofs.«01_k».proof.Proof.Gen.AdamOutIdeal.Value
public import proofs.«01_k».proof.Proof.Gen.AdamOutRefIdeal
public import proofs.«01_k».proof.Proof.Gen.AdamOutRefIdeal.Run
public import Idealize.ShloMosaic.Lib.Pipeline.ValueKit
public import Idealize.ShloMosaic.Lib.Tactic.CleanTypes
public import Idealize.ShloMosaic.Lib.Quiescent

/-! The optimiser's step on the mixer's output weight, both layers in one call: entry by entry, the kernel's weight change and moments
    are the reference's. -/

@[expose] public section

set_option maxRecDepth 16384

noncomputable section

namespace Macaron.AdamOut

open Idealize.ShloMosaic Idealize.ShloMosaic.TcCoe Idealize.SL.Sem Macaron.Adam
open Cert.AdamOutIdeal Cert.AdamOutIdeal.Gen

section Kernel

variable (m : (ℓ : Loc nD τ sig) → Buf (Elt Ideal) ℓ) (c : Dev nD)

/-! The weight, its gradients of the two layers, and the moments. -/

def a0 : S2x256x1024.Idx → EReal := m ((c.tc : Thread nD τ).loc main_arg0)
def a1 : S256x1024.Idx → EReal := m ((c.tc : Thread nD τ).loc main_arg1)
def a2 : S256x1024.Idx → EReal := m ((c.tc : Thread nD τ).loc main_arg2)
def a3 : S2x256x1024.Idx → EReal := m ((c.tc : Thread nD τ).loc main_arg3)
def a4 : S2x256x1024.Idx → EReal := m ((c.tc : Thread nD τ).loc main_arg4)

theorem steps (t : Fin cfg0.N) : t.val < 4 := by have := t.2; simp only [show cfg0.N = 4 from rfl] at this; omega

/-- The layer, and the row of it, at which row `a` of block `t` stands. -/
def lay (t : Fin cfg0.N) : Fin 2 := ⟨t.val / 2, by have := steps t; omega⟩
def row (t : Fin cfg0.N) (a : Fin 128) : Fin 256 := ⟨128 * (t.val % 2) + a.val, by omega⟩

theorem idx : ∀ t : Fin cfg0.N, win0_0.index t = ![t.val / 2, t.val % 2, 0]
      ∧ win0_1.index t = ![if t.val < 2 then t.val else 1, 0] ∧ win0_2.index t = ![if t.val < 2 then 0 else t.val - 2, 0]
      ∧ win0_3.index t = ![t.val / 2, t.val % 2, 0] ∧ win0_4.index t = ![t.val / 2, t.val % 2, 0]
      ∧ win0_5.index t = ![t.val / 2, t.val % 2, 0] ∧ win0_6.index t = ![t.val / 2, t.val % 2, 0]
      ∧ win0_7.index t = ![t.val / 2, t.val % 2, 0] ∧ win0_8.index t = ![t.val / 2, t.val % 2, 0] :=
  (by decide +kernel : ∀ t : Fin grid0.N, _)

theorem w_at (t : Fin cfg0.N) (a : Fin 128) (b : Fin 1024) : iblk m c 0 t (ix3 0 a b) = a0 m c (ix3 (lay t) (row t a) b) := by
  blk_ext! [iblk, V, idx t, row, lay, a0]

theorem m_at (t : Fin cfg0.N) (a : Fin 128) (b : Fin 1024) : iblk m c 3 t (ix3 0 a b) = a3 m c (ix3 (lay t) (row t a) b) := by
  blk_ext! [iblk, V, idx t, row, lay, a3]

theorem v_at (t : Fin cfg0.N) (a : Fin 128) (b : Fin 1024) : iblk m c 4 t (ix3 0 a b) = a4 m c (ix3 (lay t) (row t a) b) := by
  blk_ext! [iblk, V, idx t, row, lay, a4]

theorem g0_at (t : Fin cfg0.N) (h : t.val < 2) (a : Fin 128) (b : Fin 1024) : iblk m c 1 t (ix2 a b) = a1 m c (ix2 (row t a) b) := by
  have i1 : win0_1.index t = ![t.val, 0] := by rw [(idx t).2.1, if_pos h]
  blk_ext! [iblk, V, i1, row, a1, Nat.mod_eq_of_lt h]

theorem g1_at (t : Fin cfg0.N) (h : ¬ t.val < 2) (a : Fin 128) (b : Fin 1024) : iblk m c 2 t (ix2 a b) = a2 m c (ix2 (row t a) b) := by
  have e : t.val % 2 = t.val - 2 := by have := steps t; omega
  have i2 : win0_2.index t = ![t.val - 2, 0] := by rw [(idx t).2.2.1, if_neg h]
  blk_ext! [iblk, V, i2, row, a2, e]

/-- The gradient that a grid point takes: the first layer's at the first layer's points, else the second's. -/
theorem pick (t : Fin cfg0.N) (x y : Vec Ideal S128x1024 .f32) :
    k0_pay4 (grid0.coords t) x y = if t.val < 2 then x else y := by
  have h : ∀ t : Fin cfg0.N, (Scalar.cmpi .eq (BitVec.ofNat 32 (grid0.coords t 0).val) 0#32 = 1#1) ↔ t.val < 2 :=
    (by decide +kernel : ∀ t : Fin grid0.N, _)
  exact if_congr (h t) rfl rfl

theorem g_at (t : Fin cfg0.N) (a : Fin 128) (b : Fin 1024) :
    k0_pay4 (grid0.coords t) (iblk m c 1 t) (iblk m c 2 t) (ix2 a b) = grad (a1 m c) (a2 m c) (lay t) (row t a) b := by
  have ht := steps t
  rw [pick]
  unfold grad lay
  by_cases h : t.val < 2
  · rw [if_pos h, if_pos (show t.val / 2 < 1 by omega)]; exact g0_at m c t h a b
  · rw [if_neg h, if_neg (show ¬ t.val / 2 < 1 by omega)]; exact g1_at m c t h a b

/-! What a grid point stores. -/

theorem out5 (t : Fin cfg0.N) (a : Fin 128) (b : Fin 1024) :
    (dats m 0 c).after 5 t (ix3 0 a b) = grad (a1 m c) (a2 m c) (lay t) (row t a) b := by
  rw [after0_5]
  unfold out0_5
  frame_out
  refine Eq.trans ?_ (g_at m c t a b)
  pointwise [k0_pay5]

theorem out6 (t : Fin cfg0.N) (a : Fin 128) (b : Fin 1024) :
    (dats m 0 c).after 6 t (ix3 0 a b) = delta (a0 m c (ix3 (lay t) (row t a) b)) (grad (a1 m c) (a2 m c) (lay t) (row t a) b)
      (a3 m c (ix3 (lay t) (row t a) b)) (a4 m c (ix3 (lay t) (row t a) b)) := by
  rw [after0_6, ← w_at, ← m_at, ← v_at, ← g_at]
  unfold out0_6 delta mom var
  frame_out
  pointwise [k0_pay1, k0_pay6, k0_pay7, k0_pay8, k0_pay9]

theorem out7 (t : Fin cfg0.N) (a : Fin 128) (b : Fin 1024) :
    (dats m 0 c).after 7 t (ix3 0 a b) = mom (grad (a1 m c) (a2 m c) (lay t) (row t a) b) (a3 m c (ix3 (lay t) (row t a) b)) := by
  rw [after0_7, ← m_at, ← g_at]
  unfold out0_7 mom
  frame_out
  pointwise [k0_pay2, k0_pay7]

theorem out8 (t : Fin cfg0.N) (a : Fin 128) (b : Fin 1024) :
    (dats m 0 c).after 8 t (ix3 0 a b) = var (grad (a1 m c) (a2 m c) (lay t) (row t a) b) (a4 m c (ix3 (lay t) (row t a) b)) := by
  rw [after0_8, ← v_at, ← g_at]
  unfold out0_8 var
  frame_out
  pointwise [k0_pay3, k0_pay8]

/-- The array of the stacked gradients after the run. -/
theorem final5 : (dats m 0 c).arrAt 5 cfg0.N = fun i : S2x256x1024.Idx => grad (a1 m c) (a2 m c) (i 0) (i 1) (i 2) := by
  refine (dats m 0 c).arrAt_eq_of_covers 5 _ (by decide +kernel) fun t hf y => ?_
  blk_simp
  obtain ⟨a, b, rfl⟩ := block_idx y
  have e : (win0_5.blk t).view.emb (ix3 0 a b) = ix3 (lay t) (row t a) b := by
    rw [eq_ix3 ((win0_5.blk t).view.emb (ix3 0 a b))]
    congr 1 <;> exact Fin.ext (by blk_simp [idx t, lay, row]; try simp only [ix3]; try omega)
  rw [e]
  exact out5 m c t a b

/-- The array of the weight's changes after the run. -/
theorem final6 : (dats m 0 c).arrAt 6 cfg0.N = fun i : S2x256x1024.Idx => delta (a0 m c i) (grad (a1 m c) (a2 m c) (i 0) (i 1) (i 2)) (a3 m c i) (a4 m c i) := by
  refine (dats m 0 c).arrAt_eq_of_covers 6 _ (by decide +kernel) fun t hf y => ?_
  blk_simp
  obtain ⟨a, b, rfl⟩ := block_idx y
  have e : (win0_6.blk t).view.emb (ix3 0 a b) = ix3 (lay t) (row t a) b := by
    rw [eq_ix3 ((win0_6.blk t).view.emb (ix3 0 a b))]
    congr 1 <;> exact Fin.ext (by blk_simp [idx t, lay, row]; try simp only [ix3]; try omega)
  rw [e]
  exact out6 m c t a b

/-- The array of the first moments after the run. -/
theorem final7 : (dats m 0 c).arrAt 7 cfg0.N = fun i : S2x256x1024.Idx => mom (grad (a1 m c) (a2 m c) (i 0) (i 1) (i 2)) (a3 m c i) := by
  refine (dats m 0 c).arrAt_eq_of_covers 7 _ (by decide +kernel) fun t hf y => ?_
  blk_simp
  obtain ⟨a, b, rfl⟩ := block_idx y
  have e : (win0_7.blk t).view.emb (ix3 0 a b) = ix3 (lay t) (row t a) b := by
    rw [eq_ix3 ((win0_7.blk t).view.emb (ix3 0 a b))]
    congr 1 <;> exact Fin.ext (by blk_simp [idx t, lay, row]; try simp only [ix3]; try omega)
  rw [e]
  exact out7 m c t a b

/-- The array of the second moments after the run. -/
theorem final8 : (dats m 0 c).arrAt 8 cfg0.N = fun i : S2x256x1024.Idx => var (grad (a1 m c) (a2 m c) (i 0) (i 1) (i 2)) (a4 m c i) := by
  refine (dats m 0 c).arrAt_eq_of_covers 8 _ (by decide +kernel) fun t hf y => ?_
  blk_simp
  obtain ⟨a, b, rfl⟩ := block_idx y
  have e : (win0_8.blk t).view.emb (ix3 0 a b) = ix3 (lay t) (row t a) b := by
    rw [eq_ix3 ((win0_8.blk t).view.emb (ix3 0 a b))]
    congr 1 <;> exact Fin.ext (by blk_simp [idx t, lay, row]; try simp only [ix3]; try omega)
  rw [e]
  exact out8 m c t a b

end Kernel

theorem frame : Cert.quiescent_AdamOut := fun m ρ _ => Cert.AdamOut.Gen.frame m ρ

theorem frame_ideal : Cert.quiescent_AdamOutIdeal := fun m ρ _ => Cert.AdamOutIdeal.Gen.frame m ρ

theorem frame_ref : Cert.quiescent_AdamOutRefIdeal := fun m ρ _ =>
  (θ_run Cert.AdamOutRefIdeal.defs _ _).mono
    (fun r h => ⟨fun c => (h c).2.2.2.2, sem_eq_zero_of_no_sems (by decide) r.2⟩) (Cert.AdamOutRefIdeal.Value.run m ρ)

/-- The kernel's four results are the reference's. -/
theorem algebraic : Cert.algebraic_AdamOutIdeal_AdamOutRefIdeal := by
  intro m g m' g' _ hm
  refine ⟨fun c => (dats m 0 c).arrAt 5 cfg0.N, fun c => (dats m 0 c).arrAt 6 cfg0.N, fun c => (dats m 0 c).arrAt 7 cfg0.N,
    fun c => (dats m 0 c).arrAt 8 cfg0.N, Cert.AdamOutIdeal.Value.run_blocks m g, ?_⟩
  refine (θ_run Cert.AdamOutRefIdeal.defs _ _).mono (fun r h c => ?_) (Cert.AdamOutRefIdeal.Value.run m' g')
  obtain ⟨h0, h1, h2, h3, h4⟩ := h c
  obtain ⟨e0, e1, e2, e3, e4⟩ := hm c
  have S := stack (a1 m c) (a2 m c) Cert.AdamOutRefIdeal.Gen.bcast_S256x1024_S1x256x1024_1_2
    Cert.AdamOutRefIdeal.Gen.concatenates_S1x256x1024_S1x256x1024_S2x256x1024_d0
  rw [e1, e2] at h0
  rw [e0, e1, e2, e3, e4] at h1
  rw [e1, e2, e3] at h2
  rw [e1, e2, e4] at h3
  exact ⟨(h0.trans S).trans (final5 m c).symm,
    h1.trans ((congrArg (fun G : S2x256x1024.Idx → EReal => fun i => delta (a0 m c i) (G i) (a3 m c i) (a4 m c i)) S).trans (final6 m c).symm),
    h2.trans ((congrArg (fun G : S2x256x1024.Idx → EReal => fun i => mom (G i) (a3 m c i)) S).trans (final7 m c).symm),
    h3.trans ((congrArg (fun G : S2x256x1024.Idx → EReal => fun i => var (G i) (a4 m c i)) S).trans (final8 m c).symm), h4⟩

end Macaron.AdamOut

end
-- ==== Proof.lean ====
module

public import proofs.«01_k».proof.Defs
public import proofs.«01_k».proof.Proof.Gen.Kernel
public import proofs.«01_k».proof.Proof.Gen.KernelIdeal
public import proofs.«01_k».proof.Proof.Mix.Claims
public import proofs.«01_k».proof.Proof.Ffn.Ffn1L0
public import proofs.«01_k».proof.Proof.Ffn.Ffn1L1
public import proofs.«01_k».proof.Proof.Ffn.Ffn2L0
public import proofs.«01_k».proof.Proof.Ffn.Ffn2L1
public import proofs.«01_k».proof.Proof.FfnBwd.Claims
public import proofs.«01_k».proof.Proof.Bwd1L1.Claims
public import proofs.«01_k».proof.Proof.Bwd2L0.Claims
public import proofs.«01_k».proof.Proof.Bwd2L1.Claims
public import proofs.«01_k».proof.Proof.Wgrad.InWgrad
public import proofs.«01_k».proof.Proof.Wgrad.OutWgrad
public import proofs.«01_k».proof.Proof.Wgrad.ProjWgrad
public import proofs.«01_k».proof.Proof.Wgrad.MixOutWgrad
public import proofs.«01_k».proof.Proof.Adam.Row
public import proofs.«01_k».proof.Proof.Adam.Mod
public import proofs.«01_k».proof.Proof.Adam.Bias
public import proofs.«01_k».proof.Proof.Adam.Norm
public import proofs.«01_k».proof.Proof.Adam.Pool
public import proofs.«01_k».proof.Proof.Adam.Scale
public import proofs.«01_k».proof.Proof.Adam.Sink
public import proofs.«01_k».proof.Proof.Adam.Wide
public import proofs.«01_k».proof.Proof.Adam.Narrow
public import proofs.«01_k».proof.Proof.Adam.Proj
public import proofs.«01_k».proof.Proof.Adam.Out

@[expose] public section

noncomputable section

namespace Cert.Proof

open Idealize.ShloMosaic Idealize.ShloMosaic.TcCoe Idealize.SL.Sem

theorem claim : Cert.Claim := ⟨Cert.Kernel.Gen.facts, Cert.KernelIdeal.Gen.facts, Cert.Ffn.Gen.facts,
  Cert.FfnIdeal.Gen.facts, Cert.FfnRefIdeal.Gen.facts, Cert.FfnBwd.Gen.facts, Cert.FfnBwdIdeal.Gen.facts,
  Cert.FfnBwdRefIdeal.Gen.facts, Cert.InWgrad.Gen.facts, Cert.InWgradIdeal.Gen.facts, Cert.InWgradRefIdeal.Gen.facts,
  Cert.OutWgrad.Gen.facts, Cert.OutWgradIdeal.Gen.facts, Cert.OutWgradRefIdeal.Gen.facts, Cert.ProjWgrad.Gen.facts,
  Cert.ProjWgradIdeal.Gen.facts, Cert.ProjWgradRefIdeal.Gen.facts, Cert.MixOutWgrad.Gen.facts,
  Cert.MixOutWgradIdeal.Gen.facts, Cert.MixOutWgradRefIdeal.Gen.facts, Cert.FfnB.Gen.facts, Cert.FfnBIdeal.Gen.facts,
  Cert.FfnBRefIdeal.Gen.facts, Cert.FfnC.Gen.facts, Cert.FfnCIdeal.Gen.facts, Cert.FfnCRefIdeal.Gen.facts,
  Cert.FfnD.Gen.facts, Cert.FfnDIdeal.Gen.facts, Cert.FfnDRefIdeal.Gen.facts, Cert.FfnBwdB.Gen.facts,
  Cert.FfnBwdBIdeal.Gen.facts, Cert.FfnBwdBRefIdeal.Gen.facts, Cert.FfnBwdC.Gen.facts, Cert.FfnBwdCIdeal.Gen.facts,
  Cert.FfnBwdCRefIdeal.Gen.facts, Cert.FfnBwdD.Gen.facts, Cert.FfnBwdDIdeal.Gen.facts, Cert.FfnBwdDRefIdeal.Gen.facts,
  Cert.AdamRow.Gen.facts, Cert.AdamRowIdeal.Gen.facts, Cert.AdamRowRefIdeal.Gen.facts, Cert.AdamMod.Gen.facts,
  Cert.AdamModIdeal.Gen.facts, Cert.AdamModRefIdeal.Gen.facts, Cert.AdamBias.Gen.facts, Cert.AdamBiasIdeal.Gen.facts,
  Cert.AdamBiasRefIdeal.Gen.facts, Cert.AdamNorm.Gen.facts, Cert.AdamNormIdeal.Gen.facts,
  Cert.AdamNormRefIdeal.Gen.facts, Cert.AdamPool.Gen.facts, Cert.AdamPoolIdeal.Gen.facts,
  Cert.AdamPoolRefIdeal.Gen.facts, Cert.AdamScale.Gen.facts, Cert.AdamScaleIdeal.Gen.facts,
  Cert.AdamScaleRefIdeal.Gen.facts, Cert.AdamSink.Gen.facts, Cert.AdamSinkIdeal.Gen.facts,
  Cert.AdamSinkRefIdeal.Gen.facts, Cert.AdamWide.Gen.facts, Cert.AdamWideIdeal.Gen.facts,
  Cert.AdamWideRefIdeal.Gen.facts, Cert.AdamNarrow.Gen.facts, Cert.AdamNarrowIdeal.Gen.facts,
  Cert.AdamNarrowRefIdeal.Gen.facts, Cert.AdamProj.Gen.facts, Cert.AdamProjIdeal.Gen.facts,
  Cert.AdamProjRefIdeal.Gen.facts, Cert.AdamOut.Gen.facts, Cert.AdamOutIdeal.Gen.facts,
  Cert.AdamOutRefIdeal.Gen.facts, Cert.Pre_finite.Gen.facts, Cert.Mix.frame_kernel, Cert.Mix.frame_kernel_ideal,
  Macaron.Ffn1L0.frame, Macaron.Ffn1L0.frame_ideal, Macaron.Ffn1L0.frame_ref, Macaron.Bwd1L0.frame,
  Macaron.Bwd1L0.frame_ideal, Macaron.Bwd1L0.frame_ideal_finite, Macaron.Bwd1L0.frame_ref,
  Macaron.Bwd1L0.frame_ref_finite, Macaron.InWgrad.frame, Macaron.InWgrad.frame_ideal, Macaron.InWgrad.frame_ref,
  Macaron.OutWgrad.frame, Macaron.OutWgrad.frame_ideal, Macaron.OutWgrad.frame_ref, Macaron.ProjWgrad.frame,
  Macaron.ProjWgrad.frame_ideal, Macaron.ProjWgrad.frame_ref, Macaron.MixOutWgrad.frame,
  Macaron.MixOutWgrad.frame_ideal, Macaron.MixOutWgrad.frame_ref, Macaron.Ffn1L1.frame, Macaron.Ffn1L1.frame_ideal,
  Macaron.Ffn1L1.frame_ref, Macaron.Ffn2L0.frame, Macaron.Ffn2L0.frame_ideal, Macaron.Ffn2L0.frame_ref,
  Macaron.Ffn2L1.frame, Macaron.Ffn2L1.frame_ideal, Macaron.Ffn2L1.frame_ref, Macaron.Bwd1L1.frame,
  Macaron.Bwd1L1.frame_ideal, Macaron.Bwd1L1.frame_ideal_finite, Macaron.Bwd1L1.frame_ref,
  Macaron.Bwd1L1.frame_ref_finite, Macaron.Bwd2L0.frame, Macaron.Bwd2L0.frame_ideal,
  Macaron.Bwd2L0.frame_ideal_finite, Macaron.Bwd2L0.frame_ref, Macaron.Bwd2L0.frame_ref_finite, Macaron.Bwd2L1.frame,
  Macaron.Bwd2L1.frame_ideal, Macaron.Bwd2L1.frame_ideal_finite, Macaron.Bwd2L1.frame_ref,
  Macaron.Bwd2L1.frame_ref_finite, Macaron.AdamRow.frame, Macaron.AdamRow.frame_ideal, Macaron.AdamRow.frame_ref,
  Macaron.AdamMod.frame, Macaron.AdamMod.frame_ideal, Macaron.AdamMod.frame_ref, Macaron.AdamBias.frame,
  Macaron.AdamBias.frame_ideal, Macaron.AdamBias.frame_ref, Macaron.AdamNorm.frame, Macaron.AdamNorm.frame_ideal,
  Macaron.AdamNorm.frame_ref, Macaron.AdamPool.frame, Macaron.AdamPool.frame_ideal, Macaron.AdamPool.frame_ref,
  Macaron.AdamScale.frame, Macaron.AdamScale.frame_ideal, Macaron.AdamScale.frame_ref, Macaron.AdamSink.frame,
  Macaron.AdamSink.frame_ideal, Macaron.AdamSink.frame_ref, Macaron.AdamWide.frame, Macaron.AdamWide.frame_ideal,
  Macaron.AdamWide.frame_ref, Macaron.AdamNarrow.frame, Macaron.AdamNarrow.frame_ideal, Macaron.AdamNarrow.frame_ref,
  Macaron.AdamProj.frame, Macaron.AdamProj.frame_ideal, Macaron.AdamProj.frame_ref, Macaron.AdamOut.frame,
  Macaron.AdamOut.frame_ideal, Macaron.AdamOut.frame_ref, trivial, trivial, Macaron.Ffn1L0.algebraic, trivial,
  Macaron.Bwd1L0.algebraic, trivial, Macaron.InWgrad.algebraic, trivial, Macaron.OutWgrad.algebraic, trivial,
  Macaron.ProjWgrad.algebraic, trivial, Macaron.MixOutWgrad.algebraic, trivial, Macaron.Ffn1L1.algebraic, trivial,
  Macaron.Ffn2L0.algebraic, trivial, Macaron.Ffn2L1.algebraic, trivial, Macaron.Bwd1L1.algebraic, trivial,
  Macaron.Bwd2L0.algebraic, trivial, Macaron.Bwd2L1.algebraic, trivial, Macaron.AdamRow.algebraic, trivial,
  Macaron.AdamMod.algebraic, trivial, Macaron.AdamBias.algebraic, trivial, Macaron.AdamNorm.algebraic, trivial,
  Macaron.AdamPool.algebraic, trivial, Macaron.AdamScale.algebraic, trivial, Macaron.AdamSink.algebraic, trivial,
  Macaron.AdamWide.algebraic, trivial, Macaron.AdamNarrow.algebraic, trivial, Macaron.AdamProj.algebraic, trivial,
  Macaron.AdamOut.algebraic⟩

end Cert.Proof

end
